-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_KernelIdeal_valid_csc [hPre_valid_csc : Cert.Pre_valid_csc.Facts] (m : (ℓ : Loc Cert.KernelIdeal.nD Cert.KernelIdeal.τ Cert.KernelIdeal.sig) → Buf (Elt Ideal) ℓ) : Prop :=
  ∀ c : Dev Cert.KernelIdeal.nD,
    (Cert.Pre_valid_csc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_valid_csc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_valid_csc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_valid_csc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_csc [hPre_valid_csc : Cert.Pre_valid_csc.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_csc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_valid_csc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_valid_csc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_valid_csc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid_csc [hKernelIdeal : Cert.KernelIdeal.Facts] [hPre_valid_csc : Cert.Pre_valid_csc.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_csc m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid_csc [hReferenceIdeal : Cert.ReferenceIdeal.Facts] [hPre_valid_csc : Cert.Pre_valid_csc.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_csc m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid_csc [hKernelIdeal : Cert.KernelIdeal.Facts] [hReferenceIdeal : Cert.ReferenceIdeal.Facts] [hPre_valid_csc : Cert.Pre_valid_csc.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_csc m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_valid_csc : Cert.Pre_valid_csc.Facts),
    quiescent_Kernel (hKernel := hKernel) (hPre_in_range := hPre_in_range)
    ∧ quiescent_KernelIdeal (hKernelIdeal := hKernelIdeal) (hPre_in_range := hPre_in_range)
    ∧ quiescent_KernelIdeal_pre_valid_csc (hKernelIdeal := hKernelIdeal) (hPre_valid_csc := hPre_valid_csc)
    ∧ quiescent_ReferenceIdeal (hReferenceIdeal := hReferenceIdeal)
    ∧ quiescent_ReferenceIdeal_pre_valid_csc (hReferenceIdeal := hReferenceIdeal) (hPre_valid_csc := hPre_valid_csc)
    ∧ preserves_Kernel_KernelIdeal
    ∧ algebraic_KernelIdeal_ReferenceIdeal_pre_valid_csc (hKernelIdeal := hKernelIdeal) (hReferenceIdeal := hReferenceIdeal) (hPre_valid_csc := hPre_valid_csc)
-- ==== Pre_in_range.lean ====
abbrev S4097 : Shape := ⟨1, ![4097]⟩
abbrev S1638400 : Shape := ⟨1, ![1638400]⟩
abbrev S_ : Shape := ⟨0, ![]⟩

class Facts : Prop where
  bcast_S_S4097 : S_.BroadcastsInDim S4097 (![] : Fin 0 → Fin S4097.rank)
  bcast_S_S1638400 : S_.BroadcastsInDim S1638400 (![] : Fin 0 → Fin S1638400.rank)

variable [Facts]

def fn {F : FTy → Type} [FloatOps F] (main_arg0 : IVec S4097 32) (main_arg1 : IVec S1638400 32) (main_arg2 : FVec F S1638400 .f32) : IVec S4097 1 × IVec S1638400 1 :=
  let main_c : IVec S_ 32 := constantI S_ 32 0#32
  let main_v0 : IVec S4097 32 := broadcastInDim S4097 ![] bcast_S_S4097 main_c
  let main_v1 : IVec S4097 1 := cmpi .sge main_arg0 main_v0
  let main_c_0 : IVec S_ 32 := constantI S_ 32 1638400#32
  let main_v2 : IVec S4097 32 := broadcastInDim S4097 ![] bcast_S_S4097 main_c_0
  let main_v3 : IVec S4097 1 := cmpi .sle main_arg0 main_v2
  let main_v4 : IVec S4097 1 := andi main_v1 main_v3
  let main_c_1 : IVec S_ 32 := constantI S_ 32 0#32
  let main_v5 : IVec S1638400 32 := broadcastInDim S1638400 ![] bcast_S_S1638400 main_c_1
  let main_v6 : IVec S1638400 1 := cmpi .sge main_arg1 main_v5
  let main_c_2 : IVec S_ 32 := constantI S_ 32 4096#32
  let main_v7 : IVec S1638400 32 := broadcastInDim S1638400 ![] bcast_S_S1638400 main_c_2
  let main_v8 : IVec S1638400 1 := cmpi .slt main_arg1 main_v7
  let main_v9 : IVec S1638400 1 := andi main_v6 main_v8
  (main_v4, main_v9)
-- ==== Pre_valid_csc.lean ====
abbrev S4097 : Shape := ⟨1, ![4097]⟩
abbrev S1638400 : Shape := ⟨1, ![1638400]⟩
abbrev S1 : Shape := ⟨1, ![1]⟩
abbrev S_ : Shape := ⟨0, ![]⟩
abbrev S4096 : Shape := ⟨1, ![4096]⟩

class Facts : Prop where
  slices_S4097_S1_0 : S4097.Slices ![0] S1
  shapeCasts_S1_S_ : S1.ShapeCasts S_
  slices_S4097_S1_4096 : S4097.Slices ![4096] S1
  slices_S4097_S4096_0 : S4097.Slices ![0] S4096
  slices_S4097_S4096_1 : S4097.Slices ![1] S4096
  bcast_S_S1638400 : S_.BroadcastsInDim S1638400 (![] : Fin 0 → Fin S1638400.rank)

variable [Facts]

def fn {F : FTy → Type} [FloatOps F] (main_arg0 : IVec S4097 32) (main_arg1 : IVec S1638400 32) (main_arg2 : FVec F S1638400 .f32) : IVec S_ 1 × IVec S_ 1 × IVec S4096 1 × IVec S1638400 1 :=
  let main_v0 : IVec S1 32 := (extractStridedSlice S1 ![0] · slices_S4097_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![4096] · slices_S4097_S1_4096) main_arg0
  let main_v4 : IVec S_ 32 := shapeCast S_ main_v3 shapeCasts_S1_S_
  let main_c_0 : IVec S_ 32 := constantI S_ 32 1638400#32
  let main_v5 : IVec S_ 1 := cmpi .eq main_v4 main_c_0
  let main_v6 : IVec S4096 32 := (extractStridedSlice S4096 ![0] · slices_S4097_S4096_0) main_arg0
  let main_v7 : IVec S4096 32 := (extractStridedSlice S4096 ![1] · slices_S4097_S4096_1) main_arg0
  let main_v8 : IVec S4096 1 := cmpi .sle main_v6 main_v7
  let main_c_1 : IVec S_ 32 := constantI S_ 32 0#32
  let main_v9 : IVec S1638400 32 := broadcastInDim S1638400 ![] bcast_S_S1638400 main_c_1
  let main_v10 : IVec S1638400 1 := cmpi .sge main_arg1 main_v9
  let main_c_2 : IVec S_ 32 := constantI S_ 32 4096#32
  let main_v11 : IVec S1638400 32 := broadcastInDim S1638400 ![] bcast_S_S1638400 main_c_2
  let main_v12 : IVec S1638400 1 := cmpi .slt main_arg1 main_v11
  let main_v13 : IVec S1638400 1 := andi main_v10 main_v12
  (main_v2, main_v5, main_v8, main_v13)
-- ==== Kernel.lean ====
abbrev S4097 : Shape := ⟨1, ![4097]⟩
abbrev S1638400 : Shape := ⟨1, ![1638400]⟩
abbrev S_ : Shape := ⟨0, ![]⟩
abbrev S4256 : Shape := ⟨1, ![4256]⟩
abbrev S4096 : Shape := ⟨1, ![4096]⟩
abbrev S2048x4096 : Shape := ⟨2, ![2048, 4096]⟩
abbrev S8x4096 : Shape := ⟨2, ![8, 4096]⟩
abbrev S2048 : Shape := ⟨1, ![2048]⟩
abbrev S80 : Shape := ⟨1, ![80]⟩
abbrev S16 : Shape := ⟨1, ![16]⟩
abbrev S1x16 : Shape := ⟨2, ![1, 16]⟩
abbrev S4096x4096 : Shape := ⟨2, ![4096, 4096]⟩
abbrev S1024x1024 : Shape := ⟨2, ![1024, 1024]⟩

abbrev nBuf : Table → Nat
  | .hbm => 14
  | .local .tc .vmem => 8
  | .local .scVector .vmem => 16
  | _ => 0

abbrev bufTy : (tb : Table) → Fin (nBuf tb) → BufTy
  | .hbm, ⟨0, _⟩ => ⟨S4097, .i32⟩
  | .hbm, ⟨1, _⟩ => ⟨S1638400, .i32⟩
  | .hbm, ⟨2, _⟩ => ⟨S1638400, .f32⟩
  | .hbm, ⟨3, _⟩ => ⟨S_, .i32⟩
  | .hbm, ⟨4, _⟩ => ⟨S_, .i32⟩
  | .hbm, ⟨5, _⟩ => ⟨S4256, .i32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4256, .i32⟩
  | .hbm, ⟨10, _⟩ => ⟨S2048x4096, .f32⟩
  | .hbm, ⟨11, _⟩ => ⟨S2048x4096, .f32⟩
  | .hbm, ⟨12, _⟩ => ⟨S4096x4096, .f32⟩
  | .hbm, ⟨13, _⟩ => ⟨S4096x4096, .f32⟩
  | .local .tc .vmem, ⟨0, _⟩ => ⟨S1024x1024, .f32⟩
  | .local .tc .vmem, ⟨1, _⟩ => ⟨S1024x1024, .f32⟩
  | .local .tc .vmem, ⟨2, _⟩ => ⟨S1024x1024, .f32⟩
  | .local .tc .vmem, ⟨3, _⟩ => ⟨S1024x1024, .f32⟩
  | .local .tc .vmem, ⟨4, _⟩ => ⟨S1024x1024, .f32⟩
  | .local .tc .vmem, ⟨5, _⟩ => ⟨S1024x1024, .f32⟩
  | .local .tc .vmem, ⟨6, _⟩ => ⟨S1024x1024, .f32⟩
  | .local .tc .vmem, ⟨7, _⟩ => ⟨S1024x1024, .f32⟩
  | .local .scVector .vmem, ⟨0, _⟩ => ⟨S8x4096, .f32⟩
  | .local .scVector .vmem, ⟨1, _⟩ => ⟨S8x4096, .f32⟩
  | .local .scVector .vmem, ⟨2, _⟩ => ⟨S2048, .i32⟩
  | .local .scVector .vmem, ⟨3, _⟩ => ⟨S2048, .i32⟩
  | .local .scVector .vmem, ⟨4, _⟩ => ⟨S2048, .f32⟩
  | .local .scVector .vmem, ⟨5, _⟩ => ⟨S2048, .f32⟩
  | .local .scVector .vmem, ⟨6, _⟩ => ⟨S80, .i32⟩
  | .local .scVector .vmem, ⟨7, _⟩ => ⟨S80, .i32⟩
  | .local .scVector .vmem, ⟨8, _⟩ => ⟨S8x4096, .f32⟩
  | .local .scVector .vmem, ⟨9, _⟩ => ⟨S8x4096, .f32⟩
  | .local .scVector .vmem, ⟨10, _⟩ => ⟨S2048, .i32⟩
  | .local .scVector .vmem, ⟨11, _⟩ => ⟨S2048, .i32⟩
  | .local .scVector .vmem, ⟨12, _⟩ => ⟨S2048, .f32⟩
  | .local .scVector .vmem, ⟨13, _⟩ => ⟨S2048, .f32⟩
  | .local .scVector .vmem, ⟨14, _⟩ => ⟨S80, .i32⟩
  | .local .scVector .vmem, ⟨15, _⟩ => ⟨S80, .i32⟩
  | _, _ => ⟨S4097, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v0_scv : Ref sig .scVector := ⟨.hbm, 5, rfl⟩
abbrev main_v2_scv : Ref sig .scVector := ⟨.hbm, 9, rfl⟩
abbrev main_arg1_scv : Ref sig .scVector := ⟨.hbm, 1, rfl⟩
abbrev main_arg2_scv : Ref sig .scVector := ⟨.hbm, 2, rfl⟩
abbrev main_v3_scv : Ref sig .scVector := ⟨.hbm, 10, rfl⟩
abbrev main_v4_scv : Ref sig .scVector := ⟨.hbm, 11, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc3_stg0_0 : Ref sig .tc := ⟨.vmem, 4, rfl⟩
abbrev cc3_stg0_1 : Ref sig .tc := ⟨.vmem, 5, rfl⟩
abbrev cc3_stg1_0 : Ref sig .tc := ⟨.vmem, 6, rfl⟩
abbrev cc3_stg1_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_scratch0 : Ref sig .scVector := ⟨.vmem, 8, rfl⟩
abbrev cc1_scratch1 : Ref sig .scVector := ⟨.vmem, 9, rfl⟩
abbrev cc1_scratch2 : Ref sig .scVector := ⟨.vmem, 10, rfl⟩
abbrev cc1_scratch3 : Ref sig .scVector := ⟨.vmem, 11, rfl⟩
abbrev cc1_scratch4 : Ref sig .scVector := ⟨.vmem, 12, rfl⟩
abbrev cc1_scratch5 : Ref sig .scVector := ⟨.vmem, 13, rfl⟩
abbrev cc1_scratch6 : Ref sig .scVector := ⟨.vmem, 14, rfl⟩
abbrev cc1_scratch7 : Ref sig .scVector := ⟨.vmem, 15, rfl⟩
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem1_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v4 : BitVec 32 := Scalar.muli v1 c64_i32
  let v5 : BitVec 32 := Scalar.addi c0_i32 v4
  ![v5.toNat]
def k0_mult1 (v16 : BitVec 32) : BitVec 32 :=
  let c_m8_i32 : BitVec 32 := 4294967288#32
  let v24 : BitVec 32 := Scalar.andi v16 c_m8_i32
  let c0_i32_128 : BitVec 32 := 0#32
  let v271 : BitVec 32 := Scalar.addi v24 c0_i32_128
  let c1636352_i32 : BitVec 32 := 1636352#32
  let v272 : BitVec 32 := Scalar.minsi v271 c1636352_i32
  v272
def k0_cond1 (v16 : BitVec 32) (v23 : BitVec 32) : BitVec 1 :=
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c0_i32_12 : BitVec 32 := 0#32
  let v44 : BitVec 1 := Scalar.cmpi .sgt v43 c0_i32_12
  let v45 : BitVec 32 := Scalar.extui v44
  let c0_i32_13 : BitVec 32 := 0#32
  let v46 : BitVec 1 := Scalar.cmpi .ne v45 c0_i32_13
  v46

def k0_off2 (v16 : BitVec 32) : Fin 1 → Nat :=
  let c_m8_i32 : BitVec 32 := 4294967288#32
  let v24 : BitVec 32 := Scalar.andi v16 c_m8_i32
  let c0_i32_128 : BitVec 32 := 0#32
  let v271 : BitVec 32 := Scalar.addi v24 c0_i32_128
  let c1636352_i32 : BitVec 32 := 1636352#32
  let v272 : BitVec 32 := Scalar.minsi v271 c1636352_i32
  let v273 : BitVec 32 := v272
  ![v273.toNat]
def k0_mult2 (v16 : BitVec 32) : BitVec 32 :=
  let c_m8_i32 : BitVec 32 := 4294967288#32
  let v24 : BitVec 32 := Scalar.andi v16 c_m8_i32
  let c2048_i32_128 : BitVec 32 := 2048#32
  let v271 : BitVec 32 := Scalar.addi v24 c2048_i32_128
  let c1636352_i32 : BitVec 32 := 1636352#32
  let v272 : BitVec 32 := Scalar.minsi v271 c1636352_i32
  v272
def k0_cond2 (v16 : BitVec 32) (v23 : BitVec 32) : BitVec 1 :=
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_14 : BitVec 32 := 1#32
  let v47 : BitVec 1 := Scalar.cmpi .sgt v43 c1_i32_14
  let v48 : BitVec 32 := Scalar.extui v47
  let c0_i32_15 : BitVec 32 := 0#32
  let v49 : BitVec 1 := Scalar.cmpi .ne v48 c0_i32_15
  v49

def k0_off3 (v16 : BitVec 32) : Fin 1 → Nat :=
  let c_m8_i32 : BitVec 32 := 4294967288#32
  let v24 : BitVec 32 := Scalar.andi v16 c_m8_i32
  let c2048_i32_128 : BitVec 32 := 2048#32
  let v271 : BitVec 32 := Scalar.addi v24 c2048_i32_128
  let c1636352_i32 : BitVec 32 := 1636352#32
  let v272 : BitVec 32 := Scalar.minsi v271 c1636352_i32
  let v273 : BitVec 32 := v272
  ![v273.toNat]
@[reducible] def k0_t1_loop : Scf.Loop 32 :=
  let c0_i32_17 : BitVec 32 := 0#32
  let c128_i32 : BitVec 32 := 128#32
  let v50 : BitVec 32 := Scalar.addi c0_i32_17 c128_i32
  let c1_i32_18 : BitVec 32 := 1#32
  ⟨c0_i32_17, v50, c1_i32_18⟩
def k0_off4 (k0_t1 : Fin k0_t1_loop.trips) (c0_i32_129 : BitVec 32) : Fin 2 → Nat :=
  let c0_i32_130 : BitVec 32 := 0#32
  let v274 : Index := Scalar.indexCast c0_i32_130
  let c0_i32_17 : BitVec 32 := 0#32
  let c1_i32_18 : BitVec 32 := 1#32
  let arg19 : BitVec 32 := Scf.iv c0_i32_17 c1_i32_18 k0_t1
  let c2_i32_128 : BitVec 32 := 2#32
  let v271 : BitVec 32 := Scalar.muli arg19 c2_i32_128
  let v272 : BitVec 32 := Scalar.addi v271 c0_i32_129
  let c16_i32 : BitVec 32 := 16#32
  let v273 : BitVec 32 := Scalar.muli v272 c16_i32
  let v275 : Index := Scalar.indexCast v273
  ![0, v275.toNat]
def k0_off5 (k0_t1 : Fin k0_t1_loop.trips) (c0_i32_136 : BitVec 32) : Fin 2 → Nat :=
  let c1_i32_138 : BitVec 32 := 1#32
  let v286 : Index := Scalar.indexCast c1_i32_138
  let c0_i32_17 : BitVec 32 := 0#32
  let c1_i32_18 : BitVec 32 := 1#32
  let arg19 : BitVec 32 := Scf.iv c0_i32_17 c1_i32_18 k0_t1
  let c2_i32_135 : BitVec 32 := 2#32
  let v283 : BitVec 32 := Scalar.muli arg19 c2_i32_135
  let v284 : BitVec 32 := Scalar.addi v283 c0_i32_136
  let c16_i32_137 : BitVec 32 := 16#32
  let v285 : BitVec 32 := Scalar.muli v284 c16_i32_137
  let v287 : Index := Scalar.indexCast v285
  ![1, v287.toNat]
def k0_off6 (k0_t1 : Fin k0_t1_loop.trips) (c0_i32_144 : BitVec 32) : Fin 2 → Nat :=
  let c2_i32_146 : BitVec 32 := 2#32
  let v298 : Index := Scalar.indexCast c2_i32_146
  let c0_i32_17 : BitVec 32 := 0#32
  let c1_i32_18 : BitVec 32 := 1#32
  let arg19 : BitVec 32 := Scf.iv c0_i32_17 c1_i32_18 k0_t1
  let c2_i32_143 : BitVec 32 := 2#32
  let v295 : BitVec 32 := Scalar.muli arg19 c2_i32_143
  let v296 : BitVec 32 := Scalar.addi v295 c0_i32_144
  let c16_i32_145 : BitVec 32 := 16#32
  let v297 : BitVec 32 := Scalar.muli v296 c16_i32_145
  let v299 : Index := Scalar.indexCast v297
  ![2, v299.toNat]
def k0_off7 (k0_t1 : Fin k0_t1_loop.trips) (c0_i32_152 : BitVec 32) : Fin 2 → Nat :=
  let c3_i32_154 : BitVec 32 := 3#32
  let v310 : Index := Scalar.indexCast c3_i32_154
  let c0_i32_17 : BitVec 32 := 0#32
  let c1_i32_18 : BitVec 32 := 1#32
  let arg19 : BitVec 32 := Scf.iv c0_i32_17 c1_i32_18 k0_t1
  let c2_i32_151 : BitVec 32 := 2#32
  let v307 : BitVec 32 := Scalar.muli arg19 c2_i32_151
  let v308 : BitVec 32 := Scalar.addi v307 c0_i32_152
  let c16_i32_153 : BitVec 32 := 16#32
  let v309 : BitVec 32 := Scalar.muli v308 c16_i32_153
  let v311 : Index := Scalar.indexCast v309
  ![3, v311.toNat]
def k0_off8 (k0_t1 : Fin k0_t1_loop.trips) (c0_i32_160 : BitVec 32) : Fin 2 → Nat :=
  let c4_i32_162 : BitVec 32 := 4#32
  let v322 : Index := Scalar.indexCast c4_i32_162
  let c0_i32_17 : BitVec 32 := 0#32
  let c1_i32_18 : BitVec 32 := 1#32
  let arg19 : BitVec 32 := Scf.iv c0_i32_17 c1_i32_18 k0_t1
  let c2_i32_159 : BitVec 32 := 2#32
  let v319 : BitVec 32 := Scalar.muli arg19 c2_i32_159
  let v320 : BitVec 32 := Scalar.addi v319 c0_i32_160
  let c16_i32_161 : BitVec 32 := 16#32
  let v321 : BitVec 32 := Scalar.muli v320 c16_i32_161
  let v323 : Index := Scalar.indexCast v321
  ![4, v323.toNat]
def k0_off9 (k0_t1 : Fin k0_t1_loop.trips) (c0_i32_168 : BitVec 32) : Fin 2 → Nat :=
  let c5_i32_170 : BitVec 32 := 5#32
  let v334 : Index := Scalar.indexCast c5_i32_170
  let c0_i32_17 : BitVec 32 := 0#32
  let c1_i32_18 : BitVec 32 := 1#32
  let arg19 : BitVec 32 := Scf.iv c0_i32_17 c1_i32_18 k0_t1
  let c2_i32_167 : BitVec 32 := 2#32
  let v331 : BitVec 32 := Scalar.muli arg19 c2_i32_167
  let v332 : BitVec 32 := Scalar.addi v331 c0_i32_168
  let c16_i32_169 : BitVec 32 := 16#32
  let v333 : BitVec 32 := Scalar.muli v332 c16_i32_169
  let v335 : Index := Scalar.indexCast v333
  ![5, v335.toNat]
def k0_off10 (k0_t1 : Fin k0_t1_loop.trips) (c0_i32_176 : BitVec 32) : Fin 2 → Nat :=
  let c6_i32_178 : BitVec 32 := 6#32
  let v346 : Index := Scalar.indexCast c6_i32_178
  let c0_i32_17 : BitVec 32 := 0#32
  let c1_i32_18 : BitVec 32 := 1#32
  let arg19 : BitVec 32 := Scf.iv c0_i32_17 c1_i32_18 k0_t1
  let c2_i32_175 : BitVec 32 := 2#32
  let v343 : BitVec 32 := Scalar.muli arg19 c2_i32_175
  let v344 : BitVec 32 := Scalar.addi v343 c0_i32_176
  let c16_i32_177 : BitVec 32 := 16#32
  let v345 : BitVec 32 := Scalar.muli v344 c16_i32_177
  let v347 : Index := Scalar.indexCast v345
  ![6, v347.toNat]
def k0_off11 (k0_t1 : Fin k0_t1_loop.trips) (c0_i32_184 : BitVec 32) : Fin 2 → Nat :=
  let c7_i32_186 : BitVec 32 := 7#32
  let v358 : Index := Scalar.indexCast c7_i32_186
  let c0_i32_17 : BitVec 32 := 0#32
  let c1_i32_18 : BitVec 32 := 1#32
  let arg19 : BitVec 32 := Scf.iv c0_i32_17 c1_i32_18 k0_t1
  let c2_i32_183 : BitVec 32 := 2#32
  let v355 : BitVec 32 := Scalar.muli arg19 c2_i32_183
  let v356 : BitVec 32 := Scalar.addi v355 c0_i32_184
  let c16_i32_185 : BitVec 32 := 16#32
  let v357 : BitVec 32 := Scalar.muli v356 c16_i32_185
  let v359 : Index := Scalar.indexCast v357
  ![7, v359.toNat]
@[reducible] def k0_t2_loop (v16 : BitVec 32) (v23 : BitVec 32) : Scf.Loop 32 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_51 : BitVec 32 := 1#32
  ⟨c0_i32_48, v130, c1_i32_51⟩
def k0_mult3 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v24 v281
  let c1636352_i32 : BitVec 32 := 1636352#32
  let v283 : BitVec 32 := Scalar.minsi v282 c1636352_i32
  v283
def k0_cond3 (v16 : BitVec 32) (v23 : BitVec 32) (k0_t2 : Fin (k0_t2_loop v16 v23).trips) : BitVec 1 :=
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let v273 : BitVec 1 := Scalar.cmpi .slt v272 v43
  let v274 : BitVec 32 := Scalar.extui v273
  let c0_i32_130 : BitVec 32 := 0#32
  let v275 : BitVec 1 := Scalar.cmpi .ne v274 c0_i32_130
  v275

def k0_mult4 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  v294
def k0_off12 (v16 : BitVec 32) (v23 : BitVec 32) (k0_t2 : Fin (k0_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k0_t3_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off13 (k0_t3 : Fin k0_t3_loop.trips) : Fin 1 → Nat :=
  let c0_i32_142 : BitVec 32 := 0#32
  let c1_i32_143 : BitVec 32 := 1#32
  let arg21 : BitVec 32 := Scf.iv c0_i32_142 c1_i32_143 k0_t3
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk2 (v16 : BitVec 32) (v23 : BitVec 32) (k0_t2 : Fin (k0_t2_loop v16 v23).trips) (v313 : IVec S16 32) (v371 : IVec S16 32) : Prop :=
  (∀ (k0_h3 : k0_cond3 v16 v23 k0_t2 = 1#1), ∀ a x, ((![v371, v313] : Fin 2 → IVec S16 32) a x).toNat < S8x4096.size a)
theorem k0_idx1_inb : ∀ (v16 : BitVec 32) (v23 : BitVec 32) (k0_t2 : Fin (k0_t2_loop v16 v23).trips) (v313 : IVec S16 32) (v371 : IVec S16 32) (k0_hw2 : k0_chk2 v16 v23 k0_t2 v313 v371), ∀ (k0_h3 : k0_cond3 v16 v23 k0_t2 = 1#1), ∀ a x, ((![v371, v313] : Fin 2 → IVec S16 32) a x).toNat < S8x4096.size a := fun v16 v23 k0_t2 v313 v371 k0_hw2 k0_h3 => k0_hw2 k0_h3
def k0_off14 (k0_t3 : Fin k0_t3_loop.trips) : Fin 1 → Nat :=
  let c0_i32_142 : BitVec 32 := 0#32
  let c1_i32_143 : BitVec 32 := 1#32
  let arg21 : BitVec 32 := Scf.iv c0_i32_142 c1_i32_143 k0_t3
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk3 (v16 : BitVec 32) (v23 : BitVec 32) (k0_t2 : Fin (k0_t2_loop v16 v23).trips) (v379 : IVec S16 32) (v437 : IVec S16 32) : Prop :=
  (∀ (k0_h3 : k0_cond3 v16 v23 k0_t2 = 1#1), ∀ a x, ((![v437, v379] : Fin 2 → IVec S16 32) a x).toNat < S8x4096.size a)
theorem k0_idx2_inb : ∀ (v16 : BitVec 32) (v23 : BitVec 32) (k0_t2 : Fin (k0_t2_loop v16 v23).trips) (v379 : IVec S16 32) (v437 : IVec S16 32) (k0_hw3 : k0_chk3 v16 v23 k0_t2 v379 v437), ∀ (k0_h3 : k0_cond3 v16 v23 k0_t2 = 1#1), ∀ a x, ((![v437, v379] : Fin 2 → IVec S16 32) a x).toNat < S8x4096.size a := fun v16 v23 k0_t2 v379 v437 k0_hw3 k0_h3 => k0_hw3 k0_h3
def k0_off15 (k0_t3 : Fin k0_t3_loop.trips) : Fin 1 → Nat :=
  let c0_i32_142 : BitVec 32 := 0#32
  let c1_i32_143 : BitVec 32 := 1#32
  let arg21 : BitVec 32 := Scf.iv c0_i32_142 c1_i32_143 k0_t3
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk4 (v16 : BitVec 32) (v23 : BitVec 32) (k0_t2 : Fin (k0_t2_loop v16 v23).trips) (v445 : IVec S16 32) (v503 : IVec S16 32) : Prop :=
  (∀ (k0_h3 : k0_cond3 v16 v23 k0_t2 = 1#1), ∀ a x, ((![v503, v445] : Fin 2 → IVec S16 32) a x).toNat < S8x4096.size a)
theorem k0_idx3_inb : ∀ (v16 : BitVec 32) (v23 : BitVec 32) (k0_t2 : Fin (k0_t2_loop v16 v23).trips) (v445 : IVec S16 32) (v503 : IVec S16 32) (k0_hw4 : k0_chk4 v16 v23 k0_t2 v445 v503), ∀ (k0_h3 : k0_cond3 v16 v23 k0_t2 = 1#1), ∀ a x, ((![v503, v445] : Fin 2 → IVec S16 32) a x).toNat < S8x4096.size a := fun v16 v23 k0_t2 v445 v503 k0_hw4 k0_h3 => k0_hw4 k0_h3
def k0_off16 (k0_t3 : Fin k0_t3_loop.trips) : Fin 1 → Nat :=
  let c0_i32_142 : BitVec 32 := 0#32
  let c1_i32_143 : BitVec 32 := 1#32
  let arg21 : BitVec 32 := Scf.iv c0_i32_142 c1_i32_143 k0_t3
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk5 (v16 : BitVec 32) (v23 : BitVec 32) (k0_t2 : Fin (k0_t2_loop v16 v23).trips) (v511 : IVec S16 32) (v569 : IVec S16 32) : Prop :=
  (∀ (k0_h3 : k0_cond3 v16 v23 k0_t2 = 1#1), ∀ a x, ((![v569, v511] : Fin 2 → IVec S16 32) a x).toNat < S8x4096.size a)
theorem k0_idx4_inb : ∀ (v16 : BitVec 32) (v23 : BitVec 32) (k0_t2 : Fin (k0_t2_loop v16 v23).trips) (v511 : IVec S16 32) (v569 : IVec S16 32) (k0_hw5 : k0_chk5 v16 v23 k0_t2 v511 v569), ∀ (k0_h3 : k0_cond3 v16 v23 k0_t2 = 1#1), ∀ a x, ((![v569, v511] : Fin 2 → IVec S16 32) a x).toNat < S8x4096.size a := fun v16 v23 k0_t2 v511 v569 k0_hw5 k0_h3 => k0_hw5 k0_h3
def k0_mult5 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k0_cond4 (v16 : BitVec 32) (v23 : BitVec 32) (k0_t2 : Fin (k0_t2_loop v16 v23).trips) : BitVec 1 :=
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let v303 : BitVec 1 := Scalar.cmpi .slt v302 v43
  let v304 : BitVec 32 := Scalar.extui v303
  let c0_i32_146 : BitVec 32 := 0#32
  let v305 : BitVec 1 := Scalar.cmpi .ne v304 c0_i32_146
  v305

def k0_off17 (v16 : BitVec 32) (v23 : BitVec 32) (k0_t2 : Fin (k0_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
def k0_mult6 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v24 v281
  let c1636352_i32 : BitVec 32 := 1636352#32
  let v283 : BitVec 32 := Scalar.minsi v282 c1636352_i32
  v283
def k0_cond5 (v16 : BitVec 32) (v23 : BitVec 32) (k0_t2 : Fin (k0_t2_loop v16 v23).trips) : BitVec 1 :=
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let v278 : BitVec 1 := Scalar.cmpi .slt v277 v43
  let v279 : BitVec 32 := Scalar.extui v278
  let c0_i32_133 : BitVec 32 := 0#32
  let v280 : BitVec 1 := Scalar.cmpi .ne v279 c0_i32_133
  v280

def k0_mult7 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  v294
def k0_off18 (v16 : BitVec 32) (v23 : BitVec 32) (k0_t2 : Fin (k0_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k0_t4_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off19 (k0_t4 : Fin k0_t4_loop.trips) : Fin 1 → Nat :=
  let c0_i32_142 : BitVec 32 := 0#32
  let c1_i32_143 : BitVec 32 := 1#32
  let arg21 : BitVec 32 := Scf.iv c0_i32_142 c1_i32_143 k0_t4
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk6 (v16 : BitVec 32) (v23 : BitVec 32) (k0_t2 : Fin (k0_t2_loop v16 v23).trips) (v313 : IVec S16 32) (v371 : IVec S16 32) : Prop :=
  (∀ (k0_h5 : k0_cond5 v16 v23 k0_t2 = 1#1), ∀ a x, ((![v371, v313] : Fin 2 → IVec S16 32) a x).toNat < S8x4096.size a)
theorem k0_idx5_inb : ∀ (v16 : BitVec 32) (v23 : BitVec 32) (k0_t2 : Fin (k0_t2_loop v16 v23).trips) (v313 : IVec S16 32) (v371 : IVec S16 32) (k0_hw6 : k0_chk6 v16 v23 k0_t2 v313 v371), ∀ (k0_h5 : k0_cond5 v16 v23 k0_t2 = 1#1), ∀ a x, ((![v371, v313] : Fin 2 → IVec S16 32) a x).toNat < S8x4096.size a := fun v16 v23 k0_t2 v313 v371 k0_hw6 k0_h5 => k0_hw6 k0_h5
def k0_off20 (k0_t4 : Fin k0_t4_loop.trips) : Fin 1 → Nat :=
  let c0_i32_142 : BitVec 32 := 0#32
  let c1_i32_143 : BitVec 32 := 1#32
  let arg21 : BitVec 32 := Scf.iv c0_i32_142 c1_i32_143 k0_t4
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk7 (v16 : BitVec 32) (v23 : BitVec 32) (k0_t2 : Fin (k0_t2_loop v16 v23).trips) (v379 : IVec S16 32) (v437 : IVec S16 32) : Prop :=
  (∀ (k0_h5 : k0_cond5 v16 v23 k0_t2 = 1#1), ∀ a x, ((![v437, v379] : Fin 2 → IVec S16 32) a x).toNat < S8x4096.size a)
theorem k0_idx6_inb : ∀ (v16 : BitVec 32) (v23 : BitVec 32) (k0_t2 : Fin (k0_t2_loop v16 v23).trips) (v379 : IVec S16 32) (v437 : IVec S16 32) (k0_hw7 : k0_chk7 v16 v23 k0_t2 v379 v437), ∀ (k0_h5 : k0_cond5 v16 v23 k0_t2 = 1#1), ∀ a x, ((![v437, v379] : Fin 2 → IVec S16 32) a x).toNat < S8x4096.size a := fun v16 v23 k0_t2 v379 v437 k0_hw7 k0_h5 => k0_hw7 k0_h5
def k0_off21 (k0_t4 : Fin k0_t4_loop.trips) : Fin 1 → Nat :=
  let c0_i32_142 : BitVec 32 := 0#32
  let c1_i32_143 : BitVec 32 := 1#32
  let arg21 : BitVec 32 := Scf.iv c0_i32_142 c1_i32_143 k0_t4
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk8 (v16 : BitVec 32) (v23 : BitVec 32) (k0_t2 : Fin (k0_t2_loop v16 v23).trips) (v445 : IVec S16 32) (v503 : IVec S16 32) : Prop :=
  (∀ (k0_h5 : k0_cond5 v16 v23 k0_t2 = 1#1), ∀ a x, ((![v503, v445] : Fin 2 → IVec S16 32) a x).toNat < S8x4096.size a)
theorem k0_idx7_inb : ∀ (v16 : BitVec 32) (v23 : BitVec 32) (k0_t2 : Fin (k0_t2_loop v16 v23).trips) (v445 : IVec S16 32) (v503 : IVec S16 32) (k0_hw8 : k0_chk8 v16 v23 k0_t2 v445 v503), ∀ (k0_h5 : k0_cond5 v16 v23 k0_t2 = 1#1), ∀ a x, ((![v503, v445] : Fin 2 → IVec S16 32) a x).toNat < S8x4096.size a := fun v16 v23 k0_t2 v445 v503 k0_hw8 k0_h5 => k0_hw8 k0_h5
def k0_off22 (k0_t4 : Fin k0_t4_loop.trips) : Fin 1 → Nat :=
  let c0_i32_142 : BitVec 32 := 0#32
  let c1_i32_143 : BitVec 32 := 1#32
  let arg21 : BitVec 32 := Scf.iv c0_i32_142 c1_i32_143 k0_t4
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk9 (v16 : BitVec 32) (v23 : BitVec 32) (k0_t2 : Fin (k0_t2_loop v16 v23).trips) (v511 : IVec S16 32) (v569 : IVec S16 32) : Prop :=
  (∀ (k0_h5 : k0_cond5 v16 v23 k0_t2 = 1#1), ∀ a x, ((![v569, v511] : Fin 2 → IVec S16 32) a x).toNat < S8x4096.size a)
theorem k0_idx8_inb : ∀ (v16 : BitVec 32) (v23 : BitVec 32) (k0_t2 : Fin (k0_t2_loop v16 v23).trips) (v511 : IVec S16 32) (v569 : IVec S16 32) (k0_hw9 : k0_chk9 v16 v23 k0_t2 v511 v569), ∀ (k0_h5 : k0_cond5 v16 v23 k0_t2 = 1#1), ∀ a x, ((![v569, v511] : Fin 2 → IVec S16 32) a x).toNat < S8x4096.size a := fun v16 v23 k0_t2 v511 v569 k0_hw9 k0_h5 => k0_hw9 k0_h5
def k0_mult8 (v16 : BitVec 32) (v23 : BitVec 32) (k0_t2 : Fin (k0_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k0_cond6 (v16 : BitVec 32) (v23 : BitVec 32) (k0_t2 : Fin (k0_t2_loop v16 v23).trips) : BitVec 1 :=
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let v303 : BitVec 1 := Scalar.cmpi .slt v302 v43
  let v304 : BitVec 32 := Scalar.extui v303
  let c0_i32_146 : BitVec 32 := 0#32
  let v305 : BitVec 1 := Scalar.cmpi .ne v304 c0_i32_146
  v305

def k0_off23 (v16 : BitVec 32) (v23 : BitVec 32) (k0_t2 : Fin (k0_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k0_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
@[reducible] def k0_t5_loop (v16 : BitVec 32) (v23 : BitVec 32) : Scf.Loop 32 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let v127 : BitVec 32 := Scalar.addi c0_i32_48 v126
  let c1_i32_52 : BitVec 32 := 1#32
  ⟨v130, v127, c1_i32_52⟩
def k0_mult9 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v24 v281
  let c1636352_i32 : BitVec 32 := 1636352#32
  let v283 : BitVec 32 := Scalar.minsi v282 c1636352_i32
  v283
def k0_cond7 (v16 : BitVec 32) (v23 : BitVec 32) (k0_t5 : Fin (k0_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let v273 : BitVec 1 := Scalar.cmpi .slt v272 v43
  let v274 : BitVec 32 := Scalar.extui v273
  let c0_i32_130 : BitVec 32 := 0#32
  let v275 : BitVec 1 := Scalar.cmpi .ne v274 c0_i32_130
  v275

def k0_mult10 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  v294
def k0_off24 (v16 : BitVec 32) (v23 : BitVec 32) (k0_t5 : Fin (k0_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k0_t6_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off25 (k0_t6 : Fin k0_t6_loop.trips) : Fin 1 → Nat :=
  let c0_i32_142 : BitVec 32 := 0#32
  let c1_i32_143 : BitVec 32 := 1#32
  let arg21 : BitVec 32 := Scf.iv c0_i32_142 c1_i32_143 k0_t6
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk10 (v16 : BitVec 32) (v23 : BitVec 32) (k0_t5 : Fin (k0_t5_loop v16 v23).trips) (v313 : IVec S16 32) (v371 : IVec S16 32) : Prop :=
  (∀ (k0_h7 : k0_cond7 v16 v23 k0_t5 = 1#1), ∀ a x, ((![v371, v313] : Fin 2 → IVec S16 32) a x).toNat < S8x4096.size a)
theorem k0_idx9_inb : ∀ (v16 : BitVec 32) (v23 : BitVec 32) (k0_t5 : Fin (k0_t5_loop v16 v23).trips) (v313 : IVec S16 32) (v371 : IVec S16 32) (k0_hw10 : k0_chk10 v16 v23 k0_t5 v313 v371), ∀ (k0_h7 : k0_cond7 v16 v23 k0_t5 = 1#1), ∀ a x, ((![v371, v313] : Fin 2 → IVec S16 32) a x).toNat < S8x4096.size a := fun v16 v23 k0_t5 v313 v371 k0_hw10 k0_h7 => k0_hw10 k0_h7
def k0_off26 (k0_t6 : Fin k0_t6_loop.trips) : Fin 1 → Nat :=
  let c0_i32_142 : BitVec 32 := 0#32
  let c1_i32_143 : BitVec 32 := 1#32
  let arg21 : BitVec 32 := Scf.iv c0_i32_142 c1_i32_143 k0_t6
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk11 (v16 : BitVec 32) (v23 : BitVec 32) (k0_t5 : Fin (k0_t5_loop v16 v23).trips) (v379 : IVec S16 32) (v437 : IVec S16 32) : Prop :=
  (∀ (k0_h7 : k0_cond7 v16 v23 k0_t5 = 1#1), ∀ a x, ((![v437, v379] : Fin 2 → IVec S16 32) a x).toNat < S8x4096.size a)
theorem k0_idx10_inb : ∀ (v16 : BitVec 32) (v23 : BitVec 32) (k0_t5 : Fin (k0_t5_loop v16 v23).trips) (v379 : IVec S16 32) (v437 : IVec S16 32) (k0_hw11 : k0_chk11 v16 v23 k0_t5 v379 v437), ∀ (k0_h7 : k0_cond7 v16 v23 k0_t5 = 1#1), ∀ a x, ((![v437, v379] : Fin 2 → IVec S16 32) a x).toNat < S8x4096.size a := fun v16 v23 k0_t5 v379 v437 k0_hw11 k0_h7 => k0_hw11 k0_h7
def k0_off27 (k0_t6 : Fin k0_t6_loop.trips) : Fin 1 → Nat :=
  let c0_i32_142 : BitVec 32 := 0#32
  let c1_i32_143 : BitVec 32 := 1#32
  let arg21 : BitVec 32 := Scf.iv c0_i32_142 c1_i32_143 k0_t6
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk12 (v16 : BitVec 32) (v23 : BitVec 32) (k0_t5 : Fin (k0_t5_loop v16 v23).trips) (v445 : IVec S16 32) (v503 : IVec S16 32) : Prop :=
  (∀ (k0_h7 : k0_cond7 v16 v23 k0_t5 = 1#1), ∀ a x, ((![v503, v445] : Fin 2 → IVec S16 32) a x).toNat < S8x4096.size a)
theorem k0_idx11_inb : ∀ (v16 : BitVec 32) (v23 : BitVec 32) (k0_t5 : Fin (k0_t5_loop v16 v23).trips) (v445 : IVec S16 32) (v503 : IVec S16 32) (k0_hw12 : k0_chk12 v16 v23 k0_t5 v445 v503), ∀ (k0_h7 : k0_cond7 v16 v23 k0_t5 = 1#1), ∀ a x, ((![v503, v445] : Fin 2 → IVec S16 32) a x).toNat < S8x4096.size a := fun v16 v23 k0_t5 v445 v503 k0_hw12 k0_h7 => k0_hw12 k0_h7
def k0_off28 (k0_t6 : Fin k0_t6_loop.trips) : Fin 1 → Nat :=
  let c0_i32_142 : BitVec 32 := 0#32
  let c1_i32_143 : BitVec 32 := 1#32
  let arg21 : BitVec 32 := Scf.iv c0_i32_142 c1_i32_143 k0_t6
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk13 (v16 : BitVec 32) (v23 : BitVec 32) (k0_t5 : Fin (k0_t5_loop v16 v23).trips) (v511 : IVec S16 32) (v569 : IVec S16 32) : Prop :=
  (∀ (k0_h7 : k0_cond7 v16 v23 k0_t5 = 1#1), ∀ a x, ((![v569, v511] : Fin 2 → IVec S16 32) a x).toNat < S8x4096.size a)
theorem k0_idx12_inb : ∀ (v16 : BitVec 32) (v23 : BitVec 32) (k0_t5 : Fin (k0_t5_loop v16 v23).trips) (v511 : IVec S16 32) (v569 : IVec S16 32) (k0_hw13 : k0_chk13 v16 v23 k0_t5 v511 v569), ∀ (k0_h7 : k0_cond7 v16 v23 k0_t5 = 1#1), ∀ a x, ((![v569, v511] : Fin 2 → IVec S16 32) a x).toNat < S8x4096.size a := fun v16 v23 k0_t5 v511 v569 k0_hw13 k0_h7 => k0_hw13 k0_h7
def k0_mult11 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k0_cond8 (v16 : BitVec 32) (v23 : BitVec 32) (k0_t5 : Fin (k0_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let v303 : BitVec 1 := Scalar.cmpi .slt v302 v43
  let v304 : BitVec 32 := Scalar.extui v303
  let c0_i32_146 : BitVec 32 := 0#32
  let v305 : BitVec 1 := Scalar.cmpi .ne v304 c0_i32_146
  v305

def k0_off29 (v16 : BitVec 32) (v23 : BitVec 32) (k0_t5 : Fin (k0_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
def k0_mult12 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v24 v281
  let c1636352_i32 : BitVec 32 := 1636352#32
  let v283 : BitVec 32 := Scalar.minsi v282 c1636352_i32
  v283
def k0_cond9 (v16 : BitVec 32) (v23 : BitVec 32) (k0_t5 : Fin (k0_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let v278 : BitVec 1 := Scalar.cmpi .slt v277 v43
  let v279 : BitVec 32 := Scalar.extui v278
  let c0_i32_133 : BitVec 32 := 0#32
  let v280 : BitVec 1 := Scalar.cmpi .ne v279 c0_i32_133
  v280

def k0_mult13 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  v294
def k0_off30 (v16 : BitVec 32) (v23 : BitVec 32) (k0_t5 : Fin (k0_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k0_t7_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off31 (k0_t7 : Fin k0_t7_loop.trips) : Fin 1 → Nat :=
  let c0_i32_142 : BitVec 32 := 0#32
  let c1_i32_143 : BitVec 32 := 1#32
  let arg21 : BitVec 32 := Scf.iv c0_i32_142 c1_i32_143 k0_t7
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk14 (v16 : BitVec 32) (v23 : BitVec 32) (k0_t5 : Fin (k0_t5_loop v16 v23).trips) (v313 : IVec S16 32) (v371 : IVec S16 32) : Prop :=
  (∀ (k0_h9 : k0_cond9 v16 v23 k0_t5 = 1#1), ∀ a x, ((![v371, v313] : Fin 2 → IVec S16 32) a x).toNat < S8x4096.size a)
theorem k0_idx13_inb : ∀ (v16 : BitVec 32) (v23 : BitVec 32) (k0_t5 : Fin (k0_t5_loop v16 v23).trips) (v313 : IVec S16 32) (v371 : IVec S16 32) (k0_hw14 : k0_chk14 v16 v23 k0_t5 v313 v371), ∀ (k0_h9 : k0_cond9 v16 v23 k0_t5 = 1#1), ∀ a x, ((![v371, v313] : Fin 2 → IVec S16 32) a x).toNat < S8x4096.size a := fun v16 v23 k0_t5 v313 v371 k0_hw14 k0_h9 => k0_hw14 k0_h9
def k0_off32 (k0_t7 : Fin k0_t7_loop.trips) : Fin 1 → Nat :=
  let c0_i32_142 : BitVec 32 := 0#32
  let c1_i32_143 : BitVec 32 := 1#32
  let arg21 : BitVec 32 := Scf.iv c0_i32_142 c1_i32_143 k0_t7
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk15 (v16 : BitVec 32) (v23 : BitVec 32) (k0_t5 : Fin (k0_t5_loop v16 v23).trips) (v379 : IVec S16 32) (v437 : IVec S16 32) : Prop :=
  (∀ (k0_h9 : k0_cond9 v16 v23 k0_t5 = 1#1), ∀ a x, ((![v437, v379] : Fin 2 → IVec S16 32) a x).toNat < S8x4096.size a)
theorem k0_idx14_inb : ∀ (v16 : BitVec 32) (v23 : BitVec 32) (k0_t5 : Fin (k0_t5_loop v16 v23).trips) (v379 : IVec S16 32) (v437 : IVec S16 32) (k0_hw15 : k0_chk15 v16 v23 k0_t5 v379 v437), ∀ (k0_h9 : k0_cond9 v16 v23 k0_t5 = 1#1), ∀ a x, ((![v437, v379] : Fin 2 → IVec S16 32) a x).toNat < S8x4096.size a := fun v16 v23 k0_t5 v379 v437 k0_hw15 k0_h9 => k0_hw15 k0_h9
def k0_off33 (k0_t7 : Fin k0_t7_loop.trips) : Fin 1 → Nat :=
  let c0_i32_142 : BitVec 32 := 0#32
  let c1_i32_143 : BitVec 32 := 1#32
  let arg21 : BitVec 32 := Scf.iv c0_i32_142 c1_i32_143 k0_t7
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk16 (v16 : BitVec 32) (v23 : BitVec 32) (k0_t5 : Fin (k0_t5_loop v16 v23).trips) (v445 : IVec S16 32) (v503 : IVec S16 32) : Prop :=
  (∀ (k0_h9 : k0_cond9 v16 v23 k0_t5 = 1#1), ∀ a x, ((![v503, v445] : Fin 2 → IVec S16 32) a x).toNat < S8x4096.size a)
theorem k0_idx15_inb : ∀ (v16 : BitVec 32) (v23 : BitVec 32) (k0_t5 : Fin (k0_t5_loop v16 v23).trips) (v445 : IVec S16 32) (v503 : IVec S16 32) (k0_hw16 : k0_chk16 v16 v23 k0_t5 v445 v503), ∀ (k0_h9 : k0_cond9 v16 v23 k0_t5 = 1#1), ∀ a x, ((![v503, v445] : Fin 2 → IVec S16 32) a x).toNat < S8x4096.size a := fun v16 v23 k0_t5 v445 v503 k0_hw16 k0_h9 => k0_hw16 k0_h9
def k0_off34 (k0_t7 : Fin k0_t7_loop.trips) : Fin 1 → Nat :=
  let c0_i32_142 : BitVec 32 := 0#32
  let c1_i32_143 : BitVec 32 := 1#32
  let arg21 : BitVec 32 := Scf.iv c0_i32_142 c1_i32_143 k0_t7
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk17 (v16 : BitVec 32) (v23 : BitVec 32) (k0_t5 : Fin (k0_t5_loop v16 v23).trips) (v511 : IVec S16 32) (v569 : IVec S16 32) : Prop :=
  (∀ (k0_h9 : k0_cond9 v16 v23 k0_t5 = 1#1), ∀ a x, ((![v569, v511] : Fin 2 → IVec S16 32) a x).toNat < S8x4096.size a)
theorem k0_idx16_inb : ∀ (v16 : BitVec 32) (v23 : BitVec 32) (k0_t5 : Fin (k0_t5_loop v16 v23).trips) (v511 : IVec S16 32) (v569 : IVec S16 32) (k0_hw17 : k0_chk17 v16 v23 k0_t5 v511 v569), ∀ (k0_h9 : k0_cond9 v16 v23 k0_t5 = 1#1), ∀ a x, ((![v569, v511] : Fin 2 → IVec S16 32) a x).toNat < S8x4096.size a := fun v16 v23 k0_t5 v511 v569 k0_hw17 k0_h9 => k0_hw17 k0_h9
def k0_mult14 (v16 : BitVec 32) (v23 : BitVec 32) (k0_t5 : Fin (k0_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k0_cond10 (v16 : BitVec 32) (v23 : BitVec 32) (k0_t5 : Fin (k0_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let v303 : BitVec 1 := Scalar.cmpi .slt v302 v43
  let v304 : BitVec 32 := Scalar.extui v303
  let c0_i32_146 : BitVec 32 := 0#32
  let v305 : BitVec 1 := Scalar.cmpi .ne v304 c0_i32_146
  v305

def k0_off35 (v16 : BitVec 32) (v23 : BitVec 32) (k0_t5 : Fin (k0_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32 : BitVec 32 := 2048#32
  let c0_i32_9 : BitVec 32 := 0#32
  let v33 : BitVec 1 := Scalar.cmpi .sgt c2048_i32 c0_i32_9
  let v34 : BitVec 32 := Scalar.extui v33
  let c0_i32_10 : BitVec 32 := 0#32
  let v35 : BitVec 1 := Scalar.cmpi .slt c2048_i32 c0_i32_10
  let v36 : BitVec 32 := Scalar.extui v35
  let v37 : BitVec 32 := Scalar.subi v34 v36
  let v38 : BitVec 1 := Scalar.cmpi .ne v32 v37
  let v39 : BitVec 32 := Scalar.remsi v26 c2048_i32
  let c0_i32_11 : BitVec 32 := 0#32
  let v40 : BitVec 1 := Scalar.cmpi .ne v39 c0_i32_11
  let v41 : BitVec 1 := Scalar.andi v38 v40
  let v27 : BitVec 32 := Scalar.divsi v26 c2048_i32
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k0_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]

def k0_chk1 (v16 : BitVec 32) (v23 : BitVec 32) : Prop :=
  (∀ (k0_h1 : k0_cond1 v16 v23 = 1#1), 8 ∣ (k0_mult1 v16).toNat) ∧
  (∀ (k0_h1 : k0_cond1 v16 v23 = 1#1), ∀ a, (k0_off2 v16) a + S2048.size a ≤ S1638400.size a) ∧
  (∀ (k0_h2 : k0_cond2 v16 v23 = 1#1), 8 ∣ (k0_mult2 v16).toNat) ∧
  (∀ (k0_h2 : k0_cond2 v16 v23 = 1#1), ∀ a, (k0_off3 v16) a + S2048.size a ≤ S1638400.size a) ∧
  ((k0_t2_loop v16 v23).OK) ∧
  (∀ k0_t2 : Fin (k0_t2_loop v16 v23).trips, ∀ (k0_h3 : k0_cond3 v16 v23 k0_t2 = 1#1), 8 ∣ (k0_mult3 v16 v23 k0_t2).toNat) ∧
  (∀ k0_t2 : Fin (k0_t2_loop v16 v23).trips, ∀ (k0_h3 : k0_cond3 v16 v23 k0_t2 = 1#1), 8 ∣ (k0_mult4 v16 v23 k0_t2).toNat) ∧
  (∀ k0_t2 : Fin (k0_t2_loop v16 v23).trips, ∀ (k0_h3 : k0_cond3 v16 v23 k0_t2 = 1#1), ∀ a, (k0_off12 v16 v23 k0_t2) a + S2048.size a ≤ S1638400.size a) ∧
  (∀ k0_t2 : Fin (k0_t2_loop v16 v23).trips, ∀ (k0_h3 : k0_cond3 v16 v23 k0_t2 = 1#1), ∀ (k0_h4 : k0_cond4 v16 v23 k0_t2 = 1#1), 8 ∣ (k0_mult5 v16 v23 k0_t2).toNat) ∧
  (∀ k0_t2 : Fin (k0_t2_loop v16 v23).trips, ∀ (k0_h3 : k0_cond3 v16 v23 k0_t2 = 1#1), ∀ (k0_h4 : k0_cond4 v16 v23 k0_t2 = 1#1), ∀ a, (k0_off17 v16 v23 k0_t2) a + S2048.size a ≤ S1638400.size a) ∧
  (∀ k0_t2 : Fin (k0_t2_loop v16 v23).trips, ∀ (k0_h5 : k0_cond5 v16 v23 k0_t2 = 1#1), 8 ∣ (k0_mult6 v16 v23 k0_t2).toNat) ∧
  (∀ k0_t2 : Fin (k0_t2_loop v16 v23).trips, ∀ (k0_h5 : k0_cond5 v16 v23 k0_t2 = 1#1), 8 ∣ (k0_mult7 v16 v23 k0_t2).toNat) ∧
  (∀ k0_t2 : Fin (k0_t2_loop v16 v23).trips, ∀ (k0_h5 : k0_cond5 v16 v23 k0_t2 = 1#1), ∀ a, (k0_off18 v16 v23 k0_t2) a + S2048.size a ≤ S1638400.size a) ∧
  (∀ k0_t2 : Fin (k0_t2_loop v16 v23).trips, ∀ (k0_h5 : k0_cond5 v16 v23 k0_t2 = 1#1), ∀ (k0_h6 : k0_cond6 v16 v23 k0_t2 = 1#1), 8 ∣ (k0_mult8 v16 v23 k0_t2).toNat) ∧
  (∀ k0_t2 : Fin (k0_t2_loop v16 v23).trips, ∀ (k0_h5 : k0_cond5 v16 v23 k0_t2 = 1#1), ∀ (k0_h6 : k0_cond6 v16 v23 k0_t2 = 1#1), ∀ a, (k0_off23 v16 v23 k0_t2) a + S2048.size a ≤ S1638400.size a) ∧
  ((k0_t5_loop v16 v23).OK) ∧
  (∀ k0_t5 : Fin (k0_t5_loop v16 v23).trips, ∀ (k0_h7 : k0_cond7 v16 v23 k0_t5 = 1#1), 8 ∣ (k0_mult9 v16 v23 k0_t5).toNat) ∧
  (∀ k0_t5 : Fin (k0_t5_loop v16 v23).trips, ∀ (k0_h7 : k0_cond7 v16 v23 k0_t5 = 1#1), 8 ∣ (k0_mult10 v16 v23 k0_t5).toNat) ∧
  (∀ k0_t5 : Fin (k0_t5_loop v16 v23).trips, ∀ (k0_h7 : k0_cond7 v16 v23 k0_t5 = 1#1), ∀ a, (k0_off24 v16 v23 k0_t5) a + S2048.size a ≤ S1638400.size a) ∧
  (∀ k0_t5 : Fin (k0_t5_loop v16 v23).trips, ∀ (k0_h7 : k0_cond7 v16 v23 k0_t5 = 1#1), ∀ (k0_h8 : k0_cond8 v16 v23 k0_t5 = 1#1), 8 ∣ (k0_mult11 v16 v23 k0_t5).toNat) ∧
  (∀ k0_t5 : Fin (k0_t5_loop v16 v23).trips, ∀ (k0_h7 : k0_cond7 v16 v23 k0_t5 = 1#1), ∀ (k0_h8 : k0_cond8 v16 v23 k0_t5 = 1#1), ∀ a, (k0_off29 v16 v23 k0_t5) a + S2048.size a ≤ S1638400.size a) ∧
  (∀ k0_t5 : Fin (k0_t5_loop v16 v23).trips, ∀ (k0_h9 : k0_cond9 v16 v23 k0_t5 = 1#1), 8 ∣ (k0_mult12 v16 v23 k0_t5).toNat) ∧
  (∀ k0_t5 : Fin (k0_t5_loop v16 v23).trips, ∀ (k0_h9 : k0_cond9 v16 v23 k0_t5 = 1#1), 8 ∣ (k0_mult13 v16 v23 k0_t5).toNat) ∧
  (∀ k0_t5 : Fin (k0_t5_loop v16 v23).trips, ∀ (k0_h9 : k0_cond9 v16 v23 k0_t5 = 1#1), ∀ a, (k0_off30 v16 v23 k0_t5) a + S2048.size a ≤ S1638400.size a) ∧
  (∀ k0_t5 : Fin (k0_t5_loop v16 v23).trips, ∀ (k0_h9 : k0_cond9 v16 v23 k0_t5 = 1#1), ∀ (k0_h10 : k0_cond10 v16 v23 k0_t5 = 1#1), 8 ∣ (k0_mult14 v16 v23 k0_t5).toNat) ∧
  (∀ k0_t5 : Fin (k0_t5_loop v16 v23).trips, ∀ (k0_h9 : k0_cond9 v16 v23 k0_t5 = 1#1), ∀ (k0_h10 : k0_cond10 v16 v23 k0_t5 = 1#1), ∀ a, (k0_off35 v16 v23 k0_t5) a + S2048.size a ≤ S1638400.size a)
theorem k0_mult1_dvd : ∀ (v16 : BitVec 32) (v23 : BitVec 32) (k0_hw1 : k0_chk1 v16 v23), ∀ (k0_h1 : k0_cond1 v16 v23 = 1#1), 8 ∣ (k0_mult1 v16).toNat := fun v16 v23 k0_hw1 k0_h1 => k0_hw1.1 k0_h1
theorem k0_off2_inb : ∀ (v16 : BitVec 32) (v23 : BitVec 32) (k0_hw1 : k0_chk1 v16 v23), ∀ (k0_h1 : k0_cond1 v16 v23 = 1#1), ∀ a, (k0_off2 v16) a + S2048.size a ≤ S1638400.size a := fun v16 v23 k0_hw1 k0_h1 => k0_hw1.2.1 k0_h1
theorem k0_mult2_dvd : ∀ (v16 : BitVec 32) (v23 : BitVec 32) (k0_hw1 : k0_chk1 v16 v23), ∀ (k0_h2 : k0_cond2 v16 v23 = 1#1), 8 ∣ (k0_mult2 v16).toNat := fun v16 v23 k0_hw1 k0_h2 => k0_hw1.2.2.1 k0_h2
theorem k0_off3_inb : ∀ (v16 : BitVec 32) (v23 : BitVec 32) (k0_hw1 : k0_chk1 v16 v23), ∀ (k0_h2 : k0_cond2 v16 v23 = 1#1), ∀ a, (k0_off3 v16) a + S2048.size a ≤ S1638400.size a := fun v16 v23 k0_hw1 k0_h2 => k0_hw1.2.2.2.1 k0_h2
theorem k0_t2_ok : ∀ (v16 : BitVec 32) (v23 : BitVec 32) (k0_hw1 : k0_chk1 v16 v23), (k0_t2_loop v16 v23).OK := fun v16 v23 k0_hw1 => k0_hw1.2.2.2.2.1
theorem k0_mult3_dvd : ∀ (v16 : BitVec 32) (v23 : BitVec 32) (k0_hw1 : k0_chk1 v16 v23) (k0_t2 : Fin (k0_t2_loop v16 v23).trips), ∀ (k0_h3 : k0_cond3 v16 v23 k0_t2 = 1#1), 8 ∣ (k0_mult3 v16 v23 k0_t2).toNat := fun v16 v23 k0_hw1 k0_t2 k0_h3 => k0_hw1.2.2.2.2.2.1 k0_t2 k0_h3
theorem k0_mult4_dvd : ∀ (v16 : BitVec 32) (v23 : BitVec 32) (k0_hw1 : k0_chk1 v16 v23) (k0_t2 : Fin (k0_t2_loop v16 v23).trips), ∀ (k0_h3 : k0_cond3 v16 v23 k0_t2 = 1#1), 8 ∣ (k0_mult4 v16 v23 k0_t2).toNat := fun v16 v23 k0_hw1 k0_t2 k0_h3 => k0_hw1.2.2.2.2.2.2.1 k0_t2 k0_h3
theorem k0_off12_inb : ∀ (v16 : BitVec 32) (v23 : BitVec 32) (k0_hw1 : k0_chk1 v16 v23) (k0_t2 : Fin (k0_t2_loop v16 v23).trips), ∀ (k0_h3 : k0_cond3 v16 v23 k0_t2 = 1#1), ∀ a, (k0_off12 v16 v23 k0_t2) a + S2048.size a ≤ S1638400.size a := fun v16 v23 k0_hw1 k0_t2 k0_h3 => k0_hw1.2.2.2.2.2.2.2.1 k0_t2 k0_h3
theorem k0_mult5_dvd : ∀ (v16 : BitVec 32) (v23 : BitVec 32) (k0_hw1 : k0_chk1 v16 v23) (k0_t2 : Fin (k0_t2_loop v16 v23).trips), ∀ (k0_h3 : k0_cond3 v16 v23 k0_t2 = 1#1), ∀ (k0_h4 : k0_cond4 v16 v23 k0_t2 = 1#1), 8 ∣ (k0_mult5 v16 v23 k0_t2).toNat := fun v16 v23 k0_hw1 k0_t2 k0_h3 k0_h4 => k0_hw1.2.2.2.2.2.2.2.2.1 k0_t2 k0_h3 k0_h4
theorem k0_off17_inb : ∀ (v16 : BitVec 32) (v23 : BitVec 32) (k0_hw1 : k0_chk1 v16 v23) (k0_t2 : Fin (k0_t2_loop v16 v23).trips), ∀ (k0_h3 : k0_cond3 v16 v23 k0_t2 = 1#1), ∀ (k0_h4 : k0_cond4 v16 v23 k0_t2 = 1#1), ∀ a, (k0_off17 v16 v23 k0_t2) a + S2048.size a ≤ S1638400.size a := fun v16 v23 k0_hw1 k0_t2 k0_h3 k0_h4 => k0_hw1.2.2.2.2.2.2.2.2.2.1 k0_t2 k0_h3 k0_h4
theorem k0_mult6_dvd : ∀ (v16 : BitVec 32) (v23 : BitVec 32) (k0_hw1 : k0_chk1 v16 v23) (k0_t2 : Fin (k0_t2_loop v16 v23).trips), ∀ (k0_h5 : k0_cond5 v16 v23 k0_t2 = 1#1), 8 ∣ (k0_mult6 v16 v23 k0_t2).toNat := fun v16 v23 k0_hw1 k0_t2 k0_h5 => k0_hw1.2.2.2.2.2.2.2.2.2.2.1 k0_t2 k0_h5
theorem k0_mult7_dvd : ∀ (v16 : BitVec 32) (v23 : BitVec 32) (k0_hw1 : k0_chk1 v16 v23) (k0_t2 : Fin (k0_t2_loop v16 v23).trips), ∀ (k0_h5 : k0_cond5 v16 v23 k0_t2 = 1#1), 8 ∣ (k0_mult7 v16 v23 k0_t2).toNat := fun v16 v23 k0_hw1 k0_t2 k0_h5 => k0_hw1.2.2.2.2.2.2.2.2.2.2.2.1 k0_t2 k0_h5
theorem k0_off18_inb : ∀ (v16 : BitVec 32) (v23 : BitVec 32) (k0_hw1 : k0_chk1 v16 v23) (k0_t2 : Fin (k0_t2_loop v16 v23).trips), ∀ (k0_h5 : k0_cond5 v16 v23 k0_t2 = 1#1), ∀ a, (k0_off18 v16 v23 k0_t2) a + S2048.size a ≤ S1638400.size a := fun v16 v23 k0_hw1 k0_t2 k0_h5 => k0_hw1.2.2.2.2.2.2.2.2.2.2.2.2.1 k0_t2 k0_h5
theorem k0_mult8_dvd : ∀ (v16 : BitVec 32) (v23 : BitVec 32) (k0_hw1 : k0_chk1 v16 v23) (k0_t2 : Fin (k0_t2_loop v16 v23).trips), ∀ (k0_h5 : k0_cond5 v16 v23 k0_t2 = 1#1), ∀ (k0_h6 : k0_cond6 v16 v23 k0_t2 = 1#1), 8 ∣ (k0_mult8 v16 v23 k0_t2).toNat := fun v16 v23 k0_hw1 k0_t2 k0_h5 k0_h6 => k0_hw1.2.2.2.2.2.2.2.2.2.2.2.2.2.1 k0_t2 k0_h5 k0_h6
theorem k0_off23_inb : ∀ (v16 : BitVec 32) (v23 : BitVec 32) (k0_hw1 : k0_chk1 v16 v23) (k0_t2 : Fin (k0_t2_loop v16 v23).trips), ∀ (k0_h5 : k0_cond5 v16 v23 k0_t2 = 1#1), ∀ (k0_h6 : k0_cond6 v16 v23 k0_t2 = 1#1), ∀ a, (k0_off23 v16 v23 k0_t2) a + S2048.size a ≤ S1638400.size a := fun v16 v23 k0_hw1 k0_t2 k0_h5 k0_h6 => k0_hw1.2.2.2.2.2.2.2.2.2.2.2.2.2.2.1 k0_t2 k0_h5 k0_h6
theorem k0_t5_ok : ∀ (v16 : BitVec 32) (v23 : BitVec 32) (k0_hw1 : k0_chk1 v16 v23), (k0_t5_loop v16 v23).OK := fun v16 v23 k0_hw1 => k0_hw1.2.2.2.2.2.2.2.2.2.2.2.2.2.2.2.1
theorem k0_mult9_dvd : ∀ (v16 : BitVec 32) (v23 : BitVec 32) (k0_hw1 : k0_chk1 v16 v23) (k0_t5 : Fin (k0_t5_loop v16 v23).trips), ∀ (k0_h7 : k0_cond7 v16 v23 k0_t5 = 1#1), 8 ∣ (k0_mult9 v16 v23 k0_t5).toNat := fun v16 v23 k0_hw1 k0_t5 k0_h7 => k0_hw1.2.2.2.2.2.2.2.2.2.2.2.2.2.2.2.2.1 k0_t5 k0_h7
theorem k0_mult10_dvd : ∀ (v16 : BitVec 32) (v23 : BitVec 32) (k0_hw1 : k0_chk1 v16 v23) (k0_t5 : Fin (k0_t5_loop v16 v23).trips), ∀ (k0_h7 : k0_cond7 v16 v23 k0_t5 = 1#1), 8 ∣ (k0_mult10 v16 v23 k0_t5).toNat := fun v16 v23 k0_hw1 k0_t5 k0_h7 => k0_hw1.2.2.2.2.2.2.2.2.2.2.2.2.2.2.2.2.2.1 k0_t5 k0_h7
theorem k0_off24_inb : ∀ (v16 : BitVec 32) (v23 : BitVec 32) (k0_hw1 : k0_chk1 v16 v23) (k0_t5 : Fin (k0_t5_loop v16 v23).trips), ∀ (k0_h7 : k0_cond7 v16 v23 k0_t5 = 1#1), ∀ a, (k0_off24 v16 v23 k0_t5) a + S2048.size a ≤ S1638400.size a := fun v16 v23 k0_hw1 k0_t5 k0_h7 => k0_hw1.2.2.2.2.2.2.2.2.2.2.2.2.2.2.2.2.2.2.1 k0_t5 k0_h7
theorem k0_mult11_dvd : ∀ (v16 : BitVec 32) (v23 : BitVec 32) (k0_hw1 : k0_chk1 v16 v23) (k0_t5 : Fin (k0_t5_loop v16 v23).trips), ∀ (k0_h7 : k0_cond7 v16 v23 k0_t5 = 1#1), ∀ (k0_h8 : k0_cond8 v16 v23 k0_t5 = 1#1), 8 ∣ (k0_mult11 v16 v23 k0_t5).toNat := fun v16 v23 k0_hw1 k0_t5 k0_h7 k0_h8 => k0_hw1.2.2.2.2.2.2.2.2.2.2.2.2.2.2.2.2.2.2.2.1 k0_t5 k0_h7 k0_h8
theorem k0_off29_inb : ∀ (v16 : BitVec 32) (v23 : BitVec 32) (k0_hw1 : k0_chk1 v16 v23) (k0_t5 : Fin (k0_t5_loop v16 v23).trips), ∀ (k0_h7 : k0_cond7 v16 v23 k0_t5 = 1#1), ∀ (k0_h8 : k0_cond8 v16 v23 k0_t5 = 1#1), ∀ a, (k0_off29 v16 v23 k0_t5) a + S2048.size a ≤ S1638400.size a := fun v16 v23 k0_hw1 k0_t5 k0_h7 k0_h8 => k0_hw1.2.2.2.2.2.2.2.2.2.2.2.2.2.2.2.2.2.2.2.2.1 k0_t5 k0_h7 k0_h8
theorem k0_mult12_dvd : ∀ (v16 : BitVec 32) (v23 : BitVec 32) (k0_hw1 : k0_chk1 v16 v23) (k0_t5 : Fin (k0_t5_loop v16 v23).trips), ∀ (k0_h9 : k0_cond9 v16 v23 k0_t5 = 1#1), 8 ∣ (k0_mult12 v16 v23 k0_t5).toNat := fun v16 v23 k0_hw1 k0_t5 k0_h9 => k0_hw1.2.2.2.2.2.2.2.2.2.2.2.2.2.2.2.2.2.2.2.2.2.1 k0_t5 k0_h9
theorem k0_mult13_dvd : ∀ (v16 : BitVec 32) (v23 : BitVec 32) (k0_hw1 : k0_chk1 v16 v23) (k0_t5 : Fin (k0_t5_loop v16 v23).trips), ∀ (k0_h9 : k0_cond9 v16 v23 k0_t5 = 1#1), 8 ∣ (k0_mult13 v16 v23 k0_t5).toNat := fun v16 v23 k0_hw1 k0_t5 k0_h9 => k0_hw1.2.2.2.2.2.2.2.2.2.2.2.2.2.2.2.2.2.2.2.2.2.2.1 k0_t5 k0_h9
theorem k0_off30_inb : ∀ (v16 : BitVec 32) (v23 : BitVec 32) (k0_hw1 : k0_chk1 v16 v23) (k0_t5 : Fin (k0_t5_loop v16 v23).trips), ∀ (k0_h9 : k0_cond9 v16 v23 k0_t5 = 1#1), ∀ a, (k0_off30 v16 v23 k0_t5) a + S2048.size a ≤ S1638400.size a := fun v16 v23 k0_hw1 k0_t5 k0_h9 => k0_hw1.2.2.2.2.2.2.2.2.2.2.2.2.2.2.2.2.2.2.2.2.2.2.2.1 k0_t5 k0_h9
theorem k0_mult14_dvd : ∀ (v16 : BitVec 32) (v23 : BitVec 32) (k0_hw1 : k0_chk1 v16 v23) (k0_t5 : Fin (k0_t5_loop v16 v23).trips), ∀ (k0_h9 : k0_cond9 v16 v23 k0_t5 = 1#1), ∀ (k0_h10 : k0_cond10 v16 v23 k0_t5 = 1#1), 8 ∣ (k0_mult14 v16 v23 k0_t5).toNat := fun v16 v23 k0_hw1 k0_t5 k0_h9 k0_h10 => k0_hw1.2.2.2.2.2.2.2.2.2.2.2.2.2.2.2.2.2.2.2.2.2.2.2.2.1 k0_t5 k0_h9 k0_h10
theorem k0_off35_inb : ∀ (v16 : BitVec 32) (v23 : BitVec 32) (k0_hw1 : k0_chk1 v16 v23) (k0_t5 : Fin (k0_t5_loop v16 v23).trips), ∀ (k0_h9 : k0_cond9 v16 v23 k0_t5 = 1#1), ∀ (k0_h10 : k0_cond10 v16 v23 k0_t5 = 1#1), ∀ a, (k0_off35 v16 v23 k0_t5) a + S2048.size a ≤ S1638400.size a := fun v16 v23 k0_hw1 k0_t5 k0_h9 k0_h10 => k0_hw1.2.2.2.2.2.2.2.2.2.2.2.2.2.2.2.2.2.2.2.2.2.2.2.2.2 k0_t5 k0_h9 k0_h10

def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c0_i32_1 : BitVec 32 := 0#32
  let v7 : BitVec 32 := Scalar.addi v6 c0_i32_1
  let c0_i32_53 : BitVec 32 := 0#32
  ![v7.toNat, 0]
def k0_mult15 (v144 : BitVec 32) : BitVec 32 :=
  let c_m8_i32_62 : BitVec 32 := 4294967288#32
  let v152 : BitVec 32 := Scalar.andi v144 c_m8_i32_62
  let c0_i32_128 : BitVec 32 := 0#32
  let v271 : BitVec 32 := Scalar.addi v152 c0_i32_128
  let c1636352_i32 : BitVec 32 := 1636352#32
  let v272 : BitVec 32 := Scalar.minsi v271 c1636352_i32
  v272
def k0_cond11 (v144 : BitVec 32) (v151 : BitVec 32) : BitVec 1 :=
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c0_i32_71 : BitVec 32 := 0#32
  let v172 : BitVec 1 := Scalar.cmpi .sgt v171 c0_i32_71
  let v173 : BitVec 32 := Scalar.extui v172
  let c0_i32_72 : BitVec 32 := 0#32
  let v174 : BitVec 1 := Scalar.cmpi .ne v173 c0_i32_72
  v174

def k0_off37 (v144 : BitVec 32) : Fin 1 → Nat :=
  let c_m8_i32_62 : BitVec 32 := 4294967288#32
  let v152 : BitVec 32 := Scalar.andi v144 c_m8_i32_62
  let c0_i32_128 : BitVec 32 := 0#32
  let v271 : BitVec 32 := Scalar.addi v152 c0_i32_128
  let c1636352_i32 : BitVec 32 := 1636352#32
  let v272 : BitVec 32 := Scalar.minsi v271 c1636352_i32
  let v273 : BitVec 32 := v272
  ![v273.toNat]
def k0_mult16 (v144 : BitVec 32) : BitVec 32 :=
  let c_m8_i32_62 : BitVec 32 := 4294967288#32
  let v152 : BitVec 32 := Scalar.andi v144 c_m8_i32_62
  let c2048_i32_128 : BitVec 32 := 2048#32
  let v271 : BitVec 32 := Scalar.addi v152 c2048_i32_128
  let c1636352_i32 : BitVec 32 := 1636352#32
  let v272 : BitVec 32 := Scalar.minsi v271 c1636352_i32
  v272
def k0_cond12 (v144 : BitVec 32) (v151 : BitVec 32) : BitVec 1 :=
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_73 : BitVec 32 := 1#32
  let v175 : BitVec 1 := Scalar.cmpi .sgt v171 c1_i32_73
  let v176 : BitVec 32 := Scalar.extui v175
  let c0_i32_74 : BitVec 32 := 0#32
  let v177 : BitVec 1 := Scalar.cmpi .ne v176 c0_i32_74
  v177

def k0_off38 (v144 : BitVec 32) : Fin 1 → Nat :=
  let c_m8_i32_62 : BitVec 32 := 4294967288#32
  let v152 : BitVec 32 := Scalar.andi v144 c_m8_i32_62
  let c2048_i32_128 : BitVec 32 := 2048#32
  let v271 : BitVec 32 := Scalar.addi v152 c2048_i32_128
  let c1636352_i32 : BitVec 32 := 1636352#32
  let v272 : BitVec 32 := Scalar.minsi v271 c1636352_i32
  let v273 : BitVec 32 := v272
  ![v273.toNat]
@[reducible] def k0_t8_loop : Scf.Loop 32 :=
  let c0_i32_76 : BitVec 32 := 0#32
  let c128_i32_77 : BitVec 32 := 128#32
  let v178 : BitVec 32 := Scalar.addi c0_i32_76 c128_i32_77
  let c1_i32_78 : BitVec 32 := 1#32
  ⟨c0_i32_76, v178, c1_i32_78⟩
def k0_off39 (k0_t8 : Fin k0_t8_loop.trips) (c0_i32_129 : BitVec 32) : Fin 2 → Nat :=
  let c0_i32_130 : BitVec 32 := 0#32
  let v274 : Index := Scalar.indexCast c0_i32_130
  let c0_i32_76 : BitVec 32 := 0#32
  let c1_i32_78 : BitVec 32 := 1#32
  let arg19 : BitVec 32 := Scf.iv c0_i32_76 c1_i32_78 k0_t8
  let c2_i32_128 : BitVec 32 := 2#32
  let v271 : BitVec 32 := Scalar.muli arg19 c2_i32_128
  let v272 : BitVec 32 := Scalar.addi v271 c0_i32_129
  let c16_i32 : BitVec 32 := 16#32
  let v273 : BitVec 32 := Scalar.muli v272 c16_i32
  let v275 : Index := Scalar.indexCast v273
  ![0, v275.toNat]
def k0_off40 (k0_t8 : Fin k0_t8_loop.trips) (c0_i32_136 : BitVec 32) : Fin 2 → Nat :=
  let c1_i32_138 : BitVec 32 := 1#32
  let v286 : Index := Scalar.indexCast c1_i32_138
  let c0_i32_76 : BitVec 32 := 0#32
  let c1_i32_78 : BitVec 32 := 1#32
  let arg19 : BitVec 32 := Scf.iv c0_i32_76 c1_i32_78 k0_t8
  let c2_i32_135 : BitVec 32 := 2#32
  let v283 : BitVec 32 := Scalar.muli arg19 c2_i32_135
  let v284 : BitVec 32 := Scalar.addi v283 c0_i32_136
  let c16_i32_137 : BitVec 32 := 16#32
  let v285 : BitVec 32 := Scalar.muli v284 c16_i32_137
  let v287 : Index := Scalar.indexCast v285
  ![1, v287.toNat]
def k0_off41 (k0_t8 : Fin k0_t8_loop.trips) (c0_i32_144 : BitVec 32) : Fin 2 → Nat :=
  let c2_i32_146 : BitVec 32 := 2#32
  let v298 : Index := Scalar.indexCast c2_i32_146
  let c0_i32_76 : BitVec 32 := 0#32
  let c1_i32_78 : BitVec 32 := 1#32
  let arg19 : BitVec 32 := Scf.iv c0_i32_76 c1_i32_78 k0_t8
  let c2_i32_143 : BitVec 32 := 2#32
  let v295 : BitVec 32 := Scalar.muli arg19 c2_i32_143
  let v296 : BitVec 32 := Scalar.addi v295 c0_i32_144
  let c16_i32_145 : BitVec 32 := 16#32
  let v297 : BitVec 32 := Scalar.muli v296 c16_i32_145
  let v299 : Index := Scalar.indexCast v297
  ![2, v299.toNat]
def k0_off42 (k0_t8 : Fin k0_t8_loop.trips) (c0_i32_152 : BitVec 32) : Fin 2 → Nat :=
  let c3_i32_154 : BitVec 32 := 3#32
  let v310 : Index := Scalar.indexCast c3_i32_154
  let c0_i32_76 : BitVec 32 := 0#32
  let c1_i32_78 : BitVec 32 := 1#32
  let arg19 : BitVec 32 := Scf.iv c0_i32_76 c1_i32_78 k0_t8
  let c2_i32_151 : BitVec 32 := 2#32
  let v307 : BitVec 32 := Scalar.muli arg19 c2_i32_151
  let v308 : BitVec 32 := Scalar.addi v307 c0_i32_152
  let c16_i32_153 : BitVec 32 := 16#32
  let v309 : BitVec 32 := Scalar.muli v308 c16_i32_153
  let v311 : Index := Scalar.indexCast v309
  ![3, v311.toNat]
def k0_off43 (k0_t8 : Fin k0_t8_loop.trips) (c0_i32_160 : BitVec 32) : Fin 2 → Nat :=
  let c4_i32_162 : BitVec 32 := 4#32
  let v322 : Index := Scalar.indexCast c4_i32_162
  let c0_i32_76 : BitVec 32 := 0#32
  let c1_i32_78 : BitVec 32 := 1#32
  let arg19 : BitVec 32 := Scf.iv c0_i32_76 c1_i32_78 k0_t8
  let c2_i32_159 : BitVec 32 := 2#32
  let v319 : BitVec 32 := Scalar.muli arg19 c2_i32_159
  let v320 : BitVec 32 := Scalar.addi v319 c0_i32_160
  let c16_i32_161 : BitVec 32 := 16#32
  let v321 : BitVec 32 := Scalar.muli v320 c16_i32_161
  let v323 : Index := Scalar.indexCast v321
  ![4, v323.toNat]
def k0_off44 (k0_t8 : Fin k0_t8_loop.trips) (c0_i32_168 : BitVec 32) : Fin 2 → Nat :=
  let c5_i32_170 : BitVec 32 := 5#32
  let v334 : Index := Scalar.indexCast c5_i32_170
  let c0_i32_76 : BitVec 32 := 0#32
  let c1_i32_78 : BitVec 32 := 1#32
  let arg19 : BitVec 32 := Scf.iv c0_i32_76 c1_i32_78 k0_t8
  let c2_i32_167 : BitVec 32 := 2#32
  let v331 : BitVec 32 := Scalar.muli arg19 c2_i32_167
  let v332 : BitVec 32 := Scalar.addi v331 c0_i32_168
  let c16_i32_169 : BitVec 32 := 16#32
  let v333 : BitVec 32 := Scalar.muli v332 c16_i32_169
  let v335 : Index := Scalar.indexCast v333
  ![5, v335.toNat]
def k0_off45 (k0_t8 : Fin k0_t8_loop.trips) (c0_i32_176 : BitVec 32) : Fin 2 → Nat :=
  let c6_i32_178 : BitVec 32 := 6#32
  let v346 : Index := Scalar.indexCast c6_i32_178
  let c0_i32_76 : BitVec 32 := 0#32
  let c1_i32_78 : BitVec 32 := 1#32
  let arg19 : BitVec 32 := Scf.iv c0_i32_76 c1_i32_78 k0_t8
  let c2_i32_175 : BitVec 32 := 2#32
  let v343 : BitVec 32 := Scalar.muli arg19 c2_i32_175
  let v344 : BitVec 32 := Scalar.addi v343 c0_i32_176
  let c16_i32_177 : BitVec 32 := 16#32
  let v345 : BitVec 32 := Scalar.muli v344 c16_i32_177
  let v347 : Index := Scalar.indexCast v345
  ![6, v347.toNat]
def k0_off46 (k0_t8 : Fin k0_t8_loop.trips) (c0_i32_184 : BitVec 32) : Fin 2 → Nat :=
  let c7_i32_186 : BitVec 32 := 7#32
  let v358 : Index := Scalar.indexCast c7_i32_186
  let c0_i32_76 : BitVec 32 := 0#32
  let c1_i32_78 : BitVec 32 := 1#32
  let arg19 : BitVec 32 := Scf.iv c0_i32_76 c1_i32_78 k0_t8
  let c2_i32_183 : BitVec 32 := 2#32
  let v355 : BitVec 32 := Scalar.muli arg19 c2_i32_183
  let v356 : BitVec 32 := Scalar.addi v355 c0_i32_184
  let c16_i32_185 : BitVec 32 := 16#32
  let v357 : BitVec 32 := Scalar.muli v356 c16_i32_185
  let v359 : Index := Scalar.indexCast v357
  ![7, v359.toNat]
@[reducible] def k0_t9_loop (v144 : BitVec 32) (v151 : BitVec 32) : Scf.Loop 32 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_115 : BitVec 32 := 1#32
  ⟨c0_i32_112, v258, c1_i32_115⟩
def k0_mult17 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v152 v281
  let c1636352_i32 : BitVec 32 := 1636352#32
  let v283 : BitVec 32 := Scalar.minsi v282 c1636352_i32
  v283
def k0_cond13 (v144 : BitVec 32) (v151 : BitVec 32) (k0_t9 : Fin (k0_t9_loop v144 v151).trips) : BitVec 1 :=
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v273 : BitVec 1 := Scalar.cmpi .slt v272 v171
  let v274 : BitVec 32 := Scalar.extui v273
  let c0_i32_130 : BitVec 32 := 0#32
  let v275 : BitVec 1 := Scalar.cmpi .ne v274 c0_i32_130
  v275

def k0_mult18 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  v294
def k0_off47 (v144 : BitVec 32) (v151 : BitVec 32) (k0_t9 : Fin (k0_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k0_t10_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off48 (k0_t10 : Fin k0_t10_loop.trips) : Fin 1 → Nat :=
  let c0_i32_142 : BitVec 32 := 0#32
  let c1_i32_143 : BitVec 32 := 1#32
  let arg21 : BitVec 32 := Scf.iv c0_i32_142 c1_i32_143 k0_t10
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk19 (v144 : BitVec 32) (v151 : BitVec 32) (k0_t9 : Fin (k0_t9_loop v144 v151).trips) (v313 : IVec S16 32) (v371 : IVec S16 32) : Prop :=
  (∀ (k0_h13 : k0_cond13 v144 v151 k0_t9 = 1#1), ∀ a x, ((![v371, v313] : Fin 2 → IVec S16 32) a x).toNat < S8x4096.size a)
theorem k0_idx17_inb : ∀ (v144 : BitVec 32) (v151 : BitVec 32) (k0_t9 : Fin (k0_t9_loop v144 v151).trips) (v313 : IVec S16 32) (v371 : IVec S16 32) (k0_hw19 : k0_chk19 v144 v151 k0_t9 v313 v371), ∀ (k0_h13 : k0_cond13 v144 v151 k0_t9 = 1#1), ∀ a x, ((![v371, v313] : Fin 2 → IVec S16 32) a x).toNat < S8x4096.size a := fun v144 v151 k0_t9 v313 v371 k0_hw19 k0_h13 => k0_hw19 k0_h13
def k0_off49 (k0_t10 : Fin k0_t10_loop.trips) : Fin 1 → Nat :=
  let c0_i32_142 : BitVec 32 := 0#32
  let c1_i32_143 : BitVec 32 := 1#32
  let arg21 : BitVec 32 := Scf.iv c0_i32_142 c1_i32_143 k0_t10
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk20 (v144 : BitVec 32) (v151 : BitVec 32) (k0_t9 : Fin (k0_t9_loop v144 v151).trips) (v379 : IVec S16 32) (v437 : IVec S16 32) : Prop :=
  (∀ (k0_h13 : k0_cond13 v144 v151 k0_t9 = 1#1), ∀ a x, ((![v437, v379] : Fin 2 → IVec S16 32) a x).toNat < S8x4096.size a)
theorem k0_idx18_inb : ∀ (v144 : BitVec 32) (v151 : BitVec 32) (k0_t9 : Fin (k0_t9_loop v144 v151).trips) (v379 : IVec S16 32) (v437 : IVec S16 32) (k0_hw20 : k0_chk20 v144 v151 k0_t9 v379 v437), ∀ (k0_h13 : k0_cond13 v144 v151 k0_t9 = 1#1), ∀ a x, ((![v437, v379] : Fin 2 → IVec S16 32) a x).toNat < S8x4096.size a := fun v144 v151 k0_t9 v379 v437 k0_hw20 k0_h13 => k0_hw20 k0_h13
def k0_off50 (k0_t10 : Fin k0_t10_loop.trips) : Fin 1 → Nat :=
  let c0_i32_142 : BitVec 32 := 0#32
  let c1_i32_143 : BitVec 32 := 1#32
  let arg21 : BitVec 32 := Scf.iv c0_i32_142 c1_i32_143 k0_t10
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk21 (v144 : BitVec 32) (v151 : BitVec 32) (k0_t9 : Fin (k0_t9_loop v144 v151).trips) (v445 : IVec S16 32) (v503 : IVec S16 32) : Prop :=
  (∀ (k0_h13 : k0_cond13 v144 v151 k0_t9 = 1#1), ∀ a x, ((![v503, v445] : Fin 2 → IVec S16 32) a x).toNat < S8x4096.size a)
theorem k0_idx19_inb : ∀ (v144 : BitVec 32) (v151 : BitVec 32) (k0_t9 : Fin (k0_t9_loop v144 v151).trips) (v445 : IVec S16 32) (v503 : IVec S16 32) (k0_hw21 : k0_chk21 v144 v151 k0_t9 v445 v503), ∀ (k0_h13 : k0_cond13 v144 v151 k0_t9 = 1#1), ∀ a x, ((![v503, v445] : Fin 2 → IVec S16 32) a x).toNat < S8x4096.size a := fun v144 v151 k0_t9 v445 v503 k0_hw21 k0_h13 => k0_hw21 k0_h13
def k0_off51 (k0_t10 : Fin k0_t10_loop.trips) : Fin 1 → Nat :=
  let c0_i32_142 : BitVec 32 := 0#32
  let c1_i32_143 : BitVec 32 := 1#32
  let arg21 : BitVec 32 := Scf.iv c0_i32_142 c1_i32_143 k0_t10
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk22 (v144 : BitVec 32) (v151 : BitVec 32) (k0_t9 : Fin (k0_t9_loop v144 v151).trips) (v511 : IVec S16 32) (v569 : IVec S16 32) : Prop :=
  (∀ (k0_h13 : k0_cond13 v144 v151 k0_t9 = 1#1), ∀ a x, ((![v569, v511] : Fin 2 → IVec S16 32) a x).toNat < S8x4096.size a)
theorem k0_idx20_inb : ∀ (v144 : BitVec 32) (v151 : BitVec 32) (k0_t9 : Fin (k0_t9_loop v144 v151).trips) (v511 : IVec S16 32) (v569 : IVec S16 32) (k0_hw22 : k0_chk22 v144 v151 k0_t9 v511 v569), ∀ (k0_h13 : k0_cond13 v144 v151 k0_t9 = 1#1), ∀ a x, ((![v569, v511] : Fin 2 → IVec S16 32) a x).toNat < S8x4096.size a := fun v144 v151 k0_t9 v511 v569 k0_hw22 k0_h13 => k0_hw22 k0_h13
def k0_mult19 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k0_cond14 (v144 : BitVec 32) (v151 : BitVec 32) (k0_t9 : Fin (k0_t9_loop v144 v151).trips) : BitVec 1 :=
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v303 : BitVec 1 := Scalar.cmpi .slt v302 v171
  let v304 : BitVec 32 := Scalar.extui v303
  let c0_i32_146 : BitVec 32 := 0#32
  let v305 : BitVec 1 := Scalar.cmpi .ne v304 c0_i32_146
  v305

def k0_off52 (v144 : BitVec 32) (v151 : BitVec 32) (k0_t9 : Fin (k0_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
def k0_mult20 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v152 v281
  let c1636352_i32 : BitVec 32 := 1636352#32
  let v283 : BitVec 32 := Scalar.minsi v282 c1636352_i32
  v283
def k0_cond15 (v144 : BitVec 32) (v151 : BitVec 32) (k0_t9 : Fin (k0_t9_loop v144 v151).trips) : BitVec 1 :=
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v278 : BitVec 1 := Scalar.cmpi .slt v277 v171
  let v279 : BitVec 32 := Scalar.extui v278
  let c0_i32_133 : BitVec 32 := 0#32
  let v280 : BitVec 1 := Scalar.cmpi .ne v279 c0_i32_133
  v280

def k0_mult21 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  v294
def k0_off53 (v144 : BitVec 32) (v151 : BitVec 32) (k0_t9 : Fin (k0_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k0_t11_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off54 (k0_t11 : Fin k0_t11_loop.trips) : Fin 1 → Nat :=
  let c0_i32_142 : BitVec 32 := 0#32
  let c1_i32_143 : BitVec 32 := 1#32
  let arg21 : BitVec 32 := Scf.iv c0_i32_142 c1_i32_143 k0_t11
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk23 (v144 : BitVec 32) (v151 : BitVec 32) (k0_t9 : Fin (k0_t9_loop v144 v151).trips) (v313 : IVec S16 32) (v371 : IVec S16 32) : Prop :=
  (∀ (k0_h15 : k0_cond15 v144 v151 k0_t9 = 1#1), ∀ a x, ((![v371, v313] : Fin 2 → IVec S16 32) a x).toNat < S8x4096.size a)
theorem k0_idx21_inb : ∀ (v144 : BitVec 32) (v151 : BitVec 32) (k0_t9 : Fin (k0_t9_loop v144 v151).trips) (v313 : IVec S16 32) (v371 : IVec S16 32) (k0_hw23 : k0_chk23 v144 v151 k0_t9 v313 v371), ∀ (k0_h15 : k0_cond15 v144 v151 k0_t9 = 1#1), ∀ a x, ((![v371, v313] : Fin 2 → IVec S16 32) a x).toNat < S8x4096.size a := fun v144 v151 k0_t9 v313 v371 k0_hw23 k0_h15 => k0_hw23 k0_h15
def k0_off55 (k0_t11 : Fin k0_t11_loop.trips) : Fin 1 → Nat :=
  let c0_i32_142 : BitVec 32 := 0#32
  let c1_i32_143 : BitVec 32 := 1#32
  let arg21 : BitVec 32 := Scf.iv c0_i32_142 c1_i32_143 k0_t11
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk24 (v144 : BitVec 32) (v151 : BitVec 32) (k0_t9 : Fin (k0_t9_loop v144 v151).trips) (v379 : IVec S16 32) (v437 : IVec S16 32) : Prop :=
  (∀ (k0_h15 : k0_cond15 v144 v151 k0_t9 = 1#1), ∀ a x, ((![v437, v379] : Fin 2 → IVec S16 32) a x).toNat < S8x4096.size a)
theorem k0_idx22_inb : ∀ (v144 : BitVec 32) (v151 : BitVec 32) (k0_t9 : Fin (k0_t9_loop v144 v151).trips) (v379 : IVec S16 32) (v437 : IVec S16 32) (k0_hw24 : k0_chk24 v144 v151 k0_t9 v379 v437), ∀ (k0_h15 : k0_cond15 v144 v151 k0_t9 = 1#1), ∀ a x, ((![v437, v379] : Fin 2 → IVec S16 32) a x).toNat < S8x4096.size a := fun v144 v151 k0_t9 v379 v437 k0_hw24 k0_h15 => k0_hw24 k0_h15
def k0_off56 (k0_t11 : Fin k0_t11_loop.trips) : Fin 1 → Nat :=
  let c0_i32_142 : BitVec 32 := 0#32
  let c1_i32_143 : BitVec 32 := 1#32
  let arg21 : BitVec 32 := Scf.iv c0_i32_142 c1_i32_143 k0_t11
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk25 (v144 : BitVec 32) (v151 : BitVec 32) (k0_t9 : Fin (k0_t9_loop v144 v151).trips) (v445 : IVec S16 32) (v503 : IVec S16 32) : Prop :=
  (∀ (k0_h15 : k0_cond15 v144 v151 k0_t9 = 1#1), ∀ a x, ((![v503, v445] : Fin 2 → IVec S16 32) a x).toNat < S8x4096.size a)
theorem k0_idx23_inb : ∀ (v144 : BitVec 32) (v151 : BitVec 32) (k0_t9 : Fin (k0_t9_loop v144 v151).trips) (v445 : IVec S16 32) (v503 : IVec S16 32) (k0_hw25 : k0_chk25 v144 v151 k0_t9 v445 v503), ∀ (k0_h15 : k0_cond15 v144 v151 k0_t9 = 1#1), ∀ a x, ((![v503, v445] : Fin 2 → IVec S16 32) a x).toNat < S8x4096.size a := fun v144 v151 k0_t9 v445 v503 k0_hw25 k0_h15 => k0_hw25 k0_h15
def k0_off57 (k0_t11 : Fin k0_t11_loop.trips) : Fin 1 → Nat :=
  let c0_i32_142 : BitVec 32 := 0#32
  let c1_i32_143 : BitVec 32 := 1#32
  let arg21 : BitVec 32 := Scf.iv c0_i32_142 c1_i32_143 k0_t11
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk26 (v144 : BitVec 32) (v151 : BitVec 32) (k0_t9 : Fin (k0_t9_loop v144 v151).trips) (v511 : IVec S16 32) (v569 : IVec S16 32) : Prop :=
  (∀ (k0_h15 : k0_cond15 v144 v151 k0_t9 = 1#1), ∀ a x, ((![v569, v511] : Fin 2 → IVec S16 32) a x).toNat < S8x4096.size a)
theorem k0_idx24_inb : ∀ (v144 : BitVec 32) (v151 : BitVec 32) (k0_t9 : Fin (k0_t9_loop v144 v151).trips) (v511 : IVec S16 32) (v569 : IVec S16 32) (k0_hw26 : k0_chk26 v144 v151 k0_t9 v511 v569), ∀ (k0_h15 : k0_cond15 v144 v151 k0_t9 = 1#1), ∀ a x, ((![v569, v511] : Fin 2 → IVec S16 32) a x).toNat < S8x4096.size a := fun v144 v151 k0_t9 v511 v569 k0_hw26 k0_h15 => k0_hw26 k0_h15
def k0_mult22 (v144 : BitVec 32) (v151 : BitVec 32) (k0_t9 : Fin (k0_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k0_cond16 (v144 : BitVec 32) (v151 : BitVec 32) (k0_t9 : Fin (k0_t9_loop v144 v151).trips) : BitVec 1 :=
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v303 : BitVec 1 := Scalar.cmpi .slt v302 v171
  let v304 : BitVec 32 := Scalar.extui v303
  let c0_i32_146 : BitVec 32 := 0#32
  let v305 : BitVec 1 := Scalar.cmpi .ne v304 c0_i32_146
  v305

def k0_off58 (v144 : BitVec 32) (v151 : BitVec 32) (k0_t9 : Fin (k0_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k0_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
@[reducible] def k0_t12_loop (v144 : BitVec 32) (v151 : BitVec 32) : Scf.Loop 32 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let v255 : BitVec 32 := Scalar.addi c0_i32_112 v254
  let c1_i32_116 : BitVec 32 := 1#32
  ⟨v258, v255, c1_i32_116⟩
def k0_mult23 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v152 v281
  let c1636352_i32 : BitVec 32 := 1636352#32
  let v283 : BitVec 32 := Scalar.minsi v282 c1636352_i32
  v283
def k0_cond17 (v144 : BitVec 32) (v151 : BitVec 32) (k0_t12 : Fin (k0_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let v273 : BitVec 1 := Scalar.cmpi .slt v272 v171
  let v274 : BitVec 32 := Scalar.extui v273
  let c0_i32_130 : BitVec 32 := 0#32
  let v275 : BitVec 1 := Scalar.cmpi .ne v274 c0_i32_130
  v275

def k0_mult24 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  v294
def k0_off59 (v144 : BitVec 32) (v151 : BitVec 32) (k0_t12 : Fin (k0_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k0_t13_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off60 (k0_t13 : Fin k0_t13_loop.trips) : Fin 1 → Nat :=
  let c0_i32_142 : BitVec 32 := 0#32
  let c1_i32_143 : BitVec 32 := 1#32
  let arg21 : BitVec 32 := Scf.iv c0_i32_142 c1_i32_143 k0_t13
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk27 (v144 : BitVec 32) (v151 : BitVec 32) (k0_t12 : Fin (k0_t12_loop v144 v151).trips) (v313 : IVec S16 32) (v371 : IVec S16 32) : Prop :=
  (∀ (k0_h17 : k0_cond17 v144 v151 k0_t12 = 1#1), ∀ a x, ((![v371, v313] : Fin 2 → IVec S16 32) a x).toNat < S8x4096.size a)
theorem k0_idx25_inb : ∀ (v144 : BitVec 32) (v151 : BitVec 32) (k0_t12 : Fin (k0_t12_loop v144 v151).trips) (v313 : IVec S16 32) (v371 : IVec S16 32) (k0_hw27 : k0_chk27 v144 v151 k0_t12 v313 v371), ∀ (k0_h17 : k0_cond17 v144 v151 k0_t12 = 1#1), ∀ a x, ((![v371, v313] : Fin 2 → IVec S16 32) a x).toNat < S8x4096.size a := fun v144 v151 k0_t12 v313 v371 k0_hw27 k0_h17 => k0_hw27 k0_h17
def k0_off61 (k0_t13 : Fin k0_t13_loop.trips) : Fin 1 → Nat :=
  let c0_i32_142 : BitVec 32 := 0#32
  let c1_i32_143 : BitVec 32 := 1#32
  let arg21 : BitVec 32 := Scf.iv c0_i32_142 c1_i32_143 k0_t13
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk28 (v144 : BitVec 32) (v151 : BitVec 32) (k0_t12 : Fin (k0_t12_loop v144 v151).trips) (v379 : IVec S16 32) (v437 : IVec S16 32) : Prop :=
  (∀ (k0_h17 : k0_cond17 v144 v151 k0_t12 = 1#1), ∀ a x, ((![v437, v379] : Fin 2 → IVec S16 32) a x).toNat < S8x4096.size a)
theorem k0_idx26_inb : ∀ (v144 : BitVec 32) (v151 : BitVec 32) (k0_t12 : Fin (k0_t12_loop v144 v151).trips) (v379 : IVec S16 32) (v437 : IVec S16 32) (k0_hw28 : k0_chk28 v144 v151 k0_t12 v379 v437), ∀ (k0_h17 : k0_cond17 v144 v151 k0_t12 = 1#1), ∀ a x, ((![v437, v379] : Fin 2 → IVec S16 32) a x).toNat < S8x4096.size a := fun v144 v151 k0_t12 v379 v437 k0_hw28 k0_h17 => k0_hw28 k0_h17
def k0_off62 (k0_t13 : Fin k0_t13_loop.trips) : Fin 1 → Nat :=
  let c0_i32_142 : BitVec 32 := 0#32
  let c1_i32_143 : BitVec 32 := 1#32
  let arg21 : BitVec 32 := Scf.iv c0_i32_142 c1_i32_143 k0_t13
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk29 (v144 : BitVec 32) (v151 : BitVec 32) (k0_t12 : Fin (k0_t12_loop v144 v151).trips) (v445 : IVec S16 32) (v503 : IVec S16 32) : Prop :=
  (∀ (k0_h17 : k0_cond17 v144 v151 k0_t12 = 1#1), ∀ a x, ((![v503, v445] : Fin 2 → IVec S16 32) a x).toNat < S8x4096.size a)
theorem k0_idx27_inb : ∀ (v144 : BitVec 32) (v151 : BitVec 32) (k0_t12 : Fin (k0_t12_loop v144 v151).trips) (v445 : IVec S16 32) (v503 : IVec S16 32) (k0_hw29 : k0_chk29 v144 v151 k0_t12 v445 v503), ∀ (k0_h17 : k0_cond17 v144 v151 k0_t12 = 1#1), ∀ a x, ((![v503, v445] : Fin 2 → IVec S16 32) a x).toNat < S8x4096.size a := fun v144 v151 k0_t12 v445 v503 k0_hw29 k0_h17 => k0_hw29 k0_h17
def k0_off63 (k0_t13 : Fin k0_t13_loop.trips) : Fin 1 → Nat :=
  let c0_i32_142 : BitVec 32 := 0#32
  let c1_i32_143 : BitVec 32 := 1#32
  let arg21 : BitVec 32 := Scf.iv c0_i32_142 c1_i32_143 k0_t13
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk30 (v144 : BitVec 32) (v151 : BitVec 32) (k0_t12 : Fin (k0_t12_loop v144 v151).trips) (v511 : IVec S16 32) (v569 : IVec S16 32) : Prop :=
  (∀ (k0_h17 : k0_cond17 v144 v151 k0_t12 = 1#1), ∀ a x, ((![v569, v511] : Fin 2 → IVec S16 32) a x).toNat < S8x4096.size a)
theorem k0_idx28_inb : ∀ (v144 : BitVec 32) (v151 : BitVec 32) (k0_t12 : Fin (k0_t12_loop v144 v151).trips) (v511 : IVec S16 32) (v569 : IVec S16 32) (k0_hw30 : k0_chk30 v144 v151 k0_t12 v511 v569), ∀ (k0_h17 : k0_cond17 v144 v151 k0_t12 = 1#1), ∀ a x, ((![v569, v511] : Fin 2 → IVec S16 32) a x).toNat < S8x4096.size a := fun v144 v151 k0_t12 v511 v569 k0_hw30 k0_h17 => k0_hw30 k0_h17
def k0_mult25 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k0_cond18 (v144 : BitVec 32) (v151 : BitVec 32) (k0_t12 : Fin (k0_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let v303 : BitVec 1 := Scalar.cmpi .slt v302 v171
  let v304 : BitVec 32 := Scalar.extui v303
  let c0_i32_146 : BitVec 32 := 0#32
  let v305 : BitVec 1 := Scalar.cmpi .ne v304 c0_i32_146
  v305

def k0_off64 (v144 : BitVec 32) (v151 : BitVec 32) (k0_t12 : Fin (k0_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
def k0_mult26 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v152 v281
  let c1636352_i32 : BitVec 32 := 1636352#32
  let v283 : BitVec 32 := Scalar.minsi v282 c1636352_i32
  v283
def k0_cond19 (v144 : BitVec 32) (v151 : BitVec 32) (k0_t12 : Fin (k0_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let v278 : BitVec 1 := Scalar.cmpi .slt v277 v171
  let v279 : BitVec 32 := Scalar.extui v278
  let c0_i32_133 : BitVec 32 := 0#32
  let v280 : BitVec 1 := Scalar.cmpi .ne v279 c0_i32_133
  v280

def k0_mult27 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  v294
def k0_off65 (v144 : BitVec 32) (v151 : BitVec 32) (k0_t12 : Fin (k0_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k0_t14_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k0_off66 (k0_t14 : Fin k0_t14_loop.trips) : Fin 1 → Nat :=
  let c0_i32_142 : BitVec 32 := 0#32
  let c1_i32_143 : BitVec 32 := 1#32
  let arg21 : BitVec 32 := Scf.iv c0_i32_142 c1_i32_143 k0_t14
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k0_chk31 (v144 : BitVec 32) (v151 : BitVec 32) (k0_t12 : Fin (k0_t12_loop v144 v151).trips) (v313 : IVec S16 32) (v371 : IVec S16 32) : Prop :=
  (∀ (k0_h19 : k0_cond19 v144 v151 k0_t12 = 1#1), ∀ a x, ((![v371, v313] : Fin 2 → IVec S16 32) a x).toNat < S8x4096.size a)
theorem k0_idx29_inb : ∀ (v144 : BitVec 32) (v151 : BitVec 32) (k0_t12 : Fin (k0_t12_loop v144 v151).trips) (v313 : IVec S16 32) (v371 : IVec S16 32) (k0_hw31 : k0_chk31 v144 v151 k0_t12 v313 v371), ∀ (k0_h19 : k0_cond19 v144 v151 k0_t12 = 1#1), ∀ a x, ((![v371, v313] : Fin 2 → IVec S16 32) a x).toNat < S8x4096.size a := fun v144 v151 k0_t12 v313 v371 k0_hw31 k0_h19 => k0_hw31 k0_h19
def k0_off67 (k0_t14 : Fin k0_t14_loop.trips) : Fin 1 → Nat :=
  let c0_i32_142 : BitVec 32 := 0#32
  let c1_i32_143 : BitVec 32 := 1#32
  let arg21 : BitVec 32 := Scf.iv c0_i32_142 c1_i32_143 k0_t14
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k0_chk32 (v144 : BitVec 32) (v151 : BitVec 32) (k0_t12 : Fin (k0_t12_loop v144 v151).trips) (v379 : IVec S16 32) (v437 : IVec S16 32) : Prop :=
  (∀ (k0_h19 : k0_cond19 v144 v151 k0_t12 = 1#1), ∀ a x, ((![v437, v379] : Fin 2 → IVec S16 32) a x).toNat < S8x4096.size a)
theorem k0_idx30_inb : ∀ (v144 : BitVec 32) (v151 : BitVec 32) (k0_t12 : Fin (k0_t12_loop v144 v151).trips) (v379 : IVec S16 32) (v437 : IVec S16 32) (k0_hw32 : k0_chk32 v144 v151 k0_t12 v379 v437), ∀ (k0_h19 : k0_cond19 v144 v151 k0_t12 = 1#1), ∀ a x, ((![v437, v379] : Fin 2 → IVec S16 32) a x).toNat < S8x4096.size a := fun v144 v151 k0_t12 v379 v437 k0_hw32 k0_h19 => k0_hw32 k0_h19
def k0_off68 (k0_t14 : Fin k0_t14_loop.trips) : Fin 1 → Nat :=
  let c0_i32_142 : BitVec 32 := 0#32
  let c1_i32_143 : BitVec 32 := 1#32
  let arg21 : BitVec 32 := Scf.iv c0_i32_142 c1_i32_143 k0_t14
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k0_chk33 (v144 : BitVec 32) (v151 : BitVec 32) (k0_t12 : Fin (k0_t12_loop v144 v151).trips) (v445 : IVec S16 32) (v503 : IVec S16 32) : Prop :=
  (∀ (k0_h19 : k0_cond19 v144 v151 k0_t12 = 1#1), ∀ a x, ((![v503, v445] : Fin 2 → IVec S16 32) a x).toNat < S8x4096.size a)
theorem k0_idx31_inb : ∀ (v144 : BitVec 32) (v151 : BitVec 32) (k0_t12 : Fin (k0_t12_loop v144 v151).trips) (v445 : IVec S16 32) (v503 : IVec S16 32) (k0_hw33 : k0_chk33 v144 v151 k0_t12 v445 v503), ∀ (k0_h19 : k0_cond19 v144 v151 k0_t12 = 1#1), ∀ a x, ((![v503, v445] : Fin 2 → IVec S16 32) a x).toNat < S8x4096.size a := fun v144 v151 k0_t12 v445 v503 k0_hw33 k0_h19 => k0_hw33 k0_h19
def k0_off69 (k0_t14 : Fin k0_t14_loop.trips) : Fin 1 → Nat :=
  let c0_i32_142 : BitVec 32 := 0#32
  let c1_i32_143 : BitVec 32 := 1#32
  let arg21 : BitVec 32 := Scf.iv c0_i32_142 c1_i32_143 k0_t14
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k0_chk34 (v144 : BitVec 32) (v151 : BitVec 32) (k0_t12 : Fin (k0_t12_loop v144 v151).trips) (v511 : IVec S16 32) (v569 : IVec S16 32) : Prop :=
  (∀ (k0_h19 : k0_cond19 v144 v151 k0_t12 = 1#1), ∀ a x, ((![v569, v511] : Fin 2 → IVec S16 32) a x).toNat < S8x4096.size a)
theorem k0_idx32_inb : ∀ (v144 : BitVec 32) (v151 : BitVec 32) (k0_t12 : Fin (k0_t12_loop v144 v151).trips) (v511 : IVec S16 32) (v569 : IVec S16 32) (k0_hw34 : k0_chk34 v144 v151 k0_t12 v511 v569), ∀ (k0_h19 : k0_cond19 v144 v151 k0_t12 = 1#1), ∀ a x, ((![v569, v511] : Fin 2 → IVec S16 32) a x).toNat < S8x4096.size a := fun v144 v151 k0_t12 v511 v569 k0_hw34 k0_h19 => k0_hw34 k0_h19
def k0_mult28 (v144 : BitVec 32) (v151 : BitVec 32) (k0_t12 : Fin (k0_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k0_cond20 (v144 : BitVec 32) (v151 : BitVec 32) (k0_t12 : Fin (k0_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let v303 : BitVec 1 := Scalar.cmpi .slt v302 v171
  let v304 : BitVec 32 := Scalar.extui v303
  let c0_i32_146 : BitVec 32 := 0#32
  let v305 : BitVec 1 := Scalar.cmpi .ne v304 c0_i32_146
  v305

def k0_off70 (v144 : BitVec 32) (v151 : BitVec 32) (k0_t12 : Fin (k0_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k0_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]

def k0_chk18 (v144 : BitVec 32) (v151 : BitVec 32) : Prop :=
  (∀ (k0_h11 : k0_cond11 v144 v151 = 1#1), 8 ∣ (k0_mult15 v144).toNat) ∧
  (∀ (k0_h11 : k0_cond11 v144 v151 = 1#1), ∀ a, (k0_off37 v144) a + S2048.size a ≤ S1638400.size a) ∧
  (∀ (k0_h12 : k0_cond12 v144 v151 = 1#1), 8 ∣ (k0_mult16 v144).toNat) ∧
  (∀ (k0_h12 : k0_cond12 v144 v151 = 1#1), ∀ a, (k0_off38 v144) a + S2048.size a ≤ S1638400.size a) ∧
  ((k0_t9_loop v144 v151).OK) ∧
  (∀ k0_t9 : Fin (k0_t9_loop v144 v151).trips, ∀ (k0_h13 : k0_cond13 v144 v151 k0_t9 = 1#1), 8 ∣ (k0_mult17 v144 v151 k0_t9).toNat) ∧
  (∀ k0_t9 : Fin (k0_t9_loop v144 v151).trips, ∀ (k0_h13 : k0_cond13 v144 v151 k0_t9 = 1#1), 8 ∣ (k0_mult18 v144 v151 k0_t9).toNat) ∧
  (∀ k0_t9 : Fin (k0_t9_loop v144 v151).trips, ∀ (k0_h13 : k0_cond13 v144 v151 k0_t9 = 1#1), ∀ a, (k0_off47 v144 v151 k0_t9) a + S2048.size a ≤ S1638400.size a) ∧
  (∀ k0_t9 : Fin (k0_t9_loop v144 v151).trips, ∀ (k0_h13 : k0_cond13 v144 v151 k0_t9 = 1#1), ∀ (k0_h14 : k0_cond14 v144 v151 k0_t9 = 1#1), 8 ∣ (k0_mult19 v144 v151 k0_t9).toNat) ∧
  (∀ k0_t9 : Fin (k0_t9_loop v144 v151).trips, ∀ (k0_h13 : k0_cond13 v144 v151 k0_t9 = 1#1), ∀ (k0_h14 : k0_cond14 v144 v151 k0_t9 = 1#1), ∀ a, (k0_off52 v144 v151 k0_t9) a + S2048.size a ≤ S1638400.size a) ∧
  (∀ k0_t9 : Fin (k0_t9_loop v144 v151).trips, ∀ (k0_h15 : k0_cond15 v144 v151 k0_t9 = 1#1), 8 ∣ (k0_mult20 v144 v151 k0_t9).toNat) ∧
  (∀ k0_t9 : Fin (k0_t9_loop v144 v151).trips, ∀ (k0_h15 : k0_cond15 v144 v151 k0_t9 = 1#1), 8 ∣ (k0_mult21 v144 v151 k0_t9).toNat) ∧
  (∀ k0_t9 : Fin (k0_t9_loop v144 v151).trips, ∀ (k0_h15 : k0_cond15 v144 v151 k0_t9 = 1#1), ∀ a, (k0_off53 v144 v151 k0_t9) a + S2048.size a ≤ S1638400.size a) ∧
  (∀ k0_t9 : Fin (k0_t9_loop v144 v151).trips, ∀ (k0_h15 : k0_cond15 v144 v151 k0_t9 = 1#1), ∀ (k0_h16 : k0_cond16 v144 v151 k0_t9 = 1#1), 8 ∣ (k0_mult22 v144 v151 k0_t9).toNat) ∧
  (∀ k0_t9 : Fin (k0_t9_loop v144 v151).trips, ∀ (k0_h15 : k0_cond15 v144 v151 k0_t9 = 1#1), ∀ (k0_h16 : k0_cond16 v144 v151 k0_t9 = 1#1), ∀ a, (k0_off58 v144 v151 k0_t9) a + S2048.size a ≤ S1638400.size a) ∧
  ((k0_t12_loop v144 v151).OK) ∧
  (∀ k0_t12 : Fin (k0_t12_loop v144 v151).trips, ∀ (k0_h17 : k0_cond17 v144 v151 k0_t12 = 1#1), 8 ∣ (k0_mult23 v144 v151 k0_t12).toNat) ∧
  (∀ k0_t12 : Fin (k0_t12_loop v144 v151).trips, ∀ (k0_h17 : k0_cond17 v144 v151 k0_t12 = 1#1), 8 ∣ (k0_mult24 v144 v151 k0_t12).toNat) ∧
  (∀ k0_t12 : Fin (k0_t12_loop v144 v151).trips, ∀ (k0_h17 : k0_cond17 v144 v151 k0_t12 = 1#1), ∀ a, (k0_off59 v144 v151 k0_t12) a + S2048.size a ≤ S1638400.size a) ∧
  (∀ k0_t12 : Fin (k0_t12_loop v144 v151).trips, ∀ (k0_h17 : k0_cond17 v144 v151 k0_t12 = 1#1), ∀ (k0_h18 : k0_cond18 v144 v151 k0_t12 = 1#1), 8 ∣ (k0_mult25 v144 v151 k0_t12).toNat) ∧
  (∀ k0_t12 : Fin (k0_t12_loop v144 v151).trips, ∀ (k0_h17 : k0_cond17 v144 v151 k0_t12 = 1#1), ∀ (k0_h18 : k0_cond18 v144 v151 k0_t12 = 1#1), ∀ a, (k0_off64 v144 v151 k0_t12) a + S2048.size a ≤ S1638400.size a) ∧
  (∀ k0_t12 : Fin (k0_t12_loop v144 v151).trips, ∀ (k0_h19 : k0_cond19 v144 v151 k0_t12 = 1#1), 8 ∣ (k0_mult26 v144 v151 k0_t12).toNat) ∧
  (∀ k0_t12 : Fin (k0_t12_loop v144 v151).trips, ∀ (k0_h19 : k0_cond19 v144 v151 k0_t12 = 1#1), 8 ∣ (k0_mult27 v144 v151 k0_t12).toNat) ∧
  (∀ k0_t12 : Fin (k0_t12_loop v144 v151).trips, ∀ (k0_h19 : k0_cond19 v144 v151 k0_t12 = 1#1), ∀ a, (k0_off65 v144 v151 k0_t12) a + S2048.size a ≤ S1638400.size a) ∧
  (∀ k0_t12 : Fin (k0_t12_loop v144 v151).trips, ∀ (k0_h19 : k0_cond19 v144 v151 k0_t12 = 1#1), ∀ (k0_h20 : k0_cond20 v144 v151 k0_t12 = 1#1), 8 ∣ (k0_mult28 v144 v151 k0_t12).toNat) ∧
  (∀ k0_t12 : Fin (k0_t12_loop v144 v151).trips, ∀ (k0_h19 : k0_cond19 v144 v151 k0_t12 = 1#1), ∀ (k0_h20 : k0_cond20 v144 v151 k0_t12 = 1#1), ∀ a, (k0_off70 v144 v151 k0_t12) a + S2048.size a ≤ S1638400.size a)
theorem k0_mult15_dvd : ∀ (v144 : BitVec 32) (v151 : BitVec 32) (k0_hw18 : k0_chk18 v144 v151), ∀ (k0_h11 : k0_cond11 v144 v151 = 1#1), 8 ∣ (k0_mult15 v144).toNat := fun v144 v151 k0_hw18 k0_h11 => k0_hw18.1 k0_h11
theorem k0_off37_inb : ∀ (v144 : BitVec 32) (v151 : BitVec 32) (k0_hw18 : k0_chk18 v144 v151), ∀ (k0_h11 : k0_cond11 v144 v151 = 1#1), ∀ a, (k0_off37 v144) a + S2048.size a ≤ S1638400.size a := fun v144 v151 k0_hw18 k0_h11 => k0_hw18.2.1 k0_h11
theorem k0_mult16_dvd : ∀ (v144 : BitVec 32) (v151 : BitVec 32) (k0_hw18 : k0_chk18 v144 v151), ∀ (k0_h12 : k0_cond12 v144 v151 = 1#1), 8 ∣ (k0_mult16 v144).toNat := fun v144 v151 k0_hw18 k0_h12 => k0_hw18.2.2.1 k0_h12
theorem k0_off38_inb : ∀ (v144 : BitVec 32) (v151 : BitVec 32) (k0_hw18 : k0_chk18 v144 v151), ∀ (k0_h12 : k0_cond12 v144 v151 = 1#1), ∀ a, (k0_off38 v144) a + S2048.size a ≤ S1638400.size a := fun v144 v151 k0_hw18 k0_h12 => k0_hw18.2.2.2.1 k0_h12
theorem k0_t9_ok : ∀ (v144 : BitVec 32) (v151 : BitVec 32) (k0_hw18 : k0_chk18 v144 v151), (k0_t9_loop v144 v151).OK := fun v144 v151 k0_hw18 => k0_hw18.2.2.2.2.1
theorem k0_mult17_dvd : ∀ (v144 : BitVec 32) (v151 : BitVec 32) (k0_hw18 : k0_chk18 v144 v151) (k0_t9 : Fin (k0_t9_loop v144 v151).trips), ∀ (k0_h13 : k0_cond13 v144 v151 k0_t9 = 1#1), 8 ∣ (k0_mult17 v144 v151 k0_t9).toNat := fun v144 v151 k0_hw18 k0_t9 k0_h13 => k0_hw18.2.2.2.2.2.1 k0_t9 k0_h13
theorem k0_mult18_dvd : ∀ (v144 : BitVec 32) (v151 : BitVec 32) (k0_hw18 : k0_chk18 v144 v151) (k0_t9 : Fin (k0_t9_loop v144 v151).trips), ∀ (k0_h13 : k0_cond13 v144 v151 k0_t9 = 1#1), 8 ∣ (k0_mult18 v144 v151 k0_t9).toNat := fun v144 v151 k0_hw18 k0_t9 k0_h13 => k0_hw18.2.2.2.2.2.2.1 k0_t9 k0_h13
theorem k0_off47_inb : ∀ (v144 : BitVec 32) (v151 : BitVec 32) (k0_hw18 : k0_chk18 v144 v151) (k0_t9 : Fin (k0_t9_loop v144 v151).trips), ∀ (k0_h13 : k0_cond13 v144 v151 k0_t9 = 1#1), ∀ a, (k0_off47 v144 v151 k0_t9) a + S2048.size a ≤ S1638400.size a := fun v144 v151 k0_hw18 k0_t9 k0_h13 => k0_hw18.2.2.2.2.2.2.2.1 k0_t9 k0_h13
theorem k0_mult19_dvd : ∀ (v144 : BitVec 32) (v151 : BitVec 32) (k0_hw18 : k0_chk18 v144 v151) (k0_t9 : Fin (k0_t9_loop v144 v151).trips), ∀ (k0_h13 : k0_cond13 v144 v151 k0_t9 = 1#1), ∀ (k0_h14 : k0_cond14 v144 v151 k0_t9 = 1#1), 8 ∣ (k0_mult19 v144 v151 k0_t9).toNat := fun v144 v151 k0_hw18 k0_t9 k0_h13 k0_h14 => k0_hw18.2.2.2.2.2.2.2.2.1 k0_t9 k0_h13 k0_h14
theorem k0_off52_inb : ∀ (v144 : BitVec 32) (v151 : BitVec 32) (k0_hw18 : k0_chk18 v144 v151) (k0_t9 : Fin (k0_t9_loop v144 v151).trips), ∀ (k0_h13 : k0_cond13 v144 v151 k0_t9 = 1#1), ∀ (k0_h14 : k0_cond14 v144 v151 k0_t9 = 1#1), ∀ a, (k0_off52 v144 v151 k0_t9) a + S2048.size a ≤ S1638400.size a := fun v144 v151 k0_hw18 k0_t9 k0_h13 k0_h14 => k0_hw18.2.2.2.2.2.2.2.2.2.1 k0_t9 k0_h13 k0_h14
theorem k0_mult20_dvd : ∀ (v144 : BitVec 32) (v151 : BitVec 32) (k0_hw18 : k0_chk18 v144 v151) (k0_t9 : Fin (k0_t9_loop v144 v151).trips), ∀ (k0_h15 : k0_cond15 v144 v151 k0_t9 = 1#1), 8 ∣ (k0_mult20 v144 v151 k0_t9).toNat := fun v144 v151 k0_hw18 k0_t9 k0_h15 => k0_hw18.2.2.2.2.2.2.2.2.2.2.1 k0_t9 k0_h15
theorem k0_mult21_dvd : ∀ (v144 : BitVec 32) (v151 : BitVec 32) (k0_hw18 : k0_chk18 v144 v151) (k0_t9 : Fin (k0_t9_loop v144 v151).trips), ∀ (k0_h15 : k0_cond15 v144 v151 k0_t9 = 1#1), 8 ∣ (k0_mult21 v144 v151 k0_t9).toNat := fun v144 v151 k0_hw18 k0_t9 k0_h15 => k0_hw18.2.2.2.2.2.2.2.2.2.2.2.1 k0_t9 k0_h15
theorem k0_off53_inb : ∀ (v144 : BitVec 32) (v151 : BitVec 32) (k0_hw18 : k0_chk18 v144 v151) (k0_t9 : Fin (k0_t9_loop v144 v151).trips), ∀ (k0_h15 : k0_cond15 v144 v151 k0_t9 = 1#1), ∀ a, (k0_off53 v144 v151 k0_t9) a + S2048.size a ≤ S1638400.size a := fun v144 v151 k0_hw18 k0_t9 k0_h15 => k0_hw18.2.2.2.2.2.2.2.2.2.2.2.2.1 k0_t9 k0_h15
theorem k0_mult22_dvd : ∀ (v144 : BitVec 32) (v151 : BitVec 32) (k0_hw18 : k0_chk18 v144 v151) (k0_t9 : Fin (k0_t9_loop v144 v151).trips), ∀ (k0_h15 : k0_cond15 v144 v151 k0_t9 = 1#1), ∀ (k0_h16 : k0_cond16 v144 v151 k0_t9 = 1#1), 8 ∣ (k0_mult22 v144 v151 k0_t9).toNat := fun v144 v151 k0_hw18 k0_t9 k0_h15 k0_h16 => k0_hw18.2.2.2.2.2.2.2.2.2.2.2.2.2.1 k0_t9 k0_h15 k0_h16
theorem k0_off58_inb : ∀ (v144 : BitVec 32) (v151 : BitVec 32) (k0_hw18 : k0_chk18 v144 v151) (k0_t9 : Fin (k0_t9_loop v144 v151).trips), ∀ (k0_h15 : k0_cond15 v144 v151 k0_t9 = 1#1), ∀ (k0_h16 : k0_cond16 v144 v151 k0_t9 = 1#1), ∀ a, (k0_off58 v144 v151 k0_t9) a + S2048.size a ≤ S1638400.size a := fun v144 v151 k0_hw18 k0_t9 k0_h15 k0_h16 => k0_hw18.2.2.2.2.2.2.2.2.2.2.2.2.2.2.1 k0_t9 k0_h15 k0_h16
theorem k0_t12_ok : ∀ (v144 : BitVec 32) (v151 : BitVec 32) (k0_hw18 : k0_chk18 v144 v151), (k0_t12_loop v144 v151).OK := fun v144 v151 k0_hw18 => k0_hw18.2.2.2.2.2.2.2.2.2.2.2.2.2.2.2.1
theorem k0_mult23_dvd : ∀ (v144 : BitVec 32) (v151 : BitVec 32) (k0_hw18 : k0_chk18 v144 v151) (k0_t12 : Fin (k0_t12_loop v144 v151).trips), ∀ (k0_h17 : k0_cond17 v144 v151 k0_t12 = 1#1), 8 ∣ (k0_mult23 v144 v151 k0_t12).toNat := fun v144 v151 k0_hw18 k0_t12 k0_h17 => k0_hw18.2.2.2.2.2.2.2.2.2.2.2.2.2.2.2.2.1 k0_t12 k0_h17
theorem k0_mult24_dvd : ∀ (v144 : BitVec 32) (v151 : BitVec 32) (k0_hw18 : k0_chk18 v144 v151) (k0_t12 : Fin (k0_t12_loop v144 v151).trips), ∀ (k0_h17 : k0_cond17 v144 v151 k0_t12 = 1#1), 8 ∣ (k0_mult24 v144 v151 k0_t12).toNat := fun v144 v151 k0_hw18 k0_t12 k0_h17 => k0_hw18.2.2.2.2.2.2.2.2.2.2.2.2.2.2.2.2.2.1 k0_t12 k0_h17
theorem k0_off59_inb : ∀ (v144 : BitVec 32) (v151 : BitVec 32) (k0_hw18 : k0_chk18 v144 v151) (k0_t12 : Fin (k0_t12_loop v144 v151).trips), ∀ (k0_h17 : k0_cond17 v144 v151 k0_t12 = 1#1), ∀ a, (k0_off59 v144 v151 k0_t12) a + S2048.size a ≤ S1638400.size a := fun v144 v151 k0_hw18 k0_t12 k0_h17 => k0_hw18.2.2.2.2.2.2.2.2.2.2.2.2.2.2.2.2.2.2.1 k0_t12 k0_h17
theorem k0_mult25_dvd : ∀ (v144 : BitVec 32) (v151 : BitVec 32) (k0_hw18 : k0_chk18 v144 v151) (k0_t12 : Fin (k0_t12_loop v144 v151).trips), ∀ (k0_h17 : k0_cond17 v144 v151 k0_t12 = 1#1), ∀ (k0_h18 : k0_cond18 v144 v151 k0_t12 = 1#1), 8 ∣ (k0_mult25 v144 v151 k0_t12).toNat := fun v144 v151 k0_hw18 k0_t12 k0_h17 k0_h18 => k0_hw18.2.2.2.2.2.2.2.2.2.2.2.2.2.2.2.2.2.2.2.1 k0_t12 k0_h17 k0_h18
theorem k0_off64_inb : ∀ (v144 : BitVec 32) (v151 : BitVec 32) (k0_hw18 : k0_chk18 v144 v151) (k0_t12 : Fin (k0_t12_loop v144 v151).trips), ∀ (k0_h17 : k0_cond17 v144 v151 k0_t12 = 1#1), ∀ (k0_h18 : k0_cond18 v144 v151 k0_t12 = 1#1), ∀ a, (k0_off64 v144 v151 k0_t12) a + S2048.size a ≤ S1638400.size a := fun v144 v151 k0_hw18 k0_t12 k0_h17 k0_h18 => k0_hw18.2.2.2.2.2.2.2.2.2.2.2.2.2.2.2.2.2.2.2.2.1 k0_t12 k0_h17 k0_h18
theorem k0_mult26_dvd : ∀ (v144 : BitVec 32) (v151 : BitVec 32) (k0_hw18 : k0_chk18 v144 v151) (k0_t12 : Fin (k0_t12_loop v144 v151).trips), ∀ (k0_h19 : k0_cond19 v144 v151 k0_t12 = 1#1), 8 ∣ (k0_mult26 v144 v151 k0_t12).toNat := fun v144 v151 k0_hw18 k0_t12 k0_h19 => k0_hw18.2.2.2.2.2.2.2.2.2.2.2.2.2.2.2.2.2.2.2.2.2.1 k0_t12 k0_h19
theorem k0_mult27_dvd : ∀ (v144 : BitVec 32) (v151 : BitVec 32) (k0_hw18 : k0_chk18 v144 v151) (k0_t12 : Fin (k0_t12_loop v144 v151).trips), ∀ (k0_h19 : k0_cond19 v144 v151 k0_t12 = 1#1), 8 ∣ (k0_mult27 v144 v151 k0_t12).toNat := fun v144 v151 k0_hw18 k0_t12 k0_h19 => k0_hw18.2.2.2.2.2.2.2.2.2.2.2.2.2.2.2.2.2.2.2.2.2.2.1 k0_t12 k0_h19
theorem k0_off65_inb : ∀ (v144 : BitVec 32) (v151 : BitVec 32) (k0_hw18 : k0_chk18 v144 v151) (k0_t12 : Fin (k0_t12_loop v144 v151).trips), ∀ (k0_h19 : k0_cond19 v144 v151 k0_t12 = 1#1), ∀ a, (k0_off65 v144 v151 k0_t12) a + S2048.size a ≤ S1638400.size a := fun v144 v151 k0_hw18 k0_t12 k0_h19 => k0_hw18.2.2.2.2.2.2.2.2.2.2.2.2.2.2.2.2.2.2.2.2.2.2.2.1 k0_t12 k0_h19
theorem k0_mult28_dvd : ∀ (v144 : BitVec 32) (v151 : BitVec 32) (k0_hw18 : k0_chk18 v144 v151) (k0_t12 : Fin (k0_t12_loop v144 v151).trips), ∀ (k0_h19 : k0_cond19 v144 v151 k0_t12 = 1#1), ∀ (k0_h20 : k0_cond20 v144 v151 k0_t12 = 1#1), 8 ∣ (k0_mult28 v144 v151 k0_t12).toNat := fun v144 v151 k0_hw18 k0_t12 k0_h19 k0_h20 => k0_hw18.2.2.2.2.2.2.2.2.2.2.2.2.2.2.2.2.2.2.2.2.2.2.2.2.1 k0_t12 k0_h19 k0_h20
theorem k0_off70_inb : ∀ (v144 : BitVec 32) (v151 : BitVec 32) (k0_hw18 : k0_chk18 v144 v151) (k0_t12 : Fin (k0_t12_loop v144 v151).trips), ∀ (k0_h19 : k0_cond19 v144 v151 k0_t12 = 1#1), ∀ (k0_h20 : k0_cond20 v144 v151 k0_t12 = 1#1), ∀ a, (k0_off70 v144 v151 k0_t12) a + S2048.size a ≤ S1638400.size a := fun v144 v151 k0_hw18 k0_t12 k0_h19 k0_h20 => k0_hw18.2.2.2.2.2.2.2.2.2.2.2.2.2.2.2.2.2.2.2.2.2.2.2.2.2 k0_t12 k0_h19 k0_h20

def k0_off71 (i : grid0.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let v135 : BitVec 32 := Scalar.addi v6 c8_i32
  let c0_i32_117 : BitVec 32 := 0#32
  ![v135.toNat, 0]
def k0_off71_at (r : Fin 3) : BitVec 32 :=
  if r.val < 1 then
    8#32
  else
    if r.val < 2 then
      48#32
    else
      56#32
@[reducible] def k0_t15_loop : Scf.Loop 32 :=
  let c1_i32_120 : BitVec 32 := 1#32
  let c3_i32_121 : BitVec 32 := 3#32
  let v263 : BitVec 32 := Scalar.addi c1_i32_120 c3_i32_121
  let c1_i32_122 : BitVec 32 := 1#32
  ⟨c1_i32_120, v263, c1_i32_122⟩
def k0_off72 (k0_t15 : Fin k0_t15_loop.trips) : Fin 1 → Nat :=
  let c1_i32_120 : BitVec 32 := 1#32
  let c1_i32_122 : BitVec 32 := 1#32
  let arg19 : BitVec 32 := Scf.iv c1_i32_120 c1_i32_122 k0_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_131 : BitVec 32 := 8#32
  let v275 : BitVec 32 := Scalar.muli v272 c8_i32_131
  let v276 : Index := Scalar.indexCast v275
  ![v276.toNat]
def k0_off73 (i : grid0.Coords) (k0_t15 : Fin k0_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k0_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_130 : BitVec 32 := 8#32
  let v273 : BitVec 32 := Scalar.muli v272 c8_i32_130
  let v274 : BitVec 32 := Scalar.addi v6 v273
  let c16_i32 : BitVec 32 := 16#32
  let v295 : BitVec 32 := Scalar.subi v274 c16_i32
  let c0_i32_139 : BitVec 32 := 0#32
  ![v295.toNat, 0]
def k0_mult29 (v287 : BitVec 32) : BitVec 32 :=
  let c_m8_i32_141 : BitVec 32 := 4294967288#32
  let v298 : BitVec 32 := Scalar.andi v287 c_m8_i32_141
  let c0_i32_270 : BitVec 32 := 0#32
  let v547 : BitVec 32 := Scalar.addi v298 c0_i32_270
  let c1636352_i32 : BitVec 32 := 1636352#32
  let v548 : BitVec 32 := Scalar.minsi v547 c1636352_i32
  v548
def k0_cond21 (v287 : BitVec 32) (v294 : BitVec 32) : BitVec 1 :=
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c0_i32_150 : BitVec 32 := 0#32
  let v318 : BitVec 1 := Scalar.cmpi .sgt v317 c0_i32_150
  let v319 : BitVec 32 := Scalar.extui v318
  let c0_i32_151 : BitVec 32 := 0#32
  let v320 : BitVec 1 := Scalar.cmpi .ne v319 c0_i32_151
  v320

def k0_off74 (v287 : BitVec 32) : Fin 1 → Nat :=
  let c_m8_i32_141 : BitVec 32 := 4294967288#32
  let v298 : BitVec 32 := Scalar.andi v287 c_m8_i32_141
  let c0_i32_270 : BitVec 32 := 0#32
  let v547 : BitVec 32 := Scalar.addi v298 c0_i32_270
  let c1636352_i32 : BitVec 32 := 1636352#32
  let v548 : BitVec 32 := Scalar.minsi v547 c1636352_i32
  let v549 : BitVec 32 := v548
  ![v549.toNat]
def k0_mult30 (v287 : BitVec 32) : BitVec 32 :=
  let c_m8_i32_141 : BitVec 32 := 4294967288#32
  let v298 : BitVec 32 := Scalar.andi v287 c_m8_i32_141
  let c2048_i32_270 : BitVec 32 := 2048#32
  let v547 : BitVec 32 := Scalar.addi v298 c2048_i32_270
  let c1636352_i32 : BitVec 32 := 1636352#32
  let v548 : BitVec 32 := Scalar.minsi v547 c1636352_i32
  v548
def k0_cond22 (v287 : BitVec 32) (v294 : BitVec 32) : BitVec 1 :=
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_152 : BitVec 32 := 1#32
  let v321 : BitVec 1 := Scalar.cmpi .sgt v317 c1_i32_152
  let v322 : BitVec 32 := Scalar.extui v321
  let c0_i32_153 : BitVec 32 := 0#32
  let v323 : BitVec 1 := Scalar.cmpi .ne v322 c0_i32_153
  v323

def k0_off75 (v287 : BitVec 32) : Fin 1 → Nat :=
  let c_m8_i32_141 : BitVec 32 := 4294967288#32
  let v298 : BitVec 32 := Scalar.andi v287 c_m8_i32_141
  let c2048_i32_270 : BitVec 32 := 2048#32
  let v547 : BitVec 32 := Scalar.addi v298 c2048_i32_270
  let c1636352_i32 : BitVec 32 := 1636352#32
  let v548 : BitVec 32 := Scalar.minsi v547 c1636352_i32
  let v549 : BitVec 32 := v548
  ![v549.toNat]
@[reducible] def k0_t16_loop : Scf.Loop 32 :=
  let c0_i32_155 : BitVec 32 := 0#32
  let c128_i32_156 : BitVec 32 := 128#32
  let v324 : BitVec 32 := Scalar.addi c0_i32_155 c128_i32_156
  let c1_i32_157 : BitVec 32 := 1#32
  ⟨c0_i32_155, v324, c1_i32_157⟩
def k0_off76 (k0_t16 : Fin k0_t16_loop.trips) (c0_i32_271 : BitVec 32) : Fin 2 → Nat :=
  let c0_i32_273 : BitVec 32 := 0#32
  let v550 : Index := Scalar.indexCast c0_i32_273
  let c0_i32_155 : BitVec 32 := 0#32
  let c1_i32_157 : BitVec 32 := 1#32
  let arg21 : BitVec 32 := Scf.iv c0_i32_155 c1_i32_157 k0_t16
  let c2_i32_270 : BitVec 32 := 2#32
  let v547 : BitVec 32 := Scalar.muli arg21 c2_i32_270
  let v548 : BitVec 32 := Scalar.addi v547 c0_i32_271
  let c16_i32_272 : BitVec 32 := 16#32
  let v549 : BitVec 32 := Scalar.muli v548 c16_i32_272
  let v551 : Index := Scalar.indexCast v549
  ![0, v551.toNat]
def k0_off77 (k0_t16 : Fin k0_t16_loop.trips) (c0_i32_279 : BitVec 32) : Fin 2 → Nat :=
  let c1_i32_281 : BitVec 32 := 1#32
  let v562 : Index := Scalar.indexCast c1_i32_281
  let c0_i32_155 : BitVec 32 := 0#32
  let c1_i32_157 : BitVec 32 := 1#32
  let arg21 : BitVec 32 := Scf.iv c0_i32_155 c1_i32_157 k0_t16
  let c2_i32_278 : BitVec 32 := 2#32
  let v559 : BitVec 32 := Scalar.muli arg21 c2_i32_278
  let v560 : BitVec 32 := Scalar.addi v559 c0_i32_279
  let c16_i32_280 : BitVec 32 := 16#32
  let v561 : BitVec 32 := Scalar.muli v560 c16_i32_280
  let v563 : Index := Scalar.indexCast v561
  ![1, v563.toNat]
def k0_off78 (k0_t16 : Fin k0_t16_loop.trips) (c0_i32_287 : BitVec 32) : Fin 2 → Nat :=
  let c2_i32_289 : BitVec 32 := 2#32
  let v574 : Index := Scalar.indexCast c2_i32_289
  let c0_i32_155 : BitVec 32 := 0#32
  let c1_i32_157 : BitVec 32 := 1#32
  let arg21 : BitVec 32 := Scf.iv c0_i32_155 c1_i32_157 k0_t16
  let c2_i32_286 : BitVec 32 := 2#32
  let v571 : BitVec 32 := Scalar.muli arg21 c2_i32_286
  let v572 : BitVec 32 := Scalar.addi v571 c0_i32_287
  let c16_i32_288 : BitVec 32 := 16#32
  let v573 : BitVec 32 := Scalar.muli v572 c16_i32_288
  let v575 : Index := Scalar.indexCast v573
  ![2, v575.toNat]
def k0_off79 (k0_t16 : Fin k0_t16_loop.trips) (c0_i32_295 : BitVec 32) : Fin 2 → Nat :=
  let c3_i32_297 : BitVec 32 := 3#32
  let v586 : Index := Scalar.indexCast c3_i32_297
  let c0_i32_155 : BitVec 32 := 0#32
  let c1_i32_157 : BitVec 32 := 1#32
  let arg21 : BitVec 32 := Scf.iv c0_i32_155 c1_i32_157 k0_t16
  let c2_i32_294 : BitVec 32 := 2#32
  let v583 : BitVec 32 := Scalar.muli arg21 c2_i32_294
  let v584 : BitVec 32 := Scalar.addi v583 c0_i32_295
  let c16_i32_296 : BitVec 32 := 16#32
  let v585 : BitVec 32 := Scalar.muli v584 c16_i32_296
  let v587 : Index := Scalar.indexCast v585
  ![3, v587.toNat]
def k0_off80 (k0_t16 : Fin k0_t16_loop.trips) (c0_i32_303 : BitVec 32) : Fin 2 → Nat :=
  let c4_i32_305 : BitVec 32 := 4#32
  let v598 : Index := Scalar.indexCast c4_i32_305
  let c0_i32_155 : BitVec 32 := 0#32
  let c1_i32_157 : BitVec 32 := 1#32
  let arg21 : BitVec 32 := Scf.iv c0_i32_155 c1_i32_157 k0_t16
  let c2_i32_302 : BitVec 32 := 2#32
  let v595 : BitVec 32 := Scalar.muli arg21 c2_i32_302
  let v596 : BitVec 32 := Scalar.addi v595 c0_i32_303
  let c16_i32_304 : BitVec 32 := 16#32
  let v597 : BitVec 32 := Scalar.muli v596 c16_i32_304
  let v599 : Index := Scalar.indexCast v597
  ![4, v599.toNat]
def k0_off81 (k0_t16 : Fin k0_t16_loop.trips) (c0_i32_311 : BitVec 32) : Fin 2 → Nat :=
  let c5_i32_313 : BitVec 32 := 5#32
  let v610 : Index := Scalar.indexCast c5_i32_313
  let c0_i32_155 : BitVec 32 := 0#32
  let c1_i32_157 : BitVec 32 := 1#32
  let arg21 : BitVec 32 := Scf.iv c0_i32_155 c1_i32_157 k0_t16
  let c2_i32_310 : BitVec 32 := 2#32
  let v607 : BitVec 32 := Scalar.muli arg21 c2_i32_310
  let v608 : BitVec 32 := Scalar.addi v607 c0_i32_311
  let c16_i32_312 : BitVec 32 := 16#32
  let v609 : BitVec 32 := Scalar.muli v608 c16_i32_312
  let v611 : Index := Scalar.indexCast v609
  ![5, v611.toNat]
def k0_off82 (k0_t16 : Fin k0_t16_loop.trips) (c0_i32_319 : BitVec 32) : Fin 2 → Nat :=
  let c6_i32_321 : BitVec 32 := 6#32
  let v622 : Index := Scalar.indexCast c6_i32_321
  let c0_i32_155 : BitVec 32 := 0#32
  let c1_i32_157 : BitVec 32 := 1#32
  let arg21 : BitVec 32 := Scf.iv c0_i32_155 c1_i32_157 k0_t16
  let c2_i32_318 : BitVec 32 := 2#32
  let v619 : BitVec 32 := Scalar.muli arg21 c2_i32_318
  let v620 : BitVec 32 := Scalar.addi v619 c0_i32_319
  let c16_i32_320 : BitVec 32 := 16#32
  let v621 : BitVec 32 := Scalar.muli v620 c16_i32_320
  let v623 : Index := Scalar.indexCast v621
  ![6, v623.toNat]
def k0_off83 (k0_t16 : Fin k0_t16_loop.trips) (c0_i32_327 : BitVec 32) : Fin 2 → Nat :=
  let c7_i32_329 : BitVec 32 := 7#32
  let v634 : Index := Scalar.indexCast c7_i32_329
  let c0_i32_155 : BitVec 32 := 0#32
  let c1_i32_157 : BitVec 32 := 1#32
  let arg21 : BitVec 32 := Scf.iv c0_i32_155 c1_i32_157 k0_t16
  let c2_i32_326 : BitVec 32 := 2#32
  let v631 : BitVec 32 := Scalar.muli arg21 c2_i32_326
  let v632 : BitVec 32 := Scalar.addi v631 c0_i32_327
  let c16_i32_328 : BitVec 32 := 16#32
  let v633 : BitVec 32 := Scalar.muli v632 c16_i32_328
  let v635 : Index := Scalar.indexCast v633
  ![7, v635.toNat]
@[reducible] def k0_t17_loop (v287 : BitVec 32) (v294 : BitVec 32) : Scf.Loop 32 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_194 : BitVec 32 := 1#32
  ⟨c0_i32_191, v404, c1_i32_194⟩
def k0_mult31 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v298 v557
  let c1636352_i32 : BitVec 32 := 1636352#32
  let v559 : BitVec 32 := Scalar.minsi v558 c1636352_i32
  v559
def k0_cond23 (v287 : BitVec 32) (v294 : BitVec 32) (k0_t17 : Fin (k0_t17_loop v287 v294).trips) : BitVec 1 :=
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v549 : BitVec 1 := Scalar.cmpi .slt v548 v317
  let v550 : BitVec 32 := Scalar.extui v549
  let c0_i32_272 : BitVec 32 := 0#32
  let v551 : BitVec 1 := Scalar.cmpi .ne v550 c0_i32_272
  v551

def k0_mult32 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  v570
def k0_off84 (v287 : BitVec 32) (v294 : BitVec 32) (k0_t17 : Fin (k0_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k0_t18_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off85 (k0_t18 : Fin k0_t18_loop.trips) : Fin 1 → Nat :=
  let c0_i32_284 : BitVec 32 := 0#32
  let c1_i32_285 : BitVec 32 := 1#32
  let arg23 : BitVec 32 := Scf.iv c0_i32_284 c1_i32_285 k0_t18
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk36 (v287 : BitVec 32) (v294 : BitVec 32) (k0_t17 : Fin (k0_t17_loop v287 v294).trips) (v589 : IVec S16 32) (v647 : IVec S16 32) : Prop :=
  (∀ (k0_h23 : k0_cond23 v287 v294 k0_t17 = 1#1), ∀ a x, ((![v647, v589] : Fin 2 → IVec S16 32) a x).toNat < S8x4096.size a)
theorem k0_idx33_inb : ∀ (v287 : BitVec 32) (v294 : BitVec 32) (k0_t17 : Fin (k0_t17_loop v287 v294).trips) (v589 : IVec S16 32) (v647 : IVec S16 32) (k0_hw36 : k0_chk36 v287 v294 k0_t17 v589 v647), ∀ (k0_h23 : k0_cond23 v287 v294 k0_t17 = 1#1), ∀ a x, ((![v647, v589] : Fin 2 → IVec S16 32) a x).toNat < S8x4096.size a := fun v287 v294 k0_t17 v589 v647 k0_hw36 k0_h23 => k0_hw36 k0_h23
def k0_off86 (k0_t18 : Fin k0_t18_loop.trips) : Fin 1 → Nat :=
  let c0_i32_284 : BitVec 32 := 0#32
  let c1_i32_285 : BitVec 32 := 1#32
  let arg23 : BitVec 32 := Scf.iv c0_i32_284 c1_i32_285 k0_t18
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk37 (v287 : BitVec 32) (v294 : BitVec 32) (k0_t17 : Fin (k0_t17_loop v287 v294).trips) (v655 : IVec S16 32) (v713 : IVec S16 32) : Prop :=
  (∀ (k0_h23 : k0_cond23 v287 v294 k0_t17 = 1#1), ∀ a x, ((![v713, v655] : Fin 2 → IVec S16 32) a x).toNat < S8x4096.size a)
theorem k0_idx34_inb : ∀ (v287 : BitVec 32) (v294 : BitVec 32) (k0_t17 : Fin (k0_t17_loop v287 v294).trips) (v655 : IVec S16 32) (v713 : IVec S16 32) (k0_hw37 : k0_chk37 v287 v294 k0_t17 v655 v713), ∀ (k0_h23 : k0_cond23 v287 v294 k0_t17 = 1#1), ∀ a x, ((![v713, v655] : Fin 2 → IVec S16 32) a x).toNat < S8x4096.size a := fun v287 v294 k0_t17 v655 v713 k0_hw37 k0_h23 => k0_hw37 k0_h23
def k0_off87 (k0_t18 : Fin k0_t18_loop.trips) : Fin 1 → Nat :=
  let c0_i32_284 : BitVec 32 := 0#32
  let c1_i32_285 : BitVec 32 := 1#32
  let arg23 : BitVec 32 := Scf.iv c0_i32_284 c1_i32_285 k0_t18
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk38 (v287 : BitVec 32) (v294 : BitVec 32) (k0_t17 : Fin (k0_t17_loop v287 v294).trips) (v721 : IVec S16 32) (v779 : IVec S16 32) : Prop :=
  (∀ (k0_h23 : k0_cond23 v287 v294 k0_t17 = 1#1), ∀ a x, ((![v779, v721] : Fin 2 → IVec S16 32) a x).toNat < S8x4096.size a)
theorem k0_idx35_inb : ∀ (v287 : BitVec 32) (v294 : BitVec 32) (k0_t17 : Fin (k0_t17_loop v287 v294).trips) (v721 : IVec S16 32) (v779 : IVec S16 32) (k0_hw38 : k0_chk38 v287 v294 k0_t17 v721 v779), ∀ (k0_h23 : k0_cond23 v287 v294 k0_t17 = 1#1), ∀ a x, ((![v779, v721] : Fin 2 → IVec S16 32) a x).toNat < S8x4096.size a := fun v287 v294 k0_t17 v721 v779 k0_hw38 k0_h23 => k0_hw38 k0_h23
def k0_off88 (k0_t18 : Fin k0_t18_loop.trips) : Fin 1 → Nat :=
  let c0_i32_284 : BitVec 32 := 0#32
  let c1_i32_285 : BitVec 32 := 1#32
  let arg23 : BitVec 32 := Scf.iv c0_i32_284 c1_i32_285 k0_t18
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk39 (v287 : BitVec 32) (v294 : BitVec 32) (k0_t17 : Fin (k0_t17_loop v287 v294).trips) (v787 : IVec S16 32) (v845 : IVec S16 32) : Prop :=
  (∀ (k0_h23 : k0_cond23 v287 v294 k0_t17 = 1#1), ∀ a x, ((![v845, v787] : Fin 2 → IVec S16 32) a x).toNat < S8x4096.size a)
theorem k0_idx36_inb : ∀ (v287 : BitVec 32) (v294 : BitVec 32) (k0_t17 : Fin (k0_t17_loop v287 v294).trips) (v787 : IVec S16 32) (v845 : IVec S16 32) (k0_hw39 : k0_chk39 v287 v294 k0_t17 v787 v845), ∀ (k0_h23 : k0_cond23 v287 v294 k0_t17 = 1#1), ∀ a x, ((![v845, v787] : Fin 2 → IVec S16 32) a x).toNat < S8x4096.size a := fun v287 v294 k0_t17 v787 v845 k0_hw39 k0_h23 => k0_hw39 k0_h23
def k0_mult33 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k0_cond24 (v287 : BitVec 32) (v294 : BitVec 32) (k0_t17 : Fin (k0_t17_loop v287 v294).trips) : BitVec 1 :=
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v579 : BitVec 1 := Scalar.cmpi .slt v578 v317
  let v580 : BitVec 32 := Scalar.extui v579
  let c0_i32_288 : BitVec 32 := 0#32
  let v581 : BitVec 1 := Scalar.cmpi .ne v580 c0_i32_288
  v581

def k0_off89 (v287 : BitVec 32) (v294 : BitVec 32) (k0_t17 : Fin (k0_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
def k0_mult34 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v298 v557
  let c1636352_i32 : BitVec 32 := 1636352#32
  let v559 : BitVec 32 := Scalar.minsi v558 c1636352_i32
  v559
def k0_cond25 (v287 : BitVec 32) (v294 : BitVec 32) (k0_t17 : Fin (k0_t17_loop v287 v294).trips) : BitVec 1 :=
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v554 : BitVec 1 := Scalar.cmpi .slt v553 v317
  let v555 : BitVec 32 := Scalar.extui v554
  let c0_i32_275 : BitVec 32 := 0#32
  let v556 : BitVec 1 := Scalar.cmpi .ne v555 c0_i32_275
  v556

def k0_mult35 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  v570
def k0_off90 (v287 : BitVec 32) (v294 : BitVec 32) (k0_t17 : Fin (k0_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k0_t19_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off91 (k0_t19 : Fin k0_t19_loop.trips) : Fin 1 → Nat :=
  let c0_i32_284 : BitVec 32 := 0#32
  let c1_i32_285 : BitVec 32 := 1#32
  let arg23 : BitVec 32 := Scf.iv c0_i32_284 c1_i32_285 k0_t19
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk40 (v287 : BitVec 32) (v294 : BitVec 32) (k0_t17 : Fin (k0_t17_loop v287 v294).trips) (v589 : IVec S16 32) (v647 : IVec S16 32) : Prop :=
  (∀ (k0_h25 : k0_cond25 v287 v294 k0_t17 = 1#1), ∀ a x, ((![v647, v589] : Fin 2 → IVec S16 32) a x).toNat < S8x4096.size a)
theorem k0_idx37_inb : ∀ (v287 : BitVec 32) (v294 : BitVec 32) (k0_t17 : Fin (k0_t17_loop v287 v294).trips) (v589 : IVec S16 32) (v647 : IVec S16 32) (k0_hw40 : k0_chk40 v287 v294 k0_t17 v589 v647), ∀ (k0_h25 : k0_cond25 v287 v294 k0_t17 = 1#1), ∀ a x, ((![v647, v589] : Fin 2 → IVec S16 32) a x).toNat < S8x4096.size a := fun v287 v294 k0_t17 v589 v647 k0_hw40 k0_h25 => k0_hw40 k0_h25
def k0_off92 (k0_t19 : Fin k0_t19_loop.trips) : Fin 1 → Nat :=
  let c0_i32_284 : BitVec 32 := 0#32
  let c1_i32_285 : BitVec 32 := 1#32
  let arg23 : BitVec 32 := Scf.iv c0_i32_284 c1_i32_285 k0_t19
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk41 (v287 : BitVec 32) (v294 : BitVec 32) (k0_t17 : Fin (k0_t17_loop v287 v294).trips) (v655 : IVec S16 32) (v713 : IVec S16 32) : Prop :=
  (∀ (k0_h25 : k0_cond25 v287 v294 k0_t17 = 1#1), ∀ a x, ((![v713, v655] : Fin 2 → IVec S16 32) a x).toNat < S8x4096.size a)
theorem k0_idx38_inb : ∀ (v287 : BitVec 32) (v294 : BitVec 32) (k0_t17 : Fin (k0_t17_loop v287 v294).trips) (v655 : IVec S16 32) (v713 : IVec S16 32) (k0_hw41 : k0_chk41 v287 v294 k0_t17 v655 v713), ∀ (k0_h25 : k0_cond25 v287 v294 k0_t17 = 1#1), ∀ a x, ((![v713, v655] : Fin 2 → IVec S16 32) a x).toNat < S8x4096.size a := fun v287 v294 k0_t17 v655 v713 k0_hw41 k0_h25 => k0_hw41 k0_h25
def k0_off93 (k0_t19 : Fin k0_t19_loop.trips) : Fin 1 → Nat :=
  let c0_i32_284 : BitVec 32 := 0#32
  let c1_i32_285 : BitVec 32 := 1#32
  let arg23 : BitVec 32 := Scf.iv c0_i32_284 c1_i32_285 k0_t19
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk42 (v287 : BitVec 32) (v294 : BitVec 32) (k0_t17 : Fin (k0_t17_loop v287 v294).trips) (v721 : IVec S16 32) (v779 : IVec S16 32) : Prop :=
  (∀ (k0_h25 : k0_cond25 v287 v294 k0_t17 = 1#1), ∀ a x, ((![v779, v721] : Fin 2 → IVec S16 32) a x).toNat < S8x4096.size a)
theorem k0_idx39_inb : ∀ (v287 : BitVec 32) (v294 : BitVec 32) (k0_t17 : Fin (k0_t17_loop v287 v294).trips) (v721 : IVec S16 32) (v779 : IVec S16 32) (k0_hw42 : k0_chk42 v287 v294 k0_t17 v721 v779), ∀ (k0_h25 : k0_cond25 v287 v294 k0_t17 = 1#1), ∀ a x, ((![v779, v721] : Fin 2 → IVec S16 32) a x).toNat < S8x4096.size a := fun v287 v294 k0_t17 v721 v779 k0_hw42 k0_h25 => k0_hw42 k0_h25
def k0_off94 (k0_t19 : Fin k0_t19_loop.trips) : Fin 1 → Nat :=
  let c0_i32_284 : BitVec 32 := 0#32
  let c1_i32_285 : BitVec 32 := 1#32
  let arg23 : BitVec 32 := Scf.iv c0_i32_284 c1_i32_285 k0_t19
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk43 (v287 : BitVec 32) (v294 : BitVec 32) (k0_t17 : Fin (k0_t17_loop v287 v294).trips) (v787 : IVec S16 32) (v845 : IVec S16 32) : Prop :=
  (∀ (k0_h25 : k0_cond25 v287 v294 k0_t17 = 1#1), ∀ a x, ((![v845, v787] : Fin 2 → IVec S16 32) a x).toNat < S8x4096.size a)
theorem k0_idx40_inb : ∀ (v287 : BitVec 32) (v294 : BitVec 32) (k0_t17 : Fin (k0_t17_loop v287 v294).trips) (v787 : IVec S16 32) (v845 : IVec S16 32) (k0_hw43 : k0_chk43 v287 v294 k0_t17 v787 v845), ∀ (k0_h25 : k0_cond25 v287 v294 k0_t17 = 1#1), ∀ a x, ((![v845, v787] : Fin 2 → IVec S16 32) a x).toNat < S8x4096.size a := fun v287 v294 k0_t17 v787 v845 k0_hw43 k0_h25 => k0_hw43 k0_h25
def k0_mult36 (v287 : BitVec 32) (v294 : BitVec 32) (k0_t17 : Fin (k0_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k0_cond26 (v287 : BitVec 32) (v294 : BitVec 32) (k0_t17 : Fin (k0_t17_loop v287 v294).trips) : BitVec 1 :=
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v579 : BitVec 1 := Scalar.cmpi .slt v578 v317
  let v580 : BitVec 32 := Scalar.extui v579
  let c0_i32_288 : BitVec 32 := 0#32
  let v581 : BitVec 1 := Scalar.cmpi .ne v580 c0_i32_288
  v581

def k0_off95 (v287 : BitVec 32) (v294 : BitVec 32) (k0_t17 : Fin (k0_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k0_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
@[reducible] def k0_t20_loop (v287 : BitVec 32) (v294 : BitVec 32) : Scf.Loop 32 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let v401 : BitVec 32 := Scalar.addi c0_i32_191 v400
  let c1_i32_195 : BitVec 32 := 1#32
  ⟨v404, v401, c1_i32_195⟩
def k0_mult37 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v298 v557
  let c1636352_i32 : BitVec 32 := 1636352#32
  let v559 : BitVec 32 := Scalar.minsi v558 c1636352_i32
  v559
def k0_cond27 (v287 : BitVec 32) (v294 : BitVec 32) (k0_t20 : Fin (k0_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let v549 : BitVec 1 := Scalar.cmpi .slt v548 v317
  let v550 : BitVec 32 := Scalar.extui v549
  let c0_i32_272 : BitVec 32 := 0#32
  let v551 : BitVec 1 := Scalar.cmpi .ne v550 c0_i32_272
  v551

def k0_mult38 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  v570
def k0_off96 (v287 : BitVec 32) (v294 : BitVec 32) (k0_t20 : Fin (k0_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k0_t21_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off97 (k0_t21 : Fin k0_t21_loop.trips) : Fin 1 → Nat :=
  let c0_i32_284 : BitVec 32 := 0#32
  let c1_i32_285 : BitVec 32 := 1#32
  let arg23 : BitVec 32 := Scf.iv c0_i32_284 c1_i32_285 k0_t21
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk44 (v287 : BitVec 32) (v294 : BitVec 32) (k0_t20 : Fin (k0_t20_loop v287 v294).trips) (v589 : IVec S16 32) (v647 : IVec S16 32) : Prop :=
  (∀ (k0_h27 : k0_cond27 v287 v294 k0_t20 = 1#1), ∀ a x, ((![v647, v589] : Fin 2 → IVec S16 32) a x).toNat < S8x4096.size a)
theorem k0_idx41_inb : ∀ (v287 : BitVec 32) (v294 : BitVec 32) (k0_t20 : Fin (k0_t20_loop v287 v294).trips) (v589 : IVec S16 32) (v647 : IVec S16 32) (k0_hw44 : k0_chk44 v287 v294 k0_t20 v589 v647), ∀ (k0_h27 : k0_cond27 v287 v294 k0_t20 = 1#1), ∀ a x, ((![v647, v589] : Fin 2 → IVec S16 32) a x).toNat < S8x4096.size a := fun v287 v294 k0_t20 v589 v647 k0_hw44 k0_h27 => k0_hw44 k0_h27
def k0_off98 (k0_t21 : Fin k0_t21_loop.trips) : Fin 1 → Nat :=
  let c0_i32_284 : BitVec 32 := 0#32
  let c1_i32_285 : BitVec 32 := 1#32
  let arg23 : BitVec 32 := Scf.iv c0_i32_284 c1_i32_285 k0_t21
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk45 (v287 : BitVec 32) (v294 : BitVec 32) (k0_t20 : Fin (k0_t20_loop v287 v294).trips) (v655 : IVec S16 32) (v713 : IVec S16 32) : Prop :=
  (∀ (k0_h27 : k0_cond27 v287 v294 k0_t20 = 1#1), ∀ a x, ((![v713, v655] : Fin 2 → IVec S16 32) a x).toNat < S8x4096.size a)
theorem k0_idx42_inb : ∀ (v287 : BitVec 32) (v294 : BitVec 32) (k0_t20 : Fin (k0_t20_loop v287 v294).trips) (v655 : IVec S16 32) (v713 : IVec S16 32) (k0_hw45 : k0_chk45 v287 v294 k0_t20 v655 v713), ∀ (k0_h27 : k0_cond27 v287 v294 k0_t20 = 1#1), ∀ a x, ((![v713, v655] : Fin 2 → IVec S16 32) a x).toNat < S8x4096.size a := fun v287 v294 k0_t20 v655 v713 k0_hw45 k0_h27 => k0_hw45 k0_h27
def k0_off99 (k0_t21 : Fin k0_t21_loop.trips) : Fin 1 → Nat :=
  let c0_i32_284 : BitVec 32 := 0#32
  let c1_i32_285 : BitVec 32 := 1#32
  let arg23 : BitVec 32 := Scf.iv c0_i32_284 c1_i32_285 k0_t21
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk46 (v287 : BitVec 32) (v294 : BitVec 32) (k0_t20 : Fin (k0_t20_loop v287 v294).trips) (v721 : IVec S16 32) (v779 : IVec S16 32) : Prop :=
  (∀ (k0_h27 : k0_cond27 v287 v294 k0_t20 = 1#1), ∀ a x, ((![v779, v721] : Fin 2 → IVec S16 32) a x).toNat < S8x4096.size a)
theorem k0_idx43_inb : ∀ (v287 : BitVec 32) (v294 : BitVec 32) (k0_t20 : Fin (k0_t20_loop v287 v294).trips) (v721 : IVec S16 32) (v779 : IVec S16 32) (k0_hw46 : k0_chk46 v287 v294 k0_t20 v721 v779), ∀ (k0_h27 : k0_cond27 v287 v294 k0_t20 = 1#1), ∀ a x, ((![v779, v721] : Fin 2 → IVec S16 32) a x).toNat < S8x4096.size a := fun v287 v294 k0_t20 v721 v779 k0_hw46 k0_h27 => k0_hw46 k0_h27
def k0_off100 (k0_t21 : Fin k0_t21_loop.trips) : Fin 1 → Nat :=
  let c0_i32_284 : BitVec 32 := 0#32
  let c1_i32_285 : BitVec 32 := 1#32
  let arg23 : BitVec 32 := Scf.iv c0_i32_284 c1_i32_285 k0_t21
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk47 (v287 : BitVec 32) (v294 : BitVec 32) (k0_t20 : Fin (k0_t20_loop v287 v294).trips) (v787 : IVec S16 32) (v845 : IVec S16 32) : Prop :=
  (∀ (k0_h27 : k0_cond27 v287 v294 k0_t20 = 1#1), ∀ a x, ((![v845, v787] : Fin 2 → IVec S16 32) a x).toNat < S8x4096.size a)
theorem k0_idx44_inb : ∀ (v287 : BitVec 32) (v294 : BitVec 32) (k0_t20 : Fin (k0_t20_loop v287 v294).trips) (v787 : IVec S16 32) (v845 : IVec S16 32) (k0_hw47 : k0_chk47 v287 v294 k0_t20 v787 v845), ∀ (k0_h27 : k0_cond27 v287 v294 k0_t20 = 1#1), ∀ a x, ((![v845, v787] : Fin 2 → IVec S16 32) a x).toNat < S8x4096.size a := fun v287 v294 k0_t20 v787 v845 k0_hw47 k0_h27 => k0_hw47 k0_h27
def k0_mult39 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k0_cond28 (v287 : BitVec 32) (v294 : BitVec 32) (k0_t20 : Fin (k0_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let v579 : BitVec 1 := Scalar.cmpi .slt v578 v317
  let v580 : BitVec 32 := Scalar.extui v579
  let c0_i32_288 : BitVec 32 := 0#32
  let v581 : BitVec 1 := Scalar.cmpi .ne v580 c0_i32_288
  v581

def k0_off101 (v287 : BitVec 32) (v294 : BitVec 32) (k0_t20 : Fin (k0_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
def k0_mult40 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v298 v557
  let c1636352_i32 : BitVec 32 := 1636352#32
  let v559 : BitVec 32 := Scalar.minsi v558 c1636352_i32
  v559
def k0_cond29 (v287 : BitVec 32) (v294 : BitVec 32) (k0_t20 : Fin (k0_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let v554 : BitVec 1 := Scalar.cmpi .slt v553 v317
  let v555 : BitVec 32 := Scalar.extui v554
  let c0_i32_275 : BitVec 32 := 0#32
  let v556 : BitVec 1 := Scalar.cmpi .ne v555 c0_i32_275
  v556

def k0_mult41 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  v570
def k0_off102 (v287 : BitVec 32) (v294 : BitVec 32) (k0_t20 : Fin (k0_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k0_t22_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off103 (k0_t22 : Fin k0_t22_loop.trips) : Fin 1 → Nat :=
  let c0_i32_284 : BitVec 32 := 0#32
  let c1_i32_285 : BitVec 32 := 1#32
  let arg23 : BitVec 32 := Scf.iv c0_i32_284 c1_i32_285 k0_t22
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk48 (v287 : BitVec 32) (v294 : BitVec 32) (k0_t20 : Fin (k0_t20_loop v287 v294).trips) (v589 : IVec S16 32) (v647 : IVec S16 32) : Prop :=
  (∀ (k0_h29 : k0_cond29 v287 v294 k0_t20 = 1#1), ∀ a x, ((![v647, v589] : Fin 2 → IVec S16 32) a x).toNat < S8x4096.size a)
theorem k0_idx45_inb : ∀ (v287 : BitVec 32) (v294 : BitVec 32) (k0_t20 : Fin (k0_t20_loop v287 v294).trips) (v589 : IVec S16 32) (v647 : IVec S16 32) (k0_hw48 : k0_chk48 v287 v294 k0_t20 v589 v647), ∀ (k0_h29 : k0_cond29 v287 v294 k0_t20 = 1#1), ∀ a x, ((![v647, v589] : Fin 2 → IVec S16 32) a x).toNat < S8x4096.size a := fun v287 v294 k0_t20 v589 v647 k0_hw48 k0_h29 => k0_hw48 k0_h29
def k0_off104 (k0_t22 : Fin k0_t22_loop.trips) : Fin 1 → Nat :=
  let c0_i32_284 : BitVec 32 := 0#32
  let c1_i32_285 : BitVec 32 := 1#32
  let arg23 : BitVec 32 := Scf.iv c0_i32_284 c1_i32_285 k0_t22
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk49 (v287 : BitVec 32) (v294 : BitVec 32) (k0_t20 : Fin (k0_t20_loop v287 v294).trips) (v655 : IVec S16 32) (v713 : IVec S16 32) : Prop :=
  (∀ (k0_h29 : k0_cond29 v287 v294 k0_t20 = 1#1), ∀ a x, ((![v713, v655] : Fin 2 → IVec S16 32) a x).toNat < S8x4096.size a)
theorem k0_idx46_inb : ∀ (v287 : BitVec 32) (v294 : BitVec 32) (k0_t20 : Fin (k0_t20_loop v287 v294).trips) (v655 : IVec S16 32) (v713 : IVec S16 32) (k0_hw49 : k0_chk49 v287 v294 k0_t20 v655 v713), ∀ (k0_h29 : k0_cond29 v287 v294 k0_t20 = 1#1), ∀ a x, ((![v713, v655] : Fin 2 → IVec S16 32) a x).toNat < S8x4096.size a := fun v287 v294 k0_t20 v655 v713 k0_hw49 k0_h29 => k0_hw49 k0_h29
def k0_off105 (k0_t22 : Fin k0_t22_loop.trips) : Fin 1 → Nat :=
  let c0_i32_284 : BitVec 32 := 0#32
  let c1_i32_285 : BitVec 32 := 1#32
  let arg23 : BitVec 32 := Scf.iv c0_i32_284 c1_i32_285 k0_t22
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk50 (v287 : BitVec 32) (v294 : BitVec 32) (k0_t20 : Fin (k0_t20_loop v287 v294).trips) (v721 : IVec S16 32) (v779 : IVec S16 32) : Prop :=
  (∀ (k0_h29 : k0_cond29 v287 v294 k0_t20 = 1#1), ∀ a x, ((![v779, v721] : Fin 2 → IVec S16 32) a x).toNat < S8x4096.size a)
theorem k0_idx47_inb : ∀ (v287 : BitVec 32) (v294 : BitVec 32) (k0_t20 : Fin (k0_t20_loop v287 v294).trips) (v721 : IVec S16 32) (v779 : IVec S16 32) (k0_hw50 : k0_chk50 v287 v294 k0_t20 v721 v779), ∀ (k0_h29 : k0_cond29 v287 v294 k0_t20 = 1#1), ∀ a x, ((![v779, v721] : Fin 2 → IVec S16 32) a x).toNat < S8x4096.size a := fun v287 v294 k0_t20 v721 v779 k0_hw50 k0_h29 => k0_hw50 k0_h29
def k0_off106 (k0_t22 : Fin k0_t22_loop.trips) : Fin 1 → Nat :=
  let c0_i32_284 : BitVec 32 := 0#32
  let c1_i32_285 : BitVec 32 := 1#32
  let arg23 : BitVec 32 := Scf.iv c0_i32_284 c1_i32_285 k0_t22
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk51 (v287 : BitVec 32) (v294 : BitVec 32) (k0_t20 : Fin (k0_t20_loop v287 v294).trips) (v787 : IVec S16 32) (v845 : IVec S16 32) : Prop :=
  (∀ (k0_h29 : k0_cond29 v287 v294 k0_t20 = 1#1), ∀ a x, ((![v845, v787] : Fin 2 → IVec S16 32) a x).toNat < S8x4096.size a)
theorem k0_idx48_inb : ∀ (v287 : BitVec 32) (v294 : BitVec 32) (k0_t20 : Fin (k0_t20_loop v287 v294).trips) (v787 : IVec S16 32) (v845 : IVec S16 32) (k0_hw51 : k0_chk51 v287 v294 k0_t20 v787 v845), ∀ (k0_h29 : k0_cond29 v287 v294 k0_t20 = 1#1), ∀ a x, ((![v845, v787] : Fin 2 → IVec S16 32) a x).toNat < S8x4096.size a := fun v287 v294 k0_t20 v787 v845 k0_hw51 k0_h29 => k0_hw51 k0_h29
def k0_mult42 (v287 : BitVec 32) (v294 : BitVec 32) (k0_t20 : Fin (k0_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k0_cond30 (v287 : BitVec 32) (v294 : BitVec 32) (k0_t20 : Fin (k0_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let v579 : BitVec 1 := Scalar.cmpi .slt v578 v317
  let v580 : BitVec 32 := Scalar.extui v579
  let c0_i32_288 : BitVec 32 := 0#32
  let v581 : BitVec 1 := Scalar.cmpi .ne v580 c0_i32_288
  v581

def k0_off107 (v287 : BitVec 32) (v294 : BitVec 32) (k0_t20 : Fin (k0_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k0_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]

def k0_chk35 (v287 : BitVec 32) (v294 : BitVec 32) : Prop :=
  (∀ (k0_h21 : k0_cond21 v287 v294 = 1#1), 8 ∣ (k0_mult29 v287).toNat) ∧
  (∀ (k0_h21 : k0_cond21 v287 v294 = 1#1), ∀ a, (k0_off74 v287) a + S2048.size a ≤ S1638400.size a) ∧
  (∀ (k0_h22 : k0_cond22 v287 v294 = 1#1), 8 ∣ (k0_mult30 v287).toNat) ∧
  (∀ (k0_h22 : k0_cond22 v287 v294 = 1#1), ∀ a, (k0_off75 v287) a + S2048.size a ≤ S1638400.size a) ∧
  ((k0_t17_loop v287 v294).OK) ∧
  (∀ k0_t17 : Fin (k0_t17_loop v287 v294).trips, ∀ (k0_h23 : k0_cond23 v287 v294 k0_t17 = 1#1), 8 ∣ (k0_mult31 v287 v294 k0_t17).toNat) ∧
  (∀ k0_t17 : Fin (k0_t17_loop v287 v294).trips, ∀ (k0_h23 : k0_cond23 v287 v294 k0_t17 = 1#1), 8 ∣ (k0_mult32 v287 v294 k0_t17).toNat) ∧
  (∀ k0_t17 : Fin (k0_t17_loop v287 v294).trips, ∀ (k0_h23 : k0_cond23 v287 v294 k0_t17 = 1#1), ∀ a, (k0_off84 v287 v294 k0_t17) a + S2048.size a ≤ S1638400.size a) ∧
  (∀ k0_t17 : Fin (k0_t17_loop v287 v294).trips, ∀ (k0_h23 : k0_cond23 v287 v294 k0_t17 = 1#1), ∀ (k0_h24 : k0_cond24 v287 v294 k0_t17 = 1#1), 8 ∣ (k0_mult33 v287 v294 k0_t17).toNat) ∧
  (∀ k0_t17 : Fin (k0_t17_loop v287 v294).trips, ∀ (k0_h23 : k0_cond23 v287 v294 k0_t17 = 1#1), ∀ (k0_h24 : k0_cond24 v287 v294 k0_t17 = 1#1), ∀ a, (k0_off89 v287 v294 k0_t17) a + S2048.size a ≤ S1638400.size a) ∧
  (∀ k0_t17 : Fin (k0_t17_loop v287 v294).trips, ∀ (k0_h25 : k0_cond25 v287 v294 k0_t17 = 1#1), 8 ∣ (k0_mult34 v287 v294 k0_t17).toNat) ∧
  (∀ k0_t17 : Fin (k0_t17_loop v287 v294).trips, ∀ (k0_h25 : k0_cond25 v287 v294 k0_t17 = 1#1), 8 ∣ (k0_mult35 v287 v294 k0_t17).toNat) ∧
  (∀ k0_t17 : Fin (k0_t17_loop v287 v294).trips, ∀ (k0_h25 : k0_cond25 v287 v294 k0_t17 = 1#1), ∀ a, (k0_off90 v287 v294 k0_t17) a + S2048.size a ≤ S1638400.size a) ∧
  (∀ k0_t17 : Fin (k0_t17_loop v287 v294).trips, ∀ (k0_h25 : k0_cond25 v287 v294 k0_t17 = 1#1), ∀ (k0_h26 : k0_cond26 v287 v294 k0_t17 = 1#1), 8 ∣ (k0_mult36 v287 v294 k0_t17).toNat) ∧
  (∀ k0_t17 : Fin (k0_t17_loop v287 v294).trips, ∀ (k0_h25 : k0_cond25 v287 v294 k0_t17 = 1#1), ∀ (k0_h26 : k0_cond26 v287 v294 k0_t17 = 1#1), ∀ a, (k0_off95 v287 v294 k0_t17) a + S2048.size a ≤ S1638400.size a) ∧
  ((k0_t20_loop v287 v294).OK) ∧
  (∀ k0_t20 : Fin (k0_t20_loop v287 v294).trips, ∀ (k0_h27 : k0_cond27 v287 v294 k0_t20 = 1#1), 8 ∣ (k0_mult37 v287 v294 k0_t20).toNat) ∧
  (∀ k0_t20 : Fin (k0_t20_loop v287 v294).trips, ∀ (k0_h27 : k0_cond27 v287 v294 k0_t20 = 1#1), 8 ∣ (k0_mult38 v287 v294 k0_t20).toNat) ∧
  (∀ k0_t20 : Fin (k0_t20_loop v287 v294).trips, ∀ (k0_h27 : k0_cond27 v287 v294 k0_t20 = 1#1), ∀ a, (k0_off96 v287 v294 k0_t20) a + S2048.size a ≤ S1638400.size a) ∧
  (∀ k0_t20 : Fin (k0_t20_loop v287 v294).trips, ∀ (k0_h27 : k0_cond27 v287 v294 k0_t20 = 1#1), ∀ (k0_h28 : k0_cond28 v287 v294 k0_t20 = 1#1), 8 ∣ (k0_mult39 v287 v294 k0_t20).toNat) ∧
  (∀ k0_t20 : Fin (k0_t20_loop v287 v294).trips, ∀ (k0_h27 : k0_cond27 v287 v294 k0_t20 = 1#1), ∀ (k0_h28 : k0_cond28 v287 v294 k0_t20 = 1#1), ∀ a, (k0_off101 v287 v294 k0_t20) a + S2048.size a ≤ S1638400.size a) ∧
  (∀ k0_t20 : Fin (k0_t20_loop v287 v294).trips, ∀ (k0_h29 : k0_cond29 v287 v294 k0_t20 = 1#1), 8 ∣ (k0_mult40 v287 v294 k0_t20).toNat) ∧
  (∀ k0_t20 : Fin (k0_t20_loop v287 v294).trips, ∀ (k0_h29 : k0_cond29 v287 v294 k0_t20 = 1#1), 8 ∣ (k0_mult41 v287 v294 k0_t20).toNat) ∧
  (∀ k0_t20 : Fin (k0_t20_loop v287 v294).trips, ∀ (k0_h29 : k0_cond29 v287 v294 k0_t20 = 1#1), ∀ a, (k0_off102 v287 v294 k0_t20) a + S2048.size a ≤ S1638400.size a) ∧
  (∀ k0_t20 : Fin (k0_t20_loop v287 v294).trips, ∀ (k0_h29 : k0_cond29 v287 v294 k0_t20 = 1#1), ∀ (k0_h30 : k0_cond30 v287 v294 k0_t20 = 1#1), 8 ∣ (k0_mult42 v287 v294 k0_t20).toNat) ∧
  (∀ k0_t20 : Fin (k0_t20_loop v287 v294).trips, ∀ (k0_h29 : k0_cond29 v287 v294 k0_t20 = 1#1), ∀ (k0_h30 : k0_cond30 v287 v294 k0_t20 = 1#1), ∀ a, (k0_off107 v287 v294 k0_t20) a + S2048.size a ≤ S1638400.size a)
theorem k0_mult29_dvd : ∀ (v287 : BitVec 32) (v294 : BitVec 32) (k0_hw35 : k0_chk35 v287 v294), ∀ (k0_h21 : k0_cond21 v287 v294 = 1#1), 8 ∣ (k0_mult29 v287).toNat := fun v287 v294 k0_hw35 k0_h21 => k0_hw35.1 k0_h21
theorem k0_off74_inb : ∀ (v287 : BitVec 32) (v294 : BitVec 32) (k0_hw35 : k0_chk35 v287 v294), ∀ (k0_h21 : k0_cond21 v287 v294 = 1#1), ∀ a, (k0_off74 v287) a + S2048.size a ≤ S1638400.size a := fun v287 v294 k0_hw35 k0_h21 => k0_hw35.2.1 k0_h21
theorem k0_mult30_dvd : ∀ (v287 : BitVec 32) (v294 : BitVec 32) (k0_hw35 : k0_chk35 v287 v294), ∀ (k0_h22 : k0_cond22 v287 v294 = 1#1), 8 ∣ (k0_mult30 v287).toNat := fun v287 v294 k0_hw35 k0_h22 => k0_hw35.2.2.1 k0_h22
theorem k0_off75_inb : ∀ (v287 : BitVec 32) (v294 : BitVec 32) (k0_hw35 : k0_chk35 v287 v294), ∀ (k0_h22 : k0_cond22 v287 v294 = 1#1), ∀ a, (k0_off75 v287) a + S2048.size a ≤ S1638400.size a := fun v287 v294 k0_hw35 k0_h22 => k0_hw35.2.2.2.1 k0_h22
theorem k0_t17_ok : ∀ (v287 : BitVec 32) (v294 : BitVec 32) (k0_hw35 : k0_chk35 v287 v294), (k0_t17_loop v287 v294).OK := fun v287 v294 k0_hw35 => k0_hw35.2.2.2.2.1
theorem k0_mult31_dvd : ∀ (v287 : BitVec 32) (v294 : BitVec 32) (k0_hw35 : k0_chk35 v287 v294) (k0_t17 : Fin (k0_t17_loop v287 v294).trips), ∀ (k0_h23 : k0_cond23 v287 v294 k0_t17 = 1#1), 8 ∣ (k0_mult31 v287 v294 k0_t17).toNat := fun v287 v294 k0_hw35 k0_t17 k0_h23 => k0_hw35.2.2.2.2.2.1 k0_t17 k0_h23
theorem k0_mult32_dvd : ∀ (v287 : BitVec 32) (v294 : BitVec 32) (k0_hw35 : k0_chk35 v287 v294) (k0_t17 : Fin (k0_t17_loop v287 v294).trips), ∀ (k0_h23 : k0_cond23 v287 v294 k0_t17 = 1#1), 8 ∣ (k0_mult32 v287 v294 k0_t17).toNat := fun v287 v294 k0_hw35 k0_t17 k0_h23 => k0_hw35.2.2.2.2.2.2.1 k0_t17 k0_h23
theorem k0_off84_inb : ∀ (v287 : BitVec 32) (v294 : BitVec 32) (k0_hw35 : k0_chk35 v287 v294) (k0_t17 : Fin (k0_t17_loop v287 v294).trips), ∀ (k0_h23 : k0_cond23 v287 v294 k0_t17 = 1#1), ∀ a, (k0_off84 v287 v294 k0_t17) a + S2048.size a ≤ S1638400.size a := fun v287 v294 k0_hw35 k0_t17 k0_h23 => k0_hw35.2.2.2.2.2.2.2.1 k0_t17 k0_h23
theorem k0_mult33_dvd : ∀ (v287 : BitVec 32) (v294 : BitVec 32) (k0_hw35 : k0_chk35 v287 v294) (k0_t17 : Fin (k0_t17_loop v287 v294).trips), ∀ (k0_h23 : k0_cond23 v287 v294 k0_t17 = 1#1), ∀ (k0_h24 : k0_cond24 v287 v294 k0_t17 = 1#1), 8 ∣ (k0_mult33 v287 v294 k0_t17).toNat := fun v287 v294 k0_hw35 k0_t17 k0_h23 k0_h24 => k0_hw35.2.2.2.2.2.2.2.2.1 k0_t17 k0_h23 k0_h24
theorem k0_off89_inb : ∀ (v287 : BitVec 32) (v294 : BitVec 32) (k0_hw35 : k0_chk35 v287 v294) (k0_t17 : Fin (k0_t17_loop v287 v294).trips), ∀ (k0_h23 : k0_cond23 v287 v294 k0_t17 = 1#1), ∀ (k0_h24 : k0_cond24 v287 v294 k0_t17 = 1#1), ∀ a, (k0_off89 v287 v294 k0_t17) a + S2048.size a ≤ S1638400.size a := fun v287 v294 k0_hw35 k0_t17 k0_h23 k0_h24 => k0_hw35.2.2.2.2.2.2.2.2.2.1 k0_t17 k0_h23 k0_h24
theorem k0_mult34_dvd : ∀ (v287 : BitVec 32) (v294 : BitVec 32) (k0_hw35 : k0_chk35 v287 v294) (k0_t17 : Fin (k0_t17_loop v287 v294).trips), ∀ (k0_h25 : k0_cond25 v287 v294 k0_t17 = 1#1), 8 ∣ (k0_mult34 v287 v294 k0_t17).toNat := fun v287 v294 k0_hw35 k0_t17 k0_h25 => k0_hw35.2.2.2.2.2.2.2.2.2.2.1 k0_t17 k0_h25
theorem k0_mult35_dvd : ∀ (v287 : BitVec 32) (v294 : BitVec 32) (k0_hw35 : k0_chk35 v287 v294) (k0_t17 : Fin (k0_t17_loop v287 v294).trips), ∀ (k0_h25 : k0_cond25 v287 v294 k0_t17 = 1#1), 8 ∣ (k0_mult35 v287 v294 k0_t17).toNat := fun v287 v294 k0_hw35 k0_t17 k0_h25 => k0_hw35.2.2.2.2.2.2.2.2.2.2.2.1 k0_t17 k0_h25
theorem k0_off90_inb : ∀ (v287 : BitVec 32) (v294 : BitVec 32) (k0_hw35 : k0_chk35 v287 v294) (k0_t17 : Fin (k0_t17_loop v287 v294).trips), ∀ (k0_h25 : k0_cond25 v287 v294 k0_t17 = 1#1), ∀ a, (k0_off90 v287 v294 k0_t17) a + S2048.size a ≤ S1638400.size a := fun v287 v294 k0_hw35 k0_t17 k0_h25 => k0_hw35.2.2.2.2.2.2.2.2.2.2.2.2.1 k0_t17 k0_h25
theorem k0_mult36_dvd : ∀ (v287 : BitVec 32) (v294 : BitVec 32) (k0_hw35 : k0_chk35 v287 v294) (k0_t17 : Fin (k0_t17_loop v287 v294).trips), ∀ (k0_h25 : k0_cond25 v287 v294 k0_t17 = 1#1), ∀ (k0_h26 : k0_cond26 v287 v294 k0_t17 = 1#1), 8 ∣ (k0_mult36 v287 v294 k0_t17).toNat := fun v287 v294 k0_hw35 k0_t17 k0_h25 k0_h26 => k0_hw35.2.2.2.2.2.2.2.2.2.2.2.2.2.1 k0_t17 k0_h25 k0_h26
theorem k0_off95_inb : ∀ (v287 : BitVec 32) (v294 : BitVec 32) (k0_hw35 : k0_chk35 v287 v294) (k0_t17 : Fin (k0_t17_loop v287 v294).trips), ∀ (k0_h25 : k0_cond25 v287 v294 k0_t17 = 1#1), ∀ (k0_h26 : k0_cond26 v287 v294 k0_t17 = 1#1), ∀ a, (k0_off95 v287 v294 k0_t17) a + S2048.size a ≤ S1638400.size a := fun v287 v294 k0_hw35 k0_t17 k0_h25 k0_h26 => k0_hw35.2.2.2.2.2.2.2.2.2.2.2.2.2.2.1 k0_t17 k0_h25 k0_h26
theorem k0_t20_ok : ∀ (v287 : BitVec 32) (v294 : BitVec 32) (k0_hw35 : k0_chk35 v287 v294), (k0_t20_loop v287 v294).OK := fun v287 v294 k0_hw35 => k0_hw35.2.2.2.2.2.2.2.2.2.2.2.2.2.2.2.1
theorem k0_mult37_dvd : ∀ (v287 : BitVec 32) (v294 : BitVec 32) (k0_hw35 : k0_chk35 v287 v294) (k0_t20 : Fin (k0_t20_loop v287 v294).trips), ∀ (k0_h27 : k0_cond27 v287 v294 k0_t20 = 1#1), 8 ∣ (k0_mult37 v287 v294 k0_t20).toNat := fun v287 v294 k0_hw35 k0_t20 k0_h27 => k0_hw35.2.2.2.2.2.2.2.2.2.2.2.2.2.2.2.2.1 k0_t20 k0_h27
theorem k0_mult38_dvd : ∀ (v287 : BitVec 32) (v294 : BitVec 32) (k0_hw35 : k0_chk35 v287 v294) (k0_t20 : Fin (k0_t20_loop v287 v294).trips), ∀ (k0_h27 : k0_cond27 v287 v294 k0_t20 = 1#1), 8 ∣ (k0_mult38 v287 v294 k0_t20).toNat := fun v287 v294 k0_hw35 k0_t20 k0_h27 => k0_hw35.2.2.2.2.2.2.2.2.2.2.2.2.2.2.2.2.2.1 k0_t20 k0_h27
theorem k0_off96_inb : ∀ (v287 : BitVec 32) (v294 : BitVec 32) (k0_hw35 : k0_chk35 v287 v294) (k0_t20 : Fin (k0_t20_loop v287 v294).trips), ∀ (k0_h27 : k0_cond27 v287 v294 k0_t20 = 1#1), ∀ a, (k0_off96 v287 v294 k0_t20) a + S2048.size a ≤ S1638400.size a := fun v287 v294 k0_hw35 k0_t20 k0_h27 => k0_hw35.2.2.2.2.2.2.2.2.2.2.2.2.2.2.2.2.2.2.1 k0_t20 k0_h27
theorem k0_mult39_dvd : ∀ (v287 : BitVec 32) (v294 : BitVec 32) (k0_hw35 : k0_chk35 v287 v294) (k0_t20 : Fin (k0_t20_loop v287 v294).trips), ∀ (k0_h27 : k0_cond27 v287 v294 k0_t20 = 1#1), ∀ (k0_h28 : k0_cond28 v287 v294 k0_t20 = 1#1), 8 ∣ (k0_mult39 v287 v294 k0_t20).toNat := fun v287 v294 k0_hw35 k0_t20 k0_h27 k0_h28 => k0_hw35.2.2.2.2.2.2.2.2.2.2.2.2.2.2.2.2.2.2.2.1 k0_t20 k0_h27 k0_h28
theorem k0_off101_inb : ∀ (v287 : BitVec 32) (v294 : BitVec 32) (k0_hw35 : k0_chk35 v287 v294) (k0_t20 : Fin (k0_t20_loop v287 v294).trips), ∀ (k0_h27 : k0_cond27 v287 v294 k0_t20 = 1#1), ∀ (k0_h28 : k0_cond28 v287 v294 k0_t20 = 1#1), ∀ a, (k0_off101 v287 v294 k0_t20) a + S2048.size a ≤ S1638400.size a := fun v287 v294 k0_hw35 k0_t20 k0_h27 k0_h28 => k0_hw35.2.2.2.2.2.2.2.2.2.2.2.2.2.2.2.2.2.2.2.2.1 k0_t20 k0_h27 k0_h28
theorem k0_mult40_dvd : ∀ (v287 : BitVec 32) (v294 : BitVec 32) (k0_hw35 : k0_chk35 v287 v294) (k0_t20 : Fin (k0_t20_loop v287 v294).trips), ∀ (k0_h29 : k0_cond29 v287 v294 k0_t20 = 1#1), 8 ∣ (k0_mult40 v287 v294 k0_t20).toNat := fun v287 v294 k0_hw35 k0_t20 k0_h29 => k0_hw35.2.2.2.2.2.2.2.2.2.2.2.2.2.2.2.2.2.2.2.2.2.1 k0_t20 k0_h29
theorem k0_mult41_dvd : ∀ (v287 : BitVec 32) (v294 : BitVec 32) (k0_hw35 : k0_chk35 v287 v294) (k0_t20 : Fin (k0_t20_loop v287 v294).trips), ∀ (k0_h29 : k0_cond29 v287 v294 k0_t20 = 1#1), 8 ∣ (k0_mult41 v287 v294 k0_t20).toNat := fun v287 v294 k0_hw35 k0_t20 k0_h29 => k0_hw35.2.2.2.2.2.2.2.2.2.2.2.2.2.2.2.2.2.2.2.2.2.2.1 k0_t20 k0_h29
theorem k0_off102_inb : ∀ (v287 : BitVec 32) (v294 : BitVec 32) (k0_hw35 : k0_chk35 v287 v294) (k0_t20 : Fin (k0_t20_loop v287 v294).trips), ∀ (k0_h29 : k0_cond29 v287 v294 k0_t20 = 1#1), ∀ a, (k0_off102 v287 v294 k0_t20) a + S2048.size a ≤ S1638400.size a := fun v287 v294 k0_hw35 k0_t20 k0_h29 => k0_hw35.2.2.2.2.2.2.2.2.2.2.2.2.2.2.2.2.2.2.2.2.2.2.2.1 k0_t20 k0_h29
theorem k0_mult42_dvd : ∀ (v287 : BitVec 32) (v294 : BitVec 32) (k0_hw35 : k0_chk35 v287 v294) (k0_t20 : Fin (k0_t20_loop v287 v294).trips), ∀ (k0_h29 : k0_cond29 v287 v294 k0_t20 = 1#1), ∀ (k0_h30 : k0_cond30 v287 v294 k0_t20 = 1#1), 8 ∣ (k0_mult42 v287 v294 k0_t20).toNat := fun v287 v294 k0_hw35 k0_t20 k0_h29 k0_h30 => k0_hw35.2.2.2.2.2.2.2.2.2.2.2.2.2.2.2.2.2.2.2.2.2.2.2.2.1 k0_t20 k0_h29 k0_h30
theorem k0_off107_inb : ∀ (v287 : BitVec 32) (v294 : BitVec 32) (k0_hw35 : k0_chk35 v287 v294) (k0_t20 : Fin (k0_t20_loop v287 v294).trips), ∀ (k0_h29 : k0_cond29 v287 v294 k0_t20 = 1#1), ∀ (k0_h30 : k0_cond30 v287 v294 k0_t20 = 1#1), ∀ a, (k0_off107 v287 v294 k0_t20) a + S2048.size a ≤ S1638400.size a := fun v287 v294 k0_hw35 k0_t20 k0_h29 k0_h30 => k0_hw35.2.2.2.2.2.2.2.2.2.2.2.2.2.2.2.2.2.2.2.2.2.2.2.2.2 k0_t20 k0_h29 k0_h30

def k0_off108 (i : grid0.Coords) (k0_t15 : Fin k0_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k0_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_130 : BitVec 32 := 8#32
  let v273 : BitVec 32 := Scalar.muli v272 c8_i32_130
  let v274 : BitVec 32 := Scalar.addi v6 v273
  let c0_i32_196 : BitVec 32 := 0#32
  ![v274.toNat, 0]
def k0_off109 (k0_t15 : Fin k0_t15_loop.trips) : Fin 1 → Nat :=
  let c1_i32_120 : BitVec 32 := 1#32
  let c1_i32_122 : BitVec 32 := 1#32
  let arg19 : BitVec 32 := Scf.iv c1_i32_120 c1_i32_122 k0_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_201 : BitVec 32 := 8#32
  let v413 : BitVec 32 := Scalar.muli v410 c8_i32_201
  let v414 : Index := Scalar.indexCast v413
  ![v414.toNat]
def k0_off110 (i : grid0.Coords) (k0_t15 : Fin k0_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k0_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_200 : BitVec 32 := 8#32
  let v411 : BitVec 32 := Scalar.muli v410 c8_i32_200
  let v412 : BitVec 32 := Scalar.addi v6 v411
  let c16_i32_209 : BitVec 32 := 16#32
  let v433 : BitVec 32 := Scalar.subi v412 c16_i32_209
  let c0_i32_210 : BitVec 32 := 0#32
  ![v433.toNat, 0]
def k0_mult43 (v425 : BitVec 32) : BitVec 32 :=
  let c_m8_i32_212 : BitVec 32 := 4294967288#32
  let v436 : BitVec 32 := Scalar.andi v425 c_m8_i32_212
  let c0_i32_270 : BitVec 32 := 0#32
  let v547 : BitVec 32 := Scalar.addi v436 c0_i32_270
  let c1636352_i32 : BitVec 32 := 1636352#32
  let v548 : BitVec 32 := Scalar.minsi v547 c1636352_i32
  v548
def k0_cond31 (v425 : BitVec 32) (v432 : BitVec 32) : BitVec 1 :=
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c0_i32_221 : BitVec 32 := 0#32
  let v456 : BitVec 1 := Scalar.cmpi .sgt v455 c0_i32_221
  let v457 : BitVec 32 := Scalar.extui v456
  let c0_i32_222 : BitVec 32 := 0#32
  let v458 : BitVec 1 := Scalar.cmpi .ne v457 c0_i32_222
  v458

def k0_off111 (v425 : BitVec 32) : Fin 1 → Nat :=
  let c_m8_i32_212 : BitVec 32 := 4294967288#32
  let v436 : BitVec 32 := Scalar.andi v425 c_m8_i32_212
  let c0_i32_270 : BitVec 32 := 0#32
  let v547 : BitVec 32 := Scalar.addi v436 c0_i32_270
  let c1636352_i32 : BitVec 32 := 1636352#32
  let v548 : BitVec 32 := Scalar.minsi v547 c1636352_i32
  let v549 : BitVec 32 := v548
  ![v549.toNat]
def k0_mult44 (v425 : BitVec 32) : BitVec 32 :=
  let c_m8_i32_212 : BitVec 32 := 4294967288#32
  let v436 : BitVec 32 := Scalar.andi v425 c_m8_i32_212
  let c2048_i32_270 : BitVec 32 := 2048#32
  let v547 : BitVec 32 := Scalar.addi v436 c2048_i32_270
  let c1636352_i32 : BitVec 32 := 1636352#32
  let v548 : BitVec 32 := Scalar.minsi v547 c1636352_i32
  v548
def k0_cond32 (v425 : BitVec 32) (v432 : BitVec 32) : BitVec 1 :=
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_223 : BitVec 32 := 1#32
  let v459 : BitVec 1 := Scalar.cmpi .sgt v455 c1_i32_223
  let v460 : BitVec 32 := Scalar.extui v459
  let c0_i32_224 : BitVec 32 := 0#32
  let v461 : BitVec 1 := Scalar.cmpi .ne v460 c0_i32_224
  v461

def k0_off112 (v425 : BitVec 32) : Fin 1 → Nat :=
  let c_m8_i32_212 : BitVec 32 := 4294967288#32
  let v436 : BitVec 32 := Scalar.andi v425 c_m8_i32_212
  let c2048_i32_270 : BitVec 32 := 2048#32
  let v547 : BitVec 32 := Scalar.addi v436 c2048_i32_270
  let c1636352_i32 : BitVec 32 := 1636352#32
  let v548 : BitVec 32 := Scalar.minsi v547 c1636352_i32
  let v549 : BitVec 32 := v548
  ![v549.toNat]
@[reducible] def k0_t23_loop : Scf.Loop 32 :=
  let c0_i32_226 : BitVec 32 := 0#32
  let c128_i32_227 : BitVec 32 := 128#32
  let v462 : BitVec 32 := Scalar.addi c0_i32_226 c128_i32_227
  let c1_i32_228 : BitVec 32 := 1#32
  ⟨c0_i32_226, v462, c1_i32_228⟩
def k0_off113 (k0_t23 : Fin k0_t23_loop.trips) (c0_i32_271 : BitVec 32) : Fin 2 → Nat :=
  let c0_i32_273 : BitVec 32 := 0#32
  let v550 : Index := Scalar.indexCast c0_i32_273
  let c0_i32_226 : BitVec 32 := 0#32
  let c1_i32_228 : BitVec 32 := 1#32
  let arg21 : BitVec 32 := Scf.iv c0_i32_226 c1_i32_228 k0_t23
  let c2_i32_270 : BitVec 32 := 2#32
  let v547 : BitVec 32 := Scalar.muli arg21 c2_i32_270
  let v548 : BitVec 32 := Scalar.addi v547 c0_i32_271
  let c16_i32_272 : BitVec 32 := 16#32
  let v549 : BitVec 32 := Scalar.muli v548 c16_i32_272
  let v551 : Index := Scalar.indexCast v549
  ![0, v551.toNat]
def k0_off114 (k0_t23 : Fin k0_t23_loop.trips) (c0_i32_279 : BitVec 32) : Fin 2 → Nat :=
  let c1_i32_281 : BitVec 32 := 1#32
  let v562 : Index := Scalar.indexCast c1_i32_281
  let c0_i32_226 : BitVec 32 := 0#32
  let c1_i32_228 : BitVec 32 := 1#32
  let arg21 : BitVec 32 := Scf.iv c0_i32_226 c1_i32_228 k0_t23
  let c2_i32_278 : BitVec 32 := 2#32
  let v559 : BitVec 32 := Scalar.muli arg21 c2_i32_278
  let v560 : BitVec 32 := Scalar.addi v559 c0_i32_279
  let c16_i32_280 : BitVec 32 := 16#32
  let v561 : BitVec 32 := Scalar.muli v560 c16_i32_280
  let v563 : Index := Scalar.indexCast v561
  ![1, v563.toNat]
def k0_off115 (k0_t23 : Fin k0_t23_loop.trips) (c0_i32_287 : BitVec 32) : Fin 2 → Nat :=
  let c2_i32_289 : BitVec 32 := 2#32
  let v574 : Index := Scalar.indexCast c2_i32_289
  let c0_i32_226 : BitVec 32 := 0#32
  let c1_i32_228 : BitVec 32 := 1#32
  let arg21 : BitVec 32 := Scf.iv c0_i32_226 c1_i32_228 k0_t23
  let c2_i32_286 : BitVec 32 := 2#32
  let v571 : BitVec 32 := Scalar.muli arg21 c2_i32_286
  let v572 : BitVec 32 := Scalar.addi v571 c0_i32_287
  let c16_i32_288 : BitVec 32 := 16#32
  let v573 : BitVec 32 := Scalar.muli v572 c16_i32_288
  let v575 : Index := Scalar.indexCast v573
  ![2, v575.toNat]
def k0_off116 (k0_t23 : Fin k0_t23_loop.trips) (c0_i32_295 : BitVec 32) : Fin 2 → Nat :=
  let c3_i32_297 : BitVec 32 := 3#32
  let v586 : Index := Scalar.indexCast c3_i32_297
  let c0_i32_226 : BitVec 32 := 0#32
  let c1_i32_228 : BitVec 32 := 1#32
  let arg21 : BitVec 32 := Scf.iv c0_i32_226 c1_i32_228 k0_t23
  let c2_i32_294 : BitVec 32 := 2#32
  let v583 : BitVec 32 := Scalar.muli arg21 c2_i32_294
  let v584 : BitVec 32 := Scalar.addi v583 c0_i32_295
  let c16_i32_296 : BitVec 32 := 16#32
  let v585 : BitVec 32 := Scalar.muli v584 c16_i32_296
  let v587 : Index := Scalar.indexCast v585
  ![3, v587.toNat]
def k0_off117 (k0_t23 : Fin k0_t23_loop.trips) (c0_i32_303 : BitVec 32) : Fin 2 → Nat :=
  let c4_i32_305 : BitVec 32 := 4#32
  let v598 : Index := Scalar.indexCast c4_i32_305
  let c0_i32_226 : BitVec 32 := 0#32
  let c1_i32_228 : BitVec 32 := 1#32
  let arg21 : BitVec 32 := Scf.iv c0_i32_226 c1_i32_228 k0_t23
  let c2_i32_302 : BitVec 32 := 2#32
  let v595 : BitVec 32 := Scalar.muli arg21 c2_i32_302
  let v596 : BitVec 32 := Scalar.addi v595 c0_i32_303
  let c16_i32_304 : BitVec 32 := 16#32
  let v597 : BitVec 32 := Scalar.muli v596 c16_i32_304
  let v599 : Index := Scalar.indexCast v597
  ![4, v599.toNat]
def k0_off118 (k0_t23 : Fin k0_t23_loop.trips) (c0_i32_311 : BitVec 32) : Fin 2 → Nat :=
  let c5_i32_313 : BitVec 32 := 5#32
  let v610 : Index := Scalar.indexCast c5_i32_313
  let c0_i32_226 : BitVec 32 := 0#32
  let c1_i32_228 : BitVec 32 := 1#32
  let arg21 : BitVec 32 := Scf.iv c0_i32_226 c1_i32_228 k0_t23
  let c2_i32_310 : BitVec 32 := 2#32
  let v607 : BitVec 32 := Scalar.muli arg21 c2_i32_310
  let v608 : BitVec 32 := Scalar.addi v607 c0_i32_311
  let c16_i32_312 : BitVec 32 := 16#32
  let v609 : BitVec 32 := Scalar.muli v608 c16_i32_312
  let v611 : Index := Scalar.indexCast v609
  ![5, v611.toNat]
def k0_off119 (k0_t23 : Fin k0_t23_loop.trips) (c0_i32_319 : BitVec 32) : Fin 2 → Nat :=
  let c6_i32_321 : BitVec 32 := 6#32
  let v622 : Index := Scalar.indexCast c6_i32_321
  let c0_i32_226 : BitVec 32 := 0#32
  let c1_i32_228 : BitVec 32 := 1#32
  let arg21 : BitVec 32 := Scf.iv c0_i32_226 c1_i32_228 k0_t23
  let c2_i32_318 : BitVec 32 := 2#32
  let v619 : BitVec 32 := Scalar.muli arg21 c2_i32_318
  let v620 : BitVec 32 := Scalar.addi v619 c0_i32_319
  let c16_i32_320 : BitVec 32 := 16#32
  let v621 : BitVec 32 := Scalar.muli v620 c16_i32_320
  let v623 : Index := Scalar.indexCast v621
  ![6, v623.toNat]
def k0_off120 (k0_t23 : Fin k0_t23_loop.trips) (c0_i32_327 : BitVec 32) : Fin 2 → Nat :=
  let c7_i32_329 : BitVec 32 := 7#32
  let v634 : Index := Scalar.indexCast c7_i32_329
  let c0_i32_226 : BitVec 32 := 0#32
  let c1_i32_228 : BitVec 32 := 1#32
  let arg21 : BitVec 32 := Scf.iv c0_i32_226 c1_i32_228 k0_t23
  let c2_i32_326 : BitVec 32 := 2#32
  let v631 : BitVec 32 := Scalar.muli arg21 c2_i32_326
  let v632 : BitVec 32 := Scalar.addi v631 c0_i32_327
  let c16_i32_328 : BitVec 32 := 16#32
  let v633 : BitVec 32 := Scalar.muli v632 c16_i32_328
  let v635 : Index := Scalar.indexCast v633
  ![7, v635.toNat]
@[reducible] def k0_t24_loop (v425 : BitVec 32) (v432 : BitVec 32) : Scf.Loop 32 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_265 : BitVec 32 := 1#32
  ⟨c0_i32_262, v542, c1_i32_265⟩
def k0_mult45 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v436 v557
  let c1636352_i32 : BitVec 32 := 1636352#32
  let v559 : BitVec 32 := Scalar.minsi v558 c1636352_i32
  v559
def k0_cond33 (v425 : BitVec 32) (v432 : BitVec 32) (k0_t24 : Fin (k0_t24_loop v425 v432).trips) : BitVec 1 :=
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v549 : BitVec 1 := Scalar.cmpi .slt v548 v455
  let v550 : BitVec 32 := Scalar.extui v549
  let c0_i32_272 : BitVec 32 := 0#32
  let v551 : BitVec 1 := Scalar.cmpi .ne v550 c0_i32_272
  v551

def k0_mult46 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  v570
def k0_off121 (v425 : BitVec 32) (v432 : BitVec 32) (k0_t24 : Fin (k0_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k0_t25_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off122 (k0_t25 : Fin k0_t25_loop.trips) : Fin 1 → Nat :=
  let c0_i32_284 : BitVec 32 := 0#32
  let c1_i32_285 : BitVec 32 := 1#32
  let arg23 : BitVec 32 := Scf.iv c0_i32_284 c1_i32_285 k0_t25
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk53 (v425 : BitVec 32) (v432 : BitVec 32) (k0_t24 : Fin (k0_t24_loop v425 v432).trips) (v589 : IVec S16 32) (v647 : IVec S16 32) : Prop :=
  (∀ (k0_h33 : k0_cond33 v425 v432 k0_t24 = 1#1), ∀ a x, ((![v647, v589] : Fin 2 → IVec S16 32) a x).toNat < S8x4096.size a)
theorem k0_idx49_inb : ∀ (v425 : BitVec 32) (v432 : BitVec 32) (k0_t24 : Fin (k0_t24_loop v425 v432).trips) (v589 : IVec S16 32) (v647 : IVec S16 32) (k0_hw53 : k0_chk53 v425 v432 k0_t24 v589 v647), ∀ (k0_h33 : k0_cond33 v425 v432 k0_t24 = 1#1), ∀ a x, ((![v647, v589] : Fin 2 → IVec S16 32) a x).toNat < S8x4096.size a := fun v425 v432 k0_t24 v589 v647 k0_hw53 k0_h33 => k0_hw53 k0_h33
def k0_off123 (k0_t25 : Fin k0_t25_loop.trips) : Fin 1 → Nat :=
  let c0_i32_284 : BitVec 32 := 0#32
  let c1_i32_285 : BitVec 32 := 1#32
  let arg23 : BitVec 32 := Scf.iv c0_i32_284 c1_i32_285 k0_t25
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk54 (v425 : BitVec 32) (v432 : BitVec 32) (k0_t24 : Fin (k0_t24_loop v425 v432).trips) (v655 : IVec S16 32) (v713 : IVec S16 32) : Prop :=
  (∀ (k0_h33 : k0_cond33 v425 v432 k0_t24 = 1#1), ∀ a x, ((![v713, v655] : Fin 2 → IVec S16 32) a x).toNat < S8x4096.size a)
theorem k0_idx50_inb : ∀ (v425 : BitVec 32) (v432 : BitVec 32) (k0_t24 : Fin (k0_t24_loop v425 v432).trips) (v655 : IVec S16 32) (v713 : IVec S16 32) (k0_hw54 : k0_chk54 v425 v432 k0_t24 v655 v713), ∀ (k0_h33 : k0_cond33 v425 v432 k0_t24 = 1#1), ∀ a x, ((![v713, v655] : Fin 2 → IVec S16 32) a x).toNat < S8x4096.size a := fun v425 v432 k0_t24 v655 v713 k0_hw54 k0_h33 => k0_hw54 k0_h33
def k0_off124 (k0_t25 : Fin k0_t25_loop.trips) : Fin 1 → Nat :=
  let c0_i32_284 : BitVec 32 := 0#32
  let c1_i32_285 : BitVec 32 := 1#32
  let arg23 : BitVec 32 := Scf.iv c0_i32_284 c1_i32_285 k0_t25
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk55 (v425 : BitVec 32) (v432 : BitVec 32) (k0_t24 : Fin (k0_t24_loop v425 v432).trips) (v721 : IVec S16 32) (v779 : IVec S16 32) : Prop :=
  (∀ (k0_h33 : k0_cond33 v425 v432 k0_t24 = 1#1), ∀ a x, ((![v779, v721] : Fin 2 → IVec S16 32) a x).toNat < S8x4096.size a)
theorem k0_idx51_inb : ∀ (v425 : BitVec 32) (v432 : BitVec 32) (k0_t24 : Fin (k0_t24_loop v425 v432).trips) (v721 : IVec S16 32) (v779 : IVec S16 32) (k0_hw55 : k0_chk55 v425 v432 k0_t24 v721 v779), ∀ (k0_h33 : k0_cond33 v425 v432 k0_t24 = 1#1), ∀ a x, ((![v779, v721] : Fin 2 → IVec S16 32) a x).toNat < S8x4096.size a := fun v425 v432 k0_t24 v721 v779 k0_hw55 k0_h33 => k0_hw55 k0_h33
def k0_off125 (k0_t25 : Fin k0_t25_loop.trips) : Fin 1 → Nat :=
  let c0_i32_284 : BitVec 32 := 0#32
  let c1_i32_285 : BitVec 32 := 1#32
  let arg23 : BitVec 32 := Scf.iv c0_i32_284 c1_i32_285 k0_t25
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk56 (v425 : BitVec 32) (v432 : BitVec 32) (k0_t24 : Fin (k0_t24_loop v425 v432).trips) (v787 : IVec S16 32) (v845 : IVec S16 32) : Prop :=
  (∀ (k0_h33 : k0_cond33 v425 v432 k0_t24 = 1#1), ∀ a x, ((![v845, v787] : Fin 2 → IVec S16 32) a x).toNat < S8x4096.size a)
theorem k0_idx52_inb : ∀ (v425 : BitVec 32) (v432 : BitVec 32) (k0_t24 : Fin (k0_t24_loop v425 v432).trips) (v787 : IVec S16 32) (v845 : IVec S16 32) (k0_hw56 : k0_chk56 v425 v432 k0_t24 v787 v845), ∀ (k0_h33 : k0_cond33 v425 v432 k0_t24 = 1#1), ∀ a x, ((![v845, v787] : Fin 2 → IVec S16 32) a x).toNat < S8x4096.size a := fun v425 v432 k0_t24 v787 v845 k0_hw56 k0_h33 => k0_hw56 k0_h33
def k0_mult47 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k0_cond34 (v425 : BitVec 32) (v432 : BitVec 32) (k0_t24 : Fin (k0_t24_loop v425 v432).trips) : BitVec 1 :=
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v579 : BitVec 1 := Scalar.cmpi .slt v578 v455
  let v580 : BitVec 32 := Scalar.extui v579
  let c0_i32_288 : BitVec 32 := 0#32
  let v581 : BitVec 1 := Scalar.cmpi .ne v580 c0_i32_288
  v581

def k0_off126 (v425 : BitVec 32) (v432 : BitVec 32) (k0_t24 : Fin (k0_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
def k0_mult48 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v436 v557
  let c1636352_i32 : BitVec 32 := 1636352#32
  let v559 : BitVec 32 := Scalar.minsi v558 c1636352_i32
  v559
def k0_cond35 (v425 : BitVec 32) (v432 : BitVec 32) (k0_t24 : Fin (k0_t24_loop v425 v432).trips) : BitVec 1 :=
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v554 : BitVec 1 := Scalar.cmpi .slt v553 v455
  let v555 : BitVec 32 := Scalar.extui v554
  let c0_i32_275 : BitVec 32 := 0#32
  let v556 : BitVec 1 := Scalar.cmpi .ne v555 c0_i32_275
  v556

def k0_mult49 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  v570
def k0_off127 (v425 : BitVec 32) (v432 : BitVec 32) (k0_t24 : Fin (k0_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k0_t26_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off128 (k0_t26 : Fin k0_t26_loop.trips) : Fin 1 → Nat :=
  let c0_i32_284 : BitVec 32 := 0#32
  let c1_i32_285 : BitVec 32 := 1#32
  let arg23 : BitVec 32 := Scf.iv c0_i32_284 c1_i32_285 k0_t26
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk57 (v425 : BitVec 32) (v432 : BitVec 32) (k0_t24 : Fin (k0_t24_loop v425 v432).trips) (v589 : IVec S16 32) (v647 : IVec S16 32) : Prop :=
  (∀ (k0_h35 : k0_cond35 v425 v432 k0_t24 = 1#1), ∀ a x, ((![v647, v589] : Fin 2 → IVec S16 32) a x).toNat < S8x4096.size a)
theorem k0_idx53_inb : ∀ (v425 : BitVec 32) (v432 : BitVec 32) (k0_t24 : Fin (k0_t24_loop v425 v432).trips) (v589 : IVec S16 32) (v647 : IVec S16 32) (k0_hw57 : k0_chk57 v425 v432 k0_t24 v589 v647), ∀ (k0_h35 : k0_cond35 v425 v432 k0_t24 = 1#1), ∀ a x, ((![v647, v589] : Fin 2 → IVec S16 32) a x).toNat < S8x4096.size a := fun v425 v432 k0_t24 v589 v647 k0_hw57 k0_h35 => k0_hw57 k0_h35
def k0_off129 (k0_t26 : Fin k0_t26_loop.trips) : Fin 1 → Nat :=
  let c0_i32_284 : BitVec 32 := 0#32
  let c1_i32_285 : BitVec 32 := 1#32
  let arg23 : BitVec 32 := Scf.iv c0_i32_284 c1_i32_285 k0_t26
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk58 (v425 : BitVec 32) (v432 : BitVec 32) (k0_t24 : Fin (k0_t24_loop v425 v432).trips) (v655 : IVec S16 32) (v713 : IVec S16 32) : Prop :=
  (∀ (k0_h35 : k0_cond35 v425 v432 k0_t24 = 1#1), ∀ a x, ((![v713, v655] : Fin 2 → IVec S16 32) a x).toNat < S8x4096.size a)
theorem k0_idx54_inb : ∀ (v425 : BitVec 32) (v432 : BitVec 32) (k0_t24 : Fin (k0_t24_loop v425 v432).trips) (v655 : IVec S16 32) (v713 : IVec S16 32) (k0_hw58 : k0_chk58 v425 v432 k0_t24 v655 v713), ∀ (k0_h35 : k0_cond35 v425 v432 k0_t24 = 1#1), ∀ a x, ((![v713, v655] : Fin 2 → IVec S16 32) a x).toNat < S8x4096.size a := fun v425 v432 k0_t24 v655 v713 k0_hw58 k0_h35 => k0_hw58 k0_h35
def k0_off130 (k0_t26 : Fin k0_t26_loop.trips) : Fin 1 → Nat :=
  let c0_i32_284 : BitVec 32 := 0#32
  let c1_i32_285 : BitVec 32 := 1#32
  let arg23 : BitVec 32 := Scf.iv c0_i32_284 c1_i32_285 k0_t26
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk59 (v425 : BitVec 32) (v432 : BitVec 32) (k0_t24 : Fin (k0_t24_loop v425 v432).trips) (v721 : IVec S16 32) (v779 : IVec S16 32) : Prop :=
  (∀ (k0_h35 : k0_cond35 v425 v432 k0_t24 = 1#1), ∀ a x, ((![v779, v721] : Fin 2 → IVec S16 32) a x).toNat < S8x4096.size a)
theorem k0_idx55_inb : ∀ (v425 : BitVec 32) (v432 : BitVec 32) (k0_t24 : Fin (k0_t24_loop v425 v432).trips) (v721 : IVec S16 32) (v779 : IVec S16 32) (k0_hw59 : k0_chk59 v425 v432 k0_t24 v721 v779), ∀ (k0_h35 : k0_cond35 v425 v432 k0_t24 = 1#1), ∀ a x, ((![v779, v721] : Fin 2 → IVec S16 32) a x).toNat < S8x4096.size a := fun v425 v432 k0_t24 v721 v779 k0_hw59 k0_h35 => k0_hw59 k0_h35
def k0_off131 (k0_t26 : Fin k0_t26_loop.trips) : Fin 1 → Nat :=
  let c0_i32_284 : BitVec 32 := 0#32
  let c1_i32_285 : BitVec 32 := 1#32
  let arg23 : BitVec 32 := Scf.iv c0_i32_284 c1_i32_285 k0_t26
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk60 (v425 : BitVec 32) (v432 : BitVec 32) (k0_t24 : Fin (k0_t24_loop v425 v432).trips) (v787 : IVec S16 32) (v845 : IVec S16 32) : Prop :=
  (∀ (k0_h35 : k0_cond35 v425 v432 k0_t24 = 1#1), ∀ a x, ((![v845, v787] : Fin 2 → IVec S16 32) a x).toNat < S8x4096.size a)
theorem k0_idx56_inb : ∀ (v425 : BitVec 32) (v432 : BitVec 32) (k0_t24 : Fin (k0_t24_loop v425 v432).trips) (v787 : IVec S16 32) (v845 : IVec S16 32) (k0_hw60 : k0_chk60 v425 v432 k0_t24 v787 v845), ∀ (k0_h35 : k0_cond35 v425 v432 k0_t24 = 1#1), ∀ a x, ((![v845, v787] : Fin 2 → IVec S16 32) a x).toNat < S8x4096.size a := fun v425 v432 k0_t24 v787 v845 k0_hw60 k0_h35 => k0_hw60 k0_h35
def k0_mult50 (v425 : BitVec 32) (v432 : BitVec 32) (k0_t24 : Fin (k0_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k0_cond36 (v425 : BitVec 32) (v432 : BitVec 32) (k0_t24 : Fin (k0_t24_loop v425 v432).trips) : BitVec 1 :=
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v579 : BitVec 1 := Scalar.cmpi .slt v578 v455
  let v580 : BitVec 32 := Scalar.extui v579
  let c0_i32_288 : BitVec 32 := 0#32
  let v581 : BitVec 1 := Scalar.cmpi .ne v580 c0_i32_288
  v581

def k0_off132 (v425 : BitVec 32) (v432 : BitVec 32) (k0_t24 : Fin (k0_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k0_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
@[reducible] def k0_t27_loop (v425 : BitVec 32) (v432 : BitVec 32) : Scf.Loop 32 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let v539 : BitVec 32 := Scalar.addi c0_i32_262 v538
  let c1_i32_266 : BitVec 32 := 1#32
  ⟨v542, v539, c1_i32_266⟩
def k0_mult51 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v436 v557
  let c1636352_i32 : BitVec 32 := 1636352#32
  let v559 : BitVec 32 := Scalar.minsi v558 c1636352_i32
  v559
def k0_cond37 (v425 : BitVec 32) (v432 : BitVec 32) (k0_t27 : Fin (k0_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let v549 : BitVec 1 := Scalar.cmpi .slt v548 v455
  let v550 : BitVec 32 := Scalar.extui v549
  let c0_i32_272 : BitVec 32 := 0#32
  let v551 : BitVec 1 := Scalar.cmpi .ne v550 c0_i32_272
  v551

def k0_mult52 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  v570
def k0_off133 (v425 : BitVec 32) (v432 : BitVec 32) (k0_t27 : Fin (k0_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k0_t28_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off134 (k0_t28 : Fin k0_t28_loop.trips) : Fin 1 → Nat :=
  let c0_i32_284 : BitVec 32 := 0#32
  let c1_i32_285 : BitVec 32 := 1#32
  let arg23 : BitVec 32 := Scf.iv c0_i32_284 c1_i32_285 k0_t28
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk61 (v425 : BitVec 32) (v432 : BitVec 32) (k0_t27 : Fin (k0_t27_loop v425 v432).trips) (v589 : IVec S16 32) (v647 : IVec S16 32) : Prop :=
  (∀ (k0_h37 : k0_cond37 v425 v432 k0_t27 = 1#1), ∀ a x, ((![v647, v589] : Fin 2 → IVec S16 32) a x).toNat < S8x4096.size a)
theorem k0_idx57_inb : ∀ (v425 : BitVec 32) (v432 : BitVec 32) (k0_t27 : Fin (k0_t27_loop v425 v432).trips) (v589 : IVec S16 32) (v647 : IVec S16 32) (k0_hw61 : k0_chk61 v425 v432 k0_t27 v589 v647), ∀ (k0_h37 : k0_cond37 v425 v432 k0_t27 = 1#1), ∀ a x, ((![v647, v589] : Fin 2 → IVec S16 32) a x).toNat < S8x4096.size a := fun v425 v432 k0_t27 v589 v647 k0_hw61 k0_h37 => k0_hw61 k0_h37
def k0_off135 (k0_t28 : Fin k0_t28_loop.trips) : Fin 1 → Nat :=
  let c0_i32_284 : BitVec 32 := 0#32
  let c1_i32_285 : BitVec 32 := 1#32
  let arg23 : BitVec 32 := Scf.iv c0_i32_284 c1_i32_285 k0_t28
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk62 (v425 : BitVec 32) (v432 : BitVec 32) (k0_t27 : Fin (k0_t27_loop v425 v432).trips) (v655 : IVec S16 32) (v713 : IVec S16 32) : Prop :=
  (∀ (k0_h37 : k0_cond37 v425 v432 k0_t27 = 1#1), ∀ a x, ((![v713, v655] : Fin 2 → IVec S16 32) a x).toNat < S8x4096.size a)
theorem k0_idx58_inb : ∀ (v425 : BitVec 32) (v432 : BitVec 32) (k0_t27 : Fin (k0_t27_loop v425 v432).trips) (v655 : IVec S16 32) (v713 : IVec S16 32) (k0_hw62 : k0_chk62 v425 v432 k0_t27 v655 v713), ∀ (k0_h37 : k0_cond37 v425 v432 k0_t27 = 1#1), ∀ a x, ((![v713, v655] : Fin 2 → IVec S16 32) a x).toNat < S8x4096.size a := fun v425 v432 k0_t27 v655 v713 k0_hw62 k0_h37 => k0_hw62 k0_h37
def k0_off136 (k0_t28 : Fin k0_t28_loop.trips) : Fin 1 → Nat :=
  let c0_i32_284 : BitVec 32 := 0#32
  let c1_i32_285 : BitVec 32 := 1#32
  let arg23 : BitVec 32 := Scf.iv c0_i32_284 c1_i32_285 k0_t28
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk63 (v425 : BitVec 32) (v432 : BitVec 32) (k0_t27 : Fin (k0_t27_loop v425 v432).trips) (v721 : IVec S16 32) (v779 : IVec S16 32) : Prop :=
  (∀ (k0_h37 : k0_cond37 v425 v432 k0_t27 = 1#1), ∀ a x, ((![v779, v721] : Fin 2 → IVec S16 32) a x).toNat < S8x4096.size a)
theorem k0_idx59_inb : ∀ (v425 : BitVec 32) (v432 : BitVec 32) (k0_t27 : Fin (k0_t27_loop v425 v432).trips) (v721 : IVec S16 32) (v779 : IVec S16 32) (k0_hw63 : k0_chk63 v425 v432 k0_t27 v721 v779), ∀ (k0_h37 : k0_cond37 v425 v432 k0_t27 = 1#1), ∀ a x, ((![v779, v721] : Fin 2 → IVec S16 32) a x).toNat < S8x4096.size a := fun v425 v432 k0_t27 v721 v779 k0_hw63 k0_h37 => k0_hw63 k0_h37
def k0_off137 (k0_t28 : Fin k0_t28_loop.trips) : Fin 1 → Nat :=
  let c0_i32_284 : BitVec 32 := 0#32
  let c1_i32_285 : BitVec 32 := 1#32
  let arg23 : BitVec 32 := Scf.iv c0_i32_284 c1_i32_285 k0_t28
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk64 (v425 : BitVec 32) (v432 : BitVec 32) (k0_t27 : Fin (k0_t27_loop v425 v432).trips) (v787 : IVec S16 32) (v845 : IVec S16 32) : Prop :=
  (∀ (k0_h37 : k0_cond37 v425 v432 k0_t27 = 1#1), ∀ a x, ((![v845, v787] : Fin 2 → IVec S16 32) a x).toNat < S8x4096.size a)
theorem k0_idx60_inb : ∀ (v425 : BitVec 32) (v432 : BitVec 32) (k0_t27 : Fin (k0_t27_loop v425 v432).trips) (v787 : IVec S16 32) (v845 : IVec S16 32) (k0_hw64 : k0_chk64 v425 v432 k0_t27 v787 v845), ∀ (k0_h37 : k0_cond37 v425 v432 k0_t27 = 1#1), ∀ a x, ((![v845, v787] : Fin 2 → IVec S16 32) a x).toNat < S8x4096.size a := fun v425 v432 k0_t27 v787 v845 k0_hw64 k0_h37 => k0_hw64 k0_h37
def k0_mult53 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k0_cond38 (v425 : BitVec 32) (v432 : BitVec 32) (k0_t27 : Fin (k0_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let v579 : BitVec 1 := Scalar.cmpi .slt v578 v455
  let v580 : BitVec 32 := Scalar.extui v579
  let c0_i32_288 : BitVec 32 := 0#32
  let v581 : BitVec 1 := Scalar.cmpi .ne v580 c0_i32_288
  v581

def k0_off138 (v425 : BitVec 32) (v432 : BitVec 32) (k0_t27 : Fin (k0_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
def k0_mult54 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v436 v557
  let c1636352_i32 : BitVec 32 := 1636352#32
  let v559 : BitVec 32 := Scalar.minsi v558 c1636352_i32
  v559
def k0_cond39 (v425 : BitVec 32) (v432 : BitVec 32) (k0_t27 : Fin (k0_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let v554 : BitVec 1 := Scalar.cmpi .slt v553 v455
  let v555 : BitVec 32 := Scalar.extui v554
  let c0_i32_275 : BitVec 32 := 0#32
  let v556 : BitVec 1 := Scalar.cmpi .ne v555 c0_i32_275
  v556

def k0_mult55 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  v570
def k0_off139 (v425 : BitVec 32) (v432 : BitVec 32) (k0_t27 : Fin (k0_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k0_t29_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k0_off140 (k0_t29 : Fin k0_t29_loop.trips) : Fin 1 → Nat :=
  let c0_i32_284 : BitVec 32 := 0#32
  let c1_i32_285 : BitVec 32 := 1#32
  let arg23 : BitVec 32 := Scf.iv c0_i32_284 c1_i32_285 k0_t29
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k0_chk65 (v425 : BitVec 32) (v432 : BitVec 32) (k0_t27 : Fin (k0_t27_loop v425 v432).trips) (v589 : IVec S16 32) (v647 : IVec S16 32) : Prop :=
  (∀ (k0_h39 : k0_cond39 v425 v432 k0_t27 = 1#1), ∀ a x, ((![v647, v589] : Fin 2 → IVec S16 32) a x).toNat < S8x4096.size a)
theorem k0_idx61_inb : ∀ (v425 : BitVec 32) (v432 : BitVec 32) (k0_t27 : Fin (k0_t27_loop v425 v432).trips) (v589 : IVec S16 32) (v647 : IVec S16 32) (k0_hw65 : k0_chk65 v425 v432 k0_t27 v589 v647), ∀ (k0_h39 : k0_cond39 v425 v432 k0_t27 = 1#1), ∀ a x, ((![v647, v589] : Fin 2 → IVec S16 32) a x).toNat < S8x4096.size a := fun v425 v432 k0_t27 v589 v647 k0_hw65 k0_h39 => k0_hw65 k0_h39
def k0_off141 (k0_t29 : Fin k0_t29_loop.trips) : Fin 1 → Nat :=
  let c0_i32_284 : BitVec 32 := 0#32
  let c1_i32_285 : BitVec 32 := 1#32
  let arg23 : BitVec 32 := Scf.iv c0_i32_284 c1_i32_285 k0_t29
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k0_chk66 (v425 : BitVec 32) (v432 : BitVec 32) (k0_t27 : Fin (k0_t27_loop v425 v432).trips) (v655 : IVec S16 32) (v713 : IVec S16 32) : Prop :=
  (∀ (k0_h39 : k0_cond39 v425 v432 k0_t27 = 1#1), ∀ a x, ((![v713, v655] : Fin 2 → IVec S16 32) a x).toNat < S8x4096.size a)
theorem k0_idx62_inb : ∀ (v425 : BitVec 32) (v432 : BitVec 32) (k0_t27 : Fin (k0_t27_loop v425 v432).trips) (v655 : IVec S16 32) (v713 : IVec S16 32) (k0_hw66 : k0_chk66 v425 v432 k0_t27 v655 v713), ∀ (k0_h39 : k0_cond39 v425 v432 k0_t27 = 1#1), ∀ a x, ((![v713, v655] : Fin 2 → IVec S16 32) a x).toNat < S8x4096.size a := fun v425 v432 k0_t27 v655 v713 k0_hw66 k0_h39 => k0_hw66 k0_h39
def k0_off142 (k0_t29 : Fin k0_t29_loop.trips) : Fin 1 → Nat :=
  let c0_i32_284 : BitVec 32 := 0#32
  let c1_i32_285 : BitVec 32 := 1#32
  let arg23 : BitVec 32 := Scf.iv c0_i32_284 c1_i32_285 k0_t29
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k0_chk67 (v425 : BitVec 32) (v432 : BitVec 32) (k0_t27 : Fin (k0_t27_loop v425 v432).trips) (v721 : IVec S16 32) (v779 : IVec S16 32) : Prop :=
  (∀ (k0_h39 : k0_cond39 v425 v432 k0_t27 = 1#1), ∀ a x, ((![v779, v721] : Fin 2 → IVec S16 32) a x).toNat < S8x4096.size a)
theorem k0_idx63_inb : ∀ (v425 : BitVec 32) (v432 : BitVec 32) (k0_t27 : Fin (k0_t27_loop v425 v432).trips) (v721 : IVec S16 32) (v779 : IVec S16 32) (k0_hw67 : k0_chk67 v425 v432 k0_t27 v721 v779), ∀ (k0_h39 : k0_cond39 v425 v432 k0_t27 = 1#1), ∀ a x, ((![v779, v721] : Fin 2 → IVec S16 32) a x).toNat < S8x4096.size a := fun v425 v432 k0_t27 v721 v779 k0_hw67 k0_h39 => k0_hw67 k0_h39
def k0_off143 (k0_t29 : Fin k0_t29_loop.trips) : Fin 1 → Nat :=
  let c0_i32_284 : BitVec 32 := 0#32
  let c1_i32_285 : BitVec 32 := 1#32
  let arg23 : BitVec 32 := Scf.iv c0_i32_284 c1_i32_285 k0_t29
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k0_chk68 (v425 : BitVec 32) (v432 : BitVec 32) (k0_t27 : Fin (k0_t27_loop v425 v432).trips) (v787 : IVec S16 32) (v845 : IVec S16 32) : Prop :=
  (∀ (k0_h39 : k0_cond39 v425 v432 k0_t27 = 1#1), ∀ a x, ((![v845, v787] : Fin 2 → IVec S16 32) a x).toNat < S8x4096.size a)
theorem k0_idx64_inb : ∀ (v425 : BitVec 32) (v432 : BitVec 32) (k0_t27 : Fin (k0_t27_loop v425 v432).trips) (v787 : IVec S16 32) (v845 : IVec S16 32) (k0_hw68 : k0_chk68 v425 v432 k0_t27 v787 v845), ∀ (k0_h39 : k0_cond39 v425 v432 k0_t27 = 1#1), ∀ a x, ((![v845, v787] : Fin 2 → IVec S16 32) a x).toNat < S8x4096.size a := fun v425 v432 k0_t27 v787 v845 k0_hw68 k0_h39 => k0_hw68 k0_h39
def k0_mult56 (v425 : BitVec 32) (v432 : BitVec 32) (k0_t27 : Fin (k0_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k0_cond40 (v425 : BitVec 32) (v432 : BitVec 32) (k0_t27 : Fin (k0_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let v579 : BitVec 1 := Scalar.cmpi .slt v578 v455
  let v580 : BitVec 32 := Scalar.extui v579
  let c0_i32_288 : BitVec 32 := 0#32
  let v581 : BitVec 1 := Scalar.cmpi .ne v580 c0_i32_288
  v581

def k0_off144 (v425 : BitVec 32) (v432 : BitVec 32) (k0_t27 : Fin (k0_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k0_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]

def k0_chk52 (v425 : BitVec 32) (v432 : BitVec 32) : Prop :=
  (∀ (k0_h31 : k0_cond31 v425 v432 = 1#1), 8 ∣ (k0_mult43 v425).toNat) ∧
  (∀ (k0_h31 : k0_cond31 v425 v432 = 1#1), ∀ a, (k0_off111 v425) a + S2048.size a ≤ S1638400.size a) ∧
  (∀ (k0_h32 : k0_cond32 v425 v432 = 1#1), 8 ∣ (k0_mult44 v425).toNat) ∧
  (∀ (k0_h32 : k0_cond32 v425 v432 = 1#1), ∀ a, (k0_off112 v425) a + S2048.size a ≤ S1638400.size a) ∧
  ((k0_t24_loop v425 v432).OK) ∧
  (∀ k0_t24 : Fin (k0_t24_loop v425 v432).trips, ∀ (k0_h33 : k0_cond33 v425 v432 k0_t24 = 1#1), 8 ∣ (k0_mult45 v425 v432 k0_t24).toNat) ∧
  (∀ k0_t24 : Fin (k0_t24_loop v425 v432).trips, ∀ (k0_h33 : k0_cond33 v425 v432 k0_t24 = 1#1), 8 ∣ (k0_mult46 v425 v432 k0_t24).toNat) ∧
  (∀ k0_t24 : Fin (k0_t24_loop v425 v432).trips, ∀ (k0_h33 : k0_cond33 v425 v432 k0_t24 = 1#1), ∀ a, (k0_off121 v425 v432 k0_t24) a + S2048.size a ≤ S1638400.size a) ∧
  (∀ k0_t24 : Fin (k0_t24_loop v425 v432).trips, ∀ (k0_h33 : k0_cond33 v425 v432 k0_t24 = 1#1), ∀ (k0_h34 : k0_cond34 v425 v432 k0_t24 = 1#1), 8 ∣ (k0_mult47 v425 v432 k0_t24).toNat) ∧
  (∀ k0_t24 : Fin (k0_t24_loop v425 v432).trips, ∀ (k0_h33 : k0_cond33 v425 v432 k0_t24 = 1#1), ∀ (k0_h34 : k0_cond34 v425 v432 k0_t24 = 1#1), ∀ a, (k0_off126 v425 v432 k0_t24) a + S2048.size a ≤ S1638400.size a) ∧
  (∀ k0_t24 : Fin (k0_t24_loop v425 v432).trips, ∀ (k0_h35 : k0_cond35 v425 v432 k0_t24 = 1#1), 8 ∣ (k0_mult48 v425 v432 k0_t24).toNat) ∧
  (∀ k0_t24 : Fin (k0_t24_loop v425 v432).trips, ∀ (k0_h35 : k0_cond35 v425 v432 k0_t24 = 1#1), 8 ∣ (k0_mult49 v425 v432 k0_t24).toNat) ∧
  (∀ k0_t24 : Fin (k0_t24_loop v425 v432).trips, ∀ (k0_h35 : k0_cond35 v425 v432 k0_t24 = 1#1), ∀ a, (k0_off127 v425 v432 k0_t24) a + S2048.size a ≤ S1638400.size a) ∧
  (∀ k0_t24 : Fin (k0_t24_loop v425 v432).trips, ∀ (k0_h35 : k0_cond35 v425 v432 k0_t24 = 1#1), ∀ (k0_h36 : k0_cond36 v425 v432 k0_t24 = 1#1), 8 ∣ (k0_mult50 v425 v432 k0_t24).toNat) ∧
  (∀ k0_t24 : Fin (k0_t24_loop v425 v432).trips, ∀ (k0_h35 : k0_cond35 v425 v432 k0_t24 = 1#1), ∀ (k0_h36 : k0_cond36 v425 v432 k0_t24 = 1#1), ∀ a, (k0_off132 v425 v432 k0_t24) a + S2048.size a ≤ S1638400.size a) ∧
  ((k0_t27_loop v425 v432).OK) ∧
  (∀ k0_t27 : Fin (k0_t27_loop v425 v432).trips, ∀ (k0_h37 : k0_cond37 v425 v432 k0_t27 = 1#1), 8 ∣ (k0_mult51 v425 v432 k0_t27).toNat) ∧
  (∀ k0_t27 : Fin (k0_t27_loop v425 v432).trips, ∀ (k0_h37 : k0_cond37 v425 v432 k0_t27 = 1#1), 8 ∣ (k0_mult52 v425 v432 k0_t27).toNat) ∧
  (∀ k0_t27 : Fin (k0_t27_loop v425 v432).trips, ∀ (k0_h37 : k0_cond37 v425 v432 k0_t27 = 1#1), ∀ a, (k0_off133 v425 v432 k0_t27) a + S2048.size a ≤ S1638400.size a) ∧
  (∀ k0_t27 : Fin (k0_t27_loop v425 v432).trips, ∀ (k0_h37 : k0_cond37 v425 v432 k0_t27 = 1#1), ∀ (k0_h38 : k0_cond38 v425 v432 k0_t27 = 1#1), 8 ∣ (k0_mult53 v425 v432 k0_t27).toNat) ∧
  (∀ k0_t27 : Fin (k0_t27_loop v425 v432).trips, ∀ (k0_h37 : k0_cond37 v425 v432 k0_t27 = 1#1), ∀ (k0_h38 : k0_cond38 v425 v432 k0_t27 = 1#1), ∀ a, (k0_off138 v425 v432 k0_t27) a + S2048.size a ≤ S1638400.size a) ∧
  (∀ k0_t27 : Fin (k0_t27_loop v425 v432).trips, ∀ (k0_h39 : k0_cond39 v425 v432 k0_t27 = 1#1), 8 ∣ (k0_mult54 v425 v432 k0_t27).toNat) ∧
  (∀ k0_t27 : Fin (k0_t27_loop v425 v432).trips, ∀ (k0_h39 : k0_cond39 v425 v432 k0_t27 = 1#1), 8 ∣ (k0_mult55 v425 v432 k0_t27).toNat) ∧
  (∀ k0_t27 : Fin (k0_t27_loop v425 v432).trips, ∀ (k0_h39 : k0_cond39 v425 v432 k0_t27 = 1#1), ∀ a, (k0_off139 v425 v432 k0_t27) a + S2048.size a ≤ S1638400.size a) ∧
  (∀ k0_t27 : Fin (k0_t27_loop v425 v432).trips, ∀ (k0_h39 : k0_cond39 v425 v432 k0_t27 = 1#1), ∀ (k0_h40 : k0_cond40 v425 v432 k0_t27 = 1#1), 8 ∣ (k0_mult56 v425 v432 k0_t27).toNat) ∧
  (∀ k0_t27 : Fin (k0_t27_loop v425 v432).trips, ∀ (k0_h39 : k0_cond39 v425 v432 k0_t27 = 1#1), ∀ (k0_h40 : k0_cond40 v425 v432 k0_t27 = 1#1), ∀ a, (k0_off144 v425 v432 k0_t27) a + S2048.size a ≤ S1638400.size a)
theorem k0_mult43_dvd : ∀ (v425 : BitVec 32) (v432 : BitVec 32) (k0_hw52 : k0_chk52 v425 v432), ∀ (k0_h31 : k0_cond31 v425 v432 = 1#1), 8 ∣ (k0_mult43 v425).toNat := fun v425 v432 k0_hw52 k0_h31 => k0_hw52.1 k0_h31
theorem k0_off111_inb : ∀ (v425 : BitVec 32) (v432 : BitVec 32) (k0_hw52 : k0_chk52 v425 v432), ∀ (k0_h31 : k0_cond31 v425 v432 = 1#1), ∀ a, (k0_off111 v425) a + S2048.size a ≤ S1638400.size a := fun v425 v432 k0_hw52 k0_h31 => k0_hw52.2.1 k0_h31
theorem k0_mult44_dvd : ∀ (v425 : BitVec 32) (v432 : BitVec 32) (k0_hw52 : k0_chk52 v425 v432), ∀ (k0_h32 : k0_cond32 v425 v432 = 1#1), 8 ∣ (k0_mult44 v425).toNat := fun v425 v432 k0_hw52 k0_h32 => k0_hw52.2.2.1 k0_h32
theorem k0_off112_inb : ∀ (v425 : BitVec 32) (v432 : BitVec 32) (k0_hw52 : k0_chk52 v425 v432), ∀ (k0_h32 : k0_cond32 v425 v432 = 1#1), ∀ a, (k0_off112 v425) a + S2048.size a ≤ S1638400.size a := fun v425 v432 k0_hw52 k0_h32 => k0_hw52.2.2.2.1 k0_h32
theorem k0_t24_ok : ∀ (v425 : BitVec 32) (v432 : BitVec 32) (k0_hw52 : k0_chk52 v425 v432), (k0_t24_loop v425 v432).OK := fun v425 v432 k0_hw52 => k0_hw52.2.2.2.2.1
theorem k0_mult45_dvd : ∀ (v425 : BitVec 32) (v432 : BitVec 32) (k0_hw52 : k0_chk52 v425 v432) (k0_t24 : Fin (k0_t24_loop v425 v432).trips), ∀ (k0_h33 : k0_cond33 v425 v432 k0_t24 = 1#1), 8 ∣ (k0_mult45 v425 v432 k0_t24).toNat := fun v425 v432 k0_hw52 k0_t24 k0_h33 => k0_hw52.2.2.2.2.2.1 k0_t24 k0_h33
theorem k0_mult46_dvd : ∀ (v425 : BitVec 32) (v432 : BitVec 32) (k0_hw52 : k0_chk52 v425 v432) (k0_t24 : Fin (k0_t24_loop v425 v432).trips), ∀ (k0_h33 : k0_cond33 v425 v432 k0_t24 = 1#1), 8 ∣ (k0_mult46 v425 v432 k0_t24).toNat := fun v425 v432 k0_hw52 k0_t24 k0_h33 => k0_hw52.2.2.2.2.2.2.1 k0_t24 k0_h33
theorem k0_off121_inb : ∀ (v425 : BitVec 32) (v432 : BitVec 32) (k0_hw52 : k0_chk52 v425 v432) (k0_t24 : Fin (k0_t24_loop v425 v432).trips), ∀ (k0_h33 : k0_cond33 v425 v432 k0_t24 = 1#1), ∀ a, (k0_off121 v425 v432 k0_t24) a + S2048.size a ≤ S1638400.size a := fun v425 v432 k0_hw52 k0_t24 k0_h33 => k0_hw52.2.2.2.2.2.2.2.1 k0_t24 k0_h33
theorem k0_mult47_dvd : ∀ (v425 : BitVec 32) (v432 : BitVec 32) (k0_hw52 : k0_chk52 v425 v432) (k0_t24 : Fin (k0_t24_loop v425 v432).trips), ∀ (k0_h33 : k0_cond33 v425 v432 k0_t24 = 1#1), ∀ (k0_h34 : k0_cond34 v425 v432 k0_t24 = 1#1), 8 ∣ (k0_mult47 v425 v432 k0_t24).toNat := fun v425 v432 k0_hw52 k0_t24 k0_h33 k0_h34 => k0_hw52.2.2.2.2.2.2.2.2.1 k0_t24 k0_h33 k0_h34
theorem k0_off126_inb : ∀ (v425 : BitVec 32) (v432 : BitVec 32) (k0_hw52 : k0_chk52 v425 v432) (k0_t24 : Fin (k0_t24_loop v425 v432).trips), ∀ (k0_h33 : k0_cond33 v425 v432 k0_t24 = 1#1), ∀ (k0_h34 : k0_cond34 v425 v432 k0_t24 = 1#1), ∀ a, (k0_off126 v425 v432 k0_t24) a + S2048.size a ≤ S1638400.size a := fun v425 v432 k0_hw52 k0_t24 k0_h33 k0_h34 => k0_hw52.2.2.2.2.2.2.2.2.2.1 k0_t24 k0_h33 k0_h34
theorem k0_mult48_dvd : ∀ (v425 : BitVec 32) (v432 : BitVec 32) (k0_hw52 : k0_chk52 v425 v432) (k0_t24 : Fin (k0_t24_loop v425 v432).trips), ∀ (k0_h35 : k0_cond35 v425 v432 k0_t24 = 1#1), 8 ∣ (k0_mult48 v425 v432 k0_t24).toNat := fun v425 v432 k0_hw52 k0_t24 k0_h35 => k0_hw52.2.2.2.2.2.2.2.2.2.2.1 k0_t24 k0_h35
theorem k0_mult49_dvd : ∀ (v425 : BitVec 32) (v432 : BitVec 32) (k0_hw52 : k0_chk52 v425 v432) (k0_t24 : Fin (k0_t24_loop v425 v432).trips), ∀ (k0_h35 : k0_cond35 v425 v432 k0_t24 = 1#1), 8 ∣ (k0_mult49 v425 v432 k0_t24).toNat := fun v425 v432 k0_hw52 k0_t24 k0_h35 => k0_hw52.2.2.2.2.2.2.2.2.2.2.2.1 k0_t24 k0_h35
theorem k0_off127_inb : ∀ (v425 : BitVec 32) (v432 : BitVec 32) (k0_hw52 : k0_chk52 v425 v432) (k0_t24 : Fin (k0_t24_loop v425 v432).trips), ∀ (k0_h35 : k0_cond35 v425 v432 k0_t24 = 1#1), ∀ a, (k0_off127 v425 v432 k0_t24) a + S2048.size a ≤ S1638400.size a := fun v425 v432 k0_hw52 k0_t24 k0_h35 => k0_hw52.2.2.2.2.2.2.2.2.2.2.2.2.1 k0_t24 k0_h35
theorem k0_mult50_dvd : ∀ (v425 : BitVec 32) (v432 : BitVec 32) (k0_hw52 : k0_chk52 v425 v432) (k0_t24 : Fin (k0_t24_loop v425 v432).trips), ∀ (k0_h35 : k0_cond35 v425 v432 k0_t24 = 1#1), ∀ (k0_h36 : k0_cond36 v425 v432 k0_t24 = 1#1), 8 ∣ (k0_mult50 v425 v432 k0_t24).toNat := fun v425 v432 k0_hw52 k0_t24 k0_h35 k0_h36 => k0_hw52.2.2.2.2.2.2.2.2.2.2.2.2.2.1 k0_t24 k0_h35 k0_h36
theorem k0_off132_inb : ∀ (v425 : BitVec 32) (v432 : BitVec 32) (k0_hw52 : k0_chk52 v425 v432) (k0_t24 : Fin (k0_t24_loop v425 v432).trips), ∀ (k0_h35 : k0_cond35 v425 v432 k0_t24 = 1#1), ∀ (k0_h36 : k0_cond36 v425 v432 k0_t24 = 1#1), ∀ a, (k0_off132 v425 v432 k0_t24) a + S2048.size a ≤ S1638400.size a := fun v425 v432 k0_hw52 k0_t24 k0_h35 k0_h36 => k0_hw52.2.2.2.2.2.2.2.2.2.2.2.2.2.2.1 k0_t24 k0_h35 k0_h36
theorem k0_t27_ok : ∀ (v425 : BitVec 32) (v432 : BitVec 32) (k0_hw52 : k0_chk52 v425 v432), (k0_t27_loop v425 v432).OK := fun v425 v432 k0_hw52 => k0_hw52.2.2.2.2.2.2.2.2.2.2.2.2.2.2.2.1
theorem k0_mult51_dvd : ∀ (v425 : BitVec 32) (v432 : BitVec 32) (k0_hw52 : k0_chk52 v425 v432) (k0_t27 : Fin (k0_t27_loop v425 v432).trips), ∀ (k0_h37 : k0_cond37 v425 v432 k0_t27 = 1#1), 8 ∣ (k0_mult51 v425 v432 k0_t27).toNat := fun v425 v432 k0_hw52 k0_t27 k0_h37 => k0_hw52.2.2.2.2.2.2.2.2.2.2.2.2.2.2.2.2.1 k0_t27 k0_h37
theorem k0_mult52_dvd : ∀ (v425 : BitVec 32) (v432 : BitVec 32) (k0_hw52 : k0_chk52 v425 v432) (k0_t27 : Fin (k0_t27_loop v425 v432).trips), ∀ (k0_h37 : k0_cond37 v425 v432 k0_t27 = 1#1), 8 ∣ (k0_mult52 v425 v432 k0_t27).toNat := fun v425 v432 k0_hw52 k0_t27 k0_h37 => k0_hw52.2.2.2.2.2.2.2.2.2.2.2.2.2.2.2.2.2.1 k0_t27 k0_h37
theorem k0_off133_inb : ∀ (v425 : BitVec 32) (v432 : BitVec 32) (k0_hw52 : k0_chk52 v425 v432) (k0_t27 : Fin (k0_t27_loop v425 v432).trips), ∀ (k0_h37 : k0_cond37 v425 v432 k0_t27 = 1#1), ∀ a, (k0_off133 v425 v432 k0_t27) a + S2048.size a ≤ S1638400.size a := fun v425 v432 k0_hw52 k0_t27 k0_h37 => k0_hw52.2.2.2.2.2.2.2.2.2.2.2.2.2.2.2.2.2.2.1 k0_t27 k0_h37
theorem k0_mult53_dvd : ∀ (v425 : BitVec 32) (v432 : BitVec 32) (k0_hw52 : k0_chk52 v425 v432) (k0_t27 : Fin (k0_t27_loop v425 v432).trips), ∀ (k0_h37 : k0_cond37 v425 v432 k0_t27 = 1#1), ∀ (k0_h38 : k0_cond38 v425 v432 k0_t27 = 1#1), 8 ∣ (k0_mult53 v425 v432 k0_t27).toNat := fun v425 v432 k0_hw52 k0_t27 k0_h37 k0_h38 => k0_hw52.2.2.2.2.2.2.2.2.2.2.2.2.2.2.2.2.2.2.2.1 k0_t27 k0_h37 k0_h38
theorem k0_off138_inb : ∀ (v425 : BitVec 32) (v432 : BitVec 32) (k0_hw52 : k0_chk52 v425 v432) (k0_t27 : Fin (k0_t27_loop v425 v432).trips), ∀ (k0_h37 : k0_cond37 v425 v432 k0_t27 = 1#1), ∀ (k0_h38 : k0_cond38 v425 v432 k0_t27 = 1#1), ∀ a, (k0_off138 v425 v432 k0_t27) a + S2048.size a ≤ S1638400.size a := fun v425 v432 k0_hw52 k0_t27 k0_h37 k0_h38 => k0_hw52.2.2.2.2.2.2.2.2.2.2.2.2.2.2.2.2.2.2.2.2.1 k0_t27 k0_h37 k0_h38
theorem k0_mult54_dvd : ∀ (v425 : BitVec 32) (v432 : BitVec 32) (k0_hw52 : k0_chk52 v425 v432) (k0_t27 : Fin (k0_t27_loop v425 v432).trips), ∀ (k0_h39 : k0_cond39 v425 v432 k0_t27 = 1#1), 8 ∣ (k0_mult54 v425 v432 k0_t27).toNat := fun v425 v432 k0_hw52 k0_t27 k0_h39 => k0_hw52.2.2.2.2.2.2.2.2.2.2.2.2.2.2.2.2.2.2.2.2.2.1 k0_t27 k0_h39
theorem k0_mult55_dvd : ∀ (v425 : BitVec 32) (v432 : BitVec 32) (k0_hw52 : k0_chk52 v425 v432) (k0_t27 : Fin (k0_t27_loop v425 v432).trips), ∀ (k0_h39 : k0_cond39 v425 v432 k0_t27 = 1#1), 8 ∣ (k0_mult55 v425 v432 k0_t27).toNat := fun v425 v432 k0_hw52 k0_t27 k0_h39 => k0_hw52.2.2.2.2.2.2.2.2.2.2.2.2.2.2.2.2.2.2.2.2.2.2.1 k0_t27 k0_h39
theorem k0_off139_inb : ∀ (v425 : BitVec 32) (v432 : BitVec 32) (k0_hw52 : k0_chk52 v425 v432) (k0_t27 : Fin (k0_t27_loop v425 v432).trips), ∀ (k0_h39 : k0_cond39 v425 v432 k0_t27 = 1#1), ∀ a, (k0_off139 v425 v432 k0_t27) a + S2048.size a ≤ S1638400.size a := fun v425 v432 k0_hw52 k0_t27 k0_h39 => k0_hw52.2.2.2.2.2.2.2.2.2.2.2.2.2.2.2.2.2.2.2.2.2.2.2.1 k0_t27 k0_h39
theorem k0_mult56_dvd : ∀ (v425 : BitVec 32) (v432 : BitVec 32) (k0_hw52 : k0_chk52 v425 v432) (k0_t27 : Fin (k0_t27_loop v425 v432).trips), ∀ (k0_h39 : k0_cond39 v425 v432 k0_t27 = 1#1), ∀ (k0_h40 : k0_cond40 v425 v432 k0_t27 = 1#1), 8 ∣ (k0_mult56 v425 v432 k0_t27).toNat := fun v425 v432 k0_hw52 k0_t27 k0_h39 k0_h40 => k0_hw52.2.2.2.2.2.2.2.2.2.2.2.2.2.2.2.2.2.2.2.2.2.2.2.2.1 k0_t27 k0_h39 k0_h40
theorem k0_off144_inb : ∀ (v425 : BitVec 32) (v432 : BitVec 32) (k0_hw52 : k0_chk52 v425 v432) (k0_t27 : Fin (k0_t27_loop v425 v432).trips), ∀ (k0_h39 : k0_cond39 v425 v432 k0_t27 = 1#1), ∀ (k0_h40 : k0_cond40 v425 v432 k0_t27 = 1#1), ∀ a, (k0_off144 v425 v432 k0_t27) a + S2048.size a ≤ S1638400.size a := fun v425 v432 k0_hw52 k0_t27 k0_h39 k0_h40 => k0_hw52.2.2.2.2.2.2.2.2.2.2.2.2.2.2.2.2.2.2.2.2.2.2.2.2.2 k0_t27 k0_h39 k0_h40

def k0_off145 (i : grid0.Coords) (k0_t15 : Fin k0_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k0_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_200 : BitVec 32 := 8#32
  let v411 : BitVec 32 := Scalar.muli v410 c8_i32_200
  let v412 : BitVec 32 := Scalar.addi v6 v411
  let c0_i32_267 : BitVec 32 := 0#32
  ![v412.toNat, 0]
abbrev grid1 : Pipeline.Grid := ⟨2, ![2, 16], ![false, false]⟩

def k1_off1 (i : grid1.Coords) : Fin 1 → Nat :=
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v4 : BitVec 32 := Scalar.muli v1 c64_i32
  let v5 : BitVec 32 := Scalar.addi c2048_i32 v4
  ![v5.toNat]
def k1_mult1 (v16 : BitVec 32) : BitVec 32 :=
  let c_m8_i32 : BitVec 32 := 4294967288#32
  let v24 : BitVec 32 := Scalar.andi v16 c_m8_i32
  let c0_i32_128 : BitVec 32 := 0#32
  let v271 : BitVec 32 := Scalar.addi v24 c0_i32_128
  let c1636352_i32 : BitVec 32 := 1636352#32
  let v272 : BitVec 32 := Scalar.minsi v271 c1636352_i32
  v272
def k1_cond1 (v16 : BitVec 32) (v23 : BitVec 32) : BitVec 1 :=
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c0_i32_12 : BitVec 32 := 0#32
  let v44 : BitVec 1 := Scalar.cmpi .sgt v43 c0_i32_12
  let v45 : BitVec 32 := Scalar.extui v44
  let c0_i32_13 : BitVec 32 := 0#32
  let v46 : BitVec 1 := Scalar.cmpi .ne v45 c0_i32_13
  v46

def k1_off2 (v16 : BitVec 32) : Fin 1 → Nat :=
  let c_m8_i32 : BitVec 32 := 4294967288#32
  let v24 : BitVec 32 := Scalar.andi v16 c_m8_i32
  let c0_i32_128 : BitVec 32 := 0#32
  let v271 : BitVec 32 := Scalar.addi v24 c0_i32_128
  let c1636352_i32 : BitVec 32 := 1636352#32
  let v272 : BitVec 32 := Scalar.minsi v271 c1636352_i32
  let v273 : BitVec 32 := v272
  ![v273.toNat]
def k1_mult2 (v16 : BitVec 32) : BitVec 32 :=
  let c_m8_i32 : BitVec 32 := 4294967288#32
  let v24 : BitVec 32 := Scalar.andi v16 c_m8_i32
  let c2048_i32_128 : BitVec 32 := 2048#32
  let v271 : BitVec 32 := Scalar.addi v24 c2048_i32_128
  let c1636352_i32 : BitVec 32 := 1636352#32
  let v272 : BitVec 32 := Scalar.minsi v271 c1636352_i32
  v272
def k1_cond2 (v16 : BitVec 32) (v23 : BitVec 32) : BitVec 1 :=
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_14 : BitVec 32 := 1#32
  let v47 : BitVec 1 := Scalar.cmpi .sgt v43 c1_i32_14
  let v48 : BitVec 32 := Scalar.extui v47
  let c0_i32_15 : BitVec 32 := 0#32
  let v49 : BitVec 1 := Scalar.cmpi .ne v48 c0_i32_15
  v49

def k1_off3 (v16 : BitVec 32) : Fin 1 → Nat :=
  let c_m8_i32 : BitVec 32 := 4294967288#32
  let v24 : BitVec 32 := Scalar.andi v16 c_m8_i32
  let c2048_i32_128 : BitVec 32 := 2048#32
  let v271 : BitVec 32 := Scalar.addi v24 c2048_i32_128
  let c1636352_i32 : BitVec 32 := 1636352#32
  let v272 : BitVec 32 := Scalar.minsi v271 c1636352_i32
  let v273 : BitVec 32 := v272
  ![v273.toNat]
@[reducible] def k1_t1_loop : Scf.Loop 32 :=
  let c0_i32_17 : BitVec 32 := 0#32
  let c128_i32 : BitVec 32 := 128#32
  let v50 : BitVec 32 := Scalar.addi c0_i32_17 c128_i32
  let c1_i32_18 : BitVec 32 := 1#32
  ⟨c0_i32_17, v50, c1_i32_18⟩
def k1_off4 (k1_t1 : Fin k1_t1_loop.trips) (c0_i32_129 : BitVec 32) : Fin 2 → Nat :=
  let c0_i32_130 : BitVec 32 := 0#32
  let v274 : Index := Scalar.indexCast c0_i32_130
  let c0_i32_17 : BitVec 32 := 0#32
  let c1_i32_18 : BitVec 32 := 1#32
  let arg19 : BitVec 32 := Scf.iv c0_i32_17 c1_i32_18 k1_t1
  let c2_i32_128 : BitVec 32 := 2#32
  let v271 : BitVec 32 := Scalar.muli arg19 c2_i32_128
  let v272 : BitVec 32 := Scalar.addi v271 c0_i32_129
  let c16_i32 : BitVec 32 := 16#32
  let v273 : BitVec 32 := Scalar.muli v272 c16_i32
  let v275 : Index := Scalar.indexCast v273
  ![0, v275.toNat]
def k1_off5 (k1_t1 : Fin k1_t1_loop.trips) (c0_i32_136 : BitVec 32) : Fin 2 → Nat :=
  let c1_i32_138 : BitVec 32 := 1#32
  let v286 : Index := Scalar.indexCast c1_i32_138
  let c0_i32_17 : BitVec 32 := 0#32
  let c1_i32_18 : BitVec 32 := 1#32
  let arg19 : BitVec 32 := Scf.iv c0_i32_17 c1_i32_18 k1_t1
  let c2_i32_135 : BitVec 32 := 2#32
  let v283 : BitVec 32 := Scalar.muli arg19 c2_i32_135
  let v284 : BitVec 32 := Scalar.addi v283 c0_i32_136
  let c16_i32_137 : BitVec 32 := 16#32
  let v285 : BitVec 32 := Scalar.muli v284 c16_i32_137
  let v287 : Index := Scalar.indexCast v285
  ![1, v287.toNat]
def k1_off6 (k1_t1 : Fin k1_t1_loop.trips) (c0_i32_144 : BitVec 32) : Fin 2 → Nat :=
  let c2_i32_146 : BitVec 32 := 2#32
  let v298 : Index := Scalar.indexCast c2_i32_146
  let c0_i32_17 : BitVec 32 := 0#32
  let c1_i32_18 : BitVec 32 := 1#32
  let arg19 : BitVec 32 := Scf.iv c0_i32_17 c1_i32_18 k1_t1
  let c2_i32_143 : BitVec 32 := 2#32
  let v295 : BitVec 32 := Scalar.muli arg19 c2_i32_143
  let v296 : BitVec 32 := Scalar.addi v295 c0_i32_144
  let c16_i32_145 : BitVec 32 := 16#32
  let v297 : BitVec 32 := Scalar.muli v296 c16_i32_145
  let v299 : Index := Scalar.indexCast v297
  ![2, v299.toNat]
def k1_off7 (k1_t1 : Fin k1_t1_loop.trips) (c0_i32_152 : BitVec 32) : Fin 2 → Nat :=
  let c3_i32_154 : BitVec 32 := 3#32
  let v310 : Index := Scalar.indexCast c3_i32_154
  let c0_i32_17 : BitVec 32 := 0#32
  let c1_i32_18 : BitVec 32 := 1#32
  let arg19 : BitVec 32 := Scf.iv c0_i32_17 c1_i32_18 k1_t1
  let c2_i32_151 : BitVec 32 := 2#32
  let v307 : BitVec 32 := Scalar.muli arg19 c2_i32_151
  let v308 : BitVec 32 := Scalar.addi v307 c0_i32_152
  let c16_i32_153 : BitVec 32 := 16#32
  let v309 : BitVec 32 := Scalar.muli v308 c16_i32_153
  let v311 : Index := Scalar.indexCast v309
  ![3, v311.toNat]
def k1_off8 (k1_t1 : Fin k1_t1_loop.trips) (c0_i32_160 : BitVec 32) : Fin 2 → Nat :=
  let c4_i32_162 : BitVec 32 := 4#32
  let v322 : Index := Scalar.indexCast c4_i32_162
  let c0_i32_17 : BitVec 32 := 0#32
  let c1_i32_18 : BitVec 32 := 1#32
  let arg19 : BitVec 32 := Scf.iv c0_i32_17 c1_i32_18 k1_t1
  let c2_i32_159 : BitVec 32 := 2#32
  let v319 : BitVec 32 := Scalar.muli arg19 c2_i32_159
  let v320 : BitVec 32 := Scalar.addi v319 c0_i32_160
  let c16_i32_161 : BitVec 32 := 16#32
  let v321 : BitVec 32 := Scalar.muli v320 c16_i32_161
  let v323 : Index := Scalar.indexCast v321
  ![4, v323.toNat]
def k1_off9 (k1_t1 : Fin k1_t1_loop.trips) (c0_i32_168 : BitVec 32) : Fin 2 → Nat :=
  let c5_i32_170 : BitVec 32 := 5#32
  let v334 : Index := Scalar.indexCast c5_i32_170
  let c0_i32_17 : BitVec 32 := 0#32
  let c1_i32_18 : BitVec 32 := 1#32
  let arg19 : BitVec 32 := Scf.iv c0_i32_17 c1_i32_18 k1_t1
  let c2_i32_167 : BitVec 32 := 2#32
  let v331 : BitVec 32 := Scalar.muli arg19 c2_i32_167
  let v332 : BitVec 32 := Scalar.addi v331 c0_i32_168
  let c16_i32_169 : BitVec 32 := 16#32
  let v333 : BitVec 32 := Scalar.muli v332 c16_i32_169
  let v335 : Index := Scalar.indexCast v333
  ![5, v335.toNat]
def k1_off10 (k1_t1 : Fin k1_t1_loop.trips) (c0_i32_176 : BitVec 32) : Fin 2 → Nat :=
  let c6_i32_178 : BitVec 32 := 6#32
  let v346 : Index := Scalar.indexCast c6_i32_178
  let c0_i32_17 : BitVec 32 := 0#32
  let c1_i32_18 : BitVec 32 := 1#32
  let arg19 : BitVec 32 := Scf.iv c0_i32_17 c1_i32_18 k1_t1
  let c2_i32_175 : BitVec 32 := 2#32
  let v343 : BitVec 32 := Scalar.muli arg19 c2_i32_175
  let v344 : BitVec 32 := Scalar.addi v343 c0_i32_176
  let c16_i32_177 : BitVec 32 := 16#32
  let v345 : BitVec 32 := Scalar.muli v344 c16_i32_177
  let v347 : Index := Scalar.indexCast v345
  ![6, v347.toNat]
def k1_off11 (k1_t1 : Fin k1_t1_loop.trips) (c0_i32_184 : BitVec 32) : Fin 2 → Nat :=
  let c7_i32_186 : BitVec 32 := 7#32
  let v358 : Index := Scalar.indexCast c7_i32_186
  let c0_i32_17 : BitVec 32 := 0#32
  let c1_i32_18 : BitVec 32 := 1#32
  let arg19 : BitVec 32 := Scf.iv c0_i32_17 c1_i32_18 k1_t1
  let c2_i32_183 : BitVec 32 := 2#32
  let v355 : BitVec 32 := Scalar.muli arg19 c2_i32_183
  let v356 : BitVec 32 := Scalar.addi v355 c0_i32_184
  let c16_i32_185 : BitVec 32 := 16#32
  let v357 : BitVec 32 := Scalar.muli v356 c16_i32_185
  let v359 : Index := Scalar.indexCast v357
  ![7, v359.toNat]
@[reducible] def k1_t2_loop (v16 : BitVec 32) (v23 : BitVec 32) : Scf.Loop 32 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_51 : BitVec 32 := 1#32
  ⟨c0_i32_48, v130, c1_i32_51⟩
def k1_mult3 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v24 v281
  let c1636352_i32 : BitVec 32 := 1636352#32
  let v283 : BitVec 32 := Scalar.minsi v282 c1636352_i32
  v283
def k1_cond3 (v16 : BitVec 32) (v23 : BitVec 32) (k1_t2 : Fin (k1_t2_loop v16 v23).trips) : BitVec 1 :=
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let v273 : BitVec 1 := Scalar.cmpi .slt v272 v43
  let v274 : BitVec 32 := Scalar.extui v273
  let c0_i32_130 : BitVec 32 := 0#32
  let v275 : BitVec 1 := Scalar.cmpi .ne v274 c0_i32_130
  v275

def k1_mult4 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  v294
def k1_off12 (v16 : BitVec 32) (v23 : BitVec 32) (k1_t2 : Fin (k1_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k1_t3_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off13 (k1_t3 : Fin k1_t3_loop.trips) : Fin 1 → Nat :=
  let c0_i32_142 : BitVec 32 := 0#32
  let c1_i32_143 : BitVec 32 := 1#32
  let arg21 : BitVec 32 := Scf.iv c0_i32_142 c1_i32_143 k1_t3
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk2 (v16 : BitVec 32) (v23 : BitVec 32) (k1_t2 : Fin (k1_t2_loop v16 v23).trips) (v313 : IVec S16 32) (v371 : IVec S16 32) : Prop :=
  (∀ (k1_h3 : k1_cond3 v16 v23 k1_t2 = 1#1), ∀ a x, ((![v371, v313] : Fin 2 → IVec S16 32) a x).toNat < S8x4096.size a)
theorem k1_idx1_inb : ∀ (v16 : BitVec 32) (v23 : BitVec 32) (k1_t2 : Fin (k1_t2_loop v16 v23).trips) (v313 : IVec S16 32) (v371 : IVec S16 32) (k1_hw2 : k1_chk2 v16 v23 k1_t2 v313 v371), ∀ (k1_h3 : k1_cond3 v16 v23 k1_t2 = 1#1), ∀ a x, ((![v371, v313] : Fin 2 → IVec S16 32) a x).toNat < S8x4096.size a := fun v16 v23 k1_t2 v313 v371 k1_hw2 k1_h3 => k1_hw2 k1_h3
def k1_off14 (k1_t3 : Fin k1_t3_loop.trips) : Fin 1 → Nat :=
  let c0_i32_142 : BitVec 32 := 0#32
  let c1_i32_143 : BitVec 32 := 1#32
  let arg21 : BitVec 32 := Scf.iv c0_i32_142 c1_i32_143 k1_t3
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk3 (v16 : BitVec 32) (v23 : BitVec 32) (k1_t2 : Fin (k1_t2_loop v16 v23).trips) (v379 : IVec S16 32) (v437 : IVec S16 32) : Prop :=
  (∀ (k1_h3 : k1_cond3 v16 v23 k1_t2 = 1#1), ∀ a x, ((![v437, v379] : Fin 2 → IVec S16 32) a x).toNat < S8x4096.size a)
theorem k1_idx2_inb : ∀ (v16 : BitVec 32) (v23 : BitVec 32) (k1_t2 : Fin (k1_t2_loop v16 v23).trips) (v379 : IVec S16 32) (v437 : IVec S16 32) (k1_hw3 : k1_chk3 v16 v23 k1_t2 v379 v437), ∀ (k1_h3 : k1_cond3 v16 v23 k1_t2 = 1#1), ∀ a x, ((![v437, v379] : Fin 2 → IVec S16 32) a x).toNat < S8x4096.size a := fun v16 v23 k1_t2 v379 v437 k1_hw3 k1_h3 => k1_hw3 k1_h3
def k1_off15 (k1_t3 : Fin k1_t3_loop.trips) : Fin 1 → Nat :=
  let c0_i32_142 : BitVec 32 := 0#32
  let c1_i32_143 : BitVec 32 := 1#32
  let arg21 : BitVec 32 := Scf.iv c0_i32_142 c1_i32_143 k1_t3
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk4 (v16 : BitVec 32) (v23 : BitVec 32) (k1_t2 : Fin (k1_t2_loop v16 v23).trips) (v445 : IVec S16 32) (v503 : IVec S16 32) : Prop :=
  (∀ (k1_h3 : k1_cond3 v16 v23 k1_t2 = 1#1), ∀ a x, ((![v503, v445] : Fin 2 → IVec S16 32) a x).toNat < S8x4096.size a)
theorem k1_idx3_inb : ∀ (v16 : BitVec 32) (v23 : BitVec 32) (k1_t2 : Fin (k1_t2_loop v16 v23).trips) (v445 : IVec S16 32) (v503 : IVec S16 32) (k1_hw4 : k1_chk4 v16 v23 k1_t2 v445 v503), ∀ (k1_h3 : k1_cond3 v16 v23 k1_t2 = 1#1), ∀ a x, ((![v503, v445] : Fin 2 → IVec S16 32) a x).toNat < S8x4096.size a := fun v16 v23 k1_t2 v445 v503 k1_hw4 k1_h3 => k1_hw4 k1_h3
def k1_off16 (k1_t3 : Fin k1_t3_loop.trips) : Fin 1 → Nat :=
  let c0_i32_142 : BitVec 32 := 0#32
  let c1_i32_143 : BitVec 32 := 1#32
  let arg21 : BitVec 32 := Scf.iv c0_i32_142 c1_i32_143 k1_t3
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk5 (v16 : BitVec 32) (v23 : BitVec 32) (k1_t2 : Fin (k1_t2_loop v16 v23).trips) (v511 : IVec S16 32) (v569 : IVec S16 32) : Prop :=
  (∀ (k1_h3 : k1_cond3 v16 v23 k1_t2 = 1#1), ∀ a x, ((![v569, v511] : Fin 2 → IVec S16 32) a x).toNat < S8x4096.size a)
theorem k1_idx4_inb : ∀ (v16 : BitVec 32) (v23 : BitVec 32) (k1_t2 : Fin (k1_t2_loop v16 v23).trips) (v511 : IVec S16 32) (v569 : IVec S16 32) (k1_hw5 : k1_chk5 v16 v23 k1_t2 v511 v569), ∀ (k1_h3 : k1_cond3 v16 v23 k1_t2 = 1#1), ∀ a x, ((![v569, v511] : Fin 2 → IVec S16 32) a x).toNat < S8x4096.size a := fun v16 v23 k1_t2 v511 v569 k1_hw5 k1_h3 => k1_hw5 k1_h3
def k1_mult5 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k1_cond4 (v16 : BitVec 32) (v23 : BitVec 32) (k1_t2 : Fin (k1_t2_loop v16 v23).trips) : BitVec 1 :=
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let v303 : BitVec 1 := Scalar.cmpi .slt v302 v43
  let v304 : BitVec 32 := Scalar.extui v303
  let c0_i32_146 : BitVec 32 := 0#32
  let v305 : BitVec 1 := Scalar.cmpi .ne v304 c0_i32_146
  v305

def k1_off17 (v16 : BitVec 32) (v23 : BitVec 32) (k1_t2 : Fin (k1_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
def k1_mult6 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v24 v281
  let c1636352_i32 : BitVec 32 := 1636352#32
  let v283 : BitVec 32 := Scalar.minsi v282 c1636352_i32
  v283
def k1_cond5 (v16 : BitVec 32) (v23 : BitVec 32) (k1_t2 : Fin (k1_t2_loop v16 v23).trips) : BitVec 1 :=
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let v278 : BitVec 1 := Scalar.cmpi .slt v277 v43
  let v279 : BitVec 32 := Scalar.extui v278
  let c0_i32_133 : BitVec 32 := 0#32
  let v280 : BitVec 1 := Scalar.cmpi .ne v279 c0_i32_133
  v280

def k1_mult7 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  v294
def k1_off18 (v16 : BitVec 32) (v23 : BitVec 32) (k1_t2 : Fin (k1_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k1_t4_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off19 (k1_t4 : Fin k1_t4_loop.trips) : Fin 1 → Nat :=
  let c0_i32_142 : BitVec 32 := 0#32
  let c1_i32_143 : BitVec 32 := 1#32
  let arg21 : BitVec 32 := Scf.iv c0_i32_142 c1_i32_143 k1_t4
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk6 (v16 : BitVec 32) (v23 : BitVec 32) (k1_t2 : Fin (k1_t2_loop v16 v23).trips) (v313 : IVec S16 32) (v371 : IVec S16 32) : Prop :=
  (∀ (k1_h5 : k1_cond5 v16 v23 k1_t2 = 1#1), ∀ a x, ((![v371, v313] : Fin 2 → IVec S16 32) a x).toNat < S8x4096.size a)
theorem k1_idx5_inb : ∀ (v16 : BitVec 32) (v23 : BitVec 32) (k1_t2 : Fin (k1_t2_loop v16 v23).trips) (v313 : IVec S16 32) (v371 : IVec S16 32) (k1_hw6 : k1_chk6 v16 v23 k1_t2 v313 v371), ∀ (k1_h5 : k1_cond5 v16 v23 k1_t2 = 1#1), ∀ a x, ((![v371, v313] : Fin 2 → IVec S16 32) a x).toNat < S8x4096.size a := fun v16 v23 k1_t2 v313 v371 k1_hw6 k1_h5 => k1_hw6 k1_h5
def k1_off20 (k1_t4 : Fin k1_t4_loop.trips) : Fin 1 → Nat :=
  let c0_i32_142 : BitVec 32 := 0#32
  let c1_i32_143 : BitVec 32 := 1#32
  let arg21 : BitVec 32 := Scf.iv c0_i32_142 c1_i32_143 k1_t4
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk7 (v16 : BitVec 32) (v23 : BitVec 32) (k1_t2 : Fin (k1_t2_loop v16 v23).trips) (v379 : IVec S16 32) (v437 : IVec S16 32) : Prop :=
  (∀ (k1_h5 : k1_cond5 v16 v23 k1_t2 = 1#1), ∀ a x, ((![v437, v379] : Fin 2 → IVec S16 32) a x).toNat < S8x4096.size a)
theorem k1_idx6_inb : ∀ (v16 : BitVec 32) (v23 : BitVec 32) (k1_t2 : Fin (k1_t2_loop v16 v23).trips) (v379 : IVec S16 32) (v437 : IVec S16 32) (k1_hw7 : k1_chk7 v16 v23 k1_t2 v379 v437), ∀ (k1_h5 : k1_cond5 v16 v23 k1_t2 = 1#1), ∀ a x, ((![v437, v379] : Fin 2 → IVec S16 32) a x).toNat < S8x4096.size a := fun v16 v23 k1_t2 v379 v437 k1_hw7 k1_h5 => k1_hw7 k1_h5
def k1_off21 (k1_t4 : Fin k1_t4_loop.trips) : Fin 1 → Nat :=
  let c0_i32_142 : BitVec 32 := 0#32
  let c1_i32_143 : BitVec 32 := 1#32
  let arg21 : BitVec 32 := Scf.iv c0_i32_142 c1_i32_143 k1_t4
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk8 (v16 : BitVec 32) (v23 : BitVec 32) (k1_t2 : Fin (k1_t2_loop v16 v23).trips) (v445 : IVec S16 32) (v503 : IVec S16 32) : Prop :=
  (∀ (k1_h5 : k1_cond5 v16 v23 k1_t2 = 1#1), ∀ a x, ((![v503, v445] : Fin 2 → IVec S16 32) a x).toNat < S8x4096.size a)
theorem k1_idx7_inb : ∀ (v16 : BitVec 32) (v23 : BitVec 32) (k1_t2 : Fin (k1_t2_loop v16 v23).trips) (v445 : IVec S16 32) (v503 : IVec S16 32) (k1_hw8 : k1_chk8 v16 v23 k1_t2 v445 v503), ∀ (k1_h5 : k1_cond5 v16 v23 k1_t2 = 1#1), ∀ a x, ((![v503, v445] : Fin 2 → IVec S16 32) a x).toNat < S8x4096.size a := fun v16 v23 k1_t2 v445 v503 k1_hw8 k1_h5 => k1_hw8 k1_h5
def k1_off22 (k1_t4 : Fin k1_t4_loop.trips) : Fin 1 → Nat :=
  let c0_i32_142 : BitVec 32 := 0#32
  let c1_i32_143 : BitVec 32 := 1#32
  let arg21 : BitVec 32 := Scf.iv c0_i32_142 c1_i32_143 k1_t4
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk9 (v16 : BitVec 32) (v23 : BitVec 32) (k1_t2 : Fin (k1_t2_loop v16 v23).trips) (v511 : IVec S16 32) (v569 : IVec S16 32) : Prop :=
  (∀ (k1_h5 : k1_cond5 v16 v23 k1_t2 = 1#1), ∀ a x, ((![v569, v511] : Fin 2 → IVec S16 32) a x).toNat < S8x4096.size a)
theorem k1_idx8_inb : ∀ (v16 : BitVec 32) (v23 : BitVec 32) (k1_t2 : Fin (k1_t2_loop v16 v23).trips) (v511 : IVec S16 32) (v569 : IVec S16 32) (k1_hw9 : k1_chk9 v16 v23 k1_t2 v511 v569), ∀ (k1_h5 : k1_cond5 v16 v23 k1_t2 = 1#1), ∀ a x, ((![v569, v511] : Fin 2 → IVec S16 32) a x).toNat < S8x4096.size a := fun v16 v23 k1_t2 v511 v569 k1_hw9 k1_h5 => k1_hw9 k1_h5
def k1_mult8 (v16 : BitVec 32) (v23 : BitVec 32) (k1_t2 : Fin (k1_t2_loop v16 v23).trips) : BitVec 32 :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k1_cond6 (v16 : BitVec 32) (v23 : BitVec 32) (k1_t2 : Fin (k1_t2_loop v16 v23).trips) : BitVec 1 :=
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let v303 : BitVec 1 := Scalar.cmpi .slt v302 v43
  let v304 : BitVec 32 := Scalar.extui v303
  let c0_i32_146 : BitVec 32 := 0#32
  let v305 : BitVec 1 := Scalar.cmpi .ne v304 c0_i32_146
  v305

def k1_off23 (v16 : BitVec 32) (v23 : BitVec 32) (k1_t2 : Fin (k1_t2_loop v16 v23).trips) : Fin 1 → Nat :=
  let c_m8_i32 : BitVec 32 := 4294967288#32
  let v24 : BitVec 32 := Scalar.andi v16 c_m8_i32
  let c0_i32_48 : BitVec 32 := 0#32
  let c1_i32_51 : BitVec 32 := 1#32
  let arg19 : BitVec 32 := Scf.iv c0_i32_48 c1_i32_51 k1_t2
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
@[reducible] def k1_t5_loop (v16 : BitVec 32) (v23 : BitVec 32) : Scf.Loop 32 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let v127 : BitVec 32 := Scalar.addi c0_i32_48 v126
  let c1_i32_52 : BitVec 32 := 1#32
  ⟨v130, v127, c1_i32_52⟩
def k1_mult9 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v24 v281
  let c1636352_i32 : BitVec 32 := 1636352#32
  let v283 : BitVec 32 := Scalar.minsi v282 c1636352_i32
  v283
def k1_cond7 (v16 : BitVec 32) (v23 : BitVec 32) (k1_t5 : Fin (k1_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let v273 : BitVec 1 := Scalar.cmpi .slt v272 v43
  let v274 : BitVec 32 := Scalar.extui v273
  let c0_i32_130 : BitVec 32 := 0#32
  let v275 : BitVec 1 := Scalar.cmpi .ne v274 c0_i32_130
  v275

def k1_mult10 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  v294
def k1_off24 (v16 : BitVec 32) (v23 : BitVec 32) (k1_t5 : Fin (k1_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k1_t6_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off25 (k1_t6 : Fin k1_t6_loop.trips) : Fin 1 → Nat :=
  let c0_i32_142 : BitVec 32 := 0#32
  let c1_i32_143 : BitVec 32 := 1#32
  let arg21 : BitVec 32 := Scf.iv c0_i32_142 c1_i32_143 k1_t6
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk10 (v16 : BitVec 32) (v23 : BitVec 32) (k1_t5 : Fin (k1_t5_loop v16 v23).trips) (v313 : IVec S16 32) (v371 : IVec S16 32) : Prop :=
  (∀ (k1_h7 : k1_cond7 v16 v23 k1_t5 = 1#1), ∀ a x, ((![v371, v313] : Fin 2 → IVec S16 32) a x).toNat < S8x4096.size a)
theorem k1_idx9_inb : ∀ (v16 : BitVec 32) (v23 : BitVec 32) (k1_t5 : Fin (k1_t5_loop v16 v23).trips) (v313 : IVec S16 32) (v371 : IVec S16 32) (k1_hw10 : k1_chk10 v16 v23 k1_t5 v313 v371), ∀ (k1_h7 : k1_cond7 v16 v23 k1_t5 = 1#1), ∀ a x, ((![v371, v313] : Fin 2 → IVec S16 32) a x).toNat < S8x4096.size a := fun v16 v23 k1_t5 v313 v371 k1_hw10 k1_h7 => k1_hw10 k1_h7
def k1_off26 (k1_t6 : Fin k1_t6_loop.trips) : Fin 1 → Nat :=
  let c0_i32_142 : BitVec 32 := 0#32
  let c1_i32_143 : BitVec 32 := 1#32
  let arg21 : BitVec 32 := Scf.iv c0_i32_142 c1_i32_143 k1_t6
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk11 (v16 : BitVec 32) (v23 : BitVec 32) (k1_t5 : Fin (k1_t5_loop v16 v23).trips) (v379 : IVec S16 32) (v437 : IVec S16 32) : Prop :=
  (∀ (k1_h7 : k1_cond7 v16 v23 k1_t5 = 1#1), ∀ a x, ((![v437, v379] : Fin 2 → IVec S16 32) a x).toNat < S8x4096.size a)
theorem k1_idx10_inb : ∀ (v16 : BitVec 32) (v23 : BitVec 32) (k1_t5 : Fin (k1_t5_loop v16 v23).trips) (v379 : IVec S16 32) (v437 : IVec S16 32) (k1_hw11 : k1_chk11 v16 v23 k1_t5 v379 v437), ∀ (k1_h7 : k1_cond7 v16 v23 k1_t5 = 1#1), ∀ a x, ((![v437, v379] : Fin 2 → IVec S16 32) a x).toNat < S8x4096.size a := fun v16 v23 k1_t5 v379 v437 k1_hw11 k1_h7 => k1_hw11 k1_h7
def k1_off27 (k1_t6 : Fin k1_t6_loop.trips) : Fin 1 → Nat :=
  let c0_i32_142 : BitVec 32 := 0#32
  let c1_i32_143 : BitVec 32 := 1#32
  let arg21 : BitVec 32 := Scf.iv c0_i32_142 c1_i32_143 k1_t6
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk12 (v16 : BitVec 32) (v23 : BitVec 32) (k1_t5 : Fin (k1_t5_loop v16 v23).trips) (v445 : IVec S16 32) (v503 : IVec S16 32) : Prop :=
  (∀ (k1_h7 : k1_cond7 v16 v23 k1_t5 = 1#1), ∀ a x, ((![v503, v445] : Fin 2 → IVec S16 32) a x).toNat < S8x4096.size a)
theorem k1_idx11_inb : ∀ (v16 : BitVec 32) (v23 : BitVec 32) (k1_t5 : Fin (k1_t5_loop v16 v23).trips) (v445 : IVec S16 32) (v503 : IVec S16 32) (k1_hw12 : k1_chk12 v16 v23 k1_t5 v445 v503), ∀ (k1_h7 : k1_cond7 v16 v23 k1_t5 = 1#1), ∀ a x, ((![v503, v445] : Fin 2 → IVec S16 32) a x).toNat < S8x4096.size a := fun v16 v23 k1_t5 v445 v503 k1_hw12 k1_h7 => k1_hw12 k1_h7
def k1_off28 (k1_t6 : Fin k1_t6_loop.trips) : Fin 1 → Nat :=
  let c0_i32_142 : BitVec 32 := 0#32
  let c1_i32_143 : BitVec 32 := 1#32
  let arg21 : BitVec 32 := Scf.iv c0_i32_142 c1_i32_143 k1_t6
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk13 (v16 : BitVec 32) (v23 : BitVec 32) (k1_t5 : Fin (k1_t5_loop v16 v23).trips) (v511 : IVec S16 32) (v569 : IVec S16 32) : Prop :=
  (∀ (k1_h7 : k1_cond7 v16 v23 k1_t5 = 1#1), ∀ a x, ((![v569, v511] : Fin 2 → IVec S16 32) a x).toNat < S8x4096.size a)
theorem k1_idx12_inb : ∀ (v16 : BitVec 32) (v23 : BitVec 32) (k1_t5 : Fin (k1_t5_loop v16 v23).trips) (v511 : IVec S16 32) (v569 : IVec S16 32) (k1_hw13 : k1_chk13 v16 v23 k1_t5 v511 v569), ∀ (k1_h7 : k1_cond7 v16 v23 k1_t5 = 1#1), ∀ a x, ((![v569, v511] : Fin 2 → IVec S16 32) a x).toNat < S8x4096.size a := fun v16 v23 k1_t5 v511 v569 k1_hw13 k1_h7 => k1_hw13 k1_h7
def k1_mult11 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k1_cond8 (v16 : BitVec 32) (v23 : BitVec 32) (k1_t5 : Fin (k1_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let v303 : BitVec 1 := Scalar.cmpi .slt v302 v43
  let v304 : BitVec 32 := Scalar.extui v303
  let c0_i32_146 : BitVec 32 := 0#32
  let v305 : BitVec 1 := Scalar.cmpi .ne v304 c0_i32_146
  v305

def k1_off29 (v16 : BitVec 32) (v23 : BitVec 32) (k1_t5 : Fin (k1_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]
def k1_mult12 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v24 v281
  let c1636352_i32 : BitVec 32 := 1636352#32
  let v283 : BitVec 32 := Scalar.minsi v282 c1636352_i32
  v283
def k1_cond9 (v16 : BitVec 32) (v23 : BitVec 32) (k1_t5 : Fin (k1_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let v278 : BitVec 1 := Scalar.cmpi .slt v277 v43
  let v279 : BitVec 32 := Scalar.extui v278
  let c0_i32_133 : BitVec 32 := 0#32
  let v280 : BitVec 1 := Scalar.cmpi .ne v279 c0_i32_133
  v280

def k1_mult13 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  v294
def k1_off30 (v16 : BitVec 32) (v23 : BitVec 32) (k1_t5 : Fin (k1_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v24 v292
  let c1636352_i32_140 : BitVec 32 := 1636352#32
  let v294 : BitVec 32 := Scalar.minsi v293 c1636352_i32_140
  let v295 : BitVec 32 := v294
  ![v295.toNat]
@[reducible] def k1_t7_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off31 (k1_t7 : Fin k1_t7_loop.trips) : Fin 1 → Nat :=
  let c0_i32_142 : BitVec 32 := 0#32
  let c1_i32_143 : BitVec 32 := 1#32
  let arg21 : BitVec 32 := Scf.iv c0_i32_142 c1_i32_143 k1_t7
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk14 (v16 : BitVec 32) (v23 : BitVec 32) (k1_t5 : Fin (k1_t5_loop v16 v23).trips) (v313 : IVec S16 32) (v371 : IVec S16 32) : Prop :=
  (∀ (k1_h9 : k1_cond9 v16 v23 k1_t5 = 1#1), ∀ a x, ((![v371, v313] : Fin 2 → IVec S16 32) a x).toNat < S8x4096.size a)
theorem k1_idx13_inb : ∀ (v16 : BitVec 32) (v23 : BitVec 32) (k1_t5 : Fin (k1_t5_loop v16 v23).trips) (v313 : IVec S16 32) (v371 : IVec S16 32) (k1_hw14 : k1_chk14 v16 v23 k1_t5 v313 v371), ∀ (k1_h9 : k1_cond9 v16 v23 k1_t5 = 1#1), ∀ a x, ((![v371, v313] : Fin 2 → IVec S16 32) a x).toNat < S8x4096.size a := fun v16 v23 k1_t5 v313 v371 k1_hw14 k1_h9 => k1_hw14 k1_h9
def k1_off32 (k1_t7 : Fin k1_t7_loop.trips) : Fin 1 → Nat :=
  let c0_i32_142 : BitVec 32 := 0#32
  let c1_i32_143 : BitVec 32 := 1#32
  let arg21 : BitVec 32 := Scf.iv c0_i32_142 c1_i32_143 k1_t7
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk15 (v16 : BitVec 32) (v23 : BitVec 32) (k1_t5 : Fin (k1_t5_loop v16 v23).trips) (v379 : IVec S16 32) (v437 : IVec S16 32) : Prop :=
  (∀ (k1_h9 : k1_cond9 v16 v23 k1_t5 = 1#1), ∀ a x, ((![v437, v379] : Fin 2 → IVec S16 32) a x).toNat < S8x4096.size a)
theorem k1_idx14_inb : ∀ (v16 : BitVec 32) (v23 : BitVec 32) (k1_t5 : Fin (k1_t5_loop v16 v23).trips) (v379 : IVec S16 32) (v437 : IVec S16 32) (k1_hw15 : k1_chk15 v16 v23 k1_t5 v379 v437), ∀ (k1_h9 : k1_cond9 v16 v23 k1_t5 = 1#1), ∀ a x, ((![v437, v379] : Fin 2 → IVec S16 32) a x).toNat < S8x4096.size a := fun v16 v23 k1_t5 v379 v437 k1_hw15 k1_h9 => k1_hw15 k1_h9
def k1_off33 (k1_t7 : Fin k1_t7_loop.trips) : Fin 1 → Nat :=
  let c0_i32_142 : BitVec 32 := 0#32
  let c1_i32_143 : BitVec 32 := 1#32
  let arg21 : BitVec 32 := Scf.iv c0_i32_142 c1_i32_143 k1_t7
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk16 (v16 : BitVec 32) (v23 : BitVec 32) (k1_t5 : Fin (k1_t5_loop v16 v23).trips) (v445 : IVec S16 32) (v503 : IVec S16 32) : Prop :=
  (∀ (k1_h9 : k1_cond9 v16 v23 k1_t5 = 1#1), ∀ a x, ((![v503, v445] : Fin 2 → IVec S16 32) a x).toNat < S8x4096.size a)
theorem k1_idx15_inb : ∀ (v16 : BitVec 32) (v23 : BitVec 32) (k1_t5 : Fin (k1_t5_loop v16 v23).trips) (v445 : IVec S16 32) (v503 : IVec S16 32) (k1_hw16 : k1_chk16 v16 v23 k1_t5 v445 v503), ∀ (k1_h9 : k1_cond9 v16 v23 k1_t5 = 1#1), ∀ a x, ((![v503, v445] : Fin 2 → IVec S16 32) a x).toNat < S8x4096.size a := fun v16 v23 k1_t5 v445 v503 k1_hw16 k1_h9 => k1_hw16 k1_h9
def k1_off34 (k1_t7 : Fin k1_t7_loop.trips) : Fin 1 → Nat :=
  let c0_i32_142 : BitVec 32 := 0#32
  let c1_i32_143 : BitVec 32 := 1#32
  let arg21 : BitVec 32 := Scf.iv c0_i32_142 c1_i32_143 k1_t7
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk17 (v16 : BitVec 32) (v23 : BitVec 32) (k1_t5 : Fin (k1_t5_loop v16 v23).trips) (v511 : IVec S16 32) (v569 : IVec S16 32) : Prop :=
  (∀ (k1_h9 : k1_cond9 v16 v23 k1_t5 = 1#1), ∀ a x, ((![v569, v511] : Fin 2 → IVec S16 32) a x).toNat < S8x4096.size a)
theorem k1_idx16_inb : ∀ (v16 : BitVec 32) (v23 : BitVec 32) (k1_t5 : Fin (k1_t5_loop v16 v23).trips) (v511 : IVec S16 32) (v569 : IVec S16 32) (k1_hw17 : k1_chk17 v16 v23 k1_t5 v511 v569), ∀ (k1_h9 : k1_cond9 v16 v23 k1_t5 = 1#1), ∀ a x, ((![v569, v511] : Fin 2 → IVec S16 32) a x).toNat < S8x4096.size a := fun v16 v23 k1_t5 v511 v569 k1_hw17 k1_h9 => k1_hw17 k1_h9
def k1_mult14 (v16 : BitVec 32) (v23 : BitVec 32) (k1_t5 : Fin (k1_t5_loop v16 v23).trips) : BitVec 32 :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  v309
def k1_cond10 (v16 : BitVec 32) (v23 : BitVec 32) (k1_t5 : Fin (k1_t5_loop v16 v23).trips) : BitVec 1 :=
  let c0_i32_48 : BitVec 32 := 0#32
  let c_m8_i32 : BitVec 32 := 4294967288#32
  let v24 : BitVec 32 := Scalar.andi v16 c_m8_i32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let v303 : BitVec 1 := Scalar.cmpi .slt v302 v43
  let v304 : BitVec 32 := Scalar.extui v303
  let c0_i32_146 : BitVec 32 := 0#32
  let v305 : BitVec 1 := Scalar.cmpi .ne v304 c0_i32_146
  v305

def k1_off35 (v16 : BitVec 32) (v23 : BitVec 32) (k1_t5 : Fin (k1_t5_loop v16 v23).trips) : Fin 1 → Nat :=
  let c_m8_i32 : BitVec 32 := 4294967288#32
  let v24 : BitVec 32 := Scalar.andi v16 c_m8_i32
  let c0_i32_48 : BitVec 32 := 0#32
  let v25 : BitVec 32 := Scalar.subi v23 v24
  let c2047_i32 : BitVec 32 := 2047#32
  let v26 : BitVec 32 := Scalar.addi v25 c2047_i32
  let c0_i32_7 : BitVec 32 := 0#32
  let v28 : BitVec 1 := Scalar.cmpi .sgt v26 c0_i32_7
  let v29 : BitVec 32 := Scalar.extui v28
  let c0_i32_8 : BitVec 32 := 0#32
  let v30 : BitVec 1 := Scalar.cmpi .slt v26 c0_i32_8
  let v31 : BitVec 32 := Scalar.extui v30
  let v32 : BitVec 32 := Scalar.subi v29 v31
  let c2048_i32_6 : BitVec 32 := 2048#32
  let c0_i32_9 : BitVec 32 := 0#32
  let v33 : BitVec 1 := Scalar.cmpi .sgt c2048_i32_6 c0_i32_9
  let v34 : BitVec 32 := Scalar.extui v33
  let c0_i32_10 : BitVec 32 := 0#32
  let v35 : BitVec 1 := Scalar.cmpi .slt c2048_i32_6 c0_i32_10
  let v36 : BitVec 32 := Scalar.extui v35
  let v37 : BitVec 32 := Scalar.subi v34 v36
  let v38 : BitVec 1 := Scalar.cmpi .ne v32 v37
  let v39 : BitVec 32 := Scalar.remsi v26 c2048_i32_6
  let c0_i32_11 : BitVec 32 := 0#32
  let v40 : BitVec 1 := Scalar.cmpi .ne v39 c0_i32_11
  let v41 : BitVec 1 := Scalar.andi v38 v40
  let v27 : BitVec 32 := Scalar.divsi v26 c2048_i32_6
  let c1_i32 : BitVec 32 := 1#32
  let v42 : BitVec 32 := Scalar.subi v27 c1_i32
  let v43 : BitVec 32 := Scalar.select v41 v42 v27
  let c1_i32_40 : BitVec 32 := 1#32
  let v108 : BitVec 32 := Scalar.addi v43 c1_i32_40
  let c0_i32_42 : BitVec 32 := 0#32
  let v110 : BitVec 1 := Scalar.cmpi .sgt v108 c0_i32_42
  let v111 : BitVec 32 := Scalar.extui v110
  let c0_i32_43 : BitVec 32 := 0#32
  let v112 : BitVec 1 := Scalar.cmpi .slt v108 c0_i32_43
  let v113 : BitVec 32 := Scalar.extui v112
  let v114 : BitVec 32 := Scalar.subi v111 v113
  let c2_i32_41 : BitVec 32 := 2#32
  let c0_i32_44 : BitVec 32 := 0#32
  let v115 : BitVec 1 := Scalar.cmpi .sgt c2_i32_41 c0_i32_44
  let v116 : BitVec 32 := Scalar.extui v115
  let c0_i32_45 : BitVec 32 := 0#32
  let v117 : BitVec 1 := Scalar.cmpi .slt c2_i32_41 c0_i32_45
  let v118 : BitVec 32 := Scalar.extui v117
  let v119 : BitVec 32 := Scalar.subi v116 v118
  let v120 : BitVec 1 := Scalar.cmpi .ne v114 v119
  let v121 : BitVec 32 := Scalar.remsi v108 c2_i32_41
  let c0_i32_46 : BitVec 32 := 0#32
  let v122 : BitVec 1 := Scalar.cmpi .ne v121 c0_i32_46
  let v123 : BitVec 1 := Scalar.andi v120 v122
  let v109 : BitVec 32 := Scalar.divsi v108 c2_i32_41
  let c1_i32_47 : BitVec 32 := 1#32
  let v124 : BitVec 32 := Scalar.subi v109 c1_i32_47
  let v125 : BitVec 32 := Scalar.select v123 v124 v109
  let v126 : BitVec 32 := Scalar.subi v125 c0_i32_48
  let c1_i32_50 : BitVec 32 := 1#32
  let v128 : BitVec 32 := Scalar.divsi v126 c1_i32_50
  let v129 : BitVec 32 := Scalar.muli v128 c1_i32_50
  let v130 : BitVec 32 := Scalar.addi c0_i32_48 v129
  let c1_i32_52 : BitVec 32 := 1#32
  let arg19 : BitVec 32 := Scf.iv v130 c1_i32_52 k1_t5
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v24 v307
  let c1636352_i32_149 : BitVec 32 := 1636352#32
  let v309 : BitVec 32 := Scalar.minsi v308 c1636352_i32_149
  let v310 : BitVec 32 := v309
  ![v310.toNat]

def k1_chk1 (v16 : BitVec 32) (v23 : BitVec 32) : Prop :=
  (∀ (k1_h1 : k1_cond1 v16 v23 = 1#1), 8 ∣ (k1_mult1 v16).toNat) ∧
  (∀ (k1_h1 : k1_cond1 v16 v23 = 1#1), ∀ a, (k1_off2 v16) a + S2048.size a ≤ S1638400.size a) ∧
  (∀ (k1_h2 : k1_cond2 v16 v23 = 1#1), 8 ∣ (k1_mult2 v16).toNat) ∧
  (∀ (k1_h2 : k1_cond2 v16 v23 = 1#1), ∀ a, (k1_off3 v16) a + S2048.size a ≤ S1638400.size a) ∧
  ((k1_t2_loop v16 v23).OK) ∧
  (∀ k1_t2 : Fin (k1_t2_loop v16 v23).trips, ∀ (k1_h3 : k1_cond3 v16 v23 k1_t2 = 1#1), 8 ∣ (k1_mult3 v16 v23 k1_t2).toNat) ∧
  (∀ k1_t2 : Fin (k1_t2_loop v16 v23).trips, ∀ (k1_h3 : k1_cond3 v16 v23 k1_t2 = 1#1), 8 ∣ (k1_mult4 v16 v23 k1_t2).toNat) ∧
  (∀ k1_t2 : Fin (k1_t2_loop v16 v23).trips, ∀ (k1_h3 : k1_cond3 v16 v23 k1_t2 = 1#1), ∀ a, (k1_off12 v16 v23 k1_t2) a + S2048.size a ≤ S1638400.size a) ∧
  (∀ k1_t2 : Fin (k1_t2_loop v16 v23).trips, ∀ (k1_h3 : k1_cond3 v16 v23 k1_t2 = 1#1), ∀ (k1_h4 : k1_cond4 v16 v23 k1_t2 = 1#1), 8 ∣ (k1_mult5 v16 v23 k1_t2).toNat) ∧
  (∀ k1_t2 : Fin (k1_t2_loop v16 v23).trips, ∀ (k1_h3 : k1_cond3 v16 v23 k1_t2 = 1#1), ∀ (k1_h4 : k1_cond4 v16 v23 k1_t2 = 1#1), ∀ a, (k1_off17 v16 v23 k1_t2) a + S2048.size a ≤ S1638400.size a) ∧
  (∀ k1_t2 : Fin (k1_t2_loop v16 v23).trips, ∀ (k1_h5 : k1_cond5 v16 v23 k1_t2 = 1#1), 8 ∣ (k1_mult6 v16 v23 k1_t2).toNat) ∧
  (∀ k1_t2 : Fin (k1_t2_loop v16 v23).trips, ∀ (k1_h5 : k1_cond5 v16 v23 k1_t2 = 1#1), 8 ∣ (k1_mult7 v16 v23 k1_t2).toNat) ∧
  (∀ k1_t2 : Fin (k1_t2_loop v16 v23).trips, ∀ (k1_h5 : k1_cond5 v16 v23 k1_t2 = 1#1), ∀ a, (k1_off18 v16 v23 k1_t2) a + S2048.size a ≤ S1638400.size a) ∧
  (∀ k1_t2 : Fin (k1_t2_loop v16 v23).trips, ∀ (k1_h5 : k1_cond5 v16 v23 k1_t2 = 1#1), ∀ (k1_h6 : k1_cond6 v16 v23 k1_t2 = 1#1), 8 ∣ (k1_mult8 v16 v23 k1_t2).toNat) ∧
  (∀ k1_t2 : Fin (k1_t2_loop v16 v23).trips, ∀ (k1_h5 : k1_cond5 v16 v23 k1_t2 = 1#1), ∀ (k1_h6 : k1_cond6 v16 v23 k1_t2 = 1#1), ∀ a, (k1_off23 v16 v23 k1_t2) a + S2048.size a ≤ S1638400.size a) ∧
  ((k1_t5_loop v16 v23).OK) ∧
  (∀ k1_t5 : Fin (k1_t5_loop v16 v23).trips, ∀ (k1_h7 : k1_cond7 v16 v23 k1_t5 = 1#1), 8 ∣ (k1_mult9 v16 v23 k1_t5).toNat) ∧
  (∀ k1_t5 : Fin (k1_t5_loop v16 v23).trips, ∀ (k1_h7 : k1_cond7 v16 v23 k1_t5 = 1#1), 8 ∣ (k1_mult10 v16 v23 k1_t5).toNat) ∧
  (∀ k1_t5 : Fin (k1_t5_loop v16 v23).trips, ∀ (k1_h7 : k1_cond7 v16 v23 k1_t5 = 1#1), ∀ a, (k1_off24 v16 v23 k1_t5) a + S2048.size a ≤ S1638400.size a) ∧
  (∀ k1_t5 : Fin (k1_t5_loop v16 v23).trips, ∀ (k1_h7 : k1_cond7 v16 v23 k1_t5 = 1#1), ∀ (k1_h8 : k1_cond8 v16 v23 k1_t5 = 1#1), 8 ∣ (k1_mult11 v16 v23 k1_t5).toNat) ∧
  (∀ k1_t5 : Fin (k1_t5_loop v16 v23).trips, ∀ (k1_h7 : k1_cond7 v16 v23 k1_t5 = 1#1), ∀ (k1_h8 : k1_cond8 v16 v23 k1_t5 = 1#1), ∀ a, (k1_off29 v16 v23 k1_t5) a + S2048.size a ≤ S1638400.size a) ∧
  (∀ k1_t5 : Fin (k1_t5_loop v16 v23).trips, ∀ (k1_h9 : k1_cond9 v16 v23 k1_t5 = 1#1), 8 ∣ (k1_mult12 v16 v23 k1_t5).toNat) ∧
  (∀ k1_t5 : Fin (k1_t5_loop v16 v23).trips, ∀ (k1_h9 : k1_cond9 v16 v23 k1_t5 = 1#1), 8 ∣ (k1_mult13 v16 v23 k1_t5).toNat) ∧
  (∀ k1_t5 : Fin (k1_t5_loop v16 v23).trips, ∀ (k1_h9 : k1_cond9 v16 v23 k1_t5 = 1#1), ∀ a, (k1_off30 v16 v23 k1_t5) a + S2048.size a ≤ S1638400.size a) ∧
  (∀ k1_t5 : Fin (k1_t5_loop v16 v23).trips, ∀ (k1_h9 : k1_cond9 v16 v23 k1_t5 = 1#1), ∀ (k1_h10 : k1_cond10 v16 v23 k1_t5 = 1#1), 8 ∣ (k1_mult14 v16 v23 k1_t5).toNat) ∧
  (∀ k1_t5 : Fin (k1_t5_loop v16 v23).trips, ∀ (k1_h9 : k1_cond9 v16 v23 k1_t5 = 1#1), ∀ (k1_h10 : k1_cond10 v16 v23 k1_t5 = 1#1), ∀ a, (k1_off35 v16 v23 k1_t5) a + S2048.size a ≤ S1638400.size a)
theorem k1_mult1_dvd : ∀ (v16 : BitVec 32) (v23 : BitVec 32) (k1_hw1 : k1_chk1 v16 v23), ∀ (k1_h1 : k1_cond1 v16 v23 = 1#1), 8 ∣ (k1_mult1 v16).toNat := fun v16 v23 k1_hw1 k1_h1 => k1_hw1.1 k1_h1
theorem k1_off2_inb : ∀ (v16 : BitVec 32) (v23 : BitVec 32) (k1_hw1 : k1_chk1 v16 v23), ∀ (k1_h1 : k1_cond1 v16 v23 = 1#1), ∀ a, (k1_off2 v16) a + S2048.size a ≤ S1638400.size a := fun v16 v23 k1_hw1 k1_h1 => k1_hw1.2.1 k1_h1
theorem k1_mult2_dvd : ∀ (v16 : BitVec 32) (v23 : BitVec 32) (k1_hw1 : k1_chk1 v16 v23), ∀ (k1_h2 : k1_cond2 v16 v23 = 1#1), 8 ∣ (k1_mult2 v16).toNat := fun v16 v23 k1_hw1 k1_h2 => k1_hw1.2.2.1 k1_h2
theorem k1_off3_inb : ∀ (v16 : BitVec 32) (v23 : BitVec 32) (k1_hw1 : k1_chk1 v16 v23), ∀ (k1_h2 : k1_cond2 v16 v23 = 1#1), ∀ a, (k1_off3 v16) a + S2048.size a ≤ S1638400.size a := fun v16 v23 k1_hw1 k1_h2 => k1_hw1.2.2.2.1 k1_h2
theorem k1_t2_ok : ∀ (v16 : BitVec 32) (v23 : BitVec 32) (k1_hw1 : k1_chk1 v16 v23), (k1_t2_loop v16 v23).OK := fun v16 v23 k1_hw1 => k1_hw1.2.2.2.2.1
theorem k1_mult3_dvd : ∀ (v16 : BitVec 32) (v23 : BitVec 32) (k1_hw1 : k1_chk1 v16 v23) (k1_t2 : Fin (k1_t2_loop v16 v23).trips), ∀ (k1_h3 : k1_cond3 v16 v23 k1_t2 = 1#1), 8 ∣ (k1_mult3 v16 v23 k1_t2).toNat := fun v16 v23 k1_hw1 k1_t2 k1_h3 => k1_hw1.2.2.2.2.2.1 k1_t2 k1_h3
theorem k1_mult4_dvd : ∀ (v16 : BitVec 32) (v23 : BitVec 32) (k1_hw1 : k1_chk1 v16 v23) (k1_t2 : Fin (k1_t2_loop v16 v23).trips), ∀ (k1_h3 : k1_cond3 v16 v23 k1_t2 = 1#1), 8 ∣ (k1_mult4 v16 v23 k1_t2).toNat := fun v16 v23 k1_hw1 k1_t2 k1_h3 => k1_hw1.2.2.2.2.2.2.1 k1_t2 k1_h3
theorem k1_off12_inb : ∀ (v16 : BitVec 32) (v23 : BitVec 32) (k1_hw1 : k1_chk1 v16 v23) (k1_t2 : Fin (k1_t2_loop v16 v23).trips), ∀ (k1_h3 : k1_cond3 v16 v23 k1_t2 = 1#1), ∀ a, (k1_off12 v16 v23 k1_t2) a + S2048.size a ≤ S1638400.size a := fun v16 v23 k1_hw1 k1_t2 k1_h3 => k1_hw1.2.2.2.2.2.2.2.1 k1_t2 k1_h3
theorem k1_mult5_dvd : ∀ (v16 : BitVec 32) (v23 : BitVec 32) (k1_hw1 : k1_chk1 v16 v23) (k1_t2 : Fin (k1_t2_loop v16 v23).trips), ∀ (k1_h3 : k1_cond3 v16 v23 k1_t2 = 1#1), ∀ (k1_h4 : k1_cond4 v16 v23 k1_t2 = 1#1), 8 ∣ (k1_mult5 v16 v23 k1_t2).toNat := fun v16 v23 k1_hw1 k1_t2 k1_h3 k1_h4 => k1_hw1.2.2.2.2.2.2.2.2.1 k1_t2 k1_h3 k1_h4
theorem k1_off17_inb : ∀ (v16 : BitVec 32) (v23 : BitVec 32) (k1_hw1 : k1_chk1 v16 v23) (k1_t2 : Fin (k1_t2_loop v16 v23).trips), ∀ (k1_h3 : k1_cond3 v16 v23 k1_t2 = 1#1), ∀ (k1_h4 : k1_cond4 v16 v23 k1_t2 = 1#1), ∀ a, (k1_off17 v16 v23 k1_t2) a + S2048.size a ≤ S1638400.size a := fun v16 v23 k1_hw1 k1_t2 k1_h3 k1_h4 => k1_hw1.2.2.2.2.2.2.2.2.2.1 k1_t2 k1_h3 k1_h4
theorem k1_mult6_dvd : ∀ (v16 : BitVec 32) (v23 : BitVec 32) (k1_hw1 : k1_chk1 v16 v23) (k1_t2 : Fin (k1_t2_loop v16 v23).trips), ∀ (k1_h5 : k1_cond5 v16 v23 k1_t2 = 1#1), 8 ∣ (k1_mult6 v16 v23 k1_t2).toNat := fun v16 v23 k1_hw1 k1_t2 k1_h5 => k1_hw1.2.2.2.2.2.2.2.2.2.2.1 k1_t2 k1_h5
theorem k1_mult7_dvd : ∀ (v16 : BitVec 32) (v23 : BitVec 32) (k1_hw1 : k1_chk1 v16 v23) (k1_t2 : Fin (k1_t2_loop v16 v23).trips), ∀ (k1_h5 : k1_cond5 v16 v23 k1_t2 = 1#1), 8 ∣ (k1_mult7 v16 v23 k1_t2).toNat := fun v16 v23 k1_hw1 k1_t2 k1_h5 => k1_hw1.2.2.2.2.2.2.2.2.2.2.2.1 k1_t2 k1_h5
theorem k1_off18_inb : ∀ (v16 : BitVec 32) (v23 : BitVec 32) (k1_hw1 : k1_chk1 v16 v23) (k1_t2 : Fin (k1_t2_loop v16 v23).trips), ∀ (k1_h5 : k1_cond5 v16 v23 k1_t2 = 1#1), ∀ a, (k1_off18 v16 v23 k1_t2) a + S2048.size a ≤ S1638400.size a := fun v16 v23 k1_hw1 k1_t2 k1_h5 => k1_hw1.2.2.2.2.2.2.2.2.2.2.2.2.1 k1_t2 k1_h5
theorem k1_mult8_dvd : ∀ (v16 : BitVec 32) (v23 : BitVec 32) (k1_hw1 : k1_chk1 v16 v23) (k1_t2 : Fin (k1_t2_loop v16 v23).trips), ∀ (k1_h5 : k1_cond5 v16 v23 k1_t2 = 1#1), ∀ (k1_h6 : k1_cond6 v16 v23 k1_t2 = 1#1), 8 ∣ (k1_mult8 v16 v23 k1_t2).toNat := fun v16 v23 k1_hw1 k1_t2 k1_h5 k1_h6 => k1_hw1.2.2.2.2.2.2.2.2.2.2.2.2.2.1 k1_t2 k1_h5 k1_h6
theorem k1_off23_inb : ∀ (v16 : BitVec 32) (v23 : BitVec 32) (k1_hw1 : k1_chk1 v16 v23) (k1_t2 : Fin (k1_t2_loop v16 v23).trips), ∀ (k1_h5 : k1_cond5 v16 v23 k1_t2 = 1#1), ∀ (k1_h6 : k1_cond6 v16 v23 k1_t2 = 1#1), ∀ a, (k1_off23 v16 v23 k1_t2) a + S2048.size a ≤ S1638400.size a := fun v16 v23 k1_hw1 k1_t2 k1_h5 k1_h6 => k1_hw1.2.2.2.2.2.2.2.2.2.2.2.2.2.2.1 k1_t2 k1_h5 k1_h6
theorem k1_t5_ok : ∀ (v16 : BitVec 32) (v23 : BitVec 32) (k1_hw1 : k1_chk1 v16 v23), (k1_t5_loop v16 v23).OK := fun v16 v23 k1_hw1 => k1_hw1.2.2.2.2.2.2.2.2.2.2.2.2.2.2.2.1
theorem k1_mult9_dvd : ∀ (v16 : BitVec 32) (v23 : BitVec 32) (k1_hw1 : k1_chk1 v16 v23) (k1_t5 : Fin (k1_t5_loop v16 v23).trips), ∀ (k1_h7 : k1_cond7 v16 v23 k1_t5 = 1#1), 8 ∣ (k1_mult9 v16 v23 k1_t5).toNat := fun v16 v23 k1_hw1 k1_t5 k1_h7 => k1_hw1.2.2.2.2.2.2.2.2.2.2.2.2.2.2.2.2.1 k1_t5 k1_h7
theorem k1_mult10_dvd : ∀ (v16 : BitVec 32) (v23 : BitVec 32) (k1_hw1 : k1_chk1 v16 v23) (k1_t5 : Fin (k1_t5_loop v16 v23).trips), ∀ (k1_h7 : k1_cond7 v16 v23 k1_t5 = 1#1), 8 ∣ (k1_mult10 v16 v23 k1_t5).toNat := fun v16 v23 k1_hw1 k1_t5 k1_h7 => k1_hw1.2.2.2.2.2.2.2.2.2.2.2.2.2.2.2.2.2.1 k1_t5 k1_h7
theorem k1_off24_inb : ∀ (v16 : BitVec 32) (v23 : BitVec 32) (k1_hw1 : k1_chk1 v16 v23) (k1_t5 : Fin (k1_t5_loop v16 v23).trips), ∀ (k1_h7 : k1_cond7 v16 v23 k1_t5 = 1#1), ∀ a, (k1_off24 v16 v23 k1_t5) a + S2048.size a ≤ S1638400.size a := fun v16 v23 k1_hw1 k1_t5 k1_h7 => k1_hw1.2.2.2.2.2.2.2.2.2.2.2.2.2.2.2.2.2.2.1 k1_t5 k1_h7
theorem k1_mult11_dvd : ∀ (v16 : BitVec 32) (v23 : BitVec 32) (k1_hw1 : k1_chk1 v16 v23) (k1_t5 : Fin (k1_t5_loop v16 v23).trips), ∀ (k1_h7 : k1_cond7 v16 v23 k1_t5 = 1#1), ∀ (k1_h8 : k1_cond8 v16 v23 k1_t5 = 1#1), 8 ∣ (k1_mult11 v16 v23 k1_t5).toNat := fun v16 v23 k1_hw1 k1_t5 k1_h7 k1_h8 => k1_hw1.2.2.2.2.2.2.2.2.2.2.2.2.2.2.2.2.2.2.2.1 k1_t5 k1_h7 k1_h8
theorem k1_off29_inb : ∀ (v16 : BitVec 32) (v23 : BitVec 32) (k1_hw1 : k1_chk1 v16 v23) (k1_t5 : Fin (k1_t5_loop v16 v23).trips), ∀ (k1_h7 : k1_cond7 v16 v23 k1_t5 = 1#1), ∀ (k1_h8 : k1_cond8 v16 v23 k1_t5 = 1#1), ∀ a, (k1_off29 v16 v23 k1_t5) a + S2048.size a ≤ S1638400.size a := fun v16 v23 k1_hw1 k1_t5 k1_h7 k1_h8 => k1_hw1.2.2.2.2.2.2.2.2.2.2.2.2.2.2.2.2.2.2.2.2.1 k1_t5 k1_h7 k1_h8
theorem k1_mult12_dvd : ∀ (v16 : BitVec 32) (v23 : BitVec 32) (k1_hw1 : k1_chk1 v16 v23) (k1_t5 : Fin (k1_t5_loop v16 v23).trips), ∀ (k1_h9 : k1_cond9 v16 v23 k1_t5 = 1#1), 8 ∣ (k1_mult12 v16 v23 k1_t5).toNat := fun v16 v23 k1_hw1 k1_t5 k1_h9 => k1_hw1.2.2.2.2.2.2.2.2.2.2.2.2.2.2.2.2.2.2.2.2.2.1 k1_t5 k1_h9
theorem k1_mult13_dvd : ∀ (v16 : BitVec 32) (v23 : BitVec 32) (k1_hw1 : k1_chk1 v16 v23) (k1_t5 : Fin (k1_t5_loop v16 v23).trips), ∀ (k1_h9 : k1_cond9 v16 v23 k1_t5 = 1#1), 8 ∣ (k1_mult13 v16 v23 k1_t5).toNat := fun v16 v23 k1_hw1 k1_t5 k1_h9 => k1_hw1.2.2.2.2.2.2.2.2.2.2.2.2.2.2.2.2.2.2.2.2.2.2.1 k1_t5 k1_h9
theorem k1_off30_inb : ∀ (v16 : BitVec 32) (v23 : BitVec 32) (k1_hw1 : k1_chk1 v16 v23) (k1_t5 : Fin (k1_t5_loop v16 v23).trips), ∀ (k1_h9 : k1_cond9 v16 v23 k1_t5 = 1#1), ∀ a, (k1_off30 v16 v23 k1_t5) a + S2048.size a ≤ S1638400.size a := fun v16 v23 k1_hw1 k1_t5 k1_h9 => k1_hw1.2.2.2.2.2.2.2.2.2.2.2.2.2.2.2.2.2.2.2.2.2.2.2.1 k1_t5 k1_h9
theorem k1_mult14_dvd : ∀ (v16 : BitVec 32) (v23 : BitVec 32) (k1_hw1 : k1_chk1 v16 v23) (k1_t5 : Fin (k1_t5_loop v16 v23).trips), ∀ (k1_h9 : k1_cond9 v16 v23 k1_t5 = 1#1), ∀ (k1_h10 : k1_cond10 v16 v23 k1_t5 = 1#1), 8 ∣ (k1_mult14 v16 v23 k1_t5).toNat := fun v16 v23 k1_hw1 k1_t5 k1_h9 k1_h10 => k1_hw1.2.2.2.2.2.2.2.2.2.2.2.2.2.2.2.2.2.2.2.2.2.2.2.2.1 k1_t5 k1_h9 k1_h10
theorem k1_off35_inb : ∀ (v16 : BitVec 32) (v23 : BitVec 32) (k1_hw1 : k1_chk1 v16 v23) (k1_t5 : Fin (k1_t5_loop v16 v23).trips), ∀ (k1_h9 : k1_cond9 v16 v23 k1_t5 = 1#1), ∀ (k1_h10 : k1_cond10 v16 v23 k1_t5 = 1#1), ∀ a, (k1_off35 v16 v23 k1_t5) a + S2048.size a ≤ S1638400.size a := fun v16 v23 k1_hw1 k1_t5 k1_h9 k1_h10 => k1_hw1.2.2.2.2.2.2.2.2.2.2.2.2.2.2.2.2.2.2.2.2.2.2.2.2.2 k1_t5 k1_h9 k1_h10

def k1_off36 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c0_i32 : BitVec 32 := 0#32
  let v7 : BitVec 32 := Scalar.addi v6 c0_i32
  let c0_i32_53 : BitVec 32 := 0#32
  ![v7.toNat, 0]
def k1_mult15 (v144 : BitVec 32) : BitVec 32 :=
  let c_m8_i32_62 : BitVec 32 := 4294967288#32
  let v152 : BitVec 32 := Scalar.andi v144 c_m8_i32_62
  let c0_i32_128 : BitVec 32 := 0#32
  let v271 : BitVec 32 := Scalar.addi v152 c0_i32_128
  let c1636352_i32 : BitVec 32 := 1636352#32
  let v272 : BitVec 32 := Scalar.minsi v271 c1636352_i32
  v272
def k1_cond11 (v144 : BitVec 32) (v151 : BitVec 32) : BitVec 1 :=
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c0_i32_71 : BitVec 32 := 0#32
  let v172 : BitVec 1 := Scalar.cmpi .sgt v171 c0_i32_71
  let v173 : BitVec 32 := Scalar.extui v172
  let c0_i32_72 : BitVec 32 := 0#32
  let v174 : BitVec 1 := Scalar.cmpi .ne v173 c0_i32_72
  v174

def k1_off37 (v144 : BitVec 32) : Fin 1 → Nat :=
  let c_m8_i32_62 : BitVec 32 := 4294967288#32
  let v152 : BitVec 32 := Scalar.andi v144 c_m8_i32_62
  let c0_i32_128 : BitVec 32 := 0#32
  let v271 : BitVec 32 := Scalar.addi v152 c0_i32_128
  let c1636352_i32 : BitVec 32 := 1636352#32
  let v272 : BitVec 32 := Scalar.minsi v271 c1636352_i32
  let v273 : BitVec 32 := v272
  ![v273.toNat]
def k1_mult16 (v144 : BitVec 32) : BitVec 32 :=
  let c_m8_i32_62 : BitVec 32 := 4294967288#32
  let v152 : BitVec 32 := Scalar.andi v144 c_m8_i32_62
  let c2048_i32_128 : BitVec 32 := 2048#32
  let v271 : BitVec 32 := Scalar.addi v152 c2048_i32_128
  let c1636352_i32 : BitVec 32 := 1636352#32
  let v272 : BitVec 32 := Scalar.minsi v271 c1636352_i32
  v272
def k1_cond12 (v144 : BitVec 32) (v151 : BitVec 32) : BitVec 1 :=
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_73 : BitVec 32 := 1#32
  let v175 : BitVec 1 := Scalar.cmpi .sgt v171 c1_i32_73
  let v176 : BitVec 32 := Scalar.extui v175
  let c0_i32_74 : BitVec 32 := 0#32
  let v177 : BitVec 1 := Scalar.cmpi .ne v176 c0_i32_74
  v177

def k1_off38 (v144 : BitVec 32) : Fin 1 → Nat :=
  let c_m8_i32_62 : BitVec 32 := 4294967288#32
  let v152 : BitVec 32 := Scalar.andi v144 c_m8_i32_62
  let c2048_i32_128 : BitVec 32 := 2048#32
  let v271 : BitVec 32 := Scalar.addi v152 c2048_i32_128
  let c1636352_i32 : BitVec 32 := 1636352#32
  let v272 : BitVec 32 := Scalar.minsi v271 c1636352_i32
  let v273 : BitVec 32 := v272
  ![v273.toNat]
@[reducible] def k1_t8_loop : Scf.Loop 32 :=
  let c0_i32_76 : BitVec 32 := 0#32
  let c128_i32_77 : BitVec 32 := 128#32
  let v178 : BitVec 32 := Scalar.addi c0_i32_76 c128_i32_77
  let c1_i32_78 : BitVec 32 := 1#32
  ⟨c0_i32_76, v178, c1_i32_78⟩
def k1_off39 (k1_t8 : Fin k1_t8_loop.trips) (c0_i32_129 : BitVec 32) : Fin 2 → Nat :=
  let c0_i32_130 : BitVec 32 := 0#32
  let v274 : Index := Scalar.indexCast c0_i32_130
  let c0_i32_76 : BitVec 32 := 0#32
  let c1_i32_78 : BitVec 32 := 1#32
  let arg19 : BitVec 32 := Scf.iv c0_i32_76 c1_i32_78 k1_t8
  let c2_i32_128 : BitVec 32 := 2#32
  let v271 : BitVec 32 := Scalar.muli arg19 c2_i32_128
  let v272 : BitVec 32 := Scalar.addi v271 c0_i32_129
  let c16_i32 : BitVec 32 := 16#32
  let v273 : BitVec 32 := Scalar.muli v272 c16_i32
  let v275 : Index := Scalar.indexCast v273
  ![0, v275.toNat]
def k1_off40 (k1_t8 : Fin k1_t8_loop.trips) (c0_i32_136 : BitVec 32) : Fin 2 → Nat :=
  let c1_i32_138 : BitVec 32 := 1#32
  let v286 : Index := Scalar.indexCast c1_i32_138
  let c0_i32_76 : BitVec 32 := 0#32
  let c1_i32_78 : BitVec 32 := 1#32
  let arg19 : BitVec 32 := Scf.iv c0_i32_76 c1_i32_78 k1_t8
  let c2_i32_135 : BitVec 32 := 2#32
  let v283 : BitVec 32 := Scalar.muli arg19 c2_i32_135
  let v284 : BitVec 32 := Scalar.addi v283 c0_i32_136
  let c16_i32_137 : BitVec 32 := 16#32
  let v285 : BitVec 32 := Scalar.muli v284 c16_i32_137
  let v287 : Index := Scalar.indexCast v285
  ![1, v287.toNat]
def k1_off41 (k1_t8 : Fin k1_t8_loop.trips) (c0_i32_144 : BitVec 32) : Fin 2 → Nat :=
  let c2_i32_146 : BitVec 32 := 2#32
  let v298 : Index := Scalar.indexCast c2_i32_146
  let c0_i32_76 : BitVec 32 := 0#32
  let c1_i32_78 : BitVec 32 := 1#32
  let arg19 : BitVec 32 := Scf.iv c0_i32_76 c1_i32_78 k1_t8
  let c2_i32_143 : BitVec 32 := 2#32
  let v295 : BitVec 32 := Scalar.muli arg19 c2_i32_143
  let v296 : BitVec 32 := Scalar.addi v295 c0_i32_144
  let c16_i32_145 : BitVec 32 := 16#32
  let v297 : BitVec 32 := Scalar.muli v296 c16_i32_145
  let v299 : Index := Scalar.indexCast v297
  ![2, v299.toNat]
def k1_off42 (k1_t8 : Fin k1_t8_loop.trips) (c0_i32_152 : BitVec 32) : Fin 2 → Nat :=
  let c3_i32_154 : BitVec 32 := 3#32
  let v310 : Index := Scalar.indexCast c3_i32_154
  let c0_i32_76 : BitVec 32 := 0#32
  let c1_i32_78 : BitVec 32 := 1#32
  let arg19 : BitVec 32 := Scf.iv c0_i32_76 c1_i32_78 k1_t8
  let c2_i32_151 : BitVec 32 := 2#32
  let v307 : BitVec 32 := Scalar.muli arg19 c2_i32_151
  let v308 : BitVec 32 := Scalar.addi v307 c0_i32_152
  let c16_i32_153 : BitVec 32 := 16#32
  let v309 : BitVec 32 := Scalar.muli v308 c16_i32_153
  let v311 : Index := Scalar.indexCast v309
  ![3, v311.toNat]
def k1_off43 (k1_t8 : Fin k1_t8_loop.trips) (c0_i32_160 : BitVec 32) : Fin 2 → Nat :=
  let c4_i32_162 : BitVec 32 := 4#32
  let v322 : Index := Scalar.indexCast c4_i32_162
  let c0_i32_76 : BitVec 32 := 0#32
  let c1_i32_78 : BitVec 32 := 1#32
  let arg19 : BitVec 32 := Scf.iv c0_i32_76 c1_i32_78 k1_t8
  let c2_i32_159 : BitVec 32 := 2#32
  let v319 : BitVec 32 := Scalar.muli arg19 c2_i32_159
  let v320 : BitVec 32 := Scalar.addi v319 c0_i32_160
  let c16_i32_161 : BitVec 32 := 16#32
  let v321 : BitVec 32 := Scalar.muli v320 c16_i32_161
  let v323 : Index := Scalar.indexCast v321
  ![4, v323.toNat]
def k1_off44 (k1_t8 : Fin k1_t8_loop.trips) (c0_i32_168 : BitVec 32) : Fin 2 → Nat :=
  let c5_i32_170 : BitVec 32 := 5#32
  let v334 : Index := Scalar.indexCast c5_i32_170
  let c0_i32_76 : BitVec 32 := 0#32
  let c1_i32_78 : BitVec 32 := 1#32
  let arg19 : BitVec 32 := Scf.iv c0_i32_76 c1_i32_78 k1_t8
  let c2_i32_167 : BitVec 32 := 2#32
  let v331 : BitVec 32 := Scalar.muli arg19 c2_i32_167
  let v332 : BitVec 32 := Scalar.addi v331 c0_i32_168
  let c16_i32_169 : BitVec 32 := 16#32
  let v333 : BitVec 32 := Scalar.muli v332 c16_i32_169
  let v335 : Index := Scalar.indexCast v333
  ![5, v335.toNat]
def k1_off45 (k1_t8 : Fin k1_t8_loop.trips) (c0_i32_176 : BitVec 32) : Fin 2 → Nat :=
  let c6_i32_178 : BitVec 32 := 6#32
  let v346 : Index := Scalar.indexCast c6_i32_178
  let c0_i32_76 : BitVec 32 := 0#32
  let c1_i32_78 : BitVec 32 := 1#32
  let arg19 : BitVec 32 := Scf.iv c0_i32_76 c1_i32_78 k1_t8
  let c2_i32_175 : BitVec 32 := 2#32
  let v343 : BitVec 32 := Scalar.muli arg19 c2_i32_175
  let v344 : BitVec 32 := Scalar.addi v343 c0_i32_176
  let c16_i32_177 : BitVec 32 := 16#32
  let v345 : BitVec 32 := Scalar.muli v344 c16_i32_177
  let v347 : Index := Scalar.indexCast v345
  ![6, v347.toNat]
def k1_off46 (k1_t8 : Fin k1_t8_loop.trips) (c0_i32_184 : BitVec 32) : Fin 2 → Nat :=
  let c7_i32_186 : BitVec 32 := 7#32
  let v358 : Index := Scalar.indexCast c7_i32_186
  let c0_i32_76 : BitVec 32 := 0#32
  let c1_i32_78 : BitVec 32 := 1#32
  let arg19 : BitVec 32 := Scf.iv c0_i32_76 c1_i32_78 k1_t8
  let c2_i32_183 : BitVec 32 := 2#32
  let v355 : BitVec 32 := Scalar.muli arg19 c2_i32_183
  let v356 : BitVec 32 := Scalar.addi v355 c0_i32_184
  let c16_i32_185 : BitVec 32 := 16#32
  let v357 : BitVec 32 := Scalar.muli v356 c16_i32_185
  let v359 : Index := Scalar.indexCast v357
  ![7, v359.toNat]
@[reducible] def k1_t9_loop (v144 : BitVec 32) (v151 : BitVec 32) : Scf.Loop 32 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_115 : BitVec 32 := 1#32
  ⟨c0_i32_112, v258, c1_i32_115⟩
def k1_mult17 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v152 v281
  let c1636352_i32 : BitVec 32 := 1636352#32
  let v283 : BitVec 32 := Scalar.minsi v282 c1636352_i32
  v283
def k1_cond13 (v144 : BitVec 32) (v151 : BitVec 32) (k1_t9 : Fin (k1_t9_loop v144 v151).trips) : BitVec 1 :=
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v273 : BitVec 1 := Scalar.cmpi .slt v272 v171
  let v274 : BitVec 32 := Scalar.extui v273
  let c0_i32_130 : BitVec 32 := 0#32
  let v275 : BitVec 1 := Scalar.cmpi .ne v274 c0_i32_130
  v275

def k1_mult18 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  v294
def k1_off47 (v144 : BitVec 32) (v151 : BitVec 32) (k1_t9 : Fin (k1_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k1_t10_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off48 (k1_t10 : Fin k1_t10_loop.trips) : Fin 1 → Nat :=
  let c0_i32_142 : BitVec 32 := 0#32
  let c1_i32_143 : BitVec 32 := 1#32
  let arg21 : BitVec 32 := Scf.iv c0_i32_142 c1_i32_143 k1_t10
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk19 (v144 : BitVec 32) (v151 : BitVec 32) (k1_t9 : Fin (k1_t9_loop v144 v151).trips) (v313 : IVec S16 32) (v371 : IVec S16 32) : Prop :=
  (∀ (k1_h13 : k1_cond13 v144 v151 k1_t9 = 1#1), ∀ a x, ((![v371, v313] : Fin 2 → IVec S16 32) a x).toNat < S8x4096.size a)
theorem k1_idx17_inb : ∀ (v144 : BitVec 32) (v151 : BitVec 32) (k1_t9 : Fin (k1_t9_loop v144 v151).trips) (v313 : IVec S16 32) (v371 : IVec S16 32) (k1_hw19 : k1_chk19 v144 v151 k1_t9 v313 v371), ∀ (k1_h13 : k1_cond13 v144 v151 k1_t9 = 1#1), ∀ a x, ((![v371, v313] : Fin 2 → IVec S16 32) a x).toNat < S8x4096.size a := fun v144 v151 k1_t9 v313 v371 k1_hw19 k1_h13 => k1_hw19 k1_h13
def k1_off49 (k1_t10 : Fin k1_t10_loop.trips) : Fin 1 → Nat :=
  let c0_i32_142 : BitVec 32 := 0#32
  let c1_i32_143 : BitVec 32 := 1#32
  let arg21 : BitVec 32 := Scf.iv c0_i32_142 c1_i32_143 k1_t10
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk20 (v144 : BitVec 32) (v151 : BitVec 32) (k1_t9 : Fin (k1_t9_loop v144 v151).trips) (v379 : IVec S16 32) (v437 : IVec S16 32) : Prop :=
  (∀ (k1_h13 : k1_cond13 v144 v151 k1_t9 = 1#1), ∀ a x, ((![v437, v379] : Fin 2 → IVec S16 32) a x).toNat < S8x4096.size a)
theorem k1_idx18_inb : ∀ (v144 : BitVec 32) (v151 : BitVec 32) (k1_t9 : Fin (k1_t9_loop v144 v151).trips) (v379 : IVec S16 32) (v437 : IVec S16 32) (k1_hw20 : k1_chk20 v144 v151 k1_t9 v379 v437), ∀ (k1_h13 : k1_cond13 v144 v151 k1_t9 = 1#1), ∀ a x, ((![v437, v379] : Fin 2 → IVec S16 32) a x).toNat < S8x4096.size a := fun v144 v151 k1_t9 v379 v437 k1_hw20 k1_h13 => k1_hw20 k1_h13
def k1_off50 (k1_t10 : Fin k1_t10_loop.trips) : Fin 1 → Nat :=
  let c0_i32_142 : BitVec 32 := 0#32
  let c1_i32_143 : BitVec 32 := 1#32
  let arg21 : BitVec 32 := Scf.iv c0_i32_142 c1_i32_143 k1_t10
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk21 (v144 : BitVec 32) (v151 : BitVec 32) (k1_t9 : Fin (k1_t9_loop v144 v151).trips) (v445 : IVec S16 32) (v503 : IVec S16 32) : Prop :=
  (∀ (k1_h13 : k1_cond13 v144 v151 k1_t9 = 1#1), ∀ a x, ((![v503, v445] : Fin 2 → IVec S16 32) a x).toNat < S8x4096.size a)
theorem k1_idx19_inb : ∀ (v144 : BitVec 32) (v151 : BitVec 32) (k1_t9 : Fin (k1_t9_loop v144 v151).trips) (v445 : IVec S16 32) (v503 : IVec S16 32) (k1_hw21 : k1_chk21 v144 v151 k1_t9 v445 v503), ∀ (k1_h13 : k1_cond13 v144 v151 k1_t9 = 1#1), ∀ a x, ((![v503, v445] : Fin 2 → IVec S16 32) a x).toNat < S8x4096.size a := fun v144 v151 k1_t9 v445 v503 k1_hw21 k1_h13 => k1_hw21 k1_h13
def k1_off51 (k1_t10 : Fin k1_t10_loop.trips) : Fin 1 → Nat :=
  let c0_i32_142 : BitVec 32 := 0#32
  let c1_i32_143 : BitVec 32 := 1#32
  let arg21 : BitVec 32 := Scf.iv c0_i32_142 c1_i32_143 k1_t10
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk22 (v144 : BitVec 32) (v151 : BitVec 32) (k1_t9 : Fin (k1_t9_loop v144 v151).trips) (v511 : IVec S16 32) (v569 : IVec S16 32) : Prop :=
  (∀ (k1_h13 : k1_cond13 v144 v151 k1_t9 = 1#1), ∀ a x, ((![v569, v511] : Fin 2 → IVec S16 32) a x).toNat < S8x4096.size a)
theorem k1_idx20_inb : ∀ (v144 : BitVec 32) (v151 : BitVec 32) (k1_t9 : Fin (k1_t9_loop v144 v151).trips) (v511 : IVec S16 32) (v569 : IVec S16 32) (k1_hw22 : k1_chk22 v144 v151 k1_t9 v511 v569), ∀ (k1_h13 : k1_cond13 v144 v151 k1_t9 = 1#1), ∀ a x, ((![v569, v511] : Fin 2 → IVec S16 32) a x).toNat < S8x4096.size a := fun v144 v151 k1_t9 v511 v569 k1_hw22 k1_h13 => k1_hw22 k1_h13
def k1_mult19 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k1_cond14 (v144 : BitVec 32) (v151 : BitVec 32) (k1_t9 : Fin (k1_t9_loop v144 v151).trips) : BitVec 1 :=
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v303 : BitVec 1 := Scalar.cmpi .slt v302 v171
  let v304 : BitVec 32 := Scalar.extui v303
  let c0_i32_146 : BitVec 32 := 0#32
  let v305 : BitVec 1 := Scalar.cmpi .ne v304 c0_i32_146
  v305

def k1_off52 (v144 : BitVec 32) (v151 : BitVec 32) (k1_t9 : Fin (k1_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
def k1_mult20 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v152 v281
  let c1636352_i32 : BitVec 32 := 1636352#32
  let v283 : BitVec 32 := Scalar.minsi v282 c1636352_i32
  v283
def k1_cond15 (v144 : BitVec 32) (v151 : BitVec 32) (k1_t9 : Fin (k1_t9_loop v144 v151).trips) : BitVec 1 :=
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v278 : BitVec 1 := Scalar.cmpi .slt v277 v171
  let v279 : BitVec 32 := Scalar.extui v278
  let c0_i32_133 : BitVec 32 := 0#32
  let v280 : BitVec 1 := Scalar.cmpi .ne v279 c0_i32_133
  v280

def k1_mult21 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  v294
def k1_off53 (v144 : BitVec 32) (v151 : BitVec 32) (k1_t9 : Fin (k1_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k1_t11_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off54 (k1_t11 : Fin k1_t11_loop.trips) : Fin 1 → Nat :=
  let c0_i32_142 : BitVec 32 := 0#32
  let c1_i32_143 : BitVec 32 := 1#32
  let arg21 : BitVec 32 := Scf.iv c0_i32_142 c1_i32_143 k1_t11
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk23 (v144 : BitVec 32) (v151 : BitVec 32) (k1_t9 : Fin (k1_t9_loop v144 v151).trips) (v313 : IVec S16 32) (v371 : IVec S16 32) : Prop :=
  (∀ (k1_h15 : k1_cond15 v144 v151 k1_t9 = 1#1), ∀ a x, ((![v371, v313] : Fin 2 → IVec S16 32) a x).toNat < S8x4096.size a)
theorem k1_idx21_inb : ∀ (v144 : BitVec 32) (v151 : BitVec 32) (k1_t9 : Fin (k1_t9_loop v144 v151).trips) (v313 : IVec S16 32) (v371 : IVec S16 32) (k1_hw23 : k1_chk23 v144 v151 k1_t9 v313 v371), ∀ (k1_h15 : k1_cond15 v144 v151 k1_t9 = 1#1), ∀ a x, ((![v371, v313] : Fin 2 → IVec S16 32) a x).toNat < S8x4096.size a := fun v144 v151 k1_t9 v313 v371 k1_hw23 k1_h15 => k1_hw23 k1_h15
def k1_off55 (k1_t11 : Fin k1_t11_loop.trips) : Fin 1 → Nat :=
  let c0_i32_142 : BitVec 32 := 0#32
  let c1_i32_143 : BitVec 32 := 1#32
  let arg21 : BitVec 32 := Scf.iv c0_i32_142 c1_i32_143 k1_t11
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk24 (v144 : BitVec 32) (v151 : BitVec 32) (k1_t9 : Fin (k1_t9_loop v144 v151).trips) (v379 : IVec S16 32) (v437 : IVec S16 32) : Prop :=
  (∀ (k1_h15 : k1_cond15 v144 v151 k1_t9 = 1#1), ∀ a x, ((![v437, v379] : Fin 2 → IVec S16 32) a x).toNat < S8x4096.size a)
theorem k1_idx22_inb : ∀ (v144 : BitVec 32) (v151 : BitVec 32) (k1_t9 : Fin (k1_t9_loop v144 v151).trips) (v379 : IVec S16 32) (v437 : IVec S16 32) (k1_hw24 : k1_chk24 v144 v151 k1_t9 v379 v437), ∀ (k1_h15 : k1_cond15 v144 v151 k1_t9 = 1#1), ∀ a x, ((![v437, v379] : Fin 2 → IVec S16 32) a x).toNat < S8x4096.size a := fun v144 v151 k1_t9 v379 v437 k1_hw24 k1_h15 => k1_hw24 k1_h15
def k1_off56 (k1_t11 : Fin k1_t11_loop.trips) : Fin 1 → Nat :=
  let c0_i32_142 : BitVec 32 := 0#32
  let c1_i32_143 : BitVec 32 := 1#32
  let arg21 : BitVec 32 := Scf.iv c0_i32_142 c1_i32_143 k1_t11
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk25 (v144 : BitVec 32) (v151 : BitVec 32) (k1_t9 : Fin (k1_t9_loop v144 v151).trips) (v445 : IVec S16 32) (v503 : IVec S16 32) : Prop :=
  (∀ (k1_h15 : k1_cond15 v144 v151 k1_t9 = 1#1), ∀ a x, ((![v503, v445] : Fin 2 → IVec S16 32) a x).toNat < S8x4096.size a)
theorem k1_idx23_inb : ∀ (v144 : BitVec 32) (v151 : BitVec 32) (k1_t9 : Fin (k1_t9_loop v144 v151).trips) (v445 : IVec S16 32) (v503 : IVec S16 32) (k1_hw25 : k1_chk25 v144 v151 k1_t9 v445 v503), ∀ (k1_h15 : k1_cond15 v144 v151 k1_t9 = 1#1), ∀ a x, ((![v503, v445] : Fin 2 → IVec S16 32) a x).toNat < S8x4096.size a := fun v144 v151 k1_t9 v445 v503 k1_hw25 k1_h15 => k1_hw25 k1_h15
def k1_off57 (k1_t11 : Fin k1_t11_loop.trips) : Fin 1 → Nat :=
  let c0_i32_142 : BitVec 32 := 0#32
  let c1_i32_143 : BitVec 32 := 1#32
  let arg21 : BitVec 32 := Scf.iv c0_i32_142 c1_i32_143 k1_t11
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk26 (v144 : BitVec 32) (v151 : BitVec 32) (k1_t9 : Fin (k1_t9_loop v144 v151).trips) (v511 : IVec S16 32) (v569 : IVec S16 32) : Prop :=
  (∀ (k1_h15 : k1_cond15 v144 v151 k1_t9 = 1#1), ∀ a x, ((![v569, v511] : Fin 2 → IVec S16 32) a x).toNat < S8x4096.size a)
theorem k1_idx24_inb : ∀ (v144 : BitVec 32) (v151 : BitVec 32) (k1_t9 : Fin (k1_t9_loop v144 v151).trips) (v511 : IVec S16 32) (v569 : IVec S16 32) (k1_hw26 : k1_chk26 v144 v151 k1_t9 v511 v569), ∀ (k1_h15 : k1_cond15 v144 v151 k1_t9 = 1#1), ∀ a x, ((![v569, v511] : Fin 2 → IVec S16 32) a x).toNat < S8x4096.size a := fun v144 v151 k1_t9 v511 v569 k1_hw26 k1_h15 => k1_hw26 k1_h15
def k1_mult22 (v144 : BitVec 32) (v151 : BitVec 32) (k1_t9 : Fin (k1_t9_loop v144 v151).trips) : BitVec 32 :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k1_cond16 (v144 : BitVec 32) (v151 : BitVec 32) (k1_t9 : Fin (k1_t9_loop v144 v151).trips) : BitVec 1 :=
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let v303 : BitVec 1 := Scalar.cmpi .slt v302 v171
  let v304 : BitVec 32 := Scalar.extui v303
  let c0_i32_146 : BitVec 32 := 0#32
  let v305 : BitVec 1 := Scalar.cmpi .ne v304 c0_i32_146
  v305

def k1_off58 (v144 : BitVec 32) (v151 : BitVec 32) (k1_t9 : Fin (k1_t9_loop v144 v151).trips) : Fin 1 → Nat :=
  let c_m8_i32_62 : BitVec 32 := 4294967288#32
  let v152 : BitVec 32 := Scalar.andi v144 c_m8_i32_62
  let c0_i32_112 : BitVec 32 := 0#32
  let c1_i32_115 : BitVec 32 := 1#32
  let arg19 : BitVec 32 := Scf.iv c0_i32_112 c1_i32_115 k1_t9
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
@[reducible] def k1_t12_loop (v144 : BitVec 32) (v151 : BitVec 32) : Scf.Loop 32 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let v255 : BitVec 32 := Scalar.addi c0_i32_112 v254
  let c1_i32_116 : BitVec 32 := 1#32
  ⟨v258, v255, c1_i32_116⟩
def k1_mult23 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_135 : BitVec 32 := 2048#32
  let v281 : BitVec 32 := Scalar.muli v272 c2048_i32_135
  let v282 : BitVec 32 := Scalar.addi v152 v281
  let c1636352_i32 : BitVec 32 := 1636352#32
  let v283 : BitVec 32 := Scalar.minsi v282 c1636352_i32
  v283
def k1_cond17 (v144 : BitVec 32) (v151 : BitVec 32) (k1_t12 : Fin (k1_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let v273 : BitVec 1 := Scalar.cmpi .slt v272 v171
  let v274 : BitVec 32 := Scalar.extui v273
  let c0_i32_130 : BitVec 32 := 0#32
  let v275 : BitVec 1 := Scalar.cmpi .ne v274 c0_i32_130
  v275

def k1_mult24 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  v294
def k1_off59 (v144 : BitVec 32) (v151 : BitVec 32) (k1_t12 : Fin (k1_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2048_i32_139 : BitVec 32 := 2048#32
  let v292 : BitVec 32 := Scalar.muli v272 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k1_t13_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off60 (k1_t13 : Fin k1_t13_loop.trips) : Fin 1 → Nat :=
  let c0_i32_142 : BitVec 32 := 0#32
  let c1_i32_143 : BitVec 32 := 1#32
  let arg21 : BitVec 32 := Scf.iv c0_i32_142 c1_i32_143 k1_t13
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk27 (v144 : BitVec 32) (v151 : BitVec 32) (k1_t12 : Fin (k1_t12_loop v144 v151).trips) (v313 : IVec S16 32) (v371 : IVec S16 32) : Prop :=
  (∀ (k1_h17 : k1_cond17 v144 v151 k1_t12 = 1#1), ∀ a x, ((![v371, v313] : Fin 2 → IVec S16 32) a x).toNat < S8x4096.size a)
theorem k1_idx25_inb : ∀ (v144 : BitVec 32) (v151 : BitVec 32) (k1_t12 : Fin (k1_t12_loop v144 v151).trips) (v313 : IVec S16 32) (v371 : IVec S16 32) (k1_hw27 : k1_chk27 v144 v151 k1_t12 v313 v371), ∀ (k1_h17 : k1_cond17 v144 v151 k1_t12 = 1#1), ∀ a x, ((![v371, v313] : Fin 2 → IVec S16 32) a x).toNat < S8x4096.size a := fun v144 v151 k1_t12 v313 v371 k1_hw27 k1_h17 => k1_hw27 k1_h17
def k1_off61 (k1_t13 : Fin k1_t13_loop.trips) : Fin 1 → Nat :=
  let c0_i32_142 : BitVec 32 := 0#32
  let c1_i32_143 : BitVec 32 := 1#32
  let arg21 : BitVec 32 := Scf.iv c0_i32_142 c1_i32_143 k1_t13
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk28 (v144 : BitVec 32) (v151 : BitVec 32) (k1_t12 : Fin (k1_t12_loop v144 v151).trips) (v379 : IVec S16 32) (v437 : IVec S16 32) : Prop :=
  (∀ (k1_h17 : k1_cond17 v144 v151 k1_t12 = 1#1), ∀ a x, ((![v437, v379] : Fin 2 → IVec S16 32) a x).toNat < S8x4096.size a)
theorem k1_idx26_inb : ∀ (v144 : BitVec 32) (v151 : BitVec 32) (k1_t12 : Fin (k1_t12_loop v144 v151).trips) (v379 : IVec S16 32) (v437 : IVec S16 32) (k1_hw28 : k1_chk28 v144 v151 k1_t12 v379 v437), ∀ (k1_h17 : k1_cond17 v144 v151 k1_t12 = 1#1), ∀ a x, ((![v437, v379] : Fin 2 → IVec S16 32) a x).toNat < S8x4096.size a := fun v144 v151 k1_t12 v379 v437 k1_hw28 k1_h17 => k1_hw28 k1_h17
def k1_off62 (k1_t13 : Fin k1_t13_loop.trips) : Fin 1 → Nat :=
  let c0_i32_142 : BitVec 32 := 0#32
  let c1_i32_143 : BitVec 32 := 1#32
  let arg21 : BitVec 32 := Scf.iv c0_i32_142 c1_i32_143 k1_t13
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk29 (v144 : BitVec 32) (v151 : BitVec 32) (k1_t12 : Fin (k1_t12_loop v144 v151).trips) (v445 : IVec S16 32) (v503 : IVec S16 32) : Prop :=
  (∀ (k1_h17 : k1_cond17 v144 v151 k1_t12 = 1#1), ∀ a x, ((![v503, v445] : Fin 2 → IVec S16 32) a x).toNat < S8x4096.size a)
theorem k1_idx27_inb : ∀ (v144 : BitVec 32) (v151 : BitVec 32) (k1_t12 : Fin (k1_t12_loop v144 v151).trips) (v445 : IVec S16 32) (v503 : IVec S16 32) (k1_hw29 : k1_chk29 v144 v151 k1_t12 v445 v503), ∀ (k1_h17 : k1_cond17 v144 v151 k1_t12 = 1#1), ∀ a x, ((![v503, v445] : Fin 2 → IVec S16 32) a x).toNat < S8x4096.size a := fun v144 v151 k1_t12 v445 v503 k1_hw29 k1_h17 => k1_hw29 k1_h17
def k1_off63 (k1_t13 : Fin k1_t13_loop.trips) : Fin 1 → Nat :=
  let c0_i32_142 : BitVec 32 := 0#32
  let c1_i32_143 : BitVec 32 := 1#32
  let arg21 : BitVec 32 := Scf.iv c0_i32_142 c1_i32_143 k1_t13
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk30 (v144 : BitVec 32) (v151 : BitVec 32) (k1_t12 : Fin (k1_t12_loop v144 v151).trips) (v511 : IVec S16 32) (v569 : IVec S16 32) : Prop :=
  (∀ (k1_h17 : k1_cond17 v144 v151 k1_t12 = 1#1), ∀ a x, ((![v569, v511] : Fin 2 → IVec S16 32) a x).toNat < S8x4096.size a)
theorem k1_idx28_inb : ∀ (v144 : BitVec 32) (v151 : BitVec 32) (k1_t12 : Fin (k1_t12_loop v144 v151).trips) (v511 : IVec S16 32) (v569 : IVec S16 32) (k1_hw30 : k1_chk30 v144 v151 k1_t12 v511 v569), ∀ (k1_h17 : k1_cond17 v144 v151 k1_t12 = 1#1), ∀ a x, ((![v569, v511] : Fin 2 → IVec S16 32) a x).toNat < S8x4096.size a := fun v144 v151 k1_t12 v511 v569 k1_hw30 k1_h17 => k1_hw30 k1_h17
def k1_mult25 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k1_cond18 (v144 : BitVec 32) (v151 : BitVec 32) (k1_t12 : Fin (k1_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_145 : BitVec 32 := 2#32
  let v302 : BitVec 32 := Scalar.addi v272 c2_i32_145
  let v303 : BitVec 1 := Scalar.cmpi .slt v302 v171
  let v304 : BitVec 32 := Scalar.extui v303
  let c0_i32_146 : BitVec 32 := 0#32
  let v305 : BitVec 1 := Scalar.cmpi .ne v304 c0_i32_146
  v305

def k1_off64 (v144 : BitVec 32) (v151 : BitVec 32) (k1_t12 : Fin (k1_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_128 : BitVec 32 := 2#32
  let v271 : BitVec 32 := Scalar.muli arg19 c2_i32_128
  let c0_i32_129 : BitVec 32 := 0#32
  let v272 : BitVec 32 := Scalar.addi v271 c0_i32_129
  let c2_i32_147 : BitVec 32 := 2#32
  let v306 : BitVec 32 := Scalar.addi v272 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]
def k1_mult26 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_135 : BitVec 32 := 2048#32
  let v281 : BitVec 32 := Scalar.muli v277 c2048_i32_135
  let v282 : BitVec 32 := Scalar.addi v152 v281
  let c1636352_i32 : BitVec 32 := 1636352#32
  let v283 : BitVec 32 := Scalar.minsi v282 c1636352_i32
  v283
def k1_cond19 (v144 : BitVec 32) (v151 : BitVec 32) (k1_t12 : Fin (k1_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let v278 : BitVec 1 := Scalar.cmpi .slt v277 v171
  let v279 : BitVec 32 := Scalar.extui v278
  let c0_i32_133 : BitVec 32 := 0#32
  let v280 : BitVec 1 := Scalar.cmpi .ne v279 c0_i32_133
  v280

def k1_mult27 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  v294
def k1_off65 (v144 : BitVec 32) (v151 : BitVec 32) (k1_t12 : Fin (k1_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2048_i32_139 : BitVec 32 := 2048#32
  let v292 : BitVec 32 := Scalar.muli v277 c2048_i32_139
  let v293 : BitVec 32 := Scalar.addi v152 v292
  let c1636352_i32_140 : BitVec 32 := 1636352#32
  let v294 : BitVec 32 := Scalar.minsi v293 c1636352_i32_140
  let v295 : BitVec 32 := v294
  ![v295.toNat]
@[reducible] def k1_t14_loop : Scf.Loop 32 :=
  let c0_i32_142 : BitVec 32 := 0#32
  let c32_i32 : BitVec 32 := 32#32
  let v300 : BitVec 32 := Scalar.addi c0_i32_142 c32_i32
  let c1_i32_143 : BitVec 32 := 1#32
  ⟨c0_i32_142, v300, c1_i32_143⟩
def k1_off66 (k1_t14 : Fin k1_t14_loop.trips) : Fin 1 → Nat :=
  let c0_i32_142 : BitVec 32 := 0#32
  let c1_i32_143 : BitVec 32 := 1#32
  let arg21 : BitVec 32 := Scf.iv c0_i32_142 c1_i32_143 k1_t14
  let c4_i32_147 : BitVec 32 := 4#32
  let v306 : BitVec 32 := Scalar.muli arg21 c4_i32_147
  let c0_i32_148 : BitVec 32 := 0#32
  let v307 : BitVec 32 := Scalar.addi v306 c0_i32_148
  let c16_i32 : BitVec 32 := 16#32
  let v308 : BitVec 32 := Scalar.muli v307 c16_i32
  let v312 : Index := Scalar.indexCast v308
  ![v312.toNat]

def k1_chk31 (v144 : BitVec 32) (v151 : BitVec 32) (k1_t12 : Fin (k1_t12_loop v144 v151).trips) (v313 : IVec S16 32) (v371 : IVec S16 32) : Prop :=
  (∀ (k1_h19 : k1_cond19 v144 v151 k1_t12 = 1#1), ∀ a x, ((![v371, v313] : Fin 2 → IVec S16 32) a x).toNat < S8x4096.size a)
theorem k1_idx29_inb : ∀ (v144 : BitVec 32) (v151 : BitVec 32) (k1_t12 : Fin (k1_t12_loop v144 v151).trips) (v313 : IVec S16 32) (v371 : IVec S16 32) (k1_hw31 : k1_chk31 v144 v151 k1_t12 v313 v371), ∀ (k1_h19 : k1_cond19 v144 v151 k1_t12 = 1#1), ∀ a x, ((![v371, v313] : Fin 2 → IVec S16 32) a x).toNat < S8x4096.size a := fun v144 v151 k1_t12 v313 v371 k1_hw31 k1_h19 => k1_hw31 k1_h19
def k1_off67 (k1_t14 : Fin k1_t14_loop.trips) : Fin 1 → Nat :=
  let c0_i32_142 : BitVec 32 := 0#32
  let c1_i32_143 : BitVec 32 := 1#32
  let arg21 : BitVec 32 := Scf.iv c0_i32_142 c1_i32_143 k1_t14
  let c4_i32_167 : BitVec 32 := 4#32
  let v372 : BitVec 32 := Scalar.muli arg21 c4_i32_167
  let c1_i32_168 : BitVec 32 := 1#32
  let v373 : BitVec 32 := Scalar.addi v372 c1_i32_168
  let c16_i32_169 : BitVec 32 := 16#32
  let v374 : BitVec 32 := Scalar.muli v373 c16_i32_169
  let v378 : Index := Scalar.indexCast v374
  ![v378.toNat]

def k1_chk32 (v144 : BitVec 32) (v151 : BitVec 32) (k1_t12 : Fin (k1_t12_loop v144 v151).trips) (v379 : IVec S16 32) (v437 : IVec S16 32) : Prop :=
  (∀ (k1_h19 : k1_cond19 v144 v151 k1_t12 = 1#1), ∀ a x, ((![v437, v379] : Fin 2 → IVec S16 32) a x).toNat < S8x4096.size a)
theorem k1_idx30_inb : ∀ (v144 : BitVec 32) (v151 : BitVec 32) (k1_t12 : Fin (k1_t12_loop v144 v151).trips) (v379 : IVec S16 32) (v437 : IVec S16 32) (k1_hw32 : k1_chk32 v144 v151 k1_t12 v379 v437), ∀ (k1_h19 : k1_cond19 v144 v151 k1_t12 = 1#1), ∀ a x, ((![v437, v379] : Fin 2 → IVec S16 32) a x).toNat < S8x4096.size a := fun v144 v151 k1_t12 v379 v437 k1_hw32 k1_h19 => k1_hw32 k1_h19
def k1_off68 (k1_t14 : Fin k1_t14_loop.trips) : Fin 1 → Nat :=
  let c0_i32_142 : BitVec 32 := 0#32
  let c1_i32_143 : BitVec 32 := 1#32
  let arg21 : BitVec 32 := Scf.iv c0_i32_142 c1_i32_143 k1_t14
  let c4_i32_188 : BitVec 32 := 4#32
  let v438 : BitVec 32 := Scalar.muli arg21 c4_i32_188
  let c2_i32_189 : BitVec 32 := 2#32
  let v439 : BitVec 32 := Scalar.addi v438 c2_i32_189
  let c16_i32_190 : BitVec 32 := 16#32
  let v440 : BitVec 32 := Scalar.muli v439 c16_i32_190
  let v444 : Index := Scalar.indexCast v440
  ![v444.toNat]

def k1_chk33 (v144 : BitVec 32) (v151 : BitVec 32) (k1_t12 : Fin (k1_t12_loop v144 v151).trips) (v445 : IVec S16 32) (v503 : IVec S16 32) : Prop :=
  (∀ (k1_h19 : k1_cond19 v144 v151 k1_t12 = 1#1), ∀ a x, ((![v503, v445] : Fin 2 → IVec S16 32) a x).toNat < S8x4096.size a)
theorem k1_idx31_inb : ∀ (v144 : BitVec 32) (v151 : BitVec 32) (k1_t12 : Fin (k1_t12_loop v144 v151).trips) (v445 : IVec S16 32) (v503 : IVec S16 32) (k1_hw33 : k1_chk33 v144 v151 k1_t12 v445 v503), ∀ (k1_h19 : k1_cond19 v144 v151 k1_t12 = 1#1), ∀ a x, ((![v503, v445] : Fin 2 → IVec S16 32) a x).toNat < S8x4096.size a := fun v144 v151 k1_t12 v445 v503 k1_hw33 k1_h19 => k1_hw33 k1_h19
def k1_off69 (k1_t14 : Fin k1_t14_loop.trips) : Fin 1 → Nat :=
  let c0_i32_142 : BitVec 32 := 0#32
  let c1_i32_143 : BitVec 32 := 1#32
  let arg21 : BitVec 32 := Scf.iv c0_i32_142 c1_i32_143 k1_t14
  let c4_i32_209 : BitVec 32 := 4#32
  let v504 : BitVec 32 := Scalar.muli arg21 c4_i32_209
  let c3_i32_210 : BitVec 32 := 3#32
  let v505 : BitVec 32 := Scalar.addi v504 c3_i32_210
  let c16_i32_211 : BitVec 32 := 16#32
  let v506 : BitVec 32 := Scalar.muli v505 c16_i32_211
  let v510 : Index := Scalar.indexCast v506
  ![v510.toNat]

def k1_chk34 (v144 : BitVec 32) (v151 : BitVec 32) (k1_t12 : Fin (k1_t12_loop v144 v151).trips) (v511 : IVec S16 32) (v569 : IVec S16 32) : Prop :=
  (∀ (k1_h19 : k1_cond19 v144 v151 k1_t12 = 1#1), ∀ a x, ((![v569, v511] : Fin 2 → IVec S16 32) a x).toNat < S8x4096.size a)
theorem k1_idx32_inb : ∀ (v144 : BitVec 32) (v151 : BitVec 32) (k1_t12 : Fin (k1_t12_loop v144 v151).trips) (v511 : IVec S16 32) (v569 : IVec S16 32) (k1_hw34 : k1_chk34 v144 v151 k1_t12 v511 v569), ∀ (k1_h19 : k1_cond19 v144 v151 k1_t12 = 1#1), ∀ a x, ((![v569, v511] : Fin 2 → IVec S16 32) a x).toNat < S8x4096.size a := fun v144 v151 k1_t12 v511 v569 k1_hw34 k1_h19 => k1_hw34 k1_h19
def k1_mult28 (v144 : BitVec 32) (v151 : BitVec 32) (k1_t12 : Fin (k1_t12_loop v144 v151).trips) : BitVec 32 :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  v309
def k1_cond20 (v144 : BitVec 32) (v151 : BitVec 32) (k1_t12 : Fin (k1_t12_loop v144 v151).trips) : BitVec 1 :=
  let c0_i32_112 : BitVec 32 := 0#32
  let c_m8_i32_62 : BitVec 32 := 4294967288#32
  let v152 : BitVec 32 := Scalar.andi v144 c_m8_i32_62
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_145 : BitVec 32 := 2#32
  let v302 : BitVec 32 := Scalar.addi v277 c2_i32_145
  let v303 : BitVec 1 := Scalar.cmpi .slt v302 v171
  let v304 : BitVec 32 := Scalar.extui v303
  let c0_i32_146 : BitVec 32 := 0#32
  let v305 : BitVec 1 := Scalar.cmpi .ne v304 c0_i32_146
  v305

def k1_off70 (v144 : BitVec 32) (v151 : BitVec 32) (k1_t12 : Fin (k1_t12_loop v144 v151).trips) : Fin 1 → Nat :=
  let c_m8_i32_62 : BitVec 32 := 4294967288#32
  let v152 : BitVec 32 := Scalar.andi v144 c_m8_i32_62
  let c0_i32_112 : BitVec 32 := 0#32
  let v153 : BitVec 32 := Scalar.subi v151 v152
  let c2047_i32_63 : BitVec 32 := 2047#32
  let v154 : BitVec 32 := Scalar.addi v153 c2047_i32_63
  let c0_i32_65 : BitVec 32 := 0#32
  let v156 : BitVec 1 := Scalar.cmpi .sgt v154 c0_i32_65
  let v157 : BitVec 32 := Scalar.extui v156
  let c0_i32_66 : BitVec 32 := 0#32
  let v158 : BitVec 1 := Scalar.cmpi .slt v154 c0_i32_66
  let v159 : BitVec 32 := Scalar.extui v158
  let v160 : BitVec 32 := Scalar.subi v157 v159
  let c2048_i32_64 : BitVec 32 := 2048#32
  let c0_i32_67 : BitVec 32 := 0#32
  let v161 : BitVec 1 := Scalar.cmpi .sgt c2048_i32_64 c0_i32_67
  let v162 : BitVec 32 := Scalar.extui v161
  let c0_i32_68 : BitVec 32 := 0#32
  let v163 : BitVec 1 := Scalar.cmpi .slt c2048_i32_64 c0_i32_68
  let v164 : BitVec 32 := Scalar.extui v163
  let v165 : BitVec 32 := Scalar.subi v162 v164
  let v166 : BitVec 1 := Scalar.cmpi .ne v160 v165
  let v167 : BitVec 32 := Scalar.remsi v154 c2048_i32_64
  let c0_i32_69 : BitVec 32 := 0#32
  let v168 : BitVec 1 := Scalar.cmpi .ne v167 c0_i32_69
  let v169 : BitVec 1 := Scalar.andi v166 v168
  let v155 : BitVec 32 := Scalar.divsi v154 c2048_i32_64
  let c1_i32_70 : BitVec 32 := 1#32
  let v170 : BitVec 32 := Scalar.subi v155 c1_i32_70
  let v171 : BitVec 32 := Scalar.select v169 v170 v155
  let c1_i32_104 : BitVec 32 := 1#32
  let v236 : BitVec 32 := Scalar.addi v171 c1_i32_104
  let c0_i32_106 : BitVec 32 := 0#32
  let v238 : BitVec 1 := Scalar.cmpi .sgt v236 c0_i32_106
  let v239 : BitVec 32 := Scalar.extui v238
  let c0_i32_107 : BitVec 32 := 0#32
  let v240 : BitVec 1 := Scalar.cmpi .slt v236 c0_i32_107
  let v241 : BitVec 32 := Scalar.extui v240
  let v242 : BitVec 32 := Scalar.subi v239 v241
  let c2_i32_105 : BitVec 32 := 2#32
  let c0_i32_108 : BitVec 32 := 0#32
  let v243 : BitVec 1 := Scalar.cmpi .sgt c2_i32_105 c0_i32_108
  let v244 : BitVec 32 := Scalar.extui v243
  let c0_i32_109 : BitVec 32 := 0#32
  let v245 : BitVec 1 := Scalar.cmpi .slt c2_i32_105 c0_i32_109
  let v246 : BitVec 32 := Scalar.extui v245
  let v247 : BitVec 32 := Scalar.subi v244 v246
  let v248 : BitVec 1 := Scalar.cmpi .ne v242 v247
  let v249 : BitVec 32 := Scalar.remsi v236 c2_i32_105
  let c0_i32_110 : BitVec 32 := 0#32
  let v250 : BitVec 1 := Scalar.cmpi .ne v249 c0_i32_110
  let v251 : BitVec 1 := Scalar.andi v248 v250
  let v237 : BitVec 32 := Scalar.divsi v236 c2_i32_105
  let c1_i32_111 : BitVec 32 := 1#32
  let v252 : BitVec 32 := Scalar.subi v237 c1_i32_111
  let v253 : BitVec 32 := Scalar.select v251 v252 v237
  let v254 : BitVec 32 := Scalar.subi v253 c0_i32_112
  let c1_i32_114 : BitVec 32 := 1#32
  let v256 : BitVec 32 := Scalar.divsi v254 c1_i32_114
  let v257 : BitVec 32 := Scalar.muli v256 c1_i32_114
  let v258 : BitVec 32 := Scalar.addi c0_i32_112 v257
  let c1_i32_116 : BitVec 32 := 1#32
  let arg19 : BitVec 32 := Scf.iv v258 c1_i32_116 k1_t12
  let c2_i32_131 : BitVec 32 := 2#32
  let v276 : BitVec 32 := Scalar.muli arg19 c2_i32_131
  let c1_i32_132 : BitVec 32 := 1#32
  let v277 : BitVec 32 := Scalar.addi v276 c1_i32_132
  let c2_i32_147 : BitVec 32 := 2#32
  let v306 : BitVec 32 := Scalar.addi v277 c2_i32_147
  let c2048_i32_148 : BitVec 32 := 2048#32
  let v307 : BitVec 32 := Scalar.muli v306 c2048_i32_148
  let v308 : BitVec 32 := Scalar.addi v152 v307
  let c1636352_i32_149 : BitVec 32 := 1636352#32
  let v309 : BitVec 32 := Scalar.minsi v308 c1636352_i32_149
  let v310 : BitVec 32 := v309
  ![v310.toNat]

def k1_chk18 (v144 : BitVec 32) (v151 : BitVec 32) : Prop :=
  (∀ (k1_h11 : k1_cond11 v144 v151 = 1#1), 8 ∣ (k1_mult15 v144).toNat) ∧
  (∀ (k1_h11 : k1_cond11 v144 v151 = 1#1), ∀ a, (k1_off37 v144) a + S2048.size a ≤ S1638400.size a) ∧
  (∀ (k1_h12 : k1_cond12 v144 v151 = 1#1), 8 ∣ (k1_mult16 v144).toNat) ∧
  (∀ (k1_h12 : k1_cond12 v144 v151 = 1#1), ∀ a, (k1_off38 v144) a + S2048.size a ≤ S1638400.size a) ∧
  ((k1_t9_loop v144 v151).OK) ∧
  (∀ k1_t9 : Fin (k1_t9_loop v144 v151).trips, ∀ (k1_h13 : k1_cond13 v144 v151 k1_t9 = 1#1), 8 ∣ (k1_mult17 v144 v151 k1_t9).toNat) ∧
  (∀ k1_t9 : Fin (k1_t9_loop v144 v151).trips, ∀ (k1_h13 : k1_cond13 v144 v151 k1_t9 = 1#1), 8 ∣ (k1_mult18 v144 v151 k1_t9).toNat) ∧
  (∀ k1_t9 : Fin (k1_t9_loop v144 v151).trips, ∀ (k1_h13 : k1_cond13 v144 v151 k1_t9 = 1#1), ∀ a, (k1_off47 v144 v151 k1_t9) a + S2048.size a ≤ S1638400.size a) ∧
  (∀ k1_t9 : Fin (k1_t9_loop v144 v151).trips, ∀ (k1_h13 : k1_cond13 v144 v151 k1_t9 = 1#1), ∀ (k1_h14 : k1_cond14 v144 v151 k1_t9 = 1#1), 8 ∣ (k1_mult19 v144 v151 k1_t9).toNat) ∧
  (∀ k1_t9 : Fin (k1_t9_loop v144 v151).trips, ∀ (k1_h13 : k1_cond13 v144 v151 k1_t9 = 1#1), ∀ (k1_h14 : k1_cond14 v144 v151 k1_t9 = 1#1), ∀ a, (k1_off52 v144 v151 k1_t9) a + S2048.size a ≤ S1638400.size a) ∧
  (∀ k1_t9 : Fin (k1_t9_loop v144 v151).trips, ∀ (k1_h15 : k1_cond15 v144 v151 k1_t9 = 1#1), 8 ∣ (k1_mult20 v144 v151 k1_t9).toNat) ∧
  (∀ k1_t9 : Fin (k1_t9_loop v144 v151).trips, ∀ (k1_h15 : k1_cond15 v144 v151 k1_t9 = 1#1), 8 ∣ (k1_mult21 v144 v151 k1_t9).toNat) ∧
  (∀ k1_t9 : Fin (k1_t9_loop v144 v151).trips, ∀ (k1_h15 : k1_cond15 v144 v151 k1_t9 = 1#1), ∀ a, (k1_off53 v144 v151 k1_t9) a + S2048.size a ≤ S1638400.size a) ∧
  (∀ k1_t9 : Fin (k1_t9_loop v144 v151).trips, ∀ (k1_h15 : k1_cond15 v144 v151 k1_t9 = 1#1), ∀ (k1_h16 : k1_cond16 v144 v151 k1_t9 = 1#1), 8 ∣ (k1_mult22 v144 v151 k1_t9).toNat) ∧
  (∀ k1_t9 : Fin (k1_t9_loop v144 v151).trips, ∀ (k1_h15 : k1_cond15 v144 v151 k1_t9 = 1#1), ∀ (k1_h16 : k1_cond16 v144 v151 k1_t9 = 1#1), ∀ a, (k1_off58 v144 v151 k1_t9) a + S2048.size a ≤ S1638400.size a) ∧
  ((k1_t12_loop v144 v151).OK) ∧
  (∀ k1_t12 : Fin (k1_t12_loop v144 v151).trips, ∀ (k1_h17 : k1_cond17 v144 v151 k1_t12 = 1#1), 8 ∣ (k1_mult23 v144 v151 k1_t12).toNat) ∧
  (∀ k1_t12 : Fin (k1_t12_loop v144 v151).trips, ∀ (k1_h17 : k1_cond17 v144 v151 k1_t12 = 1#1), 8 ∣ (k1_mult24 v144 v151 k1_t12).toNat) ∧
  (∀ k1_t12 : Fin (k1_t12_loop v144 v151).trips, ∀ (k1_h17 : k1_cond17 v144 v151 k1_t12 = 1#1), ∀ a, (k1_off59 v144 v151 k1_t12) a + S2048.size a ≤ S1638400.size a) ∧
  (∀ k1_t12 : Fin (k1_t12_loop v144 v151).trips, ∀ (k1_h17 : k1_cond17 v144 v151 k1_t12 = 1#1), ∀ (k1_h18 : k1_cond18 v144 v151 k1_t12 = 1#1), 8 ∣ (k1_mult25 v144 v151 k1_t12).toNat) ∧
  (∀ k1_t12 : Fin (k1_t12_loop v144 v151).trips, ∀ (k1_h17 : k1_cond17 v144 v151 k1_t12 = 1#1), ∀ (k1_h18 : k1_cond18 v144 v151 k1_t12 = 1#1), ∀ a, (k1_off64 v144 v151 k1_t12) a + S2048.size a ≤ S1638400.size a) ∧
  (∀ k1_t12 : Fin (k1_t12_loop v144 v151).trips, ∀ (k1_h19 : k1_cond19 v144 v151 k1_t12 = 1#1), 8 ∣ (k1_mult26 v144 v151 k1_t12).toNat) ∧
  (∀ k1_t12 : Fin (k1_t12_loop v144 v151).trips, ∀ (k1_h19 : k1_cond19 v144 v151 k1_t12 = 1#1), 8 ∣ (k1_mult27 v144 v151 k1_t12).toNat) ∧
  (∀ k1_t12 : Fin (k1_t12_loop v144 v151).trips, ∀ (k1_h19 : k1_cond19 v144 v151 k1_t12 = 1#1), ∀ a, (k1_off65 v144 v151 k1_t12) a + S2048.size a ≤ S1638400.size a) ∧
  (∀ k1_t12 : Fin (k1_t12_loop v144 v151).trips, ∀ (k1_h19 : k1_cond19 v144 v151 k1_t12 = 1#1), ∀ (k1_h20 : k1_cond20 v144 v151 k1_t12 = 1#1), 8 ∣ (k1_mult28 v144 v151 k1_t12).toNat) ∧
  (∀ k1_t12 : Fin (k1_t12_loop v144 v151).trips, ∀ (k1_h19 : k1_cond19 v144 v151 k1_t12 = 1#1), ∀ (k1_h20 : k1_cond20 v144 v151 k1_t12 = 1#1), ∀ a, (k1_off70 v144 v151 k1_t12) a + S2048.size a ≤ S1638400.size a)
theorem k1_mult15_dvd : ∀ (v144 : BitVec 32) (v151 : BitVec 32) (k1_hw18 : k1_chk18 v144 v151), ∀ (k1_h11 : k1_cond11 v144 v151 = 1#1), 8 ∣ (k1_mult15 v144).toNat := fun v144 v151 k1_hw18 k1_h11 => k1_hw18.1 k1_h11
theorem k1_off37_inb : ∀ (v144 : BitVec 32) (v151 : BitVec 32) (k1_hw18 : k1_chk18 v144 v151), ∀ (k1_h11 : k1_cond11 v144 v151 = 1#1), ∀ a, (k1_off37 v144) a + S2048.size a ≤ S1638400.size a := fun v144 v151 k1_hw18 k1_h11 => k1_hw18.2.1 k1_h11
theorem k1_mult16_dvd : ∀ (v144 : BitVec 32) (v151 : BitVec 32) (k1_hw18 : k1_chk18 v144 v151), ∀ (k1_h12 : k1_cond12 v144 v151 = 1#1), 8 ∣ (k1_mult16 v144).toNat := fun v144 v151 k1_hw18 k1_h12 => k1_hw18.2.2.1 k1_h12
theorem k1_off38_inb : ∀ (v144 : BitVec 32) (v151 : BitVec 32) (k1_hw18 : k1_chk18 v144 v151), ∀ (k1_h12 : k1_cond12 v144 v151 = 1#1), ∀ a, (k1_off38 v144) a + S2048.size a ≤ S1638400.size a := fun v144 v151 k1_hw18 k1_h12 => k1_hw18.2.2.2.1 k1_h12
theorem k1_t9_ok : ∀ (v144 : BitVec 32) (v151 : BitVec 32) (k1_hw18 : k1_chk18 v144 v151), (k1_t9_loop v144 v151).OK := fun v144 v151 k1_hw18 => k1_hw18.2.2.2.2.1
theorem k1_mult17_dvd : ∀ (v144 : BitVec 32) (v151 : BitVec 32) (k1_hw18 : k1_chk18 v144 v151) (k1_t9 : Fin (k1_t9_loop v144 v151).trips), ∀ (k1_h13 : k1_cond13 v144 v151 k1_t9 = 1#1), 8 ∣ (k1_mult17 v144 v151 k1_t9).toNat := fun v144 v151 k1_hw18 k1_t9 k1_h13 => k1_hw18.2.2.2.2.2.1 k1_t9 k1_h13
theorem k1_mult18_dvd : ∀ (v144 : BitVec 32) (v151 : BitVec 32) (k1_hw18 : k1_chk18 v144 v151) (k1_t9 : Fin (k1_t9_loop v144 v151).trips), ∀ (k1_h13 : k1_cond13 v144 v151 k1_t9 = 1#1), 8 ∣ (k1_mult18 v144 v151 k1_t9).toNat := fun v144 v151 k1_hw18 k1_t9 k1_h13 => k1_hw18.2.2.2.2.2.2.1 k1_t9 k1_h13
theorem k1_off47_inb : ∀ (v144 : BitVec 32) (v151 : BitVec 32) (k1_hw18 : k1_chk18 v144 v151) (k1_t9 : Fin (k1_t9_loop v144 v151).trips), ∀ (k1_h13 : k1_cond13 v144 v151 k1_t9 = 1#1), ∀ a, (k1_off47 v144 v151 k1_t9) a + S2048.size a ≤ S1638400.size a := fun v144 v151 k1_hw18 k1_t9 k1_h13 => k1_hw18.2.2.2.2.2.2.2.1 k1_t9 k1_h13
theorem k1_mult19_dvd : ∀ (v144 : BitVec 32) (v151 : BitVec 32) (k1_hw18 : k1_chk18 v144 v151) (k1_t9 : Fin (k1_t9_loop v144 v151).trips), ∀ (k1_h13 : k1_cond13 v144 v151 k1_t9 = 1#1), ∀ (k1_h14 : k1_cond14 v144 v151 k1_t9 = 1#1), 8 ∣ (k1_mult19 v144 v151 k1_t9).toNat := fun v144 v151 k1_hw18 k1_t9 k1_h13 k1_h14 => k1_hw18.2.2.2.2.2.2.2.2.1 k1_t9 k1_h13 k1_h14
theorem k1_off52_inb : ∀ (v144 : BitVec 32) (v151 : BitVec 32) (k1_hw18 : k1_chk18 v144 v151) (k1_t9 : Fin (k1_t9_loop v144 v151).trips), ∀ (k1_h13 : k1_cond13 v144 v151 k1_t9 = 1#1), ∀ (k1_h14 : k1_cond14 v144 v151 k1_t9 = 1#1), ∀ a, (k1_off52 v144 v151 k1_t9) a + S2048.size a ≤ S1638400.size a := fun v144 v151 k1_hw18 k1_t9 k1_h13 k1_h14 => k1_hw18.2.2.2.2.2.2.2.2.2.1 k1_t9 k1_h13 k1_h14
theorem k1_mult20_dvd : ∀ (v144 : BitVec 32) (v151 : BitVec 32) (k1_hw18 : k1_chk18 v144 v151) (k1_t9 : Fin (k1_t9_loop v144 v151).trips), ∀ (k1_h15 : k1_cond15 v144 v151 k1_t9 = 1#1), 8 ∣ (k1_mult20 v144 v151 k1_t9).toNat := fun v144 v151 k1_hw18 k1_t9 k1_h15 => k1_hw18.2.2.2.2.2.2.2.2.2.2.1 k1_t9 k1_h15
theorem k1_mult21_dvd : ∀ (v144 : BitVec 32) (v151 : BitVec 32) (k1_hw18 : k1_chk18 v144 v151) (k1_t9 : Fin (k1_t9_loop v144 v151).trips), ∀ (k1_h15 : k1_cond15 v144 v151 k1_t9 = 1#1), 8 ∣ (k1_mult21 v144 v151 k1_t9).toNat := fun v144 v151 k1_hw18 k1_t9 k1_h15 => k1_hw18.2.2.2.2.2.2.2.2.2.2.2.1 k1_t9 k1_h15
theorem k1_off53_inb : ∀ (v144 : BitVec 32) (v151 : BitVec 32) (k1_hw18 : k1_chk18 v144 v151) (k1_t9 : Fin (k1_t9_loop v144 v151).trips), ∀ (k1_h15 : k1_cond15 v144 v151 k1_t9 = 1#1), ∀ a, (k1_off53 v144 v151 k1_t9) a + S2048.size a ≤ S1638400.size a := fun v144 v151 k1_hw18 k1_t9 k1_h15 => k1_hw18.2.2.2.2.2.2.2.2.2.2.2.2.1 k1_t9 k1_h15
theorem k1_mult22_dvd : ∀ (v144 : BitVec 32) (v151 : BitVec 32) (k1_hw18 : k1_chk18 v144 v151) (k1_t9 : Fin (k1_t9_loop v144 v151).trips), ∀ (k1_h15 : k1_cond15 v144 v151 k1_t9 = 1#1), ∀ (k1_h16 : k1_cond16 v144 v151 k1_t9 = 1#1), 8 ∣ (k1_mult22 v144 v151 k1_t9).toNat := fun v144 v151 k1_hw18 k1_t9 k1_h15 k1_h16 => k1_hw18.2.2.2.2.2.2.2.2.2.2.2.2.2.1 k1_t9 k1_h15 k1_h16
theorem k1_off58_inb : ∀ (v144 : BitVec 32) (v151 : BitVec 32) (k1_hw18 : k1_chk18 v144 v151) (k1_t9 : Fin (k1_t9_loop v144 v151).trips), ∀ (k1_h15 : k1_cond15 v144 v151 k1_t9 = 1#1), ∀ (k1_h16 : k1_cond16 v144 v151 k1_t9 = 1#1), ∀ a, (k1_off58 v144 v151 k1_t9) a + S2048.size a ≤ S1638400.size a := fun v144 v151 k1_hw18 k1_t9 k1_h15 k1_h16 => k1_hw18.2.2.2.2.2.2.2.2.2.2.2.2.2.2.1 k1_t9 k1_h15 k1_h16
theorem k1_t12_ok : ∀ (v144 : BitVec 32) (v151 : BitVec 32) (k1_hw18 : k1_chk18 v144 v151), (k1_t12_loop v144 v151).OK := fun v144 v151 k1_hw18 => k1_hw18.2.2.2.2.2.2.2.2.2.2.2.2.2.2.2.1
theorem k1_mult23_dvd : ∀ (v144 : BitVec 32) (v151 : BitVec 32) (k1_hw18 : k1_chk18 v144 v151) (k1_t12 : Fin (k1_t12_loop v144 v151).trips), ∀ (k1_h17 : k1_cond17 v144 v151 k1_t12 = 1#1), 8 ∣ (k1_mult23 v144 v151 k1_t12).toNat := fun v144 v151 k1_hw18 k1_t12 k1_h17 => k1_hw18.2.2.2.2.2.2.2.2.2.2.2.2.2.2.2.2.1 k1_t12 k1_h17
theorem k1_mult24_dvd : ∀ (v144 : BitVec 32) (v151 : BitVec 32) (k1_hw18 : k1_chk18 v144 v151) (k1_t12 : Fin (k1_t12_loop v144 v151).trips), ∀ (k1_h17 : k1_cond17 v144 v151 k1_t12 = 1#1), 8 ∣ (k1_mult24 v144 v151 k1_t12).toNat := fun v144 v151 k1_hw18 k1_t12 k1_h17 => k1_hw18.2.2.2.2.2.2.2.2.2.2.2.2.2.2.2.2.2.1 k1_t12 k1_h17
theorem k1_off59_inb : ∀ (v144 : BitVec 32) (v151 : BitVec 32) (k1_hw18 : k1_chk18 v144 v151) (k1_t12 : Fin (k1_t12_loop v144 v151).trips), ∀ (k1_h17 : k1_cond17 v144 v151 k1_t12 = 1#1), ∀ a, (k1_off59 v144 v151 k1_t12) a + S2048.size a ≤ S1638400.size a := fun v144 v151 k1_hw18 k1_t12 k1_h17 => k1_hw18.2.2.2.2.2.2.2.2.2.2.2.2.2.2.2.2.2.2.1 k1_t12 k1_h17
theorem k1_mult25_dvd : ∀ (v144 : BitVec 32) (v151 : BitVec 32) (k1_hw18 : k1_chk18 v144 v151) (k1_t12 : Fin (k1_t12_loop v144 v151).trips), ∀ (k1_h17 : k1_cond17 v144 v151 k1_t12 = 1#1), ∀ (k1_h18 : k1_cond18 v144 v151 k1_t12 = 1#1), 8 ∣ (k1_mult25 v144 v151 k1_t12).toNat := fun v144 v151 k1_hw18 k1_t12 k1_h17 k1_h18 => k1_hw18.2.2.2.2.2.2.2.2.2.2.2.2.2.2.2.2.2.2.2.1 k1_t12 k1_h17 k1_h18
theorem k1_off64_inb : ∀ (v144 : BitVec 32) (v151 : BitVec 32) (k1_hw18 : k1_chk18 v144 v151) (k1_t12 : Fin (k1_t12_loop v144 v151).trips), ∀ (k1_h17 : k1_cond17 v144 v151 k1_t12 = 1#1), ∀ (k1_h18 : k1_cond18 v144 v151 k1_t12 = 1#1), ∀ a, (k1_off64 v144 v151 k1_t12) a + S2048.size a ≤ S1638400.size a := fun v144 v151 k1_hw18 k1_t12 k1_h17 k1_h18 => k1_hw18.2.2.2.2.2.2.2.2.2.2.2.2.2.2.2.2.2.2.2.2.1 k1_t12 k1_h17 k1_h18
theorem k1_mult26_dvd : ∀ (v144 : BitVec 32) (v151 : BitVec 32) (k1_hw18 : k1_chk18 v144 v151) (k1_t12 : Fin (k1_t12_loop v144 v151).trips), ∀ (k1_h19 : k1_cond19 v144 v151 k1_t12 = 1#1), 8 ∣ (k1_mult26 v144 v151 k1_t12).toNat := fun v144 v151 k1_hw18 k1_t12 k1_h19 => k1_hw18.2.2.2.2.2.2.2.2.2.2.2.2.2.2.2.2.2.2.2.2.2.1 k1_t12 k1_h19
theorem k1_mult27_dvd : ∀ (v144 : BitVec 32) (v151 : BitVec 32) (k1_hw18 : k1_chk18 v144 v151) (k1_t12 : Fin (k1_t12_loop v144 v151).trips), ∀ (k1_h19 : k1_cond19 v144 v151 k1_t12 = 1#1), 8 ∣ (k1_mult27 v144 v151 k1_t12).toNat := fun v144 v151 k1_hw18 k1_t12 k1_h19 => k1_hw18.2.2.2.2.2.2.2.2.2.2.2.2.2.2.2.2.2.2.2.2.2.2.1 k1_t12 k1_h19
theorem k1_off65_inb : ∀ (v144 : BitVec 32) (v151 : BitVec 32) (k1_hw18 : k1_chk18 v144 v151) (k1_t12 : Fin (k1_t12_loop v144 v151).trips), ∀ (k1_h19 : k1_cond19 v144 v151 k1_t12 = 1#1), ∀ a, (k1_off65 v144 v151 k1_t12) a + S2048.size a ≤ S1638400.size a := fun v144 v151 k1_hw18 k1_t12 k1_h19 => k1_hw18.2.2.2.2.2.2.2.2.2.2.2.2.2.2.2.2.2.2.2.2.2.2.2.1 k1_t12 k1_h19
theorem k1_mult28_dvd : ∀ (v144 : BitVec 32) (v151 : BitVec 32) (k1_hw18 : k1_chk18 v144 v151) (k1_t12 : Fin (k1_t12_loop v144 v151).trips), ∀ (k1_h19 : k1_cond19 v144 v151 k1_t12 = 1#1), ∀ (k1_h20 : k1_cond20 v144 v151 k1_t12 = 1#1), 8 ∣ (k1_mult28 v144 v151 k1_t12).toNat := fun v144 v151 k1_hw18 k1_t12 k1_h19 k1_h20 => k1_hw18.2.2.2.2.2.2.2.2.2.2.2.2.2.2.2.2.2.2.2.2.2.2.2.2.1 k1_t12 k1_h19 k1_h20
theorem k1_off70_inb : ∀ (v144 : BitVec 32) (v151 : BitVec 32) (k1_hw18 : k1_chk18 v144 v151) (k1_t12 : Fin (k1_t12_loop v144 v151).trips), ∀ (k1_h19 : k1_cond19 v144 v151 k1_t12 = 1#1), ∀ (k1_h20 : k1_cond20 v144 v151 k1_t12 = 1#1), ∀ a, (k1_off70 v144 v151 k1_t12) a + S2048.size a ≤ S1638400.size a := fun v144 v151 k1_hw18 k1_t12 k1_h19 k1_h20 => k1_hw18.2.2.2.2.2.2.2.2.2.2.2.2.2.2.2.2.2.2.2.2.2.2.2.2.2 k1_t12 k1_h19 k1_h20

def k1_off71 (i : grid1.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let v135 : BitVec 32 := Scalar.addi v6 c8_i32
  let c0_i32_117 : BitVec 32 := 0#32
  ![v135.toNat, 0]
def k1_off71_at (r : Fin 3) : BitVec 32 :=
  if r.val < 1 then
    8#32
  else
    if r.val < 2 then
      48#32
    else
      56#32
@[reducible] def k1_t15_loop : Scf.Loop 32 :=
  let c1_i32_120 : BitVec 32 := 1#32
  let c3_i32_121 : BitVec 32 := 3#32
  let v263 : BitVec 32 := Scalar.addi c1_i32_120 c3_i32_121
  let c1_i32_122 : BitVec 32 := 1#32
  ⟨c1_i32_120, v263, c1_i32_122⟩
def k1_off72 (k1_t15 : Fin k1_t15_loop.trips) : Fin 1 → Nat :=
  let c1_i32_120 : BitVec 32 := 1#32
  let c1_i32_122 : BitVec 32 := 1#32
  let arg19 : BitVec 32 := Scf.iv c1_i32_120 c1_i32_122 k1_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_131 : BitVec 32 := 8#32
  let v275 : BitVec 32 := Scalar.muli v272 c8_i32_131
  let v276 : Index := Scalar.indexCast v275
  ![v276.toNat]
def k1_off73 (i : grid1.Coords) (k1_t15 : Fin k1_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k1_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_130 : BitVec 32 := 8#32
  let v273 : BitVec 32 := Scalar.muli v272 c8_i32_130
  let v274 : BitVec 32 := Scalar.addi v6 v273
  let c16_i32 : BitVec 32 := 16#32
  let v295 : BitVec 32 := Scalar.subi v274 c16_i32
  let c0_i32_139 : BitVec 32 := 0#32
  ![v295.toNat, 0]
def k1_mult29 (v287 : BitVec 32) : BitVec 32 :=
  let c_m8_i32_141 : BitVec 32 := 4294967288#32
  let v298 : BitVec 32 := Scalar.andi v287 c_m8_i32_141
  let c0_i32_270 : BitVec 32 := 0#32
  let v547 : BitVec 32 := Scalar.addi v298 c0_i32_270
  let c1636352_i32 : BitVec 32 := 1636352#32
  let v548 : BitVec 32 := Scalar.minsi v547 c1636352_i32
  v548
def k1_cond21 (v287 : BitVec 32) (v294 : BitVec 32) : BitVec 1 :=
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c0_i32_150 : BitVec 32 := 0#32
  let v318 : BitVec 1 := Scalar.cmpi .sgt v317 c0_i32_150
  let v319 : BitVec 32 := Scalar.extui v318
  let c0_i32_151 : BitVec 32 := 0#32
  let v320 : BitVec 1 := Scalar.cmpi .ne v319 c0_i32_151
  v320

def k1_off74 (v287 : BitVec 32) : Fin 1 → Nat :=
  let c_m8_i32_141 : BitVec 32 := 4294967288#32
  let v298 : BitVec 32 := Scalar.andi v287 c_m8_i32_141
  let c0_i32_270 : BitVec 32 := 0#32
  let v547 : BitVec 32 := Scalar.addi v298 c0_i32_270
  let c1636352_i32 : BitVec 32 := 1636352#32
  let v548 : BitVec 32 := Scalar.minsi v547 c1636352_i32
  let v549 : BitVec 32 := v548
  ![v549.toNat]
def k1_mult30 (v287 : BitVec 32) : BitVec 32 :=
  let c_m8_i32_141 : BitVec 32 := 4294967288#32
  let v298 : BitVec 32 := Scalar.andi v287 c_m8_i32_141
  let c2048_i32_270 : BitVec 32 := 2048#32
  let v547 : BitVec 32 := Scalar.addi v298 c2048_i32_270
  let c1636352_i32 : BitVec 32 := 1636352#32
  let v548 : BitVec 32 := Scalar.minsi v547 c1636352_i32
  v548
def k1_cond22 (v287 : BitVec 32) (v294 : BitVec 32) : BitVec 1 :=
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_152 : BitVec 32 := 1#32
  let v321 : BitVec 1 := Scalar.cmpi .sgt v317 c1_i32_152
  let v322 : BitVec 32 := Scalar.extui v321
  let c0_i32_153 : BitVec 32 := 0#32
  let v323 : BitVec 1 := Scalar.cmpi .ne v322 c0_i32_153
  v323

def k1_off75 (v287 : BitVec 32) : Fin 1 → Nat :=
  let c_m8_i32_141 : BitVec 32 := 4294967288#32
  let v298 : BitVec 32 := Scalar.andi v287 c_m8_i32_141
  let c2048_i32_270 : BitVec 32 := 2048#32
  let v547 : BitVec 32 := Scalar.addi v298 c2048_i32_270
  let c1636352_i32 : BitVec 32 := 1636352#32
  let v548 : BitVec 32 := Scalar.minsi v547 c1636352_i32
  let v549 : BitVec 32 := v548
  ![v549.toNat]
@[reducible] def k1_t16_loop : Scf.Loop 32 :=
  let c0_i32_155 : BitVec 32 := 0#32
  let c128_i32_156 : BitVec 32 := 128#32
  let v324 : BitVec 32 := Scalar.addi c0_i32_155 c128_i32_156
  let c1_i32_157 : BitVec 32 := 1#32
  ⟨c0_i32_155, v324, c1_i32_157⟩
def k1_off76 (k1_t16 : Fin k1_t16_loop.trips) (c0_i32_271 : BitVec 32) : Fin 2 → Nat :=
  let c0_i32_273 : BitVec 32 := 0#32
  let v550 : Index := Scalar.indexCast c0_i32_273
  let c0_i32_155 : BitVec 32 := 0#32
  let c1_i32_157 : BitVec 32 := 1#32
  let arg21 : BitVec 32 := Scf.iv c0_i32_155 c1_i32_157 k1_t16
  let c2_i32_270 : BitVec 32 := 2#32
  let v547 : BitVec 32 := Scalar.muli arg21 c2_i32_270
  let v548 : BitVec 32 := Scalar.addi v547 c0_i32_271
  let c16_i32_272 : BitVec 32 := 16#32
  let v549 : BitVec 32 := Scalar.muli v548 c16_i32_272
  let v551 : Index := Scalar.indexCast v549
  ![0, v551.toNat]
def k1_off77 (k1_t16 : Fin k1_t16_loop.trips) (c0_i32_279 : BitVec 32) : Fin 2 → Nat :=
  let c1_i32_281 : BitVec 32 := 1#32
  let v562 : Index := Scalar.indexCast c1_i32_281
  let c0_i32_155 : BitVec 32 := 0#32
  let c1_i32_157 : BitVec 32 := 1#32
  let arg21 : BitVec 32 := Scf.iv c0_i32_155 c1_i32_157 k1_t16
  let c2_i32_278 : BitVec 32 := 2#32
  let v559 : BitVec 32 := Scalar.muli arg21 c2_i32_278
  let v560 : BitVec 32 := Scalar.addi v559 c0_i32_279
  let c16_i32_280 : BitVec 32 := 16#32
  let v561 : BitVec 32 := Scalar.muli v560 c16_i32_280
  let v563 : Index := Scalar.indexCast v561
  ![1, v563.toNat]
def k1_off78 (k1_t16 : Fin k1_t16_loop.trips) (c0_i32_287 : BitVec 32) : Fin 2 → Nat :=
  let c2_i32_289 : BitVec 32 := 2#32
  let v574 : Index := Scalar.indexCast c2_i32_289
  let c0_i32_155 : BitVec 32 := 0#32
  let c1_i32_157 : BitVec 32 := 1#32
  let arg21 : BitVec 32 := Scf.iv c0_i32_155 c1_i32_157 k1_t16
  let c2_i32_286 : BitVec 32 := 2#32
  let v571 : BitVec 32 := Scalar.muli arg21 c2_i32_286
  let v572 : BitVec 32 := Scalar.addi v571 c0_i32_287
  let c16_i32_288 : BitVec 32 := 16#32
  let v573 : BitVec 32 := Scalar.muli v572 c16_i32_288
  let v575 : Index := Scalar.indexCast v573
  ![2, v575.toNat]
def k1_off79 (k1_t16 : Fin k1_t16_loop.trips) (c0_i32_295 : BitVec 32) : Fin 2 → Nat :=
  let c3_i32_297 : BitVec 32 := 3#32
  let v586 : Index := Scalar.indexCast c3_i32_297
  let c0_i32_155 : BitVec 32 := 0#32
  let c1_i32_157 : BitVec 32 := 1#32
  let arg21 : BitVec 32 := Scf.iv c0_i32_155 c1_i32_157 k1_t16
  let c2_i32_294 : BitVec 32 := 2#32
  let v583 : BitVec 32 := Scalar.muli arg21 c2_i32_294
  let v584 : BitVec 32 := Scalar.addi v583 c0_i32_295
  let c16_i32_296 : BitVec 32 := 16#32
  let v585 : BitVec 32 := Scalar.muli v584 c16_i32_296
  let v587 : Index := Scalar.indexCast v585
  ![3, v587.toNat]
def k1_off80 (k1_t16 : Fin k1_t16_loop.trips) (c0_i32_303 : BitVec 32) : Fin 2 → Nat :=
  let c4_i32_305 : BitVec 32 := 4#32
  let v598 : Index := Scalar.indexCast c4_i32_305
  let c0_i32_155 : BitVec 32 := 0#32
  let c1_i32_157 : BitVec 32 := 1#32
  let arg21 : BitVec 32 := Scf.iv c0_i32_155 c1_i32_157 k1_t16
  let c2_i32_302 : BitVec 32 := 2#32
  let v595 : BitVec 32 := Scalar.muli arg21 c2_i32_302
  let v596 : BitVec 32 := Scalar.addi v595 c0_i32_303
  let c16_i32_304 : BitVec 32 := 16#32
  let v597 : BitVec 32 := Scalar.muli v596 c16_i32_304
  let v599 : Index := Scalar.indexCast v597
  ![4, v599.toNat]
def k1_off81 (k1_t16 : Fin k1_t16_loop.trips) (c0_i32_311 : BitVec 32) : Fin 2 → Nat :=
  let c5_i32_313 : BitVec 32 := 5#32
  let v610 : Index := Scalar.indexCast c5_i32_313
  let c0_i32_155 : BitVec 32 := 0#32
  let c1_i32_157 : BitVec 32 := 1#32
  let arg21 : BitVec 32 := Scf.iv c0_i32_155 c1_i32_157 k1_t16
  let c2_i32_310 : BitVec 32 := 2#32
  let v607 : BitVec 32 := Scalar.muli arg21 c2_i32_310
  let v608 : BitVec 32 := Scalar.addi v607 c0_i32_311
  let c16_i32_312 : BitVec 32 := 16#32
  let v609 : BitVec 32 := Scalar.muli v608 c16_i32_312
  let v611 : Index := Scalar.indexCast v609
  ![5, v611.toNat]
def k1_off82 (k1_t16 : Fin k1_t16_loop.trips) (c0_i32_319 : BitVec 32) : Fin 2 → Nat :=
  let c6_i32_321 : BitVec 32 := 6#32
  let v622 : Index := Scalar.indexCast c6_i32_321
  let c0_i32_155 : BitVec 32 := 0#32
  let c1_i32_157 : BitVec 32 := 1#32
  let arg21 : BitVec 32 := Scf.iv c0_i32_155 c1_i32_157 k1_t16
  let c2_i32_318 : BitVec 32 := 2#32
  let v619 : BitVec 32 := Scalar.muli arg21 c2_i32_318
  let v620 : BitVec 32 := Scalar.addi v619 c0_i32_319
  let c16_i32_320 : BitVec 32 := 16#32
  let v621 : BitVec 32 := Scalar.muli v620 c16_i32_320
  let v623 : Index := Scalar.indexCast v621
  ![6, v623.toNat]
def k1_off83 (k1_t16 : Fin k1_t16_loop.trips) (c0_i32_327 : BitVec 32) : Fin 2 → Nat :=
  let c7_i32_329 : BitVec 32 := 7#32
  let v634 : Index := Scalar.indexCast c7_i32_329
  let c0_i32_155 : BitVec 32 := 0#32
  let c1_i32_157 : BitVec 32 := 1#32
  let arg21 : BitVec 32 := Scf.iv c0_i32_155 c1_i32_157 k1_t16
  let c2_i32_326 : BitVec 32 := 2#32
  let v631 : BitVec 32 := Scalar.muli arg21 c2_i32_326
  let v632 : BitVec 32 := Scalar.addi v631 c0_i32_327
  let c16_i32_328 : BitVec 32 := 16#32
  let v633 : BitVec 32 := Scalar.muli v632 c16_i32_328
  let v635 : Index := Scalar.indexCast v633
  ![7, v635.toNat]
@[reducible] def k1_t17_loop (v287 : BitVec 32) (v294 : BitVec 32) : Scf.Loop 32 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_194 : BitVec 32 := 1#32
  ⟨c0_i32_191, v404, c1_i32_194⟩
def k1_mult31 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v298 v557
  let c1636352_i32 : BitVec 32 := 1636352#32
  let v559 : BitVec 32 := Scalar.minsi v558 c1636352_i32
  v559
def k1_cond23 (v287 : BitVec 32) (v294 : BitVec 32) (k1_t17 : Fin (k1_t17_loop v287 v294).trips) : BitVec 1 :=
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v549 : BitVec 1 := Scalar.cmpi .slt v548 v317
  let v550 : BitVec 32 := Scalar.extui v549
  let c0_i32_272 : BitVec 32 := 0#32
  let v551 : BitVec 1 := Scalar.cmpi .ne v550 c0_i32_272
  v551

def k1_mult32 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  v570
def k1_off84 (v287 : BitVec 32) (v294 : BitVec 32) (k1_t17 : Fin (k1_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k1_t18_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off85 (k1_t18 : Fin k1_t18_loop.trips) : Fin 1 → Nat :=
  let c0_i32_284 : BitVec 32 := 0#32
  let c1_i32_285 : BitVec 32 := 1#32
  let arg23 : BitVec 32 := Scf.iv c0_i32_284 c1_i32_285 k1_t18
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk36 (v287 : BitVec 32) (v294 : BitVec 32) (k1_t17 : Fin (k1_t17_loop v287 v294).trips) (v589 : IVec S16 32) (v647 : IVec S16 32) : Prop :=
  (∀ (k1_h23 : k1_cond23 v287 v294 k1_t17 = 1#1), ∀ a x, ((![v647, v589] : Fin 2 → IVec S16 32) a x).toNat < S8x4096.size a)
theorem k1_idx33_inb : ∀ (v287 : BitVec 32) (v294 : BitVec 32) (k1_t17 : Fin (k1_t17_loop v287 v294).trips) (v589 : IVec S16 32) (v647 : IVec S16 32) (k1_hw36 : k1_chk36 v287 v294 k1_t17 v589 v647), ∀ (k1_h23 : k1_cond23 v287 v294 k1_t17 = 1#1), ∀ a x, ((![v647, v589] : Fin 2 → IVec S16 32) a x).toNat < S8x4096.size a := fun v287 v294 k1_t17 v589 v647 k1_hw36 k1_h23 => k1_hw36 k1_h23
def k1_off86 (k1_t18 : Fin k1_t18_loop.trips) : Fin 1 → Nat :=
  let c0_i32_284 : BitVec 32 := 0#32
  let c1_i32_285 : BitVec 32 := 1#32
  let arg23 : BitVec 32 := Scf.iv c0_i32_284 c1_i32_285 k1_t18
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk37 (v287 : BitVec 32) (v294 : BitVec 32) (k1_t17 : Fin (k1_t17_loop v287 v294).trips) (v655 : IVec S16 32) (v713 : IVec S16 32) : Prop :=
  (∀ (k1_h23 : k1_cond23 v287 v294 k1_t17 = 1#1), ∀ a x, ((![v713, v655] : Fin 2 → IVec S16 32) a x).toNat < S8x4096.size a)
theorem k1_idx34_inb : ∀ (v287 : BitVec 32) (v294 : BitVec 32) (k1_t17 : Fin (k1_t17_loop v287 v294).trips) (v655 : IVec S16 32) (v713 : IVec S16 32) (k1_hw37 : k1_chk37 v287 v294 k1_t17 v655 v713), ∀ (k1_h23 : k1_cond23 v287 v294 k1_t17 = 1#1), ∀ a x, ((![v713, v655] : Fin 2 → IVec S16 32) a x).toNat < S8x4096.size a := fun v287 v294 k1_t17 v655 v713 k1_hw37 k1_h23 => k1_hw37 k1_h23
def k1_off87 (k1_t18 : Fin k1_t18_loop.trips) : Fin 1 → Nat :=
  let c0_i32_284 : BitVec 32 := 0#32
  let c1_i32_285 : BitVec 32 := 1#32
  let arg23 : BitVec 32 := Scf.iv c0_i32_284 c1_i32_285 k1_t18
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk38 (v287 : BitVec 32) (v294 : BitVec 32) (k1_t17 : Fin (k1_t17_loop v287 v294).trips) (v721 : IVec S16 32) (v779 : IVec S16 32) : Prop :=
  (∀ (k1_h23 : k1_cond23 v287 v294 k1_t17 = 1#1), ∀ a x, ((![v779, v721] : Fin 2 → IVec S16 32) a x).toNat < S8x4096.size a)
theorem k1_idx35_inb : ∀ (v287 : BitVec 32) (v294 : BitVec 32) (k1_t17 : Fin (k1_t17_loop v287 v294).trips) (v721 : IVec S16 32) (v779 : IVec S16 32) (k1_hw38 : k1_chk38 v287 v294 k1_t17 v721 v779), ∀ (k1_h23 : k1_cond23 v287 v294 k1_t17 = 1#1), ∀ a x, ((![v779, v721] : Fin 2 → IVec S16 32) a x).toNat < S8x4096.size a := fun v287 v294 k1_t17 v721 v779 k1_hw38 k1_h23 => k1_hw38 k1_h23
def k1_off88 (k1_t18 : Fin k1_t18_loop.trips) : Fin 1 → Nat :=
  let c0_i32_284 : BitVec 32 := 0#32
  let c1_i32_285 : BitVec 32 := 1#32
  let arg23 : BitVec 32 := Scf.iv c0_i32_284 c1_i32_285 k1_t18
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk39 (v287 : BitVec 32) (v294 : BitVec 32) (k1_t17 : Fin (k1_t17_loop v287 v294).trips) (v787 : IVec S16 32) (v845 : IVec S16 32) : Prop :=
  (∀ (k1_h23 : k1_cond23 v287 v294 k1_t17 = 1#1), ∀ a x, ((![v845, v787] : Fin 2 → IVec S16 32) a x).toNat < S8x4096.size a)
theorem k1_idx36_inb : ∀ (v287 : BitVec 32) (v294 : BitVec 32) (k1_t17 : Fin (k1_t17_loop v287 v294).trips) (v787 : IVec S16 32) (v845 : IVec S16 32) (k1_hw39 : k1_chk39 v287 v294 k1_t17 v787 v845), ∀ (k1_h23 : k1_cond23 v287 v294 k1_t17 = 1#1), ∀ a x, ((![v845, v787] : Fin 2 → IVec S16 32) a x).toNat < S8x4096.size a := fun v287 v294 k1_t17 v787 v845 k1_hw39 k1_h23 => k1_hw39 k1_h23
def k1_mult33 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k1_cond24 (v287 : BitVec 32) (v294 : BitVec 32) (k1_t17 : Fin (k1_t17_loop v287 v294).trips) : BitVec 1 :=
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v579 : BitVec 1 := Scalar.cmpi .slt v578 v317
  let v580 : BitVec 32 := Scalar.extui v579
  let c0_i32_288 : BitVec 32 := 0#32
  let v581 : BitVec 1 := Scalar.cmpi .ne v580 c0_i32_288
  v581

def k1_off89 (v287 : BitVec 32) (v294 : BitVec 32) (k1_t17 : Fin (k1_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
def k1_mult34 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v298 v557
  let c1636352_i32 : BitVec 32 := 1636352#32
  let v559 : BitVec 32 := Scalar.minsi v558 c1636352_i32
  v559
def k1_cond25 (v287 : BitVec 32) (v294 : BitVec 32) (k1_t17 : Fin (k1_t17_loop v287 v294).trips) : BitVec 1 :=
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v554 : BitVec 1 := Scalar.cmpi .slt v553 v317
  let v555 : BitVec 32 := Scalar.extui v554
  let c0_i32_275 : BitVec 32 := 0#32
  let v556 : BitVec 1 := Scalar.cmpi .ne v555 c0_i32_275
  v556

def k1_mult35 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  v570
def k1_off90 (v287 : BitVec 32) (v294 : BitVec 32) (k1_t17 : Fin (k1_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k1_t19_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off91 (k1_t19 : Fin k1_t19_loop.trips) : Fin 1 → Nat :=
  let c0_i32_284 : BitVec 32 := 0#32
  let c1_i32_285 : BitVec 32 := 1#32
  let arg23 : BitVec 32 := Scf.iv c0_i32_284 c1_i32_285 k1_t19
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk40 (v287 : BitVec 32) (v294 : BitVec 32) (k1_t17 : Fin (k1_t17_loop v287 v294).trips) (v589 : IVec S16 32) (v647 : IVec S16 32) : Prop :=
  (∀ (k1_h25 : k1_cond25 v287 v294 k1_t17 = 1#1), ∀ a x, ((![v647, v589] : Fin 2 → IVec S16 32) a x).toNat < S8x4096.size a)
theorem k1_idx37_inb : ∀ (v287 : BitVec 32) (v294 : BitVec 32) (k1_t17 : Fin (k1_t17_loop v287 v294).trips) (v589 : IVec S16 32) (v647 : IVec S16 32) (k1_hw40 : k1_chk40 v287 v294 k1_t17 v589 v647), ∀ (k1_h25 : k1_cond25 v287 v294 k1_t17 = 1#1), ∀ a x, ((![v647, v589] : Fin 2 → IVec S16 32) a x).toNat < S8x4096.size a := fun v287 v294 k1_t17 v589 v647 k1_hw40 k1_h25 => k1_hw40 k1_h25
def k1_off92 (k1_t19 : Fin k1_t19_loop.trips) : Fin 1 → Nat :=
  let c0_i32_284 : BitVec 32 := 0#32
  let c1_i32_285 : BitVec 32 := 1#32
  let arg23 : BitVec 32 := Scf.iv c0_i32_284 c1_i32_285 k1_t19
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk41 (v287 : BitVec 32) (v294 : BitVec 32) (k1_t17 : Fin (k1_t17_loop v287 v294).trips) (v655 : IVec S16 32) (v713 : IVec S16 32) : Prop :=
  (∀ (k1_h25 : k1_cond25 v287 v294 k1_t17 = 1#1), ∀ a x, ((![v713, v655] : Fin 2 → IVec S16 32) a x).toNat < S8x4096.size a)
theorem k1_idx38_inb : ∀ (v287 : BitVec 32) (v294 : BitVec 32) (k1_t17 : Fin (k1_t17_loop v287 v294).trips) (v655 : IVec S16 32) (v713 : IVec S16 32) (k1_hw41 : k1_chk41 v287 v294 k1_t17 v655 v713), ∀ (k1_h25 : k1_cond25 v287 v294 k1_t17 = 1#1), ∀ a x, ((![v713, v655] : Fin 2 → IVec S16 32) a x).toNat < S8x4096.size a := fun v287 v294 k1_t17 v655 v713 k1_hw41 k1_h25 => k1_hw41 k1_h25
def k1_off93 (k1_t19 : Fin k1_t19_loop.trips) : Fin 1 → Nat :=
  let c0_i32_284 : BitVec 32 := 0#32
  let c1_i32_285 : BitVec 32 := 1#32
  let arg23 : BitVec 32 := Scf.iv c0_i32_284 c1_i32_285 k1_t19
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk42 (v287 : BitVec 32) (v294 : BitVec 32) (k1_t17 : Fin (k1_t17_loop v287 v294).trips) (v721 : IVec S16 32) (v779 : IVec S16 32) : Prop :=
  (∀ (k1_h25 : k1_cond25 v287 v294 k1_t17 = 1#1), ∀ a x, ((![v779, v721] : Fin 2 → IVec S16 32) a x).toNat < S8x4096.size a)
theorem k1_idx39_inb : ∀ (v287 : BitVec 32) (v294 : BitVec 32) (k1_t17 : Fin (k1_t17_loop v287 v294).trips) (v721 : IVec S16 32) (v779 : IVec S16 32) (k1_hw42 : k1_chk42 v287 v294 k1_t17 v721 v779), ∀ (k1_h25 : k1_cond25 v287 v294 k1_t17 = 1#1), ∀ a x, ((![v779, v721] : Fin 2 → IVec S16 32) a x).toNat < S8x4096.size a := fun v287 v294 k1_t17 v721 v779 k1_hw42 k1_h25 => k1_hw42 k1_h25
def k1_off94 (k1_t19 : Fin k1_t19_loop.trips) : Fin 1 → Nat :=
  let c0_i32_284 : BitVec 32 := 0#32
  let c1_i32_285 : BitVec 32 := 1#32
  let arg23 : BitVec 32 := Scf.iv c0_i32_284 c1_i32_285 k1_t19
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk43 (v287 : BitVec 32) (v294 : BitVec 32) (k1_t17 : Fin (k1_t17_loop v287 v294).trips) (v787 : IVec S16 32) (v845 : IVec S16 32) : Prop :=
  (∀ (k1_h25 : k1_cond25 v287 v294 k1_t17 = 1#1), ∀ a x, ((![v845, v787] : Fin 2 → IVec S16 32) a x).toNat < S8x4096.size a)
theorem k1_idx40_inb : ∀ (v287 : BitVec 32) (v294 : BitVec 32) (k1_t17 : Fin (k1_t17_loop v287 v294).trips) (v787 : IVec S16 32) (v845 : IVec S16 32) (k1_hw43 : k1_chk43 v287 v294 k1_t17 v787 v845), ∀ (k1_h25 : k1_cond25 v287 v294 k1_t17 = 1#1), ∀ a x, ((![v845, v787] : Fin 2 → IVec S16 32) a x).toNat < S8x4096.size a := fun v287 v294 k1_t17 v787 v845 k1_hw43 k1_h25 => k1_hw43 k1_h25
def k1_mult36 (v287 : BitVec 32) (v294 : BitVec 32) (k1_t17 : Fin (k1_t17_loop v287 v294).trips) : BitVec 32 :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k1_cond26 (v287 : BitVec 32) (v294 : BitVec 32) (k1_t17 : Fin (k1_t17_loop v287 v294).trips) : BitVec 1 :=
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let v579 : BitVec 1 := Scalar.cmpi .slt v578 v317
  let v580 : BitVec 32 := Scalar.extui v579
  let c0_i32_288 : BitVec 32 := 0#32
  let v581 : BitVec 1 := Scalar.cmpi .ne v580 c0_i32_288
  v581

def k1_off95 (v287 : BitVec 32) (v294 : BitVec 32) (k1_t17 : Fin (k1_t17_loop v287 v294).trips) : Fin 1 → Nat :=
  let c_m8_i32_141 : BitVec 32 := 4294967288#32
  let v298 : BitVec 32 := Scalar.andi v287 c_m8_i32_141
  let c0_i32_191 : BitVec 32 := 0#32
  let c1_i32_194 : BitVec 32 := 1#32
  let arg21 : BitVec 32 := Scf.iv c0_i32_191 c1_i32_194 k1_t17
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
@[reducible] def k1_t20_loop (v287 : BitVec 32) (v294 : BitVec 32) : Scf.Loop 32 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let v401 : BitVec 32 := Scalar.addi c0_i32_191 v400
  let c1_i32_195 : BitVec 32 := 1#32
  ⟨v404, v401, c1_i32_195⟩
def k1_mult37 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v298 v557
  let c1636352_i32 : BitVec 32 := 1636352#32
  let v559 : BitVec 32 := Scalar.minsi v558 c1636352_i32
  v559
def k1_cond27 (v287 : BitVec 32) (v294 : BitVec 32) (k1_t20 : Fin (k1_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let v549 : BitVec 1 := Scalar.cmpi .slt v548 v317
  let v550 : BitVec 32 := Scalar.extui v549
  let c0_i32_272 : BitVec 32 := 0#32
  let v551 : BitVec 1 := Scalar.cmpi .ne v550 c0_i32_272
  v551

def k1_mult38 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  v570
def k1_off96 (v287 : BitVec 32) (v294 : BitVec 32) (k1_t20 : Fin (k1_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k1_t21_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off97 (k1_t21 : Fin k1_t21_loop.trips) : Fin 1 → Nat :=
  let c0_i32_284 : BitVec 32 := 0#32
  let c1_i32_285 : BitVec 32 := 1#32
  let arg23 : BitVec 32 := Scf.iv c0_i32_284 c1_i32_285 k1_t21
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk44 (v287 : BitVec 32) (v294 : BitVec 32) (k1_t20 : Fin (k1_t20_loop v287 v294).trips) (v589 : IVec S16 32) (v647 : IVec S16 32) : Prop :=
  (∀ (k1_h27 : k1_cond27 v287 v294 k1_t20 = 1#1), ∀ a x, ((![v647, v589] : Fin 2 → IVec S16 32) a x).toNat < S8x4096.size a)
theorem k1_idx41_inb : ∀ (v287 : BitVec 32) (v294 : BitVec 32) (k1_t20 : Fin (k1_t20_loop v287 v294).trips) (v589 : IVec S16 32) (v647 : IVec S16 32) (k1_hw44 : k1_chk44 v287 v294 k1_t20 v589 v647), ∀ (k1_h27 : k1_cond27 v287 v294 k1_t20 = 1#1), ∀ a x, ((![v647, v589] : Fin 2 → IVec S16 32) a x).toNat < S8x4096.size a := fun v287 v294 k1_t20 v589 v647 k1_hw44 k1_h27 => k1_hw44 k1_h27
def k1_off98 (k1_t21 : Fin k1_t21_loop.trips) : Fin 1 → Nat :=
  let c0_i32_284 : BitVec 32 := 0#32
  let c1_i32_285 : BitVec 32 := 1#32
  let arg23 : BitVec 32 := Scf.iv c0_i32_284 c1_i32_285 k1_t21
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk45 (v287 : BitVec 32) (v294 : BitVec 32) (k1_t20 : Fin (k1_t20_loop v287 v294).trips) (v655 : IVec S16 32) (v713 : IVec S16 32) : Prop :=
  (∀ (k1_h27 : k1_cond27 v287 v294 k1_t20 = 1#1), ∀ a x, ((![v713, v655] : Fin 2 → IVec S16 32) a x).toNat < S8x4096.size a)
theorem k1_idx42_inb : ∀ (v287 : BitVec 32) (v294 : BitVec 32) (k1_t20 : Fin (k1_t20_loop v287 v294).trips) (v655 : IVec S16 32) (v713 : IVec S16 32) (k1_hw45 : k1_chk45 v287 v294 k1_t20 v655 v713), ∀ (k1_h27 : k1_cond27 v287 v294 k1_t20 = 1#1), ∀ a x, ((![v713, v655] : Fin 2 → IVec S16 32) a x).toNat < S8x4096.size a := fun v287 v294 k1_t20 v655 v713 k1_hw45 k1_h27 => k1_hw45 k1_h27
def k1_off99 (k1_t21 : Fin k1_t21_loop.trips) : Fin 1 → Nat :=
  let c0_i32_284 : BitVec 32 := 0#32
  let c1_i32_285 : BitVec 32 := 1#32
  let arg23 : BitVec 32 := Scf.iv c0_i32_284 c1_i32_285 k1_t21
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk46 (v287 : BitVec 32) (v294 : BitVec 32) (k1_t20 : Fin (k1_t20_loop v287 v294).trips) (v721 : IVec S16 32) (v779 : IVec S16 32) : Prop :=
  (∀ (k1_h27 : k1_cond27 v287 v294 k1_t20 = 1#1), ∀ a x, ((![v779, v721] : Fin 2 → IVec S16 32) a x).toNat < S8x4096.size a)
theorem k1_idx43_inb : ∀ (v287 : BitVec 32) (v294 : BitVec 32) (k1_t20 : Fin (k1_t20_loop v287 v294).trips) (v721 : IVec S16 32) (v779 : IVec S16 32) (k1_hw46 : k1_chk46 v287 v294 k1_t20 v721 v779), ∀ (k1_h27 : k1_cond27 v287 v294 k1_t20 = 1#1), ∀ a x, ((![v779, v721] : Fin 2 → IVec S16 32) a x).toNat < S8x4096.size a := fun v287 v294 k1_t20 v721 v779 k1_hw46 k1_h27 => k1_hw46 k1_h27
def k1_off100 (k1_t21 : Fin k1_t21_loop.trips) : Fin 1 → Nat :=
  let c0_i32_284 : BitVec 32 := 0#32
  let c1_i32_285 : BitVec 32 := 1#32
  let arg23 : BitVec 32 := Scf.iv c0_i32_284 c1_i32_285 k1_t21
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk47 (v287 : BitVec 32) (v294 : BitVec 32) (k1_t20 : Fin (k1_t20_loop v287 v294).trips) (v787 : IVec S16 32) (v845 : IVec S16 32) : Prop :=
  (∀ (k1_h27 : k1_cond27 v287 v294 k1_t20 = 1#1), ∀ a x, ((![v845, v787] : Fin 2 → IVec S16 32) a x).toNat < S8x4096.size a)
theorem k1_idx44_inb : ∀ (v287 : BitVec 32) (v294 : BitVec 32) (k1_t20 : Fin (k1_t20_loop v287 v294).trips) (v787 : IVec S16 32) (v845 : IVec S16 32) (k1_hw47 : k1_chk47 v287 v294 k1_t20 v787 v845), ∀ (k1_h27 : k1_cond27 v287 v294 k1_t20 = 1#1), ∀ a x, ((![v845, v787] : Fin 2 → IVec S16 32) a x).toNat < S8x4096.size a := fun v287 v294 k1_t20 v787 v845 k1_hw47 k1_h27 => k1_hw47 k1_h27
def k1_mult39 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k1_cond28 (v287 : BitVec 32) (v294 : BitVec 32) (k1_t20 : Fin (k1_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let v579 : BitVec 1 := Scalar.cmpi .slt v578 v317
  let v580 : BitVec 32 := Scalar.extui v579
  let c0_i32_288 : BitVec 32 := 0#32
  let v581 : BitVec 1 := Scalar.cmpi .ne v580 c0_i32_288
  v581

def k1_off101 (v287 : BitVec 32) (v294 : BitVec 32) (k1_t20 : Fin (k1_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]
def k1_mult40 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v298 v557
  let c1636352_i32 : BitVec 32 := 1636352#32
  let v559 : BitVec 32 := Scalar.minsi v558 c1636352_i32
  v559
def k1_cond29 (v287 : BitVec 32) (v294 : BitVec 32) (k1_t20 : Fin (k1_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let v554 : BitVec 1 := Scalar.cmpi .slt v553 v317
  let v555 : BitVec 32 := Scalar.extui v554
  let c0_i32_275 : BitVec 32 := 0#32
  let v556 : BitVec 1 := Scalar.cmpi .ne v555 c0_i32_275
  v556

def k1_mult41 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  v570
def k1_off102 (v287 : BitVec 32) (v294 : BitVec 32) (k1_t20 : Fin (k1_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v298 v568
  let c1636352_i32_282 : BitVec 32 := 1636352#32
  let v570 : BitVec 32 := Scalar.minsi v569 c1636352_i32_282
  let v571 : BitVec 32 := v570
  ![v571.toNat]
@[reducible] def k1_t22_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off103 (k1_t22 : Fin k1_t22_loop.trips) : Fin 1 → Nat :=
  let c0_i32_284 : BitVec 32 := 0#32
  let c1_i32_285 : BitVec 32 := 1#32
  let arg23 : BitVec 32 := Scf.iv c0_i32_284 c1_i32_285 k1_t22
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk48 (v287 : BitVec 32) (v294 : BitVec 32) (k1_t20 : Fin (k1_t20_loop v287 v294).trips) (v589 : IVec S16 32) (v647 : IVec S16 32) : Prop :=
  (∀ (k1_h29 : k1_cond29 v287 v294 k1_t20 = 1#1), ∀ a x, ((![v647, v589] : Fin 2 → IVec S16 32) a x).toNat < S8x4096.size a)
theorem k1_idx45_inb : ∀ (v287 : BitVec 32) (v294 : BitVec 32) (k1_t20 : Fin (k1_t20_loop v287 v294).trips) (v589 : IVec S16 32) (v647 : IVec S16 32) (k1_hw48 : k1_chk48 v287 v294 k1_t20 v589 v647), ∀ (k1_h29 : k1_cond29 v287 v294 k1_t20 = 1#1), ∀ a x, ((![v647, v589] : Fin 2 → IVec S16 32) a x).toNat < S8x4096.size a := fun v287 v294 k1_t20 v589 v647 k1_hw48 k1_h29 => k1_hw48 k1_h29
def k1_off104 (k1_t22 : Fin k1_t22_loop.trips) : Fin 1 → Nat :=
  let c0_i32_284 : BitVec 32 := 0#32
  let c1_i32_285 : BitVec 32 := 1#32
  let arg23 : BitVec 32 := Scf.iv c0_i32_284 c1_i32_285 k1_t22
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk49 (v287 : BitVec 32) (v294 : BitVec 32) (k1_t20 : Fin (k1_t20_loop v287 v294).trips) (v655 : IVec S16 32) (v713 : IVec S16 32) : Prop :=
  (∀ (k1_h29 : k1_cond29 v287 v294 k1_t20 = 1#1), ∀ a x, ((![v713, v655] : Fin 2 → IVec S16 32) a x).toNat < S8x4096.size a)
theorem k1_idx46_inb : ∀ (v287 : BitVec 32) (v294 : BitVec 32) (k1_t20 : Fin (k1_t20_loop v287 v294).trips) (v655 : IVec S16 32) (v713 : IVec S16 32) (k1_hw49 : k1_chk49 v287 v294 k1_t20 v655 v713), ∀ (k1_h29 : k1_cond29 v287 v294 k1_t20 = 1#1), ∀ a x, ((![v713, v655] : Fin 2 → IVec S16 32) a x).toNat < S8x4096.size a := fun v287 v294 k1_t20 v655 v713 k1_hw49 k1_h29 => k1_hw49 k1_h29
def k1_off105 (k1_t22 : Fin k1_t22_loop.trips) : Fin 1 → Nat :=
  let c0_i32_284 : BitVec 32 := 0#32
  let c1_i32_285 : BitVec 32 := 1#32
  let arg23 : BitVec 32 := Scf.iv c0_i32_284 c1_i32_285 k1_t22
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk50 (v287 : BitVec 32) (v294 : BitVec 32) (k1_t20 : Fin (k1_t20_loop v287 v294).trips) (v721 : IVec S16 32) (v779 : IVec S16 32) : Prop :=
  (∀ (k1_h29 : k1_cond29 v287 v294 k1_t20 = 1#1), ∀ a x, ((![v779, v721] : Fin 2 → IVec S16 32) a x).toNat < S8x4096.size a)
theorem k1_idx47_inb : ∀ (v287 : BitVec 32) (v294 : BitVec 32) (k1_t20 : Fin (k1_t20_loop v287 v294).trips) (v721 : IVec S16 32) (v779 : IVec S16 32) (k1_hw50 : k1_chk50 v287 v294 k1_t20 v721 v779), ∀ (k1_h29 : k1_cond29 v287 v294 k1_t20 = 1#1), ∀ a x, ((![v779, v721] : Fin 2 → IVec S16 32) a x).toNat < S8x4096.size a := fun v287 v294 k1_t20 v721 v779 k1_hw50 k1_h29 => k1_hw50 k1_h29
def k1_off106 (k1_t22 : Fin k1_t22_loop.trips) : Fin 1 → Nat :=
  let c0_i32_284 : BitVec 32 := 0#32
  let c1_i32_285 : BitVec 32 := 1#32
  let arg23 : BitVec 32 := Scf.iv c0_i32_284 c1_i32_285 k1_t22
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk51 (v287 : BitVec 32) (v294 : BitVec 32) (k1_t20 : Fin (k1_t20_loop v287 v294).trips) (v787 : IVec S16 32) (v845 : IVec S16 32) : Prop :=
  (∀ (k1_h29 : k1_cond29 v287 v294 k1_t20 = 1#1), ∀ a x, ((![v845, v787] : Fin 2 → IVec S16 32) a x).toNat < S8x4096.size a)
theorem k1_idx48_inb : ∀ (v287 : BitVec 32) (v294 : BitVec 32) (k1_t20 : Fin (k1_t20_loop v287 v294).trips) (v787 : IVec S16 32) (v845 : IVec S16 32) (k1_hw51 : k1_chk51 v287 v294 k1_t20 v787 v845), ∀ (k1_h29 : k1_cond29 v287 v294 k1_t20 = 1#1), ∀ a x, ((![v845, v787] : Fin 2 → IVec S16 32) a x).toNat < S8x4096.size a := fun v287 v294 k1_t20 v787 v845 k1_hw51 k1_h29 => k1_hw51 k1_h29
def k1_mult42 (v287 : BitVec 32) (v294 : BitVec 32) (k1_t20 : Fin (k1_t20_loop v287 v294).trips) : BitVec 32 :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  v585
def k1_cond30 (v287 : BitVec 32) (v294 : BitVec 32) (k1_t20 : Fin (k1_t20_loop v287 v294).trips) : BitVec 1 :=
  let c0_i32_191 : BitVec 32 := 0#32
  let c_m8_i32_141 : BitVec 32 := 4294967288#32
  let v298 : BitVec 32 := Scalar.andi v287 c_m8_i32_141
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let v579 : BitVec 1 := Scalar.cmpi .slt v578 v317
  let v580 : BitVec 32 := Scalar.extui v579
  let c0_i32_288 : BitVec 32 := 0#32
  let v581 : BitVec 1 := Scalar.cmpi .ne v580 c0_i32_288
  v581

def k1_off107 (v287 : BitVec 32) (v294 : BitVec 32) (k1_t20 : Fin (k1_t20_loop v287 v294).trips) : Fin 1 → Nat :=
  let c_m8_i32_141 : BitVec 32 := 4294967288#32
  let v298 : BitVec 32 := Scalar.andi v287 c_m8_i32_141
  let c0_i32_191 : BitVec 32 := 0#32
  let v299 : BitVec 32 := Scalar.subi v294 v298
  let c2047_i32_142 : BitVec 32 := 2047#32
  let v300 : BitVec 32 := Scalar.addi v299 c2047_i32_142
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c2048_i32_143 : BitVec 32 := 2048#32
  let c0_i32_146 : BitVec 32 := 0#32
  let v307 : BitVec 1 := Scalar.cmpi .sgt c2048_i32_143 c0_i32_146
  let v308 : BitVec 32 := Scalar.extui v307
  let c0_i32_147 : BitVec 32 := 0#32
  let v309 : BitVec 1 := Scalar.cmpi .slt c2048_i32_143 c0_i32_147
  let v310 : BitVec 32 := Scalar.extui v309
  let v311 : BitVec 32 := Scalar.subi v308 v310
  let v312 : BitVec 1 := Scalar.cmpi .ne v306 v311
  let v313 : BitVec 32 := Scalar.remsi v300 c2048_i32_143
  let c0_i32_148 : BitVec 32 := 0#32
  let v314 : BitVec 1 := Scalar.cmpi .ne v313 c0_i32_148
  let v315 : BitVec 1 := Scalar.andi v312 v314
  let v301 : BitVec 32 := Scalar.divsi v300 c2048_i32_143
  let c1_i32_149 : BitVec 32 := 1#32
  let v316 : BitVec 32 := Scalar.subi v301 c1_i32_149
  let v317 : BitVec 32 := Scalar.select v315 v316 v301
  let c1_i32_183 : BitVec 32 := 1#32
  let v382 : BitVec 32 := Scalar.addi v317 c1_i32_183
  let c0_i32_185 : BitVec 32 := 0#32
  let v384 : BitVec 1 := Scalar.cmpi .sgt v382 c0_i32_185
  let v385 : BitVec 32 := Scalar.extui v384
  let c0_i32_186 : BitVec 32 := 0#32
  let v386 : BitVec 1 := Scalar.cmpi .slt v382 c0_i32_186
  let v387 : BitVec 32 := Scalar.extui v386
  let v388 : BitVec 32 := Scalar.subi v385 v387
  let c2_i32_184 : BitVec 32 := 2#32
  let c0_i32_187 : BitVec 32 := 0#32
  let v389 : BitVec 1 := Scalar.cmpi .sgt c2_i32_184 c0_i32_187
  let v390 : BitVec 32 := Scalar.extui v389
  let c0_i32_188 : BitVec 32 := 0#32
  let v391 : BitVec 1 := Scalar.cmpi .slt c2_i32_184 c0_i32_188
  let v392 : BitVec 32 := Scalar.extui v391
  let v393 : BitVec 32 := Scalar.subi v390 v392
  let v394 : BitVec 1 := Scalar.cmpi .ne v388 v393
  let v395 : BitVec 32 := Scalar.remsi v382 c2_i32_184
  let c0_i32_189 : BitVec 32 := 0#32
  let v396 : BitVec 1 := Scalar.cmpi .ne v395 c0_i32_189
  let v397 : BitVec 1 := Scalar.andi v394 v396
  let v383 : BitVec 32 := Scalar.divsi v382 c2_i32_184
  let c1_i32_190 : BitVec 32 := 1#32
  let v398 : BitVec 32 := Scalar.subi v383 c1_i32_190
  let v399 : BitVec 32 := Scalar.select v397 v398 v383
  let v400 : BitVec 32 := Scalar.subi v399 c0_i32_191
  let c1_i32_193 : BitVec 32 := 1#32
  let v402 : BitVec 32 := Scalar.divsi v400 c1_i32_193
  let v403 : BitVec 32 := Scalar.muli v402 c1_i32_193
  let v404 : BitVec 32 := Scalar.addi c0_i32_191 v403
  let c1_i32_195 : BitVec 32 := 1#32
  let arg21 : BitVec 32 := Scf.iv v404 c1_i32_195 k1_t20
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v298 v583
  let c1636352_i32_291 : BitVec 32 := 1636352#32
  let v585 : BitVec 32 := Scalar.minsi v584 c1636352_i32_291
  let v586 : BitVec 32 := v585
  ![v586.toNat]

def k1_chk35 (v287 : BitVec 32) (v294 : BitVec 32) : Prop :=
  (∀ (k1_h21 : k1_cond21 v287 v294 = 1#1), 8 ∣ (k1_mult29 v287).toNat) ∧
  (∀ (k1_h21 : k1_cond21 v287 v294 = 1#1), ∀ a, (k1_off74 v287) a + S2048.size a ≤ S1638400.size a) ∧
  (∀ (k1_h22 : k1_cond22 v287 v294 = 1#1), 8 ∣ (k1_mult30 v287).toNat) ∧
  (∀ (k1_h22 : k1_cond22 v287 v294 = 1#1), ∀ a, (k1_off75 v287) a + S2048.size a ≤ S1638400.size a) ∧
  ((k1_t17_loop v287 v294).OK) ∧
  (∀ k1_t17 : Fin (k1_t17_loop v287 v294).trips, ∀ (k1_h23 : k1_cond23 v287 v294 k1_t17 = 1#1), 8 ∣ (k1_mult31 v287 v294 k1_t17).toNat) ∧
  (∀ k1_t17 : Fin (k1_t17_loop v287 v294).trips, ∀ (k1_h23 : k1_cond23 v287 v294 k1_t17 = 1#1), 8 ∣ (k1_mult32 v287 v294 k1_t17).toNat) ∧
  (∀ k1_t17 : Fin (k1_t17_loop v287 v294).trips, ∀ (k1_h23 : k1_cond23 v287 v294 k1_t17 = 1#1), ∀ a, (k1_off84 v287 v294 k1_t17) a + S2048.size a ≤ S1638400.size a) ∧
  (∀ k1_t17 : Fin (k1_t17_loop v287 v294).trips, ∀ (k1_h23 : k1_cond23 v287 v294 k1_t17 = 1#1), ∀ (k1_h24 : k1_cond24 v287 v294 k1_t17 = 1#1), 8 ∣ (k1_mult33 v287 v294 k1_t17).toNat) ∧
  (∀ k1_t17 : Fin (k1_t17_loop v287 v294).trips, ∀ (k1_h23 : k1_cond23 v287 v294 k1_t17 = 1#1), ∀ (k1_h24 : k1_cond24 v287 v294 k1_t17 = 1#1), ∀ a, (k1_off89 v287 v294 k1_t17) a + S2048.size a ≤ S1638400.size a) ∧
  (∀ k1_t17 : Fin (k1_t17_loop v287 v294).trips, ∀ (k1_h25 : k1_cond25 v287 v294 k1_t17 = 1#1), 8 ∣ (k1_mult34 v287 v294 k1_t17).toNat) ∧
  (∀ k1_t17 : Fin (k1_t17_loop v287 v294).trips, ∀ (k1_h25 : k1_cond25 v287 v294 k1_t17 = 1#1), 8 ∣ (k1_mult35 v287 v294 k1_t17).toNat) ∧
  (∀ k1_t17 : Fin (k1_t17_loop v287 v294).trips, ∀ (k1_h25 : k1_cond25 v287 v294 k1_t17 = 1#1), ∀ a, (k1_off90 v287 v294 k1_t17) a + S2048.size a ≤ S1638400.size a) ∧
  (∀ k1_t17 : Fin (k1_t17_loop v287 v294).trips, ∀ (k1_h25 : k1_cond25 v287 v294 k1_t17 = 1#1), ∀ (k1_h26 : k1_cond26 v287 v294 k1_t17 = 1#1), 8 ∣ (k1_mult36 v287 v294 k1_t17).toNat) ∧
  (∀ k1_t17 : Fin (k1_t17_loop v287 v294).trips, ∀ (k1_h25 : k1_cond25 v287 v294 k1_t17 = 1#1), ∀ (k1_h26 : k1_cond26 v287 v294 k1_t17 = 1#1), ∀ a, (k1_off95 v287 v294 k1_t17) a + S2048.size a ≤ S1638400.size a) ∧
  ((k1_t20_loop v287 v294).OK) ∧
  (∀ k1_t20 : Fin (k1_t20_loop v287 v294).trips, ∀ (k1_h27 : k1_cond27 v287 v294 k1_t20 = 1#1), 8 ∣ (k1_mult37 v287 v294 k1_t20).toNat) ∧
  (∀ k1_t20 : Fin (k1_t20_loop v287 v294).trips, ∀ (k1_h27 : k1_cond27 v287 v294 k1_t20 = 1#1), 8 ∣ (k1_mult38 v287 v294 k1_t20).toNat) ∧
  (∀ k1_t20 : Fin (k1_t20_loop v287 v294).trips, ∀ (k1_h27 : k1_cond27 v287 v294 k1_t20 = 1#1), ∀ a, (k1_off96 v287 v294 k1_t20) a + S2048.size a ≤ S1638400.size a) ∧
  (∀ k1_t20 : Fin (k1_t20_loop v287 v294).trips, ∀ (k1_h27 : k1_cond27 v287 v294 k1_t20 = 1#1), ∀ (k1_h28 : k1_cond28 v287 v294 k1_t20 = 1#1), 8 ∣ (k1_mult39 v287 v294 k1_t20).toNat) ∧
  (∀ k1_t20 : Fin (k1_t20_loop v287 v294).trips, ∀ (k1_h27 : k1_cond27 v287 v294 k1_t20 = 1#1), ∀ (k1_h28 : k1_cond28 v287 v294 k1_t20 = 1#1), ∀ a, (k1_off101 v287 v294 k1_t20) a + S2048.size a ≤ S1638400.size a) ∧
  (∀ k1_t20 : Fin (k1_t20_loop v287 v294).trips, ∀ (k1_h29 : k1_cond29 v287 v294 k1_t20 = 1#1), 8 ∣ (k1_mult40 v287 v294 k1_t20).toNat) ∧
  (∀ k1_t20 : Fin (k1_t20_loop v287 v294).trips, ∀ (k1_h29 : k1_cond29 v287 v294 k1_t20 = 1#1), 8 ∣ (k1_mult41 v287 v294 k1_t20).toNat) ∧
  (∀ k1_t20 : Fin (k1_t20_loop v287 v294).trips, ∀ (k1_h29 : k1_cond29 v287 v294 k1_t20 = 1#1), ∀ a, (k1_off102 v287 v294 k1_t20) a + S2048.size a ≤ S1638400.size a) ∧
  (∀ k1_t20 : Fin (k1_t20_loop v287 v294).trips, ∀ (k1_h29 : k1_cond29 v287 v294 k1_t20 = 1#1), ∀ (k1_h30 : k1_cond30 v287 v294 k1_t20 = 1#1), 8 ∣ (k1_mult42 v287 v294 k1_t20).toNat) ∧
  (∀ k1_t20 : Fin (k1_t20_loop v287 v294).trips, ∀ (k1_h29 : k1_cond29 v287 v294 k1_t20 = 1#1), ∀ (k1_h30 : k1_cond30 v287 v294 k1_t20 = 1#1), ∀ a, (k1_off107 v287 v294 k1_t20) a + S2048.size a ≤ S1638400.size a)
theorem k1_mult29_dvd : ∀ (v287 : BitVec 32) (v294 : BitVec 32) (k1_hw35 : k1_chk35 v287 v294), ∀ (k1_h21 : k1_cond21 v287 v294 = 1#1), 8 ∣ (k1_mult29 v287).toNat := fun v287 v294 k1_hw35 k1_h21 => k1_hw35.1 k1_h21
theorem k1_off74_inb : ∀ (v287 : BitVec 32) (v294 : BitVec 32) (k1_hw35 : k1_chk35 v287 v294), ∀ (k1_h21 : k1_cond21 v287 v294 = 1#1), ∀ a, (k1_off74 v287) a + S2048.size a ≤ S1638400.size a := fun v287 v294 k1_hw35 k1_h21 => k1_hw35.2.1 k1_h21
theorem k1_mult30_dvd : ∀ (v287 : BitVec 32) (v294 : BitVec 32) (k1_hw35 : k1_chk35 v287 v294), ∀ (k1_h22 : k1_cond22 v287 v294 = 1#1), 8 ∣ (k1_mult30 v287).toNat := fun v287 v294 k1_hw35 k1_h22 => k1_hw35.2.2.1 k1_h22
theorem k1_off75_inb : ∀ (v287 : BitVec 32) (v294 : BitVec 32) (k1_hw35 : k1_chk35 v287 v294), ∀ (k1_h22 : k1_cond22 v287 v294 = 1#1), ∀ a, (k1_off75 v287) a + S2048.size a ≤ S1638400.size a := fun v287 v294 k1_hw35 k1_h22 => k1_hw35.2.2.2.1 k1_h22
theorem k1_t17_ok : ∀ (v287 : BitVec 32) (v294 : BitVec 32) (k1_hw35 : k1_chk35 v287 v294), (k1_t17_loop v287 v294).OK := fun v287 v294 k1_hw35 => k1_hw35.2.2.2.2.1
theorem k1_mult31_dvd : ∀ (v287 : BitVec 32) (v294 : BitVec 32) (k1_hw35 : k1_chk35 v287 v294) (k1_t17 : Fin (k1_t17_loop v287 v294).trips), ∀ (k1_h23 : k1_cond23 v287 v294 k1_t17 = 1#1), 8 ∣ (k1_mult31 v287 v294 k1_t17).toNat := fun v287 v294 k1_hw35 k1_t17 k1_h23 => k1_hw35.2.2.2.2.2.1 k1_t17 k1_h23
theorem k1_mult32_dvd : ∀ (v287 : BitVec 32) (v294 : BitVec 32) (k1_hw35 : k1_chk35 v287 v294) (k1_t17 : Fin (k1_t17_loop v287 v294).trips), ∀ (k1_h23 : k1_cond23 v287 v294 k1_t17 = 1#1), 8 ∣ (k1_mult32 v287 v294 k1_t17).toNat := fun v287 v294 k1_hw35 k1_t17 k1_h23 => k1_hw35.2.2.2.2.2.2.1 k1_t17 k1_h23
theorem k1_off84_inb : ∀ (v287 : BitVec 32) (v294 : BitVec 32) (k1_hw35 : k1_chk35 v287 v294) (k1_t17 : Fin (k1_t17_loop v287 v294).trips), ∀ (k1_h23 : k1_cond23 v287 v294 k1_t17 = 1#1), ∀ a, (k1_off84 v287 v294 k1_t17) a + S2048.size a ≤ S1638400.size a := fun v287 v294 k1_hw35 k1_t17 k1_h23 => k1_hw35.2.2.2.2.2.2.2.1 k1_t17 k1_h23
theorem k1_mult33_dvd : ∀ (v287 : BitVec 32) (v294 : BitVec 32) (k1_hw35 : k1_chk35 v287 v294) (k1_t17 : Fin (k1_t17_loop v287 v294).trips), ∀ (k1_h23 : k1_cond23 v287 v294 k1_t17 = 1#1), ∀ (k1_h24 : k1_cond24 v287 v294 k1_t17 = 1#1), 8 ∣ (k1_mult33 v287 v294 k1_t17).toNat := fun v287 v294 k1_hw35 k1_t17 k1_h23 k1_h24 => k1_hw35.2.2.2.2.2.2.2.2.1 k1_t17 k1_h23 k1_h24
theorem k1_off89_inb : ∀ (v287 : BitVec 32) (v294 : BitVec 32) (k1_hw35 : k1_chk35 v287 v294) (k1_t17 : Fin (k1_t17_loop v287 v294).trips), ∀ (k1_h23 : k1_cond23 v287 v294 k1_t17 = 1#1), ∀ (k1_h24 : k1_cond24 v287 v294 k1_t17 = 1#1), ∀ a, (k1_off89 v287 v294 k1_t17) a + S2048.size a ≤ S1638400.size a := fun v287 v294 k1_hw35 k1_t17 k1_h23 k1_h24 => k1_hw35.2.2.2.2.2.2.2.2.2.1 k1_t17 k1_h23 k1_h24
theorem k1_mult34_dvd : ∀ (v287 : BitVec 32) (v294 : BitVec 32) (k1_hw35 : k1_chk35 v287 v294) (k1_t17 : Fin (k1_t17_loop v287 v294).trips), ∀ (k1_h25 : k1_cond25 v287 v294 k1_t17 = 1#1), 8 ∣ (k1_mult34 v287 v294 k1_t17).toNat := fun v287 v294 k1_hw35 k1_t17 k1_h25 => k1_hw35.2.2.2.2.2.2.2.2.2.2.1 k1_t17 k1_h25
theorem k1_mult35_dvd : ∀ (v287 : BitVec 32) (v294 : BitVec 32) (k1_hw35 : k1_chk35 v287 v294) (k1_t17 : Fin (k1_t17_loop v287 v294).trips), ∀ (k1_h25 : k1_cond25 v287 v294 k1_t17 = 1#1), 8 ∣ (k1_mult35 v287 v294 k1_t17).toNat := fun v287 v294 k1_hw35 k1_t17 k1_h25 => k1_hw35.2.2.2.2.2.2.2.2.2.2.2.1 k1_t17 k1_h25
theorem k1_off90_inb : ∀ (v287 : BitVec 32) (v294 : BitVec 32) (k1_hw35 : k1_chk35 v287 v294) (k1_t17 : Fin (k1_t17_loop v287 v294).trips), ∀ (k1_h25 : k1_cond25 v287 v294 k1_t17 = 1#1), ∀ a, (k1_off90 v287 v294 k1_t17) a + S2048.size a ≤ S1638400.size a := fun v287 v294 k1_hw35 k1_t17 k1_h25 => k1_hw35.2.2.2.2.2.2.2.2.2.2.2.2.1 k1_t17 k1_h25
theorem k1_mult36_dvd : ∀ (v287 : BitVec 32) (v294 : BitVec 32) (k1_hw35 : k1_chk35 v287 v294) (k1_t17 : Fin (k1_t17_loop v287 v294).trips), ∀ (k1_h25 : k1_cond25 v287 v294 k1_t17 = 1#1), ∀ (k1_h26 : k1_cond26 v287 v294 k1_t17 = 1#1), 8 ∣ (k1_mult36 v287 v294 k1_t17).toNat := fun v287 v294 k1_hw35 k1_t17 k1_h25 k1_h26 => k1_hw35.2.2.2.2.2.2.2.2.2.2.2.2.2.1 k1_t17 k1_h25 k1_h26
theorem k1_off95_inb : ∀ (v287 : BitVec 32) (v294 : BitVec 32) (k1_hw35 : k1_chk35 v287 v294) (k1_t17 : Fin (k1_t17_loop v287 v294).trips), ∀ (k1_h25 : k1_cond25 v287 v294 k1_t17 = 1#1), ∀ (k1_h26 : k1_cond26 v287 v294 k1_t17 = 1#1), ∀ a, (k1_off95 v287 v294 k1_t17) a + S2048.size a ≤ S1638400.size a := fun v287 v294 k1_hw35 k1_t17 k1_h25 k1_h26 => k1_hw35.2.2.2.2.2.2.2.2.2.2.2.2.2.2.1 k1_t17 k1_h25 k1_h26
theorem k1_t20_ok : ∀ (v287 : BitVec 32) (v294 : BitVec 32) (k1_hw35 : k1_chk35 v287 v294), (k1_t20_loop v287 v294).OK := fun v287 v294 k1_hw35 => k1_hw35.2.2.2.2.2.2.2.2.2.2.2.2.2.2.2.1
theorem k1_mult37_dvd : ∀ (v287 : BitVec 32) (v294 : BitVec 32) (k1_hw35 : k1_chk35 v287 v294) (k1_t20 : Fin (k1_t20_loop v287 v294).trips), ∀ (k1_h27 : k1_cond27 v287 v294 k1_t20 = 1#1), 8 ∣ (k1_mult37 v287 v294 k1_t20).toNat := fun v287 v294 k1_hw35 k1_t20 k1_h27 => k1_hw35.2.2.2.2.2.2.2.2.2.2.2.2.2.2.2.2.1 k1_t20 k1_h27
theorem k1_mult38_dvd : ∀ (v287 : BitVec 32) (v294 : BitVec 32) (k1_hw35 : k1_chk35 v287 v294) (k1_t20 : Fin (k1_t20_loop v287 v294).trips), ∀ (k1_h27 : k1_cond27 v287 v294 k1_t20 = 1#1), 8 ∣ (k1_mult38 v287 v294 k1_t20).toNat := fun v287 v294 k1_hw35 k1_t20 k1_h27 => k1_hw35.2.2.2.2.2.2.2.2.2.2.2.2.2.2.2.2.2.1 k1_t20 k1_h27
theorem k1_off96_inb : ∀ (v287 : BitVec 32) (v294 : BitVec 32) (k1_hw35 : k1_chk35 v287 v294) (k1_t20 : Fin (k1_t20_loop v287 v294).trips), ∀ (k1_h27 : k1_cond27 v287 v294 k1_t20 = 1#1), ∀ a, (k1_off96 v287 v294 k1_t20) a + S2048.size a ≤ S1638400.size a := fun v287 v294 k1_hw35 k1_t20 k1_h27 => k1_hw35.2.2.2.2.2.2.2.2.2.2.2.2.2.2.2.2.2.2.1 k1_t20 k1_h27
theorem k1_mult39_dvd : ∀ (v287 : BitVec 32) (v294 : BitVec 32) (k1_hw35 : k1_chk35 v287 v294) (k1_t20 : Fin (k1_t20_loop v287 v294).trips), ∀ (k1_h27 : k1_cond27 v287 v294 k1_t20 = 1#1), ∀ (k1_h28 : k1_cond28 v287 v294 k1_t20 = 1#1), 8 ∣ (k1_mult39 v287 v294 k1_t20).toNat := fun v287 v294 k1_hw35 k1_t20 k1_h27 k1_h28 => k1_hw35.2.2.2.2.2.2.2.2.2.2.2.2.2.2.2.2.2.2.2.1 k1_t20 k1_h27 k1_h28
theorem k1_off101_inb : ∀ (v287 : BitVec 32) (v294 : BitVec 32) (k1_hw35 : k1_chk35 v287 v294) (k1_t20 : Fin (k1_t20_loop v287 v294).trips), ∀ (k1_h27 : k1_cond27 v287 v294 k1_t20 = 1#1), ∀ (k1_h28 : k1_cond28 v287 v294 k1_t20 = 1#1), ∀ a, (k1_off101 v287 v294 k1_t20) a + S2048.size a ≤ S1638400.size a := fun v287 v294 k1_hw35 k1_t20 k1_h27 k1_h28 => k1_hw35.2.2.2.2.2.2.2.2.2.2.2.2.2.2.2.2.2.2.2.2.1 k1_t20 k1_h27 k1_h28
theorem k1_mult40_dvd : ∀ (v287 : BitVec 32) (v294 : BitVec 32) (k1_hw35 : k1_chk35 v287 v294) (k1_t20 : Fin (k1_t20_loop v287 v294).trips), ∀ (k1_h29 : k1_cond29 v287 v294 k1_t20 = 1#1), 8 ∣ (k1_mult40 v287 v294 k1_t20).toNat := fun v287 v294 k1_hw35 k1_t20 k1_h29 => k1_hw35.2.2.2.2.2.2.2.2.2.2.2.2.2.2.2.2.2.2.2.2.2.1 k1_t20 k1_h29
theorem k1_mult41_dvd : ∀ (v287 : BitVec 32) (v294 : BitVec 32) (k1_hw35 : k1_chk35 v287 v294) (k1_t20 : Fin (k1_t20_loop v287 v294).trips), ∀ (k1_h29 : k1_cond29 v287 v294 k1_t20 = 1#1), 8 ∣ (k1_mult41 v287 v294 k1_t20).toNat := fun v287 v294 k1_hw35 k1_t20 k1_h29 => k1_hw35.2.2.2.2.2.2.2.2.2.2.2.2.2.2.2.2.2.2.2.2.2.2.1 k1_t20 k1_h29
theorem k1_off102_inb : ∀ (v287 : BitVec 32) (v294 : BitVec 32) (k1_hw35 : k1_chk35 v287 v294) (k1_t20 : Fin (k1_t20_loop v287 v294).trips), ∀ (k1_h29 : k1_cond29 v287 v294 k1_t20 = 1#1), ∀ a, (k1_off102 v287 v294 k1_t20) a + S2048.size a ≤ S1638400.size a := fun v287 v294 k1_hw35 k1_t20 k1_h29 => k1_hw35.2.2.2.2.2.2.2.2.2.2.2.2.2.2.2.2.2.2.2.2.2.2.2.1 k1_t20 k1_h29
theorem k1_mult42_dvd : ∀ (v287 : BitVec 32) (v294 : BitVec 32) (k1_hw35 : k1_chk35 v287 v294) (k1_t20 : Fin (k1_t20_loop v287 v294).trips), ∀ (k1_h29 : k1_cond29 v287 v294 k1_t20 = 1#1), ∀ (k1_h30 : k1_cond30 v287 v294 k1_t20 = 1#1), 8 ∣ (k1_mult42 v287 v294 k1_t20).toNat := fun v287 v294 k1_hw35 k1_t20 k1_h29 k1_h30 => k1_hw35.2.2.2.2.2.2.2.2.2.2.2.2.2.2.2.2.2.2.2.2.2.2.2.2.1 k1_t20 k1_h29 k1_h30
theorem k1_off107_inb : ∀ (v287 : BitVec 32) (v294 : BitVec 32) (k1_hw35 : k1_chk35 v287 v294) (k1_t20 : Fin (k1_t20_loop v287 v294).trips), ∀ (k1_h29 : k1_cond29 v287 v294 k1_t20 = 1#1), ∀ (k1_h30 : k1_cond30 v287 v294 k1_t20 = 1#1), ∀ a, (k1_off107 v287 v294 k1_t20) a + S2048.size a ≤ S1638400.size a := fun v287 v294 k1_hw35 k1_t20 k1_h29 k1_h30 => k1_hw35.2.2.2.2.2.2.2.2.2.2.2.2.2.2.2.2.2.2.2.2.2.2.2.2.2 k1_t20 k1_h29 k1_h30

def k1_off108 (i : grid1.Coords) (k1_t15 : Fin k1_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k1_t15
  let c2_i32_128 : BitVec 32 := 2#32
  let v271 : BitVec 32 := Scalar.muli arg19 c2_i32_128
  let c0_i32_129 : BitVec 32 := 0#32
  let v272 : BitVec 32 := Scalar.addi v271 c0_i32_129
  let c8_i32_130 : BitVec 32 := 8#32
  let v273 : BitVec 32 := Scalar.muli v272 c8_i32_130
  let v274 : BitVec 32 := Scalar.addi v6 v273
  let c0_i32_196 : BitVec 32 := 0#32
  ![v274.toNat, 0]
def k1_off109 (k1_t15 : Fin k1_t15_loop.trips) : Fin 1 → Nat :=
  let c1_i32_120 : BitVec 32 := 1#32
  let c1_i32_122 : BitVec 32 := 1#32
  let arg19 : BitVec 32 := Scf.iv c1_i32_120 c1_i32_122 k1_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_201 : BitVec 32 := 8#32
  let v413 : BitVec 32 := Scalar.muli v410 c8_i32_201
  let v414 : Index := Scalar.indexCast v413
  ![v414.toNat]
def k1_off110 (i : grid1.Coords) (k1_t15 : Fin k1_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k1_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_200 : BitVec 32 := 8#32
  let v411 : BitVec 32 := Scalar.muli v410 c8_i32_200
  let v412 : BitVec 32 := Scalar.addi v6 v411
  let c16_i32_209 : BitVec 32 := 16#32
  let v433 : BitVec 32 := Scalar.subi v412 c16_i32_209
  let c0_i32_210 : BitVec 32 := 0#32
  ![v433.toNat, 0]
def k1_mult43 (v425 : BitVec 32) : BitVec 32 :=
  let c_m8_i32_212 : BitVec 32 := 4294967288#32
  let v436 : BitVec 32 := Scalar.andi v425 c_m8_i32_212
  let c0_i32_270 : BitVec 32 := 0#32
  let v547 : BitVec 32 := Scalar.addi v436 c0_i32_270
  let c1636352_i32 : BitVec 32 := 1636352#32
  let v548 : BitVec 32 := Scalar.minsi v547 c1636352_i32
  v548
def k1_cond31 (v425 : BitVec 32) (v432 : BitVec 32) : BitVec 1 :=
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c0_i32_221 : BitVec 32 := 0#32
  let v456 : BitVec 1 := Scalar.cmpi .sgt v455 c0_i32_221
  let v457 : BitVec 32 := Scalar.extui v456
  let c0_i32_222 : BitVec 32 := 0#32
  let v458 : BitVec 1 := Scalar.cmpi .ne v457 c0_i32_222
  v458

def k1_off111 (v425 : BitVec 32) : Fin 1 → Nat :=
  let c_m8_i32_212 : BitVec 32 := 4294967288#32
  let v436 : BitVec 32 := Scalar.andi v425 c_m8_i32_212
  let c0_i32_270 : BitVec 32 := 0#32
  let v547 : BitVec 32 := Scalar.addi v436 c0_i32_270
  let c1636352_i32 : BitVec 32 := 1636352#32
  let v548 : BitVec 32 := Scalar.minsi v547 c1636352_i32
  let v549 : BitVec 32 := v548
  ![v549.toNat]
def k1_mult44 (v425 : BitVec 32) : BitVec 32 :=
  let c_m8_i32_212 : BitVec 32 := 4294967288#32
  let v436 : BitVec 32 := Scalar.andi v425 c_m8_i32_212
  let c2048_i32_270 : BitVec 32 := 2048#32
  let v547 : BitVec 32 := Scalar.addi v436 c2048_i32_270
  let c1636352_i32 : BitVec 32 := 1636352#32
  let v548 : BitVec 32 := Scalar.minsi v547 c1636352_i32
  v548
def k1_cond32 (v425 : BitVec 32) (v432 : BitVec 32) : BitVec 1 :=
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_223 : BitVec 32 := 1#32
  let v459 : BitVec 1 := Scalar.cmpi .sgt v455 c1_i32_223
  let v460 : BitVec 32 := Scalar.extui v459
  let c0_i32_224 : BitVec 32 := 0#32
  let v461 : BitVec 1 := Scalar.cmpi .ne v460 c0_i32_224
  v461

def k1_off112 (v425 : BitVec 32) : Fin 1 → Nat :=
  let c_m8_i32_212 : BitVec 32 := 4294967288#32
  let v436 : BitVec 32 := Scalar.andi v425 c_m8_i32_212
  let c2048_i32_270 : BitVec 32 := 2048#32
  let v547 : BitVec 32 := Scalar.addi v436 c2048_i32_270
  let c1636352_i32 : BitVec 32 := 1636352#32
  let v548 : BitVec 32 := Scalar.minsi v547 c1636352_i32
  let v549 : BitVec 32 := v548
  ![v549.toNat]
@[reducible] def k1_t23_loop : Scf.Loop 32 :=
  let c0_i32_226 : BitVec 32 := 0#32
  let c128_i32_227 : BitVec 32 := 128#32
  let v462 : BitVec 32 := Scalar.addi c0_i32_226 c128_i32_227
  let c1_i32_228 : BitVec 32 := 1#32
  ⟨c0_i32_226, v462, c1_i32_228⟩
def k1_off113 (k1_t23 : Fin k1_t23_loop.trips) (c0_i32_271 : BitVec 32) : Fin 2 → Nat :=
  let c0_i32_273 : BitVec 32 := 0#32
  let v550 : Index := Scalar.indexCast c0_i32_273
  let c0_i32_226 : BitVec 32 := 0#32
  let c1_i32_228 : BitVec 32 := 1#32
  let arg21 : BitVec 32 := Scf.iv c0_i32_226 c1_i32_228 k1_t23
  let c2_i32_270 : BitVec 32 := 2#32
  let v547 : BitVec 32 := Scalar.muli arg21 c2_i32_270
  let v548 : BitVec 32 := Scalar.addi v547 c0_i32_271
  let c16_i32_272 : BitVec 32 := 16#32
  let v549 : BitVec 32 := Scalar.muli v548 c16_i32_272
  let v551 : Index := Scalar.indexCast v549
  ![0, v551.toNat]
def k1_off114 (k1_t23 : Fin k1_t23_loop.trips) (c0_i32_279 : BitVec 32) : Fin 2 → Nat :=
  let c1_i32_281 : BitVec 32 := 1#32
  let v562 : Index := Scalar.indexCast c1_i32_281
  let c0_i32_226 : BitVec 32 := 0#32
  let c1_i32_228 : BitVec 32 := 1#32
  let arg21 : BitVec 32 := Scf.iv c0_i32_226 c1_i32_228 k1_t23
  let c2_i32_278 : BitVec 32 := 2#32
  let v559 : BitVec 32 := Scalar.muli arg21 c2_i32_278
  let v560 : BitVec 32 := Scalar.addi v559 c0_i32_279
  let c16_i32_280 : BitVec 32 := 16#32
  let v561 : BitVec 32 := Scalar.muli v560 c16_i32_280
  let v563 : Index := Scalar.indexCast v561
  ![1, v563.toNat]
def k1_off115 (k1_t23 : Fin k1_t23_loop.trips) (c0_i32_287 : BitVec 32) : Fin 2 → Nat :=
  let c2_i32_289 : BitVec 32 := 2#32
  let v574 : Index := Scalar.indexCast c2_i32_289
  let c0_i32_226 : BitVec 32 := 0#32
  let c1_i32_228 : BitVec 32 := 1#32
  let arg21 : BitVec 32 := Scf.iv c0_i32_226 c1_i32_228 k1_t23
  let c2_i32_286 : BitVec 32 := 2#32
  let v571 : BitVec 32 := Scalar.muli arg21 c2_i32_286
  let v572 : BitVec 32 := Scalar.addi v571 c0_i32_287
  let c16_i32_288 : BitVec 32 := 16#32
  let v573 : BitVec 32 := Scalar.muli v572 c16_i32_288
  let v575 : Index := Scalar.indexCast v573
  ![2, v575.toNat]
def k1_off116 (k1_t23 : Fin k1_t23_loop.trips) (c0_i32_295 : BitVec 32) : Fin 2 → Nat :=
  let c3_i32_297 : BitVec 32 := 3#32
  let v586 : Index := Scalar.indexCast c3_i32_297
  let c0_i32_226 : BitVec 32 := 0#32
  let c1_i32_228 : BitVec 32 := 1#32
  let arg21 : BitVec 32 := Scf.iv c0_i32_226 c1_i32_228 k1_t23
  let c2_i32_294 : BitVec 32 := 2#32
  let v583 : BitVec 32 := Scalar.muli arg21 c2_i32_294
  let v584 : BitVec 32 := Scalar.addi v583 c0_i32_295
  let c16_i32_296 : BitVec 32 := 16#32
  let v585 : BitVec 32 := Scalar.muli v584 c16_i32_296
  let v587 : Index := Scalar.indexCast v585
  ![3, v587.toNat]
def k1_off117 (k1_t23 : Fin k1_t23_loop.trips) (c0_i32_303 : BitVec 32) : Fin 2 → Nat :=
  let c4_i32_305 : BitVec 32 := 4#32
  let v598 : Index := Scalar.indexCast c4_i32_305
  let c0_i32_226 : BitVec 32 := 0#32
  let c1_i32_228 : BitVec 32 := 1#32
  let arg21 : BitVec 32 := Scf.iv c0_i32_226 c1_i32_228 k1_t23
  let c2_i32_302 : BitVec 32 := 2#32
  let v595 : BitVec 32 := Scalar.muli arg21 c2_i32_302
  let v596 : BitVec 32 := Scalar.addi v595 c0_i32_303
  let c16_i32_304 : BitVec 32 := 16#32
  let v597 : BitVec 32 := Scalar.muli v596 c16_i32_304
  let v599 : Index := Scalar.indexCast v597
  ![4, v599.toNat]
def k1_off118 (k1_t23 : Fin k1_t23_loop.trips) (c0_i32_311 : BitVec 32) : Fin 2 → Nat :=
  let c5_i32_313 : BitVec 32 := 5#32
  let v610 : Index := Scalar.indexCast c5_i32_313
  let c0_i32_226 : BitVec 32 := 0#32
  let c1_i32_228 : BitVec 32 := 1#32
  let arg21 : BitVec 32 := Scf.iv c0_i32_226 c1_i32_228 k1_t23
  let c2_i32_310 : BitVec 32 := 2#32
  let v607 : BitVec 32 := Scalar.muli arg21 c2_i32_310
  let v608 : BitVec 32 := Scalar.addi v607 c0_i32_311
  let c16_i32_312 : BitVec 32 := 16#32
  let v609 : BitVec 32 := Scalar.muli v608 c16_i32_312
  let v611 : Index := Scalar.indexCast v609
  ![5, v611.toNat]
def k1_off119 (k1_t23 : Fin k1_t23_loop.trips) (c0_i32_319 : BitVec 32) : Fin 2 → Nat :=
  let c6_i32_321 : BitVec 32 := 6#32
  let v622 : Index := Scalar.indexCast c6_i32_321
  let c0_i32_226 : BitVec 32 := 0#32
  let c1_i32_228 : BitVec 32 := 1#32
  let arg21 : BitVec 32 := Scf.iv c0_i32_226 c1_i32_228 k1_t23
  let c2_i32_318 : BitVec 32 := 2#32
  let v619 : BitVec 32 := Scalar.muli arg21 c2_i32_318
  let v620 : BitVec 32 := Scalar.addi v619 c0_i32_319
  let c16_i32_320 : BitVec 32 := 16#32
  let v621 : BitVec 32 := Scalar.muli v620 c16_i32_320
  let v623 : Index := Scalar.indexCast v621
  ![6, v623.toNat]
def k1_off120 (k1_t23 : Fin k1_t23_loop.trips) (c0_i32_327 : BitVec 32) : Fin 2 → Nat :=
  let c7_i32_329 : BitVec 32 := 7#32
  let v634 : Index := Scalar.indexCast c7_i32_329
  let c0_i32_226 : BitVec 32 := 0#32
  let c1_i32_228 : BitVec 32 := 1#32
  let arg21 : BitVec 32 := Scf.iv c0_i32_226 c1_i32_228 k1_t23
  let c2_i32_326 : BitVec 32 := 2#32
  let v631 : BitVec 32 := Scalar.muli arg21 c2_i32_326
  let v632 : BitVec 32 := Scalar.addi v631 c0_i32_327
  let c16_i32_328 : BitVec 32 := 16#32
  let v633 : BitVec 32 := Scalar.muli v632 c16_i32_328
  let v635 : Index := Scalar.indexCast v633
  ![7, v635.toNat]
@[reducible] def k1_t24_loop (v425 : BitVec 32) (v432 : BitVec 32) : Scf.Loop 32 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_265 : BitVec 32 := 1#32
  ⟨c0_i32_262, v542, c1_i32_265⟩
def k1_mult45 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v436 v557
  let c1636352_i32 : BitVec 32 := 1636352#32
  let v559 : BitVec 32 := Scalar.minsi v558 c1636352_i32
  v559
def k1_cond33 (v425 : BitVec 32) (v432 : BitVec 32) (k1_t24 : Fin (k1_t24_loop v425 v432).trips) : BitVec 1 :=
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v549 : BitVec 1 := Scalar.cmpi .slt v548 v455
  let v550 : BitVec 32 := Scalar.extui v549
  let c0_i32_272 : BitVec 32 := 0#32
  let v551 : BitVec 1 := Scalar.cmpi .ne v550 c0_i32_272
  v551

def k1_mult46 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  v570
def k1_off121 (v425 : BitVec 32) (v432 : BitVec 32) (k1_t24 : Fin (k1_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k1_t25_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off122 (k1_t25 : Fin k1_t25_loop.trips) : Fin 1 → Nat :=
  let c0_i32_284 : BitVec 32 := 0#32
  let c1_i32_285 : BitVec 32 := 1#32
  let arg23 : BitVec 32 := Scf.iv c0_i32_284 c1_i32_285 k1_t25
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk53 (v425 : BitVec 32) (v432 : BitVec 32) (k1_t24 : Fin (k1_t24_loop v425 v432).trips) (v589 : IVec S16 32) (v647 : IVec S16 32) : Prop :=
  (∀ (k1_h33 : k1_cond33 v425 v432 k1_t24 = 1#1), ∀ a x, ((![v647, v589] : Fin 2 → IVec S16 32) a x).toNat < S8x4096.size a)
theorem k1_idx49_inb : ∀ (v425 : BitVec 32) (v432 : BitVec 32) (k1_t24 : Fin (k1_t24_loop v425 v432).trips) (v589 : IVec S16 32) (v647 : IVec S16 32) (k1_hw53 : k1_chk53 v425 v432 k1_t24 v589 v647), ∀ (k1_h33 : k1_cond33 v425 v432 k1_t24 = 1#1), ∀ a x, ((![v647, v589] : Fin 2 → IVec S16 32) a x).toNat < S8x4096.size a := fun v425 v432 k1_t24 v589 v647 k1_hw53 k1_h33 => k1_hw53 k1_h33
def k1_off123 (k1_t25 : Fin k1_t25_loop.trips) : Fin 1 → Nat :=
  let c0_i32_284 : BitVec 32 := 0#32
  let c1_i32_285 : BitVec 32 := 1#32
  let arg23 : BitVec 32 := Scf.iv c0_i32_284 c1_i32_285 k1_t25
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk54 (v425 : BitVec 32) (v432 : BitVec 32) (k1_t24 : Fin (k1_t24_loop v425 v432).trips) (v655 : IVec S16 32) (v713 : IVec S16 32) : Prop :=
  (∀ (k1_h33 : k1_cond33 v425 v432 k1_t24 = 1#1), ∀ a x, ((![v713, v655] : Fin 2 → IVec S16 32) a x).toNat < S8x4096.size a)
theorem k1_idx50_inb : ∀ (v425 : BitVec 32) (v432 : BitVec 32) (k1_t24 : Fin (k1_t24_loop v425 v432).trips) (v655 : IVec S16 32) (v713 : IVec S16 32) (k1_hw54 : k1_chk54 v425 v432 k1_t24 v655 v713), ∀ (k1_h33 : k1_cond33 v425 v432 k1_t24 = 1#1), ∀ a x, ((![v713, v655] : Fin 2 → IVec S16 32) a x).toNat < S8x4096.size a := fun v425 v432 k1_t24 v655 v713 k1_hw54 k1_h33 => k1_hw54 k1_h33
def k1_off124 (k1_t25 : Fin k1_t25_loop.trips) : Fin 1 → Nat :=
  let c0_i32_284 : BitVec 32 := 0#32
  let c1_i32_285 : BitVec 32 := 1#32
  let arg23 : BitVec 32 := Scf.iv c0_i32_284 c1_i32_285 k1_t25
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk55 (v425 : BitVec 32) (v432 : BitVec 32) (k1_t24 : Fin (k1_t24_loop v425 v432).trips) (v721 : IVec S16 32) (v779 : IVec S16 32) : Prop :=
  (∀ (k1_h33 : k1_cond33 v425 v432 k1_t24 = 1#1), ∀ a x, ((![v779, v721] : Fin 2 → IVec S16 32) a x).toNat < S8x4096.size a)
theorem k1_idx51_inb : ∀ (v425 : BitVec 32) (v432 : BitVec 32) (k1_t24 : Fin (k1_t24_loop v425 v432).trips) (v721 : IVec S16 32) (v779 : IVec S16 32) (k1_hw55 : k1_chk55 v425 v432 k1_t24 v721 v779), ∀ (k1_h33 : k1_cond33 v425 v432 k1_t24 = 1#1), ∀ a x, ((![v779, v721] : Fin 2 → IVec S16 32) a x).toNat < S8x4096.size a := fun v425 v432 k1_t24 v721 v779 k1_hw55 k1_h33 => k1_hw55 k1_h33
def k1_off125 (k1_t25 : Fin k1_t25_loop.trips) : Fin 1 → Nat :=
  let c0_i32_284 : BitVec 32 := 0#32
  let c1_i32_285 : BitVec 32 := 1#32
  let arg23 : BitVec 32 := Scf.iv c0_i32_284 c1_i32_285 k1_t25
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk56 (v425 : BitVec 32) (v432 : BitVec 32) (k1_t24 : Fin (k1_t24_loop v425 v432).trips) (v787 : IVec S16 32) (v845 : IVec S16 32) : Prop :=
  (∀ (k1_h33 : k1_cond33 v425 v432 k1_t24 = 1#1), ∀ a x, ((![v845, v787] : Fin 2 → IVec S16 32) a x).toNat < S8x4096.size a)
theorem k1_idx52_inb : ∀ (v425 : BitVec 32) (v432 : BitVec 32) (k1_t24 : Fin (k1_t24_loop v425 v432).trips) (v787 : IVec S16 32) (v845 : IVec S16 32) (k1_hw56 : k1_chk56 v425 v432 k1_t24 v787 v845), ∀ (k1_h33 : k1_cond33 v425 v432 k1_t24 = 1#1), ∀ a x, ((![v845, v787] : Fin 2 → IVec S16 32) a x).toNat < S8x4096.size a := fun v425 v432 k1_t24 v787 v845 k1_hw56 k1_h33 => k1_hw56 k1_h33
def k1_mult47 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k1_cond34 (v425 : BitVec 32) (v432 : BitVec 32) (k1_t24 : Fin (k1_t24_loop v425 v432).trips) : BitVec 1 :=
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v579 : BitVec 1 := Scalar.cmpi .slt v578 v455
  let v580 : BitVec 32 := Scalar.extui v579
  let c0_i32_288 : BitVec 32 := 0#32
  let v581 : BitVec 1 := Scalar.cmpi .ne v580 c0_i32_288
  v581

def k1_off126 (v425 : BitVec 32) (v432 : BitVec 32) (k1_t24 : Fin (k1_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
def k1_mult48 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v436 v557
  let c1636352_i32 : BitVec 32 := 1636352#32
  let v559 : BitVec 32 := Scalar.minsi v558 c1636352_i32
  v559
def k1_cond35 (v425 : BitVec 32) (v432 : BitVec 32) (k1_t24 : Fin (k1_t24_loop v425 v432).trips) : BitVec 1 :=
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v554 : BitVec 1 := Scalar.cmpi .slt v553 v455
  let v555 : BitVec 32 := Scalar.extui v554
  let c0_i32_275 : BitVec 32 := 0#32
  let v556 : BitVec 1 := Scalar.cmpi .ne v555 c0_i32_275
  v556

def k1_mult49 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  v570
def k1_off127 (v425 : BitVec 32) (v432 : BitVec 32) (k1_t24 : Fin (k1_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k1_t26_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off128 (k1_t26 : Fin k1_t26_loop.trips) : Fin 1 → Nat :=
  let c0_i32_284 : BitVec 32 := 0#32
  let c1_i32_285 : BitVec 32 := 1#32
  let arg23 : BitVec 32 := Scf.iv c0_i32_284 c1_i32_285 k1_t26
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk57 (v425 : BitVec 32) (v432 : BitVec 32) (k1_t24 : Fin (k1_t24_loop v425 v432).trips) (v589 : IVec S16 32) (v647 : IVec S16 32) : Prop :=
  (∀ (k1_h35 : k1_cond35 v425 v432 k1_t24 = 1#1), ∀ a x, ((![v647, v589] : Fin 2 → IVec S16 32) a x).toNat < S8x4096.size a)
theorem k1_idx53_inb : ∀ (v425 : BitVec 32) (v432 : BitVec 32) (k1_t24 : Fin (k1_t24_loop v425 v432).trips) (v589 : IVec S16 32) (v647 : IVec S16 32) (k1_hw57 : k1_chk57 v425 v432 k1_t24 v589 v647), ∀ (k1_h35 : k1_cond35 v425 v432 k1_t24 = 1#1), ∀ a x, ((![v647, v589] : Fin 2 → IVec S16 32) a x).toNat < S8x4096.size a := fun v425 v432 k1_t24 v589 v647 k1_hw57 k1_h35 => k1_hw57 k1_h35
def k1_off129 (k1_t26 : Fin k1_t26_loop.trips) : Fin 1 → Nat :=
  let c0_i32_284 : BitVec 32 := 0#32
  let c1_i32_285 : BitVec 32 := 1#32
  let arg23 : BitVec 32 := Scf.iv c0_i32_284 c1_i32_285 k1_t26
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk58 (v425 : BitVec 32) (v432 : BitVec 32) (k1_t24 : Fin (k1_t24_loop v425 v432).trips) (v655 : IVec S16 32) (v713 : IVec S16 32) : Prop :=
  (∀ (k1_h35 : k1_cond35 v425 v432 k1_t24 = 1#1), ∀ a x, ((![v713, v655] : Fin 2 → IVec S16 32) a x).toNat < S8x4096.size a)
theorem k1_idx54_inb : ∀ (v425 : BitVec 32) (v432 : BitVec 32) (k1_t24 : Fin (k1_t24_loop v425 v432).trips) (v655 : IVec S16 32) (v713 : IVec S16 32) (k1_hw58 : k1_chk58 v425 v432 k1_t24 v655 v713), ∀ (k1_h35 : k1_cond35 v425 v432 k1_t24 = 1#1), ∀ a x, ((![v713, v655] : Fin 2 → IVec S16 32) a x).toNat < S8x4096.size a := fun v425 v432 k1_t24 v655 v713 k1_hw58 k1_h35 => k1_hw58 k1_h35
def k1_off130 (k1_t26 : Fin k1_t26_loop.trips) : Fin 1 → Nat :=
  let c0_i32_284 : BitVec 32 := 0#32
  let c1_i32_285 : BitVec 32 := 1#32
  let arg23 : BitVec 32 := Scf.iv c0_i32_284 c1_i32_285 k1_t26
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk59 (v425 : BitVec 32) (v432 : BitVec 32) (k1_t24 : Fin (k1_t24_loop v425 v432).trips) (v721 : IVec S16 32) (v779 : IVec S16 32) : Prop :=
  (∀ (k1_h35 : k1_cond35 v425 v432 k1_t24 = 1#1), ∀ a x, ((![v779, v721] : Fin 2 → IVec S16 32) a x).toNat < S8x4096.size a)
theorem k1_idx55_inb : ∀ (v425 : BitVec 32) (v432 : BitVec 32) (k1_t24 : Fin (k1_t24_loop v425 v432).trips) (v721 : IVec S16 32) (v779 : IVec S16 32) (k1_hw59 : k1_chk59 v425 v432 k1_t24 v721 v779), ∀ (k1_h35 : k1_cond35 v425 v432 k1_t24 = 1#1), ∀ a x, ((![v779, v721] : Fin 2 → IVec S16 32) a x).toNat < S8x4096.size a := fun v425 v432 k1_t24 v721 v779 k1_hw59 k1_h35 => k1_hw59 k1_h35
def k1_off131 (k1_t26 : Fin k1_t26_loop.trips) : Fin 1 → Nat :=
  let c0_i32_284 : BitVec 32 := 0#32
  let c1_i32_285 : BitVec 32 := 1#32
  let arg23 : BitVec 32 := Scf.iv c0_i32_284 c1_i32_285 k1_t26
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk60 (v425 : BitVec 32) (v432 : BitVec 32) (k1_t24 : Fin (k1_t24_loop v425 v432).trips) (v787 : IVec S16 32) (v845 : IVec S16 32) : Prop :=
  (∀ (k1_h35 : k1_cond35 v425 v432 k1_t24 = 1#1), ∀ a x, ((![v845, v787] : Fin 2 → IVec S16 32) a x).toNat < S8x4096.size a)
theorem k1_idx56_inb : ∀ (v425 : BitVec 32) (v432 : BitVec 32) (k1_t24 : Fin (k1_t24_loop v425 v432).trips) (v787 : IVec S16 32) (v845 : IVec S16 32) (k1_hw60 : k1_chk60 v425 v432 k1_t24 v787 v845), ∀ (k1_h35 : k1_cond35 v425 v432 k1_t24 = 1#1), ∀ a x, ((![v845, v787] : Fin 2 → IVec S16 32) a x).toNat < S8x4096.size a := fun v425 v432 k1_t24 v787 v845 k1_hw60 k1_h35 => k1_hw60 k1_h35
def k1_mult50 (v425 : BitVec 32) (v432 : BitVec 32) (k1_t24 : Fin (k1_t24_loop v425 v432).trips) : BitVec 32 :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k1_cond36 (v425 : BitVec 32) (v432 : BitVec 32) (k1_t24 : Fin (k1_t24_loop v425 v432).trips) : BitVec 1 :=
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let v579 : BitVec 1 := Scalar.cmpi .slt v578 v455
  let v580 : BitVec 32 := Scalar.extui v579
  let c0_i32_288 : BitVec 32 := 0#32
  let v581 : BitVec 1 := Scalar.cmpi .ne v580 c0_i32_288
  v581

def k1_off132 (v425 : BitVec 32) (v432 : BitVec 32) (k1_t24 : Fin (k1_t24_loop v425 v432).trips) : Fin 1 → Nat :=
  let c_m8_i32_212 : BitVec 32 := 4294967288#32
  let v436 : BitVec 32 := Scalar.andi v425 c_m8_i32_212
  let c0_i32_262 : BitVec 32 := 0#32
  let c1_i32_265 : BitVec 32 := 1#32
  let arg21 : BitVec 32 := Scf.iv c0_i32_262 c1_i32_265 k1_t24
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
@[reducible] def k1_t27_loop (v425 : BitVec 32) (v432 : BitVec 32) : Scf.Loop 32 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let v539 : BitVec 32 := Scalar.addi c0_i32_262 v538
  let c1_i32_266 : BitVec 32 := 1#32
  ⟨v542, v539, c1_i32_266⟩
def k1_mult51 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_277 : BitVec 32 := 2048#32
  let v557 : BitVec 32 := Scalar.muli v548 c2048_i32_277
  let v558 : BitVec 32 := Scalar.addi v436 v557
  let c1636352_i32 : BitVec 32 := 1636352#32
  let v559 : BitVec 32 := Scalar.minsi v558 c1636352_i32
  v559
def k1_cond37 (v425 : BitVec 32) (v432 : BitVec 32) (k1_t27 : Fin (k1_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let v549 : BitVec 1 := Scalar.cmpi .slt v548 v455
  let v550 : BitVec 32 := Scalar.extui v549
  let c0_i32_272 : BitVec 32 := 0#32
  let v551 : BitVec 1 := Scalar.cmpi .ne v550 c0_i32_272
  v551

def k1_mult52 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  v570
def k1_off133 (v425 : BitVec 32) (v432 : BitVec 32) (k1_t27 : Fin (k1_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2048_i32_281 : BitVec 32 := 2048#32
  let v568 : BitVec 32 := Scalar.muli v548 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k1_t28_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off134 (k1_t28 : Fin k1_t28_loop.trips) : Fin 1 → Nat :=
  let c0_i32_284 : BitVec 32 := 0#32
  let c1_i32_285 : BitVec 32 := 1#32
  let arg23 : BitVec 32 := Scf.iv c0_i32_284 c1_i32_285 k1_t28
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk61 (v425 : BitVec 32) (v432 : BitVec 32) (k1_t27 : Fin (k1_t27_loop v425 v432).trips) (v589 : IVec S16 32) (v647 : IVec S16 32) : Prop :=
  (∀ (k1_h37 : k1_cond37 v425 v432 k1_t27 = 1#1), ∀ a x, ((![v647, v589] : Fin 2 → IVec S16 32) a x).toNat < S8x4096.size a)
theorem k1_idx57_inb : ∀ (v425 : BitVec 32) (v432 : BitVec 32) (k1_t27 : Fin (k1_t27_loop v425 v432).trips) (v589 : IVec S16 32) (v647 : IVec S16 32) (k1_hw61 : k1_chk61 v425 v432 k1_t27 v589 v647), ∀ (k1_h37 : k1_cond37 v425 v432 k1_t27 = 1#1), ∀ a x, ((![v647, v589] : Fin 2 → IVec S16 32) a x).toNat < S8x4096.size a := fun v425 v432 k1_t27 v589 v647 k1_hw61 k1_h37 => k1_hw61 k1_h37
def k1_off135 (k1_t28 : Fin k1_t28_loop.trips) : Fin 1 → Nat :=
  let c0_i32_284 : BitVec 32 := 0#32
  let c1_i32_285 : BitVec 32 := 1#32
  let arg23 : BitVec 32 := Scf.iv c0_i32_284 c1_i32_285 k1_t28
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk62 (v425 : BitVec 32) (v432 : BitVec 32) (k1_t27 : Fin (k1_t27_loop v425 v432).trips) (v655 : IVec S16 32) (v713 : IVec S16 32) : Prop :=
  (∀ (k1_h37 : k1_cond37 v425 v432 k1_t27 = 1#1), ∀ a x, ((![v713, v655] : Fin 2 → IVec S16 32) a x).toNat < S8x4096.size a)
theorem k1_idx58_inb : ∀ (v425 : BitVec 32) (v432 : BitVec 32) (k1_t27 : Fin (k1_t27_loop v425 v432).trips) (v655 : IVec S16 32) (v713 : IVec S16 32) (k1_hw62 : k1_chk62 v425 v432 k1_t27 v655 v713), ∀ (k1_h37 : k1_cond37 v425 v432 k1_t27 = 1#1), ∀ a x, ((![v713, v655] : Fin 2 → IVec S16 32) a x).toNat < S8x4096.size a := fun v425 v432 k1_t27 v655 v713 k1_hw62 k1_h37 => k1_hw62 k1_h37
def k1_off136 (k1_t28 : Fin k1_t28_loop.trips) : Fin 1 → Nat :=
  let c0_i32_284 : BitVec 32 := 0#32
  let c1_i32_285 : BitVec 32 := 1#32
  let arg23 : BitVec 32 := Scf.iv c0_i32_284 c1_i32_285 k1_t28
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk63 (v425 : BitVec 32) (v432 : BitVec 32) (k1_t27 : Fin (k1_t27_loop v425 v432).trips) (v721 : IVec S16 32) (v779 : IVec S16 32) : Prop :=
  (∀ (k1_h37 : k1_cond37 v425 v432 k1_t27 = 1#1), ∀ a x, ((![v779, v721] : Fin 2 → IVec S16 32) a x).toNat < S8x4096.size a)
theorem k1_idx59_inb : ∀ (v425 : BitVec 32) (v432 : BitVec 32) (k1_t27 : Fin (k1_t27_loop v425 v432).trips) (v721 : IVec S16 32) (v779 : IVec S16 32) (k1_hw63 : k1_chk63 v425 v432 k1_t27 v721 v779), ∀ (k1_h37 : k1_cond37 v425 v432 k1_t27 = 1#1), ∀ a x, ((![v779, v721] : Fin 2 → IVec S16 32) a x).toNat < S8x4096.size a := fun v425 v432 k1_t27 v721 v779 k1_hw63 k1_h37 => k1_hw63 k1_h37
def k1_off137 (k1_t28 : Fin k1_t28_loop.trips) : Fin 1 → Nat :=
  let c0_i32_284 : BitVec 32 := 0#32
  let c1_i32_285 : BitVec 32 := 1#32
  let arg23 : BitVec 32 := Scf.iv c0_i32_284 c1_i32_285 k1_t28
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk64 (v425 : BitVec 32) (v432 : BitVec 32) (k1_t27 : Fin (k1_t27_loop v425 v432).trips) (v787 : IVec S16 32) (v845 : IVec S16 32) : Prop :=
  (∀ (k1_h37 : k1_cond37 v425 v432 k1_t27 = 1#1), ∀ a x, ((![v845, v787] : Fin 2 → IVec S16 32) a x).toNat < S8x4096.size a)
theorem k1_idx60_inb : ∀ (v425 : BitVec 32) (v432 : BitVec 32) (k1_t27 : Fin (k1_t27_loop v425 v432).trips) (v787 : IVec S16 32) (v845 : IVec S16 32) (k1_hw64 : k1_chk64 v425 v432 k1_t27 v787 v845), ∀ (k1_h37 : k1_cond37 v425 v432 k1_t27 = 1#1), ∀ a x, ((![v845, v787] : Fin 2 → IVec S16 32) a x).toNat < S8x4096.size a := fun v425 v432 k1_t27 v787 v845 k1_hw64 k1_h37 => k1_hw64 k1_h37
def k1_mult53 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k1_cond38 (v425 : BitVec 32) (v432 : BitVec 32) (k1_t27 : Fin (k1_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_287 : BitVec 32 := 2#32
  let v578 : BitVec 32 := Scalar.addi v548 c2_i32_287
  let v579 : BitVec 1 := Scalar.cmpi .slt v578 v455
  let v580 : BitVec 32 := Scalar.extui v579
  let c0_i32_288 : BitVec 32 := 0#32
  let v581 : BitVec 1 := Scalar.cmpi .ne v580 c0_i32_288
  v581

def k1_off138 (v425 : BitVec 32) (v432 : BitVec 32) (k1_t27 : Fin (k1_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_270 : BitVec 32 := 2#32
  let v547 : BitVec 32 := Scalar.muli arg21 c2_i32_270
  let c0_i32_271 : BitVec 32 := 0#32
  let v548 : BitVec 32 := Scalar.addi v547 c0_i32_271
  let c2_i32_289 : BitVec 32 := 2#32
  let v582 : BitVec 32 := Scalar.addi v548 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]
def k1_mult54 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_277 : BitVec 32 := 2048#32
  let v557 : BitVec 32 := Scalar.muli v553 c2048_i32_277
  let v558 : BitVec 32 := Scalar.addi v436 v557
  let c1636352_i32 : BitVec 32 := 1636352#32
  let v559 : BitVec 32 := Scalar.minsi v558 c1636352_i32
  v559
def k1_cond39 (v425 : BitVec 32) (v432 : BitVec 32) (k1_t27 : Fin (k1_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let v554 : BitVec 1 := Scalar.cmpi .slt v553 v455
  let v555 : BitVec 32 := Scalar.extui v554
  let c0_i32_275 : BitVec 32 := 0#32
  let v556 : BitVec 1 := Scalar.cmpi .ne v555 c0_i32_275
  v556

def k1_mult55 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  v570
def k1_off139 (v425 : BitVec 32) (v432 : BitVec 32) (k1_t27 : Fin (k1_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2048_i32_281 : BitVec 32 := 2048#32
  let v568 : BitVec 32 := Scalar.muli v553 c2048_i32_281
  let v569 : BitVec 32 := Scalar.addi v436 v568
  let c1636352_i32_282 : BitVec 32 := 1636352#32
  let v570 : BitVec 32 := Scalar.minsi v569 c1636352_i32_282
  let v571 : BitVec 32 := v570
  ![v571.toNat]
@[reducible] def k1_t29_loop : Scf.Loop 32 :=
  let c0_i32_284 : BitVec 32 := 0#32
  let c32_i32 : BitVec 32 := 32#32
  let v576 : BitVec 32 := Scalar.addi c0_i32_284 c32_i32
  let c1_i32_285 : BitVec 32 := 1#32
  ⟨c0_i32_284, v576, c1_i32_285⟩
def k1_off140 (k1_t29 : Fin k1_t29_loop.trips) : Fin 1 → Nat :=
  let c0_i32_284 : BitVec 32 := 0#32
  let c1_i32_285 : BitVec 32 := 1#32
  let arg23 : BitVec 32 := Scf.iv c0_i32_284 c1_i32_285 k1_t29
  let c4_i32_289 : BitVec 32 := 4#32
  let v582 : BitVec 32 := Scalar.muli arg23 c4_i32_289
  let c0_i32_290 : BitVec 32 := 0#32
  let v583 : BitVec 32 := Scalar.addi v582 c0_i32_290
  let c16_i32_291 : BitVec 32 := 16#32
  let v584 : BitVec 32 := Scalar.muli v583 c16_i32_291
  let v588 : Index := Scalar.indexCast v584
  ![v588.toNat]

def k1_chk65 (v425 : BitVec 32) (v432 : BitVec 32) (k1_t27 : Fin (k1_t27_loop v425 v432).trips) (v589 : IVec S16 32) (v647 : IVec S16 32) : Prop :=
  (∀ (k1_h39 : k1_cond39 v425 v432 k1_t27 = 1#1), ∀ a x, ((![v647, v589] : Fin 2 → IVec S16 32) a x).toNat < S8x4096.size a)
theorem k1_idx61_inb : ∀ (v425 : BitVec 32) (v432 : BitVec 32) (k1_t27 : Fin (k1_t27_loop v425 v432).trips) (v589 : IVec S16 32) (v647 : IVec S16 32) (k1_hw65 : k1_chk65 v425 v432 k1_t27 v589 v647), ∀ (k1_h39 : k1_cond39 v425 v432 k1_t27 = 1#1), ∀ a x, ((![v647, v589] : Fin 2 → IVec S16 32) a x).toNat < S8x4096.size a := fun v425 v432 k1_t27 v589 v647 k1_hw65 k1_h39 => k1_hw65 k1_h39
def k1_off141 (k1_t29 : Fin k1_t29_loop.trips) : Fin 1 → Nat :=
  let c0_i32_284 : BitVec 32 := 0#32
  let c1_i32_285 : BitVec 32 := 1#32
  let arg23 : BitVec 32 := Scf.iv c0_i32_284 c1_i32_285 k1_t29
  let c4_i32_310 : BitVec 32 := 4#32
  let v648 : BitVec 32 := Scalar.muli arg23 c4_i32_310
  let c1_i32_311 : BitVec 32 := 1#32
  let v649 : BitVec 32 := Scalar.addi v648 c1_i32_311
  let c16_i32_312 : BitVec 32 := 16#32
  let v650 : BitVec 32 := Scalar.muli v649 c16_i32_312
  let v654 : Index := Scalar.indexCast v650
  ![v654.toNat]

def k1_chk66 (v425 : BitVec 32) (v432 : BitVec 32) (k1_t27 : Fin (k1_t27_loop v425 v432).trips) (v655 : IVec S16 32) (v713 : IVec S16 32) : Prop :=
  (∀ (k1_h39 : k1_cond39 v425 v432 k1_t27 = 1#1), ∀ a x, ((![v713, v655] : Fin 2 → IVec S16 32) a x).toNat < S8x4096.size a)
theorem k1_idx62_inb : ∀ (v425 : BitVec 32) (v432 : BitVec 32) (k1_t27 : Fin (k1_t27_loop v425 v432).trips) (v655 : IVec S16 32) (v713 : IVec S16 32) (k1_hw66 : k1_chk66 v425 v432 k1_t27 v655 v713), ∀ (k1_h39 : k1_cond39 v425 v432 k1_t27 = 1#1), ∀ a x, ((![v713, v655] : Fin 2 → IVec S16 32) a x).toNat < S8x4096.size a := fun v425 v432 k1_t27 v655 v713 k1_hw66 k1_h39 => k1_hw66 k1_h39
def k1_off142 (k1_t29 : Fin k1_t29_loop.trips) : Fin 1 → Nat :=
  let c0_i32_284 : BitVec 32 := 0#32
  let c1_i32_285 : BitVec 32 := 1#32
  let arg23 : BitVec 32 := Scf.iv c0_i32_284 c1_i32_285 k1_t29
  let c4_i32_331 : BitVec 32 := 4#32
  let v714 : BitVec 32 := Scalar.muli arg23 c4_i32_331
  let c2_i32_332 : BitVec 32 := 2#32
  let v715 : BitVec 32 := Scalar.addi v714 c2_i32_332
  let c16_i32_333 : BitVec 32 := 16#32
  let v716 : BitVec 32 := Scalar.muli v715 c16_i32_333
  let v720 : Index := Scalar.indexCast v716
  ![v720.toNat]

def k1_chk67 (v425 : BitVec 32) (v432 : BitVec 32) (k1_t27 : Fin (k1_t27_loop v425 v432).trips) (v721 : IVec S16 32) (v779 : IVec S16 32) : Prop :=
  (∀ (k1_h39 : k1_cond39 v425 v432 k1_t27 = 1#1), ∀ a x, ((![v779, v721] : Fin 2 → IVec S16 32) a x).toNat < S8x4096.size a)
theorem k1_idx63_inb : ∀ (v425 : BitVec 32) (v432 : BitVec 32) (k1_t27 : Fin (k1_t27_loop v425 v432).trips) (v721 : IVec S16 32) (v779 : IVec S16 32) (k1_hw67 : k1_chk67 v425 v432 k1_t27 v721 v779), ∀ (k1_h39 : k1_cond39 v425 v432 k1_t27 = 1#1), ∀ a x, ((![v779, v721] : Fin 2 → IVec S16 32) a x).toNat < S8x4096.size a := fun v425 v432 k1_t27 v721 v779 k1_hw67 k1_h39 => k1_hw67 k1_h39
def k1_off143 (k1_t29 : Fin k1_t29_loop.trips) : Fin 1 → Nat :=
  let c0_i32_284 : BitVec 32 := 0#32
  let c1_i32_285 : BitVec 32 := 1#32
  let arg23 : BitVec 32 := Scf.iv c0_i32_284 c1_i32_285 k1_t29
  let c4_i32_352 : BitVec 32 := 4#32
  let v780 : BitVec 32 := Scalar.muli arg23 c4_i32_352
  let c3_i32_353 : BitVec 32 := 3#32
  let v781 : BitVec 32 := Scalar.addi v780 c3_i32_353
  let c16_i32_354 : BitVec 32 := 16#32
  let v782 : BitVec 32 := Scalar.muli v781 c16_i32_354
  let v786 : Index := Scalar.indexCast v782
  ![v786.toNat]

def k1_chk68 (v425 : BitVec 32) (v432 : BitVec 32) (k1_t27 : Fin (k1_t27_loop v425 v432).trips) (v787 : IVec S16 32) (v845 : IVec S16 32) : Prop :=
  (∀ (k1_h39 : k1_cond39 v425 v432 k1_t27 = 1#1), ∀ a x, ((![v845, v787] : Fin 2 → IVec S16 32) a x).toNat < S8x4096.size a)
theorem k1_idx64_inb : ∀ (v425 : BitVec 32) (v432 : BitVec 32) (k1_t27 : Fin (k1_t27_loop v425 v432).trips) (v787 : IVec S16 32) (v845 : IVec S16 32) (k1_hw68 : k1_chk68 v425 v432 k1_t27 v787 v845), ∀ (k1_h39 : k1_cond39 v425 v432 k1_t27 = 1#1), ∀ a x, ((![v845, v787] : Fin 2 → IVec S16 32) a x).toNat < S8x4096.size a := fun v425 v432 k1_t27 v787 v845 k1_hw68 k1_h39 => k1_hw68 k1_h39
def k1_mult56 (v425 : BitVec 32) (v432 : BitVec 32) (k1_t27 : Fin (k1_t27_loop v425 v432).trips) : BitVec 32 :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  v585
def k1_cond40 (v425 : BitVec 32) (v432 : BitVec 32) (k1_t27 : Fin (k1_t27_loop v425 v432).trips) : BitVec 1 :=
  let c0_i32_262 : BitVec 32 := 0#32
  let c_m8_i32_212 : BitVec 32 := 4294967288#32
  let v436 : BitVec 32 := Scalar.andi v425 c_m8_i32_212
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_287 : BitVec 32 := 2#32
  let v578 : BitVec 32 := Scalar.addi v553 c2_i32_287
  let v579 : BitVec 1 := Scalar.cmpi .slt v578 v455
  let v580 : BitVec 32 := Scalar.extui v579
  let c0_i32_288 : BitVec 32 := 0#32
  let v581 : BitVec 1 := Scalar.cmpi .ne v580 c0_i32_288
  v581

def k1_off144 (v425 : BitVec 32) (v432 : BitVec 32) (k1_t27 : Fin (k1_t27_loop v425 v432).trips) : Fin 1 → Nat :=
  let c_m8_i32_212 : BitVec 32 := 4294967288#32
  let v436 : BitVec 32 := Scalar.andi v425 c_m8_i32_212
  let c0_i32_262 : BitVec 32 := 0#32
  let v437 : BitVec 32 := Scalar.subi v432 v436
  let c2047_i32_213 : BitVec 32 := 2047#32
  let v438 : BitVec 32 := Scalar.addi v437 c2047_i32_213
  let c0_i32_215 : BitVec 32 := 0#32
  let v440 : BitVec 1 := Scalar.cmpi .sgt v438 c0_i32_215
  let v441 : BitVec 32 := Scalar.extui v440
  let c0_i32_216 : BitVec 32 := 0#32
  let v442 : BitVec 1 := Scalar.cmpi .slt v438 c0_i32_216
  let v443 : BitVec 32 := Scalar.extui v442
  let v444 : BitVec 32 := Scalar.subi v441 v443
  let c2048_i32_214 : BitVec 32 := 2048#32
  let c0_i32_217 : BitVec 32 := 0#32
  let v445 : BitVec 1 := Scalar.cmpi .sgt c2048_i32_214 c0_i32_217
  let v446 : BitVec 32 := Scalar.extui v445
  let c0_i32_218 : BitVec 32 := 0#32
  let v447 : BitVec 1 := Scalar.cmpi .slt c2048_i32_214 c0_i32_218
  let v448 : BitVec 32 := Scalar.extui v447
  let v449 : BitVec 32 := Scalar.subi v446 v448
  let v450 : BitVec 1 := Scalar.cmpi .ne v444 v449
  let v451 : BitVec 32 := Scalar.remsi v438 c2048_i32_214
  let c0_i32_219 : BitVec 32 := 0#32
  let v452 : BitVec 1 := Scalar.cmpi .ne v451 c0_i32_219
  let v453 : BitVec 1 := Scalar.andi v450 v452
  let v439 : BitVec 32 := Scalar.divsi v438 c2048_i32_214
  let c1_i32_220 : BitVec 32 := 1#32
  let v454 : BitVec 32 := Scalar.subi v439 c1_i32_220
  let v455 : BitVec 32 := Scalar.select v453 v454 v439
  let c1_i32_254 : BitVec 32 := 1#32
  let v520 : BitVec 32 := Scalar.addi v455 c1_i32_254
  let c0_i32_256 : BitVec 32 := 0#32
  let v522 : BitVec 1 := Scalar.cmpi .sgt v520 c0_i32_256
  let v523 : BitVec 32 := Scalar.extui v522
  let c0_i32_257 : BitVec 32 := 0#32
  let v524 : BitVec 1 := Scalar.cmpi .slt v520 c0_i32_257
  let v525 : BitVec 32 := Scalar.extui v524
  let v526 : BitVec 32 := Scalar.subi v523 v525
  let c2_i32_255 : BitVec 32 := 2#32
  let c0_i32_258 : BitVec 32 := 0#32
  let v527 : BitVec 1 := Scalar.cmpi .sgt c2_i32_255 c0_i32_258
  let v528 : BitVec 32 := Scalar.extui v527
  let c0_i32_259 : BitVec 32 := 0#32
  let v529 : BitVec 1 := Scalar.cmpi .slt c2_i32_255 c0_i32_259
  let v530 : BitVec 32 := Scalar.extui v529
  let v531 : BitVec 32 := Scalar.subi v528 v530
  let v532 : BitVec 1 := Scalar.cmpi .ne v526 v531
  let v533 : BitVec 32 := Scalar.remsi v520 c2_i32_255
  let c0_i32_260 : BitVec 32 := 0#32
  let v534 : BitVec 1 := Scalar.cmpi .ne v533 c0_i32_260
  let v535 : BitVec 1 := Scalar.andi v532 v534
  let v521 : BitVec 32 := Scalar.divsi v520 c2_i32_255
  let c1_i32_261 : BitVec 32 := 1#32
  let v536 : BitVec 32 := Scalar.subi v521 c1_i32_261
  let v537 : BitVec 32 := Scalar.select v535 v536 v521
  let v538 : BitVec 32 := Scalar.subi v537 c0_i32_262
  let c1_i32_264 : BitVec 32 := 1#32
  let v540 : BitVec 32 := Scalar.divsi v538 c1_i32_264
  let v541 : BitVec 32 := Scalar.muli v540 c1_i32_264
  let v542 : BitVec 32 := Scalar.addi c0_i32_262 v541
  let c1_i32_266 : BitVec 32 := 1#32
  let arg21 : BitVec 32 := Scf.iv v542 c1_i32_266 k1_t27
  let c2_i32_273 : BitVec 32 := 2#32
  let v552 : BitVec 32 := Scalar.muli arg21 c2_i32_273
  let c1_i32_274 : BitVec 32 := 1#32
  let v553 : BitVec 32 := Scalar.addi v552 c1_i32_274
  let c2_i32_289 : BitVec 32 := 2#32
  let v582 : BitVec 32 := Scalar.addi v553 c2_i32_289
  let c2048_i32_290 : BitVec 32 := 2048#32
  let v583 : BitVec 32 := Scalar.muli v582 c2048_i32_290
  let v584 : BitVec 32 := Scalar.addi v436 v583
  let c1636352_i32_291 : BitVec 32 := 1636352#32
  let v585 : BitVec 32 := Scalar.minsi v584 c1636352_i32_291
  let v586 : BitVec 32 := v585
  ![v586.toNat]

def k1_chk52 (v425 : BitVec 32) (v432 : BitVec 32) : Prop :=
  (∀ (k1_h31 : k1_cond31 v425 v432 = 1#1), 8 ∣ (k1_mult43 v425).toNat) ∧
  (∀ (k1_h31 : k1_cond31 v425 v432 = 1#1), ∀ a, (k1_off111 v425) a + S2048.size a ≤ S1638400.size a) ∧
  (∀ (k1_h32 : k1_cond32 v425 v432 = 1#1), 8 ∣ (k1_mult44 v425).toNat) ∧
  (∀ (k1_h32 : k1_cond32 v425 v432 = 1#1), ∀ a, (k1_off112 v425) a + S2048.size a ≤ S1638400.size a) ∧
  ((k1_t24_loop v425 v432).OK) ∧
  (∀ k1_t24 : Fin (k1_t24_loop v425 v432).trips, ∀ (k1_h33 : k1_cond33 v425 v432 k1_t24 = 1#1), 8 ∣ (k1_mult45 v425 v432 k1_t24).toNat) ∧
  (∀ k1_t24 : Fin (k1_t24_loop v425 v432).trips, ∀ (k1_h33 : k1_cond33 v425 v432 k1_t24 = 1#1), 8 ∣ (k1_mult46 v425 v432 k1_t24).toNat) ∧
  (∀ k1_t24 : Fin (k1_t24_loop v425 v432).trips, ∀ (k1_h33 : k1_cond33 v425 v432 k1_t24 = 1#1), ∀ a, (k1_off121 v425 v432 k1_t24) a + S2048.size a ≤ S1638400.size a) ∧
  (∀ k1_t24 : Fin (k1_t24_loop v425 v432).trips, ∀ (k1_h33 : k1_cond33 v425 v432 k1_t24 = 1#1), ∀ (k1_h34 : k1_cond34 v425 v432 k1_t24 = 1#1), 8 ∣ (k1_mult47 v425 v432 k1_t24).toNat) ∧
  (∀ k1_t24 : Fin (k1_t24_loop v425 v432).trips, ∀ (k1_h33 : k1_cond33 v425 v432 k1_t24 = 1#1), ∀ (k1_h34 : k1_cond34 v425 v432 k1_t24 = 1#1), ∀ a, (k1_off126 v425 v432 k1_t24) a + S2048.size a ≤ S1638400.size a) ∧
  (∀ k1_t24 : Fin (k1_t24_loop v425 v432).trips, ∀ (k1_h35 : k1_cond35 v425 v432 k1_t24 = 1#1), 8 ∣ (k1_mult48 v425 v432 k1_t24).toNat) ∧
  (∀ k1_t24 : Fin (k1_t24_loop v425 v432).trips, ∀ (k1_h35 : k1_cond35 v425 v432 k1_t24 = 1#1), 8 ∣ (k1_mult49 v425 v432 k1_t24).toNat) ∧
  (∀ k1_t24 : Fin (k1_t24_loop v425 v432).trips, ∀ (k1_h35 : k1_cond35 v425 v432 k1_t24 = 1#1), ∀ a, (k1_off127 v425 v432 k1_t24) a + S2048.size a ≤ S1638400.size a) ∧
  (∀ k1_t24 : Fin (k1_t24_loop v425 v432).trips, ∀ (k1_h35 : k1_cond35 v425 v432 k1_t24 = 1#1), ∀ (k1_h36 : k1_cond36 v425 v432 k1_t24 = 1#1), 8 ∣ (k1_mult50 v425 v432 k1_t24).toNat) ∧
  (∀ k1_t24 : Fin (k1_t24_loop v425 v432).trips, ∀ (k1_h35 : k1_cond35 v425 v432 k1_t24 = 1#1), ∀ (k1_h36 : k1_cond36 v425 v432 k1_t24 = 1#1), ∀ a, (k1_off132 v425 v432 k1_t24) a + S2048.size a ≤ S1638400.size a) ∧
  ((k1_t27_loop v425 v432).OK) ∧
  (∀ k1_t27 : Fin (k1_t27_loop v425 v432).trips, ∀ (k1_h37 : k1_cond37 v425 v432 k1_t27 = 1#1), 8 ∣ (k1_mult51 v425 v432 k1_t27).toNat) ∧
  (∀ k1_t27 : Fin (k1_t27_loop v425 v432).trips, ∀ (k1_h37 : k1_cond37 v425 v432 k1_t27 = 1#1), 8 ∣ (k1_mult52 v425 v432 k1_t27).toNat) ∧
  (∀ k1_t27 : Fin (k1_t27_loop v425 v432).trips, ∀ (k1_h37 : k1_cond37 v425 v432 k1_t27 = 1#1), ∀ a, (k1_off133 v425 v432 k1_t27) a + S2048.size a ≤ S1638400.size a) ∧
  (∀ k1_t27 : Fin (k1_t27_loop v425 v432).trips, ∀ (k1_h37 : k1_cond37 v425 v432 k1_t27 = 1#1), ∀ (k1_h38 : k1_cond38 v425 v432 k1_t27 = 1#1), 8 ∣ (k1_mult53 v425 v432 k1_t27).toNat) ∧
  (∀ k1_t27 : Fin (k1_t27_loop v425 v432).trips, ∀ (k1_h37 : k1_cond37 v425 v432 k1_t27 = 1#1), ∀ (k1_h38 : k1_cond38 v425 v432 k1_t27 = 1#1), ∀ a, (k1_off138 v425 v432 k1_t27) a + S2048.size a ≤ S1638400.size a) ∧
  (∀ k1_t27 : Fin (k1_t27_loop v425 v432).trips, ∀ (k1_h39 : k1_cond39 v425 v432 k1_t27 = 1#1), 8 ∣ (k1_mult54 v425 v432 k1_t27).toNat) ∧
  (∀ k1_t27 : Fin (k1_t27_loop v425 v432).trips, ∀ (k1_h39 : k1_cond39 v425 v432 k1_t27 = 1#1), 8 ∣ (k1_mult55 v425 v432 k1_t27).toNat) ∧
  (∀ k1_t27 : Fin (k1_t27_loop v425 v432).trips, ∀ (k1_h39 : k1_cond39 v425 v432 k1_t27 = 1#1), ∀ a, (k1_off139 v425 v432 k1_t27) a + S2048.size a ≤ S1638400.size a) ∧
  (∀ k1_t27 : Fin (k1_t27_loop v425 v432).trips, ∀ (k1_h39 : k1_cond39 v425 v432 k1_t27 = 1#1), ∀ (k1_h40 : k1_cond40 v425 v432 k1_t27 = 1#1), 8 ∣ (k1_mult56 v425 v432 k1_t27).toNat) ∧
  (∀ k1_t27 : Fin (k1_t27_loop v425 v432).trips, ∀ (k1_h39 : k1_cond39 v425 v432 k1_t27 = 1#1), ∀ (k1_h40 : k1_cond40 v425 v432 k1_t27 = 1#1), ∀ a, (k1_off144 v425 v432 k1_t27) a + S2048.size a ≤ S1638400.size a)
theorem k1_mult43_dvd : ∀ (v425 : BitVec 32) (v432 : BitVec 32) (k1_hw52 : k1_chk52 v425 v432), ∀ (k1_h31 : k1_cond31 v425 v432 = 1#1), 8 ∣ (k1_mult43 v425).toNat := fun v425 v432 k1_hw52 k1_h31 => k1_hw52.1 k1_h31
theorem k1_off111_inb : ∀ (v425 : BitVec 32) (v432 : BitVec 32) (k1_hw52 : k1_chk52 v425 v432), ∀ (k1_h31 : k1_cond31 v425 v432 = 1#1), ∀ a, (k1_off111 v425) a + S2048.size a ≤ S1638400.size a := fun v425 v432 k1_hw52 k1_h31 => k1_hw52.2.1 k1_h31
theorem k1_mult44_dvd : ∀ (v425 : BitVec 32) (v432 : BitVec 32) (k1_hw52 : k1_chk52 v425 v432), ∀ (k1_h32 : k1_cond32 v425 v432 = 1#1), 8 ∣ (k1_mult44 v425).toNat := fun v425 v432 k1_hw52 k1_h32 => k1_hw52.2.2.1 k1_h32
theorem k1_off112_inb : ∀ (v425 : BitVec 32) (v432 : BitVec 32) (k1_hw52 : k1_chk52 v425 v432), ∀ (k1_h32 : k1_cond32 v425 v432 = 1#1), ∀ a, (k1_off112 v425) a + S2048.size a ≤ S1638400.size a := fun v425 v432 k1_hw52 k1_h32 => k1_hw52.2.2.2.1 k1_h32
theorem k1_t24_ok : ∀ (v425 : BitVec 32) (v432 : BitVec 32) (k1_hw52 : k1_chk52 v425 v432), (k1_t24_loop v425 v432).OK := fun v425 v432 k1_hw52 => k1_hw52.2.2.2.2.1
theorem k1_mult45_dvd : ∀ (v425 : BitVec 32) (v432 : BitVec 32) (k1_hw52 : k1_chk52 v425 v432) (k1_t24 : Fin (k1_t24_loop v425 v432).trips), ∀ (k1_h33 : k1_cond33 v425 v432 k1_t24 = 1#1), 8 ∣ (k1_mult45 v425 v432 k1_t24).toNat := fun v425 v432 k1_hw52 k1_t24 k1_h33 => k1_hw52.2.2.2.2.2.1 k1_t24 k1_h33
theorem k1_mult46_dvd : ∀ (v425 : BitVec 32) (v432 : BitVec 32) (k1_hw52 : k1_chk52 v425 v432) (k1_t24 : Fin (k1_t24_loop v425 v432).trips), ∀ (k1_h33 : k1_cond33 v425 v432 k1_t24 = 1#1), 8 ∣ (k1_mult46 v425 v432 k1_t24).toNat := fun v425 v432 k1_hw52 k1_t24 k1_h33 => k1_hw52.2.2.2.2.2.2.1 k1_t24 k1_h33
theorem k1_off121_inb : ∀ (v425 : BitVec 32) (v432 : BitVec 32) (k1_hw52 : k1_chk52 v425 v432) (k1_t24 : Fin (k1_t24_loop v425 v432).trips), ∀ (k1_h33 : k1_cond33 v425 v432 k1_t24 = 1#1), ∀ a, (k1_off121 v425 v432 k1_t24) a + S2048.size a ≤ S1638400.size a := fun v425 v432 k1_hw52 k1_t24 k1_h33 => k1_hw52.2.2.2.2.2.2.2.1 k1_t24 k1_h33
theorem k1_mult47_dvd : ∀ (v425 : BitVec 32) (v432 : BitVec 32) (k1_hw52 : k1_chk52 v425 v432) (k1_t24 : Fin (k1_t24_loop v425 v432).trips), ∀ (k1_h33 : k1_cond33 v425 v432 k1_t24 = 1#1), ∀ (k1_h34 : k1_cond34 v425 v432 k1_t24 = 1#1), 8 ∣ (k1_mult47 v425 v432 k1_t24).toNat := fun v425 v432 k1_hw52 k1_t24 k1_h33 k1_h34 => k1_hw52.2.2.2.2.2.2.2.2.1 k1_t24 k1_h33 k1_h34
theorem k1_off126_inb : ∀ (v425 : BitVec 32) (v432 : BitVec 32) (k1_hw52 : k1_chk52 v425 v432) (k1_t24 : Fin (k1_t24_loop v425 v432).trips), ∀ (k1_h33 : k1_cond33 v425 v432 k1_t24 = 1#1), ∀ (k1_h34 : k1_cond34 v425 v432 k1_t24 = 1#1), ∀ a, (k1_off126 v425 v432 k1_t24) a + S2048.size a ≤ S1638400.size a := fun v425 v432 k1_hw52 k1_t24 k1_h33 k1_h34 => k1_hw52.2.2.2.2.2.2.2.2.2.1 k1_t24 k1_h33 k1_h34
theorem k1_mult48_dvd : ∀ (v425 : BitVec 32) (v432 : BitVec 32) (k1_hw52 : k1_chk52 v425 v432) (k1_t24 : Fin (k1_t24_loop v425 v432).trips), ∀ (k1_h35 : k1_cond35 v425 v432 k1_t24 = 1#1), 8 ∣ (k1_mult48 v425 v432 k1_t24).toNat := fun v425 v432 k1_hw52 k1_t24 k1_h35 => k1_hw52.2.2.2.2.2.2.2.2.2.2.1 k1_t24 k1_h35
theorem k1_mult49_dvd : ∀ (v425 : BitVec 32) (v432 : BitVec 32) (k1_hw52 : k1_chk52 v425 v432) (k1_t24 : Fin (k1_t24_loop v425 v432).trips), ∀ (k1_h35 : k1_cond35 v425 v432 k1_t24 = 1#1), 8 ∣ (k1_mult49 v425 v432 k1_t24).toNat := fun v425 v432 k1_hw52 k1_t24 k1_h35 => k1_hw52.2.2.2.2.2.2.2.2.2.2.2.1 k1_t24 k1_h35
theorem k1_off127_inb : ∀ (v425 : BitVec 32) (v432 : BitVec 32) (k1_hw52 : k1_chk52 v425 v432) (k1_t24 : Fin (k1_t24_loop v425 v432).trips), ∀ (k1_h35 : k1_cond35 v425 v432 k1_t24 = 1#1), ∀ a, (k1_off127 v425 v432 k1_t24) a + S2048.size a ≤ S1638400.size a := fun v425 v432 k1_hw52 k1_t24 k1_h35 => k1_hw52.2.2.2.2.2.2.2.2.2.2.2.2.1 k1_t24 k1_h35
theorem k1_mult50_dvd : ∀ (v425 : BitVec 32) (v432 : BitVec 32) (k1_hw52 : k1_chk52 v425 v432) (k1_t24 : Fin (k1_t24_loop v425 v432).trips), ∀ (k1_h35 : k1_cond35 v425 v432 k1_t24 = 1#1), ∀ (k1_h36 : k1_cond36 v425 v432 k1_t24 = 1#1), 8 ∣ (k1_mult50 v425 v432 k1_t24).toNat := fun v425 v432 k1_hw52 k1_t24 k1_h35 k1_h36 => k1_hw52.2.2.2.2.2.2.2.2.2.2.2.2.2.1 k1_t24 k1_h35 k1_h36
theorem k1_off132_inb : ∀ (v425 : BitVec 32) (v432 : BitVec 32) (k1_hw52 : k1_chk52 v425 v432) (k1_t24 : Fin (k1_t24_loop v425 v432).trips), ∀ (k1_h35 : k1_cond35 v425 v432 k1_t24 = 1#1), ∀ (k1_h36 : k1_cond36 v425 v432 k1_t24 = 1#1), ∀ a, (k1_off132 v425 v432 k1_t24) a + S2048.size a ≤ S1638400.size a := fun v425 v432 k1_hw52 k1_t24 k1_h35 k1_h36 => k1_hw52.2.2.2.2.2.2.2.2.2.2.2.2.2.2.1 k1_t24 k1_h35 k1_h36
theorem k1_t27_ok : ∀ (v425 : BitVec 32) (v432 : BitVec 32) (k1_hw52 : k1_chk52 v425 v432), (k1_t27_loop v425 v432).OK := fun v425 v432 k1_hw52 => k1_hw52.2.2.2.2.2.2.2.2.2.2.2.2.2.2.2.1
theorem k1_mult51_dvd : ∀ (v425 : BitVec 32) (v432 : BitVec 32) (k1_hw52 : k1_chk52 v425 v432) (k1_t27 : Fin (k1_t27_loop v425 v432).trips), ∀ (k1_h37 : k1_cond37 v425 v432 k1_t27 = 1#1), 8 ∣ (k1_mult51 v425 v432 k1_t27).toNat := fun v425 v432 k1_hw52 k1_t27 k1_h37 => k1_hw52.2.2.2.2.2.2.2.2.2.2.2.2.2.2.2.2.1 k1_t27 k1_h37
theorem k1_mult52_dvd : ∀ (v425 : BitVec 32) (v432 : BitVec 32) (k1_hw52 : k1_chk52 v425 v432) (k1_t27 : Fin (k1_t27_loop v425 v432).trips), ∀ (k1_h37 : k1_cond37 v425 v432 k1_t27 = 1#1), 8 ∣ (k1_mult52 v425 v432 k1_t27).toNat := fun v425 v432 k1_hw52 k1_t27 k1_h37 => k1_hw52.2.2.2.2.2.2.2.2.2.2.2.2.2.2.2.2.2.1 k1_t27 k1_h37
theorem k1_off133_inb : ∀ (v425 : BitVec 32) (v432 : BitVec 32) (k1_hw52 : k1_chk52 v425 v432) (k1_t27 : Fin (k1_t27_loop v425 v432).trips), ∀ (k1_h37 : k1_cond37 v425 v432 k1_t27 = 1#1), ∀ a, (k1_off133 v425 v432 k1_t27) a + S2048.size a ≤ S1638400.size a := fun v425 v432 k1_hw52 k1_t27 k1_h37 => k1_hw52.2.2.2.2.2.2.2.2.2.2.2.2.2.2.2.2.2.2.1 k1_t27 k1_h37
theorem k1_mult53_dvd : ∀ (v425 : BitVec 32) (v432 : BitVec 32) (k1_hw52 : k1_chk52 v425 v432) (k1_t27 : Fin (k1_t27_loop v425 v432).trips), ∀ (k1_h37 : k1_cond37 v425 v432 k1_t27 = 1#1), ∀ (k1_h38 : k1_cond38 v425 v432 k1_t27 = 1#1), 8 ∣ (k1_mult53 v425 v432 k1_t27).toNat := fun v425 v432 k1_hw52 k1_t27 k1_h37 k1_h38 => k1_hw52.2.2.2.2.2.2.2.2.2.2.2.2.2.2.2.2.2.2.2.1 k1_t27 k1_h37 k1_h38
theorem k1_off138_inb : ∀ (v425 : BitVec 32) (v432 : BitVec 32) (k1_hw52 : k1_chk52 v425 v432) (k1_t27 : Fin (k1_t27_loop v425 v432).trips), ∀ (k1_h37 : k1_cond37 v425 v432 k1_t27 = 1#1), ∀ (k1_h38 : k1_cond38 v425 v432 k1_t27 = 1#1), ∀ a, (k1_off138 v425 v432 k1_t27) a + S2048.size a ≤ S1638400.size a := fun v425 v432 k1_hw52 k1_t27 k1_h37 k1_h38 => k1_hw52.2.2.2.2.2.2.2.2.2.2.2.2.2.2.2.2.2.2.2.2.1 k1_t27 k1_h37 k1_h38
theorem k1_mult54_dvd : ∀ (v425 : BitVec 32) (v432 : BitVec 32) (k1_hw52 : k1_chk52 v425 v432) (k1_t27 : Fin (k1_t27_loop v425 v432).trips), ∀ (k1_h39 : k1_cond39 v425 v432 k1_t27 = 1#1), 8 ∣ (k1_mult54 v425 v432 k1_t27).toNat := fun v425 v432 k1_hw52 k1_t27 k1_h39 => k1_hw52.2.2.2.2.2.2.2.2.2.2.2.2.2.2.2.2.2.2.2.2.2.1 k1_t27 k1_h39
theorem k1_mult55_dvd : ∀ (v425 : BitVec 32) (v432 : BitVec 32) (k1_hw52 : k1_chk52 v425 v432) (k1_t27 : Fin (k1_t27_loop v425 v432).trips), ∀ (k1_h39 : k1_cond39 v425 v432 k1_t27 = 1#1), 8 ∣ (k1_mult55 v425 v432 k1_t27).toNat := fun v425 v432 k1_hw52 k1_t27 k1_h39 => k1_hw52.2.2.2.2.2.2.2.2.2.2.2.2.2.2.2.2.2.2.2.2.2.2.1 k1_t27 k1_h39
theorem k1_off139_inb : ∀ (v425 : BitVec 32) (v432 : BitVec 32) (k1_hw52 : k1_chk52 v425 v432) (k1_t27 : Fin (k1_t27_loop v425 v432).trips), ∀ (k1_h39 : k1_cond39 v425 v432 k1_t27 = 1#1), ∀ a, (k1_off139 v425 v432 k1_t27) a + S2048.size a ≤ S1638400.size a := fun v425 v432 k1_hw52 k1_t27 k1_h39 => k1_hw52.2.2.2.2.2.2.2.2.2.2.2.2.2.2.2.2.2.2.2.2.2.2.2.1 k1_t27 k1_h39
theorem k1_mult56_dvd : ∀ (v425 : BitVec 32) (v432 : BitVec 32) (k1_hw52 : k1_chk52 v425 v432) (k1_t27 : Fin (k1_t27_loop v425 v432).trips), ∀ (k1_h39 : k1_cond39 v425 v432 k1_t27 = 1#1), ∀ (k1_h40 : k1_cond40 v425 v432 k1_t27 = 1#1), 8 ∣ (k1_mult56 v425 v432 k1_t27).toNat := fun v425 v432 k1_hw52 k1_t27 k1_h39 k1_h40 => k1_hw52.2.2.2.2.2.2.2.2.2.2.2.2.2.2.2.2.2.2.2.2.2.2.2.2.1 k1_t27 k1_h39 k1_h40
theorem k1_off144_inb : ∀ (v425 : BitVec 32) (v432 : BitVec 32) (k1_hw52 : k1_chk52 v425 v432) (k1_t27 : Fin (k1_t27_loop v425 v432).trips), ∀ (k1_h39 : k1_cond39 v425 v432 k1_t27 = 1#1), ∀ (k1_h40 : k1_cond40 v425 v432 k1_t27 = 1#1), ∀ a, (k1_off144 v425 v432 k1_t27) a + S2048.size a ≤ S1638400.size a := fun v425 v432 k1_hw52 k1_t27 k1_h39 k1_h40 => k1_hw52.2.2.2.2.2.2.2.2.2.2.2.2.2.2.2.2.2.2.2.2.2.2.2.2.2 k1_t27 k1_h39 k1_h40

def k1_off145 (i : grid1.Coords) (k1_t15 : Fin k1_t15_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_0 : BitVec 32 := 64#32
  let v6 : BitVec 32 := Scalar.muli v1 c64_i32_0
  let c1_i32_120 : BitVec 32 := 1#32
  let c1_i32_122 : BitVec 32 := 1#32
  let arg19 : BitVec 32 := Scf.iv c1_i32_120 c1_i32_122 k1_t15
  let c2_i32_198 : BitVec 32 := 2#32
  let v409 : BitVec 32 := Scalar.muli arg19 c2_i32_198
  let c1_i32_199 : BitVec 32 := 1#32
  let v410 : BitVec 32 := Scalar.addi v409 c1_i32_199
  let c8_i32_200 : BitVec 32 := 8#32
  let v411 : BitVec 32 := Scalar.muli v410 c8_i32_200
  let v412 : BitVec 32 := Scalar.addi v6 v411
  let c0_i32_267 : BitVec 32 := 0#32
  ![v412.toNat, 0]
abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4097 : Shape := ⟨1, ![4097]⟩
abbrev S1638400 : Shape := ⟨1, ![1638400]⟩
abbrev S4096 : Shape := ⟨1, ![4096]⟩
abbrev S4096x1 : Shape := ⟨2, ![4096, 1]⟩
abbrev S1x1638400 : Shape := ⟨2, ![1, 1638400]⟩
abbrev S4096x1638400 : Shape := ⟨2, ![4096, 1638400]⟩
abbrev S_ : Shape := ⟨0, ![]⟩
abbrev S4096x4096 : Shape := ⟨2, ![4096, 4096]⟩
abbrev S1638400x1 : Shape := ⟨2, ![1638400, 1]⟩
abbrev S1638400x2 : Shape := ⟨2, ![1638400, 2]⟩

abbrev nBuf : Space → Nat
  | .hbm => 41
  | .vmem => 0
  | .smem => 0
  | _ => 0

abbrev bufTy : (tb : Table) → Fin (tcTables nBuf tb) → BufTy
  | .hbm, ⟨0, _⟩ => ⟨S4097, .i32⟩
  | .hbm, ⟨1, _⟩ => ⟨S1638400, .i32⟩
  | .hbm, ⟨2, _⟩ => ⟨S1638400, .f32⟩
  | .hbm, ⟨3, _⟩ => ⟨S1638400, .i32⟩
  | .hbm, ⟨4, _⟩ => ⟨S4096, .i32⟩
  | .hbm, ⟨5, _⟩ => ⟨S4096x1, .i32⟩
  | .hbm, ⟨6, _⟩ => ⟨S1x1638400, .i32⟩
  | .hbm, ⟨7, _⟩ => ⟨S4096x1638400, .i32⟩
  | .hbm, ⟨8, _⟩ => ⟨S4096x1638400, .i32⟩
  | .hbm, ⟨9, _⟩ => ⟨S4096x1638400, .i1⟩
  | .hbm, ⟨10, _⟩ => ⟨S4096x1638400, .i32⟩
  | .hbm, ⟨11, _⟩ => ⟨S_, .i32⟩
  | .hbm, ⟨12, _⟩ => ⟨S1638400, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1638400, .i32⟩
  | .hbm, ⟨17, _⟩ => ⟨S1638400, .i32⟩
  | .hbm, ⟨18, _⟩ => ⟨S_, .i32⟩
  | .hbm, ⟨19, _⟩ => ⟨S1638400, .i32⟩
  | .hbm, ⟨20, _⟩ => ⟨S1638400, .i32⟩
  | .hbm, ⟨21, _⟩ => ⟨S_, .f32⟩
  | .hbm, ⟨22, _⟩ => ⟨S4096x4096, .f32⟩
  | .hbm, ⟨23, _⟩ => ⟨S_, .i32⟩
  | .hbm, ⟨24, _⟩ => ⟨S1638400, .i32⟩
  | .hbm, ⟨25, _⟩ => ⟨S1638400, .i1⟩
  | .hbm, ⟨26, _⟩ => ⟨S_, .i32⟩
  | .hbm, ⟨27, _⟩ => ⟨S1638400, .i32⟩
  | .hbm, ⟨28, _⟩ => ⟨S1638400, .i32⟩
  | .hbm, ⟨29, _⟩ => ⟨S1638400, .i32⟩
  | .hbm, ⟨30, _⟩ => ⟨S_, .i32⟩
  | .hbm, ⟨31, _⟩ => ⟨S1638400, .i32⟩
  | .hbm, ⟨32, _⟩ => ⟨S1638400, .i1⟩
  | .hbm, ⟨33, _⟩ => ⟨S_, .i32⟩
  | .hbm, ⟨34, _⟩ => ⟨S1638400, .i32⟩
  | .hbm, ⟨35, _⟩ => ⟨S1638400, .i32⟩
  | .hbm, ⟨36, _⟩ => ⟨S1638400, .i32⟩
  | .hbm, ⟨37, _⟩ => ⟨S1638400x1, .i32⟩
  | .hbm, ⟨38, _⟩ => ⟨S1638400x1, .i32⟩
  | .hbm, ⟨39, _⟩ => ⟨S1638400x2, .i32⟩
  | .hbm, ⟨40, _⟩ => ⟨S4096x4096, .f32⟩
  | _, _ => ⟨S4097, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Own.lean ====
/-
  The rules of a vector subcore's steps, stated over what a memref is OWNED AT (`owns c m q X`: the thread holds the
  memref's elements and reads `X` through it): a load, a store, an indexed store, and the two copies of one tile
  of the row indices and of the values that share a semaphore. Everything here is over any program's signature,
  so both texts of the kernel use it.
-/
module

public import Idealize.ShloMosaic.Lib.Memref
public import Idealize.ShloMosaic.Lib.Batch
public import Idealize.ShloMosaic.Lib.Scf
public import Idealize.ShloMosaic.Lib.SparseCore.Ops

@[expose] public section

noncomputable section

namespace Cert.Proof.Csc

open Idealize.ShloMosaic
open Idealize.SL Idealize.SL.RA Idealize.SL.Sem
open Idealize.SL.BI (sProp Storable bigSep)
open scoped Idealize.SL.BI
open Idealize.SL.BI.BIBase Idealize.SL.BI.Laws Idealize.SL.ProofMode

section Rules

variable {nD : Nat} {τ : Topo} {sig : RefSig} {Ix : Type} [DecidableEq Ix] {Name : Type} [DecidableEq Name]
variable {U : Type} [URA U] {Lvl : Type} [Preorder Lvl] {Λ : Labels}
variable {Val : EltTy → Type} {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

/-- A load through a rectangle of a memref owned at `X` answers `X` at the rectangle's places. -/
theorem wp_load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun x => X (r.emb x)) Q)
        -∗ wp frame (wpE defs 𝒱 c bd) E (.op (.load m r hl) k) Q) := by
  unfold owns
  iintro ⟨%f, %hf, H⟩ Hk
  iapply (wp_load_rect 𝒱 c bd E (m := m) (r := r) (q := q) (f := f) (S := m.view.set) (m.view.set_slice_subset r)) $$ H
  iintro H
  have hr : (m.access r).read Val f = fun x => X (r.emb x) := by rw [← hf]; rfl
  rw [hr]
  iapply Hk
  iexists f; isplitr; · ipureintro; exact hf
  iexact H

/-- A store through a rectangle of a memref owned at `X` leaves it owned at contents that agree with the stored
    vector on the rectangle and with `X` off it. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ _}
    {k : PUnit → Prog (TpuEff nD τ sig Val Λ c.2) α} {X : s.Idx → Val e} :
    (owns c m fullShare X : sProp 𝕄)
      ⊢ iprop((∀ X', ⌜(∀ x, X' (r.emb x) = w x) ∧ (∀ i, (∀ x, r.emb x ≠ i) → X' i = X i)⌝ -∗ owns c m fullShare X'
            -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (f := f) (S := m.view.set)
    (m.view.set_slice_subset r)) $$ H
  iintro H
  iapply Hk $$ %(m.view.read Val ((m.access r).write Val f w Finset.univ)) [] [H]
  · ipureintro
    refine ⟨fun x => ?_, fun i hi => ?_⟩
    · exact congrFun ((m.access r).read_write_univ f w) x
    · rw [← hf, View.read_apply, View.read_apply, View.write_of_not_mem]
      intro hmem
      obtain ⟨x, -, hx'⟩ := Finset.mem_map.mp hmem
      exact hi x (m.view.emb.injective hx')
  · iexists _; isplitr; · ipureintro; rfl
    iexact H

end Rules

section Lanes

variable {nD : Nat} {τ : Topo} {sig : RefSig} {Ix : Type} [DecidableEq Ix] {Name : Type} [DecidableEq Name]
variable {U : Type} [URA U] {Lvl : Type} [Preorder Lvl] {Λ : Labels} {F : FTy → Type} [FloatOps F]
variable {defs : Defs nD τ sig (Elt F) Λ} (𝒱 : Variants) (c : Thread nD τ) (bd : Option 𝒱.V) (E : Set Name)
variable {s : Shape} {e : EltTy} {α : Type} {Q : α → sProp (MT nD τ sig Ix (Elt F) Name U Lvl)}

local notation "𝕄" => MT nD τ sig Ix (Elt F) Name U Lvl

/-- An indexed store into a memref owned at `X` leaves it owned at the contents the store makes of `X`. -/
theorem wp_storeIdx_owns {d : Fin 1 → Nat} {base : Memref sig c.2.kind .vmem s e} {idxs : Fin s.rank → IVec ⟨1, d⟩ 32}
    {v : Vec F ⟨1, d⟩ e} {mask : IVec ⟨1, d⟩ 1} {add : Bool} {h : ∀ a x, (idxs a x).toNat < s.size a}
    {hs : (base.access (.whole s)).Stores Finset.univ}
    {k : PUnit → Prog (TpuEff nD τ sig (Elt F) Λ c.2) α} {X : s.Idx → Elt F e} :
    (owns c base fullShare X : sProp 𝕄)
      ⊢ iprop((owns c base fullShare (storeIdx X idxs v mask add h) -∗ wp frame (wpE defs 𝒱 c bd) E (k ⟨⟩) Q)
        -∗ wp frame (wpE defs 𝒱 c bd) E (SparseCore.vectorStoreIdx base idxs v mask add h hs >>= k) Q) := by
  have hset : (base.access (.whole s)).set = base.view.set := by
    show (base.view.slice (.whole s)).set = base.view.set
    rw [View.set_slice, Rect.set_whole]; rfl
  have hread : ∀ f, (base.access (.whole s)).read (Elt F) f = base.view.read (Elt F) f := by
    intro f; funext x
    show base.view.read (Elt F) f ((Rect.whole s).emb x) = _
    rw [Rect.emb_whole_apply]
  unfold owns
  iintro ⟨%f, %hf, H⟩ Hk
  rw [← hset]
  iapply (SparseCore.wp_vectorStoreIdx 𝒱 c bd E (base := base) (idxs := idxs) (v := v) (mask := mask) (add := add) (h := h)
    (hs := hs) (k := k) (f := f)) $$ H
  iintro H
  iapply Hk
  iexists ((base.access (.whole s)).write (Elt F) f (storeIdx ((base.access (.whole s)).read (Elt F) f) idxs v mask add h) Finset.univ)
  isplitr
  · ipureintro
    rw [← hread, View.read_write_univ, hread, hf]
  iexact H

end Lanes

end Cert.Proof.Csc
end
-- ==== Proof.Stream.lean ====
/-
  One of a vector subcore's two streams of tiles. A stream has a DMA semaphore and two scratch buffers, one for a tile of
  the row indices and one for the same tile of the values; both copies of a tile are issued on the one semaphore and
  waited for one after the other. A stream is IDLE (its semaphore at zero, its buffers and its read share of the
  two tables in hand) or BUSY with the tile at an offset (both copies in flight, delivering that tile).
-/
module

public import proofs.«01_k».proof.Proof.Own

@[expose] public section

noncomputable section

namespace Cert.Proof.Csc

open Idealize.ShloMosaic
open Idealize.SL Idealize.SL.RA Idealize.SL.Sem
open Idealize.SL.BI (sProp Storable bigSep bigSep_fin_two)
open scoped Idealize.SL.BI
open Idealize.SL.BI.BIBase Idealize.SL.BI.Laws Idealize.SL.ProofMode
open Idealize.ShloMosaic.Transfers

/-- The number of nonzeros, as the tables' shape; a tile's shape; a lane vector's; a slab's; the boundary scratch's. -/
abbrev SN : Shape := ⟨1, ![1638400]⟩
abbrev ST : Shape := ⟨1, ![2048]⟩
abbrev SL : Shape := ⟨1, ![16]⟩
abbrev SA : Shape := ⟨2, ![8, 4096]⟩
abbrev SB : Shape := ⟨1, ![80]⟩

/-- The tile of a table that begins at `off`. -/
abbrev tileRect (off : Fin 1 → ℕ) (inb : ∀ a, off a + ST.size a ≤ SN.size a) : Rect SN := Rect.unit (s := SN) off ST.size inb

section

variable {nD : Nat} {τ : Topo} {sig : RefSig} {Ix : Type} [DecidableEq Ix] {Name : Type} [DecidableEq Name] [Infinite Name]
variable {U : Type} [URA U] {Lvl : Type} [Preorder Lvl] {Λ : Labels}
variable {Val : EltTy → Type}

local notation "𝕄" => MT nD τ sig Ix Val Name U Lvl

variable (EC : UEmb Counters (MT nD τ sig Ix Val Name U Lvl)) [EC.LandsIn (upEmb : UEmb _ (MT nD τ sig Ix Val Name U Lvl))]
variable {defs : Defs nD τ sig Val Λ} (𝒱 : Variants) (c : Thread nD τ) (bd : Option 𝒱.V) (ι : Ix)
variable {er ev : EltTy} (rows : Memref sig c.2.kind .hbm SN er) (vals : Memref sig c.2.kind .hbm SN ev)
variable (rb : Memref sig c.2.kind .vmem ST er) (vb : Memref sig c.2.kind .vmem ST ev) (sem : DmaSem sig)
variable (q : PosShare TreeShare) (fR : Buf Val (rows.view.loc c)) (fV : Buf Val (vals.view.loc c))

/-- The row indices (the values) of the tile at `off`. -/
abbrev tileOf {e : EltTy} (m : Memref sig c.2.kind .hbm SN e) (f : Buf Val (m.view.loc c)) (off : Fin 1 → ℕ)
    (inb : ∀ a, off a + ST.size a ≤ SN.size a) : ST.Idx → Val e :=
  fun x => m.view.read Val f ((tileRect off inb).emb x)

/-- The part of a table a copy of the tile at `off` borrows, and what is left of it meanwhile. -/
abbrev lent {e : EltTy} (m : Memref sig c.2.kind .hbm SN e) (f : Buf Val (m.view.loc c)) (off : Fin 1 → ℕ)
    (inb : ∀ a, off a + ST.size a ≤ SN.size a) : sProp 𝕄 :=
  m.view.loc c ↦[(m.view.slice (tileRect off inb)).set]{q} f
abbrev kept {e : EltTy} (m : Memref sig c.2.kind .hbm SN e) (f : Buf Val (m.view.loc c)) (off : Fin 1 → ℕ)
    (inb : ∀ a, off a + ST.size a ≤ SN.size a) : sProp 𝕄 :=
  m.view.loc c ↦[m.view.set \ (m.view.slice (tileRect off inb)).set]{q} f

/-- What the two copies of the tile at `off` deliver. -/
def Deliv (off : Fin 1 → ℕ) (inb : ∀ a, off a + ST.size a ≤ SN.size a) (t : Fin 2) : sProp 𝕄 :=
  if t = 0 then iprop(owns c rb fullShare (tileOf c rows fR off inb) ∗ lent c q rows fR off inb)
  else iprop(owns c vb fullShare (tileOf c vals fV off inb) ∗ lent c q vals fV off inb)

instance Deliv_storable (off : Fin 1 → ℕ) (inb : ∀ a, off a + ST.size a ≤ SN.size a) (t : Fin 2) :
    Storable (upEmb : UEmb _ 𝕄) (Deliv c rows vals rb vb q fR fV off inb t : sProp 𝕄) := by
  unfold Deliv; split_ifs <;> infer_instance

/-- The stream at rest: its buffers hold something. -/
def Idle : sProp 𝕄 :=
  iprop(semVal (c, .dma sem) 0 ∗ (∃ x, owns c rb fullShare x) ∗ (∃ y, owns c vb fullShare y)
    ∗ (rows.view.loc c ↦[rows.view.set]{q} fR) ∗ (vals.view.loc c ↦[vals.view.set]{q} fV))

/-- The stream while it fetches the tile at `off`. -/
def Busy (off : Fin 1 → ℕ) (inb : ∀ a, off a + ST.size a ≤ SN.size a) : sProp 𝕄 :=
  iprop(Batch EC c (.dma sem) ι rb.view.dmaCredit (Deliv c rows vals rb vb q fR fV off inb) 2 0
    ∗ kept c q rows fR off inb ∗ kept c q vals fV off inb)

/-- The stream just after the tile at `off` has arrived. -/
def Here (off : Fin 1 → ℕ) (inb : ∀ a, off a + ST.size a ≤ SN.size a) : sProp 𝕄 :=
  iprop(semVal (c, .dma sem) 0 ∗ owns c rb fullShare (tileOf c rows fR off inb) ∗ owns c vb fullShare (tileOf c vals fV off inb)
    ∗ (rows.view.loc c ↦[rows.view.set]{q} fR) ∗ (vals.view.loc c ↦[vals.view.set]{q} fV))

variable {c rows vals rb vb sem}

/-- The two copies of the tile at `off`, issued. -/
def issueP (off : Fin 1 → ℕ) (inb : ∀ a, off a + ST.size a ≤ SN.size a)
    (h₁ : ((rows.slice (tileRect off inb) (fun _ => rfl)).view).WordExact) (h₂ : (DmaTarget.here (nD := nD) (τ := τ) (p := c.2) rb).view.WordExact)
    (h₃ : (DmaTarget.here (nD := nD) (τ := τ) (p := c.2) rb).Typed .hbm (.dma sem))
    (h₄ : ((vals.slice (tileRect off inb) (fun _ => rfl)).view).WordExact) (h₅ : (DmaTarget.here (nD := nD) (τ := τ) (p := c.2) vb).view.WordExact)
    (h₆ : (DmaTarget.here (nD := nD) (τ := τ) (p := c.2) vb).Typed .hbm (.dma sem)) :
    Prog (TpuEff nD τ sig Val Λ c.2) PUnit := do
  Prog.lift (.enqueueDma (rows.slice (tileRect off inb) (fun _ => rfl)) (.here rb) (.dma sem) h₁ h₂ h₃)
  Prog.lift (.enqueueDma (vals.slice (tileRect off inb) (fun _ => rfl)) (.here vb) (.dma sem) h₄ h₅ h₆)
  pure ⟨⟩

/-- A copy that has landed in a buffer leaves it owned at what was copied. -/
theorem owns_landed {sp : Space} {s : Shape} {e : EltTy} (m : Memref sig c.2.kind sp s e) (f : Buf Val (m.view.loc c)) (X : s.Idx → Val e) :
    (m.view.loc c ↦[m.view.set]{fullShare} (m.view.write Val f X Finset.univ) : sProp 𝕄) ⊢ owns c m fullShare X := by
  unfold owns
  iintro H
  iexists _; isplitr; · ipureintro; exact m.view.read_write_univ f X
  iexact H

/-- Issuing a tile takes the stream from rest to busy with it. -/
theorem wp_issue (hN : vb.view.dmaCredit = rb.view.dmaCredit) {off : Fin 1 → ℕ} {inb : ∀ a, off a + ST.size a ≤ SN.size a} {h₁ h₂ h₃ h₄ h₅ h₆}
    {Q : PUnit → sProp 𝕄} :
    (Idle c rows vals rb vb sem q fR fV : sProp 𝕄)
      ⊢ iprop((Busy EC c ι rows vals rb vb sem q fR fV off inb -∗ Q ⟨⟩)
        -∗ wp frame (wpE defs 𝒱 c bd) Set.univ
            (issueP (rows := rows) (vals := vals) (rb := rb) (vb := vb) (sem := sem) off inb h₁ h₂ h₃ h₄ h₅ h₆) Q) := by
  unfold Idle issueP
  iintro ⟨Hs, ⟨%x, Hr⟩, ⟨%y, Hv⟩, HR, HV⟩ Hk
  have hR := (pointsTo_split_subset (nD := nD) (Ix := Ix) (Name := Name) (U := U) (Lvl := Lvl) (q := q) (f := fR)
    (rows.view.set_slice_subset (tileRect off inb))).1
  have hV := (pointsTo_split_subset (nD := nD) (Ix := Ix) (Name := Name) (U := U) (Lvl := Lvl) (q := q) (f := fV)
    (vals.view.set_slice_subset (tileRect off inb))).1
  ihave HR := hR $$ HR
  icases HR with ⟨HR, HRk⟩
  ihave HV := hV $$ HV
  icases HV with ⟨HV, HVk⟩
  unfold owns
  icases Hr with ⟨%fr, -, Hr⟩
  icases Hv with ⟨%fv, -, Hv⟩
  imod (batch_alloc' EC c ι rb.view.dmaCredit (Deliv c rows vals rb vb q fR fV off inb) (sm := .dma sem) (E := Set.univ)) $$ Hs with HB
  have hd0 : iprop((rb.view.loc c ↦[rb.view.set]{fullShare} (rb.view.write Val fr (tileOf c rows fR off inb) Finset.univ))
      ∗ lent c q rows fR off inb) ⊢ (Deliv c rows vals rb vb q fR fV off inb ⟨0, by decide⟩ : sProp 𝕄) := by
    show _ ⊢ iprop(owns c rb fullShare (tileOf c rows fR off inb) ∗ lent c q rows fR off inb)
    iintro ⟨H1, H2⟩
    isplitl [H1]
    · iapply (owns_landed rb fr _) $$ H1
    · iexact H2
  have hd1 : iprop((vb.view.loc c ↦[vb.view.set]{fullShare} (vb.view.write Val fv (tileOf c vals fV off inb) Finset.univ))
      ∗ lent c q vals fV off inb) ⊢ (Deliv c rows vals rb vb q fR fV off inb ⟨1, by decide⟩ : sProp 𝕄) := by
    show _ ⊢ iprop(owns c vb fullShare (tileOf c vals fV off inb) ∗ lent c q vals fV off inb)
    iintro ⟨H1, H2⟩
    isplitl [H1]
    · iapply (owns_landed vb fv _) $$ H1
    · iexact H2
  iapply (wp_dmaBatch EC 𝒱 c bd (n := 2) (D := Deliv c rows vals rb vb q fR fV off inb) (j := 0) (u := 0)
    (src := rows.slice (tileRect off inb) (fun _ => rfl)) (dst := rb) (via := .same) (Sd := rb.view.set) (fd := fr)
    (q := q) (fs := fR) (sm := .dma sem) ι rb.view.dmaCredit rfl subset_rfl (by decide) (by omega) hd0) $$ [HR Hr HB]
  · isplitl [HR]; · iexact HR
    isplitl [Hr]; · iexact Hr
    iexact HB
  iintro HB
  iapply (wp_dmaBatch EC 𝒱 c bd (n := 2) (D := Deliv c rows vals rb vb q fR fV off inb) (j := 1) (u := 0)
    (src := vals.slice (tileRect off inb) (fun _ => rfl)) (dst := vb) (via := .same) (Sd := vb.view.set) (fd := fv)
    (q := q) (fs := fV) (sm := .dma sem) ι rb.view.dmaCredit hN subset_rfl (by decide) (by omega) hd1) $$ [HV Hv HB]
  · isplitl [HV]; · iexact HV
    isplitl [Hv]; · iexact Hv
    iexact HB
  iintro HB
  iapply (le_wp_ret frame (wpE defs 𝒱 c bd) Set.univ)
  iapply Hk
  unfold Busy
  isplitl [HB]; · iexact HB
  isplitl [HRk]; · iexact HRk
  iexact HVk

/-- The two waits of a tile. -/
def waitP {sp₁ sp₂ : Space} {s₁ s₂ : Shape} {e₁ e₂ : EltTy} (m₁ : Memref sig c.2.kind sp₁ s₁ e₁) (m₂ : Memref sig c.2.kind sp₂ s₂ e₂)
    (h₁ : m₁.view.WordExact) (h₂ : rb.view.WordExact) (h₃ : m₂.view.WordExact) (h₄ : vb.view.WordExact) {β : Type}
    (k : Prog (TpuEff nD τ sig Val Λ c.2) β) : Prog (TpuEff nD τ sig Val Λ c.2) β := do
  Prog.lift (.waitDma2 sem m₁ rb h₁ h₂)
  Prog.lift (.waitDma2 sem m₂ vb h₃ h₄)
  k

/-- Waiting for both copies of a tile puts it in hand. -/
theorem wp_wait (hN : vb.view.dmaCredit = rb.view.dmaCredit) {off : Fin 1 → ℕ} {inb : ∀ a, off a + ST.size a ≤ SN.size a}
    {sp₁ sp₂ : Space} {s₁ s₂ : Shape} {e₁ e₂ : EltTy} {m₁ : Memref sig c.2.kind sp₁ s₁ e₁} {m₂ : Memref sig c.2.kind sp₂ s₂ e₂}
    {h₁ h₂ h₃ h₄} {β : Type} {k : Prog (TpuEff nD τ sig Val Λ c.2) β} {Q : β → sProp 𝕄} {O : CellTallies nD τ sig Ix} {W : Waits sig Ix} :
    (iprop(Busy EC c ι rows vals rb vb sem q fR fV off inb ∗ owes c O W ∗ MayWaits c ι O) : sProp 𝕄)
      ⊢ iprop((∀ W', ⌜∀ p ∈ W', p ∈ W ∨ p.2 = ι⌝ -∗ Here c rows vals rb vb sem q fR fV off inb -∗ owes c O W'
            -∗ wp frame (wpE defs 𝒱 c bd) Set.univ k Q)
        -∗ wp frame (wpE defs 𝒱 c bd) Set.univ
            (waitP (rb := rb) (vb := vb) (sem := sem) m₁ m₂ h₁ h₂ h₃ h₄ k) Q) := by
  unfold Busy waitP
  iintro ⟨⟨HB, HRk, HVk⟩, HO, #HM⟩ Hk
  ihave HM1 := MayWaits.elim (.dma sem) $$ HM
  have hpos : 0 < rb.view.dmaCredit := View.dmaCredit_pos _ (by decide)
  iapply (wp_waitBatchO EC 𝒱 c bd (n := 2) (sem := sem) (dstw := rb) (srcw := m₁) ι (N := rb.view.dmaCredit) rfl (u := 0)
    (D := Deliv c rows vals rb vb q fR fV off inb) (by omega) (O := O) (W := W)) $$ [HB HO HM1]
  · isplitl [HB]; · iexact HB
    isplitl [HO]; · iexact HO
    iexact HM1
  iintro ⟨HB, HO⟩
  ihave HM1 := MayWaits.elim (.dma sem) $$ HM
  iapply (wp_waitBatchLastO EC 𝒱 c bd (n := 2) (sem := sem) (dstw := vb) (srcw := m₂) ι (N := rb.view.dmaCredit) hN hpos (u := 0 + rb.view.dmaCredit)
    (D := Deliv c rows vals rb vb q fR fV off inb) (by omega) (O := O) (W := insert (SemLoc.dma sem, ι) W)) $$ [HB HO HM1]
  · isplitl [HB]; · iexact HB
    isplitl [HO]; · iexact HO
    iexact HM1
  iintro ⟨HD, Hs, HO⟩
  ihave HD := (show (bigSep Finset.univ (Deliv c rows vals rb vb q fR fV off inb) : sProp 𝕄)
      ⊢ iprop(Deliv c rows vals rb vb q fR fV off inb 0 ∗ Deliv c rows vals rb vb q fR fV off inb 1)
    from Entails.of_eq (bigSep_fin_two _)) $$ HD
  icases HD with ⟨HD0, HD1⟩
  ihave HD0 := (show (Deliv c rows vals rb vb q fR fV off inb 0 : sProp 𝕄)
    ⊢ iprop(owns c rb fullShare (tileOf c rows fR off inb) ∗ lent c q rows fR off inb) from .rfl) $$ HD0
  ihave HD1 := (show (Deliv c rows vals rb vb q fR fV off inb 1 : sProp 𝕄)
    ⊢ iprop(owns c vb fullShare (tileOf c vals fV off inb) ∗ lent c q vals fV off inb) from .rfl) $$ HD1
  icases HD0 with ⟨Hr, HR⟩
  icases HD1 with ⟨Hv, HV⟩
  have hR := (pointsTo_split_subset (nD := nD) (Ix := Ix) (Name := Name) (U := U) (Lvl := Lvl) (q := q) (f := fR)
    (rows.view.set_slice_subset (tileRect off inb))).2
  have hV := (pointsTo_split_subset (nD := nD) (Ix := Ix) (Name := Name) (U := U) (Lvl := Lvl) (q := q) (f := fV)
    (vals.view.set_slice_subset (tileRect off inb))).2
  iapply Hk $$ %(insert (SemLoc.dma sem, ι) (insert (SemLoc.dma sem, ι) W)) [] [Hr HR Hv HV HRk HVk Hs] [HO]
  · ipureintro
    intro p hp
    simp only [Finset.mem_insert] at hp
    rcases hp with rfl | rfl | hp
    · exact .inr rfl
    · exact .inr rfl
    · exact .inl hp
  · unfold Here
    isplitl [Hs]; · iexact Hs
    isplitl [Hr]; · iexact Hr
    isplitl [Hv]; · iexact Hv
    isplitl [HR HRk]
    · iapply hR; isplitl [HR]; · iexact HR
      iexact HRk
    · iapply hV; isplitl [HV]; · iexact HV
      iexact HVk
  · iexact HO

/-- A tile in hand is a stream at rest. -/
theorem here_idle {off : Fin 1 → ℕ} {inb : ∀ a, off a + ST.size a ≤ SN.size a} :
    (Here c rows vals rb vb sem q fR fV off inb : sProp 𝕄) ⊢ Idle c rows vals rb vb sem q fR fV := by
  unfold Here Idle
  iintro ⟨Hs, Hr, Hv, HR, HV⟩
  isplitl [Hs]; · iexact Hs
  isplitl [Hr]; · iexists _; iexact Hr
  isplitl [Hv]; · iexists _; iexact Hv
  isplitl [HR]; · iexact HR
  iexact HV

end

end Cert.Proof.Csc
end
-- ==== Proof.Lane.lean ====
/-
  The innermost step of the kernel: sixteen nonzeros of a tile are added into the slab. Each lane knows its position `g` in
  the list of nonzeros; it is used when `lo ≤ g < hi`; the row within the slab is the number of the slab's eight
  column ends that are at or below `g`, at most seven, and the place within the row is the nonzero's row index.
  A trip of the innermost loop is four such steps, and a tile is thirty-two trips. The contents of the slab are
  carried exactly, as a function of the tile and of the numbers above.
-/
module

public import proofs.«01_k».proof.Proof.Stream
public import Idealize.ShloMosaic.Lib.WordArith

@[expose] public section

noncomputable section

namespace Cert.Proof.Csc

open Idealize.ShloMosaic
open Idealize.SL Idealize.SL.RA Idealize.SL.Sem
open Idealize.SL.BI (sProp)
open scoped Idealize.SL.BI
open Idealize.SL.BI.BIBase Idealize.SL.BI.Laws Idealize.SL.ProofMode

/-! ## The vectors of one step -/

/-- The lanes' positions in the list of nonzeros: the tile's first position, the step's offset, the lane. -/
def posV (tb off : BitVec 32) (io : IVec SL 32) : IVec SL 32 := addi (broadcast SL (Scalar.addi tb off)) io

/-- The lanes that count. -/
def maskV (g : IVec SL 32) (lo hi : BitVec 32) : IVec SL 1 :=
  andi (cmpi .sge g (broadcast SL lo)) (cmpi .slt g (broadcast SL hi))

/-- One where the column end `b` is at or below the position. -/
def passV (g : IVec SL 32) (b : BitVec 32) : IVec SL 32 :=
  select (cmpi .sge g (broadcast SL b)) (broadcast SL 1#32) (broadcast SL 0#32)

/-- The lanes' rows within the slab. -/
def relV (g : IVec SL 32) (b0 b1 b2 b3 b4 b5 b6 b7 : BitVec 32) : IVec SL 32 :=
  minsi (addi (addi (addi (addi (addi (addi (addi (addi (broadcast SL 0#32) (passV g b0)) (passV g b1)) (passV g b2))
    (passV g b3)) (passV g b4)) (passV g b5)) (passV g b6)) (passV g b7)) (broadcast SL 7#32)

/-- The place each lane adds at lies in the slab. -/
def InSlab (rel r16 : IVec SL 32) : Prop := ∀ a x, ((![rel, r16] : Fin 2 → IVec SL 32) a x).toNat < SA.size a

variable {F : FTy → Type} [FloatOps F]

open Classical in
/-- The slab after one step. -/
def stepF (A : Vec F SA .f32) (r16 : IVec SL 32) (vl : Vec F SL .f32) (rel : IVec SL 32) (mask : IVec SL 1) : Vec F SA .f32 :=
  if h : InSlab rel r16 then storeIdx A ![rel, r16] vl mask true h else A

/-- Sixteen lanes of a tile from `off` on. -/
def lanes {e : EltTy} (x : ST.Idx → Elt F e) (off : Fin 1 → ℕ) (inb : ∀ a, off a + SL.size a ≤ ST.size a) : SL.Idx → Elt F e :=
  fun i => x ((Rect.unit (s := ST) off SL.size inb).emb i)

/-- What a tile's steps are told: the lane numbers, the slab's eight column ends, the tile's first position, and the positions
    the tile answers for. -/
structure TileArgs where
  io : IVec SL 32
  b0 : BitVec 32
  b1 : BitVec 32
  b2 : BitVec 32
  b3 : BitVec 32
  b4 : BitVec 32
  b5 : BitVec 32
  b6 : BitVec 32
  b7 : BitVec 32
  tb : BitVec 32
  lo : BitVec 32
  hi : BitVec 32

namespace TileArgs
/-- A step's positions, rows in the slab and lanes that count, at offset `u` of the tile. -/
def pos (T : TileArgs) (u : BitVec 32) : IVec SL 32 := posV T.tb u T.io
def rel (T : TileArgs) (u : BitVec 32) : IVec SL 32 := relV (T.pos u) T.b0 T.b1 T.b2 T.b3 T.b4 T.b5 T.b6 T.b7
def mask (T : TileArgs) (u : BitVec 32) : IVec SL 1 := maskV (T.pos u) T.lo T.hi
end TileArgs

/-- The offset in its tile of step `j` of trip `k`. -/
def uOf (k : ℕ) (j : BitVec 32) : BitVec 32 :=
  Scalar.muli (Scalar.addi (Scalar.muli (Scf.iv 0#32 1#32 k) 4#32) j) 16#32
def offOf (k : ℕ) (j : BitVec 32) : Fin 1 → ℕ := ![(Scalar.indexCast (uOf k j)).toNat]

theorem uOf_toNat {k : ℕ} (hk : k < 32) (j : ℕ) (hj : j < 4) : (uOf k (BitVec.ofNat 32 j)).toNat = (k * 4 + j) * 16 := by
  have : ∀ k : Fin 32, ∀ j : Fin 4, (uOf k.val (BitVec.ofNat 32 j.val)).toNat = (k.val * 4 + j.val) * 16 := by decide
  exact this ⟨k, hk⟩ ⟨j, hj⟩

theorem offOf_inb {k : ℕ} (hk : k < 32) (j : ℕ) (hj : j < 4) : ∀ a, offOf k (BitVec.ofNat 32 j) a + SL.size a ≤ ST.size a := by
  intro a
  obtain rfl : a = 0 := Subsingleton.elim _ _
  show (uOf k (BitVec.ofNat 32 j)).toNat + 16 ≤ 2048
  rw [uOf_toNat hk j hj]; omega

/-- The slab after step `j` of trip `k` of a tile. -/
def stepAt (T : TileArgs) (xr : ST.Idx → Elt F .i32) (xv : ST.Idx → Elt F .f32) (k : Fin 32) (j : ℕ) (hj : j < 4) (A : Vec F SA .f32) : Vec F SA .f32 :=
  stepF A (lanes (F := F) (e := .i32) xr (offOf k.val (BitVec.ofNat 32 j)) (offOf_inb k.isLt j hj))
    (lanes (e := .f32) xv (offOf k.val (BitVec.ofNat 32 j)) (offOf_inb k.isLt j hj)) (T.rel (uOf k.val (BitVec.ofNat 32 j))) (T.mask (uOf k.val (BitVec.ofNat 32 j)))

/-- The slab after trip `k` of a tile. -/
def tripF (T : TileArgs) (xr : ST.Idx → Elt F .i32) (xv : ST.Idx → Elt F .f32) (k : Fin 32) (A : Vec F SA .f32) : Vec F SA .f32 :=
  stepAt T xr xv k 3 (by decide) (stepAt T xr xv k 2 (by decide) (stepAt T xr xv k 1 (by decide) (stepAt T xr xv k 0 (by decide) A)))

/-- The slab after the first `n` trips of a tile, and after all of it. -/
def tripsF (T : TileArgs) (xr : ST.Idx → Elt F .i32) (xv : ST.Idx → Elt F .f32) (A : Vec F SA .f32) : ℕ → Vec F SA .f32
  | 0 => A
  | n + 1 => if h : n < 32 then tripF T xr xv ⟨n, h⟩ (tripsF T xr xv A n) else tripsF T xr xv A n
def tileF (T : TileArgs) (xr : ST.Idx → Elt F .i32) (xv : ST.Idx → Elt F .f32) (A : Vec F SA .f32) : Vec F SA .f32 := tripsF T xr xv A 32

/-! ## The rows within the slab are below eight -/

theorem passV_le (g : IVec SL 32) (b : BitVec 32) (x : SL.Idx) : (passV g b x).toNat ≤ 1 := by
  show (if (cmpi .sge g (broadcast SL b) x) = 1 then (1#32) else 0#32).toNat ≤ 1
  split_ifs <;> decide

theorem addi_le {n : ℕ} (a b : IVec SL 32) (x : SL.Idx) (ha : (a x).toNat ≤ n) (hb : (b x).toNat ≤ 1) (hn : n < 100) :
    (addi a b x).toNat ≤ n + 1 := by
  show (a x + b x).toNat ≤ n + 1
  rw [BitVec.toNat_add, Nat.mod_eq_of_lt (by omega)]; omega

theorem minsi_toNat {a b : BitVec 32} (ha : a.toNat < 2 ^ 31) (hb : b.toNat < 2 ^ 31) : (IntOp.minsi a b).toNat = min a.toNat b.toNat :=
  WordArith.toNat_minsi_of_lt a b ha hb

theorem relV_lt (g : IVec SL 32) (b0 b1 b2 b3 b4 b5 b6 b7 : BitVec 32) (x : SL.Idx) : (relV g b0 b1 b2 b3 b4 b5 b6 b7 x).toNat < 8 := by
  have h := addi_le _ _ x (addi_le _ _ x (addi_le _ _ x (addi_le _ _ x (addi_le _ _ x (addi_le _ _ x (addi_le _ _ x (addi_le _ _ x
    (show (broadcast SL 0#32 x).toNat ≤ 0 from le_rfl)
    (passV_le g b0 x) (by decide)) (passV_le g b1 x) (by decide)) (passV_le g b2 x) (by decide)) (passV_le g b3 x) (by decide))
    (passV_le g b4 x) (by decide)) (passV_le g b5 x) (by decide)) (passV_le g b6 x) (by decide)) (passV_le g b7 x) (by decide)
  show (IntOp.minsi _ (7#32)).toNat < 8
  rw [minsi_toNat (lt_of_le_of_lt h (by decide)) (by decide)]
  show min _ 7 < 8
  omega

theorem inSlab {g : IVec SL 32} {b0 b1 b2 b3 b4 b5 b6 b7 : BitVec 32} {r16 : IVec SL 32} (hr : ∀ x, (r16 x).toNat < 4096) :
    InSlab (relV g b0 b1 b2 b3 b4 b5 b6 b7) r16 := by
  intro a x
  match a with
  | 0 => exact relV_lt g b0 b1 b2 b3 b4 b5 b6 b7 x
  | 1 => exact hr x

/-! ## The step as a program -/

section

variable {nD : Nat} {τ : Topo} {sig : RefSig} {Ix : Type} [DecidableEq Ix] {Name : Type} [DecidableEq Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

/-- One step: sixteen row indices and values are read, the places are checked, the values added. `G` is the condition the
    program runs the step under. -/
def stepP {p : Proc τ} (acc : Memref sig p.kind .vmem SA .f32) (rb : Memref sig p.kind .vmem ST .i32)
    (vb : Memref sig p.kind .vmem ST .f32) (T : TileArgs) (G : Prop) (hG : G)
    (u : BitVec 32) (off : Fin 1 → ℕ) (inb : ∀ a, off a + SL.size a ≤ ST.size a)
    (hl₁ : rb.view.LoadsAt (Rect.unit (s := ST) off SL.size inb).toLoadRect) (hl₂ : vb.view.LoadsAt (Rect.unit (s := ST) off SL.size inb).toLoadRect)
    (hs : (acc.access (.whole SA)).Stores Finset.univ)
    (dec : ∀ r16, Decidable (G → InSlab (T.rel u) r16)) {β : Type} (k : Prog (TpuEff nD τ sig (Elt F) Λ p) β) :
    Prog (TpuEff nD τ sig (Elt F) Λ p) β := do
  let r16 : Vec F SL .i32 ← Prog.lift (.load rb (Rect.unit (s := ST) off SL.size inb).toLoadRect hl₁)
  let vl : Vec F SL .f32 ← Prog.lift (.load vb (Rect.unit (s := ST) off SL.size inb).toLoadRect hl₂)
  have w : G → InSlab (T.rel u) r16 :=
    (← Prog.lift (TpuEff.assume (G → InSlab (T.rel u) r16) (dec r16))).down
  SparseCore.vectorStoreIdx acc ![T.rel u, r16] vl (T.mask u) true (w hG) hs
  k

variable {c}

/-- The step adds into the slab what `stepF` says, when the row indices it reads are rows of the result. -/
theorem wp_step {acc : Memref sig c.2.kind .vmem SA .f32} {rb : Memref sig c.2.kind .vmem ST .i32} {vb : Memref sig c.2.kind .vmem ST .f32}
    {T : TileArgs} {G : Prop} {hG : G} {u : BitVec 32} {off : Fin 1 → ℕ} {inb : ∀ a, off a + SL.size a ≤ ST.size a} {hl₁ hl₂ hs dec}
    {β : Type} {k : Prog (TpuEff nD τ sig (Elt F) Λ c.2) β} {Q : β → sProp 𝕄}
    {A : Vec F SA .f32} {xr : ST.Idx → Elt F .i32} {xv : ST.Idx → Elt F .f32} (hx : ∀ x, (xr x).toNat < 4096) :
    (iprop(owns c acc fullShare A ∗ owns c rb fullShare xr ∗ owns c vb fullShare xv) : sProp 𝕄)
      ⊢ iprop((iprop(owns c acc fullShare (stepF A (lanes (F := F) (e := .i32) xr off inb) (lanes (e := .f32) xv off inb) (T.rel u) (T.mask u))
              ∗ owns c rb fullShare xr ∗ owns c vb fullShare xv) -∗ wp frame (wpE defs 𝒱 c bd) Set.univ k Q)
        -∗ wp frame (wpE defs 𝒱 c bd) Set.univ (stepP acc rb vb T G hG u off inb hl₁ hl₂ hs dec k) Q) := by
  have hin : InSlab (T.rel u) (lanes (F := F) (e := .i32) xr off inb) := inSlab fun x => hx _
  unfold stepP
  iintro ⟨HA, Hr, Hv⟩ Hk
  iapply (wp_load_owns 𝒱 c bd Set.univ (m := rb) (X := xr) (q := fullShare)) $$ Hr
  iintro Hr
  iapply (wp_load_owns 𝒱 c bd Set.univ (m := vb) (X := xv) (q := fullShare)) $$ Hv
  iintro Hv
  iapply (wp_assume 𝒱 c bd Set.univ (fun _ => hin))
  iapply (wp_storeIdx_owns 𝒱 c bd Set.univ (base := acc) (X := A)) $$ HA
  iintro HA
  iapply Hk
  isplitl [HA]
  · unfold stepF; rw [dif_pos hin]; iexact HA
  isplitl [Hr]; · iexact Hr
  iexact Hv

/-- A step of trip `k` is decided at the row indices it reads. -/
abbrev StepDec (T : TileArgs) (G : Prop) (u : BitVec 32) : Type := ∀ r16, Decidable (G → InSlab (T.rel u) r16)

/-- A trip: four steps. -/
def tripP {p : Proc τ} (acc : Memref sig p.kind .vmem SA .f32) (rb : Memref sig p.kind .vmem ST .i32)
    (vb : Memref sig p.kind .vmem ST .f32) (T : TileArgs) (G : Prop) (hG : G) (k : ℕ) (hk : k < 32)
    (hl₁ : ∀ off inb, rb.view.LoadsAt (Rect.unit (s := ST) off SL.size inb).toLoadRect)
    (hl₂ : ∀ off inb, vb.view.LoadsAt (Rect.unit (s := ST) off SL.size inb).toLoadRect)
    (hs : (acc.access (.whole SA)).Stores Finset.univ)
    (d0 : StepDec T G (uOf k 0#32)) (d1 : StepDec T G (uOf k 1#32)) (d2 : StepDec T G (uOf k 2#32)) (d3 : StepDec T G (uOf k 3#32)) :
    Prog (TpuEff nD τ sig (Elt F) Λ p) (BitVec 32) :=
  stepP acc rb vb T G hG (uOf k 0#32) (offOf k 0#32) (offOf_inb hk 0 (by decide)) (hl₁ _ _) (hl₂ _ _) hs d0 <|
  stepP acc rb vb T G hG (uOf k 1#32) (offOf k 1#32) (offOf_inb hk 1 (by decide)) (hl₁ _ _) (hl₂ _ _) hs d1 <|
  stepP acc rb vb T G hG (uOf k 2#32) (offOf k 2#32) (offOf_inb hk 2 (by decide)) (hl₁ _ _) (hl₂ _ _) hs d2 <|
  stepP acc rb vb T G hG (uOf k 3#32) (offOf k 3#32) (offOf_inb hk 3 (by decide)) (hl₁ _ _) (hl₂ _ _) hs d3 <|
  pure 0#32

theorem wp_trip {acc : Memref sig c.2.kind .vmem SA .f32} {rb : Memref sig c.2.kind .vmem ST .i32} {vb : Memref sig c.2.kind .vmem ST .f32}
    {T : TileArgs} {G : Prop} {hG : G} {k : Fin 32} {hl₁ hl₂ hs d0 d1 d2 d3}
    {Q : BitVec 32 → sProp 𝕄} {A : Vec F SA .f32} {xr : ST.Idx → Elt F .i32} {xv : ST.Idx → Elt F .f32} (hx : ∀ x, (xr x).toNat < 4096) :
    (iprop(owns c acc fullShare A ∗ owns c rb fullShare xr ∗ owns c vb fullShare xv) : sProp 𝕄)
      ⊢ iprop((iprop(owns c acc fullShare (tripF T xr xv k A) ∗ owns c rb fullShare xr ∗ owns c vb fullShare xv) -∗ Q 0#32)
        -∗ wp frame (wpE defs 𝒱 c bd) Set.univ (tripP acc rb vb T G hG k.val k.isLt hl₁ hl₂ hs d0 d1 d2 d3) Q) := by
  unfold tripP
  iintro H Hk
  iapply (wp_step 𝒱 bd hx) $$ H
  iintro H
  iapply (wp_step 𝒱 bd hx) $$ H
  iintro H
  iapply (wp_step 𝒱 bd hx) $$ H
  iintro H
  iapply (wp_step 𝒱 bd hx) $$ H
  iintro H
  iapply (le_wp_ret frame (wpE defs 𝒱 c bd) Set.univ)
  iapply Hk
  iexact H

/-- The loop over a tile's trips. -/
@[reducible] def tileLoop : Scf.Loop 32 := ⟨0#32, Scalar.addi 0#32 32#32, 1#32⟩
theorem tileLoop_trips : tileLoop.trips = 32 := by decide

/-- A tile added into the slab. -/
theorem wp_tile {acc : Memref sig c.2.kind .vmem SA .f32} {rb : Memref sig c.2.kind .vmem ST .i32} {vb : Memref sig c.2.kind .vmem ST .f32}
    {T : TileArgs} {G : Prop} {hG : G} {ok : tileLoop.OK} {init : BitVec 32}
    {body : Fin tileLoop.trips → BitVec 32 → Prog (TpuEff nD τ sig (Elt F) Λ c.2) (BitVec 32)}
    {hl₁ hl₂ hs}
    (hbody : ∀ (k : Fin tileLoop.trips) a, ∃ d0 d1 d2 d3, body k a = tripP acc rb vb T G hG k.val (Nat.lt_of_lt_of_eq k.isLt tileLoop_trips) hl₁ hl₂ hs d0 d1 d2 d3)
    {Q : BitVec 32 → sProp 𝕄} {A : Vec F SA .f32} {xr : ST.Idx → Elt F .i32} {xv : ST.Idx → Elt F .f32} (hx : ∀ x, (xr x).toNat < 4096) :
    (iprop(owns c acc fullShare A ∗ owns c rb fullShare xr ∗ owns c vb fullShare xv) : sProp 𝕄)
      ⊢ iprop((∀ r, iprop(owns c acc fullShare (tileF T xr xv A) ∗ owns c rb fullShare xr ∗ owns c vb fullShare xv) -∗ Q r)
        -∗ wp frame (wpE defs 𝒱 c bd) Set.univ (Scf.Loop.for tileLoop ok init body) Q) := by
  iintro H Hk
  iapply (Scf.wp_for frame (wpE defs 𝒱 c bd) Set.univ tileLoop.lb tileLoop.ub tileLoop.st ok init body
    (fun n _ => iprop(owns c acc fullShare (tripsF T xr xv A n) ∗ owns c rb fullShare xr ∗ owns c vb fullShare xv))
    (by
      intro k a
      obtain ⟨d0, d1, d2, d3, hb⟩ := hbody k a
      rw [hb]
      have hk : k.val < 32 := Nat.lt_of_lt_of_eq k.isLt tileLoop_trips
      iintro H
      iapply (wp_trip 𝒱 bd (k := ⟨k.val, hk⟩) hx) $$ H
      iintro H
      rw [show tripsF T xr xv A (k.val + 1) = tripF T xr xv ⟨k.val, hk⟩ (tripsF T xr xv A k.val) from dif_pos hk]
      iexact H))
  isplitl [H]; · iexact H
  iintro %r H
  iapply Hk $$ %r
  iexact H

end

end Cert.Proof.Csc
end
-- ==== Proof.Zero.lean ====
/-
  Clearing the slab. A trip clears thirty-two columns: for each of the eight rows two vectors of sixteen places, each read and
  then overwritten.
-/
module

public import proofs.«01_k».proof.Proof.Lane

@[expose] public section

noncomputable section

namespace Cert.Proof.Csc

open Idealize.ShloMosaic
open Idealize.SL Idealize.SL.RA Idealize.SL.Sem
open Idealize.SL.BI (sProp)
open scoped Idealize.SL.BI
open Idealize.SL.BI.BIBase Idealize.SL.BI.Laws Idealize.SL.ProofMode

abbrev SZ : Shape := ⟨2, ![1, 16]⟩

/-- Where vector `m` of trip `k` goes: row `m / 2`, sixteen columns from `32 k + 16 (m mod 2)`. -/
def zOff (k m : ℕ) : Fin 2 → ℕ :=
  ![m / 2, (Scalar.indexCast (Scalar.muli (Scalar.addi (Scalar.muli (Scf.iv 0#32 1#32 k) 2#32) (BitVec.ofNat 32 (m % 2))) 16#32)).toNat]

theorem zOff_col {k m : ℕ} (hk : k < 128) : zOff k m 1 = 32 * k + 16 * (m % 2) := by
  show (((0#32 + BitVec.ofNat 32 k * 1#32) * 2#32 + BitVec.ofNat 32 (m % 2)) * 16#32).toNat = _
  rw [BitVec.zero_add, BitVec.mul_one, BitVec.toNat_mul, BitVec.toNat_add, BitVec.toNat_mul, BitVec.toNat_ofNat, BitVec.toNat_ofNat,
    BitVec.toNat_ofNat, BitVec.toNat_ofNat]
  omega

theorem zOff_inb {k m : ℕ} (hk : k < 128) (hm : m < 16) : ∀ a, zOff k m a + SZ.size a ≤ SA.size a := by
  intro a
  match a with
  | 0 => show m / 2 + 1 ≤ 8; omega
  | 1 => rw [zOff_col hk]; show 32 * k + 16 * (m % 2) + 16 ≤ 4096; omega

variable {F : FTy → Type} [FloatOps F]
variable {nD : Nat} {τ : Topo} {sig : RefSig} {Ix : Type} [DecidableEq Ix] {Name : Type} [DecidableEq Name]
variable {U : Type} [URA U] {Lvl : Type} [Preorder Lvl] {Λ : Labels}
variable {defs : Defs nD τ sig (Elt F) Λ} (𝒱 : Variants) {c : Thread nD τ} (bd : Option 𝒱.V)

local notation "𝕄" => MT nD τ sig Ix (Elt F) Name U Lvl

/-- What the stores of one trip do, the last `n` vectors of its sixteen. -/
def zeroP {p : Proc τ} (acc : Memref sig p.kind .vmem SA .f32) (z : SZ.Idx → Elt F .f32) (k : ℕ) (hk : k < 128)
    (hl : ∀ off inb, acc.view.LoadsAt (Rect.unit (s := SA) off SZ.size inb).toLoadRect)
    (hs : ∀ off inb, (acc.access (Rect.unit (s := SA) off SZ.size inb)).Stores Finset.univ) :
    ∀ n, n ≤ 16 → Prog (TpuEff nD τ sig (Elt F) Λ p) (BitVec 32)
  | 0, _ => pure 0#32
  | n + 1, h => do
      let _x : Vec F SZ .f32 ← Prog.lift (.load acc (Rect.unit (s := SA) (zOff k (15 - n)) SZ.size (zOff_inb hk (by omega))).toLoadRect (hl _ _))
      Prog.lift (.store acc (Rect.unit (s := SA) (zOff k (15 - n)) SZ.size (zOff_inb hk (by omega))) z Finset.univ (hs _ _) (.inl rfl))
      zeroP acc z k hk hl hs n (by omega)

/-- The places already cleared after `m` vectors of trip `k` hold `z₀`. -/
def Cleared (z₀ : Elt F .f32) (k m : ℕ) (X : SA.Idx → Elt F .f32) : Prop :=
  ∀ i : SA.Idx, ((i 1).val < 32 * k ∨ ((i 1).val < 32 * k + 32 ∧ 2 * (i 0).val + ((i 1).val - 32 * k) / 16 < m)) → X i = z₀

theorem cleared_step {z₀ : Elt F .f32} {z : SZ.Idx → Elt F .f32} (hz : ∀ x, z x = z₀) {k m : ℕ} (hk : k < 128) (hm : m < 16)
    {X X' : SA.Idx → Elt F .f32} (h : Cleared z₀ k m X)
    (h1 : ∀ x, X' ((Rect.unit (s := SA) (zOff k m) SZ.size (zOff_inb hk hm)).emb x) = z x)
    (h2 : ∀ i, (∀ x, (Rect.unit (s := SA) (zOff k m) SZ.size (zOff_inb hk hm)).emb x ≠ i) → X' i = X i) : Cleared z₀ k (m + 1) X' := by
  intro i hi
  by_cases hx : ∃ x, (Rect.unit (s := SA) (zOff k m) SZ.size (zOff_inb hk hm)).emb x = i
  · obtain ⟨x, rfl⟩ := hx
    rw [h1, hz]
  · rw [h2 i (fun x hx' => hx ⟨x, hx'⟩)]
    apply h
    rcases hi with hi | ⟨hi, hj⟩
    · exact .inl hi
    · by_cases hlt : (i 1).val < 32 * k
      · exact .inl hlt
      refine .inr ⟨hi, ?_⟩
      by_contra hcon
      have heq : 2 * (i 0).val + ((i 1).val - 32 * k) / 16 = m := by omega
      apply hx
      have hc := zOff_col (m := m) hk
      refine ⟨fun a => match a with
        | 0 => ⟨0, by show 0 < 1; decide⟩
        | 1 => ⟨(i 1).val - (32 * k + 16 * (m % 2)), by show _ < 16; omega⟩, ?_⟩
      funext a
      apply Fin.ext
      match a with
      | 0 => show m / 2 + 1 * 0 = _; omega
      | 1 => show zOff k m 1 + 1 * ((i 1).val - (32 * k + 16 * (m % 2))) = _; rw [hc]; omega

theorem cleared_next {z₀ : Elt F .f32} {k : ℕ} {X : SA.Idx → Elt F .f32} (h : Cleared z₀ k 16 X) : Cleared z₀ (k + 1) 0 X := by
  intro i hi
  apply h
  have h0 : (i 0).val < 8 := (i 0).isLt
  omega

theorem wp_zeroP {acc : Memref sig c.2.kind .vmem SA .f32} {z : SZ.Idx → Elt F .f32} {z₀ : Elt F .f32} (hz : ∀ x, z x = z₀)
    {k : ℕ} {hk : k < 128} {hl hs} {Q : BitVec 32 → sProp 𝕄} : ∀ (n : ℕ) (hn : n ≤ 16) (X : SA.Idx → Elt F .f32), Cleared z₀ k (16 - n) X →
    ((owns c acc fullShare X : sProp 𝕄)
      ⊢ iprop((∀ X', ⌜Cleared z₀ k 16 X'⌝ -∗ owns c acc fullShare X' -∗ Q 0#32)
        -∗ wp frame (wpE defs 𝒱 c bd) Set.univ (zeroP acc z k hk hl hs n hn) Q)) := by
  intro n
  induction n with
  | zero =>
    intro hn X hX
    iintro H Hk
    iapply (le_wp_ret frame (wpE defs 𝒱 c bd) Set.univ)
    iapply Hk $$ %X []
    · ipureintro; exact hX
    iexact H
  | succ n ih =>
    intro hn X hX
    unfold zeroP
    iintro H Hk
    iapply (wp_load_owns 𝒱 c bd Set.univ (m := acc) (X := X) (q := fullShare)) $$ H
    iintro H
    iapply (wp_store_owns 𝒱 c bd Set.univ (m := acc) (X := X)) $$ H
    iintro %X' %hX' H
    have hc : Cleared z₀ k (16 - n) X' := by
      have := cleared_step hz hk (m := 15 - n) (by omega) (by rw [show 15 - n = 16 - (n + 1) by omega]; exact hX) hX'.1 hX'.2
      rw [show 15 - n + 1 = 16 - n by omega] at this; exact this
    iapply (ih (by omega) X' hc) $$ H
    iexact Hk

/-- The clearing loop. -/
@[reducible] def zeroLoop : Scf.Loop 32 := ⟨0#32, Scalar.addi 0#32 128#32, 1#32⟩
theorem zeroLoop_trips : zeroLoop.trips = 128 := by decide

theorem wp_zero {acc : Memref sig c.2.kind .vmem SA .f32} {z : SZ.Idx → Elt F .f32} {z₀ : Elt F .f32} (hz : ∀ x, z x = z₀)
    {ok : zeroLoop.OK} {init : BitVec 32} {body : Fin zeroLoop.trips → BitVec 32 → Prog (TpuEff nD τ sig (Elt F) Λ c.2) (BitVec 32)} {hl hs}
    (hbody : ∀ (k : Fin zeroLoop.trips) a, body k a = zeroP acc z k.val (Nat.lt_of_lt_of_eq k.isLt zeroLoop_trips) hl hs 16 le_rfl)
    {Q : BitVec 32 → sProp 𝕄} {X : SA.Idx → Elt F .f32} :
    (owns c acc fullShare X : sProp 𝕄)
      ⊢ iprop((∀ r, owns c acc fullShare (fun _ => z₀) -∗ Q r) -∗ wp frame (wpE defs 𝒱 c bd) Set.univ (Scf.Loop.for zeroLoop ok init body) Q) := by
  iintro H Hk
  iapply (Scf.wp_for frame (wpE defs 𝒱 c bd) Set.univ zeroLoop.lb zeroLoop.ub zeroLoop.st ok init body
    (fun n _ => iprop(∃ X', ⌜Cleared z₀ n 0 X'⌝ ∗ owns c acc fullShare X'))
    (by
      intro k a
      rw [hbody]
      iintro ⟨%X', %hX', H⟩
      iapply (wp_zeroP 𝒱 bd hz 16 le_rfl X' hX') $$ H
      iintro %X'' %hX'' H
      iexists X''
      isplitr; · ipureintro; exact cleared_next hX''
      iexact H))
  isplitl [H]
  · iexists X; isplitr
    · ipureintro; intro i hi; omega
    · iexact H
  iintro %r ⟨%X', %hX', H⟩
  have hX : X' = fun _ => z₀ := by
    funext i; apply hX'
    have h1 : (i 1).val < 4096 := (i 1).isLt
    left; show (i 1).val < 32 * zeroLoop.trips; rw [zeroLoop_trips]; omega
  subst hX
  iapply Hk $$ %r
  iexact H

end Cert.Proof.Csc
end
-- ==== Proof.Words.lean ====
module
public import Idealize.ShloMosaic.Lib.WordArith
public import Idealize.ShloMosaic.Lib.Scf
@[expose] public section

/-!
# The words of a slab

A slab holds eight columns, whose entries are the positions `[s, e)`. The slab's tiles are 2048 positions long and start at `s`
rounded down to a multiple of eight. Here are the words the program computes of `s` and `e` and what they are worth.
-/

open Idealize.ShloMosaic

namespace Cert.Proof.Csc

/-- The first position of the slab's first tile. -/
def baseW (s : BitVec 32) : BitVec 32 := Scalar.andi s 4294967288#32

/-- Division rounded down, from the division rounded to zero. -/
def fdivW (x y : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt y 0#32)) (Scalar.extui (Scalar.cmpi .slt y 0#32))))
      (Scalar.cmpi .ne (Scalar.remsi x y) 0#32))
    (Scalar.subi (Scalar.divsi x y) 1#32) (Scalar.divsi x y)

/-- The number of tiles. -/
def ntW (s e : BitVec 32) : BitVec 32 := fdivW (Scalar.addi (Scalar.subi e (baseW s)) 2047#32) 2048#32

/-- "There is a tile number `x`". -/
def ltW (x : BitVec 32) (s e : BitVec 32) : BitVec 1 := Scalar.cmpi .ne (Scalar.extui (Scalar.cmpi .slt x (ntW s e))) 0#32
def gtW (x : BitVec 32) (s e : BitVec 32) : BitVec 1 := Scalar.cmpi .ne (Scalar.extui (Scalar.cmpi .sgt (ntW s e) x)) 0#32

/-- The loop over pairs of tiles, and the loop for what one trip at a time leaves over, which has no trip. -/
@[reducible] def pairLoop (s e : BitVec 32) : Scf.Loop 32 :=
  ⟨0#32, Scalar.addi 0#32 (Scalar.muli (Scalar.divsi (Scalar.subi (fdivW (Scalar.addi (ntW s e) 1#32) 2#32) 0#32) 1#32) 1#32), 1#32⟩
@[reducible] def restLoop (s e : BitVec 32) : Scf.Loop 32 :=
  ⟨Scalar.addi 0#32 (Scalar.muli (Scalar.divsi (Scalar.subi (fdivW (Scalar.addi (ntW s e) 1#32) 2#32) 0#32) 1#32) 1#32),
   Scalar.addi 0#32 (Scalar.subi (fdivW (Scalar.addi (ntW s e) 1#32) 2#32) 0#32), 1#32⟩

/-- The number of the pair's tile `j`. -/
def tW (k : ℕ) (j : BitVec 32) : BitVec 32 := Scalar.addi (Scalar.muli (Scf.iv 0#32 1#32 k) 2#32) j

/-- Where the window read for the tile `x` positions past the base begins: the last window starts early enough to end in the array. -/
def winW (s x : BitVec 32) : BitVec 32 := Scalar.minsi (Scalar.addi (baseW s) x) 1636352#32
def winOff (s x : BitVec 32) : Fin 1 → ℕ := ![(winW s x).toNat]

/-! ## What they are worth -/

theorem and_mask8_eq (x : BitVec 32) : x &&& 4294967288#32 = (x >>> 3) <<< 3 := by
  ext i hi
  rw [BitVec.getElem_and, BitVec.getElem_shiftLeft, show (4294967288#32 : BitVec 32) = (4294967295#32 <<< 3) by decide,
    BitVec.getElem_shiftLeft, show (4294967295#32 : BitVec 32) = BitVec.allOnes 32 by decide]
  by_cases h : i < 3
  · simp [h]
  · simp only [h, decide_false, Bool.not_false, Bool.true_and, BitVec.getLsbD_ushiftRight, BitVec.getElem_allOnes, Bool.and_true,
      BitVec.getLsbD_allOnes, Bool.false_eq_true, if_false, BitVec.getElem_ushiftRight]
    rw [show 3 + (i - 3) = i by omega, BitVec.getLsbD_eq_getElem hi]

theorem baseW_toNat (s : BitVec 32) : (baseW s).toNat = s.toNat / 8 * 8 := by
  show (s &&& 4294967288#32).toNat = _
  rw [and_mask8_eq, BitVec.toNat_shiftLeft, BitVec.toNat_ushiftRight, Nat.shiftLeft_eq, Nat.shiftRight_eq_div_pow]
  have := s.isLt
  omega

theorem toInt_of_small {x : BitVec 32} (h : x.toNat < 2 ^ 31) : x.toInt = x.toNat := by
  rw [BitVec.toInt_eq_toNat_cond, if_pos (by omega)]

theorem cond_iff (b : Bool) : (Scalar.cmpi .ne (Scalar.extui (BitVec.ofBool b)) 0#32 = 1#1) ↔ b = true := by
  cases b <;> decide

theorem ltW_iff {x s e : BitVec 32} : ltW x s e = 1#1 ↔ x.toInt < (ntW s e).toInt := by
  show (Scalar.cmpi .ne (Scalar.extui (BitVec.ofBool (x.slt (ntW s e)))) 0#32 = 1#1) ↔ _
  rw [cond_iff, BitVec.slt_iff_toInt_lt]

theorem gtW_iff {x s e : BitVec 32} : gtW x s e = 1#1 ↔ x.toInt < (ntW s e).toInt := by
  show (Scalar.cmpi .ne (Scalar.extui (BitVec.ofBool (x.slt (ntW s e)))) 0#32 = 1#1) ↔ _
  rw [cond_iff, BitVec.slt_iff_toInt_lt]

theorem divsi_toInt {x y : BitVec 32} (hy : 0 < y.toInt) : (Scalar.divsi x y).toInt = x.toInt.tdiv y.toInt := by
  have hc : ¬IntOp.SDivCorner x y := by
    rintro (rfl | ⟨-, rfl⟩)
    · exact absurd hy (by decide)
    · exact absurd hy (by decide)
  show (IntOp.divsi .scalar x y).toInt = _
  rw [IntOp.divsi, if_neg hc]
  apply BitVec.toInt_sdiv_of_ne_or_ne
  right; rintro rfl; exact absurd hy (by decide)

theorem remsi_toInt {x y : BitVec 32} (hy : 0 < y.toInt) : (Scalar.remsi x y).toInt = x.toInt.tmod y.toInt := by
  have hc : ¬IntOp.SDivCorner x y := by
    rintro (rfl | ⟨-, rfl⟩)
    · exact absurd hy (by decide)
    · exact absurd hy (by decide)
  show (IntOp.remsi .scalar x y).toInt = _
  rw [IntOp.remsi, if_neg hc, BitVec.toInt_srem]

theorem fdivW_toInt {x y : BitVec 32} (hy : 1 < y.toInt) : (fdivW x y).toInt = x.toInt / y.toInt := by
  have hd := divsi_toInt (x := x) (y := y) (by omega)
  have hr := remsi_toInt (x := x) (y := y) (by omega)
  have hsy : Scalar.subi (Scalar.extui (Scalar.cmpi .sgt y 0#32)) (Scalar.extui (Scalar.cmpi .slt y 0#32)) = 1#32 := by
    have h1 : Scalar.cmpi .sgt y 0#32 = BitVec.ofBool true :=
      congrArg BitVec.ofBool (BitVec.slt_iff_toInt_lt.mpr (show (0#32).toInt < y.toInt by rw [show (0#32 : BitVec 32).toInt = 0 from rfl]; omega))
    have h2 : Scalar.cmpi .slt y 0#32 = BitVec.ofBool false :=
      congrArg BitVec.ofBool (by rw [Bool.eq_false_iff, Ne, BitVec.slt_iff_toInt_lt, show (0#32 : BitVec 32).toInt = 0 from rfl]; omega)
    rw [h1, h2]; decide
  have hx1 : Scalar.cmpi .sgt x 0#32 = BitVec.ofBool (decide (0 < x.toInt)) :=
    congrArg BitVec.ofBool (by rw [Bool.eq_iff_iff, BitVec.slt_iff_toInt_lt, show (0#32 : BitVec 32).toInt = 0 from rfl, decide_eq_true_eq])
  have hx2 : Scalar.cmpi .slt x 0#32 = BitVec.ofBool (decide (x.toInt < 0)) :=
    congrArg BitVec.ofBool (by rw [Bool.eq_iff_iff, BitVec.slt_iff_toInt_lt, show (0#32 : BitVec 32).toInt = 0 from rfl, decide_eq_true_eq])
  have hr0 : Scalar.cmpi .ne (Scalar.remsi x y) 0#32 = BitVec.ofBool (decide (x.toInt.tmod y.toInt ≠ 0)) :=
    congrArg BitVec.ofBool (by
      rw [Bool.eq_iff_iff, decide_eq_true_eq, bne_iff_ne, ne_eq, ← BitVec.toInt_inj, hr]; rfl)
  unfold fdivW
  rw [hsy, hx1, hx2, hr0]
  have htd := Int.tdiv_eq_ediv (a := x.toInt) (b := y.toInt)
  have hdvd : y.toInt ∣ x.toInt ↔ x.toInt.tmod y.toInt = 0 := Int.dvd_iff_tmod_eq_zero
  simp only [hdvd, Int.sign_eq_one_of_pos (by omega : 0 < y.toInt)] at htd
  rcases lt_trichotomy x.toInt 0 with h | h | h
  · rw [decide_eq_false (by omega : ¬ 0 < x.toInt), decide_eq_true h]
    by_cases hm : x.toInt.tmod y.toInt = 0
    · rw [show decide (x.toInt.tmod y.toInt ≠ 0) = false from decide_eq_false (by simpa using hm)]
      show (Scalar.divsi x y).toInt = _
      rw [hd, htd, if_pos (Or.inr hm)]; omega
    · rw [show decide (x.toInt.tmod y.toInt ≠ 0) = true from decide_eq_true hm]
      show (Scalar.divsi x y - 1#32).toInt = _
      rw [if_neg (not_or.mpr ⟨by omega, hm⟩)] at htd
      have hb := BitVec.le_toInt x
      have hlb : -2 ^ 30 - 1 ≤ x.toInt / y.toInt := by
        have : -2 ^ 31 ≤ x.toInt := hb
        have h3 : (x.toInt / y.toInt) * y.toInt + x.toInt % y.toInt = x.toInt := Int.ediv_mul_add_emod _ _
        have h4 := Int.emod_lt_of_pos x.toInt (by omega : 0 < y.toInt)
        rcases Int.lt_or_le (x.toInt / y.toInt) (-2 ^ 30 - 1) with hcon | hcon
        · have h5 := Int.mul_le_mul_of_nonpos_left (a := x.toInt / y.toInt + 1) (b := y.toInt) (c := 2) (by omega) (by omega)
          rw [Int.add_mul] at h5
          omega
        · exact hcon
      have hub : x.toInt / y.toInt ≤ 0 := by
        have := Int.ediv_neg_of_neg_of_pos h (by omega : 0 < y.toInt); omega
      rw [BitVec.toInt_sub, hd, htd, show (1#32 : BitVec 32).toInt = 1 from rfl]
      rw [show x.toInt / y.toInt + 1 - 1 = x.toInt / y.toInt by omega]
      exact Int.bmod_eq_of_le (by omega) (by omega)
  · rw [decide_eq_false (by omega : ¬ 0 < x.toInt), decide_eq_false (by omega : ¬ x.toInt < 0),
      show decide (x.toInt.tmod y.toInt ≠ 0) = false from decide_eq_false (by rw [h, Int.zero_tmod]; simp)]
    show (Scalar.divsi x y).toInt = _
    rw [hd, htd, if_pos (Or.inl (by omega)), h]; omega
  · rw [decide_eq_true h, decide_eq_false (by omega : ¬ x.toInt < 0)]
    have hsel : ∀ b : Bool, Scalar.select (Scalar.andi (Scalar.cmpi .ne (Scalar.subi (Scalar.extui (BitVec.ofBool true))
        (Scalar.extui (BitVec.ofBool false))) 1#32) (BitVec.ofBool b)) (Scalar.subi (Scalar.divsi x y) 1#32) (Scalar.divsi x y) = Scalar.divsi x y := by
      intro b; cases b <;> rfl
    rw [hsel, hd, htd, if_pos (Or.inl (by omega))]; omega

/-- The positions `s` and `e` are positions of the array or its end. -/
def InArr (s : BitVec 32) : Prop := s.toNat ≤ 1638400

/-- The number of tiles as a number. -/
def ntN (s e : BitVec 32) : ℕ := (e.toNat - s.toNat / 8 * 8 + 2047) / 2048

theorem ntN_le {s e : BitVec 32} (he : InArr e) : ntN s e ≤ 801 := by
  unfold ntN; unfold InArr at he; omega

theorem ntW_toInt {s e : BitVec 32} (hs : InArr s) (he : InArr e) :
    (ntW s e).toInt = ((e.toNat : ℤ) - (s.toNat / 8 * 8 : ℕ) + 2047) / 2048 := by
  unfold InArr at hs he
  have hb := baseW_toNat s
  unfold ntW
  rw [fdivW_toInt (by decide), show (2048#32 : BitVec 32).toInt = 2048 from rfl]
  refine congrArg (fun z : ℤ => z / 2048) ?_
  show (e - baseW s + 2047#32).toInt = _
  have h1 : (e - baseW s).toInt = (e.toNat : ℤ) - (s.toNat / 8 * 8 : ℕ) := by
    rw [WordArith.toInt_sub_of_bounds, toInt_of_small (by omega), toInt_of_small (by omega), hb] <;>
    rw [toInt_of_small (by omega), toInt_of_small (by omega), hb] <;> omega
  rw [WordArith.toInt_add_of_bounds, h1, show (2047#32 : BitVec 32).toInt = 2047 from rfl] <;>
  rw [h1, show (2047#32 : BitVec 32).toInt = 2047 from rfl] <;> omega

theorem lt_ntW {s e : BitVec 32} (hs : InArr s) (he : InArr e) (n : ℕ) : ((n : ℤ) < (ntW s e).toInt) ↔ n < ntN s e := by
  rw [ntW_toInt hs he]; unfold ntN; unfold InArr at hs he; omega

theorem pairs_toInt {s e : BitVec 32} (hs : InArr s) (he : InArr e) : (fdivW (Scalar.addi (ntW s e) 1#32) 2#32).toInt = ((ntW s e).toInt + 1) / 2 := by
  have h := ntW_toInt hs he
  unfold InArr at hs he
  rw [fdivW_toInt (by decide), show (2#32 : BitVec 32).toInt = 2 from rfl]
  refine congrArg (fun z : ℤ => z / 2) ?_
  show (ntW s e + 1#32).toInt = _
  rw [WordArith.toInt_add_of_bounds, show (1#32 : BitVec 32).toInt = 1 from rfl] <;>
  rw [show (1#32 : BitVec 32).toInt = 1 from rfl, h] <;> omega

theorem loopBound_eq (x : BitVec 32) :
    Scalar.addi 0#32 (Scalar.muli (Scalar.divsi (Scalar.subi x 0#32) 1#32) 1#32) = x := by
  have h : Scalar.divsi (x - 0#32) 1#32 = x - 0#32 := WordArith.divsi_one .scalar _
  show 0#32 + Scalar.divsi (x - 0#32) 1#32 * 1#32 = x
  rw [h]; simp

theorem restBound_eq (x : BitVec 32) : Scalar.addi 0#32 (Scalar.subi x 0#32) = x := by
  show 0#32 + (x - 0#32) = x
  simp

theorem pairLoop_trips {s e : BitVec 32} (hs : InArr s) (he : InArr e) : (pairLoop s e).trips = (ntN s e + 1) / 2 := by
  show Scf.trips 0#32 (Scalar.addi 0#32 (Scalar.muli (Scalar.divsi (Scalar.subi (fdivW (Scalar.addi (ntW s e) 1#32) 2#32) 0#32) 1#32) 1#32)) 1#32 = _
  rw [loopBound_eq]
  unfold Scf.trips
  rw [pairs_toInt hs he, ntW_toInt hs he, show (1#32 : BitVec 32).toInt = 1 from rfl, show (0#32 : BitVec 32).toInt = 0 from rfl]
  unfold ntN; unfold InArr at hs he; omega

theorem pairLoop_ok {s e : BitVec 32} (hs : InArr s) (he : InArr e) : (pairLoop s e).OK := by
  refine ⟨(by decide : 0 < (1#32 : BitVec 32).toInt), ?_⟩
  have h := pairLoop_trips hs he
  have h2 := ntN_le (s := s) he
  show (0#32 : BitVec 32).toInt + ((pairLoop s e).trips : ℤ) * (1#32 : BitVec 32).toInt < 2 ^ 31
  rw [h, show (1#32 : BitVec 32).toInt = 1 from rfl, show (0#32 : BitVec 32).toInt = 0 from rfl]
  omega

theorem restLoop_trips (s e : BitVec 32) : (restLoop s e).trips = 0 := by
  show Scf.trips (Scalar.addi 0#32 (Scalar.muli (Scalar.divsi (Scalar.subi (fdivW (Scalar.addi (ntW s e) 1#32) 2#32) 0#32) 1#32) 1#32)) (Scalar.addi 0#32 (Scalar.subi (fdivW (Scalar.addi (ntW s e) 1#32) 2#32) 0#32)) 1#32 = _
  rw [loopBound_eq, restBound_eq]
  unfold Scf.trips
  rw [show (1#32 : BitVec 32).toInt = 1 from rfl]; omega

theorem restLoop_ok {s e : BitVec 32} (hs : InArr s) (he : InArr e) : (restLoop s e).OK := by
  refine ⟨(by decide : 0 < (1#32 : BitVec 32).toInt), ?_⟩
  have h := restLoop_trips s e
  show (Scalar.addi 0#32 (Scalar.muli (Scalar.divsi (Scalar.subi (fdivW (Scalar.addi (ntW s e) 1#32) 2#32) 0#32) 1#32) 1#32)).toInt
    + ((restLoop s e).trips : ℤ) * (1#32 : BitVec 32).toInt < 2 ^ 31
  rw [h, loopBound_eq, pairs_toInt hs he, ntW_toInt hs he]
  unfold InArr at hs he; omega

theorem tW_toNat {k j : ℕ} (hk : k < 2 ^ 20) (hj : j < 8) : (tW k (BitVec.ofNat 32 j)).toNat = 2 * k + j := by
  show ((0#32 + BitVec.ofNat 32 k * 1#32) * 2#32 + BitVec.ofNat 32 j).toNat = _
  rw [BitVec.zero_add, BitVec.mul_one, BitVec.toNat_add, BitVec.toNat_mul, BitVec.toNat_ofNat, BitVec.toNat_ofNat, BitVec.toNat_ofNat]
  omega

theorem add_ofNat_toNat {x : BitVec 32} {n m : ℕ} (hx : x.toNat = n) (h : n + m < 2 ^ 31) : (Scalar.addi x (BitVec.ofNat 32 m)).toNat = n + m := by
  show (x + BitVec.ofNat 32 m).toNat = _
  rw [BitVec.toNat_add, hx, BitVec.toNat_ofNat]; omega

theorem mul2048_toNat {x : BitVec 32} {n : ℕ} (hx : x.toNat = n) (h : n < 2 ^ 20) : (Scalar.muli x 2048#32).toNat = n * 2048 := by
  show (x * 2048#32).toNat = _
  rw [BitVec.toNat_mul, hx, show (2048#32 : BitVec 32).toNat = 2048 from rfl]; omega

theorem ltW_iff_lt {x s e : BitVec 32} {n : ℕ} (hx : x.toNat = n) (hn : n < 2 ^ 31) (hs : InArr s) (he : InArr e) : ltW x s e = 1#1 ↔ n < ntN s e := by
  rw [ltW_iff, toInt_of_small (by omega), hx, lt_ntW hs he]

theorem gtW_iff_lt {x s e : BitVec 32} {n : ℕ} (hx : x.toNat = n) (hn : n < 2 ^ 31) (hs : InArr s) (he : InArr e) : gtW x s e = 1#1 ↔ n < ntN s e := by
  rw [gtW_iff, toInt_of_small (by omega), hx, lt_ntW hs he]

/-- The number at which the window for tile `t` begins. -/
def winN (s : BitVec 32) (t : ℕ) : ℕ := min (s.toNat / 8 * 8 + t * 2048) 1636352

theorem winW_toNat {s x : BitVec 32} {t : ℕ} (hs : InArr s) (ht : t < 1000) (hx : x.toNat = t * 2048) : (winW s x).toNat = winN s t := by
  unfold InArr at hs
  have hb := baseW_toNat s
  have ha : (Scalar.addi (baseW s) x).toNat = s.toNat / 8 * 8 + t * 2048 := by
    show (baseW s + x).toNat = _
    rw [BitVec.toNat_add, hb, hx]; omega
  show (IntOp.minsi (Scalar.addi (baseW s) x) 1636352#32).toNat = _
  rw [WordArith.toNat_minsi_of_lt _ _ (by omega) (by decide), ha]; rfl

theorem winW_dvd {s x : BitVec 32} {t : ℕ} (hs : InArr s) (ht : t < 1000) (hx : x.toNat = t * 2048) : 8 ∣ (winW s x).toNat := by
  rw [winW_toNat hs ht hx]; unfold winN
  omega

theorem winOff_inb {s x : BitVec 32} {t : ℕ} (hs : InArr s) (ht : t < 1000) (hx : x.toNat = t * 2048) :
    ∀ a : Fin 1, winOff s x a + (2048 : ℕ) ≤ 1638400 := by
  intro a
  obtain rfl : a = 0 := Subsingleton.elim _ _
  show (winW s x).toNat + 2048 ≤ 1638400
  rw [winW_toNat hs ht hx]; unfold winN; omega

end Cert.Proof.Csc
end
-- ==== Proof.Pick.lean ====
/-
  One lane of a vector of sixteen words, taken as the program takes it: every other lane is replaced by zero and the running
  sums' last lane is read.
-/
module

public import proofs.«01_k».proof.Proof.Stream

@[expose] public section

noncomputable section

namespace Cert.Proof.Csc

open Idealize.ShloMosaic

theorem lane15 : ∀ a, (![15] : Fin 1 → ℕ) a < SL.size a := by decide

/-- Lane `j` of `b`. -/
def pickW (io : IVec SL 32) (j : BitVec 32) (b : IVec SL 32) : BitVec 32 :=
  extractAt ![15] (scan .sum (select (cmpi .eq io (broadcast SL j)) b (broadcast SL 0#32))) lane15

/-- The lane number `j` as an index. -/
abbrev laneIx (j : Fin 16) : SL.Idx := Shape.ofLane (d := ![16]) j

theorem foldl_pick (x : BitVec 32) (j : Fin 16) : ∀ (l : List (Fin 16)), l.Nodup → ∀ r : BitVec 32,
    l.foldl (fun r k => r + (if k = j then x else 0#32)) r = r + (if j ∈ l then x else 0#32) := by
  intro l
  induction l with
  | nil => intro _ r; simp
  | cons k l ih =>
    intro hn r
    rw [List.foldl_cons, ih (List.nodup_cons.mp hn).2]
    by_cases h : k = j
    · subst h
      rw [if_pos rfl, if_neg (List.nodup_cons.mp hn).1, if_pos List.mem_cons_self, BitVec.add_zero]
    · rw [if_neg h, BitVec.add_zero]
      have : (j ∈ k :: l) = (j ∈ l) := by rw [List.mem_cons]; simp [Ne.symm h]
      simp only [this]

theorem scan_last (v : IVec SL 32) : extractAt ![15] (scan .sum v) lane15
    = ((List.finRange 16).filter fun k => decide (0 < k.val ∧ k.val ≤ 15)).foldl (fun r k => r + v (laneIx k)) (v (laneIx 0)) := rfl

theorem iota_lane {κ : Kind} (h : SL.Iotas κ 32 [0]) (k : Fin 16) : iota κ SL 32 [0] h (laneIx k) = BitVec.ofNat 32 k.val := by
  show BitVec.ofNat 32 (0 * 16 + k.val) = _
  rw [Nat.zero_mul, Nat.zero_add]

theorem pickW_eq {κ : Kind} (h : SL.Iotas κ 32 [0]) (j : Fin 16) (b : IVec SL 32) :
    pickW (iota κ SL 32 [0] h) (BitVec.ofNat 32 j.val) b = b (laneIx j) := by
  have hv : ∀ k : Fin 16, select (cmpi .eq (iota κ SL 32 [0] h) (broadcast SL (BitVec.ofNat 32 j.val))) b (broadcast SL 0#32) (laneIx k)
      = if k = j then b (laneIx j) else 0#32 := by
    intro k
    show (if BitVec.ofBool (iota κ SL 32 [0] h (laneIx k) == BitVec.ofNat 32 j.val) = 1 then b (laneIx k) else 0#32) = _
    rw [iota_lane]
    by_cases hk : k = j
    · subst hk; rw [if_pos rfl, beq_self_eq_true]; rfl
    · rw [if_neg hk, if_neg]
      rw [beq_eq_false_iff_ne.mpr]
      · decide
      · intro he
        have := congrArg BitVec.toNat he
        rw [BitVec.toNat_ofNat, BitVec.toNat_ofNat] at this
        exact hk (Fin.ext (by omega))
  unfold pickW
  rw [scan_last]
  simp only [hv]
  rw [foldl_pick _ _ _ ((List.nodup_finRange 16).filter _)]
  have hm : (j ∈ (List.finRange 16).filter fun k => decide (0 < k.val ∧ k.val ≤ 15)) = (j ≠ 0) := by
    rw [List.mem_filter]
    simp only [List.mem_finRange, true_and, decide_eq_true_eq, eq_iff_iff, ne_eq, Fin.ext_iff, Fin.val_zero]
    have := j.isLt
    omega
  simp only [hm]
  by_cases h0 : j = 0
  · subst h0; simp
  · simp [h0, Ne.symm h0]

end Cert.Proof.Csc
end
-- ==== Proof.Slab.lean ====
/-
  One slab: eight columns of the matrix, gathered in a scratch buffer. Two streams bring the slab's tiles alternately; a tile is
  added into the slab when it has arrived, and the stream is then sent for the tile after next. The tiles are taken in pairs.
  The contents of the slab are carried exactly.
-/
module

public import proofs.«01_k».proof.Proof.Zero
public import proofs.«01_k».proof.Proof.Words
public import proofs.«01_k».proof.Proof.Pick

@[expose] public section

noncomputable section

namespace Cert.Proof.Csc

open Idealize.ShloMosaic
open Idealize.SL Idealize.SL.RA Idealize.SL.Sem
open Idealize.SL.BI (sProp)
open scoped Idealize.SL.BI
open Idealize.SL.BI.BIBase Idealize.SL.BI.Laws Idealize.SL.ProofMode
open Idealize.ShloMosaic.Transfers

/-! ## The values -/

/-- Where the window of tile `t` of a slab that begins at position `s` begins. -/
def offN (s : BitVec 32) (t : ℕ) : Fin 1 → ℕ := ![winN s t]

theorem offN_inb (s : BitVec 32) (t : ℕ) : ∀ a, offN s t a + ST.size a ≤ SN.size a := by
  intro a
  obtain rfl : a = 0 := Subsingleton.elim _ _
  show winN s t + 2048 ≤ 1638400
  unfold winN; omega

/-- What the steps of a tile are told, `t` being the tile's number: `ends` are the slab's column ends. -/
def tileArgs (io : IVec SL 32) (s e : BitVec 32) (bs : IVec SL 32) (t : BitVec 32) : TileArgs :=
  ⟨io, pickW io 0#32 bs, pickW io 1#32 bs, pickW io 2#32 bs, pickW io 3#32 bs, pickW io 4#32 bs, pickW io 5#32 bs, pickW io 6#32 bs,
    pickW io 7#32 bs, winW s (Scalar.muli t 2048#32), Scalar.maxsi s (Scalar.addi (baseW s) (Scalar.muli t 2048#32)),
    Scalar.minsi e (Scalar.addi (baseW s) (Scalar.muli (Scalar.addi t 1#32) 2048#32))⟩

theorem tW_eq (k j : ℕ) : tW k (BitVec.ofNat 32 j) = BitVec.ofNat 32 (2 * k + j) := by
  show (0#32 + BitVec.ofNat 32 k * 1#32) * 2#32 + BitVec.ofNat 32 j = _
  apply BitVec.eq_of_toNat_eq
  rw [BitVec.zero_add, BitVec.mul_one, BitVec.toNat_add, BitVec.toNat_mul, BitVec.toNat_ofNat, BitVec.toNat_ofNat, BitVec.toNat_ofNat,
    BitVec.toNat_ofNat]
  omega

variable {F : FTy → Type} [FloatOps F]

/-- The window of tile `t` of a table. -/
abbrev tabTile {e : EltTy} (X : SN.Idx → Elt F e) (s : BitVec 32) (t : ℕ) : ST.Idx → Elt F e :=
  fun x => X ((tileRect (offN s t) (offN_inb s t)).emb x)

/-- The slab after its first `n` tiles. -/
def slabN (z₀ : Elt F .f32) (io : IVec SL 32) (s e : BitVec 32) (bs : IVec SL 32) (R : SN.Idx → Elt F .i32) (V : SN.Idx → Elt F .f32) :
    ℕ → Vec F SA .f32
  | 0 => fun _ => z₀
  | n + 1 => if n < ntN s e then
      tileF (tileArgs io s e bs (BitVec.ofNat 32 n)) (tabTile (F := F) (e := .i32) R s n) (tabTile (e := .f32) V s n) (slabN z₀ io s e bs R V n)
    else slabN z₀ io s e bs R V n

/-- The slab when all its tiles have been added. -/
def slabF (z₀ : Elt F .f32) (io : IVec SL 32) (s e : BitVec 32) (bs : IVec SL 32) (R : SN.Idx → Elt F .i32) (V : SN.Idx → Elt F .f32) :
    Vec F SA .f32 := slabN z₀ io s e bs R V (ntN s e)

theorem slabN_of_le (z₀ : Elt F .f32) (io : IVec SL 32) (s e : BitVec 32) (bs : IVec SL 32) (R : SN.Idx → Elt F .i32) (V : SN.Idx → Elt F .f32)
    {n : ℕ} (h : ntN s e ≤ n) : slabN z₀ io s e bs R V n = slabF z₀ io s e bs R V := by
  induction n with
  | zero => rw [slabF, Nat.le_zero.mp h]
  | succ n ih =>
    rcases Nat.lt_or_ge n (ntN s e) with hn | hn
    · rw [slabF, show ntN s e = n + 1 by omega]
    · rw [slabN, if_neg (by omega), ih hn]

/-! ## The program -/

/-- A stream's memory: the two tables, the two buffers and the semaphore, and what its copies ask of them. -/
structure Strm (nD : Nat) (τ : Topo) (sig : RefSig) (p : Proc τ) where
  rows : Memref sig p.kind .hbm SN .i32
  vals : Memref sig p.kind .hbm SN .f32
  rb : Memref sig p.kind .vmem ST .i32
  vb : Memref sig p.kind .vmem ST .f32
  sem : DmaSem sig
  wr : ∀ off inb, ((rows.slice (tileRect off inb) (fun _ => rfl)).view).WordExact
  wv : ∀ off inb, ((vals.slice (tileRect off inb) (fun _ => rfl)).view).WordExact
  wrb : rb.view.WordExact
  wvb : vb.view.WordExact
  tr : (DmaTarget.here (nD := nD) (τ := τ) (p := p) rb).Typed .hbm (.dma sem)
  tv : (DmaTarget.here (nD := nD) (τ := τ) (p := p) vb).Typed .hbm (.dma sem)
  lr : ∀ off inb, rb.view.LoadsAt (Rect.unit (s := ST) off SL.size inb).toLoadRect
  lv : ∀ off inb, vb.view.LoadsAt (Rect.unit (s := ST) off SL.size inb).toLoadRect
  hN : vb.view.dmaCredit = rb.view.dmaCredit

/-- A stream of whole buffers, in memories where the copies ask for nothing more. -/
def strm {nD : Nat} {τ : Topo} {sig : RefSig} {p : Proc τ} (rows : Memref sig p.kind .hbm SN .i32) (vals : Memref sig p.kind .hbm SN .f32)
    (rb : Memref sig p.kind .vmem ST .i32) (vb : Memref sig p.kind .vmem ST .f32) (sem : DmaSem sig)
    (hN : vb.view.dmaCredit = rb.view.dmaCredit) : Strm nD τ sig p where
  rows := rows
  vals := vals
  rb := rb
  vb := vb
  sem := sem
  wr _ _ := View.wordExact_bits rfl
  wv _ _ := View.wordExact_bits rfl
  wrb := View.wordExact_bits rfl
  wvb := View.wordExact_bits rfl
  tr := ⟨Or.inl rfl, trivial⟩
  tv := ⟨Or.inl rfl, trivial⟩
  lr _ _ := View.loadsAt_vmem (by show 0 < SL.numel; decide)
  lv _ _ := View.loadsAt_vmem (by show 0 < SL.numel; decide)
  hN := hN

section Prog
variable {nD : Nat} {τ : Topo} {sig : RefSig} {Λ : Labels} {p : Proc τ}

abbrev TileInb (off : Fin 1 → ℕ) : Prop := ∀ a, off a + ST.size a ≤ SN.size a

/-- Sending a stream for the window at `off`. -/
def Strm.issue (S : Strm nD τ sig p) (off : Fin 1 → ℕ) (inb : TileInb off) {β : Type} (J : Prog (TpuEff nD τ sig (Elt F) Λ p) β) :
    Prog (TpuEff nD τ sig (Elt F) Λ p) β :=
  .op (.enqueueDma (S.rows.slice (tileRect off inb) (fun _ => rfl)) (.here S.rb) (.dma S.sem) (S.wr off inb) S.wrb S.tr) fun _ =>
  .op (.enqueueDma (S.vals.slice (tileRect off inb) (fun _ => rfl)) (.here S.vb) (.dma S.sem) (S.wv off inb) S.wvb S.tv) fun _ => J

/-- Sending it only when the condition holds. -/
def Strm.guard (S : Strm nD τ sig p) (c : BitVec 1) (off : Fin 1 → ℕ) (inb : c = 1#1 → TileInb off) : Prog (TpuEff nD τ sig (Elt F) Λ p) PUnit :=
  if h : c = 1#1 then S.issue off (inb h) (pure ⟨⟩) else pure ⟨⟩

/-- A tile's turn: wait for it, add it, send the stream for the tile after next. -/
def Strm.turn (S : Strm nD τ sig p) (c3 : BitVec 1) (off : Fin 1 → ℕ) (inb : c3 = 1#1 → TileInb off) (ok : tileLoop.OK)
    (tb : c3 = 1#1 → Fin tileLoop.trips → BitVec 32 → Prog (TpuEff nD τ sig (Elt F) Λ p) (BitVec 32))
    (c4 : BitVec 1) (off' : Fin 1 → ℕ) (inb' : c3 = 1#1 → c4 = 1#1 → TileInb off') {β : Type} (J : Prog (TpuEff nD τ sig (Elt F) Λ p) β) :
    Prog (TpuEff nD τ sig (Elt F) Λ p) β :=
  if h3 : c3 = 1#1 then
    .op (.waitDma2 S.sem (S.rows.slice (tileRect off (inb h3)) (fun _ => rfl)) S.rb (S.wr off (inb h3)) S.wrb) fun _ =>
    .op (.waitDma2 S.sem (S.vals.slice (tileRect off (inb h3)) (fun _ => rfl)) S.vb (S.wv off (inb h3)) S.wvb) fun _ =>
    Scf.Loop.for tileLoop ok 0#32 (tb h3) >>= fun _ =>
    if h4 : c4 = 1#1 then S.issue off' (inb' h3 h4) J else J
  else J

/-- What the check before a slab's copies tells, and that it holds when the slab's positions lie in the list. -/
structure ChkEv (chk : BitVec 32 → BitVec 32 → Prop) : Prop where
  holds : ∀ s e, InArr s → InArr e → chk s e
  ok : ∀ s e, chk s e → (pairLoop s e).OK
  okRest : ∀ s e, chk s e → (restLoop s e).OK
  in0 : ∀ s e, chk s e → gtW 0#32 s e = 1#1 → TileInb (winOff s 0#32)
  in1 : ∀ s e, chk s e → gtW 1#32 s e = 1#1 → TileInb (winOff s 2048#32)
  inA : ∀ s e, chk s e → ∀ k : Fin (pairLoop s e).trips, ltW (tW k 0#32) s e = 1#1 → TileInb (winOff s (Scalar.muli (tW k 0#32) 2048#32))
  inA' : ∀ s e, chk s e → ∀ k : Fin (pairLoop s e).trips, ltW (tW k 0#32) s e = 1#1 → ltW (Scalar.addi (tW k 0#32) 2#32) s e = 1#1 →
    TileInb (winOff s (Scalar.muli (Scalar.addi (tW k 0#32) 2#32) 2048#32))
  inB : ∀ s e, chk s e → ∀ k : Fin (pairLoop s e).trips, ltW (tW k 1#32) s e = 1#1 → TileInb (winOff s (Scalar.muli (tW k 1#32) 2048#32))
  inB' : ∀ s e, chk s e → ∀ k : Fin (pairLoop s e).trips, ltW (tW k 1#32) s e = 1#1 → ltW (Scalar.addi (tW k 1#32) 2#32) s e = 1#1 →
    TileInb (winOff s (Scalar.muli (Scalar.addi (tW k 1#32) 2#32) 2048#32))

/-- A pair of tiles. -/
def pairP (S0 S1 : Strm nD τ sig p) {chk : BitVec 32 → BitVec 32 → Prop} (ev : ChkEv chk) {s e : BitVec 32} (hc : chk s e) (ok : tileLoop.OK)
    (k : Fin (pairLoop s e).trips)
    (t0 : ltW (tW k 0#32) s e = 1#1 → Fin tileLoop.trips → BitVec 32 → Prog (TpuEff nD τ sig (Elt F) Λ p) (BitVec 32))
    (t1 : ltW (tW k 1#32) s e = 1#1 → Fin tileLoop.trips → BitVec 32 → Prog (TpuEff nD τ sig (Elt F) Λ p) (BitVec 32)) :
    Prog (TpuEff nD τ sig (Elt F) Λ p) (BitVec 32) :=
  S0.turn (ltW (tW k 0#32) s e) (winOff s (Scalar.muli (tW k 0#32) 2048#32)) (ev.inA s e hc k) ok t0
    (ltW (Scalar.addi (tW k 0#32) 2#32) s e) (winOff s (Scalar.muli (Scalar.addi (tW k 0#32) 2#32) 2048#32)) (ev.inA' s e hc k) <|
  S1.turn (ltW (tW k 1#32) s e) (winOff s (Scalar.muli (tW k 1#32) 2048#32)) (ev.inB s e hc k) ok t1
    (ltW (Scalar.addi (tW k 1#32) 2#32) s e) (winOff s (Scalar.muli (Scalar.addi (tW k 1#32) 2#32) 2048#32)) (ev.inB' s e hc k) <|
  pure 0#32

/-- A tile's trips are the four steps of `tripP`, for the tile the turn is about. -/
def TileBody (S : Strm nD τ sig p) (acc : Memref sig p.kind .vmem SA .f32) (T : TileArgs) (c3 : BitVec 1)
    (tb : c3 = 1#1 → Fin tileLoop.trips → BitVec 32 → Prog (TpuEff nD τ sig (Elt F) Λ p) (BitVec 32)) : Prop :=
  ∃ hs, ∀ (h3 : c3 = 1#1) (k : Fin tileLoop.trips) a, ∃ d0 d1 d2 d3,
    tb h3 k a = tripP acc S.rb S.vb T (c3 = 1#1) h3 k.val (Nat.lt_of_lt_of_eq k.isLt tileLoop_trips) S.lr S.lv hs d0 d1 d2 d3

/-- A pair's trip is `pairP`. -/
def PairBody (S0 S1 : Strm nD τ sig p) (acc : Memref sig p.kind .vmem SA .f32) {chk : BitVec 32 → BitVec 32 → Prop} (ev : ChkEv chk)
    (io : IVec SL 32) {s e : BitVec 32} (bs : IVec SL 32) (hc : chk s e)
    (pb : Fin (pairLoop s e).trips → BitVec 32 → Prog (TpuEff nD τ sig (Elt F) Λ p) (BitVec 32)) : Prop :=
  ∀ k a, ∃ ok t0 t1, pb k a = pairP S0 S1 ev hc ok k t0 t1
    ∧ TileBody S0 acc (tileArgs io s e bs (tW k 0#32)) _ t0 ∧ TileBody S1 acc (tileArgs io s e bs (tW k 1#32)) _ t1

/-- What a tile's slabs are computed with: the two streams, the two buffers of column bounds, and the lane numbers. -/
structure Gear (nD : Nat) (τ : Topo) (sig : RefSig) (p : Proc τ) where
  S0 : Strm nD τ sig p
  S1 : Strm nD τ sig p
  bb : Memref sig p.kind .vmem SB .i32
  bsb : Memref sig p.kind .vmem SB .i32
  io : IVec SL 32

/-- `Y` computes a slab in `acc`, its positions being `s` to `e`, and goes on as a program for which `J` holds. -/
def IsCore (M : Gear nD τ sig p) (acc : Memref sig p.kind .vmem SA .f32) (z₀ : Elt F .f32) {chk : BitVec 32 → BitVec 32 → Prop} (ev : ChkEv chk)
    {s e : BitVec 32} (bs : IVec SL 32) (hc : chk s e) {β : Type} (J : Prog (TpuEff nD τ sig (Elt F) Λ p) β → Prop)
    (Y : Prog (TpuEff nD τ sig (Elt F) Λ p) β) : Prop :=
  ∃ okz zb pb, ∃ ob : BitVec 32 → Fin (restLoop s e).trips → BitVec 32 → Prog (TpuEff nD τ sig (Elt F) Λ p) (BitVec 32),
    ∃ z hl hs Jr,
      Y = (M.S0.guard (gtW 0#32 s e) (winOff s 0#32) (ev.in0 _ _ hc) >>= fun _ =>
        M.S1.guard (gtW 1#32 s e) (winOff s 2048#32) (ev.in1 _ _ hc) >>= fun _ =>
        Scf.Loop.for zeroLoop okz 0#32 zb >>= fun _ =>
        Scf.Loop.for (pairLoop s e) (ev.ok _ _ hc) 0#32 pb >>= fun r =>
        Scf.Loop.for (restLoop s e) (ev.okRest _ _ hc) r (ob r) >>= Jr)
      ∧ (∀ r, J (Jr r))
      ∧ (∀ x, z x = z₀)
      ∧ (∀ (k : Fin zeroLoop.trips) a, zb k a = zeroP acc z k.val (Nat.lt_of_lt_of_eq k.isLt zeroLoop_trips) hl hs 16 le_rfl)
      ∧ PairBody M.S0 M.S1 acc ev M.io bs hc pb

/-- `X` fetches the slab's column bounds at `off`, computes the slab in `acc`, and goes on as a program for which `J` holds. -/
def IsSlab (M : Gear nD τ sig p) (acc : Memref sig p.kind .vmem SA .f32) (z₀ : Elt F .f32)
    (off : Fin 1 → ℕ) (inb : ∀ a, off a + SL.size a ≤ SB.size a)
    {β : Type} (J : Prog (TpuEff nD τ sig (Elt F) Λ p) β → Prop) (X : Prog (TpuEff nD τ sig (Elt F) Λ p) β) : Prop :=
  ∃ (chk : BitVec 32 → BitVec 32 → Prop) (dec : ∀ s e, Decidable (chk s e)) (ev : ChkEv chk) (hl₁ : _) (hl₂ : _)
    (K : ∀ (b bs : IVec SL 32), PLift (chk (pickW M.io 0#32 b) (pickW M.io 7#32 bs)) → Prog (TpuEff nD τ sig (Elt F) Λ p) β),
    X = (.op (.load M.bb (Rect.unit (s := SB) off SL.size inb).toLoadRect hl₁) fun (b : Vec F SL .i32) =>
      .op (.load M.bsb (Rect.unit (s := SB) off SL.size inb).toLoadRect hl₂) fun (bs : Vec F SL .i32) =>
      .op (TpuEff.assume (chk (pickW M.io 0#32 b) (pickW M.io 7#32 bs)) (dec _ _)) fun hw => K b bs hw)
    ∧ ∀ b bs hw, IsCore M acc z₀ ev bs hw.down J (K b bs hw)

end Prog

end Cert.Proof.Csc
end
-- ==== Proof.SlabRun.lean ====
/-
  A slab runs: the pair loop keeps the two streams in step, and at its end the slab is `slabF` and both streams are idle.
-/
module

public import proofs.«01_k».proof.Proof.Slab

@[expose] public section

noncomputable section

namespace Cert.Proof.Csc

open Idealize.ShloMosaic
open Idealize.SL Idealize.SL.RA Idealize.SL.Sem
open Idealize.SL.BI (sProp)
open scoped Idealize.SL.BI
open Idealize.SL.BI.BIBase Idealize.SL.BI.Laws Idealize.SL.ProofMode
open Idealize.ShloMosaic.Transfers

variable {F : FTy → Type} [FloatOps F]
variable {nD : Nat} {τ : Topo} {sig : RefSig} {Ix : Type} [DecidableEq Ix] {Name : Type} [DecidableEq Name] [Infinite Name]
variable {U : Type} [URA U] {Lvl : Type} [Preorder Lvl] {Λ : Labels}
local notation "𝕄" => MT nD τ sig Ix (Elt F) Name U Lvl
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) {c : Thread nD τ} (bd : Option 𝒱.V) (ι : Ix)

/-- A stream's resources when nothing is on its way. -/
abbrev Strm.Rest (S : Strm nD τ sig c.2) (q : PosShare TreeShare) (fR : Buf (Elt F) (S.rows.view.loc c)) (fV : Buf (Elt F) (S.vals.view.loc c)) : sProp 𝕄 :=
  Idle c S.rows S.vals S.rb S.vb S.sem q fR fV

/-- A stream's resources before tile `t`'s turn: on its way when the slab has that tile. -/
def Strm.At (S : Strm nD τ sig c.2) (q : PosShare TreeShare) (fR : Buf (Elt F) (S.rows.view.loc c)) (fV : Buf (Elt F) (S.vals.view.loc c))
    (s e : BitVec 32) (t : ℕ) : sProp 𝕄 :=
  if t < ntN s e then Busy EC c ι S.rows S.vals S.rb S.vb S.sem q fR fV (offN s t) (offN_inb s t) else S.Rest q fR fV

/-- What the thread owes, its waits being those of `W` and waits of the local kind. -/
def Owed (c : Thread nD τ) (ι : Ix) (O : CellTallies nD τ sig Ix) (W : Waits sig Ix) : sProp 𝕄 :=
  iprop(∃ W', ⌜∀ p ∈ W', p ∈ W ∨ p.2 = ι⌝ ∗ owes c O W')

/-- The sending of a stream. -/
theorem Strm.wp_issue (S : Strm nD τ sig c.2) {q : PosShare TreeShare} {fR : Buf (Elt F) (S.rows.view.loc c)} {fV : Buf (Elt F) (S.vals.view.loc c)}
    {off : Fin 1 → ℕ} {inb : TileInb off} {β : Type} {J : Prog (TpuEff nD τ sig (Elt F) Λ c.2) β} {Q : β → sProp 𝕄} :
    (S.Rest q fR fV : sProp 𝕄) ⊢ iprop((Busy EC c ι S.rows S.vals S.rb S.vb S.sem q fR fV off inb -∗ wp frame (wpE defs 𝒱 c bd) Set.univ J Q)
      -∗ wp frame (wpE defs 𝒱 c bd) Set.univ (S.issue off inb J) Q) := by
  have h : S.issue off inb J = issueP (nD := nD) (τ := τ) (c := c) (rows := S.rows) (vals := S.vals) (rb := S.rb) (vb := S.vb) (sem := S.sem) off inb
      (S.wr off inb) S.wrb S.tr (S.wv off inb) S.wvb S.tv >>= fun _ => J := rfl
  rw [h, wp_bind]
  exact Csc.wp_issue EC 𝒱 bd ι q fR fV S.hN (Q := fun _ => wp frame (wpE defs 𝒱 c bd) Set.univ J Q)

/-- The first sending, made when the slab has tile `t`. -/
theorem Strm.wp_guard (S : Strm nD τ sig c.2) {q : PosShare TreeShare} {fR : Buf (Elt F) (S.rows.view.loc c)} {fV : Buf (Elt F) (S.vals.view.loc c)}
    {s e : BitVec 32} {t : ℕ} {c3 : BitVec 1} (hc3 : c3 = 1#1 ↔ t < ntN s e) {off : Fin 1 → ℕ} (hoff : t < ntN s e → off = offN s t)
    {inb : c3 = 1#1 → TileInb off} {Q : PUnit → sProp 𝕄} :
    (S.Rest q fR fV : sProp 𝕄) ⊢ iprop((S.At EC ι q fR fV s e t -∗ Q ⟨⟩)
      -∗ wp frame (wpE defs 𝒱 c bd) Set.univ (S.guard c3 off inb) Q) := by
  unfold Strm.guard Strm.At
  by_cases h : t < ntN s e
  · obtain rfl := hoff h
    rw [dif_pos (hc3.mpr h), if_pos h]
    iintro H Hk
    iapply (S.wp_issue EC 𝒱 bd ι) $$ H
    iintro H
    iapply (le_wp_ret frame (wpE defs 𝒱 c bd) Set.univ)
    iapply Hk; iexact H
  · rw [dif_neg (fun h' => h (hc3.mp h')), if_neg h]
    iintro H Hk
    iapply (le_wp_ret frame (wpE defs 𝒱 c bd) Set.univ)
    iapply Hk; iexact H

/-- A tile's turn. -/
theorem Strm.wp_turn (S : Strm nD τ sig c.2) {q : PosShare TreeShare} {fR : Buf (Elt F) (S.rows.view.loc c)} {fV : Buf (Elt F) (S.vals.view.loc c)}
    (hR : ∀ i : SN.Idx, BitVec.toNat (w := 32) (S.rows.view.read (Elt F) fR i) < 4096)
    {acc : Memref sig c.2.kind .vmem SA .f32} {z₀ : Elt F .f32} {io : IVec SL 32} {s e : BitVec 32} {bs : IVec SL 32} {t : ℕ}
    {c3 : BitVec 1} (hc3 : c3 = 1#1 ↔ t < ntN s e) {off : Fin 1 → ℕ} (hoff : t < ntN s e → off = offN s t) {inb : c3 = 1#1 → TileInb off}
    {ok : tileLoop.OK} {tb : c3 = 1#1 → Fin tileLoop.trips → BitVec 32 → Prog (TpuEff nD τ sig (Elt F) Λ c.2) (BitVec 32)}
    (htb : TileBody S acc (tileArgs io s e bs (BitVec.ofNat 32 t)) c3 tb)
    {c4 : BitVec 1} (hc4 : t < ntN s e → (c4 = 1#1 ↔ t + 2 < ntN s e)) {off' : Fin 1 → ℕ} (hoff' : t + 2 < ntN s e → off' = offN s (t + 2))
    {inb' : c3 = 1#1 → c4 = 1#1 → TileInb off'}
    {O : CellTallies nD τ sig Ix} {W : Waits sig Ix} {β : Type} {J : Prog (TpuEff nD τ sig (Elt F) Λ c.2) β} {Q : β → sProp 𝕄} :
    (iprop(MayWaits c ι O ∗ S.At EC ι q fR fV s e t
      ∗ owns c acc fullShare (slabN z₀ io s e bs (S.rows.view.read (Elt F) fR) (S.vals.view.read (Elt F) fV) t) ∗ Owed c ι O W) : sProp 𝕄)
      ⊢ iprop((S.At EC ι q fR fV s e (t + 2)
          -∗ owns c acc fullShare (slabN z₀ io s e bs (S.rows.view.read (Elt F) fR) (S.vals.view.read (Elt F) fV) (t + 1)) -∗ Owed c ι O W
          -∗ wp frame (wpE defs 𝒱 c bd) Set.univ J Q)
        -∗ wp frame (wpE defs 𝒱 c bd) Set.univ (S.turn c3 off inb ok tb c4 off' inb' J) Q) := by
  by_cases h : t < ntN s e
  · obtain rfl := hoff h
    unfold Strm.At
    rw [if_pos h, slabN, if_pos h]
    have hturn : S.turn c3 (offN s t) inb ok tb c4 off' inb' J = waitP (nD := nD) (c := c) (rb := S.rb) (vb := S.vb) (sem := S.sem)
        (S.rows.slice (tileRect (offN s t) (inb (hc3.mpr h))) (fun _ => rfl)) (S.vals.slice (tileRect (offN s t) (inb (hc3.mpr h))) (fun _ => rfl))
        (S.wr _ _) S.wrb (S.wv _ _) S.wvb (Scf.Loop.for tileLoop ok 0#32 (tb (hc3.mpr h)) >>= fun _ =>
          if h4 : c4 = 1#1 then S.issue off' (inb' (hc3.mpr h) h4) J else J) := by
      rw [Strm.turn, dif_pos (hc3.mpr h)]; rfl
    rw [hturn]
    obtain ⟨hs, hb⟩ := htb
    unfold Owed
    iintro ⟨#HM, HB, HA, ⟨%W', %hW', HO⟩⟩ Hk
    iapply (wp_wait EC 𝒱 bd ι q fR fV S.hN (O := O) (W := W')) $$ [HB HO]
    · isplitl [HB]; · iexact HB
      isplitl [HO]; · iexact HO
      iexact HM
    iintro %W'' %hW'' HH HO
    unfold Here
    icases HH with ⟨Hs, Hr, Hv, HR, HV⟩
    simp only [wp_bind]
    iapply (wp_tile 𝒱 bd (hb (hc3.mpr h)) (xr := tabTile (F := F) (e := .i32) (S.rows.view.read (Elt F) fR) s t) (fun x => hR _)) $$ [HA Hr Hv]
    · isplitl [HA]; · iexact HA
      isplitl [Hr]; · iexact Hr
      iexact Hv
    iintro %r ⟨HA, Hr, Hv⟩
    ihave HI : (S.Rest q fR fV : sProp 𝕄) $$ [Hs Hr Hv HR HV]
    · unfold Strm.Rest Idle
      isplitl [Hs]; · iexact Hs
      isplitl [Hr]; · iexists _; iexact Hr
      isplitl [Hv]; · iexists _; iexact Hv
      isplitl [HR]; · iexact HR
      iexact HV
    ihave HO : (∃ W', ⌜∀ p ∈ W', p ∈ W ∨ p.2 = ι⌝ ∗ owes c O W' : sProp 𝕄) $$ [HO]
    · iexists W''; isplitr
      · ipureintro; intro p hp
        rcases hW'' p hp with h | h
        · exact hW' p h
        · exact .inr h
      iexact HO
    by_cases h4 : t + 2 < ntN s e
    · obtain rfl := hoff' h4
      rw [dif_pos ((hc4 h).mpr h4), if_pos h4]
      iapply (S.wp_issue EC 𝒱 bd ι) $$ HI
      iintro HB
      iapply Hk $$ HB HA HO
    · rw [dif_neg (fun h' => h4 ((hc4 h).mp h')), if_neg h4]
      iapply Hk $$ HI HA HO
  · unfold Strm.At
    rw [if_neg h, if_neg (by omega), slabN, if_neg h, Strm.turn, dif_neg (fun h' => h (hc3.mp h'))]
    iintro ⟨-, HI, HA, HO⟩ Hk
    iapply Hk $$ HI HA HO

theorem winOff_eq {s x : BitVec 32} {t : ℕ} (hs : InArr s) (ht : t < 1000) (hx : x.toNat = t * 2048) : winOff s x = offN s t := by
  unfold winOff offN; rw [winW_toNat hs ht hx]

/-- A trip of the pair loop. -/
theorem wp_pair (S0 S1 : Strm nD τ sig c.2) {q0 q1 : PosShare TreeShare} {fR0 : Buf (Elt F) (S0.rows.view.loc c)} {fV0 : Buf (Elt F) (S0.vals.view.loc c)}
    {fR1 : Buf (Elt F) (S1.rows.view.loc c)} {fV1 : Buf (Elt F) (S1.vals.view.loc c)} {R : SN.Idx → Elt F .i32} {V : SN.Idx → Elt F .f32}
    (hR0 : S0.rows.view.read (Elt F) fR0 = R) (hV0 : S0.vals.view.read (Elt F) fV0 = V) (hR1 : S1.rows.view.read (Elt F) fR1 = R)
    (hV1 : S1.vals.view.read (Elt F) fV1 = V) (hR : ∀ i : SN.Idx, BitVec.toNat (w := 32) (R i) < 4096)
    {acc : Memref sig c.2.kind .vmem SA .f32} {z₀ : Elt F .f32} {io : IVec SL 32} {s e : BitVec 32} {bs : IVec SL 32}
    {chk : BitVec 32 → BitVec 32 → Prop} {ev : ChkEv chk} {hc : chk s e} (hs : InArr s) (he : InArr e)
    {pb : Fin (pairLoop s e).trips → BitVec 32 → Prog (TpuEff nD τ sig (Elt F) Λ c.2) (BitVec 32)}
    (hpb : PairBody S0 S1 acc ev io bs hc pb) (k : Fin (pairLoop s e).trips) (a : BitVec 32)
    {O : CellTallies nD τ sig Ix} {W : Waits sig Ix} :
    (iprop(MayWaits c ι O ∗ S0.At EC ι q0 fR0 fV0 s e (2 * k.val) ∗ S1.At EC ι q1 fR1 fV1 s e (2 * k.val + 1)
      ∗ owns c acc fullShare (slabN z₀ io s e bs R V (2 * k.val)) ∗ Owed c ι O W) : sProp 𝕄)
      ⊢ wp frame (wpE defs 𝒱 c bd) Set.univ (pb k a) (fun _ => iprop(S0.At EC ι q0 fR0 fV0 s e (2 * (k.val + 1))
        ∗ S1.At EC ι q1 fR1 fV1 s e (2 * (k.val + 1) + 1) ∗ owns c acc fullShare (slabN z₀ io s e bs R V (2 * (k.val + 1))) ∗ Owed c ι O W ∗ MayWaits c ι O)) := by
  obtain ⟨ok, t0, t1, hpk, hb0, hb1⟩ := hpb k a
  have hk : k.val < 401 := by
    have h1 : k.val < (ntN s e + 1) / 2 := Nat.lt_of_lt_of_eq k.isLt (pairLoop_trips hs he)
    have h2 := ntN_le (s := s) he; omega
  have n0 : (tW k 0#32).toNat = 2 * k.val := by rw [tW_toNat (j := 0) (by omega) (by omega)]; rfl
  have n1 : (tW k 1#32).toNat = 2 * k.val + 1 := tW_toNat (j := 1) (by omega) (by omega)
  have m0 : (Scalar.addi (tW k 0#32) 2#32).toNat = 2 * k.val + 2 := add_ofNat_toNat n0 (by omega)
  have m1 : (Scalar.addi (tW k 1#32) 2#32).toNat = 2 * k.val + 1 + 2 := add_ofNat_toNat n1 (by omega)
  rw [show tileArgs io s e bs (tW k 0#32) = tileArgs io s e bs (BitVec.ofNat 32 (2 * k.val)) from congrArg _ (tW_eq k.val 0)] at hb0
  rw [show tileArgs io s e bs (tW k 1#32) = tileArgs io s e bs (BitVec.ofNat 32 (2 * k.val + 1)) from congrArg _ (tW_eq k.val 1)] at hb1
  rw [hpk]
  unfold pairP
  subst hR0 hV0
  iintro ⟨#HM, H0, H1, HA, HO⟩
  iapply (S0.wp_turn EC 𝒱 bd ι hR (ltW_iff_lt n0 (by omega) hs he) (fun _ => winOff_eq hs (by omega) (mul2048_toNat n0 (by omega)))
    hb0 (fun _ => ltW_iff_lt m0 (by omega) hs he) (fun _ => winOff_eq hs (by omega) (mul2048_toNat m0 (by omega)))) $$ [H0 HA HO]
  · isplitr; · iexact HM
    isplitl [H0]; · iexact H0
    isplitl [HA]; · iexact HA
    iexact HO
  iintro H0 HA HO
  rw [← hR1, ← hV1]
  iapply (S1.wp_turn EC 𝒱 bd ι (by rw [hR1]; exact hR) (ltW_iff_lt n1 (by omega) hs he) (fun _ => winOff_eq hs (by omega) (mul2048_toNat n1 (by omega)))
    hb1 (fun _ => ltW_iff_lt m1 (by omega) hs he) (fun _ => winOff_eq hs (by omega) (mul2048_toNat m1 (by omega)))) $$ [H1 HA HO]
  · isplitr; · iexact HM
    isplitl [H1]; · iexact H1
    isplitl [HA]; · iexact HA
    iexact HO
  iintro H1 HA HO
  iapply (le_wp_ret frame (wpE defs 𝒱 c bd) Set.univ)
  isplitl [H0]; · iexact H0
  isplitl [H1]; · iexact H1
  isplitl [HA]; · iexact HA
  isplitl [HO]; · iexact HO
  iexact HM

section
variable (M : Gear nD τ sig c.2) {q0 q1 : PosShare TreeShare} {fR0 : Buf (Elt F) (M.S0.rows.view.loc c)} {fV0 : Buf (Elt F) (M.S0.vals.view.loc c)}
    {fR1 : Buf (Elt F) (M.S1.rows.view.loc c)} {fV1 : Buf (Elt F) (M.S1.vals.view.loc c)} {R : SN.Idx → Elt F .i32} {V : SN.Idx → Elt F .f32}
    (hR0 : M.S0.rows.view.read (Elt F) fR0 = R) (hV0 : M.S0.vals.view.read (Elt F) fV0 = V) (hR1 : M.S1.rows.view.read (Elt F) fR1 = R)
    (hV1 : M.S1.vals.view.read (Elt F) fV1 = V) (hR : ∀ i : SN.Idx, BitVec.toNat (w := 32) (R i) < 4096)
    {acc : Memref sig c.2.kind .vmem SA .f32} {z₀ : Elt F .f32}
include EC hR0 hV0 hR1 hV1 hR

/-- The computing of a slab, and what comes after it. -/
theorem wp_core {chk : BitVec 32 → BitVec 32 → Prop} {ev : ChkEv chk} {s e : BitVec 32} {bs : IVec SL 32} {hc : chk s e} (hs : InArr s) (he : InArr e)
    {β : Type} {PJ : Prog (TpuEff nD τ sig (Elt F) Λ c.2) β → Prop} {Y : Prog (TpuEff nD τ sig (Elt F) Λ c.2) β}
    (hY : IsCore M acc z₀ ev bs hc PJ Y) {O : CellTallies nD τ sig Ix} {W : Waits sig Ix} {Q : β → sProp 𝕄} :
    (iprop(MayWaits c ι O ∗ M.S0.Rest q0 fR0 fV0 ∗ M.S1.Rest q1 fR1 fV1 ∗ (∃ A, owns c acc fullShare A) ∗ Owed c ι O W) : sProp 𝕄)
      ⊢ iprop((∀ J, ⌜PJ J⌝ -∗ M.S0.Rest q0 fR0 fV0 -∗ M.S1.Rest q1 fR1 fV1
          -∗ owns c acc fullShare (slabF z₀ M.io s e bs R V) -∗ Owed c ι O W -∗ wp frame (wpE defs 𝒱 c bd) Set.univ J Q)
        -∗ wp frame (wpE defs 𝒱 c bd) Set.univ Y Q) := by
  obtain ⟨okz, zb, pb, ob, z, hl, hst, Jr, rfl, hJ, hz, hzb, hpb⟩ := hY
  simp only [wp_bind]
  iintro ⟨#HM, H0, H1, ⟨%A, HA⟩, HO⟩ Hk
  iapply (M.S0.wp_guard EC 𝒱 bd ι (t := 0) (gtW_iff_lt rfl (by decide) hs he) (fun _ => winOff_eq hs (by omega) rfl)) $$ H0
  iintro H0
  iapply (M.S1.wp_guard EC 𝒱 bd ι (t := 1) (gtW_iff_lt rfl (by decide) hs he) (fun _ => winOff_eq hs (by omega) rfl)) $$ H1
  iintro H1
  iapply (wp_zero 𝒱 bd hz hzb) $$ HA
  iintro %r0 HA
  iapply (Scf.wp_for frame (wpE defs 𝒱 c bd) Set.univ (pairLoop s e).lb (pairLoop s e).ub (pairLoop s e).st (ev.ok _ _ hc) 0#32 pb
    (fun n _ => iprop(M.S0.At EC ι q0 fR0 fV0 s e (2 * n) ∗ M.S1.At EC ι q1 fR1 fV1 s e (2 * n + 1)
        ∗ owns c acc fullShare (slabN z₀ M.io s e bs R V (2 * n)) ∗ Owed c ι O W ∗ MayWaits c ι O))
    (by
      intro k a
      iintro ⟨H0, H1, HA, HO, #HM⟩
      iapply (wp_pair EC 𝒱 bd ι M.S0 M.S1 hR0 hV0 hR1 hV1 hR hs he hpb k a)
      isplitr; · iexact HM
      isplitl [H0]; · iexact H0
      isplitl [H1]; · iexact H1
      isplitl [HA]; · iexact HA
      iexact HO))
  isplitl [H0 H1 HA HO]
  · isplitl [H0]; · iexact H0
    isplitl [H1]; · iexact H1
    isplitl [HA]; · iexact HA
    isplitl [HO]; · iexact HO
    iexact HM
  iintro %r ⟨H0, H1, HA, HO, -⟩
  have hn : ntN s e ≤ 2 * (pairLoop s e).trips := by rw [pairLoop_trips hs he]; omega
  ihave HA := (show (owns c acc fullShare (slabN z₀ M.io s e bs R V (2 * (pairLoop s e).trips)) : sProp 𝕄)
    ⊢ owns c acc fullShare (slabF z₀ M.io s e bs R V) by rw [slabN_of_le z₀ M.io s e bs R V hn]) $$ HA
  ihave H0 := (show (M.S0.At EC ι q0 fR0 fV0 s e (2 * (pairLoop s e).trips) : sProp 𝕄) ⊢ M.S0.Rest q0 fR0 fV0 by
    unfold Strm.At; rw [if_neg (by omega)]) $$ H0
  ihave H1 := (show (M.S1.At EC ι q1 fR1 fV1 s e (2 * (pairLoop s e).trips + 1) : sProp 𝕄) ⊢ M.S1.Rest q1 fR1 fV1 by
    unfold Strm.At; rw [if_neg (by omega)]) $$ H1
  iapply (Scf.wp_for frame (wpE defs 𝒱 c bd) Set.univ (restLoop s e).lb (restLoop s e).ub (restLoop s e).st (ev.okRest _ _ hc) r (ob r)
    (fun _ _ => iprop(emp))
    (fun k a => absurd (Nat.lt_of_lt_of_eq k.isLt (restLoop_trips s e)) (Nat.not_lt_zero _)))
  isplitr; · iempintro
  iintro %r' -
  iapply Hk $$ %(Jr r') [] H0 H1 HA HO
  ipureintro; exact hJ r'

/-- A whole slab, and what comes after it. `B` and `B'` are the column bounds the tile has fetched. -/
theorem wp_slab {off : Fin 1 → ℕ} {inb : ∀ a, off a + SL.size a ≤ SB.size a}
    {B B' : SB.Idx → Elt F .i32} {b b' : IVec SL 32}
    (hb : (fun x => B ((Rect.unit (s := SB) off SL.size inb).emb x)) = b) (hb' : (fun x => B' ((Rect.unit (s := SB) off SL.size inb).emb x)) = b')
    (hs : InArr (pickW M.io 0#32 b)) (he : InArr (pickW M.io 7#32 b'))
    {β : Type} {PJ : Prog (TpuEff nD τ sig (Elt F) Λ c.2) β → Prop} {X : Prog (TpuEff nD τ sig (Elt F) Λ c.2) β}
    (hX : IsSlab M acc z₀ off inb PJ X)
    {O : CellTallies nD τ sig Ix} {W : Waits sig Ix} {Q : β → sProp 𝕄} :
    (iprop(MayWaits c ι O ∗ owns c M.bb fullShare B ∗ owns c M.bsb fullShare B' ∗ M.S0.Rest q0 fR0 fV0 ∗ M.S1.Rest q1 fR1 fV1
      ∗ (∃ A, owns c acc fullShare A) ∗ Owed c ι O W) : sProp 𝕄)
      ⊢ iprop((∀ J, ⌜PJ J⌝ -∗ owns c M.bb fullShare B -∗ owns c M.bsb fullShare B' -∗ M.S0.Rest q0 fR0 fV0 -∗ M.S1.Rest q1 fR1 fV1
          -∗ owns c acc fullShare (slabF z₀ M.io (pickW M.io 0#32 b) (pickW M.io 7#32 b') b' R V) -∗ Owed c ι O W
          -∗ wp frame (wpE defs 𝒱 c bd) Set.univ J Q)
        -∗ wp frame (wpE defs 𝒱 c bd) Set.univ X Q) := by
  obtain ⟨chk, dec, ev, hl₁, hl₂, K, rfl, hK⟩ := hX
  subst hb hb'
  iintro ⟨#HM, Hb, Hb', H0, H1, HA, HO⟩ Hk
  iapply (wp_load_owns 𝒱 c bd Set.univ (m := M.bb) (X := B) (q := fullShare)) $$ Hb
  iintro Hb
  iapply (wp_load_owns 𝒱 c bd Set.univ (m := M.bsb) (X := B') (q := fullShare)) $$ Hb'
  iintro Hb'
  iapply (wp_assume 𝒱 c bd Set.univ (ev.holds _ _ hs he))
  iapply (wp_core EC 𝒱 bd ι M hR0 hV0 hR1 hV1 hR hs he (hK _ _ ⟨ev.holds _ _ hs he⟩)) $$ [H0 H1 HA HO]
  · isplitr; · iexact HM
    isplitl [H0]; · iexact H0
    isplitl [H1]; · iexact H1
    isplitl [HA]; · iexact HA
    iexact HO
  iintro %J %hJ H0 H1 HA HO
  iapply Hk $$ %J [] Hb Hb' H0 H1 HA HO
  ipureintro; exact hJ

end

end Cert.Proof.Csc
end
-- ==== Proof.Tile.lean ====
/-
  A tile's whole program: it fetches its sixty-five column bounds (twice, the second copy one position further on), computes its
  eight slabs in two buffers turn about, and sends each to its rows of the result.
-/
module

public import proofs.«01_k».proof.Proof.SlabRun

@[expose] public section

noncomputable section

namespace Cert.Proof.Csc

open Idealize.ShloMosaic
open Idealize.SL Idealize.SL.RA Idealize.SL.Sem
open Idealize.SL.BI (sProp bigSep)
open scoped Idealize.SL.BI
open Idealize.SL.BI.BIBase Idealize.SL.BI.Laws Idealize.SL.ProofMode
open Idealize.ShloMosaic.Transfers

abbrev SC : Shape := ⟨1, ![4256]⟩
abbrev SO : Shape := ⟨2, ![2048, 4096]⟩

/-! ## The program -/

/-- Everything a tile works with. -/
structure Kit (nD : Nat) (τ : Topo) (sig : RefSig) (p : Proc τ) extends Gear nD τ sig p where
  cs : Memref sig p.kind .hbm SC .i32
  cs' : Memref sig p.kind .hbm SC .i32
  out : Memref sig p.kind .hbm SO .f32
  acc0 : Memref sig p.kind .vmem SA .f32
  acc1 : Memref sig p.kind .vmem SA .f32
  r0 : DmaSem sig
  r1 : DmaSem sig
  f0 : DmaSem sig
  f1 : DmaSem sig

abbrev bndRect (off : Fin 1 → ℕ) (inb : ∀ a, off a + SB.size a ≤ SC.size a) : Rect SC := Rect.unit (s := SC) off SB.size inb
abbrev rowRect (off : Fin 2 → ℕ) (inb : ∀ a, off a + SA.size a ≤ SO.size a) : Rect SO := Rect.unit (s := SO) off SA.size inb
abbrev colRect (off : Fin 1 → ℕ) (inb : ∀ a, off a + SL.size a ≤ SB.size a) : Rect SB := Rect.unit (s := SB) off SL.size inb

/-- The row of the result, counted from the tile's first row `base`, as the program computes it. -/
def rowOff (base o : BitVec 32) : Fin 2 → ℕ := ![(Scalar.addi base o).toNat, 0]
/-- Eight times the slab's number, in trip `k` of the loop over pairs of slabs. -/
def slabW (k : ℕ) (j : BitVec 32) : BitVec 32 := Scalar.muli (Scalar.addi (Scalar.muli (Scf.iv 1#32 1#32 k) 2#32) j) 8#32
def colOff (o : BitVec 32) : Fin 1 → ℕ := ![(Scalar.indexCast o).toNat]

@[reducible] def slabLoop : Scf.Loop 32 := ⟨1#32, Scalar.addi 1#32 3#32, 1#32⟩
theorem slabLoop_trips : slabLoop.trips = 3 := by decide

section Prog
variable {F : FTy → Type} [FloatOps F]
variable {nD : Nat} {τ : Topo} {sig : RefSig} {Λ : Labels} {p : Proc τ}

/-- A copy of a table's slice into a buffer and the wait for it. -/
def IsFetch (src : Memref sig p.kind .hbm SC .i32) (off : Fin 1 → ℕ) (dst : Memref sig p.kind .vmem SB .i32) (sem : DmaSem sig)
    {β : Type} (J : Prog (TpuEff nD τ sig (Elt F) Λ p) β → Prop) (X : Prog (TpuEff nD τ sig (Elt F) Λ p) β) : Prop :=
  ∃ inb h₁ h₂ h₃ h₄ h₅ K,
    X = (.op (.enqueueDma (src.slice (bndRect off inb) (fun _ => rfl)) (.here dst) (.dma sem) h₁ h₂ h₃) fun _ =>
      .op (.waitDma2 sem (src.slice (bndRect off inb) (fun _ => rfl)) dst h₄ h₅) K) ∧ J (K ⟨⟩)

/-- The sending of a slab to the result's rows at `off`. -/
def IsSend (acc : Memref sig p.kind .vmem SA .f32) (out : Memref sig p.kind .hbm SO .f32) (off : Fin 2 → ℕ) (sem : DmaSem sig)
    {β : Type} (J : Prog (TpuEff nD τ sig (Elt F) Λ p) β → Prop) (X : Prog (TpuEff nD τ sig (Elt F) Λ p) β) : Prop :=
  ∃ inb h₁ h₂ h₃ K, X = (.op (.enqueueDma acc (.here (out.slice (rowRect off inb) (fun _ => rfl))) (.dma sem) h₁ h₂ h₃) K) ∧ J (K ⟨⟩)

/-- The wait for a slab sent earlier. -/
def IsWait (acc : Memref sig p.kind .vmem SA .f32) (out : Memref sig p.kind .hbm SO .f32) (sem : DmaSem sig)
    {β : Type} (J : Prog (TpuEff nD τ sig (Elt F) Λ p) β → Prop) (X : Prog (TpuEff nD τ sig (Elt F) Λ p) β) : Prop :=
  ∃ off inb h₁ h₂ K, X = (.op (.waitDma2 sem acc (out.slice (rowRect off inb) (fun _ => rfl)) h₁ h₂) K) ∧ J (K ⟨⟩)

def IsRet {β : Type} (X : Prog (TpuEff nD τ sig (Elt F) Λ p) β) : Prop := ∃ r, X = .ret r

/-- The slab at `off` computed in `acc`. -/
def IsSlab' (M : Gear nD τ sig p) (acc : Memref sig p.kind .vmem SA .f32) (z₀ : Elt F .f32) (off : Fin 1 → ℕ)
    {β : Type} (J : Prog (TpuEff nD τ sig (Elt F) Λ p) β → Prop) (X : Prog (TpuEff nD τ sig (Elt F) Λ p) β) : Prop :=
  ∃ inb, IsSlab M acc z₀ off inb J X

/-- The same, the slab that `acc` held before being waited for once the column bounds are read. -/
def IsNext (M : Gear nD τ sig p) (acc : Memref sig p.kind .vmem SA .f32) (out : Memref sig p.kind .hbm SO .f32) (sem : DmaSem sig) (z₀ : Elt F .f32)
    (off : Fin 1 → ℕ) {β : Type} (J : Prog (TpuEff nD τ sig (Elt F) Λ p) β → Prop) (X : Prog (TpuEff nD τ sig (Elt F) Λ p) β) : Prop :=
  ∃ (inb : ∀ a, off a + SL.size a ≤ SB.size a) (chk : BitVec 32 → BitVec 32 → Prop) (dec : ∀ s e, Decidable (chk s e)) (ev : ChkEv chk) (hl₁ : _) (hl₂ : _)
    (K : ∀ (b bs : IVec SL 32), PLift (chk (pickW M.io 0#32 b) (pickW M.io 7#32 bs)) → Prog (TpuEff nD τ sig (Elt F) Λ p) β),
    X = (.op (.load M.bb (Rect.unit (s := SB) off SL.size inb).toLoadRect hl₁) fun (b : Vec F SL .i32) =>
      .op (.load M.bsb (Rect.unit (s := SB) off SL.size inb).toLoadRect hl₂) fun (bs : Vec F SL .i32) =>
      .op (TpuEff.assume (chk (pickW M.io 0#32 b) (pickW M.io 7#32 bs)) (dec _ _)) fun hw => K b bs hw)
    ∧ ∀ b bs hw, IsWait acc out sem (IsCore M acc z₀ ev bs hw.down J) (K b bs hw)

/-- A trip of the loop over pairs of slabs. -/
def IsTrip (T : Kit nD τ sig p) (z₀ : Elt F .f32) (base : BitVec 32) (k : ℕ) (X : Prog (TpuEff nD τ sig (Elt F) Λ p) (BitVec 32)) : Prop :=
  IsNext T.toGear T.acc0 T.out T.f0 z₀ (colOff (slabW k 0#32)) (IsSend T.acc0 T.out (rowOff base (slabW k 0#32)) T.f0
    (IsNext T.toGear T.acc1 T.out T.f1 z₀ (colOff (slabW k 1#32)) (IsSend T.acc1 T.out (rowOff base (slabW k 1#32)) T.f1 IsRet))) X

/-- The loop over pairs of slabs and the two waits after it. -/
def IsRest (T : Kit nD τ sig p) (z₀ : Elt F .f32) (base : BitVec 32) (X : Prog (TpuEff nD τ sig (Elt F) Λ p) PUnit) : Prop :=
  ∃ ok body Z, X = (Scf.Loop.for slabLoop ok 0#32 body >>= Z) ∧ (∀ (k : Fin slabLoop.trips) a, IsTrip T z₀ base k.val (body k a))
    ∧ ∀ r, IsWait T.acc0 T.out T.f0 (IsWait T.acc1 T.out T.f1 IsRet) (Z r)

/-- The tile's program. -/
def IsTile (T : Kit nD τ sig p) (z₀ : Elt F .f32) (gb : Fin 1 → ℕ) (base : BitVec 32) (X : Prog (TpuEff nD τ sig (Elt F) Λ p) PUnit) : Prop :=
  IsFetch T.cs gb T.bb T.r0 (IsFetch T.cs' gb T.bsb T.r1
    (IsSlab' T.toGear T.acc0 z₀ ![0] (IsSend T.acc0 T.out (rowOff base 0#32) T.f0
      (IsSlab' T.toGear T.acc1 z₀ ![8] (IsSend T.acc1 T.out (rowOff base 8#32) T.f1 (IsRest T z₀ base)))))) X

end Prog

end Cert.Proof.Csc
end
-- ==== Proof.TileRun.lean ====
/-
  A tile's program runs: its steps one by one, and the whole of it. The sending of a slab lends the buffer until the slab is waited for.
-/
module

public import proofs.«01_k».proof.Proof.Tile
public import proofs.«01_k».proof.Proof.Pick

@[expose] public section

noncomputable section

namespace Cert.Proof.Csc

open Idealize.ShloMosaic
open Idealize.SL Idealize.SL.RA Idealize.SL.Sem
open Idealize.SL.BI (sProp bigSep)
open scoped Idealize.SL.BI
open Idealize.SL.BI.BIBase Idealize.SL.BI.Laws Idealize.SL.ProofMode
open Idealize.ShloMosaic.Transfers

variable {F : FTy → Type} [FloatOps F]
variable {nD : Nat} {τ : Topo} {sig : RefSig} {Ix : Type} [DecidableEq Ix] {Name : Type} [DecidableEq Name] [Infinite Name]
variable {U : Type} [URA U] {Lvl : Type} [Preorder Lvl] {Λ : Labels}
local notation "𝕄" => MT nD τ sig Ix (Elt F) Name U Lvl
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) {c : Thread nD τ} (bd : Option 𝒱.V) (ι : Ix)

theorem owns.elim {sp : Space} {s : Shape} {e : EltTy} {q : PosShare TreeShare} (m : Memref sig c.2.kind sp s e) (X : s.Idx → Elt F e) :
    (owns c m q X : sProp 𝕄) ⊢ iprop(∃ f, ⌜m.view.read (Elt F) f = X⌝ ∗ (m.view.loc c ↦[m.view.set]{q} f)) := by
  unfold owns; exact .rfl

theorem Owed.elim {O : CellTallies nD τ sig Ix} {W : Waits sig Ix} :
    (Owed c ι O W : sProp 𝕄) ⊢ iprop(∃ W', ⌜∀ p ∈ W', p ∈ W ∨ p.2 = ι⌝ ∗ owes c O W') := by
  unfold Owed; exact .rfl

theorem Owed.waited {O : CellTallies nD τ sig Ix} {W W' : Waits sig Ix} (s : SemLoc sig) (h : ∀ p ∈ W', p ∈ W ∨ p.2 = ι) :
    (owes c O (insert (s, ι) W') : sProp 𝕄) ⊢ Owed c ι O W := by
  unfold Owed
  iintro H
  iexists (insert (s, ι) W'); isplitr
  · ipureintro; intro p hp
    rcases Finset.mem_insert.mp hp with hp | hp
    · exact .inr (by rw [hp])
    · exact h p hp
  iexact H

include EC in
/-- A fetch of column bounds. -/
theorem wp_fetch {src : Memref sig c.2.kind .hbm SC .i32} {off : Fin 1 → ℕ} {dst : Memref sig c.2.kind .vmem SB .i32} {sem : DmaSem sig}
    {β : Type} {PJ : Prog (TpuEff nD τ sig (Elt F) Λ c.2) β → Prop} {X : Prog (TpuEff nD τ sig (Elt F) Λ c.2) β}
    (hX : IsFetch src off dst sem PJ X) (inb : ∀ a, off a + SB.size a ≤ SC.size a) {q : PosShare TreeShare} {f : Buf (Elt F) (src.view.loc c)}
    {O : CellTallies nD τ sig Ix} {W : Waits sig Ix} {Q : β → sProp 𝕄} :
    (iprop(MayWaits c ι O ∗ semVal (c, .dma sem) 0 ∗ (∃ x, owns c dst fullShare x) ∗ (src.view.loc c ↦[src.view.set]{q} f) ∗ Owed c ι O W) : sProp 𝕄)
      ⊢ iprop((∀ J, ⌜PJ J⌝ -∗ semVal (c, .dma sem) 0 -∗ owns c dst fullShare (fun x => src.view.read (Elt F) f ((bndRect off inb).emb x))
          -∗ (src.view.loc c ↦[src.view.set]{q} f) -∗ Owed c ι O W -∗ wp frame (wpE defs 𝒱 c bd) Set.univ J Q)
        -∗ wp frame (wpE defs 𝒱 c bd) Set.univ X Q) := by
  obtain ⟨inb', h₁, h₂, h₃, h₄, h₅, K, rfl, hJ⟩ := hX
  have hS := pointsTo_split_subset (nD := nD) (Ix := Ix) (Name := Name) (U := U) (Lvl := Lvl) (q := q) (f := f)
    (src.view.set_slice_subset (bndRect off inb))
  iintro ⟨#HM, Hs, ⟨%x, Hd⟩, HR, HO⟩ Hk
  ihave Hd := (owns.elim dst x) $$ Hd
  icases Hd with ⟨%fd, -, Hd⟩
  ihave HO := (Owed.elim ι) $$ HO
  icases HO with ⟨%W', %hW', HO⟩
  ihave HR := hS.1 $$ HR
  icases HR with ⟨HR, HRk⟩
  iapply (wp_dmaLocal EC 𝒱 c bd (src := src.slice (bndRect off inb) (fun _ => rfl)) (dst := dst) (via := .same) (Sd := dst.view.set) (fd := fd)
    (q := q) (fs := f) (sm := .dma sem) ι dst.view.dmaCredit rfl (View.dmaCredit_pos _ (by decide)) subset_rfl) $$ [HR Hd Hs]
  · isplitl [HR]; · iexact HR
    isplitl [Hd]; · iexact Hd
    iexact Hs
  iintro HF
  ihave HM1 := MayWaits.elim (.dma sem) $$ HM
  iapply (wp_waitLocalO EC 𝒱 c bd (sem := sem) (dstw := dst) ι (N := dst.view.dmaCredit) rfl (O := O) (W := W')) $$ [HF HO HM1]
  · isplitl [HF]; · iexact HF
    isplitl [HO]; · iexact HO
    iexact HM1
  iintro ⟨⟨Hd, HR⟩, Hs, HO⟩
  iapply Hk $$ %_ [] [Hs] [Hd] [HR HRk] [HO]
  · ipureintro; exact hJ
  · iexact Hs
  · iapply (owns_landed dst fd _) $$ Hd
  · iapply hS.2; isplitl [HR]; · iexact HR
    iexact HRk
  · iapply (Owed.waited ι (.dma sem) hW') $$ HO

/-! ## The rows of a slab, and a slab on its way to them -/

abbrev rowAt (base : BitVec 32) (j : ℕ) : Fin 2 → ℕ := ![min (base.toNat + 8 * j) 2040, 0]
theorem rowAt_inb (base : BitVec 32) (j : ℕ) : ∀ a, rowAt base j a + SA.size a ≤ SO.size a := by
  intro a
  match a with
  | 0 => show min (base.toNat + 8 * j) 2040 + 8 ≤ 2048; omega
  | 1 => show 0 + 4096 ≤ 4096; omega

/-- The eight rows of slab `j` of the tile whose first row is `base`. -/
abbrev rowM (out : Memref sig c.2.kind .hbm SO .f32) (base : BitVec 32) (j : ℕ) : Memref sig c.2.kind .hbm SA .f32 :=
  out.slice (rowRect (rowAt base j) (rowAt_inb base j)) (fun _ => rfl)

theorem rowOff_eq {base o : BitVec 32} {j : ℕ} (hb : base.toNat + 64 ≤ 2048) (hj : j < 8) (ho : o.toNat = 8 * j) : rowOff base o = rowAt base j := by
  unfold rowOff rowAt
  have h : (Scalar.addi base o).toNat = min (base.toNat + 8 * j) 2040 := by
    show (base + o).toNat = _
    rw [BitVec.toNat_add, ho]; omega
  rw [h]

/-- The slab `A` on its way from `acc` to the rows of slab `j`. -/
def Sent (acc : Memref sig c.2.kind .vmem SA .f32) (out : Memref sig c.2.kind .hbm SO .f32) (sem : DmaSem sig) (base : BitVec 32) (j : ℕ)
    (A : SA.Idx → Elt F .f32) : sProp 𝕄 :=
  iprop(∃ (fs : Buf (Elt F) (acc.view.loc c)) (fd : Buf (Elt F) ((rowM out base j).view.loc c)), ⌜acc.view.read (Elt F) fs = A⌝
    ∗ Flight EC c (.dma sem) ι (rowM out base j).view.dmaCredit
        iprop(((rowM out base j).view.loc c ↦[(rowM out base j).view.set]{fullShare} ((rowM out base j).view.write (Elt F) fd (acc.view.read (Elt F) fs) Finset.univ))
          ∗ (acc.view.loc c ↦[acc.view.set]{fullShare} fs)))

/-- The sending of a slab. -/
theorem wp_send {acc : Memref sig c.2.kind .vmem SA .f32} {out : Memref sig c.2.kind .hbm SO .f32} {sem : DmaSem sig} {off : Fin 2 → ℕ}
    {base : BitVec 32} {j : ℕ} (hoff : off = rowAt base j)
    {β : Type} {PJ : Prog (TpuEff nD τ sig (Elt F) Λ c.2) β → Prop} {X : Prog (TpuEff nD τ sig (Elt F) Λ c.2) β}
    (hX : IsSend acc out off sem PJ X) {A : SA.Idx → Elt F .f32} {Q : β → sProp 𝕄} :
    (iprop(semVal (c, .dma sem) 0 ∗ owns c acc fullShare A ∗ (∃ x, owns c (rowM out base j) fullShare x)) : sProp 𝕄)
      ⊢ iprop((∀ J, ⌜PJ J⌝ -∗ Sent EC ι acc out sem base j A -∗ wp frame (wpE defs 𝒱 c bd) Set.univ J Q)
        -∗ wp frame (wpE defs 𝒱 c bd) Set.univ X Q) := by
  subst hoff
  obtain ⟨inb', h₁, h₂, h₃, K, rfl, hJ⟩ := hX
  unfold owns Sent
  iintro ⟨Hs, ⟨%fs, %hfs, HA⟩, ⟨%x, %fd, -, Hd⟩⟩ Hk
  iapply (wp_dmaLocal EC 𝒱 c bd (src := acc) (dst := rowM out base j) (via := .same) (Sd := (rowM out base j).view.set) (fd := fd)
    (q := fullShare) (fs := fs) (sm := .dma sem) ι (rowM out base j).view.dmaCredit rfl (View.dmaCredit_pos _ (by decide)) subset_rfl) $$ [HA Hd Hs]
  · isplitl [HA]; · iexact HA
    isplitl [Hd]; · iexact Hd
    iexact Hs
  iintro HF
  iapply Hk $$ %_ []
  · ipureintro; exact hJ
  iexists fs; iexists fd; isplitr
  · ipureintro; exact hfs
  iexact HF

/-- The wait for a slab. -/
theorem wp_sent {acc : Memref sig c.2.kind .vmem SA .f32} {out : Memref sig c.2.kind .hbm SO .f32} {sem : DmaSem sig} {base : BitVec 32} {j : ℕ}
    {β : Type} {PJ : Prog (TpuEff nD τ sig (Elt F) Λ c.2) β → Prop} {X : Prog (TpuEff nD τ sig (Elt F) Λ c.2) β}
    (hX : IsWait acc out sem PJ X) {A : SA.Idx → Elt F .f32} {O : CellTallies nD τ sig Ix} {W : Waits sig Ix} {Q : β → sProp 𝕄} :
    (iprop(MayWaits c ι O ∗ Sent EC ι acc out sem base j A ∗ Owed c ι O W) : sProp 𝕄)
      ⊢ iprop((∀ J, ⌜PJ J⌝ -∗ semVal (c, .dma sem) 0 -∗ (∃ x, owns c acc fullShare x) -∗ owns c (rowM out base j) fullShare A -∗ Owed c ι O W
          -∗ wp frame (wpE defs 𝒱 c bd) Set.univ J Q)
        -∗ wp frame (wpE defs 𝒱 c bd) Set.univ X Q) := by
  obtain ⟨off, inb', h₁, h₂, K, rfl, hJ⟩ := hX
  unfold Sent
  iintro ⟨#HM, ⟨%fs, %fd, %hfs, HF⟩, HO⟩ Hk
  subst hfs
  ihave HO := (Owed.elim ι) $$ HO
  icases HO with ⟨%W', %hW', HO⟩
  ihave HM1 := MayWaits.elim (.dma sem) $$ HM
  iapply (wp_waitLocalO EC 𝒱 c bd (sem := sem) (dstw := out.slice (rowRect off inb') (fun _ => rfl)) ι
    (N := (rowM out base j).view.dmaCredit) rfl (O := O) (W := W')) $$ [HF HO HM1]
  · isplitl [HF]; · iexact HF
    isplitl [HO]; · iexact HO
    iexact HM1
  iintro ⟨⟨Hd, HA⟩, Hs, HO⟩
  iapply Hk $$ %_ [] [Hs] [HA] [Hd] [HO]
  · ipureintro; exact hJ
  · iexact Hs
  · iexists _; unfold owns; iexists fs; isplitr
    · ipureintro; rfl
    iexact HA
  · iapply (owns_landed (rowM out base j) fd _) $$ Hd
  · iapply (Owed.waited ι (.dma sem) hW') $$ HO

/-! ## The column bounds of a slab, and the slab -/

abbrev colAt (j : ℕ) : Fin 1 → ℕ := ![min (8 * j) 64]
theorem colAt_inb (j : ℕ) : ∀ a, colAt j a + SL.size a ≤ SB.size a := by
  intro a
  obtain rfl : a = 0 := Subsingleton.elim _ _
  show min (8 * j) 64 + 16 ≤ 80; omega

/-- The sixteen bounds from slab `j`'s first on. -/
def bnd (B : SB.Idx → Elt F .i32) (j : ℕ) : IVec SL 32 := fun x => B ((colRect (colAt j) (colAt_inb j)).emb x)

/-- Slab `j`, from the bounds the tile fetched. -/
def slabV (z₀ : Elt F .f32) (io : IVec SL 32) (B B' : SB.Idx → Elt F .i32) (R : SN.Idx → Elt F .i32) (V : SN.Idx → Elt F .f32) (j : ℕ) : SA.Idx → Elt F .f32 :=
  slabF z₀ io (pickW io 0#32 (bnd B j)) (pickW io 7#32 (bnd B' j)) (bnd B' j) R V

theorem slabW_toNat {k j : ℕ} (hk : k < 3) (hj : j < 2) : (slabW k (BitVec.ofNat 32 j)).toNat = 8 * (2 * (k + 1) + j) := by
  have : ∀ k : Fin 3, ∀ j : Fin 2, (slabW k.val (BitVec.ofNat 32 j.val)).toNat = 8 * (2 * (k.val + 1) + j.val) := by decide
  exact this ⟨k, hk⟩ ⟨j, hj⟩

theorem colOff_eq {k j : ℕ} (hk : k < 3) (hj : j < 2) : colOff (slabW k (BitVec.ofNat 32 j)) = colAt (2 * (k + 1) + j) := by
  unfold colOff colAt
  rw [show (Scalar.indexCast (slabW k (BitVec.ofNat 32 j))).toNat = (slabW k (BitVec.ofNat 32 j)).toNat from rfl, slabW_toNat hk hj,
    Nat.min_eq_left (by omega)]

section
variable (M : Gear nD τ sig c.2) {q0 q1 : PosShare TreeShare} {fR0 : Buf (Elt F) (M.S0.rows.view.loc c)} {fV0 : Buf (Elt F) (M.S0.vals.view.loc c)}
    {fR1 : Buf (Elt F) (M.S1.rows.view.loc c)} {fV1 : Buf (Elt F) (M.S1.vals.view.loc c)} {R : SN.Idx → Elt F .i32} {V : SN.Idx → Elt F .f32}
    (hR0 : M.S0.rows.view.read (Elt F) fR0 = R) (hV0 : M.S0.vals.view.read (Elt F) fV0 = V) (hR1 : M.S1.rows.view.read (Elt F) fR1 = R)
    (hV1 : M.S1.vals.view.read (Elt F) fV1 = V) (hR : ∀ i : SN.Idx, BitVec.toNat (w := 32) (R i) < 4096)
    {acc : Memref sig c.2.kind .vmem SA .f32} {z₀ : Elt F .f32} {κ : Kind} {hio : SL.Iotas κ 32 [0]} (hM : M.io = iota κ SL 32 [0] hio)
    {B B' : SB.Idx → Elt F .i32} (hB : ∀ x, InArr (B x)) (hB' : ∀ x, InArr (B' x))
include EC hR0 hV0 hR1 hV1 hR hM hB hB'

/-- What a slab needs besides its buffer. -/
def Calm (q0 q1 : PosShare TreeShare) (fR0 : Buf (Elt F) (M.S0.rows.view.loc c)) (fV0 : Buf (Elt F) (M.S0.vals.view.loc c))
    (fR1 : Buf (Elt F) (M.S1.rows.view.loc c)) (fV1 : Buf (Elt F) (M.S1.vals.view.loc c)) (B B' : SB.Idx → Elt F .i32) : sProp 𝕄 :=
  iprop(owns c M.bb fullShare B ∗ owns c M.bsb fullShare B' ∗ M.S0.Rest q0 fR0 fV0 ∗ M.S1.Rest q1 fR1 fV1)

theorem first_inArr (j : ℕ) : InArr (pickW M.io 0#32 (bnd B j)) := by
  rw [hM]; exact (pickW_eq hio 0 (bnd B j)).symm ▸ hB _
theorem last_inArr (j : ℕ) : InArr (pickW M.io 7#32 (bnd B' j)) := by
  rw [hM]; exact (pickW_eq hio 7 (bnd B' j)).symm ▸ hB' _

/-- Slab `j` computed. -/
theorem wp_slab' {off : Fin 1 → ℕ} {j : ℕ} (hoff : off = colAt j)
    {β : Type} {PJ : Prog (TpuEff nD τ sig (Elt F) Λ c.2) β → Prop} {X : Prog (TpuEff nD τ sig (Elt F) Λ c.2) β}
    (hX : IsSlab' M acc z₀ off PJ X) {O : CellTallies nD τ sig Ix} {W : Waits sig Ix} {Q : β → sProp 𝕄} :
    (iprop(MayWaits c ι O ∗ Calm M q0 q1 fR0 fV0 fR1 fV1 B B' ∗ (∃ A, owns c acc fullShare A) ∗ Owed c ι O W) : sProp 𝕄)
      ⊢ iprop((∀ J, ⌜PJ J⌝ -∗ Calm M q0 q1 fR0 fV0 fR1 fV1 B B' -∗ owns c acc fullShare (slabV z₀ M.io B B' R V j) -∗ Owed c ι O W
          -∗ wp frame (wpE defs 𝒱 c bd) Set.univ J Q)
        -∗ wp frame (wpE defs 𝒱 c bd) Set.univ X Q) := by
  subst hoff
  obtain ⟨inb, hX⟩ := hX
  unfold Calm slabV
  iintro ⟨#HM, ⟨Hb, Hb', H0, H1⟩, HA, HO⟩ Hk
  iapply (wp_slab EC 𝒱 bd ι M hR0 hV0 hR1 hV1 hR (b := bnd B j) (b' := bnd B' j) rfl rfl (first_inArr EC M hR0 hV0 hR1 hV1 hR hM hB hB' j)
    (last_inArr EC M hR0 hV0 hR1 hV1 hR hM hB hB' j) hX) $$ [Hb Hb' H0 H1 HA HO]
  · isplitr; · iexact HM
    isplitl [Hb]; · iexact Hb
    isplitl [Hb']; · iexact Hb'
    isplitl [H0]; · iexact H0
    isplitl [H1]; · iexact H1
    isplitl [HA]; · iexact HA
    iexact HO
  iintro %J %hJ Hb Hb' H0 H1 HA HO
  iapply Hk $$ %J [] [Hb Hb' H0 H1] HA HO
  · ipureintro; exact hJ
  isplitl [Hb]; · iexact Hb
  isplitl [Hb']; · iexact Hb'
  isplitl [H0]; · iexact H0
  iexact H1

/-- Slab `j` computed, slab `j'` having been waited for. -/
theorem wp_next {out : Memref sig c.2.kind .hbm SO .f32} {sem : DmaSem sig} {base : BitVec 32} {j' : ℕ} {A' : SA.Idx → Elt F .f32}
    {off : Fin 1 → ℕ} {j : ℕ} (hoff : off = colAt j)
    {β : Type} {PJ : Prog (TpuEff nD τ sig (Elt F) Λ c.2) β → Prop} {X : Prog (TpuEff nD τ sig (Elt F) Λ c.2) β}
    (hX : IsNext M acc out sem z₀ off PJ X) {O : CellTallies nD τ sig Ix} {W : Waits sig Ix} {Q : β → sProp 𝕄} :
    (iprop(MayWaits c ι O ∗ Calm M q0 q1 fR0 fV0 fR1 fV1 B B' ∗ Sent EC ι acc out sem base j' A' ∗ Owed c ι O W) : sProp 𝕄)
      ⊢ iprop((∀ J, ⌜PJ J⌝ -∗ Calm M q0 q1 fR0 fV0 fR1 fV1 B B' -∗ owns c acc fullShare (slabV z₀ M.io B B' R V j)
          -∗ semVal (c, .dma sem) 0 -∗ owns c (rowM out base j') fullShare A' -∗ Owed c ι O W
          -∗ wp frame (wpE defs 𝒱 c bd) Set.univ J Q)
        -∗ wp frame (wpE defs 𝒱 c bd) Set.univ X Q) := by
  subst hoff
  obtain ⟨inb, chk, dec, ev, hl₁, hl₂, K, rfl, hK⟩ := hX
  have hs := first_inArr EC M hR0 hV0 hR1 hV1 hR hM hB hB' j
  have he := last_inArr EC M hR0 hV0 hR1 hV1 hR hM hB hB' j
  unfold Calm slabV
  iintro ⟨#HM, ⟨Hb, Hb', H0, H1⟩, HS, HO⟩ Hk
  iapply (wp_load_owns 𝒱 c bd Set.univ (m := M.bb) (X := B) (q := fullShare)) $$ Hb
  iintro Hb
  iapply (wp_load_owns 𝒱 c bd Set.univ (m := M.bsb) (X := B') (q := fullShare)) $$ Hb'
  iintro Hb'
  iapply (wp_assume 𝒱 c bd Set.univ (ev.holds _ _ hs he))
  iapply (wp_sent EC 𝒱 bd ι (hK _ _ ⟨ev.holds _ _ hs he⟩)) $$ [HS HO]
  · isplitr; · iexact HM
    isplitl [HS]; · iexact HS
    iexact HO
  iintro %J %hJ Hs HA Hd HO
  iapply (wp_core EC 𝒱 bd ι M hR0 hV0 hR1 hV1 hR hs he hJ) $$ [H0 H1 HA HO]
  · isplitr; · iexact HM
    isplitl [H0]; · iexact H0
    isplitl [H1]; · iexact H1
    isplitl [HA]; · iexact HA
    iexact HO
  iintro %J' %hJ' H0 H1 HA HO
  iapply Hk $$ %J' [] [Hb Hb' H0 H1] HA Hs Hd HO
  · ipureintro; exact hJ'
  isplitl [Hb]; · iexact Hb
  isplitl [Hb']; · iexact Hb'
  isplitl [H0]; · iexact H0
  iexact H1

end

end Cert.Proof.Csc
end
-- ==== Proof.TileAll.lean ====
/-
  The whole of a tile's program: after it, the tile's sixty-four rows of the result hold its eight slabs.
-/
module

public import proofs.«01_k».proof.Proof.TileRun

@[expose] public section

noncomputable section

namespace Cert.Proof.Csc

open Idealize.ShloMosaic
open Idealize.SL Idealize.SL.RA Idealize.SL.Sem
open Idealize.SL.BI (sProp bigSep bigSep_insert)
open scoped Idealize.SL.BI
open Idealize.SL.BI.BIBase Idealize.SL.BI.Laws Idealize.SL.ProofMode
open Idealize.ShloMosaic.Transfers

variable {F : FTy → Type} [FloatOps F]
variable {nD : Nat} {τ : Topo} {sig : RefSig} {Ix : Type} [DecidableEq Ix] {Name : Type} [DecidableEq Name] [Infinite Name]
variable {U : Type} [URA U] {Lvl : Type} [Preorder Lvl] {Λ : Labels}
local notation "𝕄" => MT nD τ sig Ix (Elt F) Name U Lvl
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) {c : Thread nD τ} (bd : Option 𝒱.V) (ι : Ix)

/-- The rows of slab `j` hold something; they hold slab `j`. -/
abbrev Fresh (out : Memref sig c.2.kind .hbm SO .f32) (base : BitVec 32) (j : ℕ) : sProp 𝕄 := iprop(∃ x, owns c (rowM out base j) fullShare x)
abbrev Done (out : Memref sig c.2.kind .hbm SO .f32) (base : BitVec 32) (A : ℕ → SA.Idx → Elt F .f32) (j : ℕ) : sProp 𝕄 :=
  owns c (rowM out base j) fullShare (A j)

theorem fresh_pop (out : Memref sig c.2.kind .hbm SO .f32) (base : BitVec 32) {j : ℕ} (hj : j < 8) :
    (bigSep (Finset.Ico j 8) (Fresh out base) : sProp 𝕄) ⊢ iprop(Fresh out base j ∗ bigSep (Finset.Ico (j + 1) 8) (Fresh out base)) := by
  rw [show Finset.Ico j 8 = insert j (Finset.Ico (j + 1) 8) by ext x; simp only [Finset.mem_Ico, Finset.mem_insert]; omega]
  exact Entails.of_eq (bigSep_insert (by simp))

theorem done_push (out : Memref sig c.2.kind .hbm SO .f32) (base : BitVec 32) (A : ℕ → SA.Idx → Elt F .f32) (j : ℕ) :
    (iprop(owns c (rowM out base j) fullShare (A j) ∗ bigSep (Finset.range j) (Done out base A)) : sProp 𝕄)
      ⊢ bigSep (Finset.range (j + 1)) (Done out base A) := by
  rw [Finset.range_add_one]
  exact Entails.of_eq (bigSep_insert (Φ := Done out base A) (by simp)).symm

section
variable (T : Kit nD τ sig c.2) {q0 q1 : PosShare TreeShare} {fR0 : Buf (Elt F) (T.S0.rows.view.loc c)} {fV0 : Buf (Elt F) (T.S0.vals.view.loc c)}
    {fR1 : Buf (Elt F) (T.S1.rows.view.loc c)} {fV1 : Buf (Elt F) (T.S1.vals.view.loc c)} {R : SN.Idx → Elt F .i32} {V : SN.Idx → Elt F .f32}
    (hR0 : T.S0.rows.view.read (Elt F) fR0 = R) (hV0 : T.S0.vals.view.read (Elt F) fV0 = V) (hR1 : T.S1.rows.view.read (Elt F) fR1 = R)
    (hV1 : T.S1.vals.view.read (Elt F) fV1 = V) (hR : ∀ i : SN.Idx, BitVec.toNat (w := 32) (R i) < 4096)
    {z₀ : Elt F .f32} {κ : Kind} {hio : SL.Iotas κ 32 [0]} (hM : T.io = iota κ SL 32 [0] hio)
    {base : BitVec 32} (hb : base.toNat + 64 ≤ 2048)

section
variable {B B' : SB.Idx → Elt F .i32} (hB : ∀ x, InArr (B x)) (hB' : ∀ x, InArr (B' x))
include hR0 hV0 hR1 hV1 hR hM hB hB' hb

/-- A trip of the loop over pairs of slabs. -/
theorem wp_trip' {k : ℕ} (hk : k < 3) {X : Prog (TpuEff nD τ sig (Elt F) Λ c.2) (BitVec 32)} (hX : IsTrip T z₀ base k X)
    {O : CellTallies nD τ sig Ix} {W : Waits sig Ix} :
    (iprop(MayWaits c ι O ∗ Calm T.toGear q0 q1 fR0 fV0 fR1 fV1 B B' ∗ bigSep (Finset.range (2 * k)) (Done T.out base (slabV z₀ T.io B B' R V))
      ∗ bigSep (Finset.Ico (2 * k + 2) 8) (Fresh T.out base)
      ∗ Sent EC ι T.acc0 T.out T.f0 base (2 * k) (slabV z₀ T.io B B' R V (2 * k))
      ∗ Sent EC ι T.acc1 T.out T.f1 base (2 * k + 1) (slabV z₀ T.io B B' R V (2 * k + 1)) ∗ Owed c ι O W) : sProp 𝕄)
      ⊢ wp frame (wpE defs 𝒱 c bd) Set.univ X (fun _ => iprop(MayWaits c ι O ∗ Calm T.toGear q0 q1 fR0 fV0 fR1 fV1 B B'
      ∗ bigSep (Finset.range (2 * (k + 1))) (Done T.out base (slabV z₀ T.io B B' R V)) ∗ bigSep (Finset.Ico (2 * (k + 1) + 2) 8) (Fresh T.out base)
      ∗ Sent EC ι T.acc0 T.out T.f0 base (2 * (k + 1)) (slabV z₀ T.io B B' R V (2 * (k + 1)))
      ∗ Sent EC ι T.acc1 T.out T.f1 base (2 * (k + 1) + 1) (slabV z₀ T.io B B' R V (2 * (k + 1) + 1)) ∗ Owed c ι O W)) := by
  iintro ⟨#HM, HC, HD, HF, HS0, HS1, HO⟩
  ihave HF := (fresh_pop T.out base (j := 2 * k + 2) (by omega)) $$ HF
  icases HF with ⟨HF0, HF⟩
  ihave HF := (fresh_pop T.out base (j := 2 * k + 2 + 1) (by omega)) $$ HF
  icases HF with ⟨HF1, HF⟩
  iapply (wp_next EC 𝒱 bd ι T.toGear hR0 hV0 hR1 hV1 hR hM hB hB' (j := 2 * (k + 1)) (colOff_eq (j := 0) hk (by omega)) hX) $$ [HC HS0 HO]
  · isplitr; · iexact HM
    isplitl [HC]; · iexact HC
    isplitl [HS0]; · iexact HS0
    iexact HO
  iintro %J1 %hJ1 HC HA Hs Hd HO
  ihave HD := (done_push T.out base (slabV z₀ T.io B B' R V) (2 * k)) $$ [Hd HD]
  · isplitl [Hd]; · iexact Hd
    iexact HD
  iapply (wp_send EC 𝒱 bd ι (j := 2 * (k + 1)) (rowOff_eq hb (by omega) (slabW_toNat (j := 0) hk (by omega))) hJ1) $$ [Hs HA HF0]
  · isplitl [Hs]; · iexact Hs
    isplitl [HA]; · iexact HA
    iexact HF0
  iintro %J2 %hJ2 HS0
  iapply (wp_next EC 𝒱 bd ι T.toGear hR0 hV0 hR1 hV1 hR hM hB hB' (j := 2 * (k + 1) + 1) (colOff_eq (j := 1) hk (by omega)) hJ2) $$ [HC HS1 HO]
  · isplitr; · iexact HM
    isplitl [HC]; · iexact HC
    isplitl [HS1]; · iexact HS1
    iexact HO
  iintro %J3 %hJ3 HC HA Hs Hd HO
  ihave HD := (done_push T.out base (slabV z₀ T.io B B' R V) (2 * k + 1)) $$ [Hd HD]
  · isplitl [Hd]; · iexact Hd
    iexact HD
  iapply (wp_send EC 𝒱 bd ι (j := 2 * (k + 1) + 1) (rowOff_eq hb (by omega) (slabW_toNat (j := 1) hk (by omega))) hJ3) $$ [Hs HA HF1]
  · isplitl [Hs]; · iexact Hs
    isplitl [HA]; · iexact HA
    iexact HF1
  iintro %J4 %hJ4 HS1
  obtain ⟨r, rfl⟩ := hJ4
  iapply (le_wp_ret frame (wpE defs 𝒱 c bd) Set.univ)
  isplitr; · iexact HM
  isplitl [HC]; · iexact HC
  isplitl [HD]; · iexact HD
  isplitl [HF]; · iexact HF
  isplitl [HS0]; · iexact HS0
  isplitl [HS1]; · iexact HS1
  iexact HO

end

/-- What a tile holds between runs: its semaphores at zero, its buffers, its shares of the tables. -/
def TileRes (q0 q1 q2 q3 : PosShare TreeShare) (fR0 : Buf (Elt F) (T.S0.rows.view.loc c)) (fV0 : Buf (Elt F) (T.S0.vals.view.loc c))
    (fR1 : Buf (Elt F) (T.S1.rows.view.loc c)) (fV1 : Buf (Elt F) (T.S1.vals.view.loc c)) (fC : Buf (Elt F) (T.cs.view.loc c))
    (fC' : Buf (Elt F) (T.cs'.view.loc c)) : sProp 𝕄 :=
  iprop((∃ x, owns c T.bb fullShare x) ∗ (∃ x, owns c T.bsb fullShare x) ∗ (∃ x, owns c T.acc0 fullShare x) ∗ (∃ x, owns c T.acc1 fullShare x)
    ∗ T.S0.Rest q0 fR0 fV0 ∗ T.S1.Rest q1 fR1 fV1 ∗ semVal (c, .dma T.r0) 0 ∗ semVal (c, .dma T.r1) 0 ∗ semVal (c, .dma T.f0) 0 ∗ semVal (c, .dma T.f1) 0
    ∗ (T.cs.view.loc c ↦[T.cs.view.set]{q2} fC) ∗ (T.cs'.view.loc c ↦[T.cs'.view.set]{q3} fC'))

/-- The bounds a tile fetches. -/
def bounds (gb : Fin 1 → ℕ) (inb : ∀ a, gb a + SB.size a ≤ SC.size a) (C : SC.Idx → Elt F .i32) : SB.Idx → Elt F .i32 := fun x => C ((bndRect gb inb).emb x)

include EC hR0 hV0 hR1 hV1 hR hM hb

/-- The tile's program. -/
theorem wp_tileProg {q2 q3 : PosShare TreeShare} {fC : Buf (Elt F) (T.cs.view.loc c)} {fC' : Buf (Elt F) (T.cs'.view.loc c)}
    {C C' : SC.Idx → Elt F .i32} (hC : T.cs.view.read (Elt F) fC = C) (hC' : T.cs'.view.read (Elt F) fC' = C')
    (hin : ∀ x, InArr (C x)) (hin' : ∀ x, InArr (C' x)) {gb : Fin 1 → ℕ} (inb : ∀ a, gb a + SB.size a ≤ SC.size a)
    {X : Prog (TpuEff nD τ sig (Elt F) Λ c.2) PUnit} (hX : IsTile T z₀ gb base X) {O : CellTallies nD τ sig Ix} {W : Waits sig Ix} :
    (iprop(MayWaits c ι O ∗ TileRes T q0 q1 q2 q3 fR0 fV0 fR1 fV1 fC fC' ∗ bigSep (Finset.Ico 0 8) (Fresh T.out base) ∗ Owed c ι O W) : sProp 𝕄)
      ⊢ wp frame (wpE defs 𝒱 c bd) Set.univ X (fun _ => iprop(TileRes T q0 q1 q2 q3 fR0 fV0 fR1 fV1 fC fC'
        ∗ bigSep (Finset.range 8) (Done T.out base (slabV z₀ T.io (bounds gb inb C) (bounds gb inb C') R V)) ∗ Owed c ι O W)) := by
  subst hC hC'
  have hB : ∀ x, InArr (bounds (F := F) gb inb (T.cs.view.read (Elt F) fC) x) := fun x => hin _
  have hB' : ∀ x, InArr (bounds (F := F) gb inb (T.cs'.view.read (Elt F) fC') x) := fun x => hin' _
  unfold TileRes
  iintro ⟨#HM, ⟨Hbb, Hbs, HA0, HA1, H0, H1, Hr0, Hr1, Hf0, Hf1, HC, HC'⟩, HF, HO⟩
  ihave HF := (fresh_pop T.out base (j := 0) (by omega)) $$ HF
  icases HF with ⟨HF0, HF⟩
  ihave HF := (fresh_pop T.out base (j := 1) (by omega)) $$ HF
  icases HF with ⟨HF1, HF⟩
  iapply (wp_fetch EC 𝒱 bd ι hX inb) $$ [Hbb Hr0 HC HO]
  · isplitr; · iexact HM
    isplitl [Hr0]; · iexact Hr0
    isplitl [Hbb]; · iexact Hbb
    isplitl [HC]; · iexact HC
    iexact HO
  iintro %J1 %hJ1 Hr0 Hbb HC HO
  iapply (wp_fetch EC 𝒱 bd ι hJ1 inb) $$ [Hbs Hr1 HC' HO]
  · isplitr; · iexact HM
    isplitl [Hr1]; · iexact Hr1
    isplitl [Hbs]; · iexact Hbs
    isplitl [HC']; · iexact HC'
    iexact HO
  iintro %J2 %hJ2 Hr1 Hbs HC' HO
  ihave HG : (Calm T.toGear q0 q1 fR0 fV0 fR1 fV1 (bounds gb inb (T.cs.view.read (Elt F) fC)) (bounds gb inb (T.cs'.view.read (Elt F) fC')) : sProp 𝕄) $$ [Hbb Hbs H0 H1]
  · unfold Calm
    isplitl [Hbb]; · iexact Hbb
    isplitl [Hbs]; · iexact Hbs
    isplitl [H0]; · iexact H0
    iexact H1
  iapply (wp_slab' EC 𝒱 bd ι T.toGear hR0 hV0 hR1 hV1 hR hM hB hB' (j := 0) rfl hJ2) $$ [HG HA0 HO]
  · isplitr; · iexact HM
    isplitl [HG]; · iexact HG
    isplitl [HA0]; · iexact HA0
    iexact HO
  iintro %J3 %hJ3 HG HA0 HO
  iapply (wp_send EC 𝒱 bd ι (j := 0) (rowOff_eq hb (by omega) rfl) hJ3) $$ [Hf0 HA0 HF0]
  · isplitl [Hf0]; · iexact Hf0
    isplitl [HA0]; · iexact HA0
    iexact HF0
  iintro %J4 %hJ4 HS0
  iapply (wp_slab' EC 𝒱 bd ι T.toGear hR0 hV0 hR1 hV1 hR hM hB hB' (j := 1) rfl hJ4) $$ [HG HA1 HO]
  · isplitr; · iexact HM
    isplitl [HG]; · iexact HG
    isplitl [HA1]; · iexact HA1
    iexact HO
  iintro %J5 %hJ5 HG HA1 HO
  iapply (wp_send EC 𝒱 bd ι (j := 1) (rowOff_eq hb (by omega) rfl) hJ5) $$ [Hf1 HA1 HF1]
  · isplitl [Hf1]; · iexact Hf1
    isplitl [HA1]; · iexact HA1
    iexact HF1
  iintro %J6 %hJ6 HS1
  obtain ⟨ok, body, Z, rfl, htrip, hZ⟩ := hJ6
  simp only [wp_bind]
  iapply (Scf.wp_for frame (wpE defs 𝒱 c bd) Set.univ slabLoop.lb slabLoop.ub slabLoop.st ok 0#32 body
    (fun k _ => iprop(MayWaits c ι O ∗ Calm T.toGear q0 q1 fR0 fV0 fR1 fV1 (bounds gb inb (T.cs.view.read (Elt F) fC)) (bounds gb inb (T.cs'.view.read (Elt F) fC'))
      ∗ bigSep (Finset.range (2 * k)) (Done T.out base (slabV z₀ T.io (bounds gb inb (T.cs.view.read (Elt F) fC)) (bounds gb inb (T.cs'.view.read (Elt F) fC')) R V))
      ∗ bigSep (Finset.Ico (2 * k + 2) 8) (Fresh T.out base)
      ∗ Sent EC ι T.acc0 T.out T.f0 base (2 * k) (slabV z₀ T.io (bounds gb inb (T.cs.view.read (Elt F) fC)) (bounds gb inb (T.cs'.view.read (Elt F) fC')) R V (2 * k))
      ∗ Sent EC ι T.acc1 T.out T.f1 base (2 * k + 1) (slabV z₀ T.io (bounds gb inb (T.cs.view.read (Elt F) fC)) (bounds gb inb (T.cs'.view.read (Elt F) fC')) R V (2 * k + 1))
      ∗ Owed c ι O W))
    (fun k a => wp_trip' EC 𝒱 bd ι T hR0 hV0 hR1 hV1 hR hM hb hB hB' (Nat.lt_of_lt_of_eq k.isLt slabLoop_trips) (htrip k a)))
  isplitl [HG HF HS0 HS1 HO]
  · isplitr; · iexact HM
    isplitl [HG]; · iexact HG
    isplitr; · iempintro
    isplitl [HF]; · iexact HF
    isplitl [HS0]; · iexact HS0
    isplitl [HS1]; · iexact HS1
    iexact HO
  iintro %r ⟨-, HG, HD, -, HS0, HS1, HO⟩
  iapply (wp_sent EC 𝒱 bd ι (hZ r)) $$ [HS0 HO]
  · isplitr; · iexact HM
    isplitl [HS0]; · iexact HS0
    iexact HO
  iintro %J7 %hJ7 Hf0 HA0 Hd0 HO
  iapply (wp_sent EC 𝒱 bd ι hJ7) $$ [HS1 HO]
  · isplitr; · iexact HM
    isplitl [HS1]; · iexact HS1
    iexact HO
  iintro %J8 %hJ8 Hf1 HA1 Hd1 HO
  obtain ⟨r', rfl⟩ := hJ8
  ihave HD := (done_push T.out base _ (2 * slabLoop.trips)) $$ [Hd0 HD]
  · isplitl [Hd0]; · iexact Hd0
    iexact HD
  ihave HD := (done_push T.out base _ (2 * slabLoop.trips + 1)) $$ [Hd1 HD]
  · isplitl [Hd1]; · iexact Hd1
    iexact HD
  unfold Calm
  icases HG with ⟨Hbb, Hbs, H0, H1⟩
  iapply (le_wp_ret frame (wpE defs 𝒱 c bd) Set.univ)
  isplitr [HD HO]
  · isplitl [Hbb]; · iexists _; iexact Hbb
    isplitl [Hbs]; · iexists _; iexact Hbs
    isplitl [HA0]; · iexact HA0
    isplitl [HA1]; · iexact HA1
    isplitl [H0]; · iexact H0
    isplitl [H1]; · iexact H1
    isplitl [Hr0]; · iexact Hr0
    isplitl [Hr1]; · iexact Hr1
    isplitl [Hf0]; · iexact Hf0
    isplitl [Hf1]; · iexact Hf1
    isplitl [HC]; · iexact HC
    iexact HC'
  isplitl [HD]
  · iexact HD
  iexact HO

end

end Cert.Proof.Csc
end
-- ==== Proof.Take.lean ====
/-
  Taking several members out of a separating conjunction over a finite set, one after another.
-/
module

public import Idealize.ShloMosaic.Lib.SparseCore.Quiescent

@[expose] public section

noncomputable section

namespace Cert.Proof.Csc

open Idealize.ShloMosaic
open Idealize.SL Idealize.SL.RA Idealize.SL.BI
open scoped Idealize.SL.BI
open Idealize.SL.BI.BIBase Idealize.SL.BI.Laws Idealize.SL.ProofMode

variable {M : Type} [URA M] {I : Type} [DecidableEq I]

/-- Two assertions that entail each other are one. -/
theorem eq_of_both {A B : sProp M} (h₁ : A ⊢ B) (h₂ : B ⊢ A) : A = B := BI.equiv_iff.mp ⟨h₁, h₂⟩

/-- The members of `l`, conjoined one by one, and the rest of `S`. -/
def takeOff (Φ : I → sProp M) : List I → Finset I → sProp M
  | [], S => bigSep S Φ
  | i :: l, S => iprop(Φ i ∗ takeOff Φ l (S.erase i))

theorem bigSep_takeOff (Φ : I → sProp M) : ∀ (l : List I) (S : Finset I), l.Nodup → (∀ i ∈ l, i ∈ S) → bigSep S Φ = takeOff Φ l S
  | [], _, _, _ => rfl
  | i :: l, S, hn, hm => by
    rw [takeOff, ← bigSep_takeOff Φ l (S.erase i) (List.nodup_cons.mp hn).2 fun j hj =>
      Finset.mem_erase.mpr ⟨fun e => (List.nodup_cons.mp hn).1 (e ▸ hj), hm j (List.mem_cons_of_mem _ hj)⟩]
    exact SparseCore.bigSep_erase' (hm i List.mem_cons_self)

end Cert.Proof.Csc
end
-- ==== Proof.Check.lean ====
/-
  The check a slab makes of its positions before its copies, and that it holds of positions that lie in the list.
-/
module

public import proofs.«01_k».proof.Proof.Slab

@[expose] public section

namespace Cert.Proof.Csc

open Idealize.ShloMosaic

/-- The number of tile `j` of trip `k` of the loop for the leftover pairs. -/
def restW (s e : BitVec 32) (k : ℕ) (j : BitVec 32) : BitVec 32 := Scalar.addi (Scalar.muli (Scf.iv (restLoop s e).lb 1#32 k) 2#32) j

/-- A turn's copy and the next copy of its stream begin at multiples of eight and lie in the list. -/
def Turn (s e : BitVec 32) {n : ℕ} (t : Fin n → BitVec 32) (rest : Prop) : Prop :=
  (∀ k, ltW (t k) s e = 1#1 → 8 ∣ (winW s (Scalar.muli (t k) 2048#32)).toNat) ∧
  (∀ k, ltW (t k) s e = 1#1 → 8 ∣ (winW s (Scalar.muli (t k) 2048#32)).toNat) ∧
  (∀ k, ltW (t k) s e = 1#1 → TileInb (winOff s (Scalar.muli (t k) 2048#32))) ∧
  (∀ k, ltW (t k) s e = 1#1 → ltW (Scalar.addi (t k) 2#32) s e = 1#1 → 8 ∣ (winW s (Scalar.muli (Scalar.addi (t k) 2#32) 2048#32)).toNat) ∧
  (∀ k, ltW (t k) s e = 1#1 → ltW (Scalar.addi (t k) 2#32) s e = 1#1 → TileInb (winOff s (Scalar.muli (Scalar.addi (t k) 2#32) 2048#32))) ∧
  rest

/-- The last turn. -/
def Turn' (s e : BitVec 32) {n : ℕ} (t : Fin n → BitVec 32) : Prop :=
  (∀ k, ltW (t k) s e = 1#1 → 8 ∣ (winW s (Scalar.muli (t k) 2048#32)).toNat) ∧
  (∀ k, ltW (t k) s e = 1#1 → 8 ∣ (winW s (Scalar.muli (t k) 2048#32)).toNat) ∧
  (∀ k, ltW (t k) s e = 1#1 → TileInb (winOff s (Scalar.muli (t k) 2048#32))) ∧
  (∀ k, ltW (t k) s e = 1#1 → ltW (Scalar.addi (t k) 2#32) s e = 1#1 → 8 ∣ (winW s (Scalar.muli (Scalar.addi (t k) 2#32) 2048#32)).toNat) ∧
  (∀ k, ltW (t k) s e = 1#1 → ltW (Scalar.addi (t k) 2#32) s e = 1#1 → TileInb (winOff s (Scalar.muli (Scalar.addi (t k) 2#32) 2048#32)))

/-- The check. -/
def SlabChk (s e : BitVec 32) : Prop :=
  (gtW 0#32 s e = 1#1 → 8 ∣ (winW s 0#32).toNat) ∧
  (gtW 0#32 s e = 1#1 → TileInb (winOff s 0#32)) ∧
  (gtW 1#32 s e = 1#1 → 8 ∣ (winW s 2048#32).toNat) ∧
  (gtW 1#32 s e = 1#1 → TileInb (winOff s 2048#32)) ∧
  (pairLoop s e).OK ∧
  Turn s e (fun k : Fin (pairLoop s e).trips => tW k 0#32)
    (Turn s e (fun k : Fin (pairLoop s e).trips => tW k 1#32)
      ((restLoop s e).OK ∧
        Turn s e (fun k : Fin (restLoop s e).trips => restW s e k 0#32) (Turn' s e (fun k : Fin (restLoop s e).trips => restW s e k 1#32))))

theorem winOff_in {s x : BitVec 32} {t : ℕ} (hs : InArr s) (ht : t < 1000) (hx : x.toNat = t * 2048) : TileInb (winOff s x) := by
  intro a
  obtain rfl : a = 0 := Subsingleton.elim _ _
  exact winOff_inb hs ht hx 0

theorem turn_of {s e : BitVec 32} (hs : InArr s) {n : ℕ} {t : Fin n → BitVec 32} (ht : ∀ k, (t k).toNat < 900) {rest : Prop} (hr : rest) :
    Turn s e t rest := by
  have h0 : ∀ k, (Scalar.muli (t k) 2048#32).toNat = (t k).toNat * 2048 := fun k => mul2048_toNat rfl (Nat.lt_trans (ht k) (by decide))
  have h2 : ∀ k, (Scalar.muli (Scalar.addi (t k) 2#32) 2048#32).toNat = ((t k).toNat + 2) * 2048 := fun k =>
    mul2048_toNat (add_ofNat_toNat rfl (by have := ht k; omega)) (by have := ht k; omega)
  have l0 : ∀ k, (t k).toNat < 1000 := fun k => Nat.lt_trans (ht k) (by decide)
  have l2 : ∀ k, (t k).toNat + 2 < 1000 := fun k => by have := ht k; omega
  exact ⟨fun k _ => winW_dvd hs (l0 k) (h0 k), fun k _ => winW_dvd hs (l0 k) (h0 k), fun k _ => winOff_in hs (l0 k) (h0 k),
    fun k _ _ => winW_dvd hs (l2 k) (h2 k), fun k _ _ => winOff_in hs (l2 k) (h2 k), hr⟩

theorem slabChk_of {s e : BitVec 32} (hs : InArr s) (he : InArr e) : SlabChk s e := by
  have hk : ∀ k : Fin (pairLoop s e).trips, k.val < 401 := fun k => by
    have h1 : k.val < (ntN s e + 1) / 2 := Nat.lt_of_lt_of_eq k.isLt (pairLoop_trips hs he)
    have h2 := ntN_le (s := s) he; omega
  have hk' : ∀ k : Fin (restLoop s e).trips, False := fun k => by
    have h1 : k.val < 0 := Nat.lt_of_lt_of_eq k.isLt (restLoop_trips s e); omega
  refine ⟨fun _ => winW_dvd hs (t := 0) (by omega) rfl, fun _ => winOff_in hs (t := 0) (by omega) rfl, fun _ => winW_dvd hs (t := 1) (by omega) rfl,
    fun _ => winOff_in hs (t := 1) (by omega) rfl, pairLoop_ok hs he, turn_of hs ?_ (turn_of hs ?_ ⟨restLoop_ok hs he, turn_of hs ?_ ?_⟩)⟩
  · intro k; have := hk k
    rw [show tW k 0#32 = tW k (BitVec.ofNat 32 0) from rfl, tW_toNat (j := 0) (by omega) (by omega)]; omega
  · intro k; have := hk k
    rw [show tW k 1#32 = tW k (BitVec.ofNat 32 1) from rfl, tW_toNat (j := 1) (by omega) (by omega)]; omega
  · exact fun k => (hk' k).elim
  · exact ⟨fun k => (hk' k).elim, fun k => (hk' k).elim, fun k => (hk' k).elim, fun k => (hk' k).elim, fun k => (hk' k).elim⟩

/-- What the check tells. -/
theorem slabEv : ChkEv SlabChk where
  holds _ _ := slabChk_of
  in0 _ _ h := h.2.1
  in1 _ _ h := h.2.2.2.1
  ok _ _ h := h.2.2.2.2.1
  inA _ _ h := h.2.2.2.2.2.2.2.1
  inA' _ _ h := h.2.2.2.2.2.2.2.2.2.1
  inB _ _ h := h.2.2.2.2.2.2.2.2.2.2.2.2.1
  inB' _ _ h := h.2.2.2.2.2.2.2.2.2.2.2.2.2.2.1
  okRest _ _ h := h.2.2.2.2.2.2.2.2.2.2.2.2.2.2.2.1

end Cert.Proof.Csc
end
-- ==== Proof.Shape.lean ====
/-
  How a program is seen to have the form of a slab or of a tile: sequencing under a condition and after a loop.
-/
module

public import proofs.«01_k».proof.Proof.Tile
public import proofs.«01_k».proof.Proof.Check

@[expose] public section

noncomputable section

namespace Cert.Proof.Csc

open Idealize.ShloMosaic
open Idealize.SL.Sem

/-- Sequencing after a loop. -/
theorem for_bind {E : Type → Type} {σ α β : Type} {X : Prog E σ} {g : σ → Prog E α} {f : α → Prog E β} {Z : σ → Prog E β}
    (h : ∀ r, Z r = Prog.bind (g r) f) : X >>= Z = Prog.bind (Prog.bind X g) f := by
  rw [show Z = fun r => Prog.bind (g r) f from funext h]
  exact (bind_assoc X g f).symm

variable {F : FTy → Type} [FloatOps F]
variable {nD : Nat} {τ : Topo} {sig : RefSig} {Λ : Labels} {p : Proc τ}

/-- A stream sent under a condition, what follows standing in both branches. -/
theorem guard_bind (S : Strm nD τ sig p) {c : BitVec 1} {off : Fin 1 → ℕ} {inb : c = 1#1 → TileInb off} {α β : Type}
    {Y : Prog (TpuEff nD τ sig (Elt F) Λ p) α} {f : α → Prog (TpuEff nD τ sig (Elt F) Λ p) β} {Z : Prog (TpuEff nD τ sig (Elt F) Λ p) β}
    (h : Z = Prog.bind Y f) :
    (S.guard c off inb >>= fun _ => Z) = Prog.bind (dite (c = 1#1) (fun h => S.issue off (inb h) Y) (fun _ => Y)) f := by
  subst h
  unfold Strm.guard
  by_cases hc : c = 1#1
  · rw [dif_pos hc, dif_pos hc]; rfl
  · rw [dif_neg hc, dif_neg hc]; rfl

/-- A slab from its parts. -/
theorem IsCore.of {M : Gear nD τ sig p} {acc : Memref sig p.kind .vmem SA .f32} {z₀ : Elt F .f32} {chk : BitVec 32 → BitVec 32 → Prop} {ev : ChkEv chk}
    {s e : BitVec 32} {bs : IVec SL 32} {hc : chk s e} {β : Type} {J : Prog (TpuEff nD τ sig (Elt F) Λ p) β → Prop}
    {Y : Prog (TpuEff nD τ sig (Elt F) Λ p) β} {okz zb pb}
    {ob : BitVec 32 → Fin (restLoop s e).trips → BitVec 32 → Prog (TpuEff nD τ sig (Elt F) Λ p) (BitVec 32)} {z : SZ.Idx → Elt F .f32} {hl hs Jr}
    (hY : (M.S0.guard (gtW 0#32 s e) (winOff s 0#32) (ev.in0 _ _ hc) >>= fun _ =>
        M.S1.guard (gtW 1#32 s e) (winOff s 2048#32) (ev.in1 _ _ hc) >>= fun _ =>
        Scf.Loop.for zeroLoop okz 0#32 zb >>= fun _ =>
        Scf.Loop.for (pairLoop s e) (ev.ok _ _ hc) 0#32 pb >>= fun r =>
        Scf.Loop.for (restLoop s e) (ev.okRest _ _ hc) r (ob r) >>= Jr) = Y)
    (hz : ∀ x, z x = z₀)
    (hzb : ∀ (k : Fin zeroLoop.trips) a, zb k a = zeroP acc z k.val (Nat.lt_of_lt_of_eq k.isLt zeroLoop_trips) hl hs 16 le_rfl)
    (hpb : PairBody M.S0 M.S1 acc ev M.io bs hc pb) (hJ : ∀ r, J (Jr r)) : IsCore M acc z₀ ev bs hc J Y :=
  ⟨okz, zb, pb, ob, z, hl, hs, Jr, hY.symm, hJ, hz, hzb, hpb⟩

end Cert.Proof.Csc
end
-- ==== Proof.Ranges.lean ====
/-
  What the preconditions say of the arguments' words.
-/
module

public import proofs.«01_k».proof.Pre_in_range
public import proofs.«01_k».proof.Proof.TileAll

@[expose] public section

noncomputable section

namespace Cert.Proof.Csc

open Idealize.ShloMosaic

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word between zero and the number of entries, as signed words. -/
theorem inArr_of_bits {v : BitVec 32} (e : IntOp.andi (IntOp.cmpi .sge v 0#32) (IntOp.cmpi .sle v 1638400#32) = 1#1) : InArr v := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  unfold InArr
  omega
/-- A non-negative word below the number of rows. -/
theorem row_of_bits {v : BitVec 32} (e : IntOp.andi (IntOp.cmpi .sge v 0#32) (IntOp.cmpi .slt v 4096#32) = 1#1) : v.toNat < 4096 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F]

theorem starts_of_range [Cert.Pre_in_range.Facts] {a : IVec Cert.Pre_in_range.S4097 32} {b : IVec Cert.Pre_in_range.S1638400 32} {v : FVec F Cert.Pre_in_range.S1638400 .f32}
    (h : (Cert.Pre_in_range.fn (F := F) a b v).1 = fun _ => 1#1) (x : Cert.Pre_in_range.S4097.Idx) : InArr (a x) := by
  have e := congrFun h x
  simp only [Cert.Pre_in_range.fn, andi, cmpi, broadcastInDim, constantI] at e
  exact inArr_of_bits e
theorem rows_of_range [Cert.Pre_in_range.Facts] {a : IVec Cert.Pre_in_range.S4097 32} {b : IVec Cert.Pre_in_range.S1638400 32} {v : FVec F Cert.Pre_in_range.S1638400 .f32}
    (h : (Cert.Pre_in_range.fn (F := F) a b v).2 = fun _ => 1#1) (x : Cert.Pre_in_range.S1638400.Idx) : (b x).toNat < 4096 := by
  have e := congrFun h x
  simp only [Cert.Pre_in_range.fn, andi, cmpi, broadcastInDim, constantI] at e
  exact row_of_bits e

end Cert.Proof.Csc
end
-- ==== Proof.Frame.lean ====
/-
  The program as printed terminates on arguments in range, keeps them, and ends with every semaphore at zero.
-/
module

public import proofs.«01_k».proof.Defs
public import proofs.«01_k».proof.Proof.Values
public import proofs.«01_k».proof.Proof.Ranges

@[expose] public section

noncomputable section

namespace Cert.Kernel.Csc

open Idealize.ShloMosaic Idealize.SL.Sem
open Cert.Kernel Cert.Kernel.Gen Cert.Proof.Csc

theorem arg_kept {m : (ℓ : Loc nD τ sig) → Buf (Elt Bits) ℓ} {r : PUnit × MemSt nD τ sig (Elt Bits)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.1 c (ref main_arg0) (ref_mem _ (by decide))).trans (final_arg0 (start m) c), (h.1 c (ref main_arg1) (ref_mem _ (by decide))).trans (final_arg1 (start m) c),
    (h.1 c (ref main_arg2) (ref_mem _ (by decide))).trans (final_arg2 (start m) c)⟩

/-- The frame claim of the program as printed. -/
theorem frame [Cert.Pre_in_range.Facts] : Cert.quiescent_Kernel := fun m ρ hpre =>
  (θ_run (Cert.Kernel.defs (F := Bits)) _ _).mono (fun _ h => ⟨arg_kept h, h.2⟩)
    (run_main m ρ fun d => ok_inputs (start m) d (starts_of_range (hpre d).1) (rows_of_range (hpre d).2))

end Cert.Kernel.Csc
end
-- ==== Proof.SetupIdeal.lean ====
/-
  The program as the launch theorem sees it, the ghost state of the proof, and what the two calls hand a tile and take back.
-/
module

public import proofs.«01_k».proof.Proof.TileAll
public import proofs.«01_k».proof.Proof.Take
public import proofs.«01_k».proof.Proof.Gen.KernelIdeal
public import proofs.«01_k».proof.Proof.Gen.KernelIdeal.Launch
public import Idealize.ShloMosaic.Lib.SparseCore.Quiescent
public import Idealize.ShloMosaic.Lib.Pipeline.Regions

@[expose] public section

noncomputable section

namespace Cert.KernelIdeal.Csc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds (URounds)
open Cert.KernelIdeal Cert.KernelIdeal.Gen Cert.Proof.Csc

variable {F : FTy → Type}

/-! ## The program -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := UR sig nD τ
abbrev UU : Type := UH × (UP × Counters)
local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR
abbrev EC : UEmb Counters (MT nD τ sig (HIx 2) (Elt F) ℕ UU ℕ) := countersEmb

instance EP_landsIn : (EP (F := F)).LandsIn (upEmb : UEmb _ (MT nD τ sig (HIx 2) (Elt F) ℕ UU ℕ)) := by
  unfold EP; infer_instance

/-! ## What a tile is handed and gives back -/

/-- The contents of the four arrays the calls read. -/
structure Inp (F : FTy → Type) where
  C : SC.Idx → Elt F .i32
  C' : SC.Idx → Elt F .i32
  R : SN.Idx → Elt F .i32
  V : SN.Idx → Elt F .f32

/-- The first column of the tile `s` of SparseCore `c`, in call `q`. -/
def colOf (q c s : ℕ) : Fin 1 → ℕ := ![128 * (s % 16) + 64 * (c % 2) + 2048 * (q % 2)]
theorem colOf_inb (q c s : ℕ) : ∀ a, colOf q c s a + SB.size a ≤ SC.size a := by
  intro a
  obtain rfl : a = 0 := Subsingleton.elim _ _
  show 128 * (s % 16) + 64 * (c % 2) + 2048 * (q % 2) + 80 ≤ 4256
  omega
/-- Its first row of the call's result. -/
def rowOf (c s : ℕ) : BitVec 32 := BitVec.ofNat 32 (128 * (s % 16) + 64 * (c % 2))
theorem rowOf_toNat (c s : ℕ) : (rowOf c s).toNat = 128 * (s % 16) + 64 * (c % 2) := by
  unfold rowOf; rw [BitVec.toNat_ofNat]; omega

/-- The result of call `q`, as a vector subcore addresses it. -/
def outM : Fin 2 → Memref sig .scVector .hbm SO .f32
  | 0 => Memref.whole main_v3_scv
  | 1 => Memref.whole main_v4_scv

section
variable [FloatOps F]

/-- The lane numbers. -/
abbrev lanes : IVec SL 32 := iota .scVector SL 32 [0] iota_S16_d0_w32_scVector

/-- The slabs of a tile. -/
def slabs (I : Inp F) (q c s : ℕ) : ℕ → SA.Idx → Elt F .f32 :=
  slabV (FloatOps.ofBits .f32 0#32) lanes (bounds (colOf q c s) (colOf_inb q c s) I.C) (bounds (colOf q c s) (colOf_inb q c s) I.C') I.R I.V

/-- The four arrays at read share `p`. -/
def Reads (d : Dev nD) (I : Inp F) (p : PosShare TreeShare) : sProp 𝕄 :=
  iprop(((SparseCore.T d : Thread nD τ).loc main_v0 ↦{p} I.C) ∗ ((SparseCore.T d : Thread nD τ).loc main_v2 ↦{p} I.C') ∗ ((SparseCore.T d : Thread nD τ).loc main_arg1 ↦{p} I.R) ∗ ((SparseCore.T d : Thread nD τ).loc main_arg2 ↦{p} I.V))

/-- The share of a SparseCore. -/
def half : ℕ → PosShare TreeShare
  | 0 => fullShare.left
  | _ => fullShare.right

/-- A tile's rows of the result, holding anything; holding its slabs. -/
def RowsAny (d : Dev nD) (q : Fin 2) (c : Fin τ.nSC) (s : Fin τ.nSub) : sProp 𝕄 :=
  bigSep (Finset.Ico 0 8) (Fresh (c := V d c s) (outM q) (rowOf c.val s.val))
def RowsDone (d : Dev nD) (I : Inp F) (q : Fin 2) (c : Fin τ.nSC) (s : Fin τ.nSub) : sProp 𝕄 :=
  bigSep (Finset.range 8) (Done (c := V d c s) (outM q) (rowOf c.val s.val) (slabs I q.val c.val s.val))

instance (d : Dev nD) (I : Inp F) (p : PosShare TreeShare) : BI.Storable (upEmb : UEmb _ 𝕄) (Reads d I p) := by unfold Reads; infer_instance
instance (d : Dev nD) (q : Fin 2) (c : Fin τ.nSC) (s : Fin τ.nSub) : BI.Storable (upEmb : UEmb _ 𝕄) (RowsAny (F := F) d q c s) := by unfold RowsAny; infer_instance
instance (d : Dev nD) (I : Inp F) (q : Fin 2) (c : Fin τ.nSC) (s : Fin τ.nSub) : BI.Storable (upEmb : UEmb _ 𝕄) (RowsDone d I q c s) := by
  unfold RowsDone; infer_instance

variable (I : Dev nD → Inp F)

/-- What passes between the TensorCore, the SparseCores' sequencers and the tiles, the same for both calls. -/
def P : (K (F := F)).Pay (nD := nD) (Val := Elt F) (Name := ℕ) (U := UU) where
  st := fun q d c => iprop(Reads d (I d) (half c.val) ∗ bigSep Finset.univ fun s => RowsAny d q ((K (F := F)).core q c) ((K (F := F)).sub q s))
  dn := fun q d c => iprop(Reads d (I d) (half c.val) ∗ bigSep Finset.univ fun s => RowsDone d (I d) q ((K (F := F)).core q c) ((K (F := F)).sub q s))
  go := fun q d c s => iprop(Reads d (I d) (shareTokN (half c.val) s.val) ∗ RowsAny d q ((K (F := F)).core q c) ((K (F := F)).sub q s))
  td := fun q d c s => iprop(Reads d (I d) (shareTokN (half c.val) s.val) ∗ RowsDone d (I d) q ((K (F := F)).core q c) ((K (F := F)).sub q s))
  x := fun _ _ => iprop(emp)

instance P_storable : (P I).IsStorable where
  st _ d c := by unfold P; infer_instance
  dn _ d c := by unfold P; infer_instance
  go _ _ _ _ := by unfold P; infer_instance
  td _ _ _ _ := by unfold P; infer_instance

/-! ## A call's operands split into its tasks' -/

theorem bigSep_nSub (q : Fin 2) (Φ : ℕ → sProp 𝕄) :
    (bigSep Finset.univ fun s : Fin ((K (F := F)).nSub q) => Φ s.val) = bigSep Finset.univ fun s : Fin 16 => Φ s.val := by
  match q with
  | 0 => rfl
  | 1 => rfl

theorem toks_eq {ℓ : Loc nD τ sig} (p : PosShare TreeShare) (f : Buf (Elt F) ℓ) :
    (ℓ ↦{p} f : sProp 𝕄) = iprop((ℓ ↦{shareDrop p 16} f) ∗ bigSep Finset.univ fun s : Fin 16 => ℓ ↦{shareTokN p s.val} f) :=
  BI.Entails.antisymm (pointsTo_toks p 16).1 (pointsTo_toks p 16).2

/-- The arrays at a share are what remains of it after sixteen tokens, and the tokens. -/
theorem reads_split (d : Dev nD) (J : Inp F) (p : PosShare TreeShare) :
    (Reads d J p : sProp 𝕄) = iprop(Reads d J (shareDrop p 16) ∗ bigSep Finset.univ fun s : Fin 16 => Reads d J (shareTokN p s.val)) := by
  unfold Reads
  rw [bigSep_sep', bigSep_sep', bigSep_sep', toks_eq (ℓ := (SparseCore.T d : Thread nD τ).loc main_v0) p J.C, toks_eq (ℓ := (SparseCore.T d : Thread nD τ).loc main_v2) p J.C', toks_eq (ℓ := (SparseCore.T d : Thread nD τ).loc main_arg1) p J.R, toks_eq (ℓ := (SparseCore.T d : Thread nD τ).loc main_arg2) p J.V]
  refine eq_of_both ?_ ?_
  · iintro ⟨⟨Ha, Hb⟩, ⟨Hc, Hd⟩, ⟨He, Hf⟩, Hg, Hh⟩
    isplitl [Ha Hc He Hg]
    · isplitl [Ha]; · iexact Ha
      isplitl [Hc]; · iexact Hc
      isplitl [He] <;> iassumption
    isplitl [Hb]; · iexact Hb
    isplitl [Hd]; · iexact Hd
    isplitl [Hf] <;> iassumption
  · iintro ⟨⟨Ha, Hc, He, Hg⟩, Hb, Hd, Hf, Hh⟩
    isplitl [Ha Hb]; · isplitl [Ha] <;> iassumption
    isplitl [Hc Hd]; · isplitl [Hc] <;> iassumption
    isplitl [He Hf]; · isplitl [He] <;> iassumption
    isplitl [Hg] <;> iassumption

theorem vecSplit (q : Fin 2) : (K (F := F)).VecSplit' (P I) q := by
  intro d c
  show iprop(Reads d (I d) (half c.val) ∗ bigSep Finset.univ fun s => RowsAny d q ((K (F := F)).core q c) ((K (F := F)).sub q s)) ⊢ |={Set.univ}=> iprop(
      (bigSep Finset.univ fun s : Fin ((K (F := F)).nSub q) =>
        iprop(Reads d (I d) (shareTokN (half c.val) s.val) ∗ RowsAny d q ((K (F := F)).core q c) ((K (F := F)).sub q s)))
      ∗ ((bigSep Finset.univ fun s : Fin ((K (F := F)).nSub q) =>
        iprop(Reads d (I d) (shareTokN (half c.val) s.val) ∗ RowsDone d (I d) q ((K (F := F)).core q c) ((K (F := F)).sub q s)))
        -∗ iprop(Reads d (I d) (half c.val) ∗ bigSep Finset.univ fun s => RowsDone d (I d) q ((K (F := F)).core q c) ((K (F := F)).sub q s))))
  rw [bigSep_sep', bigSep_sep', bigSep_nSub q fun s => Reads d (I d) (shareTokN (half c.val) s), reads_split d (I d) (half c.val)]
  iintro ⟨⟨Hd, Ht⟩, HR⟩
  imodintro
  isplitl [Ht HR]; · isplitl [Ht] <;> iassumption
  iintro ⟨Ht, HR⟩
  isplitl [Hd Ht]; · isplitl [Hd] <;> iassumption
  iexact HR

end

end Cert.KernelIdeal.Csc
end
-- ==== Proof.RowsIdeal.lean ====
/-
  A call's result array as the tiles' slabs: whole, it is the slabs' rows, and the slabs' rows at the tiles' values are the array at one value.
-/
module

public import proofs.«01_k».proof.Proof.SetupIdeal
public import Idealize.ShloMosaic.Lib.Memref

@[expose] public section

noncomputable section

namespace Cert.KernelIdeal.Csc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Csc

variable {F : FTy → Type} [FloatOps F]
local notation "𝕄" => MT nD τ sig (HIx 2) (Elt F) ℕ UU ℕ

/-! ## The slabs' rows cover the result once -/

/-- The rows of slab `t.2.2` of tile `t.2.1` of SparseCore `t.1`. -/
abbrev slabRect (t : Fin 2 × Fin 16 × Fin 8) : Rect SO :=
  rowRect (rowAt (rowOf t.1.val t.2.1.val) t.2.2.val) (rowAt_inb (rowOf t.1.val t.2.1.val) t.2.2.val)

theorem mem_slabRect (t : Fin 2 × Fin 16 × Fin 8) (i : SO.Idx) :
    i ∈ (slabRect t).set ↔ t.1.val = (i 0).val / 64 % 2 ∧ t.2.1.val = (i 0).val / 128 ∧ t.2.2.val = (i 0).val / 8 % 8 := by
  have h0 : (i 0).val < 2048 := (i 0).isLt
  have h1 : (i 1).val < 4096 := (i 1).isLt
  have hr : (rowOf t.1.val t.2.1.val).toNat = 128 * t.2.1.val + 64 * t.1.val := by rw [rowOf_toNat]; omega
  have hs := t.1.isLt
  have hs1 := t.2.1.isLt
  have hs2 := t.2.2.isLt
  rw [Rect.mem_set_unit]
  constructor
  · intro h
    have h := h 0
    have e : (rowAt (rowOf t.1.val t.2.1.val) t.2.2.val) 0 = min ((rowOf t.1.val t.2.1.val).toNat + 8 * t.2.2.val) 2040 := rfl
    have e8 : SA.size 0 = 8 := rfl
    rw [e, hr, e8] at h
    omega
  · rintro ⟨ha, hb, hc⟩ a
    match a with
    | 0 =>
      show min ((rowOf t.1.val t.2.1.val).toNat + 8 * t.2.2.val) 2040 ≤ (i 0).val ∧ (i 0).val < min ((rowOf t.1.val t.2.1.val).toNat + 8 * t.2.2.val) 2040 + 8
      rw [hr]; omega
    | 1 => show 0 ≤ (i 1).val ∧ (i 1).val < 0 + 4096; omega

theorem slabRect_disjoint (t t' : Fin 2 × Fin 16 × Fin 8) (h : t ≠ t') : Disjoint (slabRect t).set (slabRect t').set := by
  rw [Finset.disjoint_left]
  intro i hi hi'
  rw [mem_slabRect] at hi hi'
  refine h (Prod.ext (Fin.ext ?_) (Prod.ext (Fin.ext ?_) (Fin.ext ?_)))
  · omega
  · omega
  · omega

theorem slabRect_cover : (Finset.univ : Finset (Fin 2 × Fin 16 × Fin 8)).biUnion (fun t => (slabRect t).set) = Finset.univ := by
  ext i
  have h0 : (i 0).val < 2048 := (i 0).isLt
  refine ⟨fun _ => Finset.mem_univ _, fun _ => Finset.mem_biUnion.mpr
    ⟨(⟨(i 0).val / 64 % 2, by omega⟩, ⟨(i 0).val / 128, by omega⟩, ⟨(i 0).val / 8 % 8, by omega⟩), Finset.mem_univ _, ?_⟩⟩
  rw [mem_slabRect]
  exact ⟨rfl, rfl, rfl⟩

/-! ## The result's value -/

/-- An index of the result, within the slab that holds it. -/
def inSlab (i : SO.Idx) : SA.Idx
  | 0 => ⟨(i 0).val % 8, Nat.mod_lt _ (by decide)⟩
  | 1 => ⟨(i 1).val, (i 1).isLt⟩

/-- The result of call `q`: each row lies in a slab of a tile. -/
def outT (J : Inp F) (q : Fin 2) : SO.Idx → Elt F .f32 := fun i =>
  slabs J q.val ((i 0).val / 64 % 2) ((i 0).val / 128) ((i 0).val / 8 % 8) (inSlab i)

/-- On a slab's rows the result is the slab. -/
theorem outT_emb (J : Inp F) (q : Fin 2) (t : Fin 2 × Fin 16 × Fin 8) :
    (fun j => outT J q ((slabRect t).emb j)) = slabs J q.val t.1.val t.2.1.val t.2.2.val := by
  funext j
  have hm : (slabRect t).emb j ∈ (slabRect t).set := by
    rw [← Rect.map_emb_univ]; exact Finset.mem_map_of_mem _ (Finset.mem_univ j)
  have hk := (mem_slabRect t _).mp hm
  have hr : (rowOf t.1.val t.2.1.val).toNat = 128 * t.2.1.val + 64 * t.1.val := by
    rw [rowOf_toNat]; have := t.1.isLt; have := t.2.1.isLt; omega
  have e0 : ((slabRect t).emb j 0).val = min ((rowOf t.1.val t.2.1.val).toNat + 8 * t.2.2.val) 2040 + 1 * (j 0).val := rfl
  have e1 : ((slabRect t).emb j 1).val = 0 + 1 * (j 1).val := rfl
  have hin : inSlab ((slabRect t).emb j) = j := by
    funext a
    apply Fin.ext
    match a with
    | 0 =>
      show ((slabRect t).emb j 0).val % 8 = (j 0).val
      have h8 : (j 0).val < 8 := (j 0).isLt
      have := t.1.isLt; have := t.2.1.isLt; have := t.2.2.isLt
      rw [e0, hr]; omega
    | 1 => show ((slabRect t).emb j 1).val = (j 1).val; rw [e1]; omega
  unfold outT
  rw [hin, ← hk.1, ← hk.2.1, ← hk.2.2]

/-! ## The result in rows and back -/

theorem bigSep_range8 (Φ : ℕ → sProp 𝕄) : bigSep (Finset.range 8) Φ = bigSep Finset.univ fun j : Fin 8 => Φ j.val := by
  rw [← Nat.Iio_eq_range, ← Fin.map_valEmbedding_univ, bigSep_map]; rfl

/-- The result's points-to at contents `g`, in the TensorCore's words. -/
def outPts (d : Dev nD) : (q : Fin 2) → (SO.Idx → Elt F .f32) → sProp 𝕄
  | 0, g => iprop((SparseCore.T d : Thread nD τ).loc main_v3 ↦{fullShare} g)
  | 1, g => iprop((SparseCore.T d : Thread nD τ).loc main_v4 ↦{fullShare} g)

theorem outPts_owns (d : Dev nD) (q : Fin 2) (g : SO.Idx → Elt F .f32) :
    outPts d q g = owns (V d 0 0 : Thread nD τ) (outM q) fullShare g := by
  match q with
  | 0 => exact (show (owns (V d 0 0 : Thread nD τ) (Memref.whole main_v3_scv) fullShare g : sProp 𝕄) = _ from owns_whole (V d 0 0 : Thread nD τ) main_v3_scv fullShare g).symm
  | 1 => exact (show (owns (V d 0 0 : Thread nD τ) (Memref.whole main_v4_scv) fullShare g : sProp 𝕄) = _ from owns_whole (V d 0 0 : Thread nD τ) main_v4_scv fullShare g).symm

theorem owns_any_tile (d : Dev nD) (q : Fin 2) (c : Fin τ.nSC) (s : Fin τ.nSub) (t : Fin 2 × Fin 16 × Fin 8) (X : SA.Idx → Elt F .f32) :
    (owns (V d c s : Thread nD τ) ((outM q).slice (slabRect t) (fun _ => rfl)) fullShare X : sProp 𝕄)
      = owns (V d 0 0 : Thread nD τ) ((outM q).slice (slabRect t) (fun _ => rfl)) fullShare X := by
  match q with
  | 0 => rfl
  | 1 => rfl

theorem fresh_intro {c : Thread nD τ} (m : Memref sig c.2.kind .hbm SA .f32) (q : PosShare TreeShare) (X : SA.Idx → Elt F .f32) :
    (owns c m q X : sProp 𝕄) ⊢ iprop(∃ Y, owns c m q Y) := by
  iintro H
  iexists X
  iexact H

/-- The result, holding anything, is every tile's rows holding anything. -/
theorem rows_split (d : Dev nD) (q : Fin 2) (g : SO.Idx → Elt F .f32) :
    (outPts d q g : sProp 𝕄) ⊢ bigSep Finset.univ fun c : Fin 2 => bigSep Finset.univ fun s : Fin 16 => RowsAny d q c s := by
  rw [outPts_owns]
  refine (owns_rects (V d 0 0 : Thread nD τ) (outM q) fullShare slabRect (fun _ _ => rfl) slabRect_disjoint slabRect_cover g).trans ?_
  rw [bigSep_univ_prod]
  refine bigSep_mono fun c _ => ?_
  rw [bigSep_univ_prod]
  refine bigSep_mono fun s _ => ?_
  unfold RowsAny
  rw [← Finset.range_eq_Ico, bigSep_range8]
  refine bigSep_mono fun j _ => ?_
  unfold Fresh
  rw [← owns_any_tile d q c s (c, s, j)]
  exact fresh_intro _ _ _

/-- Every tile's rows at the tile's slabs are the result at `outT`. -/
theorem rows_join [∀ e, Nonempty (Elt F e)] (d : Dev nD) (J : Inp F) (q : Fin 2) :
    (bigSep Finset.univ fun c : Fin 2 => bigSep Finset.univ fun s : Fin 16 => RowsDone d J q c s) ⊢ (outPts d q (outT J q) : sProp 𝕄) := by
  rw [outPts_owns]
  refine BIBase.Entails.trans ?_ (owns_of_rects (V d 0 0 : Thread nD τ) (outM q) fullShare slabRect (fun _ _ => rfl) slabRect_disjoint slabRect_cover (outT J q))
  rw [bigSep_univ_prod]
  refine bigSep_mono fun c _ => ?_
  rw [bigSep_univ_prod]
  refine bigSep_mono fun s _ => ?_
  unfold RowsDone
  rw [bigSep_range8]
  refine bigSep_mono fun j _ => ?_
  unfold Done
  rw [outT_emb]
  exact Entails.of_eq (owns_any_tile d q c s (c, s, j) _)

end Cert.KernelIdeal.Csc
end
-- ==== Proof.TransIdeal.lean ====
/-
  The two transpositions' pipelines: what their bodies do at a point, as proof data over the contents a region is entered with.
-/
module

public import proofs.«01_k».proof.Proof.SetupIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

-- a block's element is looked for in a rectangle of its size
set_option maxRecDepth 16384

noncomputable section

namespace Cert.KernelIdeal.Csc

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Proof.Csc

variable {F : FTy → Type} [FloatOps F]
local notation "𝕄" => MT nD τ sig (HIx 2) (Elt F) ℕ UU ℕ

/-- The whole of a block. -/
abbrev blockRect : Rect S1024x1024 := Rect.unit (s := S1024x1024) ![0, 0] S1024x1024.size inb_S1024x1024_S1024x1024_0_0

/-- What a body leaves in the block it writes, from the block it reads. -/
def flip (x : Vec F S1024x1024 .f32) : Vec F S1024x1024 .f32 := View.canon [⟨blockRect, k2_pay1 (View.ld x blockRect)⟩]

theorem flip_cover (p : Vec F S1024x1024 .f32) (y : S1024x1024.Idx) : ∃ pc ∈ ([⟨blockRect, p⟩] : List (View.Piece (Elt F) S1024x1024 .f32)), y ∈ pc.1.set :=
  View.cover_of_tiled [⟨blockRect, p⟩] S1024x1024.size (by rfl) y

/-- The pairs a wait of the TensorCore may have recorded by then. -/
def low (c : Dev nD) : Set (SemLoc sig × HIx 2) := {p | (K (F := F)).lev ((c : Thread nD τ), p.1) p.2 ≤ 16}

variable (V : Dev nD → Valuation τ sig (Elt F))

/-! ## The first transposition -/

/-- The block of window `w` at point `t`, as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

set_option maxHeartbeats 1000000 in
/-- The body reads one block and leaves the other at its transposition. -/
theorem body_run2 (c : Dev nD) (i : grid2.Coords) (a : Memref sig .tc .vmem S1024x1024 .f32) (ha : a.IsWhole) (b : Memref sig .tc .vmem S1024x1024 .f32) (hb : b.IsWhole)
    (x : Vec F S1024x1024 .f32) (Q : PUnit → sProp 𝕄) :
    iprop(owns (c : Thread nD τ) a fullShare x ∗ (∃ y, owns (c : Thread nD τ) b fullShare y)
        ∗ (iprop(owns (c : Thread nD τ) a fullShare x ∗ owns (c : Thread nD τ) b fullShare (flip x)) -∗ Q ⟨⟩))
      ⊢ wp frame (wpE (defs₀ (F := F)) Variants.none c none) Set.univ (cc2__transpose_body i a ha b hb) Q := by
  simp only [cc2__transpose_body_eq_skeleton]; unfold cc2__transpose_body_skel
  unfold owns
  iintro ⟨⟨%f, %hf, Ha⟩, ⟨%y, %g, -, Hb⟩, Hk⟩
  subst hf
  sl_exec
  sl_step
  iapply Hk
  isplitl [Ha]
  · iexists f
    isplitr; · ipureintro; rfl
    iexact Ha
  iexists _
  isplitr
  swap; · iexact Hb
  ipureintro
  exact View.read_writes_eq_canon _ _ _ (flip_cover _)

/-- The pipeline's proof data: the arrays as found, the block read left in place, the block written at its transposition. -/
def dat2 (c : Dev nD) : Dat τ (Elt F) (HIx 2) ℕ UU ℕ cfg2 c where
  A w := V c (Proc.devRef .tc (Pipeline.arrRef spec2 w))
  after w t := match w with
    | ⟨0, _⟩ => blk2 V c 0 t
    | ⟨1, _⟩ => flip (blk2 V c 0 t)
  Φ _ := iprop(Pipeline.scopedRest spec2 c ∗ ∃ r, prngReg c r)
  q _ := fullShare
  owed _ := 0
  recorded _ := low (F := F) c

theorem dat2_A (c : Dev nD) (w : Fin cfg2.W) : (dat2 V c).A w = V c (Proc.devRef .tc (Pipeline.arrRef spec2 w)) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = flip (blk2 V c 0 t) := by dsimp only [dat2]

/-- The block read is in its buffer when the body runs. -/
theorem dat2_before (c : Dev nD) (t : Fin cfg2.N) (e) : (dat2 V c).before 0 t e = blk2 V c 0 t :=
  ((dat2 V c).before_in_eq_fetched 0 rfl (fun _ => rfl) (fun _ _ _ => rfl) (fun t => by rw [dat2_after0]; unfold Dat.blockOf blk2; rw [dat2_A]) t e).trans
    (by unfold Dat.fetched Dat.blockOf blk2; rw [dat2_A]; rfl)

theorem row2 (t : Fin cfg2.N) : defs₀ (F := F) .tc cfg2.body (cfg2.bodyArgs t (cfg2.slots t)) = bodyAt2 t := rfl

theorem triple_2 (c : Dev nD) (t : Fin cfg2.N) :
    iprop((dat2 V c).Φ t.castSucc ∗ (dat2 V c).owesAt none t.castSucc ∗ (∃ e, owns (c : Thread nD τ) (st2_0 t) fullShare ((dat2 V c).before 0 t e))
        ∗ (∃ e, owns (c : Thread nD τ) (st2_1 t) fullShare ((dat2 V c).before 1 t e)))
      ⊢ wp frame (wpE (defs₀ (F := F)) Variants.none c none) Set.univ (bodyAt2 t) (fun _ =>
        (iprop((dat2 V c).Φ t.succ ∗ (dat2 V c).owesAt none t.succ ∗ owns (c : Thread nD τ) (st2_0 t) fullShare ((dat2 V c).after 0 t)
          ∗ owns (c : Thread nD τ) (st2_1 t) fullShare ((dat2 V c).after 1 t)) : sProp 𝕄)) := by
  unfold bodyAt2
  simp only [dat2_before]
  rw [show (dat2 V c).Φ t.succ = (dat2 V c).Φ t.castSucc from rfl, show (dat2 V c).owesAt none t.succ = (dat2 V c).owesAt none t.castSucc from rfl, dat2_after0, dat2_after1]
  iintro ⟨HΦ, Ho, ⟨%e0, H0⟩, ⟨%e1, H1⟩⟩
  iapply (body_run2 c (grid2.coords t) _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0] <;> iassumption

/-- The body meets the pipeline's obligation at every point. -/
theorem obl2 (c : Dev nD) : BodyObligation (dat2 (F := F) V c) (defs₀ (F := F)) Variants.none none Set.univ := fun t => by
  rw [bigSep_W2, bigSep_W2, row2]
  exact triple_restated (triple_2 V c t) rfl .rfl fun _ => .rfl

/-! ## The second transposition -/

/-- The block of window `w` at point `t`, as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

set_option maxHeartbeats 1000000 in
/-- The body reads one block and leaves the other at its transposition. -/
theorem body_run3 (c : Dev nD) (i : grid3.Coords) (a : Memref sig .tc .vmem S1024x1024 .f32) (ha : a.IsWhole) (b : Memref sig .tc .vmem S1024x1024 .f32) (hb : b.IsWhole)
    (x : Vec F S1024x1024 .f32) (Q : PUnit → sProp 𝕄) :
    iprop(owns (c : Thread nD τ) a fullShare x ∗ (∃ y, owns (c : Thread nD τ) b fullShare y)
        ∗ (iprop(owns (c : Thread nD τ) a fullShare x ∗ owns (c : Thread nD τ) b fullShare (flip x)) -∗ Q ⟨⟩))
      ⊢ wp frame (wpE (defs₀ (F := F)) Variants.none c none) Set.univ (cc3__transpose_body_inplace i a ha (Memref.whole main_v5) (Memref.isWhole_whole _) b hb) Q := by
  simp only [cc3__transpose_body_inplace_eq_skeleton]; unfold cc3__transpose_body_inplace_skel
  unfold owns
  iintro ⟨⟨%f, %hf, Ha⟩, ⟨%y, %g, -, Hb⟩, Hk⟩
  subst hf
  sl_exec
  sl_step
  iapply Hk
  isplitl [Ha]
  · iexists f
    isplitr; · ipureintro; rfl
    iexact Ha
  iexists _
  isplitr
  swap; · iexact Hb
  ipureintro
  exact View.read_writes_eq_canon _ _ _ (flip_cover _)

/-- The pipeline's proof data: the arrays as found, the block read left in place, the block written at its transposition. -/
def dat3 (c : Dev nD) : Dat τ (Elt F) (HIx 2) ℕ UU ℕ cfg3 c where
  A w := V c (Proc.devRef .tc (Pipeline.arrRef spec3 w))
  after w t := match w with
    | ⟨0, _⟩ => blk3 V c 0 t
    | ⟨1, _⟩ => flip (blk3 V c 0 t)
  Φ _ := iprop(Pipeline.scopedRest spec3 c ∗ ∃ r, prngReg c r)
  q _ := fullShare
  owed _ := 0
  recorded _ := low (F := F) c

theorem dat3_A (c : Dev nD) (w : Fin cfg3.W) : (dat3 V c).A w = V c (Proc.devRef .tc (Pipeline.arrRef spec3 w)) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = flip (blk3 V c 0 t) := by dsimp only [dat3]

/-- The block read is in its buffer when the body runs. -/
theorem dat3_before (c : Dev nD) (t : Fin cfg3.N) (e) : (dat3 V c).before 0 t e = blk3 V c 0 t :=
  ((dat3 V c).before_in_eq_fetched 0 rfl (fun _ => rfl) (fun _ _ _ => rfl) (fun t => by rw [dat3_after0]; unfold Dat.blockOf blk3; rw [dat3_A]) t e).trans
    (by unfold Dat.fetched Dat.blockOf blk3; rw [dat3_A]; rfl)

theorem row3 (t : Fin cfg3.N) : defs₀ (F := F) .tc cfg3.body (cfg3.bodyArgs t (cfg3.slots t)) = bodyAt3 t := rfl

theorem triple_3 (c : Dev nD) (t : Fin cfg3.N) :
    iprop((dat3 V c).Φ t.castSucc ∗ (dat3 V c).owesAt none t.castSucc ∗ (∃ e, owns (c : Thread nD τ) (st3_0 t) fullShare ((dat3 V c).before 0 t e))
        ∗ (∃ e, owns (c : Thread nD τ) (st3_1 t) fullShare ((dat3 V c).before 1 t e)))
      ⊢ wp frame (wpE (defs₀ (F := F)) Variants.none c none) Set.univ (bodyAt3 t) (fun _ =>
        (iprop((dat3 V c).Φ t.succ ∗ (dat3 V c).owesAt none t.succ ∗ owns (c : Thread nD τ) (st3_0 t) fullShare ((dat3 V c).after 0 t)
          ∗ owns (c : Thread nD τ) (st3_1 t) fullShare ((dat3 V c).after 1 t)) : sProp 𝕄)) := by
  unfold bodyAt3
  simp only [dat3_before]
  rw [show (dat3 V c).Φ t.succ = (dat3 V c).Φ t.castSucc from rfl, show (dat3 V c).owesAt none t.succ = (dat3 V c).owesAt none t.castSucc from rfl, dat3_after0, dat3_after1]
  iintro ⟨HΦ, Ho, ⟨%e0, H0⟩, ⟨%e1, H1⟩⟩
  iapply (body_run3 c (grid3.coords t) _ _ _ _ (blk3 V c 0 t) _)
  isplitl [H0]; · iexact H0
  isplitl [H1]; · iexists _; iexact H1
  iintro ⟨H0, H1⟩
  isplitl [HΦ]; · iexact HΦ
  isplitl [Ho]; · iexact Ho
  isplitl [H0] <;> iassumption

/-- The body meets the pipeline's obligation at every point. -/
theorem obl3 (c : Dev nD) : BodyObligation (dat3 (F := F) V c) (defs₀ (F := F)) Variants.none none Set.univ := fun t => by
  rw [bigSep_W3, bigSep_W3, row3]
  exact triple_restated (triple_3 V c t) rfl .rfl fun _ => .rfl

end Cert.KernelIdeal.Csc
end
-- ==== Proof.RegionIdeal.lean ====
/-
  A transposition's region on the TensorCore: from the arrays at some contents to the arrays at what the pipeline leaves.
-/
module

public import proofs.«01_k».proof.Proof.TransIdeal

@[expose] public section

noncomputable section

namespace Cert.KernelIdeal.Csc

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Proof.Csc

variable {F : FTy → Type} [FloatOps F]
local notation "𝕄" => MT nD τ sig (HIx 2) (Elt F) ℕ UU ℕ

/-- No pipeline has a prefetched table. -/
abbrev adm : (p : Fin 2) → (pcfgs (F := F) p).Adm := fun p => (cfgs p).toPCfg_adm

variable (V : Dev nD → Valuation τ sig (Elt F))

/-- Both pipelines' proof data, at one entry valuation. -/
def dats : (p : Fin 2) → (c : Dev nD) → Dat τ (Elt F) (HIx 2) ℕ UU ℕ (Pipeline.pin (pcfgs (F := F)) adm p) c
  | ⟨0, _⟩ => fun c => dat2 V c
  | ⟨1, _⟩ => fun c => dat3 V c

/-- The arrays when the region of pipeline `p` is left. -/
def leave (p : Fin 2) (c : Dev nD) : Valuation τ sig (Elt F) :=
  Pipeline.withArrays (Pipeline.pin (pcfgs (F := F)) adm p).spec c (V c) fun w => (dats V p c).arrAt w (Pipeline.pin (pcfgs (F := F)) adm p).N

/-- The TensorCore owing nothing, its recorded waits low. -/
abbrev Quiet (c : Dev nD) : sProp 𝕄 :=
  iprop(∃ W, ⌜(K (F := F)).WBelow (c : Thread nD τ) W 16⌝ ∗ owes (c : Thread nD τ) (0 : CellTallies nD τ sig (HIx 2)) W)

/-- What enters a region and leaves it, at a valuation of the arrays. -/
abbrev Held (c : Dev nD) (W : Valuation τ sig (Elt F)) : sProp 𝕄 :=
  iprop(StableHlo.held (c : Thread nD τ) (Pipeline.ucRefs τ sig) W ∗ (∃ r, prngReg c r) ∗ Quiet c)

theorem lev_none (g : GSem nD τ sig) : (K (F := F)).lev g none = 0 := rfl

set_option backward.isDefEq.respectTransparency.types false in
/-- The region of a pipeline whose proof data hold its arrays whole, keep the scoped storage beside and owe nothing. -/
def region (p : Fin 2) (launch : Pipeline.LaunchFacts (nD := nD) (τ := τ) cfgs p)
    (hbody : ∀ c, BodyObligation (dats (F := F) V p c) (defs₀ (F := F)) Variants.none none Set.univ)
    (hq : ∀ c w, (dats V p c).q w = fullShare) (howed : ∀ c t, (dats V p c).owed t = 0) (hrec : ∀ c t, (dats V p c).recorded t = low (F := F) c)
    (hΦ : ∀ c t, (dats V p c).Φ t = iprop(Pipeline.scopedRest (Pipeline.pin (pcfgs (F := F)) adm p).spec c ∗ ∃ r, prngReg c r))
    (hA : ∀ c w, (dats V p c).A w = V c (Proc.devRef .tc (Pipeline.arrRef (Pipeline.pin (pcfgs (F := F)) adm p).spec w))) :
    Pipeline.RegionSeg (pcfgs (F := F)) adm (dats V) (none : HIx 2) (defs₀ (F := F)) 𝒱₀ (K (F := F)).L (K (F := F)).lev p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ (K (F := F)).L (K (F := F)).lev p howed
  pre c := Held c (V c)
  post c := Held c (leave V p c)
  X c := iprop(∃ r, prngReg c r)
  Y c := iprop(∃ r, prngReg c r)
  Z c := Pipeline.unscopedRest (Ix := HIx 2) (Name := ℕ) (U := UU) (Lvl := ℕ) (Pipeline.pin (pcfgs (F := F)) adm p).spec c fun b => V c (Proc.devRef .tc b)
  hentry c := by
    rw [Pipeline.ownSems0_none]
    have hsplit := Pipeline.arrays_of_unscopedBufs (p := p) (pcfgs (F := F)) adm (dats V) launch.win launch.arr_whole c
      ((dats V p c).share_full fun w => hq c w) (fun b => V c (Proc.devRef .tc b)) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, %hW, HO⟩
      iexists W
      isplitr
      · ipureintro
        intro x hx
        refine Or.inl ?_
        rw [hrec c 0]
        exact hW x hx
      iexact HO
    isplitl [Hp]; · iexact Hp
    iexact Hrest
  hin c := by
    rw [hΦ c 0]
    iintro ⟨Hp, -, Hr⟩
    isplitl [Hr]; · iexact Hr
    iexact Hp
  hout c := by
    rw [Pipeline.ownSems0_none, hΦ c (Fin.last _)]
    iintro ⟨Hr, Hp⟩
    isplitl [Hp]; · iexact Hp
    isplitr; · iempintro
    iexact Hr
  hexit c := by
    have hjoin := Pipeline.unscopedBufs_of_arrays (p := p) (pcfgs (F := F)) adm (Ix := HIx 2) (Name := ℕ) (U := UU) (Lvl := ℕ)
      launch.win launch.arr_whole c (dats V) ((dats V p c).share_full fun w => hq c w)
      (fun b => V c (Proc.devRef .tc b)) (fun b => leave V p c (Proc.devRef .tc b)) ((dats V p c).arrAt · (Pipeline.pin (pcfgs (F := F)) adm p).N)
      (fun w => by unfold leave; exact (Pipeline.withArrays_arr (Pipeline.pin (pcfgs (F := F)) adm p).spec launch.win.arr_inj c (V c) (fun w => (dats V p c).arrAt w (Pipeline.pin (pcfgs (F := F)) adm p).N) w).symm)
      (fun b hb => by
        unfold leave
        exact Pipeline.withArrays_of_ne (Pipeline.pin (pcfgs (F := F)) adm p).spec c (V c) (fun w => (dats V p c).arrAt w (Pipeline.pin (pcfgs (F := F)) adm p).N) b fun w e => hb (Finset.mem_image.mpr ⟨w, Finset.mem_univ _, e⟩))
    rw [Pipeline.unscopedBufs_held c (leave V p c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, %hW, HO⟩
    iexists W
    isplitr
    · ipureintro
      intro x hx
      rcases hW hx with h | ⟨w, s, rfl⟩
      · rw [hrec c] at h; exact h
      · rw [lev_none]; omega
    iexact HO

/-- The two regions. -/
def region0 : Pipeline.RegionSeg (pcfgs (F := F)) adm (dats V) (none : HIx 2) (defs₀ (F := F)) 𝒱₀ (K (F := F)).L (K (F := F)).lev 0 :=
  region V 0 launch2 (fun c => obl2 V c) (fun _ _ => rfl) (fun _ _ => rfl) (fun _ _ => rfl) (fun _ _ => rfl) (fun c w => dat2_A V c w)
def region1 : Pipeline.RegionSeg (pcfgs (F := F)) adm (dats V) (none : HIx 2) (defs₀ (F := F)) 𝒱₀ (K (F := F)).L (K (F := F)).lev 1 :=
  region V 1 launch3 (fun c => obl3 V c) (fun _ _ => rfl) (fun _ _ => rfl) (fun _ _ => rfl) (fun _ _ => rfl) (fun c w => dat3_A V c w)

end Cert.KernelIdeal.Csc
end
-- ==== Proof.CallsIdeal.lean ====
/-
  A SparseCore call as a step of `main`: the TensorCore's arrays before it, and after it with the call's result at its value.
-/
module

public import proofs.«01_k».proof.Proof.RowsIdeal
public import proofs.«01_k».proof.Proof.RegionIdeal

@[expose] public section

noncomputable section

namespace Cert.KernelIdeal.Csc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Csc

variable {F : FTy → Type} [FloatOps F]
local notation "𝕄" => MT nD τ sig (HIx 2) (Elt F) ℕ UU ℕ

/-- A reference of the TensorCore as a buffer of the device. -/
abbrev ref (b : Ref sig .tc) : DevRef τ sig := Proc.devRef (τ := τ) .tc b

theorem ref_inj {a b : Ref sig .tc} (h : a ≠ b) : ref a ≠ ref b := StableHlo.devRef_ne_of_ne h
theorem ref_mem (b : Ref sig .tc) (h : (ref b).isScoped = false) : ref b ∈ Pipeline.ucRefs τ sig :=
  Finset.mem_filter.mpr ⟨StableHlo.devRef_mem_tcRefs b, by rw [h]; decide⟩

/-! ## What a call reads and writes, at a valuation of the arrays -/

/-- The four arrays the calls read. -/
def inp (W : Valuation τ sig (Elt F)) : Inp F := ⟨W (ref main_v0), W (ref main_v2), W (ref main_arg1), W (ref main_arg2)⟩

/-- A call's result. -/
def outRef : Fin 2 → Ref sig .tc
  | 0 => main_v3
  | 1 => main_v4

/-- The arrays with a call's result at `X`. -/
def setOut (q : Fin 2) (W : Valuation τ sig (Elt F)) (X : SO.Idx → Elt F .f32) : Valuation τ sig (Elt F) :=
  match q with
  | 0 => Function.update W (ref main_v3) X
  | 1 => Function.update W (ref main_v4) X

theorem setOut_ne (q : Fin 2) (W : Valuation τ sig (Elt F)) (X : SO.Idx → Elt F .f32) {b : DevRef τ sig} (h : b ≠ ref (outRef q)) : setOut q W X b = W b := by
  match q with
  | 0 => exact Function.update_of_ne h _ _
  | 1 => exact Function.update_of_ne h _ _

/-- A call's result, at a valuation. -/
def getOut (q : Fin 2) (W : Valuation τ sig (Elt F)) : SO.Idx → Elt F .f32 :=
  match q with
  | 0 => W (ref main_v3)
  | 1 => W (ref main_v4)

theorem getOut_setOut (q : Fin 2) (W : Valuation τ sig (Elt F)) (X : SO.Idx → Elt F .f32) : getOut q (setOut q W X) = X := by
  match q with
  | 0 => exact Function.update_self (ref main_v3) X W
  | 1 => exact Function.update_self (ref main_v4) X W

theorem inp_setOut (q : Fin 2) (W : Valuation τ sig (Elt F)) (X : SO.Idx → Elt F .f32) : inp (setOut q W X) = inp W := by
  unfold inp
  match q with
  | 0 => rw [setOut_ne 0 W X (ref_inj (by decide)), setOut_ne 0 W X (ref_inj (by decide)), setOut_ne 0 W X (ref_inj (by decide)), setOut_ne 0 W X (ref_inj (by decide))]
  | 1 => rw [setOut_ne 1 W X (ref_inj (by decide)), setOut_ne 1 W X (ref_inj (by decide)), setOut_ne 1 W X (ref_inj (by decide)), setOut_ne 1 W X (ref_inj (by decide))]

/-- The arrays a call touches. -/
abbrev touched (q : Fin 2) : List (Ref sig .tc) := [main_v0, main_v2, main_arg1, main_arg2, outRef q]

theorem touched_nodup (q : Fin 2) : (touched q).Nodup := by revert q; decide
theorem touched_unscoped (q : Fin 2) : ∀ b ∈ touched q, (ref b).isScoped = false := by revert q; decide

/-- The arrays a call leaves alone. -/
def others (d : Dev nD) (q : Fin 2) (W : Valuation τ sig (Elt F)) : sProp 𝕄 :=
  takeOff (fun b => ((d, b) : Loc nD τ sig) ↦{fullShare} W b) [] ((((((Pipeline.ucRefs τ sig).erase (ref main_v0)).erase (ref main_v2)).erase (ref main_arg1)).erase (ref main_arg2)).erase (ref (outRef q)))

theorem others_setOut (d : Dev nD) (q : Fin 2) (W : Valuation τ sig (Elt F)) (X : SO.Idx → Elt F .f32) : (others d q (setOut q W X) : sProp 𝕄) = others d q W := by
  unfold others takeOff
  exact bigSep_congr fun b hb => by rw [setOut_ne q W X (Finset.ne_of_mem_erase hb)]

/-- The arrays are those a call reads, its result and the others. -/
theorem held_call (d : Dev nD) (q : Fin 2) (W : Valuation τ sig (Elt F)) :
    (StableHlo.held (SparseCore.T d : Thread nD τ) (Pipeline.ucRefs τ sig) W : sProp 𝕄)
      = iprop(Reads d (inp W) fullShare ∗ outPts d q (getOut q W) ∗ others d q W) := by
  have h : (StableHlo.held (SparseCore.T d : Thread nD τ) (Pipeline.ucRefs τ sig) W : sProp 𝕄)
      = takeOff (fun b => ((d, b) : Loc nD τ sig) ↦{fullShare} W b) ((touched q).map ref) (Pipeline.ucRefs τ sig) :=
    bigSep_takeOff (fun b => ((d, b) : Loc nD τ sig) ↦{fullShare} W b) _ _ ((touched_nodup q).map (Proc.devRef_injective (.tc : Proc τ))) fun b hb => by
      obtain ⟨a, ha, rfl⟩ := List.mem_map.mp hb
      exact ref_mem a (touched_unscoped q a ha)
  rw [h]
  have e : (iprop(((d, ref (outRef q)) : Loc nD τ sig) ↦{fullShare} W (ref (outRef q))) : sProp 𝕄) = outPts d q (getOut q W) := by
    match q with
    | 0 => rfl
    | 1 => rfl
  rw [← e]
  refine eq_of_both ?_ ?_
  · show iprop((((d, ref main_v0) : Loc nD τ sig) ↦{fullShare} W (ref main_v0)) ∗ (((d, ref main_v2) : Loc nD τ sig) ↦{fullShare} W (ref main_v2))
      ∗ (((d, ref main_arg1) : Loc nD τ sig) ↦{fullShare} W (ref main_arg1)) ∗ (((d, ref main_arg2) : Loc nD τ sig) ↦{fullShare} W (ref main_arg2))
      ∗ (((d, ref (outRef q)) : Loc nD τ sig) ↦{fullShare} W (ref (outRef q))) ∗ others d q W) ⊢ _
    unfold Reads
    iintro ⟨Ha, Hb, Hc, Hd, He, Hf⟩
    isplitl [Ha Hb Hc Hd]
    · isplitl [Ha]; · iexact Ha
      isplitl [Hb]; · iexact Hb
      isplitl [Hc]; · iexact Hc
      iexact Hd
    isplitl [He]; · iexact He
    iexact Hf
  · show _ ⊢ iprop((((d, ref main_v0) : Loc nD τ sig) ↦{fullShare} W (ref main_v0)) ∗ (((d, ref main_v2) : Loc nD τ sig) ↦{fullShare} W (ref main_v2))
      ∗ (((d, ref main_arg1) : Loc nD τ sig) ↦{fullShare} W (ref main_arg1)) ∗ (((d, ref main_arg2) : Loc nD τ sig) ↦{fullShare} W (ref main_arg2))
      ∗ (((d, ref (outRef q)) : Loc nD τ sig) ↦{fullShare} W (ref (outRef q))) ∗ others d q W)
    unfold Reads
    iintro ⟨⟨Ha, Hb, Hc, Hd⟩, He, Hf⟩
    isplitl [Ha]; · iexact Ha
    isplitl [Hb]; · iexact Hb
    isplitl [Hc]; · iexact Hc
    isplitl [Hd]; · iexact Hd
    isplitl [He]; · iexact He
    iexact Hf

/-! ## The two SparseCores' shares -/

theorem univ_two : (Finset.univ : Finset (Fin 2)) = {0, 1} := by decide

theorem halves {ℓ : Loc nD τ sig} (f : Buf (Elt F) ℓ) :
    (ℓ ↦{fullShare} f : sProp 𝕄) = iprop((ℓ ↦{half (0 : Fin 2).val} f) ∗ (ℓ ↦{half (1 : Fin 2).val} f)) := by
  refine eq_of_both ?_ ?_
  · iintro ⟨H₁, H₂⟩
    isplitl [H₁]; · iexact H₁
    iexact H₂
  · show iprop((ℓ ↦{fullShare.left} f) ∗ (ℓ ↦{fullShare.right} f)) ⊢ _
    iintro ⟨H₁, H₂⟩
    icombine H₁ H₂ as H
    iexact H

theorem reads_halves (d : Dev nD) (J : Inp F) : (Reads d J fullShare : sProp 𝕄) = bigSep Finset.univ fun c : Fin 2 => Reads d J (half c.val) := by
  rw [univ_two, SparseCore.bigSep_insert' (by decide), bigSep_singleton]
  unfold Reads
  rw [halves (ℓ := (SparseCore.T d : Thread nD τ).loc main_v0) J.C, halves (ℓ := (SparseCore.T d : Thread nD τ).loc main_v2) J.C',
    halves (ℓ := (SparseCore.T d : Thread nD τ).loc main_arg1) J.R, halves (ℓ := (SparseCore.T d : Thread nD τ).loc main_arg2) J.V]
  refine eq_of_both ?_ ?_
  · iintro ⟨⟨Ha, Hb⟩, ⟨Hc, Hd⟩, ⟨He, Hf⟩, Hg, Hh⟩
    isplitl [Ha Hc He Hg]
    · isplitl [Ha]; · iexact Ha
      isplitl [Hc]; · iexact Hc
      isplitl [He] <;> iassumption
    isplitl [Hb]; · iexact Hb
    isplitl [Hd]; · iexact Hd
    isplitl [Hf] <;> iassumption
  · iintro ⟨⟨Ha, Hc, He, Hg⟩, Hb, Hd, Hf, Hh⟩
    isplitl [Ha Hb]; · isplitl [Ha] <;> iassumption
    isplitl [Hc Hd]; · isplitl [Hc] <;> iassumption
    isplitl [He Hf]; · isplitl [He] <;> iassumption
    isplitl [Hg] <;> iassumption

variable (I : Dev nD → Inp F)

theorem st_eq (d : Dev nD) (q : Fin 2) : (bigSep Finset.univ fun c : Fin ((K (F := F)).nCore q) => (P I).st q d c)
    = (iprop(Reads d (I d) fullShare ∗ bigSep Finset.univ fun c : Fin 2 => bigSep Finset.univ fun s : Fin 16 => RowsAny d q c s) : sProp 𝕄) := by
  rw [reads_halves, ← bigSep_sep']
  match q with
  | 0 => rfl
  | 1 => rfl
theorem dn_eq (d : Dev nD) (q : Fin 2) : (bigSep Finset.univ fun c : Fin ((K (F := F)).nCore q) => (P I).dn q d c)
    = (iprop(Reads d (I d) fullShare ∗ bigSep Finset.univ fun c : Fin 2 => bigSep Finset.univ fun s : Fin 16 => RowsDone d (I d) q c s) : sProp 𝕄) := by
  rw [reads_halves, ← bigSep_sep']
  match q with
  | 0 => rfl
  | 1 => rfl

/-- A call of `main`: the arrays before it, and after it with the call's result at `outT`. -/
theorem wp_call [∀ e, Nonempty (Elt F e)] (κ : GSem nD τ sig → ℕ) (d : Dev nD) (q : Fin 2) (W : Valuation τ sig (Elt F)) (hI : inp W = I d) {Φ : PUnit → sProp 𝕄} :
    (iprop((K (F := F)).ctx EH (P I) κ ∗ (K (F := F)).tcSt EH d q.val ∗ StableHlo.held (SparseCore.T d : Thread nD τ) (Pipeline.ucRefs τ sig) W
        ∗ (((K (F := F)).tcSt EH d (q.val + 1) ∗ StableHlo.held (SparseCore.T d : Thread nD τ) (Pipeline.ucRefs τ sig) (setOut q W (outT (I d) q))) -∗ Φ ⟨⟩)) : sProp 𝕄)
      ⊢ wp frame (wpE ((K (F := F)).defs (D (F := F))) 𝒱 (SparseCore.T d) none) Set.univ ((K (F := F)).run d q) Φ := by
  rw [held_call d q W, held_call d q (setOut q W (outT (I d) q)), inp_setOut, getOut_setOut, others_setOut, hI]
  iintro ⟨#Hctx, Hst, ⟨HR, Ho, Hx⟩, Hk⟩
  iapply ((K (F := F)).wp_run (D (F := F)) 𝒱 (EH := EH) (P := P I) κ d q) $$ [Hst HR Ho Hx Hk]
  isplitr; · iexact Hctx
  isplitl [Hst]; · iexact Hst
  isplitl [HR Ho]
  · rw [st_eq]
    isplitl [HR]; · iexact HR
    iapply (rows_split d q _) $$ Ho
  iintro ⟨Hst, Hdn⟩
  ihave Hdn' := (Entails.of_eq (dn_eq I d q)) $$ Hdn
  icases Hdn' with ⟨HR, Ho⟩
  iapply Hk
  isplitl [Hst]; · iexact Hst
  isplitl [HR]; · iexact HR
  isplitl [Ho]; · iapply (rows_join d (I d) q) $$ Ho
  iexact Hx

end Cert.KernelIdeal.Csc
end
-- ==== Proof.MainIdeal.lean ====
/-
  `main` on the TensorCore: the host operations, the two SparseCore calls and the two transpositions, from the arrays at the launch's
  contents to the arrays at `final`.
-/
module

public import proofs.«01_k».proof.Proof.CallsIdeal

@[expose] public section

noncomputable section

namespace Cert.KernelIdeal.Csc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Csc

variable {F : FTy → Type} [FloatOps F]
local notation "𝕄" => MT nD τ sig (HIx 2) (Elt F) ℕ UU ℕ

/-! ## The contents of the arrays along `main` -/

/-- The host's operations before the calls: the two column arrays padded. -/
def hostOps : List (HloOp τ sig (Elt F)) :=
  [StableHlo.nullary main_c (constantI S_ 32 0#32),
   StableHlo.TRef.unary (.of main_c) main_call0.v0 id,
   StableHlo.TRef.binary (.of main_arg0 : StableHlo.TRef sig ⟨S4097, .i32⟩) main_call0.v0 main_call0.v1 (fun x v => pad S4256 ![0] ![159] ![0] x v pads_S4097_S4256_01590 h_S_),
   StableHlo.unary main_arg0 main_v1 ((extractStridedSlice S4096 ![1] · slices_S4097_S4096_1) : (⟨S4097, .i32⟩ : BufTy).Contents (Elt F) → (⟨S4096, .i32⟩ : BufTy).Contents (Elt F)),
   StableHlo.nullary main_c_0 (constantI S_ 32 0#32),
   StableHlo.TRef.unary (.of main_c_0) main_call1.v0 id,
   StableHlo.TRef.binary (.of main_v1 : StableHlo.TRef sig ⟨S4096, .i32⟩) main_call1.v0 main_call1.v1 (fun x v => pad S4256 ![0] ![160] ![0] x v pads_S4096_S4256_01600 h_S_)]

/-- The copy between the transpositions. -/
def copyOps : List (HloOp τ sig (Elt F)) := [StableHlo.unary main_v5 main_v6 id]

/-- What follows the host's operations, and what follows the copy. -/
def tail2 : Prog (TpuEff nD τ sig (Elt F) (SparseCore.Sig (Pipeline.Sig Λ₀ (Fin 2) fun p => (pcfgs (F := F) p).Adm) 2) .tc) PUnit :=
  Prog.lift (.customCall (SparseCore.inner (Pipeline.entry 1)) ())
def tailC : Prog (TpuEff nD τ sig (Elt F) (SparseCore.Sig (Pipeline.Sig Λ₀ (Fin 2) fun p => (pcfgs (F := F) p).Adm) 2) .tc) PUnit :=
  StableHlo.seq copyOps >>= fun _ => tail2
def tail1 (d : Dev nD) : Prog (TpuEff nD τ sig (Elt F) (SparseCore.Sig (Pipeline.Sig Λ₀ (Fin 2) fun p => (pcfgs (F := F) p).Adm) 2) .tc) PUnit := do
  sc.run d 0
  sc.run d 1
  Prog.lift (.customCall (SparseCore.inner (Pipeline.entry 0)) ())
  tailC

theorem main_eq (d : Dev nD) : main (F := F) d = (StableHlo.seq hostOps >>= fun _ => tail1 d) := rfl

theorem hostOps_sub : ∀ op ∈ (hostOps (F := F)), op.bufs ⊆ Pipeline.ucRefs τ sig := by
  refine fun op hop => Pipeline.sub_ucRefs op ((List.forall_iff_forall_mem.mp (?_ : hostOps.Forall fun op => op.bufs ⊆ StableHlo.tcRefs τ sig)) op hop)
  exact ⟨StableHlo.nullary_bufs_sub .., StableHlo.unary_bufs_sub .., StableHlo.binary_bufs_sub .., StableHlo.unary_bufs_sub .., StableHlo.nullary_bufs_sub ..,
    StableHlo.unary_bufs_sub .., StableHlo.binary_bufs_sub ..⟩
theorem hostOps_fresh : ∀ op ∈ (hostOps (F := F)), op.fresh = ∅ :=
  List.forall_iff_forall_mem.mp (show hostOps.Forall fun op : HloOp τ sig (Elt F) => op.fresh = ∅ from ⟨rfl, rfl, rfl, rfl, rfl, rfl, rfl⟩)
theorem copyOps_sub : ∀ op ∈ (copyOps (F := F)), op.bufs ⊆ Pipeline.ucRefs τ sig := fun op hop => by
  rw [copyOps, List.mem_singleton] at hop; subst hop; exact Pipeline.sub_ucRefs _ (StableHlo.unary_bufs_sub ..)
theorem copyOps_fresh : ∀ op ∈ (copyOps (F := F)), op.fresh = ∅ := fun op hop => by
  rw [copyOps, List.mem_singleton] at hop; subst hop; rfl

variable (W₀ : Dev nD → Valuation τ sig (Elt F))

/-- The arrays once the host has padded; what the calls read then; the arrays after each call, each transposition and the copy. -/
def padded (d : Dev nD) : Valuation τ sig (Elt F) := StableHlo.after hostOps (W₀ d)
def inputs (d : Dev nD) : Inp F := inp (padded W₀ d)
def called0 (d : Dev nD) : Valuation τ sig (Elt F) := setOut 0 (padded W₀ d) (outT (inputs W₀ d) 0)
def called1 (d : Dev nD) : Valuation τ sig (Elt F) := setOut 1 (called0 W₀ d) (outT (inputs W₀ d) 1)
def turned0 (d : Dev nD) : Valuation τ sig (Elt F) := leave (called1 W₀) 0 d
def copied (d : Dev nD) : Valuation τ sig (Elt F) := StableHlo.after copyOps (turned0 W₀ d)
def final (d : Dev nD) : Valuation τ sig (Elt F) := leave (copied W₀) 1 d

theorem inp_called0 (d : Dev nD) : inp (called0 W₀ d) = inputs W₀ d := inp_setOut _ _ _

/-! ## A transposition as a step of `main` -/

/-- The ghost state of a pipeline. -/
def ghost (d : Dev nD) (p : Fin 2) : sProp 𝕄 :=
  iprop(Pipeline.cellsGhost (Pipeline.pin (pcfgs (F := F)) adm) EP p d ∗ Pipeline.toksInit (Pipeline.pin (pcfgs (F := F)) adm) EP p d)

theorem wp_turn [∀ e, Nonempty (Elt F e)] (V : Dev nD → Valuation τ sig (Elt F)) (p : Fin 2)
    (R : Pipeline.RegionSeg (pcfgs (F := F)) adm (dats V) (none : HIx 2) (defs₀ (F := F)) 𝒱₀ (K (F := F)).L (K (F := F)).lev p)
    (hpre : ∀ c, R.pre c = Held c (V c)) (hpost : ∀ c, R.post c = Held c (leave V p c)) (d : Dev nD) {Φ : PUnit → sProp 𝕄} :
    (iprop(((boundary (SparseCore.T d : Thread nD τ) ∗ Held d (leave V p d)) -∗ Φ ⟨⟩) ∗ boundary (SparseCore.T d : Thread nD τ) ∗ Held d (V d)
        ∗ levAts (K (F := F)).L (K (F := F)).lev ∗ ghost d p) : sProp 𝕄)
      ⊢ wp frame (wpE ((K (F := F)).defs (D (F := F))) 𝒱 (SparseCore.T d) none) Set.univ
          (Prog.lift (.customCall (SparseCore.inner (Pipeline.entry p)) ()) : Prog (TpuEff nD τ sig (Elt F) (SparseCore.Sig (Pipeline.Sig Λ₀ (Fin 2) fun p => (pcfgs (F := F) p).Adm) 2) .tc) PUnit) Φ := by
  have key := Pipeline.RegionSeg.wp (pcfgs (F := F)) adm (dats V) (none : HIx 2) cellOf_inj EP (defs₀ (F := F)) 𝒱₀ (K (F := F)).L (K (F := F)).lev R d none (fun _ h => nomatch h)
    (fun _ => .ret ⟨⟩) Φ
  rw [hpre, hpost] at key
  simp only [wp_ret] at key
  refine BIBase.Entails.trans ?_ (key.trans ((K (F := F)).wp_liftProg (D (F := F)) 𝒱 (SparseCore.T d) Set.univ none _ Φ))
  unfold ghost
  iintro ⟨Hk, Hb, Hh, Hl, Hg, Ht⟩
  isplitl [Hk]
  · iintro H
    imodintro
    iapply Hk $$ H
  isplitl [Hb]; · iexact Hb
  isplitl [Hh]; · iexact Hh
  isplitl [Hl]; · iexact Hl
  isplitl [Hg] <;> iassumption

/-! ## The TensorCore's debts once both calls are done -/

/-- After both calls the TensorCore owes nothing, and gets its state back from owing nothing. -/
theorem tcSt_open (d : Dev nD) : ((K (F := F)).tcSt EH d ((1 : Fin 2).val + 1) : sProp 𝕄) ⊢ iprop(Quiet d ∗ (Quiet d -∗ (K (F := F)).tcSt EH d 2)) := by
  show ((K (F := F)).tcSt EH d 2 : sProp 𝕄) ⊢ _
  unfold SparseCore.Cfg.tcSt
  have h0 : (K (F := F)).Otc d 2 = 0 := by
    unfold SparseCore.Cfg.Otc
    exact Finset.sum_eq_zero fun q _ => if_neg (by have := q.isLt; omega)
  rw [h0]
  iintro ⟨HO, Hr⟩
  isplitl [HO]; · iexact HO
  iintro HO
  isplitl [HO]; · iexact HO
  iexact Hr

/-! ## `main` -/

theorem wp_main [∀ e, Nonempty (Elt F e)] (κ : GSem nD τ sig → ℕ) (d : Dev nD) (r : PrngReg) :
    (iprop((K (F := F)).ctx EH (P (inputs W₀)) κ ∗ (K (F := F)).tcSt EH d 0 ∗ boundary (SparseCore.T d : Thread nD τ)
        ∗ StableHlo.held (SparseCore.T d : Thread nD τ) (Pipeline.ucRefs τ sig) (W₀ d) ∗ prngReg d r ∗ ghost d 0 ∗ ghost d 1) : sProp 𝕄)
      ⊢ wp frame (wpE ((K (F := F)).defs (D (F := F))) 𝒱 (SparseCore.T d) none) Set.univ (main d)
          fun _ => iprop((K (F := F)).tcSt EH d 2 ∗ boundary (SparseCore.T d : Thread nD τ)
            ∗ StableHlo.held (SparseCore.T d : Thread nD τ) (Pipeline.ucRefs τ sig) (final W₀ d)) := by
  rw [main_eq]
  iintro ⟨#Hctx, Hst, Hb, Hh, Hp, Hg0, Hg1⟩
  ihave #Hlev := (SparseCore.Cfg.ctx_levAts κ) $$ Hctx
  iapply (StableHlo.wp_seq (𝒱 : Variants) none Set.univ d (Pipeline.ucRefs τ sig) (fun _ => tail1 d) (hostOps (F := F)) hostOps_sub hostOps_fresh (W₀ d)) $$ [Hb Hh]
  · isplitl [Hb] <;> iassumption
  iintro ⟨Hb, Hh⟩
  unfold tail1
  simp only [wp_bind]
  iapply (wp_call (inputs W₀) κ d 0 (padded W₀ d) rfl) $$ [Hst Hh Hb Hp Hg0 Hg1]
  isplitr; · iexact Hctx
  isplitl [Hst]; · iexact Hst
  isplitl [Hh]; · iexact Hh
  iintro ⟨Hst, Hh⟩
  iapply (wp_call (inputs W₀) κ d 1 (called0 W₀ d) (inp_called0 W₀ d)) $$ [Hst Hh Hb Hp Hg0 Hg1]
  isplitr; · iexact Hctx
  isplitl [Hst]; · iexact Hst
  isplitl [Hh]; · iexact Hh
  iintro ⟨Hst, Hh⟩
  ihave Hst' := (tcSt_open d) $$ Hst
  icases Hst' with ⟨HO, Hst⟩
  iapply (wp_turn (called1 W₀) 0 (region0 (called1 W₀)) (fun _ => rfl) (fun _ => rfl) d) $$ [Hst Hh Hb Hp HO Hg0 Hg1]
  isplitl [Hst Hg1]
  · iintro ⟨Hb, Hh, Hp, HO⟩
    unfold tailC
    iapply (StableHlo.wp_seq (𝒱 : Variants) none Set.univ d (Pipeline.ucRefs τ sig) (fun _ => tail2) (copyOps (F := F)) copyOps_sub copyOps_fresh (turned0 W₀ d)) $$ [Hb Hh]
    · isplitl [Hb]; · iexact Hb
      iexact Hh
    iintro ⟨Hb, Hh⟩
    unfold tail2
    iapply (wp_turn (copied W₀) 1 (region1 (copied W₀)) (fun _ => rfl) (fun _ => rfl) d) $$ [Hst Hh Hb Hp HO Hg1]
    isplitl [Hst]
    · iintro ⟨Hb, Hh, Hp, HO⟩
      isplitl [Hst HO]; · iapply Hst $$ HO
      isplitl [Hb]; · iexact Hb
      iexact Hh
    isplitl [Hb]; · iexact Hb
    isplitl [Hh Hp HO]
    · isplitl [Hh]; · iexact Hh
      isplitl [Hp]; · iexact Hp
      iexact HO
    isplitr; · iexact Hlev
    iexact Hg1
  isplitl [Hb]; · iexact Hb
  isplitl [Hh Hp HO]
  · isplitl [Hh]; · iexact Hh
    isplitl [Hp]; · iexists r; iexact Hp
    iexact HO
  isplitr; · iexact Hlev
  iexact Hg0

end Cert.KernelIdeal.Csc
end
-- ==== Proof.TaskIdeal.lean ====
/-
  A tile's program run from what the tile is handed: its read shares, its rows of the result, its scratch buffers and semaphores.
-/
module

public import proofs.«01_k».proof.Proof.SetupIdeal

@[expose] public section

noncomputable section

namespace Cert.KernelIdeal.Csc

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Proof.Csc

variable {F : FTy → Type} [FloatOps F]
local notation "𝕄" => MT nD τ sig (HIx 2) (Elt F) ℕ UU ℕ

section
variable (d : Dev nD) (c : Fin τ.nSC) (s : Fin τ.nSub)
variable (acc0 acc1 : Memref sig .scVector .vmem SA .f32) (rb0 rb1 : Memref sig .scVector .vmem ST .i32) (vb0 vb1 : Memref sig .scVector .vmem ST .f32)
  (bb bsb : Memref sig .scVector .vmem SB .i32) (s0 s1 f0 f1 r0 r1 : DmaSem sig)

/-- A tile's scratch buffers, holding anything, and its semaphores at zero. -/
def Scr : sProp 𝕄 :=
  iprop((∃ x, owns (V d c s) acc0 fullShare x) ∗ (∃ x, owns (V d c s) acc1 fullShare x) ∗ (∃ x, owns (V d c s) rb0 fullShare x) ∗ (∃ x, owns (V d c s) rb1 fullShare x)
    ∗ (∃ x, owns (V d c s) vb0 fullShare x) ∗ (∃ x, owns (V d c s) vb1 fullShare x) ∗ (∃ x, owns (V d c s) bb fullShare x) ∗ (∃ x, owns (V d c s) bsb fullShare x)
    ∗ semVal (V d c s, .dma s0) 0 ∗ semVal (V d c s, .dma s1) 0 ∗ semVal (V d c s, .dma f0) 0 ∗ semVal (V d c s, .dma f1) 0
    ∗ semVal (V d c s, .dma r0) 0 ∗ semVal (V d c s, .dma r1) 0)

variable (q : Fin 2) (hN0 : vb0.view.dmaCredit = rb0.view.dmaCredit) (hN1 : vb1.view.dmaCredit = rb1.view.dmaCredit)

/-- What the tile works with. -/
def kit : Kit nD τ sig (.scVector c s) where
  S0 := strm (Memref.whole main_arg1_scv) (Memref.whole main_arg2_scv) rb0 vb0 s0 hN0
  S1 := strm (Memref.whole main_arg1_scv) (Memref.whole main_arg2_scv) rb1 vb1 s1 hN1
  bb := bb
  bsb := bsb
  io := lanes
  cs := Memref.whole main_v0_scv
  cs' := Memref.whole main_v2_scv
  out := outM q
  acc0 := acc0
  acc1 := acc1
  r0 := r0
  r1 := r1
  f0 := f0
  f1 := f1

theorem wp_kit (I : Inp F) (p : PosShare TreeShare) (hR : ∀ i : SN.Idx, BitVec.toNat (w := 32) (I.R i) < 4096) (hC : ∀ x, InArr (I.C x)) (hC' : ∀ x, InArr (I.C' x))
    {X : Prog (TpuEff nD τ sig (Elt F) Λ₀ (.scVector c s)) PUnit}
    (hX : IsTile (kit c s acc0 acc1 rb0 rb1 vb0 vb1 bb bsb s0 s1 f0 f1 r0 r1 q hN0 hN1) (FloatOps.ofBits .f32 0#32) (colOf q.val c.val s.val) (rowOf c.val s.val) X)
    {O : CellTallies nD τ sig (HIx 2)} {W : Waits sig (HIx 2)} :
    (iprop(MayWaits (V d c s) none O ∗ (Reads d I p ∗ RowsAny d q c s)
        ∗ Scr d c s acc0 acc1 rb0 rb1 vb0 vb1 bb bsb s0 s1 f0 f1 r0 r1 ∗ owes (V d c s) O W) : sProp 𝕄)
      ⊢ wp frame (wpE (defs₀ (F := F)) 𝒱₀ (V d c s) none) Set.univ X (fun _ => iprop((Reads d I p ∗ RowsDone d I q c s)
        ∗ Scr d c s acc0 acc1 rb0 rb1 vb0 vb1 bb bsb s0 s1 f0 f1 r0 r1 ∗ ∃ W', ⌜∀ p ∈ W', p ∈ W ∨ p.2 = none⌝ ∗ owes (V d c s) O W')) := by
  have hb : (rowOf c.val s.val).toNat + 64 ≤ 2048 := by rw [rowOf_toNat]; omega
  have key := wp_tileProg (EC (F := F)) 𝒱₀ (none : Option 𝒱₀.V) (none : HIx 2) (defs := defs₀ (F := F)) (c := V d c s)
    (kit c s acc0 acc1 rb0 rb1 vb0 vb1 bb bsb s0 s1 f0 f1 r0 r1 q hN0 hN1) (q0 := p.left) (q1 := p.right) (q2 := p) (q3 := p)
    (fR0 := I.R) (fV0 := I.V) (fR1 := I.R) (fV1 := I.V) (R := I.R) (V := I.V) rfl rfl rfl rfl hR (z₀ := FloatOps.ofBits .f32 0#32) (κ := .scVector) (hio := iota_S16_d0_w32_scVector) rfl hb
    (fC := I.C) (fC' := I.C') (C := I.C) (C' := I.C') rfl rfl hC hC' (colOf_inb q.val c.val s.val) hX (O := O) (W := W)
  have hs : ∀ {b : Ref sig .scVector} {r : PosShare TreeShare} (f : Buf (Elt F) ((V d c s : Thread nD τ).loc b)),
      ((Memref.whole b).view.loc (V d c s) ↦[(Memref.whole b).view.set]{r} f : sProp 𝕄) = ((V d c s : Thread nD τ).loc b ↦{r} f) := by
    intro b r f; simp only [Memref.view_whole, View.set_whole]
  have hsh : ∀ {ℓ : Loc nD τ sig} (f : Buf (Elt F) ℓ), (ℓ ↦{p} f : sProp 𝕄) = iprop((ℓ ↦{p.left} f) ∗ (ℓ ↦{p.right} f)) := fun f =>
    BI.Entails.antisymm (pointsTo_share (PosShare.mem_left_op_right _)).1 (pointsTo_share (PosShare.mem_left_op_right _)).2
  have hres : (TileRes (kit c s acc0 acc1 rb0 rb1 vb0 vb1 bb bsb s0 s1 f0 f1 r0 r1 q hN0 hN1) (c := V d c s) p.left p.right p p I.R I.V I.R I.V I.C I.C' : sProp 𝕄)
      = iprop(Reads d I p ∗ Scr d c s acc0 acc1 rb0 rb1 vb0 vb1 bb bsb s0 s1 f0 f1 r0 r1) := by
    unfold TileRes Strm.Rest Idle Reads Scr
    rw [hsh (ℓ := (SparseCore.T d : Thread nD τ).loc main_arg1) I.R, hsh (ℓ := (SparseCore.T d : Thread nD τ).loc main_arg2) I.V]
    simp only [kit, strm, Memref.view_whole, View.set_whole]
    refine eq_of_both ?_ ?_
    · iintro ⟨Hb, Hbs, Ha0, Ha1, ⟨Hs0, Hrb0, Hvb0, HR0, HV0⟩, ⟨Hs1, Hrb1, Hvb1, HR1, HV1⟩, Hr0, Hr1, Hf0, Hf1, HC, HC'⟩
      isplitl [HC HC' HR0 HR1 HV0 HV1]
      · isplitl [HC]; · iexact HC
        isplitl [HC']; · iexact HC'
        isplitl [HR0 HR1]; · isplitl [HR0] <;> iassumption
        isplitl [HV0] <;> iassumption
      isplitl [Ha0]; · iexact Ha0
      isplitl [Ha1]; · iexact Ha1
      isplitl [Hrb0]; · iexact Hrb0
      isplitl [Hrb1]; · iexact Hrb1
      isplitl [Hvb0]; · iexact Hvb0
      isplitl [Hvb1]; · iexact Hvb1
      isplitl [Hb]; · iexact Hb
      isplitl [Hbs]; · iexact Hbs
      isplitl [Hs0]; · iexact Hs0
      isplitl [Hs1]; · iexact Hs1
      isplitl [Hf0]; · iexact Hf0
      isplitl [Hf1]; · iexact Hf1
      isplitl [Hr0] <;> iassumption
    · iintro ⟨⟨HC, HC', ⟨HR0, HR1⟩, HV0, HV1⟩, Ha0, Ha1, Hrb0, Hrb1, Hvb0, Hvb1, Hb, Hbs, Hs0, Hs1, Hf0, Hf1, Hr0, Hr1⟩
      isplitl [Hb]; · iexact Hb
      isplitl [Hbs]; · iexact Hbs
      isplitl [Ha0]; · iexact Ha0
      isplitl [Ha1]; · iexact Ha1
      isplitl [Hs0 Hrb0 Hvb0 HR0 HV0]
      · isplitl [Hs0]; · iexact Hs0
        isplitl [Hrb0]; · iexact Hrb0
        isplitl [Hvb0]; · iexact Hvb0
        isplitl [HR0] <;> iassumption
      isplitl [Hs1 Hrb1 Hvb1 HR1 HV1]
      · isplitl [Hs1]; · iexact Hs1
        isplitl [Hrb1]; · iexact Hrb1
        isplitl [Hvb1]; · iexact Hvb1
        isplitl [HR1] <;> iassumption
      isplitl [Hr0]; · iexact Hr0
      isplitl [Hr1]; · iexact Hr1
      isplitl [Hf0]; · iexact Hf0
      isplitl [Hf1]; · iexact Hf1
      isplitl [HC] <;> iassumption
  rw [hres] at key
  refine BIBase.Entails.trans ?_ (key.trans (wp_mono frame _ _ fun _ => ?_))
  · unfold RowsAny Owed
    iintro ⟨HM, ⟨HR, HF⟩, HS, HO⟩
    isplitl [HM]; · iexact HM
    isplitl [HR HS]; · isplitl [HR] <;> iassumption
    isplitl [HF]; · iexact HF
    iexists W
    isplitr; · ipureintro; exact fun p hp => .inl hp
    iexact HO
  · unfold RowsDone Owed slabs
    iintro ⟨⟨HR, HS⟩, HD, HO⟩
    isplitl [HR HD]
    · isplitl [HR]; · iexact HR
      iexact HD
    isplitl [HS]; · iexact HS
    iexact HO

end

/-- What a call asks of its inputs: row numbers of the result, and column boundaries within the entries. -/
structure Ok (J : Inp F) : Prop where
  R : ∀ i : SN.Idx, BitVec.toNat (w := 32) (J.R i) < 4096
  C : ∀ x, InArr (J.C x)
  C' : ∀ x, InArr (J.C' x)

/-- What a program does not touch stays beside it. -/
theorem wp_beside {thr : Thread nD τ} {X : Prog (TpuEff nD τ sig (Elt F) Λ₀ thr.2) PUnit} {A R : sProp 𝕄} {B : PUnit → sProp 𝕄}
    (h : A ⊢ wp frame (wpE (defs₀ (F := F)) 𝒱₀ thr none) Set.univ X B) :
    iprop(A ∗ R) ⊢ wp frame (wpE (defs₀ (F := F)) 𝒱₀ thr none) Set.univ X fun a => iprop(B a ∗ R) :=
  BIBase.Entails.trans (sep_mono_left h) (wp_frame_r frame (wpE (defs₀ (F := F)) 𝒱₀ thr none) Set.univ)

/-- The waits a tile records are its own. -/
theorem obl_post {thr : Thread nD τ} {A B C : sProp 𝕄} {O : CellTallies nD τ sig (HIx 2)} {W : Waits sig (HIx 2)} {X : Option (Fin 2) → Prop} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ X p.2⌝ ∗ owes thr O W') : sProp 𝕄) := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

end Cert.KernelIdeal.Csc
end
-- ==== Proof.FormIdeal0.lean ====
/-
  The first of the two calls on the SparseCores: its tile's program has the form of `IsTile`.
-/
module

public import proofs.«01_k».proof.Proof.Shape
public import proofs.«01_k».proof.Proof.Gen.KernelIdeal.Skeleton

@[expose] public section

noncomputable section

namespace Cert.KernelIdeal.Csc

open Idealize.ShloMosaic
open Idealize.SL.Sem
open Cert.KernelIdeal Cert.KernelIdeal.Gen Cert.Proof.Csc

variable {F : FTy → Type} [FloatOps F]

/-- The tile's number among the thirty-two, times the sixty-four rows of a tile. -/
def base0 (i : grid0.Coords) : BitVec 32 := Scalar.muli (Scalar.addi (Scalar.muli (BitVec.ofNat 32 (i 1).val) 2#32) (BitVec.ofNat 32 (i 0).val)) 64#32

variable (i : grid0.Coords) (arg2 : Memref sig .scVector .hbm S4256 .i32) (harg2 : arg2.IsWhole) (arg3 : Memref sig .scVector .hbm S4256 .i32) (harg3 : arg3.IsWhole) (arg4 : Memref sig .scVector .hbm S1638400 .i32) (harg4 : arg4.IsWhole) (arg5 : Memref sig .scVector .hbm S1638400 .f32) (harg5 : arg5.IsWhole) (arg6 : Memref sig .scVector .hbm S2048x4096 .f32) (harg6 : arg6.IsWhole) (arg7 : Memref sig .scVector .vmem S8x4096 .f32) (harg7 : arg7.IsWhole) (arg8 : Memref sig .scVector .vmem S8x4096 .f32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .f32) (harg11 : arg11.IsWhole) (arg12 : Memref sig .scVector .vmem S2048 .f32) (harg12 : arg12.IsWhole) (arg13 : Memref sig .scVector .vmem S80 .i32) (harg13 : arg13.IsWhole) (arg14 : Memref sig .scVector .vmem S80 .i32) (harg14 : arg14.IsWhole) (arg15 : DmaSems sig S_) (arg16 : DmaSems sig S_) (arg17 : DmaSems sig S_) (arg18 : DmaSems sig S_) (v271_r0 : DmaSems sig S_) (v271_r1 : DmaSems sig S_)

/-- What the tile works with. -/
def kit0 : Kit nD τ sig (.scVector ((i 0).castLE hcore0) ((i 1).castLE hsub0)) where
  S0 := strm arg4 arg5 arg9 arg11 arg15.sem rfl
  S1 := strm arg4 arg5 arg10 arg12 arg16.sem rfl
  bb := arg13
  bsb := arg14
  io := iota .scVector S16 32 [0] iota_S16_d0_w32_scVector
  cs := arg2
  cs' := arg3
  out := arg6
  acc0 := arg7
  acc1 := arg8
  r0 := v271_r0.sem
  r1 := v271_r1.sem
  f0 := arg17.sem
  f1 := arg18.sem

-- The programs matched are long.
set_option maxHeartbeats 4000000

/-- A trip of the loop over pairs of slabs. -/
theorem trip0 (k : Fin k0_t15_loop.trips) (a : BitVec 32) :
    IsTrip (F := F) (Λ := Λ₀) (kit0 i arg2 arg3 arg4 arg5 arg6 arg7 arg8 arg9 arg10 arg11 arg12 arg13 arg14 arg15 arg16 arg17 arg18 v271_r0 v271_r1) (FloatOps.ofBits .f32 0#32) (base0 i) k.val
      (k0_t15_body i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1
        (iota .scVector S16 32 [0] iota_S16_d0_w32_scVector) (broadcast S16 (FloatOps.ofBits .f32 0#32)) (base0 i) k a) := by
  simp only [k0_t15_body, k0_part109_eq_skeleton, k0_part110_eq_skeleton, k0_part111_eq_skeleton, k0_part112_eq_skeleton, k0_part113_eq_skeleton, k0_part114_eq_skeleton, k0_part115_eq_skeleton]
  refine ⟨_, k0_chk35, inferInstance, slabEv, _, _, _, rfl, ?_⟩
  intro b bs hw
  refine ⟨_, _, _, _, _, rfl, ?_⟩
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, k0_chk52, inferInstance, slabEv, _, _, _, rfl, ?_⟩
  intro b bs hw
  refine ⟨_, _, _, _, _, rfl, ?_⟩
  apply IsCore.of
  case hY =>
    conv_rhs => whnf
    refine guard_bind (F := F) _ (guard_bind (F := F) _ (for_bind fun r => ?_))
    conv_rhs => whnf
    exact rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  exact ⟨_, rfl⟩

/-- The whole program. -/
theorem tile0 :
    IsTile (F := F) (Λ := Λ₀) (kit0 i arg2 arg3 arg4 arg5 arg6 arg7 arg8 arg9 arg10 arg11 arg12 arg13 arg14 arg15 arg16 arg17 arg18 v271_r0 v271_r1) (FloatOps.ofBits .f32 0#32) (k0_off1 i) (base0 i)
      (cc0_body i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1) := by
  simp only [cc0_body_eq_skeleton, cc0_body_skel, k0_part116_eq_skeleton, k0_part117_eq_skeleton, k0_part118_eq_skeleton, k0_part119_eq_skeleton, k0_part120_eq_skeleton, k0_part121_eq_skeleton, k0_part122_eq_skeleton]
  refine ⟨_, _, _, _, _, _, _, rfl, ?_⟩
  refine ⟨_, _, _, _, _, _, _, rfl, ?_⟩
  refine ⟨_, k0_chk1, inferInstance, slabEv, _, _, _, rfl, ?_⟩
  intro b bs hw
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, k0_chk18, inferInstance, slabEv, _, _, _, rfl, ?_⟩
  intro b bs hw
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, _, _, rfl, fun k a => trip0 i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1 k a, fun r => ?_⟩
  exact ⟨_, _, _, _, _, rfl, _, _, _, _, _, rfl, _, rfl⟩

end Cert.KernelIdeal.Csc
end
-- ==== Proof.Call0Ideal.lean ====
/-
  The obligation of a tile of the first call: from what it is handed, with its scratch storage at anything, to what it gives back.
-/
module

public import proofs.«01_k».proof.Proof.TaskIdeal
public import proofs.«01_k».proof.Proof.FormIdeal0

@[expose] public section

noncomputable section

namespace Cert.KernelIdeal.Csc

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Proof.Csc

variable {F : FTy → Type} [FloatOps F]
local notation "𝕄" => MT nD τ sig (HIx 2) (Elt F) ℕ UU ℕ

/-- A tile's coordinates in the call's grid. -/
def coords0 (c : Fin (grid0.bound 0)) (s : Fin (grid0.bound 1)) : grid0.Coords :=
  fun | 0 => c | 1 => s | ⟨_ + 2, h⟩ => absurd h (Nat.not_lt.2 (Nat.le_add_left _ _))

/-- The call's body on the arrays and the tile's storage. -/
abbrev prog0 (i : grid0.Coords) := cc0_body (F := F) i (Memref.whole main_v0_scv) (Memref.isWhole_whole _) (Memref.whole main_v2_scv) (Memref.isWhole_whole _)
  (Memref.whole main_arg1_scv) (Memref.isWhole_whole _) (Memref.whole main_arg2_scv) (Memref.isWhole_whole _) (Memref.whole main_v3_scv) (Memref.isWhole_whole _)
  (Memref.whole cc0_scratch0) (Memref.isWhole_whole _) (Memref.whole cc0_scratch1) (Memref.isWhole_whole _) (Memref.whole cc0_scratch2) (Memref.isWhole_whole _)
  (Memref.whole cc0_scratch3) (Memref.isWhole_whole _) (Memref.whole cc0_scratch4) (Memref.isWhole_whole _) (Memref.whole cc0_scratch5) (Memref.isWhole_whole _)
  (Memref.whole cc0_scratch6) (Memref.isWhole_whole _) (Memref.whole cc0_scratch7) (Memref.isWhole_whole _)
  cc0_scratch8 cc0_scratch9 cc0_scratch10 cc0_scratch11 cc0_scoped0 cc0_scoped1

theorem defs₀_vector0 (c : Fin τ.nSC) (s : Fin τ.nSub) :
    defs₀ (F := F) (.scVector c s) 0 () = SparseCore.onTile hcore0 hsub0 (fun c s => prog0 (coords0 c s)) ⟨⟩ c s := rfl

def refs0 : List (Ref sig .scVector) := [cc0_scratch0, cc0_scratch1, cc0_scratch2, cc0_scratch3, cc0_scratch4, cc0_scratch5, cc0_scratch6, cc0_scratch7]
def sems0 : List (SemLoc sig) := [.dma cc0_scratch8.sem, .dma cc0_scratch9.sem, .dma cc0_scratch10.sem, .dma cc0_scratch11.sem, .dma cc0_scoped0.sem, .dma cc0_scoped1.sem]
theorem refs0_nodup : refs0.Nodup := by decide
theorem sems0_nodup : sems0.Nodup := by decide
theorem sems0_scoped : ∀ g ∈ sems0, g.isScoped .scVector = true := by decide

section
variable (d : Dev nD) (c : Fin τ.nSC) (s : Fin τ.nSub)

/-- The scratch buffers and the semaphores the body uses. -/
abbrev Scr0 : sProp 𝕄 :=
  Scr d c s (Memref.whole cc0_scratch0) (Memref.whole cc0_scratch1) (Memref.whole cc0_scratch2) (Memref.whole cc0_scratch3) (Memref.whole cc0_scratch4) (Memref.whole cc0_scratch5)
    (Memref.whole cc0_scratch6) (Memref.whole cc0_scratch7) cc0_scratch8.sem cc0_scratch9.sem cc0_scratch10.sem cc0_scratch11.sem cc0_scoped0.sem cc0_scoped1.sem

/-- The rest of a tile's storage. -/
def bufs0 : Finset (DevRef τ sig) := (refs0.map (Proc.devRef (.scVector c s))).foldl Finset.erase (ownRefs (Proc.scVector c s))
def cells0 : Finset (GSem nD τ sig) := (sems0.map fun g => ((V d c s : Thread nD τ), g)).foldl Finset.erase (ownCells (V d c s))

/-- A tile's own storage is what the body uses and the rest. -/
theorem storage0 : (iprop(ownBufs (V d c s) ∗ ownSems0 (V d c s)) : sProp 𝕄)
    = iprop(Scr0 d c s ∗ (bigSep (bufs0 c s) fun b => iprop(∃ f, ((d, b) : Loc nD τ sig) ↦{fullShare} f)) ∗ bigSep (cells0 d c s) fun g => semVal g 0) := by
  unfold ownBufs ownSems0
  rw [bigSep_takeOff (fun b => iprop(∃ f, (((V d c s : Thread nD τ).1, b) : Loc nD τ sig) ↦{fullShare} f)) (refs0.map (Proc.devRef (.scVector c s))) (ownRefs (V d c s : Thread nD τ).2)
      (List.Nodup.map (Proc.devRef_injective _) refs0_nodup) (fun b hb => by
        obtain ⟨r, hr, rfl⟩ := List.mem_map.mp hb
        refine SparseCore.Cfg.mem_ownRefs_of_owner (p := Proc.scVector c s) ?_
        fin_cases hr <;> rfl),
    bigSep_takeOff (fun g => semVal g 0) (sems0.map fun g => ((V d c s : Thread nD τ), g)) (ownCells (V d c s))
      (List.Nodup.map (fun a b h => (Prod.mk.inj h).2) sems0_nodup) (fun b hb => by
        obtain ⟨r, hr, rfl⟩ := List.mem_map.mp hb
        refine mem_ownCells.mpr ⟨rfl, ?_⟩
        exact sems0_scoped r hr)]
  unfold Scr0 Scr
  simp only [owns_whole]
  simp only [refs0, sems0, List.map, takeOff]
  refine eq_of_both ?_ ?_
  · iintro ⟨⟨H0, H1, H2, H3, H4, H5, H6, H7, HB⟩, S0, S1, S2, S3, S4, S5, HS⟩
    isplitl [H0 H1 H2 H3 H4 H5 H6 H7 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      iexact S5
    isplitl [HB]; · iexact HB
    iexact HS
  · iintro ⟨⟨H0, H1, H2, H3, H4, H5, H6, H7, S0, S1, S2, S3, S4, S5⟩, HB, HS⟩
    isplitl [H0 H1 H2 H3 H4 H5 H6 H7 HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HB
    isplitl [S0]; · iexact S0
    isplitl [S1]; · iexact S1
    isplitl [S2]; · iexact S2
    isplitl [S3]; · iexact S3
    isplitl [S4]; · iexact S4
    isplitl [S5]; · iexact S5
    iexact HS

end

/-- The body has the form of a tile's program, at the tile's columns and rows. -/
theorem isTile0 (c : Fin (grid0.bound 0)) (s : Fin (grid0.bound 1)) :
    IsTile (F := F) (Λ := Λ₀) (kit (c.castLE hcore0) (s.castLE hsub0) (Memref.whole cc0_scratch0) (Memref.whole cc0_scratch1) (Memref.whole cc0_scratch2) (Memref.whole cc0_scratch3)
      (Memref.whole cc0_scratch4) (Memref.whole cc0_scratch5) (Memref.whole cc0_scratch6) (Memref.whole cc0_scratch7) cc0_scratch8.sem cc0_scratch9.sem cc0_scratch10.sem cc0_scratch11.sem
      cc0_scoped0.sem cc0_scoped1.sem 0 rfl rfl) (FloatOps.ofBits .f32 0#32) (colOf 0 c.val s.val) (rowOf c.val s.val) (prog0 (coords0 c s)) := by
  have hc : c.val < 2 := c.isLt
  have hs : s.val < 16 := s.isLt
  have h1 : k0_off1 (coords0 c s) = colOf 0 c.val s.val := by
    rw [k0_off1_eq]
    show ![128 * s.val + 64 * c.val + 2048 * 0] = _
    unfold colOf; rw [Nat.mod_eq_of_lt hc, Nat.mod_eq_of_lt hs]
  have h2 : base0 (coords0 c s) = rowOf c.val s.val := by
    refine BitVec.eq_of_toNat_eq ?_
    rw [rowOf_toNat]
    unfold base0
    simp only [coords0, Scalar.muli, Scalar.addi, IntOp.muli, IntOp.addi, BitVec.toNat_mul, BitVec.toNat_add, BitVec.toNat_ofNat]
    omega
  have h := tile0 (F := F) (coords0 c s) (Memref.whole main_v0_scv) (Memref.isWhole_whole _) (Memref.whole main_v2_scv) (Memref.isWhole_whole _)
    (Memref.whole main_arg1_scv) (Memref.isWhole_whole _) (Memref.whole main_arg2_scv) (Memref.isWhole_whole _) (Memref.whole main_v3_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scoped0 cc0_scoped1
  rw [h1, h2] at h
  exact h

variable (I : Dev nD → Inp F)

theorem tileObl0 (hI : ∀ d, Ok (I d)) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hX := isTile0 (F := F) ⟨_, hc.1⟩ ⟨_, hc.2⟩
  generalize prog0 (F := F) (coords0 ⟨_, hc.1⟩ ⟨_, hc.2⟩) = X at hX ⊢
  have key := wp_kit d ((K (F := F)).core 0 c) ((K (F := F)).sub 0 i) (Memref.whole cc0_scratch0) (Memref.whole cc0_scratch1) (Memref.whole cc0_scratch2) (Memref.whole cc0_scratch3)
      (Memref.whole cc0_scratch4) (Memref.whole cc0_scratch5) (Memref.whole cc0_scratch6) (Memref.whole cc0_scratch7) cc0_scratch8.sem cc0_scratch9.sem cc0_scratch10.sem cc0_scratch11.sem
      cc0_scoped0.sem cc0_scoped1.sem 0 rfl rfl (I d) (shareTokN (half c.val) i.val) (hI d).R (hI d).C (hI d).C' hX (O := O) (W := W)
  have hst := storage0 (F := F) d ((K (F := F)).core 0 c) ((K (F := F)).sub 0 i)
  rw [(K (F := F)).scopedBufs_V facts, SparseCore.Cfg.scopedSems0_V (Val := Elt F)]
  show iprop(levAts (K (F := F)).L (K (F := F)).lev ∗ emp ∗ (Reads d (I d) (shareTokN (half c.val) i.val) ∗ RowsAny d 0 ((K (F := F)).core 0 c) ((K (F := F)).sub 0 i))
    ∗ ownBufs _ ∗ ownSems0 _ ∗ owes _ O W) ⊢ _
  have key' := wp_beside (R := iprop((bigSep (bufs0 ((K (F := F)).core 0 c) ((K (F := F)).sub 0 i)) fun b => iprop(∃ f, ((d, b) : Loc nD τ sig) ↦{fullShare} f))
      ∗ bigSep (cells0 d ((K (F := F)).core 0 c) ((K (F := F)).sub 0 i)) fun g => semVal g 0)) key
  refine BIBase.Entails.trans ?_ (BIBase.Entails.trans key' (wp_mono frame _ _ fun _ => ?_))
  · iintro ⟨HL, -, HG, HB, HS, HO⟩
    ihave HM := ((K (F := F)).mayWaits_none (thr := V d ((K (F := F)).core 0 c) ((K (F := F)).sub 0 i)) hO) $$ HL
    ihave HB := (Entails.of_eq hst) $$ [HB HS]
    · isplitl [HB] <;> iassumption
    icases HB with ⟨HB, Hrest⟩
    isplitr [Hrest]
    · isplitl [HM]; · iexact HM
      isplitl [HG]; · iexact HG
      isplitl [HB] <;> iassumption
    iexact Hrest
  · show iprop(((Reads d (I d) (shareTokN (half c.val) i.val) ∗ RowsDone d (I d) 0 ((K (F := F)).core 0 c) ((K (F := F)).sub 0 i)) ∗ _ ∗ ∃ W', _ ∗ owes _ O W') ∗ _)
      ⊢ iprop((Reads d (I d) (shareTokN (half c.val) i.val) ∗ RowsDone d (I d) 0 ((K (F := F)).core 0 c) ((K (F := F)).sub 0 i)) ∗ _ ∗ _ ∗ ∃ W', _ ∗ owes _ O W')
    refine BIBase.Entails.trans ?_ obl_post
    iintro ⟨⟨HG, HB, HO⟩, Hrest⟩
    ihave HB := (Entails.of_eq hst.symm) $$ [HB Hrest]
    · isplitl [HB] <;> iassumption
    icases HB with ⟨HB, HS⟩
    isplitl [HG]; · iexact HG
    isplitl [HB]; · iexact HB
    isplitl [HS]; · iexact HS
    iexact HO

end Cert.KernelIdeal.Csc
end
-- ==== Proof.FormIdeal1.lean ====
/-
  The second of the two calls on the SparseCores: its tile's program has the form of `IsTile`.
-/
module

public import proofs.«01_k».proof.Proof.Shape
public import proofs.«01_k».proof.Proof.Gen.KernelIdeal.Skeleton

@[expose] public section

noncomputable section

namespace Cert.KernelIdeal.Csc

open Idealize.ShloMosaic
open Idealize.SL.Sem
open Cert.KernelIdeal Cert.KernelIdeal.Gen Cert.Proof.Csc

variable {F : FTy → Type} [FloatOps F]

/-- The tile's number among the thirty-two, times the sixty-four rows of a tile. -/
def base1 (i : grid0.Coords) : BitVec 32 := Scalar.muli (Scalar.addi (Scalar.muli (BitVec.ofNat 32 (i 1).val) 2#32) (BitVec.ofNat 32 (i 0).val)) 64#32

variable (i : grid0.Coords) (arg2 : Memref sig .scVector .hbm S4256 .i32) (harg2 : arg2.IsWhole) (arg3 : Memref sig .scVector .hbm S4256 .i32) (harg3 : arg3.IsWhole) (arg4 : Memref sig .scVector .hbm S1638400 .i32) (harg4 : arg4.IsWhole) (arg5 : Memref sig .scVector .hbm S1638400 .f32) (harg5 : arg5.IsWhole) (arg6 : Memref sig .scVector .hbm S2048x4096 .f32) (harg6 : arg6.IsWhole) (arg7 : Memref sig .scVector .vmem S8x4096 .f32) (harg7 : arg7.IsWhole) (arg8 : Memref sig .scVector .vmem S8x4096 .f32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .f32) (harg11 : arg11.IsWhole) (arg12 : Memref sig .scVector .vmem S2048 .f32) (harg12 : arg12.IsWhole) (arg13 : Memref sig .scVector .vmem S80 .i32) (harg13 : arg13.IsWhole) (arg14 : Memref sig .scVector .vmem S80 .i32) (harg14 : arg14.IsWhole) (arg15 : DmaSems sig S_) (arg16 : DmaSems sig S_) (arg17 : DmaSems sig S_) (arg18 : DmaSems sig S_) (v271_r0 : DmaSems sig S_) (v271_r1 : DmaSems sig S_)

/-- What the tile works with. -/
def kit1 : Kit nD τ sig (.scVector ((i 0).castLE hcore0) ((i 1).castLE hsub0)) where
  S0 := strm arg4 arg5 arg9 arg11 arg15.sem rfl
  S1 := strm arg4 arg5 arg10 arg12 arg16.sem rfl
  bb := arg13
  bsb := arg14
  io := iota .scVector S16 32 [0] iota_S16_d0_w32_scVector
  cs := arg2
  cs' := arg3
  out := arg6
  acc0 := arg7
  acc1 := arg8
  r0 := v271_r0.sem
  r1 := v271_r1.sem
  f0 := arg17.sem
  f1 := arg18.sem

-- The programs matched are long.
set_option maxHeartbeats 4000000

/-- A trip of the loop over pairs of slabs. -/
theorem trip1 (k : Fin k1_t15_loop.trips) (a : BitVec 32) :
    IsTrip (F := F) (Λ := Λ₀) (kit1 i arg2 arg3 arg4 arg5 arg6 arg7 arg8 arg9 arg10 arg11 arg12 arg13 arg14 arg15 arg16 arg17 arg18 v271_r0 v271_r1) (FloatOps.ofBits .f32 0#32) (base1 i) k.val
      (k1_t15_body i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1
        (iota .scVector S16 32 [0] iota_S16_d0_w32_scVector) (broadcast S16 (FloatOps.ofBits .f32 0#32)) (base1 i) k a) := by
  simp only [k1_t15_body, k1_part109_eq_skeleton, k1_part110_eq_skeleton, k1_part111_eq_skeleton, k1_part112_eq_skeleton, k1_part113_eq_skeleton, k1_part114_eq_skeleton, k1_part115_eq_skeleton]
  refine ⟨_, k1_chk35, inferInstance, slabEv, _, _, _, rfl, ?_⟩
  intro b bs hw
  refine ⟨_, _, _, _, _, rfl, ?_⟩
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, k1_chk52, inferInstance, slabEv, _, _, _, rfl, ?_⟩
  intro b bs hw
  refine ⟨_, _, _, _, _, rfl, ?_⟩
  apply IsCore.of
  case hY =>
    conv_rhs => whnf
    refine guard_bind (F := F) _ (guard_bind (F := F) _ (for_bind fun r => ?_))
    conv_rhs => whnf
    exact rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  exact ⟨_, rfl⟩

/-- The whole program. -/
theorem tile1 :
    IsTile (F := F) (Λ := Λ₀) (kit1 i arg2 arg3 arg4 arg5 arg6 arg7 arg8 arg9 arg10 arg11 arg12 arg13 arg14 arg15 arg16 arg17 arg18 v271_r0 v271_r1) (FloatOps.ofBits .f32 0#32) (k1_off1 i) (base1 i)
      (cc1_body i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1) := by
  simp only [cc1_body_eq_skeleton, cc1_body_skel, k1_part116_eq_skeleton, k1_part117_eq_skeleton, k1_part118_eq_skeleton, k1_part119_eq_skeleton, k1_part120_eq_skeleton, k1_part121_eq_skeleton, k1_part122_eq_skeleton]
  refine ⟨_, _, _, _, _, _, _, rfl, ?_⟩
  refine ⟨_, _, _, _, _, _, _, rfl, ?_⟩
  refine ⟨_, k1_chk1, inferInstance, slabEv, _, _, _, rfl, ?_⟩
  intro b bs hw
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, k1_chk18, inferInstance, slabEv, _, _, _, rfl, ?_⟩
  intro b bs hw
  apply IsCore.of
  case hY =>
    conv_rhs => whnf
    refine guard_bind (F := F) _ (guard_bind (F := F) _ (for_bind fun r => ?_))
    conv_rhs => whnf
    refine for_bind fun r => ?_
    conv_rhs => whnf
    exact for_bind fun r => rfl
  case hl => exact fun _ _ => View.loadsAt_vmem h_S1x16
  case hs => exact fun _ _ => View.stores_vmem_bits_univ h_S1x16 rfl
  case hz => exact fun _ => rfl
  case hzb => exact fun k a => rfl
  case hpb =>
    intro k a
    refine ⟨_, _, _, rfl, ?_, ?_⟩
    · exact ⟨_, fun h3 k a => ⟨_, _, _, _, rfl⟩⟩
    · exact ⟨_, fun h3 k a => ⟨_, _, _, _, rfl⟩⟩
  intro r
  refine ⟨_, _, _, _, _, rfl, ?_⟩
  refine ⟨_, _, _, rfl, fun k a => trip1 i arg2 harg2 arg3 harg3 arg4 harg4 arg5 harg5 arg6 harg6 arg7 harg7 arg8 harg8 arg9 harg9 arg10 harg10 arg11 harg11 arg12 harg12 arg13 harg13 arg14 harg14 arg15 arg16 arg17 arg18 v271_r0 v271_r1 k a, fun r => ?_⟩
  exact ⟨_, _, _, _, _, rfl, _, _, _, _, _, rfl, _, rfl⟩

end Cert.KernelIdeal.Csc
end
-- ==== Proof.Call1Ideal.lean ====
/-
  The obligation of a tile of the second call: from what it is handed, with its scratch storage at anything, to what it gives back.
-/
module

public import proofs.«01_k».proof.Proof.TaskIdeal
public import proofs.«01_k».proof.Proof.FormIdeal1

@[expose] public section

noncomputable section

namespace Cert.KernelIdeal.Csc

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen Cert.Proof.Csc

variable {F : FTy → Type} [FloatOps F]
local notation "𝕄" => MT nD τ sig (HIx 2) (Elt F) ℕ UU ℕ

/-- A tile's coordinates in the call's grid. -/
def coords1 (c : Fin (grid1.bound 0)) (s : Fin (grid1.bound 1)) : grid1.Coords :=
  fun | 0 => c | 1 => s | ⟨_ + 2, h⟩ => absurd h (Nat.not_lt.2 (Nat.le_add_left _ _))

/-- The call's body on the arrays and the tile's storage. -/
abbrev prog1 (i : grid1.Coords) := cc1_body (F := F) i (Memref.whole main_v0_scv) (Memref.isWhole_whole _) (Memref.whole main_v2_scv) (Memref.isWhole_whole _)
  (Memref.whole main_arg1_scv) (Memref.isWhole_whole _) (Memref.whole main_arg2_scv) (Memref.isWhole_whole _) (Memref.whole main_v4_scv) (Memref.isWhole_whole _)
  (Memref.whole cc1_scratch0) (Memref.isWhole_whole _) (Memref.whole cc1_scratch1) (Memref.isWhole_whole _) (Memref.whole cc1_scratch2) (Memref.isWhole_whole _)
  (Memref.whole cc1_scratch3) (Memref.isWhole_whole _) (Memref.whole cc1_scratch4) (Memref.isWhole_whole _) (Memref.whole cc1_scratch5) (Memref.isWhole_whole _)
  (Memref.whole cc1_scratch6) (Memref.isWhole_whole _) (Memref.whole cc1_scratch7) (Memref.isWhole_whole _)
  cc1_scratch8 cc1_scratch9 cc1_scratch10 cc1_scratch11 cc1_scoped0 cc1_scoped1

theorem defs₀_vector1 (c : Fin τ.nSC) (s : Fin τ.nSub) :
    defs₀ (F := F) (.scVector c s) 1 () = SparseCore.onTile hcore1 hsub1 (fun c s => prog1 (coords1 c s)) ⟨⟩ c s := rfl

def refs1 : List (Ref sig .scVector) := [cc1_scratch0, cc1_scratch1, cc1_scratch2, cc1_scratch3, cc1_scratch4, cc1_scratch5, cc1_scratch6, cc1_scratch7]
def sems1 : List (SemLoc sig) := [.dma cc1_scratch8.sem, .dma cc1_scratch9.sem, .dma cc1_scratch10.sem, .dma cc1_scratch11.sem, .dma cc1_scoped0.sem, .dma cc1_scoped1.sem]
theorem refs1_nodup : refs1.Nodup := by decide
theorem sems1_nodup : sems1.Nodup := by decide
theorem sems1_scoped : ∀ g ∈ sems1, g.isScoped .scVector = true := by decide

section
variable (d : Dev nD) (c : Fin τ.nSC) (s : Fin τ.nSub)

/-- The scratch buffers and the semaphores the body uses. -/
abbrev Scr1 : sProp 𝕄 :=
  Scr d c s (Memref.whole cc1_scratch0) (Memref.whole cc1_scratch1) (Memref.whole cc1_scratch2) (Memref.whole cc1_scratch3) (Memref.whole cc1_scratch4) (Memref.whole cc1_scratch5)
    (Memref.whole cc1_scratch6) (Memref.whole cc1_scratch7) cc1_scratch8.sem cc1_scratch9.sem cc1_scratch10.sem cc1_scratch11.sem cc1_scoped0.sem cc1_scoped1.sem

/-- The rest of a tile's storage. -/
def bufs1 : Finset (DevRef τ sig) := (refs1.map (Proc.devRef (.scVector c s))).foldl Finset.erase (ownRefs (Proc.scVector c s))
def cells1 : Finset (GSem nD τ sig) := (sems1.map fun g => ((V d c s : Thread nD τ), g)).foldl Finset.erase (ownCells (V d c s))

/-- A tile's own storage is what the body uses and the rest. -/
theorem storage1 : (iprop(ownBufs (V d c s) ∗ ownSems0 (V d c s)) : sProp 𝕄)
    = iprop(Scr1 d c s ∗ (bigSep (bufs1 c s) fun b => iprop(∃ f, ((d, b) : Loc nD τ sig) ↦{fullShare} f)) ∗ bigSep (cells1 d c s) fun g => semVal g 0) := by
  unfold ownBufs ownSems0
  rw [bigSep_takeOff (fun b => iprop(∃ f, (((V d c s : Thread nD τ).1, b) : Loc nD τ sig) ↦{fullShare} f)) (refs1.map (Proc.devRef (.scVector c s))) (ownRefs (V d c s : Thread nD τ).2)
      (List.Nodup.map (Proc.devRef_injective _) refs1_nodup) (fun b hb => by
        obtain ⟨r, hr, rfl⟩ := List.mem_map.mp hb
        refine SparseCore.Cfg.mem_ownRefs_of_owner (p := Proc.scVector c s) ?_
        fin_cases hr <;> rfl),
    bigSep_takeOff (fun g => semVal g 0) (sems1.map fun g => ((V d c s : Thread nD τ), g)) (ownCells (V d c s))
      (List.Nodup.map (fun a b h => (Prod.mk.inj h).2) sems1_nodup) (fun b hb => by
        obtain ⟨r, hr, rfl⟩ := List.mem_map.mp hb
        refine mem_ownCells.mpr ⟨rfl, ?_⟩
        exact sems1_scoped r hr)]
  unfold Scr1 Scr
  simp only [owns_whole]
  simp only [refs1, sems1, List.map, takeOff]
  refine eq_of_both ?_ ?_
  · iintro ⟨⟨H0, H1, H2, H3, H4, H5, H6, H7, HB⟩, S0, S1, S2, S3, S4, S5, HS⟩
    isplitl [H0 H1 H2 H3 H4 H5 H6 H7 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      iexact S5
    isplitl [HB]; · iexact HB
    iexact HS
  · iintro ⟨⟨H0, H1, H2, H3, H4, H5, H6, H7, S0, S1, S2, S3, S4, S5⟩, HB, HS⟩
    isplitl [H0 H1 H2 H3 H4 H5 H6 H7 HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HB
    isplitl [S0]; · iexact S0
    isplitl [S1]; · iexact S1
    isplitl [S2]; · iexact S2
    isplitl [S3]; · iexact S3
    isplitl [S4]; · iexact S4
    isplitl [S5]; · iexact S5
    iexact HS

end

/-- The body has the form of a tile's program, at the tile's columns and rows. -/
theorem isTile1 (c : Fin (grid1.bound 0)) (s : Fin (grid1.bound 1)) :
    IsTile (F := F) (Λ := Λ₀) (kit (c.castLE hcore1) (s.castLE hsub1) (Memref.whole cc1_scratch0) (Memref.whole cc1_scratch1) (Memref.whole cc1_scratch2) (Memref.whole cc1_scratch3)
      (Memref.whole cc1_scratch4) (Memref.whole cc1_scratch5) (Memref.whole cc1_scratch6) (Memref.whole cc1_scratch7) cc1_scratch8.sem cc1_scratch9.sem cc1_scratch10.sem cc1_scratch11.sem
      cc1_scoped0.sem cc1_scoped1.sem 1 rfl rfl) (FloatOps.ofBits .f32 0#32) (colOf 1 c.val s.val) (rowOf c.val s.val) (prog1 (coords1 c s)) := by
  have hc : c.val < 2 := c.isLt
  have hs : s.val < 16 := s.isLt
  have h1 : k1_off1 (coords1 c s) = colOf 1 c.val s.val := by
    rw [k1_off1_eq]
    show ![128 * s.val + 64 * c.val + 2048 * 1] = _
    unfold colOf; rw [Nat.mod_eq_of_lt hc, Nat.mod_eq_of_lt hs]
  have h2 : base1 (coords1 c s) = rowOf c.val s.val := by
    refine BitVec.eq_of_toNat_eq ?_
    rw [rowOf_toNat]
    unfold base1
    simp only [coords1, Scalar.muli, Scalar.addi, IntOp.muli, IntOp.addi, BitVec.toNat_mul, BitVec.toNat_add, BitVec.toNat_ofNat]
    omega
  have h := tile1 (F := F) (coords1 c s) (Memref.whole main_v0_scv) (Memref.isWhole_whole _) (Memref.whole main_v2_scv) (Memref.isWhole_whole _)
    (Memref.whole main_arg1_scv) (Memref.isWhole_whole _) (Memref.whole main_arg2_scv) (Memref.isWhole_whole _) (Memref.whole main_v4_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scoped0 cc1_scoped1
  rw [h1, h2] at h
  exact h

variable (I : Dev nD → Inp F)

theorem tileObl1 (hI : ∀ d, Ok (I d)) : (K (F := F)).TileObl (D (F := F)) 𝒱 (P I) v₀ 1 := by
  intro d c i O W hO _ _
  simp only [show (P I).ox = fun _ _ => 0 from rfl, add_zero]
  change _ ⊢ wp _ _ _ (Pipeline.liftProg (defs₀ (F := F) (.scVector ((K (F := F)).core 1 c) ((K (F := F)).sub 1 i)) 1 ())) _
  refine BIBase.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  have hX := isTile1 (F := F) ⟨_, hc.1⟩ ⟨_, hc.2⟩
  generalize prog1 (F := F) (coords1 ⟨_, hc.1⟩ ⟨_, hc.2⟩) = X at hX ⊢
  have key := wp_kit d ((K (F := F)).core 1 c) ((K (F := F)).sub 1 i) (Memref.whole cc1_scratch0) (Memref.whole cc1_scratch1) (Memref.whole cc1_scratch2) (Memref.whole cc1_scratch3)
      (Memref.whole cc1_scratch4) (Memref.whole cc1_scratch5) (Memref.whole cc1_scratch6) (Memref.whole cc1_scratch7) cc1_scratch8.sem cc1_scratch9.sem cc1_scratch10.sem cc1_scratch11.sem
      cc1_scoped0.sem cc1_scoped1.sem 1 rfl rfl (I d) (shareTokN (half c.val) i.val) (hI d).R (hI d).C (hI d).C' hX (O := O) (W := W)
  have hst := storage1 (F := F) d ((K (F := F)).core 1 c) ((K (F := F)).sub 1 i)
  rw [(K (F := F)).scopedBufs_V facts, SparseCore.Cfg.scopedSems0_V (Val := Elt F)]
  show iprop(levAts (K (F := F)).L (K (F := F)).lev ∗ emp ∗ (Reads d (I d) (shareTokN (half c.val) i.val) ∗ RowsAny d 1 ((K (F := F)).core 1 c) ((K (F := F)).sub 1 i))
    ∗ ownBufs _ ∗ ownSems0 _ ∗ owes _ O W) ⊢ _
  have key' := wp_beside (R := iprop((bigSep (bufs1 ((K (F := F)).core 1 c) ((K (F := F)).sub 1 i)) fun b => iprop(∃ f, ((d, b) : Loc nD τ sig) ↦{fullShare} f))
      ∗ bigSep (cells1 d ((K (F := F)).core 1 c) ((K (F := F)).sub 1 i)) fun g => semVal g 0)) key
  refine BIBase.Entails.trans ?_ (BIBase.Entails.trans key' (wp_mono frame _ _ fun _ => ?_))
  · iintro ⟨HL, -, HG, HB, HS, HO⟩
    ihave HM := ((K (F := F)).mayWaits_none (thr := V d ((K (F := F)).core 1 c) ((K (F := F)).sub 1 i)) hO) $$ HL
    ihave HB := (Entails.of_eq hst) $$ [HB HS]
    · isplitl [HB] <;> iassumption
    icases HB with ⟨HB, Hrest⟩
    isplitr [Hrest]
    · isplitl [HM]; · iexact HM
      isplitl [HG]; · iexact HG
      isplitl [HB] <;> iassumption
    iexact Hrest
  · show iprop(((Reads d (I d) (shareTokN (half c.val) i.val) ∗ RowsDone d (I d) 1 ((K (F := F)).core 1 c) ((K (F := F)).sub 1 i)) ∗ _ ∗ ∃ W', _ ∗ owes _ O W') ∗ _)
      ⊢ iprop((Reads d (I d) (shareTokN (half c.val) i.val) ∗ RowsDone d (I d) 1 ((K (F := F)).core 1 c) ((K (F := F)).sub 1 i)) ∗ _ ∗ _ ∗ ∃ W', _ ∗ owes _ O W')
    refine BIBase.Entails.trans ?_ obl_post
    iintro ⟨⟨HG, HB, HO⟩, Hrest⟩
    ihave HB := (Entails.of_eq hst.symm) $$ [HB Hrest]
    · isplitl [HB] <;> iassumption
    icases HB with ⟨HB, HS⟩
    isplitl [HG]; · iexact HG
    isplitl [HB]; · iexact HB
    isplitl [HS]; · iexact HS
    iexact HO

end Cert.KernelIdeal.Csc
end
-- ==== Proof.LaunchIdeal.lean ====
/-
  The program's run: launched on a memory whose column starts and rows are in range, it ends with the TensorCore's arrays at `final` and
  every semaphore at zero.
-/
module

public import proofs.«01_k».proof.Proof.MainIdeal
public import proofs.«01_k».proof.Proof.Call0Ideal
public import proofs.«01_k».proof.Proof.Call1Ideal

@[expose] public section

noncomputable section

namespace Cert.KernelIdeal.Csc

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Proof.Csc

variable {F : FTy → Type} [FloatOps F]
local notation "𝕄" => MT nD τ sig (HIx 2) (Elt F) ℕ UU ℕ

/-- The ghost state at the launch: the handshakes', the pipelines', and no transfer counted yet. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

variable (I : Dev nD → Inp F)

theorem own_pipes (a : UP) (b : Counters) : (BI.own (embR (A := UH) (a, b)) : sProp 𝕄) ⊢ BI.own (EP (F := F) a) :=
  (own_pair_emb (embR : Emb (UP × Counters) 𝕄) a b).trans sep_elim_left

theorem ghosts : (bigSep Finset.univ fun d : Dev nD => bigSep Finset.univ fun p : Fin 2 => ghost (F := F) d p)
    = iprop((bigSep Finset.univ fun d : Dev nD => bigSep Finset.univ fun p : Fin 2 => Pipeline.cellsGhost (Pipeline.pin (pcfgs (F := F)) adm) EP p d)
      ∗ bigSep Finset.univ fun d : Dev nD => bigSep Finset.univ fun p : Fin 2 => Pipeline.toksInit (Pipeline.pin (pcfgs (F := F)) adm) EP p d) := by
  rw [← bigSep_sep']
  refine bigSep_congr fun d _ => ?_
  rw [← bigSep_sep']
  rfl

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p : Fin 2 => ghost d p)
        ∗ bigSep Finset.univ fun thr : Thread nD τ => bigSep Finset.univ fun q : Fin 2 => (P I).x q thr) := by
  unfold u₀
  iintro Hu
  ihave H := (ownU_pair _ _) $$ Hu
  icases H with ⟨HH, HR⟩
  ihave HP := (own_pipes _ _) $$ HR
  imod (Pipeline.fund_ghost (nD := nD) (τ := τ) (Pipeline.pin (pcfgs (F := F)) adm) (EP (F := F)) cellOf_inj) $$ HP with ⟨Hg, Ht⟩
  imodintro
  isplitl [HH]; · iexact HH
  isplitl [Hg Ht]
  · rw [ghosts]
    isplitl [Hg]; · iexact Hg
    iexact Ht
  · have e : (bigSep Finset.univ fun thr : Thread nD τ => bigSep Finset.univ fun q : Fin 2 => (P I).x q thr) = (iprop(emp) : sProp 𝕄) := by
      show (bigSep Finset.univ fun _ : Thread nD τ => bigSep Finset.univ fun _ : Fin 2 => iprop(emp)) = (iprop(emp) : sProp 𝕄)
      exact (bigSep_congr fun _ _ => bigSep_emp_const _).trans (bigSep_emp_const _)
    rw [e]; iempintro

variable (m : (ℓ : Loc nD τ sig) → Buf (Elt F) ℓ) (ρ : Dev nD → PrngReg)

/-- The contents of the launch, device by device. -/
abbrev start (d : Dev nD) : Valuation τ sig (Elt F) := fun b => m (d, b)

/-- What the TensorCore holds at the end. -/
abbrev FIN (d : Dev nD) : sProp 𝕄 := StableHlo.held (SparseCore.T d : Thread nD τ) (Pipeline.ucRefs τ sig) (final (start m) d)

/-- What is held beside a run stays. -/
theorem beside {d : Dev nD} {X : Prog (TpuEff nD τ sig (Elt F) (SparseCore.Sig (Pipeline.Sig Λ₀ (Fin 2) fun p => (pcfgs (F := F) p).Adm) 2) .tc) PUnit}
    {A : sProp 𝕄} {B : PUnit → sProp 𝕄} (R : sProp 𝕄)
    (h : A ⊢ wp frame (wpE ((K (F := F)).defs (D (F := F))) 𝒱 (SparseCore.T d) none) Set.univ X B) :
    iprop(A ∗ R) ⊢ wp frame (wpE ((K (F := F)).defs (D (F := F))) 𝒱 (SparseCore.T d) none) Set.univ X fun a => iprop(B a ∗ R) :=
  BIBase.Entails.trans (sep_mono_left h) (wp_frame_r frame (wpE ((K (F := F)).defs (D (F := F))) 𝒱 (SparseCore.T d) none) Set.univ)

theorem hmain [∀ e, Nonempty (Elt F e)] (κ : GSem nD τ sig → ℕ) (d : Dev nD) :
    (iprop((K (F := F)).ctx EH (P (inputs (start m))) κ ∗ (K (F := F)).tcSt EH d 0 ∗ (K (F := F)).tcRes m ρ d ∗ bigSep Finset.univ fun p : Fin 2 => ghost d p) : sProp 𝕄)
      ⊢ wp frame (wpE ((K (F := F)).defs (D (F := F))) 𝒱 (SparseCore.T d) none) Set.univ (main d)
          fun _ => iprop((K (F := F)).tcSt EH d 2 ∗ FIN m d ∗ (K (F := F)).tcEnd d) := by
  have e : (bigSep Finset.univ fun p : Fin 2 => ghost (F := F) d p) = iprop(ghost d 0 ∗ ghost d 1) := by
    rw [univ_two, SparseCore.bigSep_insert' (by decide), bigSep_singleton]
  have hu : (unscopedBufs d (fun b => m ((SparseCore.T d : Thread nD τ).loc b)) : sProp 𝕄) = StableHlo.held (SparseCore.T d : Thread nD τ) (Pipeline.ucRefs τ sig) (start m d) :=
    Pipeline.unscopedBufs_held d (start m d)
  unfold SparseCore.Cfg.tcRes SparseCore.Cfg.tcEnd
  rw [e, hu]
  refine BIBase.Entails.trans ?_ ((beside ((K (F := F)).tcSems0 d) (wp_main (start m) κ d (ρ d))).trans
    (wp_mono frame _ _ fun _ => ?_))
  · iintro ⟨Hctx, Hst, ⟨Hb, Hh, Hts, Hp⟩, Hg0, Hg1⟩
    isplitr [Hts]
    · isplitl [Hctx]; · iexact Hctx
      isplitl [Hst]; · iexact Hst
      isplitl [Hb]; · iexact Hb
      isplitl [Hh]; · iexact Hh
      isplitl [Hp]; · iexact Hp
      isplitl [Hg0]; · iexact Hg0
      iexact Hg1
    iexact Hts
  · iintro ⟨⟨Hst, Hb, Hh⟩, Hts⟩
    isplitl [Hst]; · iexact Hst
    isplitl [Hh]; · iexact Hh
    isplitl [Hb] <;> iassumption

/-- What is read of the final state. -/
def fq (d : Dev nD) (s' : Phys nD τ sig (Elt F)) : Prop := ∀ b ∈ Pipeline.ucRefs τ sig, s'.mem.mem (d, b) = final (start m) d b

theorem hfin (d : Dev nD) (s' : Phys nD τ sig (Elt F)) : iprop(FIN m d ∗ SI s') ⊢ (⌜fq m d s'⌝ : sProp 𝕄) := by
  refine (pointsTo_read_all (Pipeline.ucRefs τ sig) (fun b => ((d, b) : Loc nD τ sig)) (fun b => final (start m) d b) s').trans ?_
  iintro ⟨%h, -⟩
  ipureintro
  exact h

/-- Where the run ends. -/
def Ends (r : PUnit × MemSt nD τ sig (Elt F)) : Prop :=
  (∀ d : Dev nD, ∀ b ∈ Pipeline.ucRefs τ sig, r.2.mem (d, b) = final (start m) d b) ∧ r.2.sem = fun _ => 0

theorem run_main [∀ e, Nonempty (Elt F e)] (hI : ∀ d, Ok (inputs (start m) d)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (inputs (start m))) (A := ∅) facts v₀
    (fun q hq => match q with | 0 => nomatch hq | 1 => nomatch hq)
    (fun q _ => match q with | 0 => tileObl0 (inputs (start m)) hI | 1 => tileObl1 (inputs (start m)) hI)
    (fun q _ => SparseCore.Cfg.VecSplit.of_plain (vecSplit (inputs (start m)) q))
    m ρ main (fun d => bigSep Finset.univ fun p : Fin 2 => ghost d p) (FIN m) (u₀ (F := F)) (sep_elim_left.trans (hu₀ (inputs (start m)))) (hmain m ρ) (fq m) (hfin m) (Ends m) (fun _ h hz => ⟨h, hz⟩)

end Cert.KernelIdeal.Csc
end
-- ==== Proof.ValuesIdeal.lean ====
/-
  The contents of the arrays along `main`, read at the arrays that matter: what the host's padding leaves, and what no step touches.
-/
module

public import proofs.«01_k».proof.Proof.LaunchIdeal

@[expose] public section

noncomputable section

namespace Cert.KernelIdeal.Csc

open Idealize.ShloMosaic
open Idealize.SL Idealize.SL.RA Idealize.SL.BI
open Cert.KernelIdeal Cert.KernelIdeal.Gen Cert.Proof.Csc

variable {F : FTy → Type} [FloatOps F]
variable (W₀ : Dev nD → Valuation τ sig (Elt F)) (d : Dev nD)

/-! ## The host's padding -/

/-- The column starts, padded by zeros. -/
theorem padded_v0 : padded W₀ d (ref main_v0)
    = pad S4256 ![0] ![159] ![0] (W₀ d (ref main_arg0) : S4097.Idx → BitVec 32) (constantI S_ 32 0#32) pads_S4097_S4256_01590 h_S_ := by
  unfold padded hostOps
  after_results
  rfl

/-- The column ends, padded by zeros. -/
theorem padded_v2 : padded W₀ d (ref main_v2)
    = pad S4256 ![0] ![160] ![0] (extractStridedSlice S4096 ![1] (W₀ d (ref main_arg0) : S4097.Idx → BitVec 32) slices_S4097_S4096_1) (constantI S_ 32 0#32) pads_S4096_S4256_01600 h_S_ := by
  unfold padded hostOps
  after_results
  rfl

theorem padded_arg0 : padded W₀ d (ref main_arg0) = W₀ d (ref main_arg0) := by
  unfold padded hostOps
  after_results
theorem padded_arg1 : padded W₀ d (ref main_arg1) = W₀ d (ref main_arg1) := by
  unfold padded hostOps
  after_results
theorem padded_arg2 : padded W₀ d (ref main_arg2) = W₀ d (ref main_arg2) := by
  unfold padded hostOps
  after_results

/-- A padded array's entries are the array's and the padding. -/
theorem pad_of {s t u : Shape} {α : Type} (lo hi interior : Fin s.rank → Nat) (x : s.Idx → α) (v : u.Idx → α) (h : s.Pads lo hi interior t) (hu : 0 < u.numel) {Q : α → Prop}
    (hx : ∀ i, Q (x i)) (hv : ∀ i, Q (v i)) (j : t.Idx) : Q (pad t lo hi interior x v h hu j) := by
  unfold pad
  split
  · exact hx _
  · exact hv _

/-- What the calls read is in range where the program's arguments are. -/
theorem ok_inputs (hC : ∀ x : S4097.Idx, InArr (W₀ d (ref main_arg0) x)) (hR : ∀ i : SN.Idx, BitVec.toNat (w := 32) (W₀ d (ref main_arg1) i) < 4096) : Ok (inputs W₀ d) where
  R i := by
    show BitVec.toNat (w := 32) (padded W₀ d (ref main_arg1) i) < 4096
    rw [padded_arg1]; exact hR i
  C x := by
    show InArr (padded W₀ d (ref main_v0) x)
    rw [padded_v0]
    exact pad_of _ _ _ _ _ _ _ (Q := InArr) hC (fun _ => by show (0#32).toNat ≤ 1638400; decide) x
  C' x := by
    show InArr (padded W₀ d (ref main_v2) x)
    rw [padded_v2]
    exact pad_of _ _ _ _ _ _ _ (Q := InArr) (fun i => hC _) (fun _ => by show (0#32).toNat ≤ 1638400; decide) x

/-! ## What no step touches -/

theorem leave_ne (V : Dev nD → Valuation τ sig (Elt F)) (p : Fin 2) {b : Ref sig .tc} (h : ∀ w, Pipeline.arrRef (Pipeline.pin (pcfgs (F := F)) adm p).spec w ≠ b) :
    leave V p d (ref b) = V d (ref b) :=
  Pipeline.withArrays_of_ne (Pipeline.pin (pcfgs (F := F)) adm p).spec d (V d) (fun w => (dats V p d).arrAt w (Pipeline.pin (pcfgs (F := F)) adm p).N) b h

theorem arr0_ne {b : Ref sig .tc} (h3 : main_v3 ≠ b) (h5 : main_v5 ≠ b) : ∀ w, Pipeline.arrRef (Pipeline.pin (pcfgs (F := F)) adm 0).spec w ≠ b
  | 0 => h3
  | 1 => h5
theorem arr1_ne {b : Ref sig .tc} (h4 : main_v4 ≠ b) (h6 : main_v6 ≠ b) : ∀ w, Pipeline.arrRef (Pipeline.pin (pcfgs (F := F)) adm 1).spec w ≠ b
  | 0 => h4
  | 1 => h6

theorem copied_ne {b : Ref sig .tc} (h6 : b ≠ main_v6) : copied W₀ d (ref b) = turned0 W₀ d (ref b) := by
  unfold copied copyOps
  rw [StableHlo.after_cons, StableHlo.after_nil]
  exact StableHlo.unary_result_ne (h := h6) ..

/-- An array that is no result of a call or a transposition ends as the host left it. -/
theorem final_ne {b : Ref sig .tc} (h3 : main_v3 ≠ b) (h4 : main_v4 ≠ b) (h5 : main_v5 ≠ b) (h6 : main_v6 ≠ b) : final W₀ d (ref b) = padded W₀ d (ref b) := by
  unfold final
  rw [leave_ne d (copied W₀) 1 (arr1_ne h4 h6), copied_ne W₀ d h6.symm]
  unfold turned0
  rw [leave_ne d (called1 W₀) 0 (arr0_ne h3 h5)]
  unfold called1 called0
  rw [setOut_ne 1 _ _ (ref_inj h4.symm), setOut_ne 0 _ _ (ref_inj h3.symm)]

theorem final_arg0 : final W₀ d (ref main_arg0) = W₀ d (ref main_arg0) :=
  (final_ne W₀ d (by decide) (by decide) (by decide) (by decide)).trans (padded_arg0 W₀ d)
theorem final_arg1 : final W₀ d (ref main_arg1) = W₀ d (ref main_arg1) :=
  (final_ne W₀ d (by decide) (by decide) (by decide) (by decide)).trans (padded_arg1 W₀ d)
theorem final_arg2 : final W₀ d (ref main_arg2) = W₀ d (ref main_arg2) :=
  (final_ne W₀ d (by decide) (by decide) (by decide) (by decide)).trans (padded_arg2 W₀ d)

end Cert.KernelIdeal.Csc
end
-- ==== Proof.FrameIdeal.lean ====
/-
  The idealised program terminates on arguments in range, keeps them, and ends with every semaphore at zero.
-/
module

public import proofs.«01_k».proof.Defs
public import proofs.«01_k».proof.Proof.ValuesIdeal
public import proofs.«01_k».proof.Proof.Ranges

@[expose] public section

noncomputable section

namespace Cert.KernelIdeal.Csc

open Idealize.ShloMosaic Idealize.SL.Sem
open Cert.KernelIdeal Cert.KernelIdeal.Gen Cert.Proof.Csc

theorem arg_kept {m : (ℓ : Loc nD τ sig) → Buf (Elt Ideal) ℓ} {r : PUnit × MemSt nD τ sig (Elt Ideal)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(h.1 c (ref main_arg0) (ref_mem _ (by decide))).trans (final_arg0 (start m) c), (h.1 c (ref main_arg1) (ref_mem _ (by decide))).trans (final_arg1 (start m) c),
    (h.1 c (ref main_arg2) (ref_mem _ (by decide))).trans (final_arg2 (start m) c)⟩

/-- The frame claim of the idealised program. -/
theorem frame [Cert.Pre_in_range.Facts] : Cert.quiescent_KernelIdeal := fun m ρ hpre =>
  (θ_run (Cert.KernelIdeal.defs (F := Ideal)) _ _).mono (fun _ h => ⟨arg_kept h, h.2⟩)
    (run_main m ρ fun d => ok_inputs (start m) d (starts_of_range (hpre d).1) (rows_of_range (hpre d).2))

end Cert.KernelIdeal.Csc
end
-- ==== Proof.Sums.lean ====
/-
  The slab's contents as sums, at the extended reals. A nonzero at position `p` of the list adds its value at the place
  `(row within the slab, row index)` when `p` lies in the slab's range of positions; everything the program adds to a slab
  is the sum of these over all positions, whatever the tiles the positions were taken in.
-/
module

public import proofs.«01_k».proof.Proof.TileAll
public import Idealize.ShloMosaic.Lib.WordCmp
public import Idealize.ShloMosaic.PureOps.Ideal

@[expose] public section

noncomputable section

namespace Cert.Proof.Csc

open Idealize.ShloMosaic

/-! ## Adding at indices is a sum over the lanes -/

theorem foldl_sum {α : Type} (st : (α → EReal) → Fin 16 → α → EReal) (t : Fin 16 → EReal) (i : α) (hst : ∀ g k, st g k i = g i + t k) :
    ∀ (l : List (Fin 16)) (g : α → EReal), l.foldl st g i = g i + (l.map t).sum := by
  intro l
  induction l with
  | nil => intro g; exact (add_zero (g i)).symm
  | cons k l ih => intro g; rw [List.foldl_cons, ih, hst, List.map_cons, List.sum_cons, add_assoc]

/-- What the lanes add at `i`, one after the other, is their sum. -/
theorem storeIdx_sum (A : Vec Ideal SA .f32) (idxs : Fin 2 → IVec SL 32) (v : Vec Ideal SL .f32) (mask : IVec SL 1)
    (h : ∀ a x, (idxs a x).toNat < SA.size a) (i : SA.Idx) :
    (storeIdx A idxs v mask true h i : EReal)
      = (A i : EReal) + ∑ k : Fin 16, (if mask (laneIx k) = 1 ∧ ∀ a, (i a).val = (idxs a (laneIx k)).toNat then (v (laneIx k) : EReal) else 0) := by
  rw [Fin.sum_univ_def]
  refine foldl_sum _ _ i (fun g k => ?_) (List.finRange 16) A
  by_cases hm : mask (laneIx k) = 1
  · refine (congrFun (if_pos hm) i).trans ?_
    by_cases ha : ∀ a, (i a).val = (idxs a (laneIx k)).toNat
    · have hi : idxAt idxs h (laneIx k) = i := funext fun a => Fin.ext (ha a).symm
      refine (if_pos fun a => ha a).trans ?_
      rw [if_pos (And.intro hm ha)]
      exact congrArg (fun z => (g z : EReal) + v (laneIx k)) hi
    · refine (if_neg fun hc => ha fun a => hc a).trans ?_
      rw [if_neg (fun hc => ha hc.2), add_zero]
  · refine (congrFun (if_neg hm) i).trans ?_
    rw [if_neg (fun hc => hm hc.1), add_zero]

/-! ## The words of a step -/

/-- The row within the slab of position `n`: the number of the slab's column ends at or below it, at most seven. -/
def relN (b : Fin 8 → ℕ) (n : ℕ) : ℕ := min (∑ j, if b j ≤ n then 1 else 0) 7

theorem cmpi_sge_one {x y : BitVec 32} (hx : x.toNat < 2 ^ 31) (hy : y.toNat < 2 ^ 31) : IntOp.cmpi .sge x y = 1 ↔ y.toNat ≤ x.toNat := by
  show BitVec.ofBool (decide (y.toInt ≤ x.toInt)) = 1#1 ↔ _
  rw [WordCmp.ofBool_decide_eq_one_iff, toInt_of_small hx, toInt_of_small hy]; omega
theorem cmpi_slt_one {x y : BitVec 32} (hx : x.toNat < 2 ^ 31) (hy : y.toNat < 2 ^ 31) : IntOp.cmpi .slt x y = 1 ↔ x.toNat < y.toNat := by
  show BitVec.ofBool (decide (x.toInt < y.toInt)) = 1#1 ↔ _
  rw [WordCmp.ofBool_decide_eq_one_iff, toInt_of_small hx, toInt_of_small hy]; omega

theorem and_one (x y : BitVec 1) : IntOp.andi x y = 1 ↔ x = 1 ∧ y = 1 := by revert x y; decide

theorem maxsi_toNat {a b : BitVec 32} (ha : a.toNat < 2 ^ 31) (hb : b.toNat < 2 ^ 31) : (IntOp.maxsi a b).toNat = max a.toNat b.toNat := by
  unfold IntOp.maxsi
  have h1 := toInt_of_small ha
  have h2 := toInt_of_small hb
  split_ifs with h <;> simp only [BitVec.sle_iff_toInt_le, BitVec.slt_iff_toInt_lt, h1, h2, Nat.cast_le, Nat.cast_lt] at h <;> omega

theorem mask_iff {g : IVec SL 32} {lo hi : BitVec 32} {x : SL.Idx} (hg : (g x).toNat < 2 ^ 31) (hlo : lo.toNat < 2 ^ 31) (hhi : hi.toNat < 2 ^ 31) :
    maskV g lo hi x = 1 ↔ lo.toNat ≤ (g x).toNat ∧ (g x).toNat < hi.toNat := by
  show IntOp.andi (IntOp.cmpi .sge (g x) lo) (IntOp.cmpi .slt (g x) hi) = 1 ↔ _
  rw [and_one, cmpi_sge_one hg hlo, cmpi_slt_one hg hhi]

theorem pass_toNat {g : IVec SL 32} {b : BitVec 32} {x : SL.Idx} (hg : (g x).toNat < 2 ^ 31) (hb : b.toNat < 2 ^ 31) :
    (passV g b x).toNat = if b.toNat ≤ (g x).toNat then 1 else 0 := by
  show (if IntOp.cmpi .sge (g x) b = 1 then (1#32) else 0#32).toNat = _
  simp only [cmpi_sge_one hg hb]
  split_ifs <;> rfl

theorem addi_toNat {a b : IVec SL 32} {x : SL.Idx} {n m : ℕ} (ha : (a x).toNat = n) (hb : (b x).toNat = m) (hn : n + m < 2 ^ 31) :
    (addi a b x).toNat = n + m := by
  show (a x + b x).toNat = _
  rw [BitVec.toNat_add, ha, hb]; omega

/-- The column ends a tile is told. -/
def TileArgs.ends (T : TileArgs) : Fin 8 → BitVec 32 := ![T.b0, T.b1, T.b2, T.b3, T.b4, T.b5, T.b6, T.b7]

theorem rel_toNat {T : TileArgs} {u : BitVec 32} {x : SL.Idx} (hg : (T.pos u x).toNat < 2 ^ 31) (hb : ∀ j, (T.ends j).toNat < 2 ^ 31) :
    (T.rel u x).toNat = relN (fun j => (T.ends j).toNat) (T.pos u x).toNat := by
  have one : ∀ j, (if (T.ends j).toNat ≤ (T.pos u x).toNat then 1 else 0) ≤ 1 := fun j => by split_ifs <;> decide
  have o0 := one 0; have o1 := one 1; have o2 := one 2; have o3 := one 3
  have o4 := one 4; have o5 := one 5; have o6 := one 6; have o7 := one 7
  have h0 := addi_toNat (show (broadcast SL 0#32 x).toNat = 0 from rfl) (pass_toNat hg (hb 0)) (by omega)
  have h1 := addi_toNat h0 (pass_toNat hg (hb 1)) (by omega)
  have h2 := addi_toNat h1 (pass_toNat hg (hb 2)) (by omega)
  have h3 := addi_toNat h2 (pass_toNat hg (hb 3)) (by omega)
  have h4 := addi_toNat h3 (pass_toNat hg (hb 4)) (by omega)
  have h5 := addi_toNat h4 (pass_toNat hg (hb 5)) (by omega)
  have h6 := addi_toNat h5 (pass_toNat hg (hb 6)) (by omega)
  have h7 := addi_toNat h6 (pass_toNat hg (hb 7)) (by omega)
  refine (minsi_toNat (a := _) (b := 7#32) (lt_of_eq_of_lt h7 (by omega)) (by decide)).trans ?_
  refine (congrArg (fun n => min n 7) h7).trans ?_
  unfold relN
  rw [Fin.sum_univ_eight, Nat.zero_add]

end Cert.Proof.Csc
end
-- ==== Proof.TileSum.lean ====
/-
  A tile's contribution to the slab, at the extended reals: the sum over the tile's 2048 positions of what each adds.
-/
module

public import proofs.«01_k».proof.Proof.Sums

@[expose] public section

noncomputable section

namespace Cert.Proof.Csc

open Idealize.ShloMosaic

/-- The index `m` of a tile, and the index `p` of the list. -/
def tIx (m : ℕ) : ST.Idx := fun a => ⟨m % ST.size a, Nat.mod_lt _ (by revert a; decide)⟩
def nIx (p : ℕ) : SN.Idx := fun a => ⟨p % SN.size a, Nat.mod_lt _ (by revert a; decide)⟩

/-- The words a tile is told are small, and the lane numbers are the lane numbers. -/
structure TileArgs.Fits (T : TileArgs) : Prop where
  io : ∀ k : Fin 16, T.io (laneIx k) = BitVec.ofNat 32 k.val
  tb : T.tb.toNat ≤ 1636352
  lo : T.lo.toNat < 2 ^ 31
  hi : T.hi.toNat < 2 ^ 31
  ends : ∀ j, (T.ends j).toNat < 2 ^ 31

/-- What the nonzero at place `m` of the tile adds at `i`. -/
def tterm (T : TileArgs) (xr : ST.Idx → BitVec 32) (xv : ST.Idx → EReal) (i : SA.Idx) (m : ℕ) : EReal :=
  if (T.lo.toNat ≤ T.tb.toNat + m ∧ T.tb.toNat + m < T.hi.toNat) ∧ (i 0).val = relN (fun j => (T.ends j).toNat) (T.tb.toNat + m)
      ∧ (i 1).val = (xr (tIx m)).toNat then xv (tIx m) else 0

variable {T : TileArgs} (hT : T.Fits) {xr : Vec Ideal ST .i32} {xv : Vec Ideal ST .f32} (hr : ∀ x, (xr x : BitVec 32).toNat < 4096)

include hT in
theorem pos_toNat {u : BitVec 32} {n : ℕ} (hu : u.toNat = n) (hn : n < 2048) (k : Fin 16) :
    (T.pos u (laneIx k)).toNat = T.tb.toNat + (n + k.val) := by
  show (T.tb + u + T.io (laneIx k)).toNat = _
  have := hT.tb
  have := k.isLt
  rw [hT.io, BitVec.toNat_add, BitVec.toNat_add, BitVec.toNat_ofNat, hu]; omega

theorem lanes_at {e : EltTy} (x : ST.Idx → Elt Ideal e) {off : Fin 1 → ℕ} (inb : ∀ a, off a + SL.size a ≤ ST.size a) {n : ℕ} (hn : off 0 = n) (k : Fin 16) :
    lanes x off inb (laneIx k) = x (tIx (n + k.val)) := by
  refine congrArg x (funext fun a => Fin.ext ?_)
  obtain rfl : a = 0 := Subsingleton.elim _ _
  have h0 : off 0 + 16 ≤ 2048 := inb 0
  have hk := k.isLt
  show off 0 + 1 * k.val = (n + k.val) % 2048
  omega

include hT hr in
theorem step_sum (k : Fin 32) (j : ℕ) (hj : j < 4) (A : Vec Ideal SA .f32) (i : SA.Idx) :
    (stepAt T xr xv k j hj A i : EReal) = (A i : EReal) + ∑ l ∈ Finset.range 16, tterm T xr xv i (16 * (4 * k.val + j) + l) := by
  have hk := k.isLt
  have hu := uOf_toNat k.isLt j hj
  have hin : InSlab (T.rel (uOf k.val (BitVec.ofNat 32 j)))
      (lanes (F := Ideal) (e := .i32) xr (offOf k.val (BitVec.ofNat 32 j)) (offOf_inb k.isLt j hj)) := inSlab fun x => hr _
  unfold stepAt stepF
  rw [dif_pos hin]
  refine (storeIdx_sum _ _ _ _ _ i).trans (congrArg ((A i : EReal) + ·) ?_)
  rw [Finset.sum_range]
  refine Finset.sum_congr rfl fun l _ => ?_
  have hl := l.isLt
  have hb := hT.tb
  have hp : (T.pos (uOf k.val (BitVec.ofNat 32 j)) (laneIx l)).toNat = T.tb.toNat + (16 * (4 * k.val + j) + l.val) :=
    pos_toNat hT (by rw [hu]; omega) (by omega) l
  have hq : (T.pos (uOf k.val (BitVec.ofNat 32 j)) (laneIx l)).toNat < 2 ^ 31 := by omega
  have h1 := lanes_at (e := .i32) xr (offOf_inb k.isLt j hj) (n := 16 * (4 * k.val + j)) (by show (uOf _ _).toNat = _; rw [hu]; omega) l
  have h2 := lanes_at (e := .f32) xv (offOf_inb k.isLt j hj) (n := 16 * (4 * k.val + j)) (by show (uOf _ _).toNat = _; rw [hu]; omega) l
  unfold tterm
  rw [h2]
  refine if_congr (and_congr ?_ ?_) rfl rfl
  · refine (mask_iff hq hT.lo hT.hi).trans ?_
    rw [show (T.pos _ _).toNat = _ from hp]
  · have hrel := rel_toNat hq hT.ends
    rw [hp] at hrel
    rw [Fin.forall_fin_two]
    refine and_congr ?_ ?_
    · rw [← hrel]; rfl
    · rw [← h1]; rfl

theorem sum_step (f : ℕ → EReal) (n : ℕ) :
    ∑ m ∈ Finset.range (16 * (n + 1)), f m = ∑ m ∈ Finset.range (16 * n), f m + ∑ l ∈ Finset.range 16, f (16 * n + l) := by
  rw [Nat.mul_succ, Finset.sum_range_add]

include hT hr in
theorem trips_sum (A : Vec Ideal SA .f32) (i : SA.Idx) : ∀ n, n ≤ 32 →
    (tripsF T xr xv A n i : EReal) = (A i : EReal) + ∑ m ∈ Finset.range (16 * (4 * n)), tterm T xr xv i m := by
  intro n
  induction n with
  | zero => intro _; exact (add_zero (A i : EReal)).symm
  | succ n ih =>
    intro h
    have hn : n < 32 := h
    unfold tripsF
    rw [dif_pos hn]
    unfold tripF
    rw [step_sum hT hr, step_sum hT hr, step_sum hT hr, step_sum hT hr, ih (by omega)]
    rw [show 4 * (n + 1) = 4 * n + 3 + 1 by omega, sum_step, sum_step, sum_step, sum_step]
    simp only [add_assoc, Nat.add_zero]

include hT hr in
/-- A tile adds its 2048 terms. -/
theorem tile_sum (A : Vec Ideal SA .f32) (i : SA.Idx) :
    (tileF T xr xv A i : EReal) = (A i : EReal) + ∑ m ∈ Finset.range 2048, tterm T xr xv i m :=
  trips_sum hT hr A i 32 le_rfl

end Cert.Proof.Csc
end
-- ==== Proof.SlabSum.lean ====
/-
  A slab's contents, at the extended reals: the sum over all positions of the list of what each adds. The tiles' windows overlap
  at the end of the list, but a tile adds only at positions of its own.
-/
module

public import proofs.«01_k».proof.Proof.TileSum

@[expose] public section

noncomputable section

namespace Cert.Proof.Csc

open Idealize.ShloMosaic

/-- What the nonzero at position `p` adds at `i`, when the positions from `s` to `e` count. -/
def pterm (s e : ℕ) (b : Fin 8 → ℕ) (R : SN.Idx → BitVec 32) (V : SN.Idx → EReal) (i : SA.Idx) (p : ℕ) : EReal :=
  if (s ≤ p ∧ p < e) ∧ (i 0).val = relN b p ∧ (i 1).val = (R (nIx p)).toNat then V (nIx p) else 0

theorem pterm_empty {s e : ℕ} (h : e ≤ s) (b : Fin 8 → ℕ) (R : SN.Idx → BitVec 32) (V : SN.Idx → EReal) (i : SA.Idx) (p : ℕ) :
    pterm s e b R V i p = 0 := by
  unfold pterm
  rw [if_neg]; rintro ⟨⟨h1, h2⟩, -⟩; omega

/-- The positions up to `m` and those of `[lo, hi)` make the positions up to `m'`. -/
theorem pterm_add {s e m m' lo hi : ℕ} (hm : m ≤ m') (hlo : lo = max s m) (hhi : hi = min e m') (b : Fin 8 → ℕ) (R : SN.Idx → BitVec 32)
    (V : SN.Idx → EReal) (i : SA.Idx) (p : ℕ) :
    pterm s (min e m) b R V i p + pterm lo hi b R V i p = pterm s (min e m') b R V i p := by
  unfold pterm
  by_cases hc : (i 0).val = relN b p ∧ (i 1).val = (R (nIx p)).toNat
  · simp only [hc, and_self, and_true]
    by_cases h1 : s ≤ p ∧ p < min e m
    · rw [if_pos h1, if_neg (by omega), if_pos (by omega), add_zero]
    · rw [if_neg h1, zero_add]
      exact if_congr (by omega) rfl rfl
  · simp only [hc, and_false, if_false, add_zero]

/-- A window that holds the positions that count holds the whole sum. -/
theorem sum_window {lo hi w : ℕ} (hlo : lo < hi → w ≤ lo) (hhi : lo < hi → hi ≤ w + 2048) (hw : w ≤ 1636352) (b : Fin 8 → ℕ) (R : SN.Idx → BitVec 32)
    (V : SN.Idx → EReal) (i : SA.Idx) :
    ∑ m ∈ Finset.range 2048, pterm lo hi b R V i (w + m) = ∑ p ∈ Finset.range 1638400, pterm lo hi b R V i p := by
  have h := Finset.sum_Ico_eq_sum_range (pterm lo hi b R V i) w (w + 2048)
  rw [show w + 2048 - w = 2048 by omega] at h
  rw [← h]
  refine Finset.sum_subset (fun p hp => ?_) (fun p _ hp => ?_)
  · rw [Finset.mem_Ico] at hp; rw [Finset.mem_range]; omega
  · unfold pterm
    rw [if_neg]
    rintro ⟨⟨h1, h2⟩, -⟩
    have := hlo (by omega)
    have := hhi (by omega)
    exact hp (Finset.mem_Ico.mpr (by omega))

variable {κ : Kind} (hio : SL.Iotas κ 32 [0]) {s e : BitVec 32} (hs : InArr s) (he : InArr e) {bs : IVec SL 32}
  (hb : ∀ j : Fin 16, (bs (laneIx j)).toNat < 2 ^ 31)

/-- The column ends of a slab as numbers. -/
def endsN (bs : IVec SL 32) (j : Fin 8) : ℕ := (bs (laneIx (j.castLE (by decide)))).toNat

theorem tileArgs_ends (n : BitVec 32) (j : Fin 8) :
    (tileArgs (iota κ SL 32 [0] hio) s e bs n).ends j = bs (laneIx (j.castLE (by decide))) := by
  fin_cases j
  · exact pickW_eq hio 0 bs
  · exact pickW_eq hio 1 bs
  · exact pickW_eq hio 2 bs
  · exact pickW_eq hio 3 bs
  · exact pickW_eq hio 4 bs
  · exact pickW_eq hio 5 bs
  · exact pickW_eq hio 6 bs
  · exact pickW_eq hio 7 bs

section
variable {n : ℕ} (hn : n < 1000)

theorem ofNat_small {n : ℕ} (hn : n < 2 ^ 20) : (BitVec.ofNat 32 n).toNat = n := by rw [BitVec.toNat_ofNat]; omega

include hs hn in
theorem tile_tb : (tileArgs (iota κ SL 32 [0] hio) s e bs (BitVec.ofNat 32 n)).tb.toNat = winN s n :=
  winW_toNat hs hn (mul2048_toNat (ofNat_small (by omega)) (by omega))

include hs hn in
theorem tile_lo : (tileArgs (iota κ SL 32 [0] hio) s e bs (BitVec.ofNat 32 n)).lo.toNat = max s.toNat (s.toNat / 8 * 8 + 2048 * n) := by
  have h1 := mul2048_toNat (ofNat_small (n := n) (by omega)) (by omega)
  have h2 : (Scalar.addi (baseW s) (Scalar.muli (BitVec.ofNat 32 n) 2048#32)).toNat = s.toNat / 8 * 8 + 2048 * n := by
    unfold InArr at hs
    show (baseW s + Scalar.muli (BitVec.ofNat 32 n) 2048#32).toNat = _
    rw [BitVec.toNat_add, baseW_toNat, h1]; omega
  unfold InArr at hs
  refine (maxsi_toNat (by omega) (by omega)).trans ?_
  rw [h2]

include hs he hn in
theorem tile_hi : (tileArgs (iota κ SL 32 [0] hio) s e bs (BitVec.ofNat 32 n)).hi.toNat = min e.toNat (s.toNat / 8 * 8 + 2048 * (n + 1)) := by
  have h0 : (Scalar.addi (BitVec.ofNat 32 n) 1#32).toNat = n + 1 := add_ofNat_toNat (m := 1) (ofNat_small (by omega)) (by omega)
  have h1 := mul2048_toNat h0 (by omega)
  have h2 : (Scalar.addi (baseW s) (Scalar.muli (Scalar.addi (BitVec.ofNat 32 n) 1#32) 2048#32)).toNat = s.toNat / 8 * 8 + 2048 * (n + 1) := by
    unfold InArr at hs
    show (baseW s + Scalar.muli (Scalar.addi (BitVec.ofNat 32 n) 1#32) 2048#32).toNat = _
    rw [BitVec.toNat_add, baseW_toNat, h1]; omega
  unfold InArr at hs he
  refine (minsi_toNat (by omega) (by omega)).trans ?_
  rw [h2]

include hs he hb hn in
theorem tile_fits : (tileArgs (iota κ SL 32 [0] hio) s e bs (BitVec.ofNat 32 n)).Fits where
  io k := iota_lane hio k
  tb := by rw [tile_tb hio hs hn]; unfold winN; omega
  lo := by rw [tile_lo hio hs hn]; unfold InArr at hs; omega
  hi := by rw [tile_hi hio hs he hn]; unfold InArr at he; omega
  ends j := by rw [tileArgs_ends]; exact hb _

theorem tile_emb {m : ℕ} (hm : m < 2048) : (tileRect (offN s n) (offN_inb s n)).emb (tIx m) = nIx (winN s n + m) := by
  funext a
  apply Fin.ext
  obtain rfl : a = 0 := Subsingleton.elim _ _
  have h : winN s n + 2048 ≤ 1638400 := offN_inb s n 0
  show winN s n + 1 * (m % 2048) = (winN s n + m) % 1638400
  omega

include hs he hn in
theorem tterm_eq (R : Vec Ideal SN .i32) (V : Vec Ideal SN .f32) (i : SA.Idx) {m : ℕ} (hm : m < 2048) :
    tterm (tileArgs (iota κ SL 32 [0] hio) s e bs (BitVec.ofNat 32 n)) (tabTile (F := Ideal) (e := .i32) R s n) (tabTile (F := Ideal) (e := .f32) V s n) i m
      = pterm (max s.toNat (s.toNat / 8 * 8 + 2048 * n)) (min e.toNat (s.toNat / 8 * 8 + 2048 * (n + 1))) (endsN bs) R V i (winN s n + m) := by
  have h1 : (fun j => ((tileArgs (iota κ SL 32 [0] hio) s e bs (BitVec.ofNat 32 n)).ends j).toNat) = endsN bs := by
    funext j; rw [tileArgs_ends]; rfl
  have h2 : tabTile (F := Ideal) (e := .i32) R s n (tIx m) = R (nIx (winN s n + m)) := congrArg R (tile_emb hm)
  have h3 : tabTile (F := Ideal) (e := .f32) V s n (tIx m) = V (nIx (winN s n + m)) := congrArg V (tile_emb hm)
  unfold tterm pterm
  rw [h1, h2, h3, tile_lo hio hs hn, tile_hi hio hs he hn, tile_tb hio hs hn]

include hs he hb in
/-- The slab after its first `n` tiles: the positions up to the end of tile `n` have been added. -/
theorem slabN_sum (z₀ : EReal) (R : Vec Ideal SN .i32) (V : Vec Ideal SN .f32) (hR : ∀ x, (R x : BitVec 32).toNat < 4096) (i : SA.Idx) :
    ∀ n, n ≤ ntN s e → (slabN (F := Ideal) z₀ (iota κ SL 32 [0] hio) s e bs R V n i : EReal)
      = z₀ + ∑ p ∈ Finset.range 1638400, pterm s.toNat (min e.toNat (s.toNat / 8 * 8 + 2048 * n)) (endsN bs) R V i p := by
  intro n
  induction n with
  | zero =>
    intro _
    rw [Finset.sum_eq_zero fun p _ => pterm_empty (by omega) _ _ _ _ _]
    exact (add_zero z₀).symm
  | succ n ih =>
    intro h
    have hlt : n < ntN s e := h
    have h801 := ntN_le (s := s) he
    have hn : n < 1000 := by omega
    unfold slabN
    rw [if_pos hlt]
    refine (tile_sum (tile_fits hio hs he hb hn) (fun x => hR _) _ i).trans ?_
    rw [ih (by omega), Finset.sum_congr rfl fun m hm => tterm_eq hio hs he hn R V i (Finset.mem_range.mp hm), add_assoc]
    refine congrArg (z₀ + ·) ?_
    unfold InArr at he
    rw [sum_window (by unfold winN; omega) (by unfold winN; omega) (by unfold winN; omega), ← Finset.sum_add_distrib]
    exact Finset.sum_congr rfl fun p _ => pterm_add (by omega) rfl rfl _ _ _ _ _
end

include hs he hb in
/-- The slab. -/
theorem slabF_sum (z₀ : EReal) (R : Vec Ideal SN .i32) (V : Vec Ideal SN .f32) (hR : ∀ x, (R x : BitVec 32).toNat < 4096) (i : SA.Idx) :
    (slabF (F := Ideal) z₀ (iota κ SL 32 [0] hio) s e bs R V i : EReal)
      = z₀ + ∑ p ∈ Finset.range 1638400, pterm s.toNat e.toNat (endsN bs) R V i p := by
  unfold slabF
  rw [slabN_sum hio hs he hb z₀ R V hR i _ le_rfl, min_eq_left]
  unfold ntN; omega

end Cert.Proof.Csc
end
-- ==== Proof.Column.lean ====
/-
  The matrix the sums are to be: each nonzero belongs to the column whose range of positions holds it. The number of column ends
  at or below a position is the column's number, so counting them is another way of saying which column it is.
-/
module

public import proofs.«01_k».proof.Proof.SlabSum

@[expose] public section

noncomputable section

namespace Cert.Proof.Csc

open Idealize.ShloMosaic

/-- The entry of the matrix at row `r` and column `c`: the sum of the values of the column's nonzeros in that row, `E` giving the columns' first positions. -/
def dense (E : ℕ → ℕ) (R : SN.Idx → BitVec 32) (V : SN.Idx → EReal) (r c : ℕ) : EReal :=
  ∑ p ∈ Finset.range 1638400, if (E c ≤ p ∧ p < E (c + 1)) ∧ r = (R (nIx p)).toNat then V (nIx p) else 0

/-! ## Counting the columns' ends -/

theorem ends_mono {E : ℕ → ℕ} {n : ℕ} (hE : ∀ k < n, E k ≤ E (k + 1)) {a b : ℕ} (hab : a ≤ b) (hb : b ≤ n) : E a ≤ E b := by
  induction b with
  | zero => rw [Nat.le_zero.mp hab]
  | succ b ih =>
    rcases Nat.lt_or_ge b a with h | h
    · rw [show a = b + 1 by omega]
    · exact (ih h (by omega)).trans (hE b (by omega))

/-- The number of the first `n` columns' ends at or below `p`. -/
def countN (E : ℕ → ℕ) (n p : ℕ) : ℕ := ∑ j ∈ Finset.range n, if E (j + 1) ≤ p then 1 else 0

theorem countN_le (E : ℕ → ℕ) (n p : ℕ) : countN E n p ≤ n := by
  unfold countN
  refine (Finset.sum_le_card_nsmul _ _ 1 fun j _ => by split_ifs <;> decide).trans ?_
  rw [Finset.card_range]; simp

theorem countN_of {E : ℕ → ℕ} {n p c : ℕ} (hE : ∀ k < n, E k ≤ E (k + 1)) (hc : c ≤ n) (h1 : E c ≤ p) (h2 : c < n → p < E (c + 1)) : countN E n p = c := by
  unfold countN
  rw [← Finset.sum_range_add_sum_Ico _ hc, Finset.sum_eq_zero (s := Finset.Ico c n), Finset.sum_congr rfl (g := fun _ => 1)]
  · simp
  · intro j hj
    have hj := Finset.mem_range.mp hj
    exact if_pos ((ends_mono hE (by omega) hc).trans h1)
  · intro j hj
    have hj := Finset.mem_Ico.mp hj
    have := h2 (by omega)
    have := ends_mono hE (show c + 1 ≤ j + 1 by omega) (by omega)
    exact if_neg (by omega)

/-- The count is the column's number. -/
theorem countN_iff {E : ℕ → ℕ} {n p : ℕ} (hE : ∀ k < n, E k ≤ E (k + 1)) (h0 : E 0 ≤ p) {c : ℕ} (hc : c ≤ n) :
    countN E n p = c ↔ E c ≤ p ∧ (c < n → p < E (c + 1)) := by
  refine ⟨fun h => ?_, fun h => countN_of hE hc h.1 h.2⟩
  have hs : E (Nat.findGreatest (fun k => E k ≤ p) n) ≤ p := Nat.findGreatest_spec (P := fun k => E k ≤ p) (Nat.zero_le n) h0
  have hle : Nat.findGreatest (fun k => E k ≤ p) n ≤ n := Nat.findGreatest_le n
  have hg : Nat.findGreatest (fun k => E k ≤ p) n < n → p < E (Nat.findGreatest (fun k => E k ≤ p) n + 1) := fun hlt =>
    not_le.mp (Nat.findGreatest_is_greatest (P := fun k => E k ≤ p) (Nat.lt_succ_self _) hlt)
  have := countN_of hE hle hs hg
  rw [h] at this
  rw [this]
  exact ⟨hs, hg⟩

/-- Below the last column's end the count is at most the last column. -/
theorem countN_lt {E : ℕ → ℕ} {n p : ℕ} (hE : ∀ k < n, E k ≤ E (k + 1)) (h0 : E 0 ≤ p) (hp : p < E n) : countN E n p < n := by
  refine lt_of_le_of_ne (countN_le E n p) fun h => ?_
  have := ((countN_iff hE h0 le_rfl).mp h).1
  omega

theorem relN_iff {E : ℕ → ℕ} {p : ℕ} (hE : ∀ k < 8, E k ≤ E (k + 1)) (h0 : E 0 ≤ p) (hp : p < E 8) {c : ℕ} (hc : c < 8) :
    c = relN (fun j => E (j.val + 1)) p ↔ E c ≤ p ∧ p < E (c + 1) := by
  have h : ∑ j : Fin 8, (if E (j.val + 1) ≤ p then 1 else 0) = countN E 8 p := (Finset.sum_range fun j => if E (j + 1) ≤ p then 1 else 0).symm
  have hlt := countN_lt hE h0 hp
  unfold relN
  rw [h, min_eq_left (by omega), eq_comm, countN_iff hE h0 hc.le]
  exact and_congr_right fun _ => ⟨fun h => h hc, fun h _ => h⟩

/-! ## A slab of the matrix -/

/-- A slab's term is its column's. -/
theorem pterm_eq {E : ℕ → ℕ} (hE : ∀ k < 8, E k ≤ E (k + 1)) (R : SN.Idx → BitVec 32) (V : SN.Idx → EReal) (i : SA.Idx) (p : ℕ) :
    pterm (E 0) (E 8) (fun j => E (j.val + 1)) R V i p
      = if (E (i 0).val ≤ p ∧ p < E ((i 0).val + 1)) ∧ (i 1).val = (R (nIx p)).toNat then V (nIx p) else 0 := by
  have hc : (i 0).val < 8 := (i 0).isLt
  unfold pterm
  refine if_congr ?_ rfl rfl
  by_cases hp : E 0 ≤ p ∧ p < E 8
  · rw [relN_iff hE hp.1 hp.2 hc]
    exact ⟨fun h => h.2, fun h => ⟨hp, h⟩⟩
  · refine ⟨fun h => absurd h.1 hp, fun h => absurd ⟨?_, ?_⟩ hp⟩
    · exact (ends_mono hE (Nat.zero_le _) hc.le).trans h.1.1
    · exact lt_of_lt_of_le h.1.2 (ends_mono hE hc le_rfl)

variable {κ : Kind} (hio : SL.Iotas κ 32 [0])

/-- A slab whose column starts and ends are those of the columns from `c₀` on holds these columns of the matrix. -/
theorem slabV_dense {E : ℕ → ℕ} {c₀ : ℕ} (hE : ∀ k < 4096, E k ≤ E (k + 1)) (hc₀ : c₀ + 8 ≤ 4096)
    {B B' : SB.Idx → BitVec 32} {g : ℕ} (hB : ∀ x, InArr (B x)) (hB' : ∀ x, InArr (B' x))
    (h0 : (bnd (F := Ideal) B g (laneIx 0)).toNat = E c₀) (h1 : ∀ j : Fin 8, (bnd (F := Ideal) B' g (laneIx (j.castLE (by decide)))).toNat = E (c₀ + j.val + 1))
    (z₀ : EReal) (R : Vec Ideal SN .i32) (V : Vec Ideal SN .f32) (hR : ∀ x, (R x : BitVec 32).toNat < 4096) (i : SA.Idx) :
    (slabV (F := Ideal) z₀ (iota κ SL 32 [0] hio) B B' R V g i : EReal) = z₀ + dense E R V (i 1).val (c₀ + (i 0).val) := by
  have hs : pickW (iota κ SL 32 [0] hio) 0#32 (bnd (F := Ideal) B g) = bnd (F := Ideal) B g (laneIx 0) := pickW_eq hio 0 _
  have he : pickW (iota κ SL 32 [0] hio) 7#32 (bnd (F := Ideal) B' g) = bnd (F := Ideal) B' g (laneIx 7) := pickW_eq hio 7 _
  unfold slabV
  rw [hs, he]
  refine (slabF_sum (s := bnd (F := Ideal) B g (laneIx 0)) (e := bnd (F := Ideal) B' g (laneIx 7)) (bs := bnd (F := Ideal) B' g) hio (hB _) (hB' _) (fun j => lt_of_le_of_lt (hB' _) (by decide)) z₀ R V hR i).trans (congrArg (z₀ + ·) ?_)
  have hends : endsN (bnd (F := Ideal) B' g) = fun j => E (c₀ + (j.val + 1)) := funext fun j => h1 j
  have h8 : (bnd (F := Ideal) B' g (laneIx 7)).toNat = E (c₀ + 8) := h1 7
  rw [h0, h8, hends]
  unfold dense
  exact Finset.sum_congr rfl fun p _ => pterm_eq (E := fun k => E (c₀ + k)) (fun k hk => hE (c₀ + k) (by omega)) R V i p

end Cert.Proof.Csc
end
-- ==== Proof.Scatter.lean ====
/-
  The reference's matrix, read at an entry: the sum of the values whose row and column are the entry's.
-/
module

public import proofs.«01_k».proof.ReferenceIdeal
public import Idealize.ShloMosaic.Lib.Routing.OpsPair
public import Idealize.ShloMosaic.Lib.IndicatorCount
public import Idealize.ShloMosaic.Lib.Pipeline.Value
public import Idealize.ShloMosaic.PureOps.Ideal
public import proofs.«01_k».proof.Proof.Column

@[expose] public section

set_option maxRecDepth 16384

noncomputable section

namespace Cert.ReferenceIdeal.Csc

open Idealize.ShloMosaic Idealize.ShloMosaic.ValueIdx
open Cert.ReferenceIdeal Cert.Proof.Csc
open Facts₀

variable [Facts₀]

/-! ## Where an update of the scatter lands -/

/-- An index of the scatter's index words. -/
def wordIx (j : S1638400.Idx) (q : Fin 2) : S1638400x2.Idx
  | 0 => ⟨(j 0).val, (j 0).isLt⟩
  | 1 => ⟨q.val, q.isLt⟩

/-- An update lands at the entry its two words name. -/
theorem lands (idx : IVec S1638400x2 32) (j : S1638400.Idx) (i : S4096x4096.Idx) :
    scatter_S4096x4096_S1638400x2_S1638400_n_01_01_1.resultIdx? j idx = some i
      ↔ (idx (wordIx j 0)).toInt = (i 0).val ∧ (idx (wordIx j 1)).toInt = (i 1).val := by
  have hwin : ∀ q : Fin 2, scatter_S4096x4096_S1638400x2_S1638400_n_01_01_1.window j q = 0 := fun q => by
    unfold ScatterDims.window
    rw [dif_neg fun h => (of_decide_eq_true (List.mem_filter.1 h).2) (by show q ∈ [0, 1]; fin_cases q <;> simp)]
  have hm : ∀ q : Fin 2, q ∈ scatter_S4096x4096_S1638400x2_S1638400_n_01_01_1.scatterDimsToOperandDims := fun q => by
    show q ∈ [0, 1]; fin_cases q <;> simp
  have hsi : ∀ q : Fin 2, scatter_S4096x4096_S1638400x2_S1638400_n_01_01_1.siIdx j
      ⟨scatter_S4096x4096_S1638400x2_S1638400_n_01_01_1.scatterDimsToOperandDims.idxOf q, List.idxOf_lt_length_iff.2 (hm q)⟩ = wordIx j q := fun q => by
    funext b
    apply Fin.ext
    match b with
    | ⟨0, _⟩ => rfl
    | ⟨1, _⟩ =>
      unfold ScatterDims.siIdx
      rw [dif_pos (show (1 : ℕ) = scatter_S4096x4096_S1638400x2_S1638400_n_01_01_1.indexVectorDim from rfl)]
      show List.idxOf q [0, 1] = q.val
      fin_cases q <;> rfl
  have hstart : ∀ q : Fin 2, scatter_S4096x4096_S1638400x2_S1638400_n_01_01_1.start j idx q = (idx (wordIx j q)).toInt := fun q => by
    unfold ScatterDims.start
    rw [dif_pos (hm q), hsi]
  have key := Routing.resultIdx?_ix2 (R := 4096) (C := 4096) scatter_S4096x4096_S1638400x2_S1638400_n_01_01_1 j idx (i 0) (i 1)
  have hi : (ix2 (i 0) (i 1) : S4096x4096.Idx) = i := (eq_ix2 i).symm
  rw [hstart, hstart, hwin, hwin] at key
  rw [← congrArg some hi]
  refine key.trans ?_
  simp only [Nat.cast_zero, add_zero]

/-- The scatter at an entry. -/
theorem scatter_sum (x : FVec Ideal S4096x4096 .f32) (idx : IVec S1638400x2 32) (V : FVec Ideal S1638400 .f32) (i : S4096x4096.Idx) :
    (Host.scatterAdd scatter_S4096x4096_S1638400x2_S1638400_n_01_01_1 x idx V i : EReal)
      = (x i : EReal) + ∑ p ∈ Finset.range 1638400,
          if (idx (wordIx (nIx p) 0)).toInt = (i 0).val ∧ (idx (wordIx (nIx p) 1)).toInt = (i 1).val then (V (nIx p) : EReal) else 0 := by
  show (x i : EReal) + _ = _
  refine congrArg ((x i : EReal) + ·) ?_
  rw [Finset.sum_filter]
  refine Finset.sum_bij' (fun j _ => (j 0).val) (fun p _ => nIx p) (fun j _ => Finset.mem_range.mpr (j 0).isLt) (fun _ _ => Finset.mem_univ _) (fun j _ => ?_)
    (fun p hp => Nat.mod_eq_of_lt (Finset.mem_range.mp hp)) (fun j _ => ?_)
  · funext a
    obtain rfl : a = 0 := Subsingleton.elim _ _
    exact Fin.ext (Nat.mod_eq_of_lt (j 0).isLt)
  · have hj : nIx (j 0).val = j := by
      funext a
      obtain rfl : a = 0 := Subsingleton.elim _ _
      exact Fin.ext (Nat.mod_eq_of_lt (j 0).isLt)
    show _ = if (idx (wordIx (nIx (j 0).val) 0)).toInt = (i 0).val ∧ (idx (wordIx (nIx (j 0).val) 1)).toInt = (i 1).val then (V (nIx (j 0).val) : EReal) else 0
    rw [hj]
    exact if_congr (lands idx j i) rfl rfl

end Cert.ReferenceIdeal.Csc
end
-- ==== Proof.Count.lean ====
/-
  The column the reference gives a nonzero: the number of columns that end at or before the nonzero's position.
-/
module

public import proofs.«01_k».proof.Proof.Scatter
public import Idealize.ShloMosaic.Lib.WordCmp

@[expose] public section

set_option maxRecDepth 16384

noncomputable section

namespace Cert.ReferenceIdeal.Csc

open Idealize.ShloMosaic
open Cert.ReferenceIdeal Cert.Proof.Csc
open Facts₀

variable [Facts₀]

/-! ## The count -/

/-- For each column and position, whether the column ends at or before the position. -/
def ended (A : IVec S4097 32) : IVec S4096x1638400 1 :=
  cmpi .sle (broadcastInDim S4096x1638400 ![0, 1] bcast_S4096x1_S4096x1638400_0_1 (broadcastInDim S4096x1 ![0] bcast_S4096_S4096x1_0 (extractStridedSlice S4096 ![1] A slices_S4097_S4096_1)))
    (broadcastInDim S4096x1638400 ![0, 1] bcast_S1x1638400_S4096x1638400_0_1 (broadcastInDim S1x1638400 ![1] bcast_S1638400_S1x1638400_1 (iotaInDim S1638400 32 0)))

/-- The count of the columns ended. -/
def counted (A : IVec S4097 32) : IVec S1638400 32 :=
  Host.reduce IntOp.addi (extui 32 (ended A) natLt_1_32) (constantI S_ 32 0#32) reducesTo_S4096x1638400_S1638400_d0 h_S_

/-- The count kept between the first and the last column. -/
def cols (A : IVec S4097 32) : IVec S1638400 32 :=
  minsi (broadcastInDim S1638400 ![] bcast_S_S1638400 (id (constantI S_ 32 4095#32)))
    (maxsi (broadcastInDim S1638400 ![] bcast_S_S1638400 (id (constantI S_ 32 0#32))) (counted A))

/-- A word below zero has the length of the axis added; others stay. -/
def wrapped (x : IVec S1638400 32) : IVec S1638400 32 :=
  select (cmpi .slt x (broadcastInDim S1638400 ![] bcast_S_S1638400 (constantI S_ 32 0#32)))
    (addi x (broadcastInDim S1638400 ![] bcast_S_S1638400 (constantI S_ 32 4096#32))) x

/-- Two words per nonzero. -/
def paired (x y : IVec S1638400 32) : IVec S1638400x2 32 :=
  concatenate S1638400x2 1 [⟨S1638400x1, broadcastInDim S1638400x1 ![0] bcast_S1638400_S1638400x1_0 x⟩,
    ⟨S1638400x1, broadcastInDim S1638400x1 ![0] bcast_S1638400_S1638400x1_0 y⟩] concatenates_S1638400x1_S1638400x1_S1638400x2_d1

/-- An index of the column's ends. -/
def endIx (k : Fin 4096) : S4097.Idx
  | 0 => ⟨k.val + 1, Nat.succ_lt_succ k.isLt⟩
def cellIx (k : Fin 4096) (p : S1638400.Idx) : S4096x1638400.Idx
  | 0 => ⟨k.val, k.isLt⟩
  | 1 => ⟨(p 0).val, (p 0).isLt⟩

theorem ended_apply (A : IVec S4097 32) (k : Fin 4096) (p : S1638400.Idx) :
    ended A (cellIx k p) = IntOp.cmpi .sle (A (endIx k)) (BitVec.ofNat 32 (p 0).val) := by
  unfold ended
  refine congrArg₂ (IntOp.cmpi .sle) ?_ ?_
  · refine (broadcastInDim_apply _ _ _ _ (fun | 0 => ⟨k.val, k.isLt⟩ | 1 => ⟨0, Nat.one_pos⟩ : S4096x1.Idx) fun a => ?_).trans
      ((broadcastInDim_apply _ _ _ _ (fun | 0 => ⟨k.val, k.isLt⟩ : S4096.Idx) fun a => ?_).trans
        (extractStridedSlice_apply _ _ _ _ (endIx k) fun a => ?_))
    · match a with
      | ⟨0, _⟩ => rfl
      | ⟨1, _⟩ => rfl
    · obtain rfl : a = 0 := Subsingleton.elim _ _
      rfl
    · obtain rfl : a = 0 := Subsingleton.elim _ _
      exact Nat.add_comm _ _
  · refine (broadcastInDim_apply _ _ _ _ (fun | 0 => ⟨0, Nat.one_pos⟩ | 1 => ⟨(p 0).val, (p 0).isLt⟩ : S1x1638400.Idx) fun a => ?_).trans
      ((broadcastInDim_apply _ _ _ _ p fun a => ?_).trans rfl)
    · match a with
      | ⟨0, _⟩ => rfl
      | ⟨1, _⟩ => rfl
    · obtain rfl : a = 0 := Subsingleton.elim _ _
      rfl

variable {A : IVec S4097 32} {E : ℕ → ℕ}

theorem ended_one (hA : ∀ x : S4097.Idx, (A x).toNat = E (x 0).val) (hB : ∀ k ≤ 4096, E k ≤ 1638400) (k : Fin 4096) (p : S1638400.Idx) :
    ended A (cellIx k p) = 1#1 ↔ E (k.val + 1) ≤ (p 0).val := by
  have hp : (p 0).val < 1638400 := (p 0).isLt
  have h := hA (endIx k)
  have hb := hB (k.val + 1) k.isLt
  have hw : (BitVec.ofNat 32 (p 0).val).toNat = (p 0).val := by
    rw [BitVec.toNat_ofNat]; exact Nat.mod_eq_of_lt (by omega)
  have h' : (A (endIx k)).toNat = E (k.val + 1) := h
  rw [ended_apply, WordCmp.cmpi_sle_of_lt (by rw [h']; omega) (by rw [hw]; omega), WordCmp.ofBool_decide_eq_one_iff, h', hw]

theorem counted_toNat (hA : ∀ x : S4097.Idx, (A x).toNat = E (x 0).val) (hB : ∀ k ≤ 4096, E k ≤ 1638400) (p : S1638400.Idx) :
    (counted A p).toNat = countN E 4096 (p 0).val := by
  have hr : S4096x1638400.Reduces [0] S1638400 := by decide
  have hl : ∀ k : Fin 4096, hr.lift p k = cellIx k p := fun k => by
    funext a
    match a with
    | ⟨0, _⟩ => rfl
    | ⟨1, _⟩ => rfl
  have e : counted A p = BitVec.ofNat 32 ((Finset.univ : Finset (Fin 4096)).filter fun k => ended A (cellIx k p) = 1#1).card :=
    (Host.reduce_eq_fold_single IntOp.addi _ _ _ hr _ p).trans
      ((Finset.fold_congr fun k _ => congrArg (fun z => (ended A z).setWidth 32) (hl k)).trans
        (IndicatorCount.fold_addi_setWidth_eq_card (fun k : Fin 4096 => ended A (cellIx k p)) Finset.univ))
  have hc : ((Finset.univ : Finset (Fin 4096)).filter fun k => ended A (cellIx k p) = 1#1).card = countN E 4096 (p 0).val := by
    rw [Finset.card_filter]
    unfold countN
    rw [Finset.sum_range]
    exact Finset.sum_congr rfl fun k _ => if_congr (ended_one hA hB k p) rfl rfl
  have hle := countN_le E 4096 (p 0).val
  rw [e, hc, BitVec.toNat_ofNat]
  exact Nat.mod_eq_of_lt (by omega)

/-- The column of the nonzero at a position. -/
theorem cols_toNat (hA : ∀ x : S4097.Idx, (A x).toNat = E (x 0).val) (hB : ∀ k ≤ 4096, E k ≤ 1638400) (hE : ∀ k < 4096, E k ≤ E (k + 1))
    (h0 : E 0 = 0) (hN : E 4096 = 1638400) (p : S1638400.Idx) : (cols A p).toNat = countN E 4096 (p 0).val := by
  have hp : (p 0).val < 1638400 := (p 0).isLt
  have hlt := countN_lt hE (h0.le.trans (Nat.zero_le _)) (hN ▸ hp)
  have hc := counted_toNat hA hB p
  have h1 : (IntOp.maxsi 0#32 (counted A p)).toNat = countN E 4096 (p 0).val := by
    rw [maxsi_toNat (by decide) (by omega), hc]
    exact max_eq_right (Nat.zero_le _)
  show (IntOp.minsi 4095#32 (IntOp.maxsi 0#32 (counted A p))).toNat = _
  rw [minsi_toNat (by decide) (by omega), h1]
  exact min_eq_right (by show _ ≤ 4095; omega)

/-! ## The two words of a nonzero -/

theorem wrapped_apply (x : IVec S1638400 32) (p : S1638400.Idx) (h : (x p).toNat < 2 ^ 31) : wrapped x p = x p :=
  Routing.wrap_of_lt (x p) (IntOp.addi (x p) 4096#32) h

/-- The place of a nonzero's word in one of the two columns of words. -/
def oneIx (p : S1638400.Idx) : S1638400x1.Idx
  | 0 => ⟨(p 0).val, (p 0).isLt⟩
  | 1 => ⟨0, Nat.one_pos⟩

theorem paired_zero (x y : IVec S1638400 32) (p : S1638400.Idx) : paired x y (wordIx p 0) = x p := by
  unfold paired
  refine (concatenate_pair_apply_left (1 : Fin S1638400x2.rank) (broadcastInDim S1638400x1 ![0] bcast_S1638400_S1638400x1_0 x) (broadcastInDim S1638400x1 ![0] bcast_S1638400_S1638400x1_0 y)
    concatenates_S1638400x1_S1638400x1_S1638400x2_d1 (wordIx p 0) rfl (oneIx p) fun a => ?_).trans
    (broadcastInDim_apply _ _ _ _ p fun a => ?_)
  · match a with
    | ⟨0, _⟩ => rfl
    | ⟨1, _⟩ => rfl
  · obtain rfl : a = 0 := Subsingleton.elim _ _
    rfl

theorem paired_one (x y : IVec S1638400 32) (p : S1638400.Idx) : paired x y (wordIx p 1) = y p := by
  unfold paired
  refine (concatenate_pair_apply_right (1 : Fin S1638400x2.rank) (broadcastInDim S1638400x1 ![0] bcast_S1638400_S1638400x1_0 x) (broadcastInDim S1638400x1 ![0] bcast_S1638400_S1638400x1_0 y)
    concatenates_S1638400x1_S1638400x1_S1638400x2_d1 (wordIx p 1) rfl rfl (oneIx p) (fun a h => ?_) ?_).trans
    (broadcastInDim_apply _ _ _ _ p fun a => ?_)
  · match a, h with
    | ⟨0, _⟩, _ => rfl
    | ⟨1, _⟩, h => exact absurd rfl h
  · rfl
  · obtain rfl : a = 0 := Subsingleton.elim _ _
    rfl

/-! ## The matrix -/

/-- The reference's matrix. -/
def matrix (A : IVec S4097 32) (R : IVec S1638400 32) (V : FVec Ideal S1638400 .f32) : FVec Ideal S4096x4096 .f32 :=
  Host.scatterAdd scatter_S4096x4096_S1638400x2_S1638400_n_01_01_1 (broadcastInDim S4096x4096 ![] bcast_S_S4096x4096 (constant S_ .f32 0x00000000#32))
    (paired (wrapped R) (wrapped (cols A))) V

/-- The reference's matrix is the matrix of the sums. -/
theorem matrix_dense (hA : ∀ x : S4097.Idx, (A x).toNat = E (x 0).val) (hB : ∀ k ≤ 4096, E k ≤ 1638400) (hE : ∀ k < 4096, E k ≤ E (k + 1))
    (h0 : E 0 = 0) (hN : E 4096 = 1638400) (R : IVec S1638400 32) (hR : ∀ p, (R p).toNat < 4096) (V : FVec Ideal S1638400 .f32)
    (i : S4096x4096.Idx) :
    (matrix A R V i : EReal) = FloatOps.ofBits (F := Ideal) .f32 0#32 + dense E R V (i 0).val (i 1).val := by
  refine (scatter_sum _ _ V i).trans (congrArg (FloatOps.ofBits (F := Ideal) .f32 0#32 + ·) ?_)
  unfold dense
  refine Finset.sum_congr rfl fun p hp => if_congr ?_ rfl rfl
  have hp' : p < 1638400 := Finset.mem_range.mp hp
  have hi : (i 1).val < 4096 := (i 1).isLt
  have hq : ((nIx p : S1638400.Idx) 0).val = p := Nat.mod_eq_of_lt hp'
  have hc : (cols A (nIx p)).toNat = countN E 4096 p := (cols_toNat hA hB hE h0 hN (nIx p)).trans (congrArg _ hq)
  have hlt : countN E 4096 p < 4096 := countN_lt hE (by omega) (by omega)
  have hr := hR (nIx p)
  have hk := countN_iff hE (p := p) (by omega) hi.le
  rw [paired_zero, paired_one, wrapped_apply R (nIx p) (by omega), wrapped_apply (cols A) (nIx p) (by omega),
    toInt_of_small (by omega), toInt_of_small (by omega), hc, Nat.cast_inj, Nat.cast_inj, hk]
  exact ⟨fun h => ⟨⟨h.2.1, h.2.2 hi⟩, h.1.symm⟩, fun h => ⟨h.2.symm, h.1.1, fun _ => h.1.2⟩⟩

end Cert.ReferenceIdeal.Csc
end
-- ==== Proof.TurnIdeal.lean ====
/-
  What a transposition leaves: half of the columns of its result are the rows of the array it reads, the other half is as it was.
-/
module

public import proofs.«01_k».proof.Proof.RegionIdeal
public import Idealize.ShloMosaic.Lib.Pipeline.ValueKit

@[expose] public section

set_option maxRecDepth 16384

noncomputable section

namespace Cert.KernelIdeal.Csc

open Idealize.ShloMosaic Idealize.ShloMosaic.TcCoe Idealize.ShloMosaic.Tactic
open Idealize.ShloMosaic.Pipeline (Dat Cfg Window cellOf)
open Cert.KernelIdeal Cert.KernelIdeal.Gen Cert.Proof.Csc

variable {F : FTy → Type} [FloatOps F] [∀ e, Nonempty (Elt F e)]
variable (V : Dev nD → Valuation τ sig (Elt F))

/-- Where the entry `i` of the matrix lies in the half that holds its column as a row. -/
def turnIx (i : S4096x4096.Idx) : S2048x4096.Idx
  | 0 => ⟨(i 1).val % 2048, Nat.mod_lt _ (by decide)⟩
  | 1 => ⟨(i 0).val, (i 0).isLt⟩

/-- An index of a block, its coordinates exchanged. -/
def swapIx (y : S1024x1024.Idx) : S1024x1024.Idx
  | 0 => ⟨(y 1).val, (y 1).isLt⟩
  | 1 => ⟨(y 0).val, (y 0).isLt⟩

theorem flip_apply (x : Vec F S1024x1024 .f32) (y : S1024x1024.Idx) : flip x y = x (swapIx y) := by
  unfold flip
  rw [View.canon_cons_unit_lit _ _ _ (by decide), View.ld_unit_lit _ _ (by decide)]
  unfold k2_pay1
  dsimp only
  rw [shapeCast_self]
  exact transpose_apply _ _ _ _ _ fun a => match a with
    | 0 => rfl
    | 1 => rfl

/-! ## The first transposition's result: the columns below 2048 -/

theorem points2 : ∀ t : Fin cfg2.grid.N, win2_0.index t 0 + 0 = win2_1.index t 1 ∧ win2_0.index t 0 < 2 ∧ win2_0.index t 1 = win2_1.index t 0 := by
  decide +kernel

theorem turned2 (d : Dev nD) : (dat2 V d).arrAt 1 cfg2.N
    = fun i => if (i 1).val < 2048 then V d (Proc.devRef .tc main_v3) (turnIx i) else V d (Proc.devRef .tc main_v5) i := by
  refine (dat2 V d).arrAt_eq_of_coversWhere 1 _ (fun β => β (1 : Fin 2) < 2) (by decide +kernel) (fun t hf y => ?_) (fun j => by blk_simp [Pipeline.Window.cell_apply]; omega)
  have ht := points2 t
  blk_simp
  rw [dat2_after1, flip_apply]
  refine congrArg (V d (Proc.devRef .tc main_v3)) (a₁ := (win2_0.blk t).view.emb (swapIx y)) (funext fun a => Fin.ext ?_)
  match a with
  | 0 =>
    show ((win2_0.blk t).view.emb (swapIx y) 0).val = ((win2_1.blk t).view.emb y 1).val % 2048
    blk_simp
    have h1 : (swapIx y 0).val = (y 1).val := rfl
    have h2 : (y 1).val < 1024 := (y 1).isLt
    omega
  | 1 =>
    show ((win2_0.blk t).view.emb (swapIx y) 1).val = ((win2_1.blk t).view.emb y 0).val
    blk_simp
    have h1 : (swapIx y 1).val = (y 0).val := rfl
    omega

theorem leave_v5 (d : Dev nD) : leave V 0 d (Proc.devRef .tc main_v5)
    = fun i => if (i 1).val < 2048 then V d (Proc.devRef .tc main_v3) (turnIx i) else V d (Proc.devRef .tc main_v5) i := by
  refine Eq.trans ?_ (turned2 V d)
  unfold leave
  exact Pipeline.withArrays_arr (Pipeline.pin (pcfgs (F := F)) adm 0).spec launch2.win.arr_inj d (V d) (fun w => (dats V 0 d).arrAt w (Pipeline.pin (pcfgs (F := F)) adm 0).N) 1

/-! ## The second's: the columns from 2048 on -/

theorem points3 : ∀ t : Fin cfg3.grid.N, win3_0.index t 0 + 2 = win3_1.index t 1 ∧ win3_0.index t 0 < 2 ∧ win3_0.index t 1 = win3_1.index t 0 := by
  decide +kernel

theorem turned3 (d : Dev nD) : (dat3 V d).arrAt 1 cfg3.N
    = fun i => if 2048 ≤ (i 1).val then V d (Proc.devRef .tc main_v4) (turnIx i) else V d (Proc.devRef .tc main_v6) i := by
  refine (dat3 V d).arrAt_eq_of_coversWhere 1 _ (fun β => 2 ≤ β (1 : Fin 2)) (by decide +kernel) (fun t hf y => ?_) (fun j => by blk_simp [Pipeline.Window.cell_apply]; omega)
  have ht := points3 t
  blk_simp
  rw [dat3_after1, flip_apply]
  refine congrArg (V d (Proc.devRef .tc main_v4)) (a₁ := (win3_0.blk t).view.emb (swapIx y)) (funext fun a => Fin.ext ?_)
  match a with
  | 0 =>
    show ((win3_0.blk t).view.emb (swapIx y) 0).val = ((win3_1.blk t).view.emb y 1).val % 2048
    blk_simp
    have h1 : (swapIx y 0).val = (y 1).val := rfl
    have h2 : (y 1).val < 1024 := (y 1).isLt
    omega
  | 1 =>
    show ((win3_0.blk t).view.emb (swapIx y) 1).val = ((win3_1.blk t).view.emb y 0).val
    blk_simp
    have h1 : (swapIx y 1).val = (y 0).val := rfl
    omega

theorem leave_v6 (d : Dev nD) : leave V 1 d (Proc.devRef .tc main_v6)
    = fun i => if 2048 ≤ (i 1).val then V d (Proc.devRef .tc main_v4) (turnIx i) else V d (Proc.devRef .tc main_v6) i := by
  refine Eq.trans ?_ (turned3 V d)
  unfold leave
  exact Pipeline.withArrays_arr (Pipeline.pin (pcfgs (F := F)) adm 1).spec launch3.win.arr_inj d (V d) (fun w => (dats V 1 d).arrAt w (Pipeline.pin (pcfgs (F := F)) adm 1).N) 1

end Cert.KernelIdeal.Csc
end
-- ==== Proof.DenseIdeal.lean ====
/-
  What the idealised program leaves: the matrix whose entries are the sums of the nonzeros' values, by column and row.
-/
module

public import proofs.«01_k».proof.Proof.Column
public import proofs.«01_k».proof.Proof.TurnIdeal
public import proofs.«01_k».proof.Proof.ValuesIdeal
public import Idealize.ShloMosaic.Lib.Pipeline.Value
public import Idealize.ShloMosaic.Lib.KernelVsHost

@[expose] public section

set_option maxRecDepth 16384

noncomputable section

namespace Cert.KernelIdeal.Csc

open Idealize.ShloMosaic Idealize.ShloMosaic.TcCoe
open Cert.KernelIdeal Cert.KernelIdeal.Gen Cert.Proof.Csc

/-- The zero the result begins at. -/
abbrev zero : EReal := FloatOps.ofBits (F := Ideal) .f32 0#32

/-- The first positions of the columns, the number of nonzeros last. -/
def startIx (k : ℕ) : S4097.Idx := fun a => ⟨k % S4097.size a, Nat.mod_lt _ (by revert a; decide)⟩
def starts (x : S4097.Idx → BitVec 32) (k : ℕ) : ℕ := (x (startIx k)).toNat

/-! ## A call's result -/

/-- Each half of the result holds its columns of the matrix as rows. -/
theorem outT_dense (J : Inp Ideal) (hJ : Ok J) {E : ℕ → ℕ} (hE : ∀ k < 4096, E k ≤ E (k + 1))
    (hC : ∀ x : SC.Idx, (x 0).val < 4096 → BitVec.toNat (w := 32) (J.C x) = E (x 0).val)
    (hC' : ∀ x : SC.Idx, (x 0).val < 4096 → BitVec.toNat (w := 32) (J.C' x) = E ((x 0).val + 1)) (q : Fin 2) (i : SO.Idx) :
    (outT J q i : EReal) = zero + dense E J.R J.V (i 1).val (2048 * q.val + (i 0).val) := by
  have hi : (i 0).val < 2048 := (i 0).isLt
  have hq := q.isLt
  have at_ : ∀ (c s g j : ℕ), c = (i 0).val / 64 % 2 → s = (i 0).val / 128 → g = (i 0).val / 8 % 8 →
      128 * (s % 16) + 64 * (c % 2) + 2048 * (q.val % 2) + 1 * (min (8 * g) 64 + 1 * j) = 2048 * q.val + (i 0).val / 8 * 8 + j := by
    intro c s g j hc hs hg; omega
  unfold outT slabs
  refine (slabV_dense iota_S16_d0_w32_scVector (E := E) (c₀ := 2048 * q.val + (i 0).val / 8 * 8) hE (by omega) (fun x => hJ.C _) (fun x => hJ.C' _)
    ?_ (fun j => ?_) zero J.R J.V hJ.R (inSlab i)).trans ?_
  · have hx := at_ _ _ _ 0 rfl rfl rfl
    refine (hC _ (lt_of_eq_of_lt hx (by omega))).trans (congrArg E hx)
  · have hj := j.isLt
    have hx := at_ _ _ _ j.val rfl rfl rfl
    exact (hC' _ (lt_of_eq_of_lt hx (by omega))).trans (congrArg (fun n => E (n + 1)) hx)
  · have h0 : (inSlab i 0).val = (i 0).val % 8 := rfl
    have h1 : (inSlab i 1).val = (i 1).val := rfl
    rw [h0, h1, show 2048 * q.val + (i 0).val / 8 * 8 + (i 0).val % 8 = 2048 * q.val + (i 0).val by omega]

/-! ## The padded columns -/

variable (W₀ : Dev nD → Valuation τ sig (Elt Ideal)) (d : Dev nD)

theorem inputs_C (x : SC.Idx) (hx : (x 0).val < 4096) : BitVec.toNat (w := 32) ((inputs W₀ d).C x) = starts (W₀ d (ref main_arg0)) (x 0).val := by
  show BitVec.toNat (w := 32) (padded W₀ d (ref main_v0) x) = _
  rw [padded_v0]
  refine congrArg BitVec.toNat (pad_apply_of_inside _ _ _ _ _ _ _ x (startIx (x 0).val) fun a => ?_)
  obtain rfl : a = 0 := Subsingleton.elim _ _
  show (x 0).val = 0 + ((x 0).val % 4097) * (0 + 1)
  omega

theorem inputs_C' (x : SC.Idx) (hx : (x 0).val < 4096) : BitVec.toNat (w := 32) ((inputs W₀ d).C' x) = starts (W₀ d (ref main_arg0)) ((x 0).val + 1) := by
  show BitVec.toNat (w := 32) (padded W₀ d (ref main_v2) x) = _
  rw [padded_v2]
  refine congrArg BitVec.toNat ((pad_apply_of_inside _ _ _ _ _ _ _ x (fun a => ⟨(x 0).val, by revert a; intro a; obtain rfl : a = 0 := Subsingleton.elim _ _; exact hx⟩) fun a => ?_).trans
    (extractStridedSlice_apply _ _ _ _ (startIx ((x 0).val + 1)) fun a => ?_))
  · obtain rfl : a = 0 := Subsingleton.elim _ _
    show (x 0).val = 0 + (x 0).val * (0 + 1)
    omega
  · obtain rfl : a = 0 := Subsingleton.elim _ _
    show ((x 0).val + 1) % 4097 = 1 + (x 0).val
    omega

/-! ## The result -/

theorem copied_v6 : copied W₀ d (ref main_v6) = turned0 W₀ d (ref main_v5) := by
  unfold copied copyOps
  after_results
  rfl

theorem copied_v4 : copied W₀ d (ref main_v4) = outT (inputs W₀ d) 1 := by
  rw [copied_ne W₀ d (by decide)]
  unfold turned0
  rw [leave_ne d (called1 W₀) 0 (arr0_ne (by decide) (by decide))]
  unfold called1
  exact getOut_setOut 1 _ _

theorem called1_v3 : called1 W₀ d (ref main_v3) = outT (inputs W₀ d) 0 := by
  unfold called1
  rw [setOut_ne 1 _ _ (ref_inj (by decide))]
  unfold called0
  exact getOut_setOut 0 _ _

/-- The program's result is the matrix. -/
theorem final_v6 (hC : ∀ x : S4097.Idx, InArr (W₀ d (ref main_arg0) x)) (hR : ∀ i : SN.Idx, BitVec.toNat (w := 32) (W₀ d (ref main_arg1) i) < 4096)
    (hE : ∀ k < 4096, starts (W₀ d (ref main_arg0)) k ≤ starts (W₀ d (ref main_arg0)) (k + 1)) (i : S4096x4096.Idx) :
    (final W₀ d (ref main_v6) i : EReal)
      = zero + dense (starts (W₀ d (ref main_arg0))) (W₀ d (ref main_arg1)) (W₀ d (ref main_arg2)) (i 0).val (i 1).val := by
  have hi : (i 1).val < 4096 := (i 1).isLt
  have hout := fun q => outT_dense (inputs W₀ d) (ok_inputs W₀ d hC hR) hE (inputs_C W₀ d) (inputs_C' W₀ d) q (turnIx i)
  have hRV : (inputs W₀ d).R = W₀ d (ref main_arg1) ∧ (inputs W₀ d).V = W₀ d (ref main_arg2) := ⟨padded_arg1 W₀ d, padded_arg2 W₀ d⟩
  rw [hRV.1, hRV.2] at hout
  have h0 : (turnIx i 0).val = (i 1).val % 2048 := rfl
  have h1 : (turnIx i 1).val = (i 0).val := rfl
  have h2 := congrFun (leave_v6 (copied W₀) d) i
  have h3 := congrFun (leave_v5 (called1 W₀) d) i
  unfold final
  refine h2.trans ?_
  by_cases hh : 2048 ≤ (i 1).val
  · rw [if_pos hh]
    refine (congrFun (copied_v4 W₀ d) (turnIx i)).trans ((hout 1).trans ?_)
    rw [h0, h1, show 2048 * (1 : Fin 2).val + (i 1).val % 2048 = (i 1).val by show 2048 * 1 + _ = _; omega]
  · rw [if_neg hh]
    refine (congrFun (copied_v6 W₀ d) i).trans (h3.trans ?_)
    rw [if_pos (by omega)]
    refine (congrFun (called1_v3 W₀ d) (turnIx i)).trans ((hout 0).trans ?_)
    rw [h0, h1, show 2048 * (0 : Fin 2).val + (i 1).val % 2048 = (i 1).val by show 2048 * 0 + _ = _; omega]

end Cert.KernelIdeal.Csc
end
-- ==== Proof.Valid.lean ====
/-
  What a valid compressed list of columns says of the arguments' words: the columns' first positions ascend from zero to
  the number of nonzeros, and every row index is a row of the matrix.
-/
module

public import proofs.«01_k».proof.Pre_valid_csc
public import proofs.«01_k».proof.Proof.Ranges
public import proofs.«01_k».proof.Proof.DenseIdeal

@[expose] public section

noncomputable section

namespace Cert.KernelIdeal.Csc

open Idealize.ShloMosaic
open Cert.Proof.Csc

/-- The arguments of the program, as a valid compressed list of columns. -/
structure Valid (A : IVec Cert.KernelIdeal.S4097 32) (R : SN.Idx → BitVec 32) : Prop where
  first : starts A 0 = 0
  last : starts A 4096 = 1638400
  ascending : ∀ k < 4096, starts A k ≤ starts A (k + 1)
  rows : ∀ p, (R p).toNat < 4096

theorem startIx_val (x : Cert.KernelIdeal.S4097.Idx) : startIx (x 0).val = x := by
  funext a
  obtain rfl : a = 0 := Subsingleton.elim _ _
  exact Fin.ext (Nat.mod_eq_of_lt (x 0).isLt)

theorem starts_val (A : IVec Cert.KernelIdeal.S4097 32) (x : Cert.KernelIdeal.S4097.Idx) : (A x).toNat = starts A (x 0).val := by
  unfold starts
  rw [startIx_val]

variable {A : IVec Cert.KernelIdeal.S4097 32} {R : SN.Idx → BitVec 32}

theorem Valid.le_last (h : Valid A R) {k : ℕ} (hk : k ≤ 4096) : starts A k ≤ 1638400 :=
  h.last ▸ Nat.le_induction (m := k) (P := fun n _ => n ≤ 4096 → starts A k ≤ starts A n) (fun _ => le_rfl)
    (fun n _ ih hn => (ih (by omega)).trans (h.ascending n hn)) 4096 hk le_rfl

theorem Valid.inArr (h : Valid A R) (x : Cert.KernelIdeal.S4097.Idx) : InArr (A x) := by
  have hx : (x 0).val < 4097 := (x 0).isLt
  have := h.le_last (k := (x 0).val) (by omega)
  rw [← starts_val] at this
  exact this

/-! ## The precondition -/

variable [Cert.Pre_valid_csc.Facts] {F : FTy → Type} [FloatOps F] {V : FVec F Cert.Pre_valid_csc.S1638400 .f32}

theorem eq_of_bit {x y : BitVec 32} (h : IntOp.cmpi .eq x y = 1#1) : x = y := by
  simpa only [IntOp.cmpi, ofBool_eq_one, beq_iff_eq] using h

/-- One position of the list, read from a slice of length one. -/
theorem slice_one (n : ℕ) (hs : Cert.KernelIdeal.S4097.Slices ![n] Cert.Pre_valid_csc.S1) (hn : n < 4097) (z : Cert.Pre_valid_csc.S1.Idx) :
    extractStridedSlice Cert.Pre_valid_csc.S1 ![n] A hs z = A (startIx n) := by
  refine extractStridedSlice_apply _ _ _ _ _ fun a => ?_
  obtain rfl : a = 0 := Subsingleton.elim _ _
  have hz : (z 0).val < 1 := (z 0).isLt
  show n % 4097 = n + (z 0).val
  rw [Nat.mod_eq_of_lt hn]
  omega

theorem ascending_of_pre (h : (Cert.Pre_valid_csc.fn (F := F) A R V).2.2.1 = fun _ => 1#1) {k : ℕ} (hk : k < 4096) :
    (A (startIx k)).toInt ≤ (A (startIx (k + 1))).toInt := by
  have e := congrFun h (fun | 0 => ⟨k, hk⟩ : Cert.Pre_valid_csc.S4096.Idx)
  have e1 : ∀ (n : ℕ) (hs : Cert.KernelIdeal.S4097.Slices ![n] Cert.Pre_valid_csc.S4096), n ≤ 1 →
      extractStridedSlice Cert.Pre_valid_csc.S4096 ![n] A hs (fun | 0 => ⟨k, hk⟩) = A (startIx (k + n)) := fun n hs hn => by
    refine extractStridedSlice_apply _ _ _ _ _ fun a => ?_
    obtain rfl : a = 0 := Subsingleton.elim _ _
    show (k + n) % 4097 = n + k
    rw [Nat.mod_eq_of_lt (by omega), Nat.add_comm]
  simp only [Cert.Pre_valid_csc.fn, cmpi] at e
  rw [e1 0 _ (by omega), e1 1 _ le_rfl, WordCmp.cmpi_sle_eq, WordCmp.ofBool_decide_eq_one_iff] at e
  exact e

/-- The precondition, in the words' values. -/
theorem valid_of_pre (h0 : (Cert.Pre_valid_csc.fn (F := F) A R V).1 = fun _ => 1#1) (h1 : (Cert.Pre_valid_csc.fn (F := F) A R V).2.1 = fun _ => 1#1)
    (h2 : (Cert.Pre_valid_csc.fn (F := F) A R V).2.2.1 = fun _ => 1#1) (h3 : (Cert.Pre_valid_csc.fn (F := F) A R V).2.2.2 = fun _ => 1#1) :
    Valid A R := by
  have z : Cert.Pre_valid_csc.S_.Idx := fun a => a.elim0
  have e0 : A (startIx 0) = 0#32 := by
    have e := congrFun h0 z
    simp only [Cert.Pre_valid_csc.fn, cmpi, constantI] at e
    exact (slice_one 0 _ (by omega) _).symm.trans (eq_of_bit e)
  have e1 : A (startIx 4096) = 1638400#32 := by
    have e := congrFun h1 z
    simp only [Cert.Pre_valid_csc.fn, cmpi, constantI] at e
    exact (slice_one 4096 _ (by omega) _).symm.trans (eq_of_bit e)
  have nonneg : ∀ k ≤ 4096, 0 ≤ (A (startIx k)).toInt := fun k => by
    induction k with
    | zero => intro _; rw [e0]; decide
    | succ k ih => exact fun hk => (ih (by omega)).trans (ascending_of_pre h2 hk)
  refine ⟨congrArg BitVec.toNat e0, congrArg BitVec.toNat e1, fun k hk => ?_, fun p => ?_⟩
  · have a := nonneg k hk.le
    have b := ascending_of_pre h2 hk
    unfold starts
    rw [BitVec.toInt_eq_toNat_cond] at a b
    rw [BitVec.toInt_eq_toNat_cond] at b
    have := (A (startIx (k + 1))).isLt
    split_ifs at a b <;> omega
  · have e := congrFun h3 p
    simp only [Cert.Pre_valid_csc.fn, andi, cmpi, broadcastInDim, constantI] at e
    exact row_of_bits e

end Cert.KernelIdeal.Csc
end
-- ==== Proof.Value.lean ====
/-
  The value claim: from a valid compressed list of columns, the idealised program and the reference end with the same
  matrix.
-/
module

public import proofs.«01_k».proof.Defs
public import proofs.«01_k».proof.Proof.Gen.ReferenceIdeal.Run
public import proofs.«01_k».proof.Proof.Count
public import proofs.«01_k».proof.Proof.Valid
public import proofs.«01_k».proof.Proof.FrameIdeal
public import Idealize.ShloMosaic.Adequacy

@[expose] public section

noncomputable section

namespace Cert.Proof.Csc

open Idealize.ShloMosaic Idealize.SL.Sem
open Cert.KernelIdeal Cert.KernelIdeal.Csc Cert.KernelIdeal.Gen Cert.ReferenceIdeal.Gen

variable [Cert.Pre_valid_csc.Facts]

/-- The arguments in a memory that meets the precondition. -/
theorem valid_start {m : (ℓ : Loc nD τ sig) → Buf (Elt Ideal) ℓ} (h : Cert.Pre_KernelIdeal_valid_csc m) (c : Dev nD) :
    Valid (start m c (ref main_arg0)) (start m c (ref main_arg1)) :=
  valid_of_pre (F := Ideal) (h c).1 (h c).2.1 (h c).2.2.1 (h c).2.2.2

/-- The idealised program's run from such a memory. -/
theorem run_valid {m : (ℓ : Loc nD τ sig) → Buf (Elt Ideal) ℓ} (ρ : Dev nD → PrngReg) (h : Cert.Pre_KernelIdeal_valid_csc m) :
    θ_run (Cert.KernelIdeal.defs (F := Ideal)) (Cert.KernelIdeal.threads (F := Ideal)) ⟨m, fun _ => 0, ρ⟩ (Ends m) :=
  run_main m ρ fun d => ok_inputs (start m) d (valid_start h d).inArr (valid_start h d).rows

/-- The frame claim of the idealised program, at the value claim's precondition. -/
theorem frame_valid : Cert.quiescent_KernelIdeal_pre_valid_csc := fun _ ρ hpre =>
  (θ_run (Cert.KernelIdeal.defs (F := Ideal)) _ _).mono (fun _ h => ⟨arg_kept h, h.2⟩) (run_valid ρ hpre)

/-- The program's matrix is the reference's. -/
theorem final_matrix {W₀ : Dev nD → Valuation τ sig (Elt Ideal)} {d : Dev nD} (h : Valid (W₀ d (ref main_arg0)) (W₀ d (ref main_arg1))) :
    final W₀ d (ref main_v6) = Cert.ReferenceIdeal.Csc.matrix (W₀ d (ref main_arg0)) (W₀ d (ref main_arg1)) (W₀ d (ref main_arg2)) := by
  funext i
  exact (final_v6 W₀ d h.inArr h.rows h.ascending i).trans
    (Cert.ReferenceIdeal.Csc.matrix_dense (starts_val _) (fun _ hk => h.le_last hk) h.ascending h.first h.last _ h.rows _ i).symm

/-- Equal arguments give equal matrices. -/
theorem matrix_congr {A A' : IVec S4097 32} {R R' : IVec S1638400 32} {V V' : FVec Ideal S1638400 .f32} (hA : A = A') (hR : R = R') (hV : V = V') :
    Cert.ReferenceIdeal.Csc.matrix A R V = Cert.ReferenceIdeal.Csc.matrix A' R' V' := by
  subst hA hR hV; rfl

/-- The value claim. -/
theorem algebraic : Cert.algebraic_KernelIdeal_ReferenceIdeal_pre_valid_csc := fun m g m' g' hpre hargs =>
  ⟨fun c => final (start m) c (ref main_v6),
    (θ_run (Cert.KernelIdeal.defs (F := Ideal)) _ _).mono
      (fun _ h c => ⟨h.1 c (ref main_v6) (ref_mem _ (by decide)), arg_kept h c⟩) (run_valid g hpre),
    (θ_run Cert.ReferenceIdeal.defs _ _).mono
      (fun r h c => ⟨(h c).1.trans
        ((matrix_congr (hargs c).1 (hargs c).2.1 (hargs c).2.2).trans (final_matrix (valid_start hpre c)).symm), (h c).2⟩)
      (Cert.ReferenceIdeal.Value.run (F := Ideal) m' g')⟩

end Cert.Proof.Csc
end
-- ==== Proof.lean ====
/-
  The certificate: the frames of the program, of its idealised form and of the reference, that the idealisation rewrote
  nothing, and that the idealised program and the reference end with the same matrix.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_valid_csc
public import proofs.«01_k».proof.Proof.Frame
public import proofs.«01_k».proof.Proof.FrameIdeal
public import proofs.«01_k».proof.Proof.Value
public import Idealize.ShloMosaic.Adequacy
public import Idealize.ShloMosaic.Init

@[expose] public section

noncomputable section

namespace Cert.Proof

open Idealize.ShloMosaic Idealize.SL.Sem

/-- The reference terminates from any memory, keeps its arguments, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same, at the value claim's precondition. -/
theorem frame_reference_valid [Cert.Pre_valid_csc.Facts] : Cert.quiescent_ReferenceIdeal_pre_valid_csc := fun m ρ _ => frame_reference m ρ trivial

/-- Everything the certificate claims. -/
theorem claim : Cert.Claim :=
  ⟨Cert.Kernel.Gen.facts, Cert.KernelIdeal.Gen.facts, Cert.ReferenceIdeal.Gen.facts, Cert.Pre_in_range.Gen.facts,
    Cert.Pre_valid_csc.Gen.facts, Cert.Kernel.Csc.frame, Cert.KernelIdeal.Csc.frame, Csc.frame_valid, frame_reference, frame_reference_valid, trivial,
    Csc.algebraic⟩

end Cert.Proof

end
